-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_l [hPre_finite_l : Cert.Pre_finite_l.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_l.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_l [hPre_finite_l : Cert.Pre_finite_l.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_l.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_a [hPre_finite_a : Cert.Pre_finite_a.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_a.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_a [hPre_finite_a : Cert.Pre_finite_a.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_a.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_c [hPre_finite_c : Cert.Pre_finite_c.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_c.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_c [hPre_finite_c : Cert.Pre_finite_c.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_c.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_c1 [hPre_finite_c1 : Cert.Pre_finite_c1.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_c1.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_c1 [hPre_finite_c1 : Cert.Pre_finite_c1.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_c1.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_c2 [hPre_finite_c2 : Cert.Pre_finite_c2.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_c2.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_c2 [hPre_finite_c2 : Cert.Pre_finite_c2.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_c2.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite_l [hKernel3Ideal : Cert.Kernel3Ideal.Facts] [hPre_finite_l : Cert.Pre_finite_l.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_l m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite_l [hReference3Ideal : Cert.Reference3Ideal.Facts] [hPre_finite_l : Cert.Pre_finite_l.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_l m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_a [hKernel4Ideal : Cert.Kernel4Ideal.Facts] [hPre_finite_a : Cert.Pre_finite_a.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_a m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_a [hReference4Ideal : Cert.Reference4Ideal.Facts] [hPre_finite_a : Cert.Pre_finite_a.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_a m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite_c [hKernel5Ideal : Cert.Kernel5Ideal.Facts] [hPre_finite_c : Cert.Pre_finite_c.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_c m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite_c [hReference5Ideal : Cert.Reference5Ideal.Facts] [hPre_finite_c : Cert.Pre_finite_c.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_c m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite_c1 [hKernel6Ideal : Cert.Kernel6Ideal.Facts] [hPre_finite_c1 : Cert.Pre_finite_c1.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_c1 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite_c1 [hReference6Ideal : Cert.Reference6Ideal.Facts] [hPre_finite_c1 : Cert.Pre_finite_c1.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_c1 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite_c2 [hKernel7Ideal : Cert.Kernel7Ideal.Facts] [hPre_finite_c2 : Cert.Pre_finite_c2.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_c2 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite_c2 [hReference7Ideal : Cert.Reference7Ideal.Facts] [hPre_finite_c2 : Cert.Pre_finite_c2.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_c2 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite_l [hKernel3Ideal : Cert.Kernel3Ideal.Facts] [hReference3Ideal : Cert.Reference3Ideal.Facts] [hPre_finite_l : Cert.Pre_finite_l.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_l m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "mask" .f32 0xF149F2CA#32 ⊥

def algebraic_Kernel4Ideal_Reference4Ideal_pre_finite_a [hKernel4Ideal : Cert.Kernel4Ideal.Facts] [hReference4Ideal : Cert.Reference4Ideal.Facts] [hPre_finite_a : Cert.Pre_finite_a.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_a m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "mask" .f32 0xF149F2CA#32 ⊥
  ∧ IdealRules.named_const.Statement Cert.Kernel5Ideal.κ "log2e" .f32 0x3FB8AA3B#32 (((Real.log 2)⁻¹ : ℝ) : EReal)

def algebraic_Kernel5Ideal_Reference5Ideal_pre_finite_c [hKernel5Ideal : Cert.Kernel5Ideal.Facts] [hReference5Ideal : Cert.Reference5Ideal.Facts] [hPre_finite_c : Cert.Pre_finite_c.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_c m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "mask" .f32 0xF149F2CA#32 ⊥
  ∧ IdealRules.named_const.Statement Cert.Kernel6Ideal.κ "log2e" .f32 0x3FB8AA3B#32 (((Real.log 2)⁻¹ : ℝ) : EReal)

def algebraic_Kernel6Ideal_Reference6Ideal_pre_finite_c1 [hKernel6Ideal : Cert.Kernel6Ideal.Facts] [hReference6Ideal : Cert.Reference6Ideal.Facts] [hPre_finite_c1 : Cert.Pre_finite_c1.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_c1 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_v72) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "mask" .f32 0xF149F2CA#32 ⊥
  ∧ IdealRules.named_const.Statement Cert.Kernel7Ideal.κ "log2e" .f32 0x3FB8AA3B#32 (((Real.log 2)⁻¹ : ℝ) : EReal)

def algebraic_Kernel7Ideal_Reference7Ideal_pre_finite_c2 [hKernel7Ideal : Cert.Kernel7Ideal.Facts] [hReference7Ideal : Cert.Reference7Ideal.Facts] [hPre_finite_c2 : Cert.Pre_finite_c2.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_c2 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_v72) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts) (hPre_finite_l : Cert.Pre_finite_l.Facts) (hPre_finite_a : Cert.Pre_finite_a.Facts) (hPre_finite_c : Cert.Pre_finite_c.Facts) (hPre_finite_c1 : Cert.Pre_finite_c1.Facts) (hPre_finite_c2 : Cert.Pre_finite_c2.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_l (hKernel3Ideal := hKernel3Ideal) (hPre_finite_l := hPre_finite_l)
    ∧ quiescent_Reference3Ideal (hReference3Ideal := hReference3Ideal)
    ∧ quiescent_Reference3Ideal_pre_finite_l (hReference3Ideal := hReference3Ideal) (hPre_finite_l := hPre_finite_l)
    ∧ quiescent_Kernel4 (hKernel4 := hKernel4)
    ∧ quiescent_Kernel4Ideal (hKernel4Ideal := hKernel4Ideal)
    ∧ quiescent_Kernel4Ideal_pre_finite_a (hKernel4Ideal := hKernel4Ideal) (hPre_finite_a := hPre_finite_a)
    ∧ quiescent_Reference4Ideal (hReference4Ideal := hReference4Ideal)
    ∧ quiescent_Reference4Ideal_pre_finite_a (hReference4Ideal := hReference4Ideal) (hPre_finite_a := hPre_finite_a)
    ∧ quiescent_Kernel5 (hKernel5 := hKernel5)
    ∧ quiescent_Kernel5Ideal (hKernel5Ideal := hKernel5Ideal)
    ∧ quiescent_Kernel5Ideal_pre_finite_c (hKernel5Ideal := hKernel5Ideal) (hPre_finite_c := hPre_finite_c)
    ∧ quiescent_Reference5Ideal (hReference5Ideal := hReference5Ideal)
    ∧ quiescent_Reference5Ideal_pre_finite_c (hReference5Ideal := hReference5Ideal) (hPre_finite_c := hPre_finite_c)
    ∧ quiescent_Kernel6 (hKernel6 := hKernel6)
    ∧ quiescent_Kernel6Ideal (hKernel6Ideal := hKernel6Ideal)
    ∧ quiescent_Kernel6Ideal_pre_finite_c1 (hKernel6Ideal := hKernel6Ideal) (hPre_finite_c1 := hPre_finite_c1)
    ∧ quiescent_Reference6Ideal (hReference6Ideal := hReference6Ideal)
    ∧ quiescent_Reference6Ideal_pre_finite_c1 (hReference6Ideal := hReference6Ideal) (hPre_finite_c1 := hPre_finite_c1)
    ∧ quiescent_Kernel7 (hKernel7 := hKernel7)
    ∧ quiescent_Kernel7Ideal (hKernel7Ideal := hKernel7Ideal)
    ∧ quiescent_Kernel7Ideal_pre_finite_c2 (hKernel7Ideal := hKernel7Ideal) (hPre_finite_c2 := hPre_finite_c2)
    ∧ quiescent_Reference7Ideal (hReference7Ideal := hReference7Ideal)
    ∧ quiescent_Reference7Ideal_pre_finite_c2 (hReference7Ideal := hReference7Ideal) (hPre_finite_c2 := hPre_finite_c2)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_l (hKernel3Ideal := hKernel3Ideal) (hReference3Ideal := hReference3Ideal) (hPre_finite_l := hPre_finite_l)
    ∧ preserves_Kernel4_Kernel4Ideal
    ∧ algebraic_Kernel4Ideal_Reference4Ideal_pre_finite_a (hKernel4Ideal := hKernel4Ideal) (hReference4Ideal := hReference4Ideal) (hPre_finite_a := hPre_finite_a)
    ∧ preserves_Kernel5_Kernel5Ideal
    ∧ algebraic_Kernel5Ideal_Reference5Ideal_pre_finite_c (hKernel5Ideal := hKernel5Ideal) (hReference5Ideal := hReference5Ideal) (hPre_finite_c := hPre_finite_c)
    ∧ preserves_Kernel6_Kernel6Ideal
    ∧ algebraic_Kernel6Ideal_Reference6Ideal_pre_finite_c1 (hKernel6Ideal := hKernel6Ideal) (hReference6Ideal := hReference6Ideal) (hPre_finite_c1 := hPre_finite_c1)
    ∧ preserves_Kernel7_Kernel7Ideal
    ∧ algebraic_Kernel7Ideal_Reference7Ideal_pre_finite_c2 (hKernel7Ideal := hKernel7Ideal) (hReference7Ideal := hReference7Ideal) (hPre_finite_c2 := hPre_finite_c2)
-- ==== Pre_finite_a.lean ====
abbrev S8x4096x3072 : Shape := ⟨3, ![8, 4096, 3072]⟩
abbrev S8x4096x6656 : Shape := ⟨3, ![8, 4096, 6656]⟩
abbrev S3x512x384 : Shape := ⟨3, ![3, 512, 384]⟩
abbrev S12 : Shape := ⟨1, ![12]⟩
abbrev S8x4096x384 : Shape := ⟨3, ![8, 4096, 384]⟩
abbrev S8x4096x3x2x64 : Shape := ⟨5, ![8, 4096, 3, 2, 64]⟩
abbrev S8x4096x768 : Shape := ⟨3, ![8, 4096, 768]⟩
abbrev S_ : Shape := ⟨0, ![]⟩
abbrev S8x4096x3x1x64 : Shape := ⟨5, ![8, 4096, 3, 1, 64]⟩
abbrev S8x4096x3x64 : Shape := ⟨4, ![8, 4096, 3, 64]⟩

class Facts : Prop where
  slices_S8x4096x3072_S8x4096x384_0_0_2048 : S8x4096x3072.Slices ![0, 0, 2048] S8x4096x384
  bitsLt_bf16_f32 : FTy.bits .bf16 < FTy.bits .f32
  shapeCasts_S8x4096x384_S8x4096x3x2x64 : S8x4096x384.ShapeCasts S8x4096x3x2x64
  slices_S8x4096x3072_S8x4096x768_0_0_0 : S8x4096x3072.Slices ![0, 0, 0] S8x4096x768
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  slices_S8x4096x3x2x64_S8x4096x3x1x64_0_0_0_0_0 : S8x4096x3x2x64.Slices ![0, 0, 0, 0, 0] S8x4096x3x1x64
  shapeCasts_S8x4096x3x1x64_S8x4096x3x64 : S8x4096x3x1x64.ShapeCasts S8x4096x3x64
  bcast_S_S8x4096x3x64 : S_.BroadcastsInDim S8x4096x3x64 (![] : Fin 0 → Fin S8x4096x3x64.rank)
  reducesTo_S8x4096x3x64_S_d0_1_2_3 : S8x4096x3x64.ReducesTo [0, 1, 2, 3] S_
  bcast_S_S3x512x384 : S_.BroadcastsInDim S3x512x384 (![] : Fin 0 → Fin S3x512x384.rank)
  reducesTo_S3x512x384_S_d0_1_2 : S3x512x384.ReducesTo [0, 1, 2] S_
  bcast_S_S12 : S_.BroadcastsInDim S12 (![] : Fin 0 → Fin S12.rank)
  reducesTo_S12_S_d0 : S12.ReducesTo [0] S_

variable [Facts]

def fn_part1 {F : FTy → Type} [FloatOps F] (main_arg3 : FVec F S12 .f32) (main_v15 : IVec S_ 1) (main_v17 : IVec S3x512x384 1) (main_c_3 : IVec S_ 1) : IVec S_ 1 :=
  let main_v18 : IVec S_ 1 := (fun x v => Host.reduce IntOp.andi x v reducesTo_S3x512x384_S_d0_1_2 h_S_) main_v17 main_c_3
  let main_v19 : IVec S_ 1 := andi main_v15 main_v18
  let main_v20 : FVec F S12 .f32 := Host.absf main_arg3
  let main_cst_4 : FVec F S_ .f32 := constant S_ .f32 0x7F800000#32
  let main_v21 : FVec F S12 .f32 := broadcastInDim S12 ![] bcast_S_S12 main_cst_4
  let main_v22 : IVec S12 1 := cmpf .olt main_v20 main_v21
  let main_c_5 : IVec S_ 1 := constantI S_ 1 1#1
  let main_v23 : IVec S_ 1 := (fun x v => Host.reduce IntOp.andi x v reducesTo_S12_S_d0 h_S_) main_v22 main_c_5
  let main_v24 : IVec S_ 1 := andi main_v19 main_v23
  main_v24

def fn {F : FTy → Type} [FloatOps F] (main_arg0 : FVec F S8x4096x3072 .bf16) (main_arg1 : FVec F S8x4096x6656 .bf16) (main_arg2 : FVec F S3x512x384 .f32) (main_arg3 : FVec F S12 .f32) : IVec S_ 1 :=
  let main_v0 : FVec F S8x4096x384 .bf16 := (extractStridedSlice S8x4096x384 ![0, 0, 2048] · slices_S8x4096x3072_S8x4096x384_0_0_2048) main_arg0
  let main_v1 : FVec F S8x4096x384 .f32 := (extf .f32 · bitsLt_bf16_f32) main_v0
  let main_v2 : FVec F S8x4096x3x2x64 .f32 := shapeCast S8x4096x3x2x64 main_v1 shapeCasts_S8x4096x384_S8x4096x3x2x64
  let main_v3 : FVec F S8x4096x768 .bf16 := (extractStridedSlice S8x4096x768 ![0, 0, 0] · slices_S8x4096x3072_S8x4096x768_0_0_0) main_arg0
  let main_v4 : FVec F S8x4096x768 .f32 := (extf .f32 · bitsLt_bf16_f32) main_v3
  let main_v5 : FVec F S8x4096x768 .f32 := Host.absf main_v4
  let main_cst : FVec F S_ .f32 := constant S_ .f32 0x7F800000#32
  let main_v6 : FVec F S8x4096x768 .f32 := broadcastInDim S8x4096x768 ![] bcast_S_S8x4096x768 main_cst
  let main_v7 : IVec S8x4096x768 1 := cmpf .olt main_v5 main_v6
  let main_c : IVec S_ 1 := constantI S_ 1 1#1
  let main_v8 : IVec S_ 1 := (fun x v => Host.reduce IntOp.andi x v reducesTo_S8x4096x768_S_d0_1_2 h_S_) main_v7 main_c
  let main_v9 : FVec F S8x4096x3x1x64 .f32 := (extractStridedSlice S8x4096x3x1x64 ![0, 0, 0, 0, 0] · slices_S8x4096x3x2x64_S8x4096x3x1x64_0_0_0_0_0) main_v2
  let main_v10 : FVec F S8x4096x3x64 .f32 := shapeCast S8x4096x3x64 main_v9 shapeCasts_S8x4096x3x1x64_S8x4096x3x64
  let main_v11 : FVec F S8x4096x3x64 .f32 := Host.absf main_v10
  let main_cst_0 : FVec F S_ .f32 := constant S_ .f32 0x7F800000#32
  let main_v12 : FVec F S8x4096x3x64 .f32 := broadcastInDim S8x4096x3x64 ![] bcast_S_S8x4096x3x64 main_cst_0
  let main_v13 : IVec S8x4096x3x64 1 := cmpf .olt main_v11 main_v12
  let main_c_1 : IVec S_ 1 := constantI S_ 1 1#1
  let main_v14 : IVec S_ 1 := (fun x v => Host.reduce IntOp.andi x v reducesTo_S8x4096x3x64_S_d0_1_2_3 h_S_) main_v13 main_c_1
  let main_v15 : IVec S_ 1 := andi main_v8 main_v14
  let main_cst_2 : FVec F S_ .f32 := constant S_ .f32 0x7F800000#32
  let main_v16 : FVec F S3x512x384 .f32 := broadcastInDim S3x512x384 ![] bcast_S_S3x512x384 main_cst_2
  let main_v17 : IVec S3x512x384 1 := cmpf .olt main_arg2 main_v16
  let main_c_3 : IVec S_ 1 := constantI S_ 1 1#1
  fn_part1 (F := F) main_arg3 main_v15 main_v17 main_c_3
-- ==== Pre_finite_c.lean ====
abbrev S8x4096x3072 : Shape := ⟨3, ![8, 4096, 3072]⟩
abbrev S2x512x256 : Shape := ⟨3, ![2, 512, 256]⟩
abbrev S8x4096x256 : Shape := ⟨3, ![8, 4096, 256]⟩
abbrev S8x4096x2x2x64 : Shape := ⟨5, ![8, 4096, 2, 2, 64]⟩
abbrev S8x4096x512 : Shape := ⟨3, ![8, 4096, 512]⟩
abbrev S_ : Shape := ⟨0, ![]⟩
abbrev S8x4096x2x1x64 : Shape := ⟨5, ![8, 4096, 2, 1, 64]⟩
abbrev S8x4096x2x64 : Shape := ⟨4, ![8, 4096, 2, 64]⟩

class Facts : Prop where
  slices_S8x4096x3072_S8x4096x256_0_0_2816 : S8x4096x3072.Slices ![0, 0, 2816] S8x4096x256
  bitsLt_bf16_f32 : FTy.bits .bf16 < FTy.bits .f32
  shapeCasts_S8x4096x256_S8x4096x2x2x64 : S8x4096x256.ShapeCasts S8x4096x2x2x64
  slices_S8x4096x3072_S8x4096x512_0_0_1536 : S8x4096x3072.Slices ![0, 0, 1536] S8x4096x512
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  slices_S8x4096x2x2x64_S8x4096x2x1x64_0_0_0_0_0 : S8x4096x2x2x64.Slices ![0, 0, 0, 0, 0] S8x4096x2x1x64
  shapeCasts_S8x4096x2x1x64_S8x4096x2x64 : S8x4096x2x1x64.ShapeCasts S8x4096x2x64
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_
  bcast_S_S2x512x256 : S_.BroadcastsInDim S2x512x256 (![] : Fin 0 → Fin S2x512x256.rank)
  reducesTo_S2x512x256_S_d0_1_2 : S2x512x256.ReducesTo [0, 1, 2] S_

variable [Facts]

def fn_part1 {F : FTy → Type} [FloatOps F] (main_v15 : IVec S_ 1) (main_v18 : IVec S2x512x256 1) : IVec S_ 1 :=
  let main_c_3 : IVec S_ 1 := constantI S_ 1 1#1
  let main_v19 : IVec S_ 1 := (fun x v => Host.reduce IntOp.andi x v reducesTo_S2x512x256_S_d0_1_2 h_S_) main_v18 main_c_3
  let main_v20 : IVec S_ 1 := andi main_v15 main_v19
  main_v20

def fn {F : FTy → Type} [FloatOps F] (main_arg0 : FVec F S8x4096x3072 .bf16) (main_arg1 : FVec F S2x512x256 .f32) : IVec S_ 1 :=
  let main_v0 : FVec F S8x4096x256 .bf16 := (extractStridedSlice S8x4096x256 ![0, 0, 2816] · slices_S8x4096x3072_S8x4096x256_0_0_2816) main_arg0
  let main_v1 : FVec F S8x4096x256 .f32 := (extf .f32 · bitsLt_bf16_f32) main_v0
  let main_v2 : FVec F S8x4096x2x2x64 .f32 := shapeCast S8x4096x2x2x64 main_v1 shapeCasts_S8x4096x256_S8x4096x2x2x64
  let main_v3 : FVec F S8x4096x512 .bf16 := (extractStridedSlice S8x4096x512 ![0, 0, 1536] · slices_S8x4096x3072_S8x4096x512_0_0_1536) main_arg0
  let main_v4 : FVec F S8x4096x512 .f32 := (extf .f32 · bitsLt_bf16_f32) main_v3
  let main_v5 : FVec F S8x4096x512 .f32 := Host.absf main_v4
  let main_cst : FVec F S_ .f32 := constant S_ .f32 0x7F800000#32
  let main_v6 : FVec F S8x4096x512 .f32 := broadcastInDim S8x4096x512 ![] bcast_S_S8x4096x512 main_cst
  let main_v7 : IVec S8x4096x512 1 := cmpf .olt main_v5 main_v6
  let main_c : IVec S_ 1 := constantI S_ 1 1#1
  let main_v8 : IVec S_ 1 := (fun x v => Host.reduce IntOp.andi x v reducesTo_S8x4096x512_S_d0_1_2 h_S_) main_v7 main_c
  let main_v9 : FVec F S8x4096x2x1x64 .f32 := (extractStridedSlice S8x4096x2x1x64 ![0, 0, 0, 0, 0] · slices_S8x4096x2x2x64_S8x4096x2x1x64_0_0_0_0_0) main_v2
  let main_v10 : FVec F S8x4096x2x64 .f32 := shapeCast S8x4096x2x64 main_v9 shapeCasts_S8x4096x2x1x64_S8x4096x2x64
  let main_v11 : FVec F S8x4096x2x64 .f32 := Host.absf main_v10
  let main_cst_0 : FVec F S_ .f32 := constant S_ .f32 0x7F800000#32
  let main_v12 : FVec F S8x4096x2x64 .f32 := broadcastInDim S8x4096x2x64 ![] bcast_S_S8x4096x2x64 main_cst_0
  let main_v13 : IVec S8x4096x2x64 1 := cmpf .olt main_v11 main_v12
  let main_c_1 : IVec S_ 1 := constantI S_ 1 1#1
  let main_v14 : IVec S_ 1 := (fun x v => Host.reduce IntOp.andi x v reducesTo_S8x4096x2x64_S_d0_1_2_3 h_S_) main_v13 main_c_1
  let main_v15 : IVec S_ 1 := andi main_v8 main_v14
  let main_v16 : FVec F S2x512x256 .f32 := Host.absf main_arg1
  let main_cst_2 : FVec F S_ .f32 := constant S_ .f32 0x7F800000#32
  let main_v17 : FVec F S2x512x256 .f32 := broadcastInDim S2x512x256 ![] bcast_S_S2x512x256 main_cst_2
  let main_v18 : IVec S2x512x256 1 := cmpf .olt main_v16 main_v17
  fn_part1 (F := F) main_v15 main_v18
-- ==== Pre_finite_c1.lean ====
abbrev S8x4x1024x768 : Shape := ⟨4, ![8, 4, 1024, 768]⟩
abbrev S2x512x256 : Shape := ⟨3, ![2, 512, 256]⟩
abbrev S8x4x1024x256 : Shape := ⟨4, ![8, 4, 1024, 256]⟩
abbrev S8x4x1024x2x2x64 : Shape := ⟨6, ![8, 4, 1024, 2, 2, 64]⟩
abbrev S8x4x1024x512 : Shape := ⟨4, ![8, 4, 1024, 512]⟩
abbrev S_ : Shape := ⟨0, ![]⟩
abbrev S8x4x1024x2x1x64 : Shape := ⟨6, ![8, 4, 1024, 2, 1, 64]⟩
abbrev S8x4x1024x2x64 : Shape := ⟨5, ![8, 4, 1024, 2, 64]⟩

class Facts : Prop where
  slices_S8x4x1024x768_S8x4x1024x256_0_0_0_512 : S8x4x1024x768.Slices ![0, 0, 0, 512] S8x4x1024x256
  bitsLt_bf16_f32 : FTy.bits .bf16 < FTy.bits .f32
  shapeCasts_S8x4x1024x256_S8x4x1024x2x2x64 : S8x4x1024x256.ShapeCasts S8x4x1024x2x2x64
  slices_S8x4x1024x768_S8x4x1024x512_0_0_0_0 : S8x4x1024x768.Slices ![0, 0, 0, 0] S8x4x1024x512
  bcast_S_S8x4x1024x512 : S_.BroadcastsInDim S8x4x1024x512 (![] : Fin 0 → Fin S8x4x1024x512.rank)
  reducesTo_S8x4x1024x512_S_d0_1_2_3 : S8x4x1024x512.ReducesTo [0, 1, 2, 3] S_
  h_S_ : 0 < S_.numel
  slices_S8x4x1024x2x2x64_S8x4x1024x2x1x64_0_0_0_0_0_0 : S8x4x1024x2x2x64.Slices ![0, 0, 0, 0, 0, 0] S8x4x1024x2x1x64
  shapeCasts_S8x4x1024x2x1x64_S8x4x1024x2x64 : S8x4x1024x2x1x64.ShapeCasts S8x4x1024x2x64
  bcast_S_S8x4x1024x2x64 : S_.BroadcastsInDim S8x4x1024x2x64 (![] : Fin 0 → Fin S8x4x1024x2x64.rank)
  reducesTo_S8x4x1024x2x64_S_d0_1_2_3_4 : S8x4x1024x2x64.ReducesTo [0, 1, 2, 3, 4] S_
  bcast_S_S2x512x256 : S_.BroadcastsInDim S2x512x256 (![] : Fin 0 → Fin S2x512x256.rank)
  reducesTo_S2x512x256_S_d0_1_2 : S2x512x256.ReducesTo [0, 1, 2] S_

variable [Facts]

def fn_part1 {F : FTy → Type} [FloatOps F] (main_v15 : IVec S_ 1) (main_v18 : IVec S2x512x256 1) : IVec S_ 1 :=
  let main_c_3 : IVec S_ 1 := constantI S_ 1 1#1
  let main_v19 : IVec S_ 1 := (fun x v => Host.reduce IntOp.andi x v reducesTo_S2x512x256_S_d0_1_2 h_S_) main_v18 main_c_3
  let main_v20 : IVec S_ 1 := andi main_v15 main_v19
  main_v20

def fn {F : FTy → Type} [FloatOps F] (main_arg0 : FVec F S8x4x1024x768 .bf16) (main_arg1 : FVec F S2x512x256 .f32) : IVec S_ 1 :=
  let main_v0 : FVec F S8x4x1024x256 .bf16 := (extractStridedSlice S8x4x1024x256 ![0, 0, 0, 512] · slices_S8x4x1024x768_S8x4x1024x256_0_0_0_512) main_arg0
  let main_v1 : FVec F S8x4x1024x256 .f32 := (extf .f32 · bitsLt_bf16_f32) main_v0
  let main_v2 : FVec F S8x4x1024x2x2x64 .f32 := shapeCast S8x4x1024x2x2x64 main_v1 shapeCasts_S8x4x1024x256_S8x4x1024x2x2x64
  let main_v3 : FVec F S8x4x1024x512 .bf16 := (extractStridedSlice S8x4x1024x512 ![0, 0, 0, 0] · slices_S8x4x1024x768_S8x4x1024x512_0_0_0_0) main_arg0
  let main_v4 : FVec F S8x4x1024x512 .f32 := (extf .f32 · bitsLt_bf16_f32) main_v3
  let main_v5 : FVec F S8x4x1024x512 .f32 := Host.absf main_v4
  let main_cst : FVec F S_ .f32 := constant S_ .f32 0x7F800000#32
  let main_v6 : FVec F S8x4x1024x512 .f32 := broadcastInDim S8x4x1024x512 ![] bcast_S_S8x4x1024x512 main_cst
  let main_v7 : IVec S8x4x1024x512 1 := cmpf .olt main_v5 main_v6
  let main_c : IVec S_ 1 := constantI S_ 1 1#1
  let main_v8 : IVec S_ 1 := (fun x v => Host.reduce IntOp.andi x v reducesTo_S8x4x1024x512_S_d0_1_2_3 h_S_) main_v7 main_c
  let main_v9 : FVec F S8x4x1024x2x1x64 .f32 := (extractStridedSlice S8x4x1024x2x1x64 ![0, 0, 0, 0, 0, 0] · slices_S8x4x1024x2x2x64_S8x4x1024x2x1x64_0_0_0_0_0_0) main_v2
  let main_v10 : FVec F S8x4x1024x2x64 .f32 := shapeCast S8x4x1024x2x64 main_v9 shapeCasts_S8x4x1024x2x1x64_S8x4x1024x2x64
  let main_v11 : FVec F S8x4x1024x2x64 .f32 := Host.absf main_v10
  let main_cst_0 : FVec F S_ .f32 := constant S_ .f32 0x7F800000#32
  let main_v12 : FVec F S8x4x1024x2x64 .f32 := broadcastInDim S8x4x1024x2x64 ![] bcast_S_S8x4x1024x2x64 main_cst_0
  let main_v13 : IVec S8x4x1024x2x64 1 := cmpf .olt main_v11 main_v12
  let main_c_1 : IVec S_ 1 := constantI S_ 1 1#1
  let main_v14 : IVec S_ 1 := (fun x v => Host.reduce IntOp.andi x v reducesTo_S8x4x1024x2x64_S_d0_1_2_3_4 h_S_) main_v13 main_c_1
  let main_v15 : IVec S_ 1 := andi main_v8 main_v14
  let main_v16 : FVec F S2x512x256 .f32 := Host.absf main_arg1
  let main_cst_2 : FVec F S_ .f32 := constant S_ .f32 0x7F800000#32
  let main_v17 : FVec F S2x512x256 .f32 := broadcastInDim S2x512x256 ![] bcast_S_S2x512x256 main_cst_2
  let main_v18 : IVec S2x512x256 1 := cmpf .olt main_v16 main_v17
  fn_part1 (F := F) main_v15 main_v18
-- ==== Pre_finite_c2.lean ====
abbrev S8x16x256x768 : Shape := ⟨4, ![8, 16, 256, 768]⟩
abbrev S2x512x256 : Shape := ⟨3, ![2, 512, 256]⟩
abbrev S8x16x256x256 : Shape := ⟨4, ![8, 16, 256, 256]⟩
abbrev S8x16x256x2x2x64 : Shape := ⟨6, ![8, 16, 256, 2, 2, 64]⟩
abbrev S8x16x256x512 : Shape := ⟨4, ![8, 16, 256, 512]⟩
abbrev S_ : Shape := ⟨0, ![]⟩
abbrev S8x16x256x2x1x64 : Shape := ⟨6, ![8, 16, 256, 2, 1, 64]⟩
abbrev S8x16x256x2x64 : Shape := ⟨5, ![8, 16, 256, 2, 64]⟩

class Facts : Prop where
  slices_S8x16x256x768_S8x16x256x256_0_0_0_512 : S8x16x256x768.Slices ![0, 0, 0, 512] S8x16x256x256
  bitsLt_bf16_f32 : FTy.bits .bf16 < FTy.bits .f32
  shapeCasts_S8x16x256x256_S8x16x256x2x2x64 : S8x16x256x256.ShapeCasts S8x16x256x2x2x64
  slices_S8x16x256x768_S8x16x256x512_0_0_0_0 : S8x16x256x768.Slices ![0, 0, 0, 0] S8x16x256x512
  bcast_S_S8x16x256x512 : S_.BroadcastsInDim S8x16x256x512 (![] : Fin 0 → Fin S8x16x256x512.rank)
  reducesTo_S8x16x256x512_S_d0_1_2_3 : S8x16x256x512.ReducesTo [0, 1, 2, 3] S_
  h_S_ : 0 < S_.numel
  slices_S8x16x256x2x2x64_S8x16x256x2x1x64_0_0_0_0_0_0 : S8x16x256x2x2x64.Slices ![0, 0, 0, 0, 0, 0] S8x16x256x2x1x64
  shapeCasts_S8x16x256x2x1x64_S8x16x256x2x64 : S8x16x256x2x1x64.ShapeCasts S8x16x256x2x64
  bcast_S_S8x16x256x2x64 : S_.BroadcastsInDim S8x16x256x2x64 (![] : Fin 0 → Fin S8x16x256x2x64.rank)
  reducesTo_S8x16x256x2x64_S_d0_1_2_3_4 : S8x16x256x2x64.ReducesTo [0, 1, 2, 3, 4] S_
  bcast_S_S2x512x256 : S_.BroadcastsInDim S2x512x256 (![] : Fin 0 → Fin S2x512x256.rank)
  reducesTo_S2x512x256_S_d0_1_2 : S2x512x256.ReducesTo [0, 1, 2] S_

variable [Facts]

def fn_part1 {F : FTy → Type} [FloatOps F] (main_v15 : IVec S_ 1) (main_v18 : IVec S2x512x256 1) : IVec S_ 1 :=
  let main_c_3 : IVec S_ 1 := constantI S_ 1 1#1
  let main_v19 : IVec S_ 1 := (fun x v => Host.reduce IntOp.andi x v reducesTo_S2x512x256_S_d0_1_2 h_S_) main_v18 main_c_3
  let main_v20 : IVec S_ 1 := andi main_v15 main_v19
  main_v20

def fn {F : FTy → Type} [FloatOps F] (main_arg0 : FVec F S8x16x256x768 .bf16) (main_arg1 : FVec F S2x512x256 .f32) : IVec S_ 1 :=
  let main_v0 : FVec F S8x16x256x256 .bf16 := (extractStridedSlice S8x16x256x256 ![0, 0, 0, 512] · slices_S8x16x256x768_S8x16x256x256_0_0_0_512) main_arg0
  let main_v1 : FVec F S8x16x256x256 .f32 := (extf .f32 · bitsLt_bf16_f32) main_v0
  let main_v2 : FVec F S8x16x256x2x2x64 .f32 := shapeCast S8x16x256x2x2x64 main_v1 shapeCasts_S8x16x256x256_S8x16x256x2x2x64
  let main_v3 : FVec F S8x16x256x512 .bf16 := (extractStridedSlice S8x16x256x512 ![0, 0, 0, 0] · slices_S8x16x256x768_S8x16x256x512_0_0_0_0) main_arg0
  let main_v4 : FVec F S8x16x256x512 .f32 := (extf .f32 · bitsLt_bf16_f32) main_v3
  let main_v5 : FVec F S8x16x256x512 .f32 := Host.absf main_v4
  let main_cst : FVec F S_ .f32 := constant S_ .f32 0x7F800000#32
  let main_v6 : FVec F S8x16x256x512 .f32 := broadcastInDim S8x16x256x512 ![] bcast_S_S8x16x256x512 main_cst
  let main_v7 : IVec S8x16x256x512 1 := cmpf .olt main_v5 main_v6
  let main_c : IVec S_ 1 := constantI S_ 1 1#1
  let main_v8 : IVec S_ 1 := (fun x v => Host.reduce IntOp.andi x v reducesTo_S8x16x256x512_S_d0_1_2_3 h_S_) main_v7 main_c
  let main_v9 : FVec F S8x16x256x2x1x64 .f32 := (extractStridedSlice S8x16x256x2x1x64 ![0, 0, 0, 0, 0, 0] · slices_S8x16x256x2x2x64_S8x16x256x2x1x64_0_0_0_0_0_0) main_v2
  let main_v10 : FVec F S8x16x256x2x64 .f32 := shapeCast S8x16x256x2x64 main_v9 shapeCasts_S8x16x256x2x1x64_S8x16x256x2x64
  let main_v11 : FVec F S8x16x256x2x64 .f32 := Host.absf main_v10
  let main_cst_0 : FVec F S_ .f32 := constant S_ .f32 0x7F800000#32
  let main_v12 : FVec F S8x16x256x2x64 .f32 := broadcastInDim S8x16x256x2x64 ![] bcast_S_S8x16x256x2x64 main_cst_0
  let main_v13 : IVec S8x16x256x2x64 1 := cmpf .olt main_v11 main_v12
  let main_c_1 : IVec S_ 1 := constantI S_ 1 1#1
  let main_v14 : IVec S_ 1 := (fun x v => Host.reduce IntOp.andi x v reducesTo_S8x16x256x2x64_S_d0_1_2_3_4 h_S_) main_v13 main_c_1
  let main_v15 : IVec S_ 1 := andi main_v8 main_v14
  let main_v16 : FVec F S2x512x256 .f32 := Host.absf main_arg1
  let main_cst_2 : FVec F S_ .f32 := constant S_ .f32 0x7F800000#32
  let main_v17 : FVec F S2x512x256 .f32 := broadcastInDim S2x512x256 ![] bcast_S_S2x512x256 main_cst_2
  let main_v18 : IVec S2x512x256 1 := cmpf .olt main_v16 main_v17
  fn_part1 (F := F) main_v15 main_v18
-- ==== Pre_finite_l.lean ====
abbrev S8x4096x2048 : Shape := ⟨3, ![8, 4096, 2048]⟩
abbrev S8x4096x768 : Shape := ⟨3, ![8, 4096, 768]⟩
abbrev S8x4096x512 : Shape := ⟨3, ![8, 4096, 512]⟩
abbrev S8x4x1024x512 : Shape := ⟨4, ![8, 4, 1024, 512]⟩
abbrev S8x16x256x512 : Shape := ⟨4, ![8, 16, 256, 512]⟩
abbrev S8x4096x6656 : Shape := ⟨3, ![8, 4096, 6656]⟩
abbrev S2048x2048 : Shape := ⟨2, ![2048, 2048]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4x1024x512 : S_.BroadcastsInDim S8x4x1024x512 (![] : Fin 0 → Fin S8x4x1024x512.rank)
  reducesTo_S8x4x1024x512_S_d0_1_2_3 : S8x4x1024x512.ReducesTo [0, 1, 2, 3] S_
  bcast_S_S8x16x256x512 : S_.BroadcastsInDim S8x16x256x512 (![] : Fin 0 → Fin S8x16x256x512.rank)
  reducesTo_S8x16x256x512_S_d0_1_2_3 : S8x16x256x512.ReducesTo [0, 1, 2, 3] S_

variable [Facts]

def fn {F : FTy → Type} [FloatOps F] (main_arg0 : FVec F S8x4096x2048 .f32) (main_arg1 : FVec F S8x4096x768 .bf16) (main_arg2 : FVec F S8x4096x768 .bf16) (main_arg3 : FVec F S8x4096x512 .f32) (main_arg4 : FVec F S8x4096x512 .f32) (main_arg5 : FVec F S8x4x1024x512 .f32) (main_arg6 : FVec F S8x4x1024x512 .f32) (main_arg7 : FVec F S8x16x256x512 .f32) (main_arg8 : FVec F S8x16x256x512 .f32) (main_arg9 : FVec F S8x4096x6656 .bf16) (main_arg10 : FVec F S2048x2048 .bf16) : IVec S_ 1 :=
  let main_v0 : FVec F S8x4096x512 .f32 := Host.absf main_arg4
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4x1024x512 .f32 := Host.absf main_arg6
  let main_cst_0 : FVec F S_ .f32 := constant S_ .f32 0x7F800000#32
  let main_v5 : FVec F S8x4x1024x512 .f32 := broadcastInDim S8x4x1024x512 ![] bcast_S_S8x4x1024x512 main_cst_0
  let main_v6 : IVec S8x4x1024x512 1 := cmpf .olt main_v4 main_v5
  let main_c_1 : IVec S_ 1 := constantI S_ 1 1#1
  let main_v7 : IVec S_ 1 := (fun x v => Host.reduce IntOp.andi x v reducesTo_S8x4x1024x512_S_d0_1_2_3 h_S_) main_v6 main_c_1
  let main_v8 : IVec S_ 1 := andi main_v3 main_v7
  let main_v9 : FVec F S8x16x256x512 .f32 := Host.absf main_arg8
  let main_cst_2 : FVec F S_ .f32 := constant S_ .f32 0x7F800000#32
  let main_v10 : FVec F S8x16x256x512 .f32 := broadcastInDim S8x16x256x512 ![] bcast_S_S8x16x256x512 main_cst_2
  let main_v11 : IVec S8x16x256x512 1 := cmpf .olt main_v9 main_v10
  let main_c_3 : IVec S_ 1 := constantI S_ 1 1#1
  let main_v12 : IVec S_ 1 := (fun x v => Host.reduce IntOp.andi x v reducesTo_S8x16x256x512_S_d0_1_2_3 h_S_) main_v11 main_c_3
  let main_v13 : IVec S_ 1 := andi main_v8 main_v12
  main_v13
-- ==== Pre_finite_qk.lean ====
abbrev S8x4096x3072 : Shape := ⟨3, ![8, 4096, 3072]⟩
abbrev S8x4096x6656 : Shape := ⟨3, ![8, 4096, 6656]⟩
abbrev S8x4096x384 : Shape := ⟨3, ![8, 4096, 384]⟩
abbrev S8x4096x3x2x64 : Shape := ⟨5, ![8, 4096, 3, 2, 64]⟩
abbrev S8x4096x3x1x64 : Shape := ⟨5, ![8, 4096, 3, 1, 64]⟩
abbrev S8x4096x3x64 : Shape := ⟨4, ![8, 4096, 3, 64]⟩
abbrev S8x4096x768 : Shape := ⟨3, ![8, 4096, 768]⟩
abbrev S_ : Shape := ⟨0, ![]⟩

class Facts : Prop where
  slices_S8x4096x3072_S8x4096x384_0_0_2432 : S8x4096x3072.Slices ![0, 0, 2432] S8x4096x384
  bitsLt_bf16_f32 : FTy.bits .bf16 < FTy.bits .f32
  shapeCasts_S8x4096x384_S8x4096x3x2x64 : S8x4096x384.ShapeCasts S8x4096x3x2x64
  slices_S8x4096x3x2x64_S8x4096x3x1x64_0_0_0_0_0 : S8x4096x3x2x64.Slices ![0, 0, 0, 0, 0] S8x4096x3x1x64
  shapeCasts_S8x4096x3x1x64_S8x4096x3x64 : S8x4096x3x1x64.ShapeCasts S8x4096x3x64
  slices_S8x4096x3072_S8x4096x768_0_0_768 : S8x4096x3072.Slices ![0, 0, 768] S8x4096x768
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S8x4096x3x64 : S_.BroadcastsInDim S8x4096x3x64 (![] : Fin 0 → Fin S8x4096x3x64.rank)
  reducesTo_S8x4096x3x64_S_d0_1_2_3 : S8x4096x3x64.ReducesTo [0, 1, 2, 3] S_

variable [Facts]

def fn {F : FTy → Type} [FloatOps F] (main_arg0 : FVec F S8x4096x3072 .bf16) (main_arg1 : FVec F S8x4096x6656 .bf16) : IVec S_ 1 :=
  let main_v0 : FVec F S8x4096x384 .bf16 := (extractStridedSlice S8x4096x384 ![0, 0, 2432] · slices_S8x4096x3072_S8x4096x384_0_0_2432) main_arg0
  let main_v1 : FVec F S8x4096x384 .f32 := (extf .f32 · bitsLt_bf16_f32) main_v0
  let main_v2 : FVec F S8x4096x3x2x64 .f32 := shapeCast S8x4096x3x2x64 main_v1 shapeCasts_S8x4096x384_S8x4096x3x2x64
  let main_v3 : FVec F S8x4096x3x1x64 .f32 := (extractStridedSlice S8x4096x3x1x64 ![0, 0, 0, 0, 0] · slices_S8x4096x3x2x64_S8x4096x3x1x64_0_0_0_0_0) main_v2
  let main_v4 : FVec F S8x4096x3x64 .f32 := shapeCast S8x4096x3x64 main_v3 shapeCasts_S8x4096x3x1x64_S8x4096x3x64
  let main_v5 : FVec F S8x4096x768 .bf16 := (extractStridedSlice S8x4096x768 ![0, 0, 768] · slices_S8x4096x3072_S8x4096x768_0_0_768) main_arg0
  let main_v6 : FVec F S8x4096x768 .f32 := (extf .f32 · bitsLt_bf16_f32) main_v5
  let main_v7 : FVec F S8x4096x768 .f32 := Host.absf main_v6
  let main_cst : FVec F S_ .f32 := constant S_ .f32 0x7F800000#32
  let main_v8 : FVec F S8x4096x768 .f32 := broadcastInDim S8x4096x768 ![] bcast_S_S8x4096x768 main_cst
  let main_v9 : IVec S8x4096x768 1 := cmpf .olt main_v7 main_v8
  let main_c : IVec S_ 1 := constantI S_ 1 1#1
  let main_v10 : IVec S_ 1 := (fun x v => Host.reduce IntOp.andi x v reducesTo_S8x4096x768_S_d0_1_2 h_S_) main_v9 main_c
  let main_v11 : FVec F S8x4096x3x64 .f32 := Host.absf main_v4
  let main_cst_0 : FVec F S_ .f32 := constant S_ .f32 0x7F800000#32
  let main_v12 : FVec F S8x4096x3x64 .f32 := broadcastInDim S8x4096x3x64 ![] bcast_S_S8x4096x3x64 main_cst_0
  let main_v13 : IVec S8x4096x3x64 1 := cmpf .olt main_v11 main_v12
  let main_c_1 : IVec S_ 1 := constantI S_ 1 1#1
  let main_v14 : IVec S_ 1 := (fun x v => Host.reduce IntOp.andi x v reducesTo_S8x4096x3x64_S_d0_1_2_3 h_S_) main_v13 main_c_1
  let main_v15 : IVec S_ 1 := andi main_v10 main_v14
  main_v15
-- ==== Kernel.lean ====
abbrev S8x4096x3072 : Shape := ⟨3, ![8, 4096, 3072]⟩
abbrev S8x4096x6656 : Shape := ⟨3, ![8, 4096, 6656]⟩
abbrev S8x4096x768 : Shape := ⟨3, ![8, 4096, 768]⟩
abbrev S1x512x256 : Shape := ⟨3, ![1, 512, 256]⟩
abbrev S1x4096x128 : Shape := ⟨3, ![1, 4096, 128]⟩
abbrev S4096x128 : Shape := ⟨2, ![4096, 128]⟩
abbrev S1x512x64 : Shape := ⟨3, ![1, 512, 64]⟩
abbrev S512x64 : Shape := ⟨2, ![512, 64]⟩
abbrev S512x128 : Shape := ⟨2, ![512, 128]⟩
abbrev S512x256 : Shape := ⟨2, ![512, 256]⟩
abbrev S2048x64 : Shape := ⟨2, ![2048, 64]⟩
abbrev S2048x1 : Shape := ⟨2, ![2048, 1]⟩
abbrev S2048x128 : Shape := ⟨2, ![2048, 128]⟩
abbrev S2048x512 : Shape := ⟨2, ![2048, 512]⟩
abbrev S2048 : Shape := ⟨1, ![2048]⟩

abbrev nBuf : Space → Nat
  | .hbm => 3
  | .vmem => 9
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x6656, .bf16⟩
  | .hbm, ⟨2, _⟩ => ⟨S8x4096x768, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S4096x128, .bf16⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 3, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_67 : BitVec 32 := 0#32
  let c8_i32 : BitVec 32 := 8#32
  let v167 : BitVec 32 := Scalar.addi c0_i32_67 c8_i32
  let c1_i32 : BitVec 32 := 1#32
  ⟨c0_i32_67, v167, c1_i32⟩
def k0_mult1 (k0_t1 : Fin k0_t1_loop.trips) : BitVec 32 :=
  let c0_i32_67 : BitVec 32 := 0#32
  let c1_i32 : BitVec 32 := 1#32
  let arg8 : BitVec 32 := Scf.iv c0_i32_67 c1_i32 k0_t1
  let c512_i32 : BitVec 32 := 512#32
  let v168 : BitVec 32 := Scalar.muli arg8 c512_i32
  v168
def k0_off1 (k0_t1 : Fin k0_t1_loop.trips) : Fin 3 → Nat :=
  let c0_69 : Index := 0#32
  let c0_i32_67 : BitVec 32 := 0#32
  let c1_i32 : BitVec 32 := 1#32
  let arg8 : BitVec 32 := Scf.iv c0_i32_67 c1_i32 k0_t1
  let c512_i32 : BitVec 32 := 512#32
  let v168 : BitVec 32 := Scalar.muli arg8 c512_i32
  let v169 : BitVec 32 := v168
  let v170 : Index := Scalar.indexCast v169
  let c64 : Index := 64#32
  ![0, v170.toNat, 64]
def k0_off2 (k0_t1 : Fin k0_t1_loop.trips) : Fin 2 → Nat :=
  let c0_i32_67 : BitVec 32 := 0#32
  let c1_i32 : BitVec 32 := 1#32
  let arg8 : BitVec 32 := Scf.iv c0_i32_67 c1_i32 k0_t1
  let c512_i32 : BitVec 32 := 512#32
  let v168 : BitVec 32 := Scalar.muli arg8 c512_i32
  let v169 : BitVec 32 := v168
  let v175 : Index := Scalar.indexCast v169
  let c0_71 : Index := 0#32
  ![v175.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c19_i32 : BitVec 32 := 19#32
  let v0 : BitVec 32 := Scalar.addi c19_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c21_i32 : BitVec 32 := 21#32
  let v0 : BitVec 32 := Scalar.addi c21_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x3072 : Shape := ⟨3, ![8, 4096, 3072]⟩
abbrev S8x4096x6656 : Shape := ⟨3, ![8, 4096, 6656]⟩
abbrev S8x4096x768 : Shape := ⟨3, ![8, 4096, 768]⟩
abbrev S8x4096x3x4x64 : Shape := ⟨5, ![8, 4096, 3, 4, 64]⟩
abbrev S_ : Shape := ⟨0, ![]⟩
abbrev S8x4096x384 : Shape := ⟨3, ![8, 4096, 384]⟩
abbrev S8x4096x3x2x64 : Shape := ⟨5, ![8, 4096, 3, 2, 64]⟩
abbrev S8x4096x3x1x64 : Shape := ⟨5, ![8, 4096, 3, 1, 64]⟩
abbrev S8x4096x3x64 : Shape := ⟨4, ![8, 4096, 3, 64]⟩
abbrev S8x3x4096x4096x4 : Shape := ⟨5, ![8, 3, 4096, 4096, 4]⟩
abbrev S8x3x4x4096x4096 : Shape := ⟨5, ![8, 3, 4, 4096, 4096]⟩
abbrev S8x3x4x4096 : Shape := ⟨4, ![8, 3, 4, 4096]⟩
abbrev S8x3x4x4096x1 : Shape := ⟨5, ![8, 3, 4, 4096, 1]⟩
abbrev S8x3x64x4x4096 : Shape := ⟨5, ![8, 3, 64, 4, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x6656, .bf16⟩
  | .hbm, ⟨2, _⟩ => ⟨S8x4096x768, .bf16⟩
  | .hbm, ⟨3, _⟩ => ⟨S8x4096x768, .f32⟩
  | .hbm, ⟨4, _⟩ => ⟨S8x4096x3x4x64, .f32⟩
  | .hbm, ⟨5, _⟩ => ⟨S_, .f32⟩
  | .hbm, ⟨6, _⟩ => ⟨S_, .f32⟩
  | .hbm, ⟨7, _⟩ => ⟨S8x4096x3x4x64, .f32⟩
  | .hbm, ⟨8, _⟩ => ⟨S8x4096x3x4x64, .f32⟩
  | .hbm, ⟨9, _⟩ => ⟨S8x4096x384, .bf16⟩
  | .hbm, ⟨10, _⟩ => ⟨S8x4096x384, .f32⟩
  | .hbm, ⟨11, _⟩ => ⟨S8x4096x3x2x64, .f32⟩
  | .hbm, ⟨12, _⟩ => ⟨S8x4096x3x1x64, .f32⟩
  | .hbm, ⟨13, _⟩ => ⟨S8x4096x3x64, .f32⟩
  | .hbm, ⟨14, _⟩ => ⟨S8x4096x3x1x64, .f32⟩
  | .hbm, ⟨15, _⟩ => ⟨S8x4096x3x64, .f32⟩
  | .hbm, ⟨16, _⟩ => ⟨S8x3x4096x4096x4, .f32⟩
  | .hbm, ⟨17, _⟩ => ⟨S8x3x4x4096x4096, .f32⟩
  | .hbm, ⟨18, _⟩ => ⟨S_, .f32⟩
  | .hbm, ⟨19, _⟩ => ⟨S8x3x4x4096, .f32⟩
  | .hbm, ⟨20, _⟩ => ⟨S_, .f32⟩
  | .hbm, ⟨21, _⟩ => ⟨S8x3x4x4096, .f32⟩
  | .hbm, ⟨22, _⟩ => ⟨S8x3x4x4096, .f32⟩
  | .hbm, ⟨23, _⟩ => ⟨S8x3x4x4096x1, .f32⟩
  | .hbm, ⟨24, _⟩ => ⟨S8x3x4x4096x4096, .f32⟩
  | .hbm, ⟨25, _⟩ => ⟨S8x3x4x4096x4096, .f32⟩
  | .hbm, ⟨26, _⟩ => ⟨S8x3x4x4096x4096, .f32⟩
  | .hbm, ⟨27, _⟩ => ⟨S_, .f32⟩
  | .hbm, ⟨28, _⟩ => ⟨S8x3x4x4096, .f32⟩
  | .hbm, ⟨29, _⟩ => ⟨S8x3x4x4096x1, .f32⟩
  | .hbm, ⟨30, _⟩ => ⟨S8x3x4x4096x4096, .f32⟩
  | .hbm, ⟨31, _⟩ => ⟨S8x3x4x4096x4096, .f32⟩
  | .hbm, ⟨32, _⟩ => ⟨S8x3x64x4x4096, .f32⟩
  | .hbm, ⟨33, _⟩ => ⟨S8x4096x3x4x64, .f32⟩
  | .hbm, ⟨34, _⟩ => ⟨S8x4096x768, .f32⟩
  | .hbm, ⟨35, _⟩ => ⟨S8x4096x768, .bf16⟩
  | .hbm, ⟨36, _⟩ => ⟨S8x4096x768, .f32⟩
  | .hbm, ⟨37, _⟩ => ⟨S8x4096x768, .f32⟩
  | .hbm, ⟨38, _⟩ => ⟨S8x4096x768, .f32⟩
  | .hbm, ⟨39, _⟩ => ⟨S_, .f32⟩
  | .hbm, ⟨40, _⟩ => ⟨S8x4096x768, .f32⟩
  | .hbm, ⟨41, _⟩ => ⟨S8x4096x768, .f32⟩
  | .hbm, ⟨42, _⟩ => ⟨S_, .f32⟩
  | .hbm, ⟨43, _⟩ => ⟨S8x4096x768, .f32⟩
  | .hbm, ⟨44, _⟩ => ⟨S8x4096x768, .f32⟩
  | .hbm, ⟨45, _⟩ => ⟨S8x4096x768, .f32⟩
  | .hbm, ⟨46, _⟩ => ⟨S8x4096x768, .f32⟩
  | .hbm, ⟨47, _⟩ => ⟨S8x4096x768, .bf16⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel2.lean ====
abbrev S32768x2048 : Shape := ⟨2, ![32768, 2048]⟩
abbrev S1x2048 : Shape := ⟨2, ![1, 2048]⟩
abbrev S2048x6656 : Shape := ⟨2, ![2048, 6656]⟩
abbrev S32768x6656 : Shape := ⟨2, ![32768, 6656]⟩
abbrev S512x2048 : Shape := ⟨2, ![512, 2048]⟩
abbrev S512x6656 : Shape := ⟨2, ![512, 6656]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x6656, .bf16⟩
  | .hbm, ⟨3, _⟩ => ⟨S32768x6656, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x6656, .bf16⟩
  | .local _ .vmem, ⟨4, _⟩ => ⟨S512x6656, .bf16⟩
  | .local _ .vmem, ⟨5, _⟩ => ⟨S512x6656, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6656 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32768x2048 : Shape := ⟨2, ![32768, 2048]⟩
abbrev S1x2048 : Shape := ⟨2, ![1, 2048]⟩
abbrev S2048x6656 : Shape := ⟨2, ![2048, 6656]⟩
abbrev S_ : Shape := ⟨0, ![]⟩
abbrev S32768 : Shape := ⟨1, ![32768]⟩
abbrev S32768x1 : Shape := ⟨2, ![32768, 1]⟩
abbrev S32768x6656 : Shape := ⟨2, ![32768, 6656]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x6656, .bf16⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S2048x6656, .f32⟩
  | .hbm, ⟨19, _⟩ => ⟨S32768x6656, .f32⟩
  | .hbm, ⟨20, _⟩ => ⟨S32768x6656, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S8x4096x2048 : Shape := ⟨3, ![8, 4096, 2048]⟩
abbrev S8x4096x768 : Shape := ⟨3, ![8, 4096, 768]⟩
abbrev S8x4096x512 : Shape := ⟨3, ![8, 4096, 512]⟩
abbrev S8x4x1024x512 : Shape := ⟨4, ![8, 4, 1024, 512]⟩
abbrev S8x16x256x512 : Shape := ⟨4, ![8, 16, 256, 512]⟩
abbrev S8x4096x6656 : Shape := ⟨3, ![8, 4096, 6656]⟩
abbrev S2048x2048 : Shape := ⟨2, ![2048, 2048]⟩
abbrev S1x512x2048 : Shape := ⟨3, ![1, 512, 2048]⟩
abbrev S1x512x768 : Shape := ⟨3, ![1, 512, 768]⟩
abbrev S1x512x512 : Shape := ⟨3, ![1, 512, 512]⟩
abbrev S1x4x128x512 : Shape := ⟨4, ![1, 4, 128, 512]⟩
abbrev S1x16x32x512 : Shape := ⟨4, ![1, 16, 32, 512]⟩
abbrev S768x2048 : Shape := ⟨2, ![768, 2048]⟩
abbrev S512x2048 : Shape := ⟨2, ![512, 2048]⟩
abbrev S16x512x128 : Shape := ⟨3, ![16, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩
abbrev S1x256x768 : Shape := ⟨3, ![1, 256, 768]⟩
abbrev S256x768 : Shape := ⟨2, ![256, 768]⟩
abbrev S256x2048 : Shape := ⟨2, ![256, 2048]⟩
abbrev S1x256x128 : Shape := ⟨3, ![1, 256, 128]⟩
abbrev S256x128 : Shape := ⟨2, ![256, 128]⟩
abbrev S256x512 : Shape := ⟨2, ![256, 512]⟩
abbrev S1x256x2048 : Shape := ⟨3, ![1, 256, 2048]⟩

abbrev nBuf : Space → Nat
  | .hbm => 12
  | .vmem => 26
  | .smem => 0
  | _ => 0

abbrev bufTy : (tb : Table) → Fin (tcTables nBuf tb) → BufTy
  | .hbm, ⟨0, _⟩ => ⟨S8x4096x2048, .f32⟩
  | .hbm, ⟨1, _⟩ => ⟨S8x4096x768, .bf16⟩
  | .hbm, ⟨2, _⟩ => ⟨S8x4096x768, .bf16⟩
  | .hbm, ⟨3, _⟩ => ⟨S8x4096x512, .f32⟩
  | .hbm, ⟨4, _⟩ => ⟨S8x4096x512, .f32⟩
  | .hbm, ⟨5, _⟩ => ⟨S8x4x1024x512, .f32⟩
  | .hbm, ⟨6, _⟩ => ⟨S8x4x1024x512, .f32⟩
  | .hbm, ⟨7, _⟩ => ⟨S8x16x256x512, .f32⟩
  | .hbm, ⟨8, _⟩ => ⟨S8x16x256x512, .f32⟩
  | .hbm, ⟨9, _⟩ => ⟨S8x4096x6656, .bf16⟩
  | .hbm, ⟨10, _⟩ => ⟨S2048x2048, .bf16⟩
  | .hbm, ⟨11, _⟩ => ⟨S8x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x768, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x4x128x512, .f32⟩
  | .local _ .vmem, ⟨11, _⟩ => ⟨S1x4x128x512, .f32⟩
  | .local _ .vmem, ⟨12, _⟩ => ⟨S1x4x128x512, .f32⟩
  | .local _ .vmem, ⟨13, _⟩ => ⟨S1x4x128x512, .f32⟩
  | .local _ .vmem, ⟨14, _⟩ => ⟨S1x16x32x512, .f32⟩
  | .local _ .vmem, ⟨15, _⟩ => ⟨S1x16x32x512, .f32⟩
  | .local _ .vmem, ⟨16, _⟩ => ⟨S1x16x32x512, .f32⟩
  | .local _ .vmem, ⟨17, _⟩ => ⟨S1x16x32x512, .f32⟩
  | .local _ .vmem, ⟨18, _⟩ => ⟨S1x512x512, .bf16⟩
  | .local _ .vmem, ⟨19, _⟩ => ⟨S1x512x512, .bf16⟩
  | .local _ .vmem, ⟨20, _⟩ => ⟨S768x2048, .bf16⟩
  | .local _ .vmem, ⟨21, _⟩ => ⟨S768x2048, .bf16⟩
  | .local _ .vmem, ⟨22, _⟩ => ⟨S512x2048, .bf16⟩
  | .local _ .vmem, ⟨23, _⟩ => ⟨S1x512x2048, .f32⟩
  | .local _ .vmem, ⟨24, _⟩ => ⟨S1x512x2048, .f32⟩
  | .local _ .vmem, ⟨25, _⟩ => ⟨S16x512x128, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S768x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S768x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x4096x2048 : Shape := ⟨3, ![8, 4096, 2048]⟩
abbrev S8x4096x768 : Shape := ⟨3, ![8, 4096, 768]⟩
abbrev S8x4096x512 : Shape := ⟨3, ![8, 4096, 512]⟩
abbrev S8x4x1024x512 : Shape := ⟨4, ![8, 4, 1024, 512]⟩
abbrev S8x16x256x512 : Shape := ⟨4, ![8, 16, 256, 512]⟩
abbrev S8x4096x6656 : Shape := ⟨3, ![8, 4096, 6656]⟩
abbrev S2048x2048 : Shape := ⟨2, ![2048, 2048]⟩
abbrev S8x1024x4x512 : Shape := ⟨4, ![8, 1024, 4, 512]⟩
abbrev S8x256x16x512 : Shape := ⟨4, ![8, 256, 16, 512]⟩
abbrev S1x8x4096x512 : Shape := ⟨4, ![1, 8, 4096, 512]⟩
abbrev S3x8x4096x512 : Shape := ⟨4, ![3, 8, 4096, 512]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x768, .bf16⟩
  | .hbm, ⟨2, _⟩ => ⟨S8x4096x768, .bf16⟩
  | .hbm, ⟨3, _⟩ => ⟨S8x4096x512, .f32⟩
  | .hbm, ⟨4, _⟩ => ⟨S8x4096x512, .f32⟩
  | .hbm, ⟨5, _⟩ => ⟨S8x4x1024x512, .f32⟩
  | .hbm, ⟨6, _⟩ => ⟨S8x4x1024x512, .f32⟩
  | .hbm, ⟨7, _⟩ => ⟨S8x16x256x512, .f32⟩
  | .hbm, ⟨8, _⟩ => ⟨S8x16x256x512, .f32⟩
  | .hbm, ⟨9, _⟩ => ⟨S8x4096x6656, .bf16⟩
  | .hbm, ⟨10, _⟩ => ⟨S2048x2048, .bf16⟩
  | .hbm, ⟨11, _⟩ => ⟨S8x1024x4x512, .f32⟩
  | .hbm, ⟨12, _⟩ => ⟨S8x4096x512, .f32⟩
  | .hbm, ⟨13, _⟩ => ⟨S8x256x16x512, .f32⟩
  | .hbm, ⟨14, _⟩ => ⟨S8x4096x512, .f32⟩
  | .hbm, ⟨15, _⟩ => ⟨S1x8x4096x512, .f32⟩
  | .hbm, ⟨16, _⟩ => ⟨S1x8x4096x512, .f32⟩
  | .hbm, ⟨17, _⟩ => ⟨S1x8x4096x512, .f32⟩
  | .hbm, ⟨18, _⟩ => ⟨S3x8x4096x512, .f32⟩
  | .hbm, ⟨19, _⟩ => ⟨S8x1024x4x512, .f32⟩
  | .hbm, ⟨20, _⟩ => ⟨S8x4096x512, .f32⟩
  | .hbm, ⟨21, _⟩ => ⟨S8x256x16x512, .f32⟩
  | .hbm, ⟨22, _⟩ => ⟨S8x4096x512, .f32⟩
  | .hbm, ⟨23, _⟩ => ⟨S1x8x4096x512, .f32⟩
  | .hbm, ⟨24, _⟩ => ⟨S1x8x4096x512, .f32⟩
  | .hbm, ⟨25, _⟩ => ⟨S1x8x4096x512, .f32⟩
  | .hbm, ⟨26, _⟩ => ⟨S3x8x4096x512, .f32⟩
  | .hbm, ⟨27, _⟩ => ⟨S_, .f32⟩
  | .hbm, ⟨28, _⟩ => ⟨S_, .f32⟩
  | .hbm, ⟨29, _⟩ => ⟨S3x8x4096x512, .f32⟩
  | .hbm, ⟨30, _⟩ => ⟨S3x8x4096x512, .f32⟩
  | .hbm, ⟨31, _⟩ => ⟨S_, .f32⟩
  | .hbm, ⟨32, _⟩ => ⟨S8x4096x512, .f32⟩
  | .hbm, ⟨33, _⟩ => ⟨S_, .f32⟩
  | .hbm, ⟨34, _⟩ => ⟨S8x4096x512, .f32⟩
  | .hbm, ⟨35, _⟩ => ⟨S8x4096x512, .f32⟩
  | .hbm, ⟨36, _⟩ => ⟨S1x8x4096x512, .f32⟩
  | .hbm, ⟨37, _⟩ => ⟨S3x8x4096x512, .f32⟩
  | .hbm, ⟨38, _⟩ => ⟨S3x8x4096x512, .f32⟩
  | .hbm, ⟨39, _⟩ => ⟨S3x8x4096x512, .f32⟩
  | .hbm, ⟨40, _⟩ => ⟨S_, .f32⟩
  | .hbm, ⟨41, _⟩ => ⟨S8x4096x512, .f32⟩
  | .hbm, ⟨42, _⟩ => ⟨S1x8x4096x512, .f32⟩
  | .hbm, ⟨43, _⟩ => ⟨S3x8x4096x512, .f32⟩
  | .hbm, ⟨44, _⟩ => ⟨S3x8x4096x512, .f32⟩
  | .hbm, ⟨45, _⟩ => ⟨S3x8x4096x512, .f32⟩
  | .hbm, ⟨46, _⟩ => ⟨S_, .f32⟩
  | .hbm, ⟨47, _⟩ => ⟨S8x4096x512, .f32⟩
  | .hbm, ⟨48, _⟩ => ⟨S8x4096x512, .bf16⟩
  | .hbm, ⟨49, _⟩ => ⟨S8x4096x512, .f32⟩
  | .hbm, ⟨50, _⟩ => ⟨S8x4096x512, .f32⟩
  | .hbm, ⟨51, _⟩ => ⟨S8x4096x512, .f32⟩
  | .hbm, ⟨52, _⟩ => ⟨S_, .f32⟩
  | .hbm, ⟨53, _⟩ => ⟨S8x4096x512, .f32⟩
  | .hbm, ⟨54, _⟩ => ⟨S8x4096x512, .f32⟩
  | .hbm, ⟨55, _⟩ => ⟨S_, .f32⟩
  | .hbm, ⟨56, _⟩ => ⟨S8x4096x512, .f32⟩
  | .hbm, ⟨57, _⟩ => ⟨S8x4096x512, .f32⟩
  | .hbm, ⟨58, _⟩ => ⟨S8x4096x512, .f32⟩
  | .hbm, ⟨59, _⟩ => ⟨S8x4096x512, .f32⟩
  | .hbm, ⟨60, _⟩ => ⟨S8x4096x768, .f32⟩
  | .hbm, ⟨61, _⟩ => ⟨S8x4096x768, .f32⟩
  | .hbm, ⟨62, _⟩ => ⟨S8x4096x2048, .f32⟩
  | .hbm, ⟨63, _⟩ => ⟨S2048x2048, .f32⟩
  | .hbm, ⟨64, _⟩ => ⟨S8x4096x2048, .f32⟩
  | .hbm, ⟨65, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel4.lean ====
abbrev S8x4096x3072 : Shape := ⟨3, ![8, 4096, 3072]⟩
abbrev S8x4096x6656 : Shape := ⟨3, ![8, 4096, 6656]⟩
abbrev S3x512x384 : Shape := ⟨3, ![3, 512, 384]⟩
abbrev S12 : Shape := ⟨1, ![12]⟩
abbrev S12x128 : Shape := ⟨2, ![12, 128]⟩
abbrev S1536 : Shape := ⟨1, ![1536]⟩
abbrev S1536x1 : Shape := ⟨2, ![1536, 1]⟩
abbrev S1536x128 : Shape := ⟨2, ![1536, 128]⟩
abbrev S3x512x128 : Shape := ⟨3, ![3, 512, 128]⟩
abbrev S8x4096x768 : Shape := ⟨3, ![8, 4096, 768]⟩
abbrev S1x2048x256 : Shape := ⟨3, ![1, 2048, 256]⟩
abbrev S1x128x128 : Shape := ⟨3, ![1, 128, 128]⟩
abbrev S1x2048x128 : Shape := ⟨3, ![1, 2048, 128]⟩
abbrev S1x512x384 : Shape := ⟨3, ![1, 512, 384]⟩
abbrev S1x512x128 : Shape := ⟨3, ![1, 512, 128]⟩
abbrev S128x128 : Shape := ⟨2, ![128, 128]⟩
abbrev S2048x128 : Shape := ⟨2, ![2048, 128]⟩
abbrev S2304x128 : Shape := ⟨2, ![2304, 128]⟩
abbrev S512x384 : Shape := ⟨2, ![512, 384]⟩
abbrev S1x128x256 : Shape := ⟨3, ![1, 128, 256]⟩
abbrev S128x256 : Shape := ⟨2, ![128, 256]⟩
abbrev S128x64 : Shape := ⟨2, ![128, 64]⟩
abbrev S512x64 : Shape := ⟨2, ![512, 64]⟩
abbrev S384x128 : Shape := ⟨2, ![384, 128]⟩
abbrev S384x64 : Shape := ⟨2, ![384, 64]⟩
abbrev S512 : Shape := ⟨1, ![512]⟩
abbrev S512x1 : Shape := ⟨2, ![512, 1]⟩
abbrev S512x128 : Shape := ⟨2, ![512, 128]⟩
abbrev S384x256 : Shape := ⟨2, ![384, 256]⟩
abbrev S512x256 : Shape := ⟨2, ![512, 256]⟩

abbrev nBuf : Space → Nat
  | .hbm => 10
  | .vmem => 16
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x6656, .bf16⟩
  | .hbm, ⟨2, _⟩ => ⟨S3x512x384, .f32⟩
  | .hbm, ⟨3, _⟩ => ⟨S12, .f32⟩
  | .hbm, ⟨4, _⟩ => ⟨S12x128, .f32⟩
  | .hbm, ⟨5, _⟩ => ⟨S1536, .f32⟩
  | .hbm, ⟨6, _⟩ => ⟨S1536x1, .f32⟩
  | .hbm, ⟨7, _⟩ => ⟨S1536x128, .f32⟩
  | .hbm, ⟨8, _⟩ => ⟨S3x512x128, .f32⟩
  | .hbm, ⟨9, _⟩ => ⟨S8x4096x768, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x128x128, .bf16⟩
  | .local _ .vmem, ⟨3, _⟩ => ⟨S1x128x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x512x384, .f32⟩
  | .local _ .vmem, ⟨9, _⟩ => ⟨S1x512x384, .f32⟩
  | .local _ .vmem, ⟨10, _⟩ => ⟨S1x512x128, .f32⟩
  | .local _ .vmem, ⟨11, _⟩ => ⟨S1x512x128, .f32⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 3, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c16_i32_0 : BitVec 32 := 16#32
  let v3 : BitVec 32 := Scalar.addi c16_i32_0 arg1
  let c0_i32_1 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c31_i32 : BitVec 32 := 31#32
  let v2 : BitVec 32 := Scalar.minsi v1 c31_i32
  let c16_i32_0 : BitVec 32 := 16#32
  let v3 : BitVec 32 := Scalar.addi c16_i32_0 arg1
  let c0_i32 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, arg2.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S8x4096x3072 : Shape := ⟨3, ![8, 4096, 3072]⟩
abbrev S8x4096x6656 : Shape := ⟨3, ![8, 4096, 6656]⟩
abbrev S3x512x384 : Shape := ⟨3, ![3, 512, 384]⟩
abbrev S12 : Shape := ⟨1, ![12]⟩
abbrev S_ : Shape := ⟨0, ![]⟩
abbrev S8x4096x768 : Shape := ⟨3, ![8, 4096, 768]⟩
abbrev S256x128x3x4x64 : Shape := ⟨5, ![256, 128, 3, 4, 64]⟩
abbrev S8x4096x384 : Shape := ⟨3, ![8, 4096, 384]⟩
abbrev S8x4096x3x2x64 : Shape := ⟨5, ![8, 4096, 3, 2, 64]⟩
abbrev S8x128x3x64 : Shape := ⟨4, ![8, 128, 3, 64]⟩
abbrev S8x4096x3x1x64 : Shape := ⟨5, ![8, 4096, 3, 1, 64]⟩
abbrev S8x4096x3x64 : Shape := ⟨4, ![8, 4096, 3, 64]⟩
abbrev S8x4352x3x64 : Shape := ⟨4, ![8, 4352, 3, 64]⟩
abbrev S8x34x128x3x64 : Shape := ⟨5, ![8, 34, 128, 3, 64]⟩
abbrev S8x32x128x3x64 : Shape := ⟨5, ![8, 32, 128, 3, 64]⟩
abbrev S8x32x384x3x64 : Shape := ⟨5, ![8, 32, 384, 3, 64]⟩
abbrev S256x384x3x64 : Shape := ⟨4, ![256, 384, 3, 64]⟩
abbrev S32 : Shape := ⟨1, ![32]⟩
abbrev S32x1 : Shape := ⟨2, ![32, 1]⟩
abbrev S384 : Shape := ⟨1, ![384]⟩
abbrev S1x384 : Shape := ⟨2, ![1, 384]⟩
abbrev S32x384 : Shape := ⟨2, ![32, 384]⟩
abbrev S8x32x384 : Shape := ⟨3, ![8, 32, 384]⟩
abbrev S256x384 : Shape := ⟨2, ![256, 384]⟩
abbrev S256x3x384x128x4 : Shape := ⟨5, ![256, 3, 384, 128, 4]⟩
abbrev S256x3x4x128x384 : Shape := ⟨5, ![256, 3, 4, 128, 384]⟩
abbrev S3x4x128x384 : Shape := ⟨4, ![3, 4, 128, 384]⟩
abbrev S1x3x4x128x384 : Shape := ⟨5, ![1, 3, 4, 128, 384]⟩
abbrev S256x1x1x1x384 : Shape := ⟨5, ![256, 1, 1, 1, 384]⟩
abbrev S3x4x1 : Shape := ⟨3, ![3, 4, 1]⟩
abbrev S256x3x4x128 : Shape := ⟨4, ![256, 3, 4, 128]⟩
abbrev S1x3x4x1 : Shape := ⟨4, ![1, 3, 4, 1]⟩
abbrev S256x3x4x128x1 : Shape := ⟨5, ![256, 3, 4, 128, 1]⟩
abbrev S256x3x64x4x128 : Shape := ⟨5, ![256, 3, 64, 4, 128]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x6656, .bf16⟩
  | .hbm, ⟨2, _⟩ => ⟨S3x512x384, .f32⟩
  | .hbm, ⟨3, _⟩ => ⟨S12, .f32⟩
  | .hbm, ⟨4, _⟩ => ⟨S_, .f32⟩
  | .hbm, ⟨5, _⟩ => ⟨S_, .f32⟩
  | .hbm, ⟨6, _⟩ => ⟨S8x4096x768, .bf16⟩
  | .hbm, ⟨7, _⟩ => ⟨S8x4096x768, .f32⟩
  | .hbm, ⟨8, _⟩ => ⟨S256x128x3x4x64, .f32⟩
  | .hbm, ⟨9, _⟩ => ⟨S256x128x3x4x64, .f32⟩
  | .hbm, ⟨10, _⟩ => ⟨S256x128x3x4x64, .f32⟩
  | .hbm, ⟨11, _⟩ => ⟨S8x4096x384, .bf16⟩
  | .hbm, ⟨12, _⟩ => ⟨S8x4096x384, .f32⟩
  | .hbm, ⟨13, _⟩ => ⟨S8x4096x3x2x64, .f32⟩
  | .hbm, ⟨14, _⟩ => ⟨S_, .f32⟩
  | .hbm, ⟨15, _⟩ => ⟨S8x128x3x64, .f32⟩
  | .hbm, ⟨16, _⟩ => ⟨S8x4096x3x1x64, .f32⟩
  | .hbm, ⟨17, _⟩ => ⟨S8x4096x3x64, .f32⟩
  | .hbm, ⟨18, _⟩ => ⟨S8x4352x3x64, .f32⟩
  | .hbm, ⟨19, _⟩ => ⟨S8x34x128x3x64, .f32⟩
  | .hbm, ⟨20, _⟩ => ⟨S8x32x128x3x64, .f32⟩
  | .hbm, ⟨21, _⟩ => ⟨S8x32x128x3x64, .f32⟩
  | .hbm, ⟨22, _⟩ => ⟨S8x32x128x3x64, .f32⟩
  | .hbm, ⟨23, _⟩ => ⟨S8x32x384x3x64, .f32⟩
  | .hbm, ⟨24, _⟩ => ⟨S256x384x3x64, .f32⟩
  | .hbm, ⟨25, _⟩ => ⟨S8x4096x3x1x64, .f32⟩
  | .hbm, ⟨26, _⟩ => ⟨S8x4096x3x64, .f32⟩
  | .hbm, ⟨27, _⟩ => ⟨S8x4352x3x64, .f32⟩
  | .hbm, ⟨28, _⟩ => ⟨S8x34x128x3x64, .f32⟩
  | .hbm, ⟨29, _⟩ => ⟨S8x32x128x3x64, .f32⟩
  | .hbm, ⟨30, _⟩ => ⟨S8x32x128x3x64, .f32⟩
  | .hbm, ⟨31, _⟩ => ⟨S8x32x128x3x64, .f32⟩
  | .hbm, ⟨32, _⟩ => ⟨S8x32x384x3x64, .f32⟩
  | .hbm, ⟨33, _⟩ => ⟨S256x384x3x64, .f32⟩
  | .hbm, ⟨34, _⟩ => ⟨S32, .i32⟩
  | .hbm, ⟨35, _⟩ => ⟨S32x1, .i32⟩
  | .hbm, ⟨36, _⟩ => ⟨S_, .i32⟩
  | .hbm, ⟨37, _⟩ => ⟨S32x1, .i32⟩
  | .hbm, ⟨38, _⟩ => ⟨S32x1, .i32⟩
  | .hbm, ⟨39, _⟩ => ⟨S384, .i32⟩
  | .hbm, ⟨40, _⟩ => ⟨S1x384, .i32⟩
  | .hbm, ⟨41, _⟩ => ⟨S32x384, .i32⟩
  | .hbm, ⟨42, _⟩ => ⟨S32x384, .i32⟩
  | .hbm, ⟨43, _⟩ => ⟨S32x384, .i32⟩
  | .hbm, ⟨44, _⟩ => ⟨S_, .i32⟩
  | .hbm, ⟨45, _⟩ => ⟨S32x384, .i32⟩
  | .hbm, ⟨46, _⟩ => ⟨S32x384, .i1⟩
  | .hbm, ⟨47, _⟩ => ⟨S_, .i32⟩
  | .hbm, ⟨48, _⟩ => ⟨S32x384, .i32⟩
  | .hbm, ⟨49, _⟩ => ⟨S32x384, .i1⟩
  | .hbm, ⟨50, _⟩ => ⟨S32x384, .i1⟩
  | .hbm, ⟨51, _⟩ => ⟨S8x32x384, .i1⟩
  | .hbm, ⟨52, _⟩ => ⟨S256x384, .i1⟩
  | .hbm, ⟨53, _⟩ => ⟨S256x3x384x128x4, .f32⟩
  | .hbm, ⟨54, _⟩ => ⟨S256x3x4x128x384, .f32⟩
  | .hbm, ⟨55, _⟩ => ⟨S3x4x128x384, .f32⟩
  | .hbm, ⟨56, _⟩ => ⟨S3x4x128x384, .f32⟩
  | .hbm, ⟨57, _⟩ => ⟨S3x4x128x384, .f32⟩
  | .hbm, ⟨58, _⟩ => ⟨S1x3x4x128x384, .f32⟩
  | .hbm, ⟨59, _⟩ => ⟨S256x3x4x128x384, .f32⟩
  | .hbm, ⟨60, _⟩ => ⟨S256x3x4x128x384, .f32⟩
  | .hbm, ⟨61, _⟩ => ⟨S256x1x1x1x384, .i1⟩
  | .hbm, ⟨62, _⟩ => ⟨S_, .f32⟩
  | .hbm, ⟨63, _⟩ => ⟨S_, .f32⟩
  | .hbm, ⟨64, _⟩ => ⟨S256x3x4x128x384, .i1⟩
  | .hbm, ⟨65, _⟩ => ⟨S256x3x4x128x384, .f32⟩
  | .hbm, ⟨66, _⟩ => ⟨S256x3x4x128x384, .f32⟩
  | .hbm, ⟨67, _⟩ => ⟨S12, .f32⟩
  | .hbm, ⟨68, _⟩ => ⟨S12, .f32⟩
  | .hbm, ⟨69, _⟩ => ⟨S3x4x1, .f32⟩
  | .hbm, ⟨70, _⟩ => ⟨S_, .f32⟩
  | .hbm, ⟨71, _⟩ => ⟨S256x3x4x128, .f32⟩
  | .hbm, ⟨72, _⟩ => ⟨S1x3x4x1, .f32⟩
  | .hbm, ⟨73, _⟩ => ⟨S256x3x4x128, .f32⟩
  | .hbm, ⟨74, _⟩ => ⟨S256x3x4x128, .f32⟩
  | .hbm, ⟨75, _⟩ => ⟨S256x3x4x128x1, .f32⟩
  | .hbm, ⟨76, _⟩ => ⟨S256x3x4x128x384, .f32⟩
  | .hbm, ⟨77, _⟩ => ⟨S256x3x4x128x384, .f32⟩
  | .hbm, ⟨78, _⟩ => ⟨S256x3x4x128x384, .f32⟩
  | .hbm, ⟨79, _⟩ => ⟨S_, .f32⟩
  | .hbm, ⟨80, _⟩ => ⟨S256x3x4x128, .f32⟩
  | .hbm, ⟨81, _⟩ => ⟨S1x3x4x1, .f32⟩
  | .hbm, ⟨82, _⟩ => ⟨S256x3x4x128, .f32⟩
  | .hbm, ⟨83, _⟩ => ⟨S256x3x4x128, .f32⟩
  | .hbm, ⟨84, _⟩ => ⟨S256x3x4x128, .f32⟩
  | .hbm, ⟨85, _⟩ => ⟨S256x3x4x128, .f32⟩
  | .hbm, ⟨86, _⟩ => ⟨S256x3x4x128x1, .f32⟩
  | .hbm, ⟨87, _⟩ => ⟨S256x3x4x128x384, .f32⟩
  | .hbm, ⟨88, _⟩ => ⟨S256x3x4x128x384, .f32⟩
  | .hbm, ⟨89, _⟩ => ⟨S256x3x64x4x128, .f32⟩
  | .hbm, ⟨90, _⟩ => ⟨S256x128x3x4x64, .f32⟩
  | .hbm, ⟨91, _⟩ => ⟨S8x4096x768, .f32⟩
  | .hbm, ⟨92, _⟩ => ⟨S8x4096x768, .bf16⟩
  | .hbm, ⟨93, _⟩ => ⟨S8x4096x768, .f32⟩
  | .hbm, ⟨94, _⟩ => ⟨S8x4096x768, .f32⟩
  | .hbm, ⟨95, _⟩ => ⟨S8x4096x768, .f32⟩
  | .hbm, ⟨96, _⟩ => ⟨S_, .f32⟩
  | .hbm, ⟨97, _⟩ => ⟨S8x4096x768, .f32⟩
  | .hbm, ⟨98, _⟩ => ⟨S8x4096x768, .f32⟩
  | .hbm, ⟨99, _⟩ => ⟨S_, .f32⟩
  | .hbm, ⟨100, _⟩ => ⟨S8x4096x768, .f32⟩
  | .hbm, ⟨101, _⟩ => ⟨S8x4096x768, .f32⟩
  | .hbm, ⟨102, _⟩ => ⟨S8x4096x768, .f32⟩
  | .hbm, ⟨103, _⟩ => ⟨S8x4096x768, .f32⟩
  | .hbm, ⟨104, _⟩ => ⟨S8x4096x768, .bf16⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_1 : Ref sig .tc := ⟨.hbm, 44, rfl⟩
abbrev main_v37 : Ref sig .tc := ⟨.hbm, 45, rfl⟩
abbrev main_v38 : Ref sig .tc := ⟨.hbm, 46, rfl⟩
abbrev main_c_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_3 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_4 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Kernel5.lean ====
abbrev S8x4096x3072 : Shape := ⟨3, ![8, 4096, 3072]⟩
abbrev S2x512x256 : Shape := ⟨3, ![2, 512, 256]⟩
abbrev S8x4096x512 : Shape := ⟨3, ![8, 4096, 512]⟩
abbrev S1x2048x256 : Shape := ⟨3, ![1, 2048, 256]⟩
abbrev S1x128x128 : Shape := ⟨3, ![1, 128, 128]⟩
abbrev S1x2048x128 : Shape := ⟨3, ![1, 2048, 128]⟩
abbrev S1x512x256 : Shape := ⟨3, ![1, 512, 256]⟩
abbrev S128x128 : Shape := ⟨2, ![128, 128]⟩
abbrev S2048x128 : Shape := ⟨2, ![2048, 128]⟩
abbrev S2304x128 : Shape := ⟨2, ![2304, 128]⟩
abbrev S512x256 : Shape := ⟨2, ![512, 256]⟩
abbrev S1x128x256 : Shape := ⟨3, ![1, 128, 256]⟩
abbrev S128x256 : Shape := ⟨2, ![128, 256]⟩
abbrev S128x64 : Shape := ⟨2, ![128, 64]⟩
abbrev S512x64 : Shape := ⟨2, ![512, 64]⟩
abbrev S256x128 : Shape := ⟨2, ![256, 128]⟩
abbrev S256x64 : Shape := ⟨2, ![256, 64]⟩
abbrev S512 : Shape := ⟨1, ![512]⟩
abbrev S512x1 : Shape := ⟨2, ![512, 1]⟩
abbrev S512x128 : Shape := ⟨2, ![512, 128]⟩
abbrev S256x256 : Shape := ⟨2, ![256, 256]⟩

abbrev nBuf : Space → Nat
  | .hbm => 4
  | .vmem => 14
  | .smem => 0
  | _ => 0

abbrev bufTy : (tb : Table) → Fin (tcTables nBuf tb) → BufTy
  | .hbm, ⟨0, _⟩ => ⟨S8x4096x3072, .bf16⟩
  | .hbm, ⟨1, _⟩ => ⟨S2x512x256, .f32⟩
  | .hbm, ⟨2, _⟩ => ⟨S8x4096x512, .f32⟩
  | .hbm, ⟨3, _⟩ => ⟨S8x4096x512, .f32⟩
  | .local _ .vmem, ⟨0, _⟩ => ⟨S1x2048x256, .bf16⟩
  | .local _ .vmem, ⟨1, _⟩ => ⟨S1x2048x256, .bf16⟩
  | .local _ .vmem, ⟨2, _⟩ => ⟨S1x128x128, .bf16⟩
  | .local _ .vmem, ⟨3, _⟩ => ⟨S1x128x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x512x256, .f32⟩
  | .local _ .vmem, ⟨9, _⟩ => ⟨S1x512x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![8, 1, 2, 2], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c6_i32 : BitVec 32 := 6#32
  let v0 : BitVec 32 := Scalar.addi c6_i32 arg2
  let c0_i32 : BitVec 32 := 0#32
  ![arg0.toNat, arg3.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg3 c16_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let v3 : BitVec 32 := Scalar.addi c22_i32 arg2
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c22_i32 : BitVec 32 := 22#32
  let v0 : BitVec 32 := Scalar.addi c22_i32 arg2
  let c0_i32 : BitVec 32 := 0#32
  ![arg0.toNat, arg3.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg3 c1_i32
  let c16_i32 : BitVec 32 := 16#32
  let v1 : BitVec 32 := Scalar.muli v0 c16_i32
  let c31_i32 : BitVec 32 := 31#32
  let v2 : BitVec 32 := Scalar.minsi v1 c31_i32
  let c22_i32 : BitVec 32 := 22#32
  let v3 : BitVec 32 := Scalar.addi c22_i32 arg2
  let c0_i32 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true, true]
-- ==== Kernel5Ideal.lean ====
variable {F : FTy → Type} [FloatOps F] [Named F]
def κ : String → Option EReal := fun
  | "log2e" => some (((Real.log 2)⁻¹ : ℝ) : EReal)
  | "mask" => some ⊥
  | _ => none
-- ==== Reference5Ideal.lean ====
abbrev S8x4096x3072 : Shape := ⟨3, ![8, 4096, 3072]⟩
abbrev S2x512x256 : Shape := ⟨3, ![2, 512, 256]⟩
abbrev S_ : Shape := ⟨0, ![]⟩
abbrev S8x4096x512 : Shape := ⟨3, ![8, 4096, 512]⟩
abbrev S256x128x2x4x64 : Shape := ⟨5, ![256, 128, 2, 4, 64]⟩
abbrev S8x4096x256 : Shape := ⟨3, ![8, 4096, 256]⟩
abbrev S8x4096x2x2x64 : Shape := ⟨5, ![8, 4096, 2, 2, 64]⟩
abbrev S8x64x2x64 : Shape := ⟨4, ![8, 64, 2, 64]⟩
abbrev S8x4096x2x1x64 : Shape := ⟨5, ![8, 4096, 2, 1, 64]⟩
abbrev S8x4096x2x64 : Shape := ⟨4, ![8, 4096, 2, 64]⟩
abbrev S8x4224x2x64 : Shape := ⟨4, ![8, 4224, 2, 64]⟩
abbrev S8x33x128x2x64 : Shape := ⟨5, ![8, 33, 128, 2, 64]⟩
abbrev S8x32x128x2x64 : Shape := ⟨5, ![8, 32, 128, 2, 64]⟩
abbrev S8x32x256x2x64 : Shape := ⟨5, ![8, 32, 256, 2, 64]⟩
abbrev S256x256x2x64 : Shape := ⟨4, ![256, 256, 2, 64]⟩
abbrev S32 : Shape := ⟨1, ![32]⟩
abbrev S32x1 : Shape := ⟨2, ![32, 1]⟩
abbrev S256 : Shape := ⟨1, ![256]⟩
abbrev S1x256 : Shape := ⟨2, ![1, 256]⟩
abbrev S32x256 : Shape := ⟨2, ![32, 256]⟩
abbrev S8x32x256 : Shape := ⟨3, ![8, 32, 256]⟩
abbrev S256x256 : Shape := ⟨2, ![256, 256]⟩
abbrev S256x2x256x128x4 : Shape := ⟨5, ![256, 2, 256, 128, 4]⟩
abbrev S256x2x4x128x256 : Shape := ⟨5, ![256, 2, 4, 128, 256]⟩
abbrev S2x4x128x256 : Shape := ⟨4, ![2, 4, 128, 256]⟩
abbrev S1x2x4x128x256 : Shape := ⟨5, ![1, 2, 4, 128, 256]⟩
abbrev S256x1x1x1x256 : Shape := ⟨5, ![256, 1, 1, 1, 256]⟩
abbrev S256x2x4x128 : Shape := ⟨4, ![256, 2, 4, 128]⟩
abbrev S256x2x4x128x1 : Shape := ⟨5, ![256, 2, 4, 128, 1]⟩
abbrev S256x2x64x4x128 : Shape := ⟨5, ![256, 2, 64, 4, 128]⟩
abbrev S256x128x2x4 : Shape := ⟨4, ![256, 128, 2, 4]⟩
abbrev S256x128x2x4x1 : Shape := ⟨5, ![256, 128, 2, 4, 1]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S2x512x256, .f32⟩
  | .hbm, ⟨2, _⟩ => ⟨S_, .f32⟩
  | .hbm, ⟨3, _⟩ => ⟨S_, .f32⟩
  | .hbm, ⟨4, _⟩ => ⟨S8x4096x512, .bf16⟩
  | .hbm, ⟨5, _⟩ => ⟨S8x4096x512, .f32⟩
  | .hbm, ⟨6, _⟩ => ⟨S256x128x2x4x64, .f32⟩
  | .hbm, ⟨7, _⟩ => ⟨S256x128x2x4x64, .f32⟩
  | .hbm, ⟨8, _⟩ => ⟨S256x128x2x4x64, .f32⟩
  | .hbm, ⟨9, _⟩ => ⟨S8x4096x256, .bf16⟩
  | .hbm, ⟨10, _⟩ => ⟨S8x4096x256, .f32⟩
  | .hbm, ⟨11, _⟩ => ⟨S8x4096x2x2x64, .f32⟩
  | .hbm, ⟨12, _⟩ => ⟨S_, .f32⟩
  | .hbm, ⟨13, _⟩ => ⟨S8x64x2x64, .f32⟩
  | .hbm, ⟨14, _⟩ => ⟨S8x4096x2x1x64, .f32⟩
  | .hbm, ⟨15, _⟩ => ⟨S8x4096x2x64, .f32⟩
  | .hbm, ⟨16, _⟩ => ⟨S8x4224x2x64, .f32⟩
  | .hbm, ⟨17, _⟩ => ⟨S8x33x128x2x64, .f32⟩
  | .hbm, ⟨18, _⟩ => ⟨S8x32x128x2x64, .f32⟩
  | .hbm, ⟨19, _⟩ => ⟨S8x32x128x2x64, .f32⟩
  | .hbm, ⟨20, _⟩ => ⟨S8x32x256x2x64, .f32⟩
  | .hbm, ⟨21, _⟩ => ⟨S256x256x2x64, .f32⟩
  | .hbm, ⟨22, _⟩ => ⟨S8x4096x2x1x64, .f32⟩
  | .hbm, ⟨23, _⟩ => ⟨S8x4096x2x64, .f32⟩
  | .hbm, ⟨24, _⟩ => ⟨S8x4224x2x64, .f32⟩
  | .hbm, ⟨25, _⟩ => ⟨S8x33x128x2x64, .f32⟩
  | .hbm, ⟨26, _⟩ => ⟨S8x32x128x2x64, .f32⟩
  | .hbm, ⟨27, _⟩ => ⟨S8x32x128x2x64, .f32⟩
  | .hbm, ⟨28, _⟩ => ⟨S8x32x256x2x64, .f32⟩
  | .hbm, ⟨29, _⟩ => ⟨S256x256x2x64, .f32⟩
  | .hbm, ⟨30, _⟩ => ⟨S32, .i32⟩
  | .hbm, ⟨31, _⟩ => ⟨S32x1, .i32⟩
  | .hbm, ⟨32, _⟩ => ⟨S_, .i32⟩
  | .hbm, ⟨33, _⟩ => ⟨S32x1, .i32⟩
  | .hbm, ⟨34, _⟩ => ⟨S32x1, .i32⟩
  | .hbm, ⟨35, _⟩ => ⟨S256, .i32⟩
  | .hbm, ⟨36, _⟩ => ⟨S1x256, .i32⟩
  | .hbm, ⟨37, _⟩ => ⟨S32x256, .i32⟩
  | .hbm, ⟨38, _⟩ => ⟨S32x256, .i32⟩
  | .hbm, ⟨39, _⟩ => ⟨S32x256, .i32⟩
  | .hbm, ⟨40, _⟩ => ⟨S_, .i32⟩
  | .hbm, ⟨41, _⟩ => ⟨S32x256, .i32⟩
  | .hbm, ⟨42, _⟩ => ⟨S32x256, .i1⟩
  | .hbm, ⟨43, _⟩ => ⟨S_, .i32⟩
  | .hbm, ⟨44, _⟩ => ⟨S32x256, .i32⟩
  | .hbm, ⟨45, _⟩ => ⟨S32x256, .i1⟩
  | .hbm, ⟨46, _⟩ => ⟨S32x256, .i1⟩
  | .hbm, ⟨47, _⟩ => ⟨S8x32x256, .i1⟩
  | .hbm, ⟨48, _⟩ => ⟨S256x256, .i1⟩
  | .hbm, ⟨49, _⟩ => ⟨S256x2x256x128x4, .f32⟩
  | .hbm, ⟨50, _⟩ => ⟨S256x2x4x128x256, .f32⟩
  | .hbm, ⟨51, _⟩ => ⟨S2x4x128x256, .f32⟩
  | .hbm, ⟨52, _⟩ => ⟨S2x4x128x256, .f32⟩
  | .hbm, ⟨53, _⟩ => ⟨S2x4x128x256, .f32⟩
  | .hbm, ⟨54, _⟩ => ⟨S1x2x4x128x256, .f32⟩
  | .hbm, ⟨55, _⟩ => ⟨S256x2x4x128x256, .f32⟩
  | .hbm, ⟨56, _⟩ => ⟨S256x2x4x128x256, .f32⟩
  | .hbm, ⟨57, _⟩ => ⟨S256x1x1x1x256, .i1⟩
  | .hbm, ⟨58, _⟩ => ⟨S_, .f32⟩
  | .hbm, ⟨59, _⟩ => ⟨S_, .f32⟩
  | .hbm, ⟨60, _⟩ => ⟨S256x2x4x128x256, .i1⟩
  | .hbm, ⟨61, _⟩ => ⟨S256x2x4x128x256, .f32⟩
  | .hbm, ⟨62, _⟩ => ⟨S256x2x4x128x256, .f32⟩
  | .hbm, ⟨63, _⟩ => ⟨S_, .f32⟩
  | .hbm, ⟨64, _⟩ => ⟨S256x2x4x128, .f32⟩
  | .hbm, ⟨65, _⟩ => ⟨S256x2x4x128x1, .f32⟩
  | .hbm, ⟨66, _⟩ => ⟨S256x2x4x128x256, .f32⟩
  | .hbm, ⟨67, _⟩ => ⟨S256x2x4x128x256, .f32⟩
  | .hbm, ⟨68, _⟩ => ⟨S256x2x4x128x256, .f32⟩
  | .hbm, ⟨69, _⟩ => ⟨S_, .f32⟩
  | .hbm, ⟨70, _⟩ => ⟨S256x2x4x128, .f32⟩
  | .hbm, ⟨71, _⟩ => ⟨S256x2x4x128, .f32⟩
  | .hbm, ⟨72, _⟩ => ⟨S256x2x4x128, .f32⟩
  | .hbm, ⟨73, _⟩ => ⟨S256x2x4x128x1, .f32⟩
  | .hbm, ⟨74, _⟩ => ⟨S256x2x4x128x256, .f32⟩
  | .hbm, ⟨75, _⟩ => ⟨S256x2x4x128x256, .f32⟩
  | .hbm, ⟨76, _⟩ => ⟨S256x2x4x128x256, .f32⟩
  | .hbm, ⟨77, _⟩ => ⟨S256x2x64x4x128, .f32⟩
  | .hbm, ⟨78, _⟩ => ⟨S256x128x2x4x64, .f32⟩
  | .hbm, ⟨79, _⟩ => ⟨S8x4096x512, .f32⟩
  | .hbm, ⟨80, _⟩ => ⟨S256x2x4x128, .f32⟩
  | .hbm, ⟨81, _⟩ => ⟨S256x2x4x128, .f32⟩
  | .hbm, ⟨82, _⟩ => ⟨S256x128x2x4, .f32⟩
  | .hbm, ⟨83, _⟩ => ⟨S256x128x2x4x1, .f32⟩
  | .hbm, ⟨84, _⟩ => ⟨S256x128x2x4x64, .f32⟩
  | .hbm, ⟨85, _⟩ => ⟨S8x4096x512, .f32⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_c_1 : Ref sig .tc := ⟨.hbm, 40, rfl⟩
abbrev main_v35 : Ref sig .tc := ⟨.hbm, 41, rfl⟩
abbrev main_v36 : Ref sig .tc := ⟨.hbm, 42, rfl⟩
abbrev main_c_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== Kernel6.lean ====
abbrev S8x4x1024x768 : Shape := ⟨4, ![8, 4, 1024, 768]⟩
abbrev S2x512x256 : Shape := ⟨3, ![2, 512, 256]⟩
abbrev S8x4x1024x512 : Shape := ⟨4, ![8, 4, 1024, 512]⟩
abbrev S1x2x1024x256 : Shape := ⟨4, ![1, 2, 1024, 256]⟩
abbrev S1x2x128x128 : Shape := ⟨4, ![1, 2, 128, 128]⟩
abbrev S1x2x1024x128 : Shape := ⟨4, ![1, 2, 1024, 128]⟩
abbrev S1x512x256 : Shape := ⟨3, ![1, 512, 256]⟩
abbrev S1x1x128x128 : Shape := ⟨4, ![1, 1, 128, 128]⟩
abbrev S128x128 : Shape := ⟨2, ![128, 128]⟩
abbrev S1x1x1024x128 : Shape := ⟨4, ![1, 1, 1024, 128]⟩
abbrev S1024x128 : Shape := ⟨2, ![1024, 128]⟩
abbrev S1280x128 : Shape := ⟨2, ![1280, 128]⟩
abbrev S512x256 : Shape := ⟨2, ![512, 256]⟩
abbrev S1x1x1024x256 : Shape := ⟨4, ![1, 1, 1024, 256]⟩
abbrev S1024x256 : Shape := ⟨2, ![1024, 256]⟩
abbrev S128x256 : Shape := ⟨2, ![128, 256]⟩
abbrev S128x64 : Shape := ⟨2, ![128, 64]⟩
abbrev S512x64 : Shape := ⟨2, ![512, 64]⟩
abbrev S256x128 : Shape := ⟨2, ![256, 128]⟩
abbrev S256x64 : Shape := ⟨2, ![256, 64]⟩
abbrev S512 : Shape := ⟨1, ![512]⟩
abbrev S512x1 : Shape := ⟨2, ![512, 1]⟩
abbrev S512x128 : Shape := ⟨2, ![512, 128]⟩
abbrev S256x256 : Shape := ⟨2, ![256, 256]⟩

abbrev nBuf : Space → Nat
  | .hbm => 4
  | .vmem => 14
  | .smem => 0
  | _ => 0

abbrev bufTy : (tb : Table) → Fin (tcTables nBuf tb) → BufTy
  | .hbm, ⟨0, _⟩ => ⟨S8x4x1024x768, .bf16⟩
  | .hbm, ⟨1, _⟩ => ⟨S2x512x256, .f32⟩
  | .hbm, ⟨2, _⟩ => ⟨S8x4x1024x512, .f32⟩
  | .hbm, ⟨3, _⟩ => ⟨S8x4x1024x512, .f32⟩
  | .local _ .vmem, ⟨0, _⟩ => ⟨S1x2x1024x256, .bf16⟩
  | .local _ .vmem, ⟨1, _⟩ => ⟨S1x2x1024x256, .bf16⟩
  | .local _ .vmem, ⟨2, _⟩ => ⟨S1x2x128x128, .bf16⟩
  | .local _ .vmem, ⟨3, _⟩ => ⟨S1x2x128x128, .bf16⟩
  | .local _ .vmem, ⟨4, _⟩ => ⟨S1x2x1024x128, .bf16⟩
  | .local _ .vmem, ⟨5, _⟩ => ⟨S1x2x1024x128, .bf16⟩
  | .local _ .vmem, ⟨6, _⟩ => ⟨S1x2x128x128, .bf16⟩
  | .local _ .vmem, ⟨7, _⟩ => ⟨S1x2x128x128, .bf16⟩
  | .local _ .vmem, ⟨8, _⟩ => ⟨S1x512x256, .f32⟩
  | .local _ .vmem, ⟨9, _⟩ => ⟨S1x512x256, .f32⟩
  | .local _ .vmem, ⟨10, _⟩ => ⟨S1x2x1024x256, .f32⟩
  | .local _ .vmem, ⟨11, _⟩ => ⟨S1x2x1024x256, .f32⟩
  | .local _ .vmem, ⟨12, _⟩ => ⟨S1x2x1024x256, .f32⟩
  | .local _ .vmem, ⟨13, _⟩ => ⟨S1x2x1024x256, .f32⟩
  | _, _ => ⟨S8x4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![8, 2, 2, 1], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c0_i32_0 : BitVec 32 := 0#32
  ![arg0.toNat, arg1.toNat, arg3.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg3 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg2
  let c0_i32_0 : BitVec 32 := 0#32
  ![arg0.toNat, arg1.toNat, v2.toNat, v3.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.addi c4_i32 arg2
  let c0_i32 : BitVec 32 := 0#32
  ![arg0.toNat, arg1.toNat, arg3.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg3 c1_i32
  let c8_i32 : BitVec 32 := 8#32
  let v1 : BitVec 32 := Scalar.muli v0 c8_i32
  let c7_i32 : BitVec 32 := 7#32
  let v2 : BitVec 32 := Scalar.minsi v1 c7_i32
  let c4_i32 : BitVec 32 := 4#32
  let v3 : BitVec 32 := Scalar.addi c4_i32 arg2
  let c0_i32 : BitVec 32 := 0#32
  ![arg0.toNat, arg1.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat, arg2.toNat]

abbrev stage0_0 : Fin 2 → Memref sig .tc .vmem S1x2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x2x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, false]

abbrev stage0_5 : Fin 2 → Memref sig .tc .vmem S1x2x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x2x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== Kernel6Ideal.lean ====
variable {F : FTy → Type} [FloatOps F] [Named F]
def κ : String → Option EReal := fun
  | "log2e" => some (((Real.log 2)⁻¹ : ℝ) : EReal)
  | "mask" => some ⊥
  | _ => none
-- ==== Reference6Ideal.lean ====
abbrev S8x4x1024x768 : Shape := ⟨4, ![8, 4, 1024, 768]⟩
abbrev S2x512x256 : Shape := ⟨3, ![2, 512, 256]⟩
abbrev S_ : Shape := ⟨0, ![]⟩
abbrev S32x1024x768 : Shape := ⟨3, ![32, 1024, 768]⟩
abbrev S32x1024x512 : Shape := ⟨3, ![32, 1024, 512]⟩
abbrev S256x128x2x4x64 : Shape := ⟨5, ![256, 128, 2, 4, 64]⟩
abbrev S32x1024x256 : Shape := ⟨3, ![32, 1024, 256]⟩
abbrev S32x1024x2x2x64 : Shape := ⟨5, ![32, 1024, 2, 2, 64]⟩
abbrev S32x64x2x64 : Shape := ⟨4, ![32, 64, 2, 64]⟩
abbrev S32x1024x2x1x64 : Shape := ⟨5, ![32, 1024, 2, 1, 64]⟩
abbrev S32x1024x2x64 : Shape := ⟨4, ![32, 1024, 2, 64]⟩
abbrev S32x1152x2x64 : Shape := ⟨4, ![32, 1152, 2, 64]⟩
abbrev S32x9x128x2x64 : Shape := ⟨5, ![32, 9, 128, 2, 64]⟩
abbrev S32x8x128x2x64 : Shape := ⟨5, ![32, 8, 128, 2, 64]⟩
abbrev S32x8x256x2x64 : Shape := ⟨5, ![32, 8, 256, 2, 64]⟩
abbrev S256x256x2x64 : Shape := ⟨4, ![256, 256, 2, 64]⟩
abbrev S8 : Shape := ⟨1, ![8]⟩
abbrev S8x1 : Shape := ⟨2, ![8, 1]⟩
abbrev S256 : Shape := ⟨1, ![256]⟩
abbrev S1x256 : Shape := ⟨2, ![1, 256]⟩
abbrev S8x256 : Shape := ⟨2, ![8, 256]⟩
abbrev S32x8x256 : Shape := ⟨3, ![32, 8, 256]⟩
abbrev S256x256 : Shape := ⟨2, ![256, 256]⟩
abbrev S256x2x256x128x4 : Shape := ⟨5, ![256, 2, 256, 128, 4]⟩
abbrev S256x2x4x128x256 : Shape := ⟨5, ![256, 2, 4, 128, 256]⟩
abbrev S2x4x128x256 : Shape := ⟨4, ![2, 4, 128, 256]⟩
abbrev S1x2x4x128x256 : Shape := ⟨5, ![1, 2, 4, 128, 256]⟩
abbrev S256x1x1x1x256 : Shape := ⟨5, ![256, 1, 1, 1, 256]⟩
abbrev S256x2x4x128 : Shape := ⟨4, ![256, 2, 4, 128]⟩
abbrev S256x2x4x128x1 : Shape := ⟨5, ![256, 2, 4, 128, 1]⟩
abbrev S256x2x64x4x128 : Shape := ⟨5, ![256, 2, 64, 4, 128]⟩
abbrev S8x4x1024x512 : Shape := ⟨4, ![8, 4, 1024, 512]⟩
abbrev S256x128x2x4 : Shape := ⟨4, ![256, 128, 2, 4]⟩
abbrev S256x128x2x4x1 : Shape := ⟨5, ![256, 128, 2, 4, 1]⟩

abbrev nBuf : Space → Nat
  | .hbm => 86
  | .vmem => 0
  | .smem => 0
  | _ => 0

abbrev bufTy : (tb : Table) → Fin (tcTables nBuf tb) → BufTy
  | .hbm, ⟨0, _⟩ => ⟨S8x4x1024x768, .bf16⟩
  | .hbm, ⟨1, _⟩ => ⟨S2x512x256, .f32⟩
  | .hbm, ⟨2, _⟩ => ⟨S_, .f32⟩
  | .hbm, ⟨3, _⟩ => ⟨S_, .f32⟩
  | .hbm, ⟨4, _⟩ => ⟨S8x4x1024x768, .f32⟩
  | .hbm, ⟨5, _⟩ => ⟨S32x1024x768, .f32⟩
  | .hbm, ⟨6, _⟩ => ⟨S32x1024x512, .f32⟩
  | .hbm, ⟨7, _⟩ => ⟨S256x128x2x4x64, .f32⟩
  | .hbm, ⟨8, _⟩ => ⟨S256x128x2x4x64, .f32⟩
  | .hbm, ⟨9, _⟩ => ⟨S256x128x2x4x64, .f32⟩
  | .hbm, ⟨10, _⟩ => ⟨S32x1024x256, .f32⟩
  | .hbm, ⟨11, _⟩ => ⟨S32x1024x2x2x64, .f32⟩
  | .hbm, ⟨12, _⟩ => ⟨S_, .f32⟩
  | .hbm, ⟨13, _⟩ => ⟨S32x64x2x64, .f32⟩
  | .hbm, ⟨14, _⟩ => ⟨S32x1024x2x1x64, .f32⟩
  | .hbm, ⟨15, _⟩ => ⟨S32x1024x2x64, .f32⟩
  | .hbm, ⟨16, _⟩ => ⟨S32x1152x2x64, .f32⟩
  | .hbm, ⟨17, _⟩ => ⟨S32x9x128x2x64, .f32⟩
  | .hbm, ⟨18, _⟩ => ⟨S32x8x128x2x64, .f32⟩
  | .hbm, ⟨19, _⟩ => ⟨S32x8x128x2x64, .f32⟩
  | .hbm, ⟨20, _⟩ => ⟨S32x8x256x2x64, .f32⟩
  | .hbm, ⟨21, _⟩ => ⟨S256x256x2x64, .f32⟩
  | .hbm, ⟨22, _⟩ => ⟨S32x1024x2x1x64, .f32⟩
  | .hbm, ⟨23, _⟩ => ⟨S32x1024x2x64, .f32⟩
  | .hbm, ⟨24, _⟩ => ⟨S32x1152x2x64, .f32⟩
  | .hbm, ⟨25, _⟩ => ⟨S32x9x128x2x64, .f32⟩
  | .hbm, ⟨26, _⟩ => ⟨S32x8x128x2x64, .f32⟩
  | .hbm, ⟨27, _⟩ => ⟨S32x8x128x2x64, .f32⟩
  | .hbm, ⟨28, _⟩ => ⟨S32x8x256x2x64, .f32⟩
  | .hbm, ⟨29, _⟩ => ⟨S256x256x2x64, .f32⟩
  | .hbm, ⟨30, _⟩ => ⟨S8, .i32⟩
  | .hbm, ⟨31, _⟩ => ⟨S8x1, .i32⟩
  | .hbm, ⟨32, _⟩ => ⟨S_, .i32⟩
  | .hbm, ⟨33, _⟩ => ⟨S8x1, .i32⟩
  | .hbm, ⟨34, _⟩ => ⟨S8x1, .i32⟩
  | .hbm, ⟨35, _⟩ => ⟨S256, .i32⟩
  | .hbm, ⟨36, _⟩ => ⟨S1x256, .i32⟩
  | .hbm, ⟨37, _⟩ => ⟨S8x256, .i32⟩
  | .hbm, ⟨38, _⟩ => ⟨S8x256, .i32⟩
  | .hbm, ⟨39, _⟩ => ⟨S8x256, .i32⟩
  | .hbm, ⟨40, _⟩ => ⟨S_, .i32⟩
  | .hbm, ⟨41, _⟩ => ⟨S8x256, .i32⟩
  | .hbm, ⟨42, _⟩ => ⟨S8x256, .i1⟩
  | .hbm, ⟨43, _⟩ => ⟨S_, .i32⟩
  | .hbm, ⟨44, _⟩ => ⟨S8x256, .i32⟩
  | .hbm, ⟨45, _⟩ => ⟨S8x256, .i1⟩
  | .hbm, ⟨46, _⟩ => ⟨S8x256, .i1⟩
  | .hbm, ⟨47, _⟩ => ⟨S32x8x256, .i1⟩
  | .hbm, ⟨48, _⟩ => ⟨S256x256, .i1⟩
  | .hbm, ⟨49, _⟩ => ⟨S256x2x256x128x4, .f32⟩
  | .hbm, ⟨50, _⟩ => ⟨S256x2x4x128x256, .f32⟩
  | .hbm, ⟨51, _⟩ => ⟨S2x4x128x256, .f32⟩
  | .hbm, ⟨52, _⟩ => ⟨S2x4x128x256, .f32⟩
  | .hbm, ⟨53, _⟩ => ⟨S2x4x128x256, .f32⟩
  | .hbm, ⟨54, _⟩ => ⟨S1x2x4x128x256, .f32⟩
  | .hbm, ⟨55, _⟩ => ⟨S256x2x4x128x256, .f32⟩
  | .hbm, ⟨56, _⟩ => ⟨S256x2x4x128x256, .f32⟩
  | .hbm, ⟨57, _⟩ => ⟨S256x1x1x1x256, .i1⟩
  | .hbm, ⟨58, _⟩ => ⟨S_, .f32⟩
  | .hbm, ⟨59, _⟩ => ⟨S_, .f32⟩
  | .hbm, ⟨60, _⟩ => ⟨S256x2x4x128x256, .i1⟩
  | .hbm, ⟨61, _⟩ => ⟨S256x2x4x128x256, .f32⟩
  | .hbm, ⟨62, _⟩ => ⟨S256x2x4x128x256, .f32⟩
  | .hbm, ⟨63, _⟩ => ⟨S_, .f32⟩
  | .hbm, ⟨64, _⟩ => ⟨S256x2x4x128, .f32⟩
  | .hbm, ⟨65, _⟩ => ⟨S256x2x4x128x1, .f32⟩
  | .hbm, ⟨66, _⟩ => ⟨S256x2x4x128x256, .f32⟩
  | .hbm, ⟨67, _⟩ => ⟨S256x2x4x128x256, .f32⟩
  | .hbm, ⟨68, _⟩ => ⟨S256x2x4x128x256, .f32⟩
  | .hbm, ⟨69, _⟩ => ⟨S_, .f32⟩
  | .hbm, ⟨70, _⟩ => ⟨S256x2x4x128, .f32⟩
  | .hbm, ⟨71, _⟩ => ⟨S256x2x4x128, .f32⟩
  | .hbm, ⟨72, _⟩ => ⟨S256x2x4x128, .f32⟩
  | .hbm, ⟨73, _⟩ => ⟨S256x2x4x128x1, .f32⟩
  | .hbm, ⟨74, _⟩ => ⟨S256x2x4x128x256, .f32⟩
  | .hbm, ⟨75, _⟩ => ⟨S256x2x4x128x256, .f32⟩
  | .hbm, ⟨76, _⟩ => ⟨S256x2x4x128x256, .f32⟩
  | .hbm, ⟨77, _⟩ => ⟨S256x2x64x4x128, .f32⟩
  | .hbm, ⟨78, _⟩ => ⟨S256x128x2x4x64, .f32⟩
  | .hbm, ⟨79, _⟩ => ⟨S8x4x1024x512, .f32⟩
  | .hbm, ⟨80, _⟩ => ⟨S256x2x4x128, .f32⟩
  | .hbm, ⟨81, _⟩ => ⟨S256x2x4x128, .f32⟩
  | .hbm, ⟨82, _⟩ => ⟨S256x128x2x4, .f32⟩
  | .hbm, ⟨83, _⟩ => ⟨S256x128x2x4x1, .f32⟩
  | .hbm, ⟨84, _⟩ => ⟨S256x128x2x4x64, .f32⟩
  | .hbm, ⟨85, _⟩ => ⟨S8x4x1024x512, .f32⟩
  | _, _ => ⟨S8x4x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_c_1 : Ref sig .tc := ⟨.hbm, 40, rfl⟩
abbrev main_v35 : Ref sig .tc := ⟨.hbm, 41, rfl⟩
abbrev main_v36 : Ref sig .tc := ⟨.hbm, 42, rfl⟩
abbrev main_c_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== Kernel7.lean ====
abbrev S8x16x256x768 : Shape := ⟨4, ![8, 16, 256, 768]⟩
abbrev S2x512x256 : Shape := ⟨3, ![2, 512, 256]⟩
abbrev S8x16x256x512 : Shape := ⟨4, ![8, 16, 256, 512]⟩
abbrev S1x8x256x256 : Shape := ⟨4, ![1, 8, 256, 256]⟩
abbrev S1x8x128x128 : Shape := ⟨4, ![1, 8, 128, 128]⟩
abbrev S1x8x256x128 : Shape := ⟨4, ![1, 8, 256, 128]⟩
abbrev S1x512x256 : Shape := ⟨3, ![1, 512, 256]⟩
abbrev S1x1x128x128 : Shape := ⟨4, ![1, 1, 128, 128]⟩
abbrev S128x128 : Shape := ⟨2, ![128, 128]⟩
abbrev S1x1x256x128 : Shape := ⟨4, ![1, 1, 256, 128]⟩
abbrev S256x128 : Shape := ⟨2, ![256, 128]⟩
abbrev S512x128 : Shape := ⟨2, ![512, 128]⟩
abbrev S512x256 : Shape := ⟨2, ![512, 256]⟩
abbrev S1x1x256x256 : Shape := ⟨4, ![1, 1, 256, 256]⟩
abbrev S256x256 : Shape := ⟨2, ![256, 256]⟩
abbrev S128x256 : Shape := ⟨2, ![128, 256]⟩
abbrev S128x64 : Shape := ⟨2, ![128, 64]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 4
  | .vmem => 14
  | .smem => 0
  | _ => 0

abbrev bufTy : (tb : Table) → Fin (tcTables nBuf tb) → BufTy
  | .hbm, ⟨0, _⟩ => ⟨S8x16x256x768, .bf16⟩
  | .hbm, ⟨1, _⟩ => ⟨S2x512x256, .f32⟩
  | .hbm, ⟨2, _⟩ => ⟨S8x16x256x512, .f32⟩
  | .hbm, ⟨3, _⟩ => ⟨S8x16x256x512, .f32⟩
  | .local _ .vmem, ⟨0, _⟩ => ⟨S1x8x256x256, .bf16⟩
  | .local _ .vmem, ⟨1, _⟩ => ⟨S1x8x256x256, .bf16⟩
  | .local _ .vmem, ⟨2, _⟩ => ⟨S1x8x128x128, .bf16⟩
  | .local _ .vmem, ⟨3, _⟩ => ⟨S1x8x128x128, .bf16⟩
  | .local _ .vmem, ⟨4, _⟩ => ⟨S1x8x256x128, .bf16⟩
  | .local _ .vmem, ⟨5, _⟩ => ⟨S1x8x256x128, .bf16⟩
  | .local _ .vmem, ⟨6, _⟩ => ⟨S1x8x128x128, .bf16⟩
  | .local _ .vmem, ⟨7, _⟩ => ⟨S1x8x128x128, .bf16⟩
  | .local _ .vmem, ⟨8, _⟩ => ⟨S1x512x256, .f32⟩
  | .local _ .vmem, ⟨9, _⟩ => ⟨S1x512x256, .f32⟩
  | .local _ .vmem, ⟨10, _⟩ => ⟨S1x8x256x256, .f32⟩
  | .local _ .vmem, ⟨11, _⟩ => ⟨S1x8x256x256, .f32⟩
  | .local _ .vmem, ⟨12, _⟩ => ⟨S1x8x256x256, .f32⟩
  | .local _ .vmem, ⟨13, _⟩ => ⟨S1x8x256x256, .f32⟩
  | _, _ => ⟨S8x16x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![8, 2, 2, 1], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c0_i32_0 : BitVec 32 := 0#32
  ![arg0.toNat, arg1.toNat, arg3.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg3 c2_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg2
  let c0_i32_0 : BitVec 32 := 0#32
  ![arg0.toNat, arg1.toNat, v2.toNat, v3.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.addi c4_i32 arg2
  let c0_i32 : BitVec 32 := 0#32
  ![arg0.toNat, arg1.toNat, arg3.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg3 c1_i32
  let c2_i32 : BitVec 32 := 2#32
  let v1 : BitVec 32 := Scalar.muli v0 c2_i32
  let c1_i32_0 : BitVec 32 := 1#32
  let v2 : BitVec 32 := Scalar.minsi v1 c1_i32_0
  let c4_i32 : BitVec 32 := 4#32
  let v3 : BitVec 32 := Scalar.addi c4_i32 arg2
  let c0_i32 : BitVec 32 := 0#32
  ![arg0.toNat, arg1.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat, arg2.toNat]

abbrev stage0_0 : Fin 2 → Memref sig .tc .vmem S1x8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, false]

abbrev stage0_5 : Fin 2 → Memref sig .tc .vmem S1x8x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x8x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== Kernel7Ideal.lean ====
variable {F : FTy → Type} [FloatOps F] [Named F]
def κ : String → Option EReal := fun
  | "log2e" => some (((Real.log 2)⁻¹ : ℝ) : EReal)
  | "mask" => some ⊥
  | _ => none
-- ==== Reference7Ideal.lean ====
abbrev S8x16x256x768 : Shape := ⟨4, ![8, 16, 256, 768]⟩
abbrev S2x512x256 : Shape := ⟨3, ![2, 512, 256]⟩
abbrev S_ : Shape := ⟨0, ![]⟩
abbrev S128x256x768 : Shape := ⟨3, ![128, 256, 768]⟩
abbrev S128x256x512 : Shape := ⟨3, ![128, 256, 512]⟩
abbrev S256x128x2x4x64 : Shape := ⟨5, ![256, 128, 2, 4, 64]⟩
abbrev S128x256x256 : Shape := ⟨3, ![128, 256, 256]⟩
abbrev S128x256x2x2x64 : Shape := ⟨5, ![128, 256, 2, 2, 64]⟩
abbrev S128x64x2x64 : Shape := ⟨4, ![128, 64, 2, 64]⟩
abbrev S128x256x2x1x64 : Shape := ⟨5, ![128, 256, 2, 1, 64]⟩
abbrev S128x256x2x64 : Shape := ⟨4, ![128, 256, 2, 64]⟩
abbrev S128x384x2x64 : Shape := ⟨4, ![128, 384, 2, 64]⟩
abbrev S128x3x128x2x64 : Shape := ⟨5, ![128, 3, 128, 2, 64]⟩
abbrev S128x2x128x2x64 : Shape := ⟨5, ![128, 2, 128, 2, 64]⟩
abbrev S128x2x256x2x64 : Shape := ⟨5, ![128, 2, 256, 2, 64]⟩
abbrev S256x256x2x64 : Shape := ⟨4, ![256, 256, 2, 64]⟩
abbrev S2 : Shape := ⟨1, ![2]⟩
abbrev S2x1 : Shape := ⟨2, ![2, 1]⟩
abbrev S256 : Shape := ⟨1, ![256]⟩
abbrev S1x256 : Shape := ⟨2, ![1, 256]⟩
abbrev S2x256 : Shape := ⟨2, ![2, 256]⟩
abbrev S128x2x256 : Shape := ⟨3, ![128, 2, 256]⟩
abbrev S256x256 : Shape := ⟨2, ![256, 256]⟩
abbrev S256x2x256x128x4 : Shape := ⟨5, ![256, 2, 256, 128, 4]⟩
abbrev S256x2x4x128x256 : Shape := ⟨5, ![256, 2, 4, 128, 256]⟩
abbrev S2x4x128x256 : Shape := ⟨4, ![2, 4, 128, 256]⟩
abbrev S1x2x4x128x256 : Shape := ⟨5, ![1, 2, 4, 128, 256]⟩
abbrev S256x1x1x1x256 : Shape := ⟨5, ![256, 1, 1, 1, 256]⟩
abbrev S256x2x4x128 : Shape := ⟨4, ![256, 2, 4, 128]⟩
abbrev S256x2x4x128x1 : Shape := ⟨5, ![256, 2, 4, 128, 1]⟩
abbrev S256x2x64x4x128 : Shape := ⟨5, ![256, 2, 64, 4, 128]⟩
abbrev S8x16x256x512 : Shape := ⟨4, ![8, 16, 256, 512]⟩
abbrev S256x128x2x4 : Shape := ⟨4, ![256, 128, 2, 4]⟩
abbrev S256x128x2x4x1 : Shape := ⟨5, ![256, 128, 2, 4, 1]⟩

abbrev nBuf : Space → Nat
  | .hbm => 86
  | .vmem => 0
  | .smem => 0
  | _ => 0

abbrev bufTy : (tb : Table) → Fin (tcTables nBuf tb) → BufTy
  | .hbm, ⟨0, _⟩ => ⟨S8x16x256x768, .bf16⟩
  | .hbm, ⟨1, _⟩ => ⟨S2x512x256, .f32⟩
  | .hbm, ⟨2, _⟩ => ⟨S_, .f32⟩
  | .hbm, ⟨3, _⟩ => ⟨S_, .f32⟩
  | .hbm, ⟨4, _⟩ => ⟨S8x16x256x768, .f32⟩
  | .hbm, ⟨5, _⟩ => ⟨S128x256x768, .f32⟩
  | .hbm, ⟨6, _⟩ => ⟨S128x256x512, .f32⟩
  | .hbm, ⟨7, _⟩ => ⟨S256x128x2x4x64, .f32⟩
  | .hbm, ⟨8, _⟩ => ⟨S256x128x2x4x64, .f32⟩
  | .hbm, ⟨9, _⟩ => ⟨S256x128x2x4x64, .f32⟩
  | .hbm, ⟨10, _⟩ => ⟨S128x256x256, .f32⟩
  | .hbm, ⟨11, _⟩ => ⟨S128x256x2x2x64, .f32⟩
  | .hbm, ⟨12, _⟩ => ⟨S_, .f32⟩
  | .hbm, ⟨13, _⟩ => ⟨S128x64x2x64, .f32⟩
  | .hbm, ⟨14, _⟩ => ⟨S128x256x2x1x64, .f32⟩
  | .hbm, ⟨15, _⟩ => ⟨S128x256x2x64, .f32⟩
  | .hbm, ⟨16, _⟩ => ⟨S128x384x2x64, .f32⟩
  | .hbm, ⟨17, _⟩ => ⟨S128x3x128x2x64, .f32⟩
  | .hbm, ⟨18, _⟩ => ⟨S128x2x128x2x64, .f32⟩
  | .hbm, ⟨19, _⟩ => ⟨S128x2x128x2x64, .f32⟩
  | .hbm, ⟨20, _⟩ => ⟨S128x2x256x2x64, .f32⟩
  | .hbm, ⟨21, _⟩ => ⟨S256x256x2x64, .f32⟩
  | .hbm, ⟨22, _⟩ => ⟨S128x256x2x1x64, .f32⟩
  | .hbm, ⟨23, _⟩ => ⟨S128x256x2x64, .f32⟩
  | .hbm, ⟨24, _⟩ => ⟨S128x384x2x64, .f32⟩
  | .hbm, ⟨25, _⟩ => ⟨S128x3x128x2x64, .f32⟩
  | .hbm, ⟨26, _⟩ => ⟨S128x2x128x2x64, .f32⟩
  | .hbm, ⟨27, _⟩ => ⟨S128x2x128x2x64, .f32⟩
  | .hbm, ⟨28, _⟩ => ⟨S128x2x256x2x64, .f32⟩
  | .hbm, ⟨29, _⟩ => ⟨S256x256x2x64, .f32⟩
  | .hbm, ⟨30, _⟩ => ⟨S2, .i32⟩
  | .hbm, ⟨31, _⟩ => ⟨S2x1, .i32⟩
  | .hbm, ⟨32, _⟩ => ⟨S_, .i32⟩
  | .hbm, ⟨33, _⟩ => ⟨S2x1, .i32⟩
  | .hbm, ⟨34, _⟩ => ⟨S2x1, .i32⟩
  | .hbm, ⟨35, _⟩ => ⟨S256, .i32⟩
  | .hbm, ⟨36, _⟩ => ⟨S1x256, .i32⟩
  | .hbm, ⟨37, _⟩ => ⟨S2x256, .i32⟩
  | .hbm, ⟨38, _⟩ => ⟨S2x256, .i32⟩
  | .hbm, ⟨39, _⟩ => ⟨S2x256, .i32⟩
  | .hbm, ⟨40, _⟩ => ⟨S_, .i32⟩
  | .hbm, ⟨41, _⟩ => ⟨S2x256, .i32⟩
  | .hbm, ⟨42, _⟩ => ⟨S2x256, .i1⟩
  | .hbm, ⟨43, _⟩ => ⟨S_, .i32⟩
  | .hbm, ⟨44, _⟩ => ⟨S2x256, .i32⟩
  | .hbm, ⟨45, _⟩ => ⟨S2x256, .i1⟩
  | .hbm, ⟨46, _⟩ => ⟨S2x256, .i1⟩
  | .hbm, ⟨47, _⟩ => ⟨S128x2x256, .i1⟩
  | .hbm, ⟨48, _⟩ => ⟨S256x256, .i1⟩
  | .hbm, ⟨49, _⟩ => ⟨S256x2x256x128x4, .f32⟩
  | .hbm, ⟨50, _⟩ => ⟨S256x2x4x128x256, .f32⟩
  | .hbm, ⟨51, _⟩ => ⟨S2x4x128x256, .f32⟩
  | .hbm, ⟨52, _⟩ => ⟨S2x4x128x256, .f32⟩
  | .hbm, ⟨53, _⟩ => ⟨S2x4x128x256, .f32⟩
  | .hbm, ⟨54, _⟩ => ⟨S1x2x4x128x256, .f32⟩
  | .hbm, ⟨55, _⟩ => ⟨S256x2x4x128x256, .f32⟩
  | .hbm, ⟨56, _⟩ => ⟨S256x2x4x128x256, .f32⟩
  | .hbm, ⟨57, _⟩ => ⟨S256x1x1x1x256, .i1⟩
  | .hbm, ⟨58, _⟩ => ⟨S_, .f32⟩
  | .hbm, ⟨59, _⟩ => ⟨S_, .f32⟩
  | .hbm, ⟨60, _⟩ => ⟨S256x2x4x128x256, .i1⟩
  | .hbm, ⟨61, _⟩ => ⟨S256x2x4x128x256, .f32⟩
  | .hbm, ⟨62, _⟩ => ⟨S256x2x4x128x256, .f32⟩
  | .hbm, ⟨63, _⟩ => ⟨S_, .f32⟩
  | .hbm, ⟨64, _⟩ => ⟨S256x2x4x128, .f32⟩
  | .hbm, ⟨65, _⟩ => ⟨S256x2x4x128x1, .f32⟩
  | .hbm, ⟨66, _⟩ => ⟨S256x2x4x128x256, .f32⟩
  | .hbm, ⟨67, _⟩ => ⟨S256x2x4x128x256, .f32⟩
  | .hbm, ⟨68, _⟩ => ⟨S256x2x4x128x256, .f32⟩
  | .hbm, ⟨69, _⟩ => ⟨S_, .f32⟩
  | .hbm, ⟨70, _⟩ => ⟨S256x2x4x128, .f32⟩
  | .hbm, ⟨71, _⟩ => ⟨S256x2x4x128, .f32⟩
  | .hbm, ⟨72, _⟩ => ⟨S256x2x4x128, .f32⟩
  | .hbm, ⟨73, _⟩ => ⟨S256x2x4x128x1, .f32⟩
  | .hbm, ⟨74, _⟩ => ⟨S256x2x4x128x256, .f32⟩
  | .hbm, ⟨75, _⟩ => ⟨S256x2x4x128x256, .f32⟩
  | .hbm, ⟨76, _⟩ => ⟨S256x2x4x128x256, .f32⟩
  | .hbm, ⟨77, _⟩ => ⟨S256x2x64x4x128, .f32⟩
  | .hbm, ⟨78, _⟩ => ⟨S256x128x2x4x64, .f32⟩
  | .hbm, ⟨79, _⟩ => ⟨S8x16x256x512, .f32⟩
  | .hbm, ⟨80, _⟩ => ⟨S256x2x4x128, .f32⟩
  | .hbm, ⟨81, _⟩ => ⟨S256x2x4x128, .f32⟩
  | .hbm, ⟨82, _⟩ => ⟨S256x128x2x4, .f32⟩
  | .hbm, ⟨83, _⟩ => ⟨S256x128x2x4x1, .f32⟩
  | .hbm, ⟨84, _⟩ => ⟨S256x128x2x4x64, .f32⟩
  | .hbm, ⟨85, _⟩ => ⟨S8x16x256x512, .f32⟩
  | _, _ => ⟨S8x16x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_c_1 : Ref sig .tc := ⟨.hbm, 40, rfl⟩
abbrev main_v35 : Ref sig .tc := ⟨.hbm, 41, rfl⟩
abbrev main_v36 : Ref sig .tc := ⟨.hbm, 42, rfl⟩
abbrev main_c_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== Proof.Attn.Math.lean ====
/- The arithmetic of attention computed block by block, over the extended reals: a running maximum and a running sum
   that is rescaled whenever the maximum moves.  When every score is a real number, the rescaled sums, divided by the
   rescaled sum of ones, are the sums weighted by the softmax of the scores.  The values summed are any extended reals. -/
module

public import Idealize.ShloMosaic.PureOps.Ideal
public import Mathlib.Data.EReal.Operations
public import Mathlib.Analysis.SpecialFunctions.Pow.Real
public import Mathlib.Logic.Equiv.Fin.Basic

@[expose] public section

noncomputable section

namespace Cert.Attn

open Idealize.ShloMosaic

/-- The maximum of a real number and finitely many others is a real number. -/
theorem max_fold_real {ι : Type} (s : Finset ι) (r : ι → ℝ) (M : ℝ) :
    ∃ M' : ℝ, max (M : EReal) (s.fold max ⊥ fun i => (r i : EReal)) = (M' : EReal) := by
  classical
  induction s using Finset.induction_on with
  | empty => exact ⟨M, by simp⟩
  | insert a s ha ih =>
    obtain ⟨M', h⟩ := ih
    refine ⟨max (r a) M', ?_⟩
    rw [Finset.fold_insert ha, max_left_comm, h]
    exact (EReal.coe_strictMono.monotone.map_max).symm

/-- The maximum of at least one real number is a real number. -/
theorem fold_max_real {ι : Type} (s : Finset ι) (hs : s.Nonempty) (r : ι → ℝ) :
    ∃ M : ℝ, (s.fold max ⊥ fun i => (r i : EReal)) = (M : EReal) := by
  classical
  obtain ⟨a, ha⟩ := hs
  obtain ⟨M, h⟩ := max_fold_real (s.erase a) r (r a)
  refine ⟨M, ?_⟩
  rw [← h]
  conv_lhs => rw [← Finset.insert_erase ha]
  exact Finset.fold_insert (Finset.notMem_erase a s)

/-- A nonnegative real factor goes under a sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A sum of real numbers, as extended reals, is a real number. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum after `n` blocks of scores. -/
def runMax (m₀ : EReal) (S : ℕ → Fin 512 → EReal) : ℕ → EReal
  | 0 => m₀
  | n + 1 => max (runMax m₀ S n) (Finset.univ.fold max ⊥ (S n))

/-- The running sum after `n` blocks: the sum so far rescaled to the new maximum, and the block's terms added. -/
def runSum (m₀ : EReal) (S V : ℕ → Fin 512 → EReal) : ℕ → EReal
  | 0 => 0
  | n + 1 => Ideal.exp2 (runMax m₀ S n - runMax m₀ S (n + 1)) * runSum m₀ S V n
      + ∑ l, Ideal.exp2 (S n l - runMax m₀ S (n + 1)) * V n l

theorem exp2_sub (a b : ℝ) : Ideal.exp2 ((a : EReal) - (b : EReal)) = (((2 : ℝ) ^ (a - b) : ℝ) : EReal) := by
  rw [← EReal.coe_sub]; rfl

theorem exp_sub (a b : ℝ) : Ideal.exp ((a : EReal) - (b : EReal)) = ((Real.exp (a - b) : ℝ) : EReal) := by
  rw [← EReal.coe_sub]; rfl

/-- Division by a real number other than zero multiplies by its inverse. -/
theorem div_coe (x : EReal) (L : ℝ) (hL : L ≠ 0) : Ideal.div x (L : EReal) = x * ((L⁻¹ : ℝ) : EReal) := by
  rw [Ideal.div, if_neg fun h => hL (EReal.coe_eq_zero.mp h), EReal.coe_inv]

/-- What the running sum is: every term so far, scaled to the maximum so far. -/
theorem runSum_eq (M₀ : ℝ) (r : ℕ → Fin 512 → ℝ) (n : ℕ) :
    ∃ M : ℝ, runMax M₀ (fun j l => (r j l : EReal)) n = (M : EReal) ∧
      ∀ V : ℕ → Fin 512 → EReal, runSum M₀ (fun j l => (r j l : EReal)) V n
        = ∑ j ∈ Finset.range n, ∑ l, (((2 : ℝ) ^ (r j l - M) : ℝ) : EReal) * V j l := by
  induction n with
  | zero => exact ⟨M₀, rfl, fun V => by simp [runSum]⟩
  | succ n ih =>
    obtain ⟨M, hM, hs⟩ := ih
    obtain ⟨M', hM'⟩ := max_fold_real Finset.univ (r n) M
    have hmax : runMax M₀ (fun j l => (r j l : EReal)) (n + 1) = (M' : EReal) := by
      rw [runMax, hM]; exact hM'
    refine ⟨M', hmax, fun V => ?_⟩
    rw [runSum, hmax, hM, hs V, Finset.sum_range_succ, exp2_sub, coe_mul_sum _ _ (by positivity)]
    congr 1
    · refine Finset.sum_congr rfl fun j _ => ?_
      rw [coe_mul_sum _ _ (by positivity)]
      refine Finset.sum_congr rfl fun l _ => ?_
      rw [← mul_assoc, ← EReal.coe_mul, ← Real.rpow_add two_pos]
      congr 3; ring

theorem scale_eq (L w t : ℝ) (hL : L ≠ 0) (ht : t ≠ 0) : L⁻¹ * w = w * t * (L * t)⁻¹ := by
  field_simp

/-- The pair (block, row of the block) as the row of all. -/
def rowOf (j : ℕ) (l : Fin 512) : Fin 4096 := Fin.ofNat 4096 (512 * j + l.val)

/-- A sum over the eight blocks' rows is the sum over all the rows. -/
theorem sum_blocks {M : Type} [AddCommMonoid M] (f : Fin 4096 → M) :
    ∑ j ∈ Finset.range 8, ∑ l, f (rowOf j l) = ∑ k, f k := by
  rw [Finset.sum_range, ← (finProdFinEquiv : Fin 8 × Fin 512 ≃ Fin (8 * 512)).sum_comp f, Fintype.sum_prod_type]
  refine Finset.sum_congr rfl fun j _ => Finset.sum_congr rfl fun l _ => congrArg f (Fin.ext ?_)
  have h1 := j.isLt
  have h2 := l.isLt
  show (512 * j.val + l.val) % 4096 = l.val + 512 * j.val
  omega

/-- One row of attention: the blockwise quotient is the sum of the values weighted by the softmax of the scores (base
    e, of the scores times `log 2`), whatever real number `M` the softmax subtracts. -/
theorem attention_row (M₀ M : ℝ) (r : Fin 4096 → ℝ) (V : Fin 4096 → EReal) :
    Ideal.div (runSum M₀ (fun j l => (r (rowOf j l) : EReal)) (fun j l => V (rowOf j l)) 8)
        (runSum M₀ (fun j l => (r (rowOf j l) : EReal)) (fun _ _ => 1) 8)
      = ∑ k, V k * Ideal.div (Ideal.exp (((r k * Real.log 2 : ℝ) : EReal) - (M : EReal)))
          (∑ k', Ideal.exp (((r k' * Real.log 2 : ℝ) : EReal) - (M : EReal))) := by
  obtain ⟨N, -, hs⟩ := runSum_eq M₀ (fun j l => r (rowOf j l)) 8
  rw [hs, hs]
  set w : Fin 4096 → ℝ := fun k => (2 : ℝ) ^ (r k - N) with hw
  set L : ℝ := ∑ k, w k with hL
  have hwpos : ∀ k, 0 < w k := fun k => by rw [hw]; positivity
  have hLpos : 0 < L := Finset.sum_pos (fun k _ => hwpos k) ⟨0, Finset.mem_univ _⟩
  set e : Fin 4096 → ℝ := fun k => Real.exp (r k * Real.log 2 - M) with he
  have hew : ∀ k, e k = w k * Real.exp (N * Real.log 2 - M) := fun k => by
    rw [he, hw]
    show Real.exp _ = (2 : ℝ) ^ (r k - N) * _
    rw [Real.rpow_def_of_pos two_pos, ← Real.exp_add]
    congr 1; ring
  have hE : ∑ k, e k = L * Real.exp (N * Real.log 2 - M) := by
    rw [hL, Finset.sum_mul]; exact Finset.sum_congr rfl fun k _ => hew k
  have hEpos : (0 : ℝ) < ∑ k, e k := by rw [hE]; positivity
  have hnum : ∑ j ∈ Finset.range 8, ∑ l, ((w (rowOf j l) : ℝ) : EReal) * V (rowOf j l) = ∑ k, (w k : EReal) * V k :=
    sum_blocks fun k => (w k : EReal) * V k
  have hden : ∑ j ∈ Finset.range 8, ∑ l, ((w (rowOf j l) : ℝ) : EReal) * 1 = (L : EReal) := by
    rw [sum_blocks fun k => (w k : EReal) * 1, hL, coe_sum]
    exact Finset.sum_congr rfl fun k _ => mul_one _
  show Ideal.div (∑ j ∈ Finset.range 8, ∑ l, ((w (rowOf j l) : ℝ) : EReal) * V (rowOf j l))
    (∑ j ∈ Finset.range 8, ∑ l, ((w (rowOf j l) : ℝ) : EReal) * 1) = _
  rw [hnum, hden]
  have hsum : ∑ k', Ideal.exp (((r k' * Real.log 2 : ℝ) : EReal) - (M : EReal)) = ((∑ k, e k : ℝ) : EReal) := by
    rw [coe_sum]; exact Finset.sum_congr rfl fun k _ => exp_sub _ _
  rw [hsum, div_coe _ _ hLpos.ne', mul_comm,
    coe_mul_sum _ _ (inv_pos.mpr hLpos).le]
  refine Finset.sum_congr rfl fun k _ => ?_
  rw [div_coe _ _ hEpos.ne', exp_sub, ← EReal.coe_mul, mul_comm (V k),
    ← mul_assoc, ← EReal.coe_mul]
  have key : L⁻¹ * w k = e k * (∑ k, e k)⁻¹ := by
    rw [hE, hew]; exact scale_eq _ _ _ hLpos.ne' (Real.exp_pos _).ne'
  exact congrArg (fun t : ℝ => (t : EReal) * V k) key

/-- A pattern whose exponent field is not all ones denotes a real number. -/
theorem ieee_real (e k : Nat) (b : BitVec (1 + e + k)) (h : ¬ (b.extractLsb' k e).toNat = 2 ^ e - 1) :
    ∃ M : ℝ, Ideal.ieee e k b = (M : EReal) := by
  unfold Ideal.ieee
  dsimp only
  rw [if_neg h]
  split_ifs <;> exact ⟨_, rfl⟩

/-- The pattern the kernel starts its running maximum from is a real number. -/
theorem start_real : ∃ M₀ : ℝ, Ideal.ofBits .f32 0xF149F2CA#32 = (M₀ : EReal) := by
  exact ieee_real 8 23 0xF149F2CA#32 (by decide)

end Cert.Attn

end
-- ==== Proof.Attn.Step.lean ====
/- One grid point of mixer B as a fold over eight blocks of keys and values, and its entries: each row's running maximum
   and running sums are `runMax` and `runSum` of the row's scores. -/
module

public import proofs.«01_k».proof.Proof.Gen.KernelIdeal.Skeleton
public import proofs.«01_k».proof.Proof.Attn.Math
public import Idealize.ShloMosaic.Lib.Pointwise
public import Idealize.ShloMosaic.Lib.ValueIdx
public import Idealize.ShloMosaic.Lib.IdealHost

@[expose] public section

set_option maxRecDepth 16384

noncomputable section

namespace Cert.Attn

open Idealize.ShloMosaic Cert.KernelIdeal Cert.KernelIdeal.Gen

/-- The scores of 2048 stacked query rows against one block's 512 keys. -/
def scores (q : FVec Ideal S2048x64 .bf16) (kb : Vec Ideal S1x512x64 .bf16) : FVec Ideal S2048x512 .f32 :=
  k0_pay11 q kb

/-- The maximum of each row so far and over one more block. -/
def newMax (m : FVec Ideal S2048x1 .f32) (s : FVec Ideal S2048x512 .f32) : FVec Ideal S2048x1 .f32 :=
  maximumf m (shapeCast S2048x1 (multiReduction .maximumf [1] S2048 s 0xFF800000#32 reduces_S2048x512_S2048 (.inl rfl) rfl)
    shapeCasts_S2048_S2048x1)

/-- The sums so far, rescaled to the new maximum, and the block's terms. -/
def newSum (m m' : FVec Ideal S2048x1 .f32) (a : FVec Ideal S2048x128 .f32) (s : FVec Ideal S2048x512 .f32)
    (vb : Vec Ideal S512x128 .bf16) : FVec Ideal S2048x128 .f32 :=
  addf (mulf (broadcastTo S2048x128 (exp2 (subf m m')) broadcasts_S2048x1_S2048x128) a)
    (matmul (φ₂ := .bf16) dot_S2048x512_S512x128_S2048x128_1_0_0_1_n_n none
      (truncf .bf16 (exp2 (subf s (broadcastTo S2048x512 m' broadcasts_S2048x1_S2048x512))) bitsLt_bf16_f32) vb
      (constant S2048x128 .f32 0x00000000#32))

/-- The maxima after `n` blocks. -/
def maxAt (q : FVec Ideal S2048x64 .bf16) (kb : ℕ → Vec Ideal S1x512x64 .bf16) : ℕ → FVec Ideal S2048x1 .f32
  | 0 => k0_pay4
  | n + 1 => newMax (maxAt q kb n) (scores q (kb n))

/-- The sums after `n` blocks. -/
def sumAt (q : FVec Ideal S2048x64 .bf16) (kb : ℕ → Vec Ideal S1x512x64 .bf16) (vb : ℕ → Vec Ideal S512x128 .bf16) :
    ℕ → FVec Ideal S2048x128 .f32
  | 0 => broadcast S2048x128 (Scalar.ofBits .f32 0x00000000#32)
  | n + 1 => newSum (maxAt q kb n) (maxAt q kb (n + 1)) (sumAt q kb vb n) (scores q (kb n)) (vb n)

/-- The 64 columns of sums over the column of the ones' sum. -/
def quot (a : FVec Ideal S2048x128 .f32) : FVec Ideal S2048x64 .f32 :=
  divf (extractStridedSlice S2048x64 ![0, 0] a slices_S2048x128_o0_0_S2048x64)
    (broadcastTo S2048x64 (extractStridedSlice S2048x1 ![0, 64] a slices_S2048x128_o0_64_S2048x1) broadcasts_S2048x1_S2048x64)

/-- The four heads' rows side by side. -/
def unstack (o : FVec Ideal S2048x64 .f32) : FVec Ideal S512x256 .f32 :=
  concatenate S512x256 1 [⟨S512x64, extractStridedSlice S512x64 ![0, 0] o slices_S2048x64_o0_0_S512x64⟩,
    ⟨S512x64, extractStridedSlice S512x64 ![512, 0] o slices_S2048x64_o512_0_S512x64⟩,
    ⟨S512x64, extractStridedSlice S512x64 ![1024, 0] o slices_S2048x64_o1024_0_S512x64⟩,
    ⟨S512x64, extractStridedSlice S512x64 ![1536, 0] o slices_S2048x64_o1536_0_S512x64⟩]
    concatenates_S512x64_S512x64_S512x64_S512x64_S512x256_d1

/-- What one grid point stores: queries, the blocks of keys, the blocks of values beside ones, gates. -/
def point (x0 : Vec Ideal S1x512x256 .bf16) (kb : ℕ → Vec Ideal S1x512x64 .bf16) (vb : ℕ → Vec Ideal S512x128 .bf16)
    (x2 : Vec Ideal S1x512x256 .bf16) : FVec Ideal S1x512x256 .bf16 :=
  k0_pay1 (unstack (quot (sumAt (k0_pay3 x0) kb vb 8))) (k0_pay24 x2)

/-- The printed payloads, composed, are the fold. -/
theorem payloads_eq (x0 : Vec Ideal S1x512x256 .bf16) (kb : ℕ → Vec Ideal S1x512x64 .bf16)
    (vb : ℕ → Vec Ideal S512x128 .bf16) (x2 : Vec Ideal S1x512x256 .bf16) :
    k0_pay1 (k0_pay23 (k0_pay3 x0)
        (k0_pay20 (k0_pay3 x0) (k0_pay14 (k0_pay3 x0) (k0_pay9 x0 (kb 0) (kb 1)) (kb 2) (kb 3)) (kb 4) (kb 5))
        (k0_pay21 (k0_pay3 x0) (k0_pay14 (k0_pay3 x0) (k0_pay9 x0 (kb 0) (kb 1)) (kb 2) (kb 3))
          (k0_pay15 (k0_pay3 x0) (k0_pay9 x0 (kb 0) (kb 1)) (kb 2) (kb 3))
          (k0_pay16 (k0_pay3 x0) (k0_pay6 x0 (kb 0)) (k0_pay7 x0 (kb 0) (vb 0)) (k0_pay8 x0 (kb 1)) (k0_pay9 x0 (kb 0) (kb 1))
            (k0_pay10 x0 (kb 0) (kb 1)) (vb 1) (kb 2) (vb 2) (kb 3))
          (vb 3) (kb 4) (vb 4) (kb 5) (vb 5))
        (k0_pay22 (k0_pay3 x0) (kb 6)) (vb 6) (kb 7) (vb 7)) (k0_pay24 x2)
      = point x0 kb vb x2 := rfl

variable (q : FVec Ideal S2048x64 .bf16) (kb : ℕ → Vec Ideal S1x512x64 .bf16) (vb : ℕ → Vec Ideal S512x128 .bf16)

/-- A score: the product of a query row and a key row. -/
theorem scores_apply (k : Vec Ideal S1x512x64 .bf16) (i : Fin 2048) (l : Fin 512) :
    scores q k (ix2 i l) = ∑ d : Fin 64, q (ix2 i d) * k (ix3 0 l d) := by
  unfold scores
  unfold_payloads
  pointwise

theorem newMax_apply (m : FVec Ideal S2048x1 .f32) (s : FVec Ideal S2048x512 .f32) (i : Fin 2048) :
    newMax m s (ix2 i 0) = max (m (ix2 i 0)) (Finset.univ.fold max ⊥ fun l : Fin 512 => s (ix2 i l)) := by
  unfold newMax
  rw [ValueIdx.maximumf_apply]
  refine congrArg (max (m (ix2 i 0))) ?_
  have hcast : shapeCast S2048x1 (multiReduction .maximumf [1] S2048 s 0xFF800000#32 reduces_S2048x512_S2048 (.inl rfl) rfl)
      shapeCasts_S2048_S2048x1 (ix2 i 0)
        = multiReduction .maximumf [1] S2048 s 0xFF800000#32 reduces_S2048x512_S2048 (.inl rfl) rfl (ix1 i) := by
    pointwise
  refine hcast.trans ((Ideal.multiReduction_maximumf_single s _ _ _ _ _).trans ?_)
  have hb : (FloatOps.ofBits .f32 0xFF800000#32 : Ideal .f32) = (⊥ : EReal) := by
    simp [Ideal.ofBits, Ideal.ieee]
  rw [hb]
  refine Finset.fold_congr fun l _ => ?_
  refine congrArg s (funext fun a => ?_)
  match a with
  | ⟨0, _⟩ => rfl
  | ⟨1, _⟩ => rfl

theorem newSum_apply (m m' : FVec Ideal S2048x1 .f32) (a : FVec Ideal S2048x128 .f32) (s : FVec Ideal S2048x512 .f32)
    (v : Vec Ideal S512x128 .bf16) (i : Fin 2048) (c : Fin 128) :
    newSum m m' a s v (ix2 i c) = Ideal.exp2 (m (ix2 i 0) - m' (ix2 i 0)) * a (ix2 i c)
      + ∑ l : Fin 512, Ideal.exp2 (s (ix2 i l) - m' (ix2 i 0)) * v (ix2 l c) := by
  unfold newSum
  pointwise
  rfl

theorem scores_row (q : FVec Ideal S2048x64 .bf16) (i : Fin 2048) (n : ℕ) :
    runMax (Ideal.ofBits .f32 0xF149F2CA#32) (fun j l => scores q (kb j) (ix2 i l)) n = maxAt q kb n (ix2 i 0) := by
  induction n with
  | zero => rfl
  | succ n ih => rw [runMax, ih, maxAt, newMax_apply]

/-- A row's running maximum is `runMax` of the row's scores. -/
theorem maxAt_apply (i : Fin 2048) (n : ℕ) :
    maxAt q kb n (ix2 i 0) = runMax (Ideal.ofBits .f32 0xF149F2CA#32) (fun j l => scores q (kb j) (ix2 i l)) n :=
  (scores_row kb q i n).symm

/-- A row's running sums are `runSum` of the row's scores and the column's values. -/
theorem sumAt_apply (i : Fin 2048) (c : Fin 128) (n : ℕ) :
    sumAt q kb vb n (ix2 i c) = runSum (Ideal.ofBits .f32 0xF149F2CA#32) (fun j l => scores q (kb j) (ix2 i l))
      (fun j l => vb j (ix2 l c)) n := by
  induction n with
  | zero => exact Ideal.ofBits_zero_f32
  | succ n ih => rw [runSum, ← ih, sumAt, newSum_apply, maxAt_apply, maxAt_apply]

theorem quot_apply (a : FVec Ideal S2048x128 .f32) (i : Fin 2048) (d : Fin 64) :
    quot a (ix2 i d) = Ideal.div (a (ix2 i ⟨d.val, by omega⟩)) (a (ix2 i 64)) := by
  unfold quot
  pointwise

/-- The row of the stack that holds head `c / 64` of query `r`. -/
def stackRow (r : Fin 512) (c : Fin 256) : Fin 2048 := ⟨512 * (c.val / 64) + r.val, by omega⟩

theorem unstack_apply (o : FVec Ideal S2048x64 .f32) (r : Fin 512) (c : Fin 256) :
    unstack o (ix2 r c) = o (ix2 (stackRow r c) ⟨c.val % 64, by omega⟩) := by
  unfold unstack stackRow
  pointwise
  split_ifs with h1 h2 h3
  all_goals
    congr 1
    funext a
    apply Fin.ext
    match a with
    | ⟨0, _⟩ => simp [ix2]; omega
    | ⟨1, _⟩ => simp [ix2]; omega

theorem pay3_apply (x0 : Vec Ideal S1x512x256 .bf16) (r : Fin 512) (c : Fin 256) (d : Fin 64) :
    k0_pay3 x0 (ix2 (stackRow r c) d) = x0 (ix3 0 r ⟨64 * (c.val / 64) + d.val, by omega⟩) := by
  unfold_payloads
  unfold stackRow
  pointwise
  split_ifs with h1 h2 h3
  all_goals
    congr 1
    funext a
    apply Fin.ext
    match a with
    | ⟨0, _⟩ => rfl
    | ⟨1, _⟩ => simp [ix3]; try omega
    | ⟨2, _⟩ => simp [ix3]; try omega

theorem pay24_apply (x2 : Vec Ideal S1x512x256 .bf16) (r : Fin 512) (c : Fin 256) :
    k0_pay24 x2 (ix2 r c) = x2 (ix3 0 r c) * Ideal.logistic (x2 (ix3 0 r c)) := by
  unfold_payloads
  pointwise

theorem pay1_apply (a b : FVec Ideal S512x256 .f32) (r : Fin 512) (c : Fin 256) :
    k0_pay1 a b (ix3 0 r c) = a (ix2 r c) * b (ix2 r c) := by
  unfold_payloads
  pointwise

/-- The values beside ones. -/
theorem pay2_apply (v : Vec Ideal S1x512x64 .bf16) (l : Fin 512) (c : Fin 128) :
    k0_pay2 v (ix2 l c) = if h : c.val < 64 then v (ix3 0 l ⟨c.val, h⟩) else 1 := by
  unfold_payloads
  pointwise

end Cert.Attn

end
-- ==== Proof.Attn.Block.lean ====
/- What one grid point of mixer B leaves in its output block and in the carried scratch. -/
module

public import proofs.«01_k».proof.Proof.Gen.KernelIdeal.Value
public import proofs.«01_k».proof.Proof.Attn.Step
public import Idealize.ShloMosaic.Lib.Pipeline.ValueKit.Tiles

@[expose] public section

set_option maxRecDepth 16384

noncomputable section

namespace Cert.Attn

open Idealize.ShloMosaic Idealize.ShloMosaic.TcCoe Idealize.SL.Sem Cert.KernelIdeal Cert.KernelIdeal.Gen
open Idealize.ShloMosaic.Pipeline (Dat)

/-- Block `j` of the keys: rows `512 j …` of the first 64 columns. -/
def keyBlock (x1 : Vec Ideal S1x4096x128 .bf16) (j : ℕ) : Vec Ideal S1x512x64 .bf16 :=
  fun y => x1 (ix3 0 (rowOf j (y 1)) ⟨(y 2).val, lt_trans (y 2).isLt (by decide)⟩)

/-- Block `j` of the values beside ones. -/
def valBlock (xs : Vec Ideal S4096x128 .bf16) (j : ℕ) : Vec Ideal S512x128 .bf16 :=
  fun y => xs (ix2 (rowOf j (y 0)) (y 1))

/-- The values beside ones, from the block of keys and values. -/
def besideOnes (x1 : Vec Ideal S1x4096x128 .bf16) : Vec Ideal S4096x128 .bf16 :=
  fun y => if h : (y 1).val < 64 then x1 (ix3 0 (y 0) ⟨64 + (y 1).val, by omega⟩) else 1

theorem hz3 : (![0, 0, 0] : Fin 3 → Nat) = fun _ => 0 := funext fun a => by fin_cases a <;> rfl

theorem rowOf_val (j : ℕ) (hj : j < 8) (l : Fin 512) : (rowOf j l).val = 512 * j + l.val := by
  unfold rowOf
  exact Nat.mod_eq_of_lt (by omega)

theorem ld_key (x1 : Vec Ideal S1x4096x128 .bf16) (j : ℕ) (hj : j < 8) (o : ℕ) (ho : o = 512 * j)
    (inb : ∀ a, (![0, o, 0] : Fin 3 → ℕ) a + (![1, 512, 64] : Fin 3 → ℕ) a ≤ S1x4096x128.size a) :
    View.ld x1 (Rect.unit ![0, o, 0] ![1, 512, 64] inb) = keyBlock x1 j := by
  subst ho
  funext y
  show x1 _ = x1 _
  refine congrArg x1 (funext fun a => Fin.ext ?_)
  match a with
  | ⟨0, _⟩ => show 0 + 1 * (y 0).val = 0; have h := (y 0).isLt; change (y 0).val < 1 at h; omega
  | ⟨1, _⟩ =>
    show 512 * j + 1 * (y 1).val = (rowOf j (y 1)).val
    rw [rowOf_val j hj (y 1)]; omega
  | ⟨2, _⟩ => show 0 + 1 * (y 2).val = (y 2).val; omega

theorem ld_val (xs : Vec Ideal S4096x128 .bf16) (j : ℕ) (hj : j < 8) (o : ℕ) (ho : o = 512 * j)
    (inb : ∀ a, (![o, 0] : Fin 2 → ℕ) a + (![512, 128] : Fin 2 → ℕ) a ≤ S4096x128.size a) :
    View.ld xs (Rect.unit ![o, 0] ![512, 128] inb) = valBlock xs j := by
  subst ho
  funext y
  show xs _ = xs _
  refine congrArg xs (funext fun a => Fin.ext ?_)
  match a with
  | ⟨0, _⟩ =>
    show 512 * j + 1 * (y 0).val = (rowOf j (y 0)).val
    rw [rowOf_val j hj (y 0)]; omega
  | ⟨1, _⟩ => show 0 + 1 * (y 1).val = (y 1).val; omega

/-- What one trip of the staging loop stores: one block of values beside ones. -/
theorem trip_pieces (c : Dev nD) (i : grid0.Coords) (arg3 : Memref sig .tc .vmem S1x512x256 .bf16) (harg3 : arg3.IsWhole)
    (arg4 : Memref sig .tc .vmem S1x4096x128 .bf16) (harg4 : arg4.IsWhole) (arg5 : Memref sig .tc .vmem S1x512x256 .bf16)
    (harg5 : arg5.IsWhole) (arg6 : Memref sig .tc .vmem S1x512x256 .bf16) (harg6 : arg6.IsWhole)
    (arg7 : Memref sig .tc .vmem S4096x128 .bf16) (harg7 : arg7.IsWhole) (hc0 : cond0_0 i)
    (x1 : Vec Ideal S1x4096x128 .bf16) (k : Fin k0_t1_loop.trips) :
    tripL_k0_t1 (F := Ideal) Variants.none c none i arg3 harg3 arg4 harg4 arg5 harg5 arg6 harg6 arg7 harg7 hc0 (harg4.unread x1) k
      = [⟨Rect.unit (k0_off2 k) S512x128.size (k0_off2_inb i k hc0),
          k0_pay2 (View.ld x1 (Rect.unit (k0_off1 k) S1x512x64.size (k0_off1_inb i k hc0)))⟩] := by
  unfold tripL_k0_t1 trip_k0_t1
  dsimp only
  sl_unfold_words
  simp only [View.readAt_eq_ld, harg4.read_unread]

/-- A stored block holds the values beside ones at the rows it is stored to. -/
theorem piece_value (i : grid0.Coords) (hc0 : cond0_0 i) (x1 : Vec Ideal S1x4096x128 .bf16) (k : Fin k0_t1_loop.trips)
    (x : S512x128.Idx) (y : S4096x128.Idx)
    (hx : (Rect.unit (s := S4096x128) (k0_off2 k) S512x128.size (k0_off2_inb i k hc0)).emb x = y) :
    k0_pay2 (View.ld x1 (Rect.unit (k0_off1 k) S1x512x64.size (k0_off1_inb i k hc0))) x = besideOnes x1 y := by
  have o1 := k0_off1_eq k
  have o2 := k0_off2_eq k
  have h0 : (y 0).val = 512 * k.val + (x 0).val := by
    rw [← hx]
    show (k0_off2 k) 0 + 1 * (x 0).val = _
    rw [o2]; show 512 * k.val + 1 * _ = _; omega
  have h1 : (y 1).val = (x 1).val := by
    rw [← hx]
    show (k0_off2 k) 1 + 1 * (x 1).val = _
    rw [o2]; show 0 + 1 * _ = _; omega
  obtain ⟨l, d, rfl⟩ : ∃ (l : Fin 512) (d : Fin 128), x = ix2 l d :=
    ⟨x 0, x 1, by funext a; match a with | ⟨0, _⟩ => rfl | ⟨1, _⟩ => rfl⟩
  rw [pay2_apply]
  unfold besideOnes
  split_ifs with hh h2 h2
  · show x1 _ = x1 _
    refine congrArg x1 (funext fun a => Fin.ext ?_)
    match a with
    | ⟨0, _⟩ => show (k0_off1 k) 0 + 1 * 0 = 0; rw [o1]; rfl
    | ⟨1, _⟩ =>
      show (k0_off1 k) 1 + 1 * l.val = (y 0).val
      rw [o1, h0]; show 512 * k.val + 1 * l.val = 512 * k.val + l.val; omega
    | ⟨2, _⟩ =>
      show (k0_off1 k) 2 + 1 * d.val = 64 + (y 1).val
      rw [o1, h1]; show 64 + 1 * d.val = 64 + d.val; omega
  · exact absurd (h1 ▸ hh) h2
  · exact absurd (h1 ▸ h2) hh
  · rfl

theorem pieces_at (c : Dev nD) (i : grid0.Coords) (arg3 : Memref sig .tc .vmem S1x512x256 .bf16) (harg3 : arg3.IsWhole)
    (arg4 : Memref sig .tc .vmem S1x4096x128 .bf16) (harg4 : arg4.IsWhole) (arg5 : Memref sig .tc .vmem S1x512x256 .bf16)
    (harg5 : arg5.IsWhole) (arg6 : Memref sig .tc .vmem S1x512x256 .bf16) (harg6 : arg6.IsWhole)
    (arg7 : Memref sig .tc .vmem S4096x128 .bf16) (harg7 : arg7.IsWhole) (hc0 : cond0_0 i)
    (x1 : Vec Ideal S1x4096x128 .bf16) (y : S4096x128.Idx) : ∀ n, n ≤ k0_t1_loop.trips →
    View.AllAt (pb_k0_t1 (F := Ideal) Variants.none c none i arg3 harg3 arg4 harg4 arg5 harg5 arg6 harg6 arg7 harg7 hc0 (harg4.unread x1) n)
      y (besideOnes x1 y) := by
  intro n
  induction n with
  | zero => intro _; exact View.allAt_nil _ _
  | succ n ih =>
    intro hn
    have e := pb_k0_t1_succ (F := Ideal) Variants.none c none i arg3 harg3 arg4 harg4 arg5 harg5 arg6 harg6 arg7 harg7 hc0 (harg4.unread x1) ⟨n, hn⟩
    rw [show n + 1 = (⟨n, hn⟩ : Fin k0_t1_loop.trips).val + 1 from rfl, e, trip_pieces]
    intro p hp x hx
    rcases List.mem_append.mp hp with h | h
    · obtain rfl := List.mem_singleton.mp h
      exact piece_value i hc0 x1 ⟨n, hn⟩ x y hx
    · exact ih (by omega) p h x hx

theorem pieces_canon (c : Dev nD) (i : grid0.Coords) (arg3 : Memref sig .tc .vmem S1x512x256 .bf16) (harg3 : arg3.IsWhole)
    (arg4 : Memref sig .tc .vmem S1x4096x128 .bf16) (harg4 : arg4.IsWhole) (arg5 : Memref sig .tc .vmem S1x512x256 .bf16)
    (harg5 : arg5.IsWhole) (arg6 : Memref sig .tc .vmem S1x512x256 .bf16) (harg6 : arg6.IsWhole)
    (arg7 : Memref sig .tc .vmem S4096x128 .bf16) (harg7 : arg7.IsWhole) (hc0 : cond0_0 i) (x0 : Vec Ideal S1x512x256 .bf16)
    (x1 : Vec Ideal S1x4096x128 .bf16) (x2 : Vec Ideal S1x512x256 .bf16) :
    View.canon (pb_k0_t1 (F := Ideal) Variants.none c none i arg3 harg3 arg4 harg4 arg5 harg5 arg6 harg6 arg7 harg7 hc0 (harg4.unread x1)
      (Scf.trips (0#32) (Scalar.addi 0#32 8#32) 1#32)) = besideOnes x1 := by
  funext y
  exact View.canon_eq_of_allAt _ y _ (scover0_A_0 c i arg3 harg3 arg4 harg4 arg5 harg5 arg6 harg6 arg7 harg7 hc0 x0 x1 x2 y)
    (pieces_at c i arg3 harg3 arg4 harg4 arg5 harg5 arg6 harg6 arg7 harg7 hc0 x1 y _ le_rfl)

theorem out_B (c : Dev nD) (i : grid0.Coords) (arg3 : Memref sig .tc .vmem S1x512x256 .bf16) (harg3 : arg3.IsWhole)
    (arg4 : Memref sig .tc .vmem S1x4096x128 .bf16) (harg4 : arg4.IsWhole) (arg5 : Memref sig .tc .vmem S1x512x256 .bf16)
    (harg5 : arg5.IsWhole) (arg6 : Memref sig .tc .vmem S1x512x256 .bf16) (harg6 : arg6.IsWhole)
    (arg7 : Memref sig .tc .vmem S4096x128 .bf16) (harg7 : arg7.IsWhole) (hc0 : ¬cond0_0 i)
    (x0 : Vec Ideal S1x512x256 .bf16) (x1 : Vec Ideal S1x4096x128 .bf16) (x2 : Vec Ideal S1x512x256 .bf16)
    (xs0 : Vec Ideal S4096x128 .bf16) :
    out0_B_3 c i arg3 harg3 arg4 harg4 arg5 harg5 arg6 harg6 arg7 harg7 hc0 x0 x1 x2 xs0
      = point x0 (keyBlock x1) (valBlock xs0) x2 := by
  unfold out0_B_3
  rw [View.read_writes_eq_canon _ _ _ (cover0_B_3 c i arg3 harg3 arg4 harg4 arg5 harg5 arg6 harg6 arg7 harg7 hc0 x0 x1 x2 xs0)]
  unfold kernelRun0_B
  dsimp only
  sl_unfold_words
  rw [View.canon_unit_zero hz3]
  simp only [View.readAt_eq_ld, harg3.read_unread, harg4.read_unread, harg5.read_unread, harg7.read_unread,
    View.ld_unit_zero (S := S1x512x256) hz3]
  rw [ld_key x1 0 (by decide) 0 rfl, ld_key x1 1 (by decide) 512 rfl, ld_key x1 2 (by decide) 1024 rfl,
    ld_key x1 3 (by decide) 1536 rfl, ld_key x1 4 (by decide) 2048 rfl, ld_key x1 5 (by decide) 2560 rfl,
    ld_key x1 6 (by decide) 3072 rfl, ld_key x1 7 (by decide) 3584 rfl,
    ld_val xs0 0 (by decide) 0 rfl, ld_val xs0 1 (by decide) 512 rfl, ld_val xs0 2 (by decide) 1024 rfl,
    ld_val xs0 3 (by decide) 1536 rfl, ld_val xs0 4 (by decide) 2048 rfl, ld_val xs0 5 (by decide) 2560 rfl,
    ld_val xs0 6 (by decide) 3072 rfl, ld_val xs0 7 (by decide) 3584 rfl]
  exact payloads_eq x0 (keyBlock x1) (valBlock xs0) x2

theorem out_A (c : Dev nD) (i : grid0.Coords) (arg3 : Memref sig .tc .vmem S1x512x256 .bf16) (harg3 : arg3.IsWhole)
    (arg4 : Memref sig .tc .vmem S1x4096x128 .bf16) (harg4 : arg4.IsWhole) (arg5 : Memref sig .tc .vmem S1x512x256 .bf16)
    (harg5 : arg5.IsWhole) (arg6 : Memref sig .tc .vmem S1x512x256 .bf16) (harg6 : arg6.IsWhole)
    (arg7 : Memref sig .tc .vmem S4096x128 .bf16) (harg7 : arg7.IsWhole) (hc0 : cond0_0 i)
    (x0 : Vec Ideal S1x512x256 .bf16) (x1 : Vec Ideal S1x4096x128 .bf16) (x2 : Vec Ideal S1x512x256 .bf16) :
    out0_A_3 c i arg3 harg3 arg4 harg4 arg5 harg5 arg6 harg6 arg7 harg7 hc0 x0 x1 x2
      = point x0 (keyBlock x1) (valBlock (besideOnes x1)) x2 := by
  unfold out0_A_3
  rw [View.read_writes_eq_canon _ _ _ (cover0_A_3 c i arg3 harg3 arg4 harg4 arg5 harg5 arg6 harg6 arg7 harg7 hc0 x0 x1 x2)]
  unfold kernelRun0_A
  dsimp only
  sl_unfold_words
  rw [View.canon_unit_zero hz3]
  simp only [View.readAt_eq_ld, harg3.read_unread, harg4.read_unread, harg5.read_unread,
    View.ld_unit_zero (S := S1x512x256) hz3, View.readCov_eq_canon',
    pieces_canon c i arg3 harg3 arg4 harg4 arg5 harg5 arg6 harg6 arg7 harg7 hc0 x0 x1 x2]
  rw [ld_key x1 0 (by decide) 0 rfl, ld_key x1 1 (by decide) 512 rfl, ld_key x1 2 (by decide) 1024 rfl,
    ld_key x1 3 (by decide) 1536 rfl, ld_key x1 4 (by decide) 2048 rfl, ld_key x1 5 (by decide) 2560 rfl,
    ld_key x1 6 (by decide) 3072 rfl, ld_key x1 7 (by decide) 3584 rfl]
  have hv (j : ℕ) (hj : j < 8) (o : ℕ) (ho : o = 512 * j)
      (inb : ∀ a, (![o, 0] : Fin 2 → ℕ) a + (![512, 128] : Fin 2 → ℕ) a ≤ S4096x128.size a) :
      (fun y => besideOnes x1 ((Rect.unit ![o, 0] ![512, 128] inb).toLoadRect.idx y)) = valBlock (besideOnes x1) j :=
    ld_val (besideOnes x1) j hj o ho inb
  rw [hv 0 (by decide) 0 rfl, hv 1 (by decide) 512 rfl, hv 2 (by decide) 1024 rfl,
    hv 3 (by decide) 1536 rfl, hv 4 (by decide) 2048 rfl, hv 5 (by decide) 2560 rfl,
    hv 6 (by decide) 3072 rfl, hv 7 (by decide) 3584 rfl]
  exact payloads_eq x0 (keyBlock x1) (valBlock (besideOnes x1)) x2

theorem sout_A (c : Dev nD) (i : grid0.Coords) (arg3 : Memref sig .tc .vmem S1x512x256 .bf16) (harg3 : arg3.IsWhole)
    (arg4 : Memref sig .tc .vmem S1x4096x128 .bf16) (harg4 : arg4.IsWhole) (arg5 : Memref sig .tc .vmem S1x512x256 .bf16)
    (harg5 : arg5.IsWhole) (arg6 : Memref sig .tc .vmem S1x512x256 .bf16) (harg6 : arg6.IsWhole)
    (arg7 : Memref sig .tc .vmem S4096x128 .bf16) (harg7 : arg7.IsWhole) (hc0 : cond0_0 i)
    (x0 : Vec Ideal S1x512x256 .bf16) (x1 : Vec Ideal S1x4096x128 .bf16) (x2 : Vec Ideal S1x512x256 .bf16) :
    sout0_A_0 c i arg3 harg3 arg4 harg4 arg5 harg5 arg6 harg6 arg7 harg7 hc0 x0 x1 x2 = besideOnes x1 := by
  unfold sout0_A_0
  rw [View.read_writes_eq_canon _ _ _ (scover0_A_0 c i arg3 harg3 arg4 harg4 arg5 harg5 arg6 harg6 arg7 harg7 hc0 x0 x1 x2)]
  exact pieces_canon c i arg3 harg3 arg4 harg4 arg5 harg5 arg6 harg6 arg7 harg7 hc0 x0 x1 x2

end Cert.Attn

end
-- ==== Proof.Attn.Value.lean ====
/- The result of mixer B's kernel: every point's block, and so the whole array, as a function of the two operands. -/
module

public import proofs.«01_k».proof.Proof.Attn.Block

@[expose] public section

set_option maxRecDepth 16384

noncomputable section

namespace Cert.Attn

open Idealize.ShloMosaic Idealize.ShloMosaic.TcCoe Idealize.SL.Sem Cert.KernelIdeal Cert.KernelIdeal.Gen
open Idealize.ShloMosaic.Pipeline (Dat)

/-- The score of query (`b`, `s`) in the head of column `e` against key `k`. -/
def score (A : Vec Ideal S8x4096x3072 .bf16) (b : Fin 8) (s : Fin 4096) (e : Fin 768) (k : Fin 4096) : EReal :=
  ∑ d : Fin 64, A (ix3 b s ⟨768 + 64 * (e.val / 64) + d.val, by omega⟩)
    * A (ix3 b k ⟨2432 + 128 * (e.val / 256) + d.val, by omega⟩)

/-- The value of key `k` at column `e`. -/
def value (A : Vec Ideal S8x4096x3072 .bf16) (b : Fin 8) (e : Fin 768) (k : Fin 4096) : EReal :=
  A (ix3 b k ⟨2496 + 128 * (e.val / 256) + e.val % 64, by omega⟩)

/-- The gate of column `e`. -/
def gate (A : Vec Ideal S8x4096x6656 .bf16) (b : Fin 8) (s : Fin 4096) (e : Fin 768) : EReal :=
  A (ix3 b s ⟨5376 + e.val, by omega⟩)

/-- The kernel's start of a running maximum. -/
abbrev start : EReal := Ideal.ofBits .f32 0xF149F2CA#32

/-- The kernel's result at (`b`, `s`, `e`). -/
def resultAt (A0 : Vec Ideal S8x4096x3072 .bf16) (A1 : Vec Ideal S8x4096x6656 .bf16) (b : Fin 8) (s : Fin 4096) (e : Fin 768) : EReal :=
  Ideal.div (runSum start (fun j l => score A0 b s e (rowOf j l)) (fun j l => value A0 b e (rowOf j l)) 8)
      (runSum start (fun j l => score A0 b s e (rowOf j l)) (fun _ _ => 1) 8)
    * (gate A1 b s e * Ideal.logistic (gate A1 b s e))

/-- The entry of a point's block at row `r` and column `c`. -/
theorem point_apply (x0 : Vec Ideal S1x512x256 .bf16) (x1 : Vec Ideal S1x4096x128 .bf16) (x2 : Vec Ideal S1x512x256 .bf16)
    (r : Fin 512) (c : Fin 256) :
    point x0 (keyBlock x1) (valBlock (besideOnes x1)) x2 (ix3 0 r c)
      = Ideal.div
          (runSum start (fun j l => ∑ d : Fin 64, x0 (ix3 0 r ⟨64 * (c.val / 64) + d.val, by omega⟩) * x1 (ix3 0 (rowOf j l) ⟨d.val, by omega⟩))
            (fun j l => x1 (ix3 0 (rowOf j l) ⟨64 + c.val % 64, by omega⟩)) 8)
          (runSum start (fun j l => ∑ d : Fin 64, x0 (ix3 0 r ⟨64 * (c.val / 64) + d.val, by omega⟩) * x1 (ix3 0 (rowOf j l) ⟨d.val, by omega⟩))
            (fun _ _ => 1) 8)
        * (x2 (ix3 0 r c) * Ideal.logistic (x2 (ix3 0 r c))) := by
  unfold point
  rw [pay1_apply, unstack_apply, quot_apply, pay24_apply, sumAt_apply, sumAt_apply]
  have hs : (fun (j : ℕ) (l : Fin 512) => scores (k0_pay3 x0) (keyBlock x1 j) (ix2 (stackRow r c) l))
      = fun j l => ∑ d : Fin 64, x0 (ix3 0 r ⟨64 * (c.val / 64) + d.val, by omega⟩) * x1 (ix3 0 (rowOf j l) ⟨d.val, by omega⟩) := by
    funext j l
    rw [scores_apply]
    refine Finset.sum_congr rfl fun d _ => ?_
    rw [pay3_apply]
    rfl
  have hv : (fun (j : ℕ) (l : Fin 512) => valBlock (besideOnes x1) j (ix2 l ⟨c.val % 64, by omega⟩))
      = fun j l => x1 (ix3 0 (rowOf j l) ⟨64 + c.val % 64, by omega⟩) := by
    funext j l
    show besideOnes x1 (ix2 (rowOf j l) ⟨c.val % 64, by omega⟩) = _
    unfold besideOnes
    exact dif_pos (show c.val % 64 < 64 by omega)
  have h1 : (fun (j : ℕ) (l : Fin 512) => valBlock (besideOnes x1) j (ix2 l 64)) = fun _ _ => 1 := by
    funext j l
    show besideOnes x1 (ix2 (rowOf j l) 64) = _
    unfold besideOnes
    exact dif_neg (show ¬(64 : ℕ) < 64 by decide)
  rw [hs, h1]
  refine congrArg₂ (· * ·) (congrArg₂ Ideal.div (congrArg (fun v => runSum _ _ v 8) ?_) rfl) rfl
  exact hv

/-! ## The blocks a point reads -/

theorem index0 : ∀ t : Fin grid0.N, win0_0.index t = ![t.val / 24, t.val % 8, t.val / 8 % 3 + 3] := by decide +kernel
theorem index1 : ∀ t : Fin grid0.N, win0_1.index t = ![t.val / 24, 0, t.val / 8 % 3 + 19] := by decide +kernel
theorem index2 : ∀ t : Fin grid0.N, win0_2.index t = ![t.val / 24, t.val % 8, t.val / 8 % 3 + 21] := by decide +kernel
theorem index3 : ∀ t : Fin grid0.N, win0_3.index t = ![t.val / 24, t.val % 8, t.val / 8 % 3] := by decide +kernel

theorem lt_points (t : Fin cfg0.N) : t.val < 192 := lt_of_lt_of_eq t.isLt N_0

variable (m : (ℓ : Loc nD τ sig) → Buf (Elt Ideal) ℓ) (c : Dev nD)

/-- The operand with queries, keys and values, at entry. -/
abbrev mainArr : Vec Ideal S8x4096x3072 .bf16 := m ((c.tc : Thread nD τ).loc main_arg0)

/-- The operand with the gates, at entry. -/
abbrev projArr : Vec Ideal S8x4096x6656 .bf16 := m ((c.tc : Thread nD τ).loc main_arg1)

/-- The blocks of queries, of keys and values, and of gates that point `t` reads. -/
abbrev qBlock (t : Fin cfg0.N) : Vec Ideal S1x512x256 .bf16 := iblk m c 0 t
abbrev kvBlock (t : Fin cfg0.N) : Vec Ideal S1x4096x128 .bf16 := iblk m c 1 t
abbrev gBlock (t : Fin cfg0.N) : Vec Ideal S1x512x256 .bf16 := iblk m c 2 t

/-- The batch and the query of row `r` at point `t`, and the column of column `d`. -/
def batchOf (t : Fin cfg0.N) : Fin 8 := ⟨t.val / 24, by have := lt_points t; omega⟩
def queryOf (t : Fin cfg0.N) (r : Fin 512) : Fin 4096 := ⟨512 * (t.val % 8) + r.val, by omega⟩
def columnOf (t : Fin cfg0.N) (d : Fin 256) : Fin 768 := ⟨256 * (t.val / 8 % 3) + d.val, by omega⟩

theorem block0 (t : Fin cfg0.N) (r : Fin 512) (d : Fin 256) :
    qBlock m c t (ix3 0 r d)
      = mainArr m c (ix3 (batchOf t) (queryOf t r) ⟨768 + 256 * (t.val / 8 % 3) + d.val, by omega⟩) := by
  have h := index0 t
  unfold qBlock iblk
  rw [View.read_apply]
  show V m c main_arg0 _ = _
  rw [V_main_arg0]
  refine congrArg (mainArr m c) (funext fun a => Fin.ext ?_)
  match a with
  | ⟨0, _⟩ => show win0_0.index t 0 * 1 + 1 * 0 = t.val / 24; rw [h]; show t.val / 24 * 1 + 1 * 0 = _; omega
  | ⟨1, _⟩ =>
    show win0_0.index t 1 * 512 + 1 * r.val = 512 * (t.val % 8) + r.val
    rw [h]; show t.val % 8 * 512 + 1 * r.val = _; omega
  | ⟨2, _⟩ =>
    show win0_0.index t 2 * 256 + 1 * d.val = 768 + 256 * (t.val / 8 % 3) + d.val
    rw [h]; show (t.val / 8 % 3 + 3) * 256 + 1 * d.val = _; omega

theorem block1 (t : Fin cfg0.N) (k : Fin 4096) (d : Fin 128) :
    kvBlock m c t (ix3 0 k d)
      = mainArr m c (ix3 (batchOf t) k ⟨2432 + 128 * (t.val / 8 % 3) + d.val, by omega⟩) := by
  have h := index1 t
  unfold kvBlock iblk
  rw [View.read_apply]
  show V m c main_arg0 _ = _
  rw [V_main_arg0]
  refine congrArg (mainArr m c) (funext fun a => Fin.ext ?_)
  match a with
  | ⟨0, _⟩ => show win0_1.index t 0 * 1 + 1 * 0 = t.val / 24; rw [h]; show t.val / 24 * 1 + 1 * 0 = _; omega
  | ⟨1, _⟩ =>
    show win0_1.index t 1 * 4096 + 1 * k.val = k.val
    rw [h]; show 0 * 4096 + 1 * k.val = _; omega
  | ⟨2, _⟩ =>
    show win0_1.index t 2 * 128 + 1 * d.val = 2432 + 128 * (t.val / 8 % 3) + d.val
    rw [h]; show (t.val / 8 % 3 + 19) * 128 + 1 * d.val = _; omega

theorem block2 (t : Fin cfg0.N) (r : Fin 512) (d : Fin 256) :
    gBlock m c t (ix3 0 r d)
      = projArr m c (ix3 (batchOf t) (queryOf t r) ⟨5376 + 256 * (t.val / 8 % 3) + d.val, by omega⟩) := by
  have h := index2 t
  unfold gBlock iblk
  rw [View.read_apply]
  show V m c main_arg1 _ = _
  rw [V_main_arg1]
  refine congrArg (projArr m c) (funext fun a => Fin.ext ?_)
  match a with
  | ⟨0, _⟩ => show win0_2.index t 0 * 1 + 1 * 0 = t.val / 24; rw [h]; show t.val / 24 * 1 + 1 * 0 = _; omega
  | ⟨1, _⟩ =>
    show win0_2.index t 1 * 512 + 1 * r.val = 512 * (t.val % 8) + r.val
    rw [h]; show t.val % 8 * 512 + 1 * r.val = _; omega
  | ⟨2, _⟩ =>
    show win0_2.index t 2 * 256 + 1 * d.val = 5376 + 256 * (t.val / 8 % 3) + d.val
    rw [h]; show (t.val / 8 % 3 + 21) * 256 + 1 * d.val = _; omega

/-- The eight points of one batch and group read the same keys and values. -/
theorem block1_same (t t' : Fin cfg0.N) (h : t.val / 8 = t'.val / 8) :
    kvBlock m c t = kvBlock m c t' := by
  funext y
  obtain ⟨z, k, d, rfl⟩ : ∃ (z : Fin 1) (k : Fin 4096) (d : Fin 128), y = ix3 z k d :=
    ⟨y 0, y 1, y 2, by funext a; match a with | ⟨0, _⟩ => rfl | ⟨1, _⟩ => rfl | ⟨2, _⟩ => rfl⟩
  obtain rfl : z = 0 := Subsingleton.elim _ _
  rw [block1, block1]
  refine congrArg (mainArr m c) (funext fun a => Fin.ext ?_)
  match a with
  | ⟨0, _⟩ => show t.val / 24 = t'.val / 24; omega
  | ⟨1, _⟩ => rfl
  | ⟨2, _⟩ => show 2432 + 128 * (t.val / 8 % 3) + d.val = 2432 + 128 * (t'.val / 8 % 3) + d.val; rw [h]

/-! ## The points -/

/-- After every point the scratch holds the values of the point's group beside ones. -/
theorem scratch_at : ∀ (n : ℕ) (h : n < cfg0.N), (outsAt0 m c n h).2 = besideOnes (kvBlock m c ⟨n, h⟩)
  | n, h => by
    by_cases h0 : n % 8 = 0
    · have e := outsAt0_A m c ⟨n, h⟩ h0
      exact (congrArg Prod.snd e).trans (sout_A _ _ _ _ _ _ _ _ _ _ _ _ _ _ _ _)
    · have e := outsAt0_B m c ⟨n, h⟩ h0
      have hp : n - 1 < cfg0.N := by omega
      refine (congrArg Prod.snd e).trans ((show _ = (outsAt0 m c (n - 1) hp).2 from rfl).trans ?_)
      rw [scratch_at (n - 1) hp]
      exact congrArg besideOnes (block1_same m c ⟨n - 1, hp⟩ ⟨n, h⟩ (by show (n - 1) / 8 = n / 8; omega))

/-- Every point's output block. -/
theorem out_at (t : Fin cfg0.N) :
    (outsAt0 m c t.val t.isLt).1
      = point (qBlock m c t) (keyBlock (kvBlock m c t)) (valBlock (besideOnes (kvBlock m c t))) (gBlock m c t) := by
  by_cases h0 : t.val % 8 = 0
  · have e := out_A c (grid0.coords t) (ms0_0 t) (hs0_0 t) (ms0_1 t) (hs0_1 t) (ms0_2 t) (hs0_2 t) (ms0_3 t) (hs0_3 t)
      scM0_0 (Memref.isWhole_whole _) ((hcond0_0 t).mpr h0) (qBlock m c t) (kvBlock m c t) (gBlock m c t)
    rw [outsAt0_A m c t h0]
    dsimp only
    rw [e]
  · have hp : t.val - 1 < cfg0.N := Nat.lt_of_le_of_lt (Nat.sub_le _ _) t.isLt
    have hs : (outsAt0 m c (t.val - 1) hp).2 = besideOnes (kvBlock m c t) := by
      rw [scratch_at m c (t.val - 1) hp]
      exact congrArg besideOnes (block1_same m c ⟨t.val - 1, hp⟩ t (by show (t.val - 1) / 8 = t.val / 8; omega))
    have e := out_B c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (qBlock m c t) (kvBlock m c t) (gBlock m c t)
      (outsAt0 m c (t.val - 1) hp).2
    rw [outsAt0_B m c t h0]
    dsimp only
    rw [e, hs]

/-- The entry of a point's output block is the result at its place. -/
theorem out_at_apply (t : Fin cfg0.N) (r : Fin 512) (d : Fin 256) :
    (outsAt0 m c t.val t.isLt).1 (ix3 0 r d)
      = resultAt (mainArr m c) (projArr m c) (batchOf t) (queryOf t r) (columnOf t d) := by
  rw [out_at, point_apply]
  unfold resultAt
  have hs : (fun (j : ℕ) (l : Fin 512) => ∑ d' : Fin 64,
        qBlock m c t (ix3 0 r ⟨64 * (d.val / 64) + d'.val, by omega⟩)
          * kvBlock m c t (ix3 0 (rowOf j l) ⟨d'.val, by omega⟩))
      = fun j l => score (mainArr m c) (batchOf t) (queryOf t r) (columnOf t d) (rowOf j l) := by
    funext j l
    unfold score
    refine Finset.sum_congr rfl fun d' _ => ?_
    rw [block0, block1]
    refine congrArg₂ (· * ·) (congrArg (fun x => mainArr m c (ix3 _ _ x)) (Fin.ext ?_))
      (congrArg (fun x => mainArr m c (ix3 _ _ x)) (Fin.ext ?_))
    · show 768 + 256 * (t.val / 8 % 3) + (64 * (d.val / 64) + d'.val) = 768 + 64 * ((256 * (t.val / 8 % 3) + d.val) / 64) + d'.val
      omega
    · show 2432 + 128 * (t.val / 8 % 3) + d'.val = 2432 + 128 * ((256 * (t.val / 8 % 3) + d.val) / 256) + d'.val
      omega
  have hv : (fun (j : ℕ) (l : Fin 512) => kvBlock m c t (ix3 0 (rowOf j l) ⟨64 + d.val % 64, by omega⟩))
      = fun j l => value (mainArr m c) (batchOf t) (columnOf t d) (rowOf j l) := by
    funext j l
    unfold value
    rw [block1]
    refine congrArg (fun x => mainArr m c (ix3 _ _ x)) (Fin.ext ?_)
    show 2432 + 128 * (t.val / 8 % 3) + (64 + d.val % 64)
      = 2496 + 128 * ((256 * (t.val / 8 % 3) + d.val) / 256) + (256 * (t.val / 8 % 3) + d.val) % 64
    omega
  have hg : gBlock m c t (ix3 0 r d) = gate (projArr m c) (batchOf t) (queryOf t r) (columnOf t d) := by
    unfold gate
    rw [block2]
    refine congrArg (fun x => projArr m c (ix3 _ _ x)) (Fin.ext ?_)
    show 5376 + 256 * (t.val / 8 % 3) + d.val = 5376 + (256 * (t.val / 8 % 3) + d.val)
    omega
  rw [hs, hv, hg]

/-- The whole result. -/
def result (A0 : Vec Ideal S8x4096x3072 .bf16) (A1 : Vec Ideal S8x4096x6656 .bf16) : Vec Ideal S8x4096x768 .bf16 :=
  fun i => resultAt A0 A1 (i 0) (i 1) (i 2)

/-- The point whose block holds an index. -/
def pointOf (i : S8x4096x768.Idx) : Fin cfg0.N :=
  ⟨24 * (i 0).val + 8 * ((i 2).val / 256) + (i 1).val / 512, by
    have h0 : (i 0).val < 8 := (i 0).isLt
    have h1 : (i 1).val < 4096 := (i 1).isLt
    have h2 : (i 2).val < 768 := (i 2).isLt
    rw [show cfg0.N = 192 from N_0]; omega⟩

theorem flushed_eq (t : Fin cfg0.N) :
    (dats m 0 c).flushed 3 t = ((cfg0.win 3).blk t).view.read (Elt Ideal) (result (mainArr m c) (projArr m c)) := by
  rw [Cert.KernelIdeal.Value.flushed3]
  have h := index3 t
  funext y
  obtain ⟨z, r, d, rfl⟩ : ∃ (z : Fin 1) (r : Fin 512) (d : Fin 256), y = (ix3 z r d : S1x512x256.Idx) :=
    ⟨y 0, y 1, y 2, by funext a; match a with | ⟨0, _⟩ => rfl | ⟨1, _⟩ => rfl | ⟨2, _⟩ => rfl⟩
  obtain rfl : z = 0 := Subsingleton.elim _ _
  refine (out_at_apply m c t r d).trans ?_
  rw [View.read_apply]
  show result _ _ (ix3 (batchOf t) (queryOf t r) (columnOf t d)) = result _ _ _
  refine congrArg (result _ _) (funext fun a => Fin.ext ?_)
  match a with
  | ⟨0, _⟩ => show t.val / 24 = win0_3.index t 0 * 1 + 1 * 0; rw [h]; show _ = t.val / 24 * 1 + 1 * 0; omega
  | ⟨1, _⟩ =>
    show 512 * (t.val % 8) + r.val = win0_3.index t 1 * 512 + 1 * r.val
    rw [h]; show _ = t.val % 8 * 512 + 1 * r.val; omega
  | ⟨2, _⟩ =>
    show 256 * (t.val / 8 % 3) + d.val = win0_3.index t 2 * 256 + 1 * d.val
    rw [h]; show _ = t.val / 8 % 3 * 256 + 1 * d.val; omega

theorem covered (i : S8x4096x768.Idx) : ∃ t : Fin cfg0.N, (cfg0.win 3).flush t = true ∧ i ∈ ((cfg0.win 3).blk t).view.set := by
  refine ⟨pointOf i, flush0_3 _, ?_⟩
  have h := index3 (pointOf i)
  have h0 : (i 0).val < 8 := (i 0).isLt
  have h1 : (i 1).val < 4096 := (i 1).isLt
  have h2 : (i 2).val < 768 := (i 2).isLt
  have e : (pointOf i).val = 24 * (i 0).val + 8 * ((i 2).val / 256) + (i 1).val / 512 := rfl
  show i ∈ ((View.whole main_v0).slice (win0_3.rect (pointOf i))).set
  rw [View.set_slice_whole, Rect.mem_set_unit]
  intro a
  match a with
  | ⟨0, _⟩ =>
    show win0_3.index (pointOf i) 0 * 1 ≤ (i 0).val ∧ (i 0).val < win0_3.index (pointOf i) 0 * 1 + 1
    rw [h]
    show (pointOf i).val / 24 * 1 ≤ (i 0).val ∧ (i 0).val < (pointOf i).val / 24 * 1 + 1
    omega
  | ⟨1, _⟩ =>
    show win0_3.index (pointOf i) 1 * 512 ≤ (i 1).val ∧ (i 1).val < win0_3.index (pointOf i) 1 * 512 + 512
    rw [h]
    show (pointOf i).val % 8 * 512 ≤ (i 1).val ∧ (i 1).val < (pointOf i).val % 8 * 512 + 512
    omega
  | ⟨2, _⟩ =>
    show win0_3.index (pointOf i) 2 * 256 ≤ (i 2).val ∧ (i 2).val < win0_3.index (pointOf i) 2 * 256 + 256
    rw [h]
    show (pointOf i).val / 8 % 3 * 256 ≤ (i 2).val ∧ (i 2).val < (pointOf i).val / 8 % 3 * 256 + 256
    omega

/-- The result array after the run. -/
theorem array_eq : (dats m 0 c).arrAt 3 cfg0.N = result (mainArr m c) (projArr m c) :=
  (dats m 0 c).arrAt_eq_of_cover 3 _ (fun t _ => flushed_eq m c t) covered

/-- The kernel's run: its result, its arguments unchanged. -/
theorem kernel_run (ρ : Dev nD → PrngReg) : θ_run defs (onTc (τ := τ) (main (F := Ideal))) ⟨m, fun _ => 0, ρ⟩ fun r => ∀ c : Dev nD,
      r.2.mem ((c.tc : Thread nD τ).loc main_v0) = result (mainArr m c) (projArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (array_eq m c), (h c).2⟩)
    (Cert.KernelIdeal.Value.run_blocks m ρ)

end Cert.Attn

end
-- ==== Proof.Attn.RefValue.lean ====
/- The result of mixer B's reference, entry by entry. -/
module

public import proofs.«01_k».proof.Proof.Gen.ReferenceIdeal.Read
public import proofs.«01_k».proof.Proof.Attn.Value
public import Idealize.ShloMosaic.Lib.Pointwise
public import Idealize.ShloMosaic.Lib.IdealHost

@[expose] public section

set_option maxRecDepth 16384

noncomputable section

namespace Cert.Attn

open Idealize.ShloMosaic Cert.ReferenceIdeal Cert.ReferenceIdeal.Read

variable (A : Vec Ideal Cert.KernelIdeal.S8x4096x3072 .bf16) (A1 : Vec Ideal Cert.KernelIdeal.S8x4096x6656 .bf16)

theorem log_two : FloatOps.hostUnary (F := Ideal) (φ := .f32) .log (FloatOps.ofBits .f32 0x40000000#32) = ((Real.log 2 : ℝ) : EReal) := by
  have h : (FloatOps.ofBits .f32 0x40000000#32 : Ideal .f32) = ((2 : ℝ) : EReal) := by
    show Ideal.ofBits .f32 0x40000000#32 = _
    simp only [Ideal.ofBits, Ideal.ieee]
    simp
    rw [← EReal.coe_mul]
    norm_num
  rw [h]
  exact if_neg (by norm_num)

theorem ref_key (b : Fin 8) (k : Fin 4096) (h : Fin 3) (d : Fin 64) :
    val_main_v10 (F := Ideal) A (ix4 b k h d) = A (ix3 b k ⟨2432 + 128 * h.val + d.val, by omega⟩) := by
  rw [val_main_v10_apply, val_main_v9_apply, val_main_v8_apply, val_main_v7_apply, val_main_v6_apply]
  show A _ = A _
  refine congrArg A (funext fun a => Fin.ext ?_)
  match a with
  | ⟨0, _⟩ => simp [ix3, ix4]; omega
  | ⟨1, _⟩ => simp [ix3, ix4]; omega
  | ⟨2, _⟩ => simp [ix3, ix4]; omega

theorem ref_value (b : Fin 8) (k : Fin 4096) (h : Fin 3) (d : Fin 64) :
    val_main_v12 (F := Ideal) A (ix4 b k h d) = A (ix3 b k ⟨2496 + 128 * h.val + d.val, by omega⟩) := by
  rw [val_main_v12_apply, val_main_v11_apply, val_main_v8_apply, val_main_v7_apply, val_main_v6_apply]
  show A _ = A _
  refine congrArg A (funext fun a => Fin.ext ?_)
  match a with
  | ⟨0, _⟩ => simp [ix3, ix4]; omega
  | ⟨1, _⟩ => simp [ix3, ix4]; omega
  | ⟨2, _⟩ => simp [ix3, ix4]; omega

theorem ref_query (b : Fin 8) (s : Fin 4096) (h : Fin 3) (r : Fin 4) (d : Fin 64) :
    val_main_v5 (F := Ideal) A (ix5 b s h r d)
      = A (ix3 b s ⟨768 + 256 * h.val + 64 * r.val + d.val, by omega⟩) * ((Real.log 2 : ℝ) : EReal) := by
  rw [val_main_v5_apply, val_main_v2_apply, val_main_v1_apply, val_main_v0_apply, val_main_v4_apply, val_main_v3_apply,
    val_main_cst_apply, log_two]
  show A _ * _ = A _ * _
  refine congrArg (fun x => A x * _) (funext fun a => Fin.ext ?_)
  match a with
  | ⟨0, _⟩ => simp [ix3, ix5]; omega
  | ⟨1, _⟩ => simp [ix3, ix5]; omega
  | ⟨2, _⟩ => simp [ix3, ix5]; omega

theorem ref_max (b : Fin 8) (h : Fin 3) (r : Fin 4) (s : Fin 4096) :
    val_main_v15 (F := Ideal) A (ix4 b h r s)
      = Finset.univ.fold max ⊥ fun k : Fin 4096 => val_main_v14 (F := Ideal) A (ix5 b h r s k) := by
  unfold val_main_v15
  generalize val_main_v14 (F := Ideal) A = y
  unfold val_main_cst_0
  pointwise
  have hb : Ideal.ofBits .f32 4286578688#32 = (⊥ : EReal) := by simp [Ideal.ofBits, Ideal.ieee]
  rw [hb]

/-- The reference's scores. -/
def refScore (b : Fin 8) (s : Fin 4096) (e : Fin 768) (k : Fin 4096) : EReal :=
  ∑ d : Fin 64, A (ix3 b k ⟨2432 + 128 * (e.val / 256) + d.val, by omega⟩)
    * (A (ix3 b s ⟨768 + 64 * (e.val / 64) + d.val, by omega⟩) * ((Real.log 2 : ℝ) : EReal))

/-- The group, the head of the group and the column of the head of column `e`. -/
def groupOf (e : Fin 768) : Fin 3 := ⟨e.val / 256, by omega⟩
def headOf (e : Fin 768) : Fin 4 := ⟨e.val / 64 % 4, by omega⟩
def dimOf (e : Fin 768) : Fin 64 := ⟨e.val % 64, by omega⟩

theorem ref_score (b : Fin 8) (s : Fin 4096) (e : Fin 768) (k : Fin 4096) :
    val_main_v14 (F := Ideal) A (ix5 b (groupOf e) (headOf e) s k) = refScore A b s e k := by
  rw [val_main_v14_apply, val_main_v13_apply]
  unfold refScore
  refine Finset.sum_congr rfl fun d _ => ?_
  refine congrArg₂ (· * ·) ((congrArg (val_main_v10 (F := Ideal) A) ?_).trans ((ref_key A b k (groupOf e) d).trans ?_))
    ((congrArg (val_main_v5 (F := Ideal) A) ?_).trans ((ref_query A b s (groupOf e) (headOf e) d).trans ?_))
  · funext a
    match a with
    | ⟨0, _⟩ => rfl
    | ⟨1, _⟩ => rfl
    | ⟨2, _⟩ => rfl
    | ⟨3, _⟩ => rfl
  · rfl
  · funext a
    match a with
    | ⟨0, _⟩ => rfl
    | ⟨1, _⟩ => rfl
    | ⟨2, _⟩ => rfl
    | ⟨3, _⟩ => rfl
    | ⟨4, _⟩ => rfl
  · refine congrArg (fun x => A (ix3 b s x) * _) (Fin.ext ?_)
    show 768 + 256 * (e.val / 256) + 64 * (e.val / 64 % 4) + d.val = 768 + 64 * (e.val / 64) + d.val
    omega

/-- The maximum the reference's softmax subtracts. -/
def refMax (b : Fin 8) (s : Fin 4096) (e : Fin 768) : EReal :=
  max ⊥ (Finset.univ.fold max ⊥ fun k : Fin 4096 => refScore A b s e k)

theorem ref_exp (b : Fin 8) (s : Fin 4096) (e : Fin 768) (k : Fin 4096) :
    val_main_v21 (F := Ideal) A (ix5 b (groupOf e) (headOf e) s k) = Ideal.exp (refScore A b s e k - refMax A b s e) := by
  rw [val_main_v21_apply, val_main_v20_apply, val_main_v19_apply, val_main_v18_apply, val_main_v17_apply, val_main_v16_apply,
    val_main_cst_1_apply, ref_score]
  have hi : idx_main_v18 (idx_main_v19 (ix5 b (groupOf e) (headOf e) s k)) = ix4 b (groupOf e) (headOf e) s := by
    funext a
    match a with
    | ⟨0, _⟩ => rfl
    | ⟨1, _⟩ => rfl
    | ⟨2, _⟩ => rfl
    | ⟨3, _⟩ => rfl
  have hb : (FloatOps.ofBits .f32 0xFF800000#32 : Ideal .f32) = (⊥ : EReal) := by
    show Ideal.ofBits .f32 0xFF800000#32 = _
    simp [Ideal.ofBits, Ideal.ieee]
  rw [hi, ref_max, hb]
  simp only [ref_score]
  rfl

theorem ref_weight (b : Fin 8) (s : Fin 4096) (e : Fin 768) (k : Fin 4096) :
    val_main_v25 (F := Ideal) A (ix5 b (groupOf e) (headOf e) s k)
      = Ideal.div (Ideal.exp (refScore A b s e k - refMax A b s e))
          (∑ k' : Fin 4096, Ideal.exp (refScore A b s e k' - refMax A b s e)) := by
  rw [val_main_v25_apply, val_main_v24_apply, val_main_v23_apply, val_main_v22_apply, val_main_cst_2_apply, ref_exp]
  have hz : (FloatOps.ofBits .f32 0x00000000#32 : Ideal .f32) = (0 : EReal) := Ideal.ofBits_zero_f32
  rw [hz, zero_add]
  refine congrArg (Ideal.div _) (Finset.sum_congr rfl fun k' _ => ?_)
  refine (congrArg (val_main_v21 (F := Ideal) A) ?_).trans (ref_exp A b s e k')
  funext a
  match a with
  | ⟨0, _⟩ => rfl
  | ⟨1, _⟩ => rfl
  | ⟨2, _⟩ => rfl
  | ⟨3, _⟩ => rfl
  | ⟨4, _⟩ => rfl

theorem ref_attention (b : Fin 8) (s : Fin 4096) (e : Fin 768) :
    val_main_v28 (F := Ideal) A (ix3 b s e)
      = ∑ k : Fin 4096, value A b e k * Ideal.div (Ideal.exp (refScore A b s e k - refMax A b s e))
          (∑ k' : Fin 4096, Ideal.exp (refScore A b s e k' - refMax A b s e)) := by
  rw [val_main_v28_apply]
  have hi : idx_main_v28 (ix3 b s e) = ix5 b s (groupOf e) (headOf e) (dimOf e) := by
    funext a
    apply Fin.ext
    match a with
    | ⟨0, _⟩ => show ((b.val * 4096 + s.val) * 768 + e.val) / 3145728 = b.val; omega
    | ⟨1, _⟩ => show ((b.val * 4096 + s.val) * 768 + e.val) / 768 % 4096 = s.val; omega
    | ⟨2, _⟩ => show ((b.val * 4096 + s.val) * 768 + e.val) / 256 % 3 = e.val / 256; omega
    | ⟨3, _⟩ => show ((b.val * 4096 + s.val) * 768 + e.val) / 64 % 4 = e.val / 64 % 4; omega
    | ⟨4, _⟩ => show ((b.val * 4096 + s.val) * 768 + e.val) % 64 = e.val % 64; omega
  rw [hi, val_main_v27_apply, val_main_v26_apply]
  refine Finset.sum_congr rfl fun k _ => ?_
  refine congrArg₂ (· * ·) ((congrArg (val_main_v12 (F := Ideal) A) ?_).trans (ref_value A b k (groupOf e) (dimOf e)))
    ((congrArg (val_main_v25 (F := Ideal) A) ?_).trans (ref_weight A b s e k))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl

theorem ref_gate (b : Fin 8) (s : Fin 4096) (e : Fin 768) :
    val_main_v31 (F := Ideal) A1 (ix3 b s e) = gate A1 b s e * Ideal.logistic (gate A1 b s e) := by
  rw [val_main_v31_apply, val_main_call0_v5_apply, val_main_call0_v4_apply, val_main_call0_cst_0_apply,
    val_main_call0_v3_apply, val_main_call0_v2_apply, val_main_call0_cst_apply, val_main_call0_v1_apply,
    val_main_call0_v0_apply, val_main_v30_apply, val_main_v29_apply]
  have ho : (FloatOps.ofBits .f32 0x3F800000#32 : Ideal .f32) = (1 : EReal) := Ideal.ofBits_one_f32
  have hi : idx_main_v29 (ix3 b s e) = ix3 b s ⟨5376 + e.val, by omega⟩ := by
    funext a
    match a with
    | ⟨0, _⟩ => rfl
    | ⟨1, _⟩ => rfl
    | ⟨2, _⟩ => rfl
  rw [ho, hi]
  rfl

/-- The reference's result at (`b`, `s`, `e`). -/
theorem ref_apply (b : Fin 8) (s : Fin 4096) (e : Fin 768) :
    val_main_v33 (F := Ideal) A A1 (ix3 b s e)
      = (∑ k : Fin 4096, value A b e k * Ideal.div (Ideal.exp (refScore A b s e k - refMax A b s e))
          (∑ k' : Fin 4096, Ideal.exp (refScore A b s e k' - refMax A b s e)))
        * (gate A1 b s e * Ideal.logistic (gate A1 b s e)) := by
  rw [val_main_v33_apply, val_main_v32_apply, ref_attention, ref_gate]
  rfl

/-! ## Finite queries and keys -/

/-- An extended real whose absolute value is below infinity is a real number. -/
theorem real_of_abs_lt (x : EReal) (h : max x (-x) < ⊤) : ∃ r : ℝ, x = (r : EReal) := by
  induction x using EReal.rec with
  | bot => exact absurd h (by simp)
  | top => exact absurd h (by simp)
  | coe r => exact ⟨r, rfl⟩

/-- With finite queries and keys the kernel's result is the reference's. -/
theorem result_eq (b : Fin 8) (s : Fin 4096) (e : Fin 768)
    (hq : ∀ d : Fin 64, ∃ r : ℝ, A (ix3 b s ⟨768 + 64 * (e.val / 64) + d.val, by omega⟩) = (r : EReal))
    (hk : ∀ (k : Fin 4096) (d : Fin 64), ∃ r : ℝ, A (ix3 b k ⟨2432 + 128 * (e.val / 256) + d.val, by omega⟩) = (r : EReal)) :
    resultAt A A1 b s e = val_main_v33 (F := Ideal) A A1 (ix3 b s e) := by
  rw [ref_apply]
  unfold resultAt
  choose q hq using hq
  choose κ hk using hk
  have hs : ∀ k, score A b s e k = ((∑ d : Fin 64, q d * κ k d : ℝ) : EReal) := fun k => by
    unfold score
    rw [coe_sum]
    exact Finset.sum_congr rfl fun d _ => by rw [hq, hk, EReal.coe_mul]
  have hr : ∀ k, refScore A b s e k = (((∑ d : Fin 64, q d * κ k d) * Real.log 2 : ℝ) : EReal) := fun k => by
    unfold refScore
    rw [Finset.sum_mul, coe_sum]
    refine Finset.sum_congr rfl fun d _ => ?_
    rw [hq, hk, ← EReal.coe_mul, ← EReal.coe_mul]
    exact congrArg _ (by ring)
  obtain ⟨M, hM⟩ : ∃ M : ℝ, refMax A b s e = (M : EReal) := by
    obtain ⟨M, h⟩ := fold_max_real Finset.univ ⟨(0 : Fin 4096), Finset.mem_univ _⟩
      (fun k => (∑ d : Fin 64, q d * κ k d) * Real.log 2)
    refine ⟨M, ?_⟩
    unfold refMax
    simp only [hr]
    rw [h]
    exact max_eq_right bot_le
  obtain ⟨M₀, h₀⟩ := start_real
  simp only [hs, hr, hM, start, h₀]
  rw [attention_row M₀ M (fun k => ∑ d : Fin 64, q d * κ k d) (value A b e)]

end Cert.Attn

end
-- ==== Proof.Attn.Claims.lean ====
/- The claims about mixer B's attention: the frames of its three programs, and the equality of the kernel's result and
   the reference's for finite queries and keys. -/
module

public import proofs.«01_k».proof.Defs
public import proofs.«01_k».proof.Proof.Gen.Kernel.Frame
public import proofs.«01_k».proof.Proof.Gen.ReferenceIdeal.Run
public import proofs.«01_k».proof.Proof.Gen.Pre_finite_qk
public import proofs.«01_k».proof.Proof.Attn.RefValue
public import Idealize.ShloMosaic.Lib.ReduceAll
public import Idealize.ShloMosaic.Lib.Quiescent

@[expose] public section

set_option maxRecDepth 16384

noncomputable section

namespace Cert.Attn

open Idealize.ShloMosaic Idealize.ShloMosaic.TcCoe Idealize.SL.Sem

/-! ## The precondition -/

theorem lt_top_of_cmp (x : EReal) (h : FloatOps.cmpf (F := Ideal) (φ := .f32) .olt x (FloatOps.ofBits .f32 0x7F800000#32) = 1#1) : x < ⊤ := by
  have ht : (FloatOps.ofBits .f32 0x7F800000#32 : Ideal .f32) = (⊤ : EReal) := by
    show Ideal.ofBits .f32 0x7F800000#32 = _
    simp [Ideal.ofBits, Ideal.ieee]
  rw [ht] at h
  by_contra hn
  have : FloatOps.cmpf (F := Ideal) (φ := .f32) .olt x (⊤ : EReal) = 0#1 := by
    show BitVec.ofBool (decide (x < ⊤)) = _
    rw [decide_eq_false hn]; rfl
  rw [this] at h
  exact absurd h (by decide)

instance : Subsingleton Cert.Pre_finite_qk.S_.Idx := ⟨fun a b => funext fun i => i.elim0⟩

theorem finite_of_pre (A : Vec Ideal Cert.KernelIdeal.S8x4096x3072 .bf16) (A1 : Vec Ideal Cert.KernelIdeal.S8x4096x6656 .bf16)
    (h : Cert.Pre_finite_qk.fn (F := Ideal) A A1 = fun _ => 1#1) :
    (∀ (b : Fin 8) (s : Fin 4096) (e : Fin 768), ∃ r : ℝ, A (ix3 b s ⟨768 + e.val, by omega⟩) = (r : EReal))
    ∧ ∀ (b : Fin 8) (k : Fin 4096) (g : Fin 3) (d : Fin 64),
      ∃ r : ℝ, A (ix3 b k ⟨2432 + 128 * g.val + d.val, by omega⟩) = (r : EReal) := by
  have h' := congrFun h (fun a => a.elim0)
  unfold Cert.Pre_finite_qk.fn at h'
  dsimp only at h'
  obtain ⟨hq, hk⟩ := IntOp.andi_eq_one.mp h'
  constructor
  · intro b s e
    have h1 := Host.reduce_andi_all _ _ _ _ _ hq (ix3 b s e)
    have h2 := lt_top_of_cmp _ h1
    refine real_of_abs_lt _ (lt_of_eq_of_lt ?_ h2)
    pointwise
    rfl
  · intro b k g d
    have h1 := Host.reduce_andi_all _ _ _ _ _ hk (ix4 b k g d)
    have h2 := lt_top_of_cmp _ h1
    refine real_of_abs_lt _ (lt_of_eq_of_lt ?_ h2)
    pointwise
    exact congrArg (fun x => max (A (ix3 b k x)) (-A (ix3 b k x)))
      (Fin.ext (show 2432 + 128 * g.val + d.val = 2432 + (g.val * 128 + d.val) by omega))

/-! ## The claims -/

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_qk := fun m ρ _ => Cert.KernelIdeal.Gen.frame m ρ

theorem frame_reference : Cert.quiescent_ReferenceIdeal := fun m ρ _ =>
  (θ_run Cert.ReferenceIdeal.defs _ _).mono (fun r h => ⟨fun c => ⟨(h c).2.1, (h c).2.2⟩,
    Idealize.ShloMosaic.sem_eq_zero_of_no_sems (by decide) r.2⟩) (Cert.ReferenceIdeal.Value.run (F := Ideal) m ρ)

theorem frame_reference_pre : Cert.quiescent_ReferenceIdeal_pre_finite_qk := fun m ρ _ =>
  (θ_run Cert.ReferenceIdeal.defs _ _).mono (fun r h => ⟨fun c => ⟨(h c).2.1, (h c).2.2⟩,
    Idealize.ShloMosaic.sem_eq_zero_of_no_sems (by decide) r.2⟩) (Cert.ReferenceIdeal.Value.run (F := Ideal) m ρ)

/-- The kernel and the reference compute the same array. -/
theorem value_claim : Cert.algebraic_KernelIdeal_ReferenceIdeal_pre_finite_qk := by
  intro m ρ m' ρ' hpre hargs
  refine ⟨fun c => result (mainArr m c) (projArr m c), kernel_run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v33_eq, (hargs c).1, (hargs c).2]
  obtain ⟨hq, hk⟩ := finite_of_pre (mainArr m c) (projArr m c) (hpre c)
  funext i
  obtain ⟨b, s, e, rfl⟩ : ∃ (b : Fin 8) (s : Fin 4096) (e : Fin 768), i = ix3 b s e :=
    ⟨i 0, i 1, i 2, by funext a; match a with | ⟨0, _⟩ => rfl | ⟨1, _⟩ => rfl | ⟨2, _⟩ => rfl⟩
  refine (result_eq (mainArr m c) (projArr m c) b s e (fun d => ?_) (fun k d => ?_)).symm
  · obtain ⟨r, hr⟩ := hq b s ⟨64 * (e.val / 64) + d.val, by omega⟩
    refine ⟨r, hr.symm ▸ congrArg (fun x => mainArr m c (ix3 b s x)) (Fin.ext ?_)⟩
    show 768 + 64 * (e.val / 64) + d.val = 768 + (64 * (e.val / 64) + d.val)
    omega
  · obtain ⟨r, hr⟩ := hk b k ⟨e.val / 256, by omega⟩ d
    exact ⟨r, hr⟩

end Cert.Attn

end
-- ==== Proof.Inproj.Value.lean ====
/- The input projection: the kernel's result as one function of its three arguments, and the reference's. -/
module

public import proofs.«01_k».proof.Proof.Gen.Kernel2Ideal.Value
public import proofs.«01_k».proof.Proof.Gen.Reference2Ideal.Read
public import Idealize.ShloMosaic.Lib.Pointwise
public import Idealize.ShloMosaic.Lib.ValueIdx
public import Idealize.ShloMosaic.Lib.IdealHost
public import Idealize.ShloMosaic.Lib.Pipeline.ValueKit.Tiles

@[expose] public section

set_option maxRecDepth 16384

noncomputable section

namespace Cert.Inproj

open Idealize.ShloMosaic Idealize.ShloMosaic.TcCoe Idealize.SL.Sem Cert.Kernel2Ideal Cert.Kernel2Ideal.Gen
open Idealize.ShloMosaic.Pipeline (Dat)

/-- The reciprocal root of a row's mean square. -/
def scaleOf (row : Fin 2048 → EReal) : EReal :=
  Ideal.rsqrt (Ideal.div (∑ d : Fin 2048, row d * row d) (Ideal.ofBits .f32 0x45000000#32) + Ideal.ofBits .f32 0x358637BD#32)

/-- One entry: the normed row times a column of the weights. -/
def entryOf (row gain col : Fin 2048 → EReal) : EReal :=
  ∑ d : Fin 2048, row d * scaleOf row * gain d * col d

/-- The whole result. -/
def result (X : Vec Ideal S32768x2048 .f32) (G : Vec Ideal S1x2048 .f32) (W : Vec Ideal S2048x6656 .bf16) :
    Vec Ideal S32768x6656 .bf16 :=
  fun i => entryOf (fun d => X (ix2 (i 0) d)) (fun d => G (ix2 0 d)) (fun d => W (ix2 d (i 1)))

/-- What a point stores, at row `r` and column `e`. -/
theorem pay_apply (x : Vec Ideal S512x2048 .f32) (g : Vec Ideal S1x2048 .f32) (w : Vec Ideal S2048x6656 .bf16)
    (r : Fin 512) (e : Fin 6656) :
    k0_pay1 x g w (ix2 r e) = entryOf (fun d => x (ix2 r d)) (fun d => g (ix2 0 d)) (fun d => w (ix2 d e)) := by
  unfold k0_pay1 entryOf scaleOf
  pointwise

theorem hz2 : (![0, 0] : Fin 2 → Nat) = fun _ => 0 := funext fun a => by fin_cases a <;> rfl

theorem out_eq (x : Vec Ideal S512x2048 .f32) (g : Vec Ideal S1x2048 .f32) (w : Vec Ideal S2048x6656 .bf16) :
    out0_3 x g w = k0_pay1 x g w := by
  unfold out0_3
  rw [View.canon_unit_zero hz2, View.ld_unit_zero (S := S512x2048) hz2, View.ld_unit_zero (S := S1x2048) hz2,
    View.ld_unit_zero (S := S2048x6656) hz2]

/-! ## The blocks -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel

theorem lt_points (t : Fin cfg0.N) : t.val < 64 := lt_of_lt_of_eq t.isLt N_0

variable (m : (ℓ : Loc nD τ sig) → Buf (Elt Ideal) ℓ) (c : Dev nD)

/-- The rows, the gains and the weights, at entry. -/
abbrev xArr : Vec Ideal S32768x2048 .f32 := m ((c.tc : Thread nD τ).loc main_arg0)
abbrev gArr : Vec Ideal S1x2048 .f32 := m ((c.tc : Thread nD τ).loc main_arg1)
abbrev wArr : Vec Ideal S2048x6656 .bf16 := m ((c.tc : Thread nD τ).loc main_arg2)

/-- The blocks that point `t` reads. -/
abbrev xBlock (t : Fin cfg0.N) : Vec Ideal S512x2048 .f32 := iblk m c 0 t
abbrev gBlock (t : Fin cfg0.N) : Vec Ideal S1x2048 .f32 := iblk m c 1 t
abbrev wBlock (t : Fin cfg0.N) : Vec Ideal S2048x6656 .bf16 := iblk m c 2 t

/-- The row of the array that is row `r` at point `t`. -/
def rowAt (t : Fin cfg0.N) (r : Fin 512) : Fin 32768 := ⟨512 * t.val + r.val, by have := lt_points t; omega⟩

theorem block0 (t : Fin cfg0.N) (r : Fin 512) (d : Fin 2048) : xBlock m c t (ix2 r d) = xArr m c (ix2 (rowAt t r) d) := by
  have h := index0 t
  unfold xBlock iblk
  rw [View.read_apply]
  show V m c main_arg0 _ = _
  rw [V_main_arg0]
  refine congrArg (xArr m c) (funext fun a => Fin.ext ?_)
  match a with
  | ⟨0, _⟩ => show win0_0.index t 0 * 512 + 1 * r.val = 512 * t.val + r.val; rw [h]; show t.val * 512 + 1 * r.val = _; omega
  | ⟨1, _⟩ => show win0_0.index t 1 * 2048 + 1 * d.val = d.val; rw [h]; show 0 * 2048 + 1 * d.val = _; omega

theorem block1 (t : Fin cfg0.N) (d : Fin 2048) : gBlock m c t (ix2 0 d) = gArr m c (ix2 0 d) := by
  have h := index1 t
  unfold gBlock iblk
  rw [View.read_apply]
  show V m c main_arg1 _ = _
  rw [V_main_arg1]
  refine congrArg (gArr m c) (funext fun a => Fin.ext ?_)
  match a with
  | ⟨0, _⟩ => show win0_1.index t 0 * 1 + 1 * 0 = 0; rw [h]; rfl
  | ⟨1, _⟩ => show win0_1.index t 1 * 2048 + 1 * d.val = d.val; rw [h]; show 0 * 2048 + 1 * d.val = _; omega

theorem block2 (t : Fin cfg0.N) (d : Fin 2048) (e : Fin 6656) : wBlock m c t (ix2 d e) = wArr m c (ix2 d e) := by
  have h := index2 t
  unfold wBlock iblk
  rw [View.read_apply]
  show V m c main_arg2 _ = _
  rw [V_main_arg2]
  refine congrArg (wArr m c) (funext fun a => Fin.ext ?_)
  match a with
  | ⟨0, _⟩ => show win0_2.index t 0 * 2048 + 1 * d.val = d.val; rw [h]; show 0 * 2048 + 1 * d.val = _; omega
  | ⟨1, _⟩ => show win0_2.index t 1 * 6656 + 1 * e.val = e.val; rw [h]; show 0 * 6656 + 1 * e.val = _; omega

theorem flushed_eq (t : Fin cfg0.N) :
    (dats m 0 c).flushed 3 t = ((cfg0.win 3).blk t).view.read (Elt Ideal) (result (xArr m c) (gArr m c) (wArr m c)) := by
  rw [Cert.Kernel2Ideal.Value.flushed3]
  have h := index3 t
  funext y
  obtain ⟨r, e, rfl⟩ : ∃ (r : Fin 512) (e : Fin 6656), y = (ix2 r e : S512x6656.Idx) :=
    ⟨y 0, y 1, by funext a; match a with | ⟨0, _⟩ => rfl | ⟨1, _⟩ => rfl⟩
  have hout := congrFun (out_eq (xBlock m c t) (gBlock m c t) (wBlock m c t)) (ix2 r e)
  rw [pay_apply] at hout
  simp only [block0, block1, block2] at hout
  refine hout.trans ?_
  rw [View.read_apply]
  show result _ _ _ (ix2 (rowAt t r) e) = result _ _ _ _
  refine congrArg (result _ _ _) (funext fun a => Fin.ext ?_)
  match a with
  | ⟨0, _⟩ =>
    show 512 * t.val + r.val = win0_3.index t 0 * 512 + 1 * r.val
    rw [h]; show _ = t.val * 512 + 1 * r.val; omega
  | ⟨1, _⟩ =>
    show e.val = win0_3.index t 1 * 6656 + 1 * e.val
    rw [h]; show _ = 0 * 6656 + 1 * e.val; omega

/-- The point whose block holds an index. -/
def pointOf (i : S32768x6656.Idx) : Fin cfg0.N :=
  ⟨(i 0).val / 512, by have h0 : (i 0).val < 32768 := (i 0).isLt; rw [show cfg0.N = 64 from N_0]; omega⟩

theorem covered (i : S32768x6656.Idx) : ∃ t : Fin cfg0.N, (cfg0.win 3).flush t = true ∧ i ∈ ((cfg0.win 3).blk t).view.set := by
  refine ⟨pointOf i, flush0_3 _, ?_⟩
  have h := index3 (pointOf i)
  have h0 : (i 0).val < 32768 := (i 0).isLt
  have h1 : (i 1).val < 6656 := (i 1).isLt
  have e : (pointOf i).val = (i 0).val / 512 := rfl
  show i ∈ ((View.whole main_v0).slice (win0_3.rect (pointOf i))).set
  rw [View.set_slice_whole, Rect.mem_set_unit]
  intro a
  match a with
  | ⟨0, _⟩ =>
    show win0_3.index (pointOf i) 0 * 512 ≤ (i 0).val ∧ (i 0).val < win0_3.index (pointOf i) 0 * 512 + 512
    rw [h]
    show (pointOf i).val * 512 ≤ (i 0).val ∧ (i 0).val < (pointOf i).val * 512 + 512
    omega
  | ⟨1, _⟩ =>
    show win0_3.index (pointOf i) 1 * 6656 ≤ (i 1).val ∧ (i 1).val < win0_3.index (pointOf i) 1 * 6656 + 6656
    rw [h]
    show 0 * 6656 ≤ (i 1).val ∧ (i 1).val < 0 * 6656 + 6656
    omega

/-- The result array after the run. -/
theorem array_eq : (dats m 0 c).arrAt 3 cfg0.N = result (xArr m c) (gArr m c) (wArr m c) :=
  (dats m 0 c).arrAt_eq_of_cover 3 _ (fun t _ => flushed_eq m c t) covered

/-! ## The reference -/

/-- The reference's result is the same function. -/
theorem reference_eq (X : Vec Ideal S32768x2048 .f32) (G : Vec Ideal S1x2048 .f32) (W : Vec Ideal S2048x6656 .bf16) :
    Cert.Reference2Ideal.Read.val_main_v14 (F := Ideal) X G W = result X G W := by
  funext i
  obtain ⟨t, e, rfl⟩ : ∃ (t : Fin 32768) (e : Fin 6656), i = (ix2 t e : S32768x6656.Idx) :=
    ⟨i 0, i 1, by funext a; match a with | ⟨0, _⟩ => rfl | ⟨1, _⟩ => rfl⟩
  rw [Cert.Reference2Ideal.Read.val_main_v14_apply]
  refine (Cert.Reference2Ideal.Read.val_main_v13_apply X G W (ix2 t e)).trans ?_
  show _ = ∑ d : Fin 2048, X (ix2 t d) * scaleOf (fun d => X (ix2 t d)) * G (ix2 0 d) * W (ix2 d e)
  refine Finset.sum_congr rfl fun d _ => ?_
  have hx : Cert.Reference2Ideal.Read.lidx_main_v13 (ix2 t e) d = ix2 t d := by
    funext a; match a with | ⟨0, _⟩ => rfl | ⟨1, _⟩ => rfl
  have hw : Cert.Reference2Ideal.Read.ridx_main_v13 (ix2 t e) d = ix2 d e := by
    funext a; match a with | ⟨0, _⟩ => rfl | ⟨1, _⟩ => rfl
  have hg : Cert.Reference2Ideal.Read.idx_main_v10 (ix2 t d) = ix2 0 d := by
    funext a; match a with | ⟨0, _⟩ => rfl | ⟨1, _⟩ => rfl
  have hs : Cert.Reference2Ideal.Read.val_main_v8 (F := Ideal) X (ix2 t d) = scaleOf fun d => X (ix2 t d) := by
    rw [Cert.Reference2Ideal.Read.val_main_v8_apply, Cert.Reference2Ideal.Read.val_main_v7_apply,
      Cert.Reference2Ideal.Read.val_main_v6_apply, Cert.Reference2Ideal.Read.val_main_v4_apply,
      Cert.Reference2Ideal.Read.val_main_v2_apply, Cert.Reference2Ideal.Read.val_main_v1_apply,
      Cert.Reference2Ideal.Read.val_main_v3_apply, Cert.Reference2Ideal.Read.val_main_v5_apply,
      Cert.Reference2Ideal.Read.val_main_cst_apply, Cert.Reference2Ideal.Read.val_main_cst_0_apply,
      Cert.Reference2Ideal.Read.val_main_cst_1_apply]
    have h0 : (FloatOps.ofBits .f32 0x00000000#32 : Ideal .f32) = (0 : EReal) := Ideal.ofBits_zero_f32
    rw [h0, zero_add]
    refine congrArg (fun z => Ideal.rsqrt (Ideal.div z (Ideal.ofBits .f32 0x45000000#32) + Ideal.ofBits .f32 0x358637BD#32))
      (Finset.sum_congr rfl fun k _ => ?_)
    have hk : Cert.Reference2Ideal.Read.idx_main_v1 (Cert.Reference2Ideal.Read.idx_main_v2
        (Cert.Reference2Ideal.Read.idx_main_v8 (ix2 t d))) k = ix2 t k := by
      funext a; match a with | ⟨0, _⟩ => rfl | ⟨1, _⟩ => rfl
    rw [hk]
    rfl
  rw [hx, hw, Cert.Reference2Ideal.Read.val_main_v11_apply, Cert.Reference2Ideal.Read.val_main_v10_apply, hg,
    Cert.Reference2Ideal.Read.val_main_v9_apply, hs]
  rfl

end Cert.Inproj

end
-- ==== Proof.Inproj.Claims.lean ====
/- The claims about the input projection: the frames of its three programs, and the equality of the results. -/
module

public import proofs.«01_k».proof.Defs
public import proofs.«01_k».proof.Proof.Gen.Kernel2.Frame
public import proofs.«01_k».proof.Proof.Gen.Reference2Ideal.Run
public import proofs.«01_k».proof.Proof.Inproj.Value
public import Idealize.ShloMosaic.Lib.Quiescent

@[expose] public section

set_option maxRecDepth 16384

noncomputable section

namespace Cert.Inproj

open Idealize.ShloMosaic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2,
    Idealize.ShloMosaic.sem_eq_zero_of_no_sems (by decide) r.2⟩) (Cert.Reference2Ideal.Value.run (F := Ideal) m ρ)

/-- The kernel and the reference compute the same array, whatever the arguments. -/
theorem value_claim : Cert.algebraic_Kernel2Ideal_Reference2Ideal := by
  intro m ρ m' ρ' _ hargs
  refine ⟨fun c => result (xArr m c) (gArr m c) (wArr m c), ?_, ?_⟩
  · exact (θ_run Cert.Kernel2Ideal.defs _ _).mono (fun _ h c => ⟨(h c).1.trans (array_eq m c), (h c).2⟩)
      (Cert.Kernel2Ideal.Value.run_blocks m ρ)
  refine (θ_run Cert.Reference2Ideal.defs _ _).mono (fun r h c => ⟨(h c).1.trans ?_, (h c).2⟩)
    (Cert.Reference2Ideal.Value.run (F := Ideal) m' ρ')
  rw [Cert.Reference2Ideal.Read.val_main_v14_eq, (hargs c).1, (hargs c).2.1, (hargs c).2.2]
  exact reference_eq (xArr m c) (gArr m c) (wArr m c)

end Cert.Inproj

end
-- ==== Proof.Outproj.Stage.lean ====
module

public import proofs.«01_k».proof.Proof.Gen.Kernel3Ideal.Value
public import Idealize.ShloMosaic.Lib.Pointwise
public import Idealize.ShloMosaic.Lib.ValueIdx
public import Idealize.ShloMosaic.Lib.IdealHost
public import Idealize.ShloMosaic.Lib.Pipeline.ValueKit.Tiles

@[expose] public section

set_option maxRecDepth 16384

noncomputable section

namespace Cert.Outproj

open Idealize.ShloMosaic Idealize.ShloMosaic.TcCoe Idealize.SL.Sem Cert.Kernel3Ideal Cert.Kernel3Ideal.Gen
open Idealize.ShloMosaic.Pipeline (Dat)

/-! The four staged operands of a point of the output projection. The groups with shift 4 and 16 arrive split by residue
    class, and the kernel writes them, class by class and lane tile by lane tile, into one scratch array. Read back, that
    array holds at `(4 a + k, r, e)` the operand number `a` at token `r`, lane `128 k + e`. -/

/-- The operand with four classes: class, then position in the class. -/
def four (v : Vec Ideal S1x4x128x512 .f32) (r : Fin 512) (e : Fin 512) : EReal :=
  v (ix4 (0 : Fin 1) (⟨r.val % 4, by omega⟩ : Fin 4) (⟨r.val / 4, by omega⟩ : Fin 128) e)

/-- The operand with sixteen classes. -/
def sixteen (v : Vec Ideal S1x16x32x512 .f32) (r : Fin 512) (e : Fin 512) : EReal :=
  v (ix4 (0 : Fin 1) (⟨r.val % 16, by omega⟩ : Fin 16) (⟨r.val / 16, by omega⟩ : Fin 32) e)

/-- The lane of the operand a scratch element holds. -/
def laneOf (y : S16x512x128.Idx) : Fin 512 :=
  ⟨128 * ((y 0).val % 4) + (y 2).val, by have h2 : (y 2).val < 128 := (y 2).isLt; omega⟩

/-- What the scratch array holds. -/
def stage (x5 x6 : Vec Ideal S1x4x128x512 .f32) (x7 x8 : Vec Ideal S1x16x32x512 .f32) : Vec Ideal S16x512x128 .f32 := fun y =>
  if (y 0).val < 4 then four x5 (y 1) (laneOf y)
  else if (y 0).val < 8 then four x6 (y 1) (laneOf y)
  else if (y 0).val < 12 then sixteen x7 (y 1) (laneOf y)
  else sixteen x8 (y 1) (laneOf y)

/-- A block of one class, flattened and given a leading axis: its entries. -/
theorem cast_four (v : Vec Ideal S1x1x128x128 .f32) (x : S1x128x128.Idx) :
    shapeCast S1x128x128 (shapeCast S128x128 v shapeCasts_S1x1x128x128_S128x128) shapeCasts_S128x128_S1x128x128 x
      = v (ix4 (0 : Fin 1) (0 : Fin 1) (x 1) (x 2)) := by
  pointwise

/-- One store: class `j`, lane tile `k` of an operand, at the rows of the scratch that belong to it. -/
theorem row_four (arg : Memref sig .tc .vmem S1x4x128x512 .f32) (harg : arg.IsWhole) (v : Vec Ideal S1x4x128x512 .f32)
    (s j k l : ℕ) (hs : s % 4 = k) (hl : l = 128 * k)
    (inbR : ∀ a : Fin S16x512x128.rank, S1x128x128.size a = 0 ∨ (![s, j, 0] : Fin 3 → ℕ) a + (![1, 4, 1] : Fin 3 → ℕ) a * (S1x128x128.size a - 1) < S16x512x128.size a)
    (spos : ∀ a, 0 < (![1, 4, 1] : Fin 3 → ℕ) a)
    (inbL : ∀ a : Fin S1x4x128x512.rank, (![0, j, 0, l] : Fin 4 → ℕ) a + S1x1x128x128.size a ≤ S1x4x128x512.size a)
    (y : S16x512x128.Idx) (w : EReal) (hw : (y 0).val = s → w = four v (y 1) (laneOf y)) :
    View.RectAt (Val := Elt Ideal) (e := .f32) y (⟨⟨![s, j, 0], S1x128x128.size, ![1, 4, 1], inbR⟩, spos⟩ : Rect S16x512x128)
      (shapeCast S1x128x128 (shapeCast S128x128 (show Vec Ideal S1x1x128x128 .f32 from View.readAt (Elt Ideal) arg.view
        (Rect.unit (s := S1x4x128x512) ![0, j, 0, l] S1x1x128x128.size inbL).toLoadRect (harg.unread v))
        shapeCasts_S1x1x128x128_S128x128) shapeCasts_S128x128_S1x128x128) w := by
  intro x hx
  have h0 : s + 1 * (x 0).val = (y 0).val := congrArg (fun q : S16x512x128.Idx => (q 0).val) hx
  have h1 : j + 4 * (x 1).val = (y 1).val := congrArg (fun q : S16x512x128.Idx => (q 1).val) hx
  have h2 : 0 + 1 * (x 2).val = (y 2).val := congrArg (fun q : S16x512x128.Idx => (q 2).val) hx
  have b0 : (x 0).val < 1 := (x 0).isLt
  have hj : j + 1 ≤ 4 := inbL 1
  rw [hw (by omega)]
  refine (cast_four _ x).trans ?_
  rw [View.readAt_eq_ld, harg.read_unread]
  unfold four
  refine congrArg v (funext fun a => Fin.ext ?_)
  match a with
  | ⟨0, _⟩ => rfl
  | ⟨1, _⟩ => show j + 1 * 0 = (y 1).val % 4; omega
  | ⟨2, _⟩ => show 0 + 1 * (x 1).val = (y 1).val / 4; omega
  | ⟨3, _⟩ => show l + 1 * (x 2).val = 128 * ((y 0).val % 4) + (y 2).val; omega

/-- The scratch elements one store writes. -/
theorem mem_four (s j : ℕ)
    (inbR : ∀ a : Fin S16x512x128.rank, S1x128x128.size a = 0 ∨ (![s, j, 0] : Fin 3 → ℕ) a + (![1, 4, 1] : Fin 3 → ℕ) a * (S1x128x128.size a - 1) < S16x512x128.size a)
    (spos : ∀ a, 0 < (![1, 4, 1] : Fin 3 → ℕ) a) (y : S16x512x128.Idx) (hs : (y 0).val = s) (hj : (y 1).val % 4 = j) :
    y ∈ (⟨⟨![s, j, 0], S1x128x128.size, ![1, 4, 1], inbR⟩, spos⟩ : Rect S16x512x128).set := by
  have b1 : (y 1).val < 512 := (y 1).isLt
  have b2 : (y 2).val < 128 := (y 2).isLt
  refine LoadRect.mem_set _ |>.mpr fun a => ?_
  match a with
  | ⟨0, _⟩ => exact ⟨0, by show 0 < 1; omega, by show (y 0).val = s + 1 * 0; omega⟩
  | ⟨1, _⟩ => exact ⟨(y 1).val / 4, by show _ < 128; omega, by show (y 1).val = j + 4 * ((y 1).val / 4); omega⟩
  | ⟨2, _⟩ => exact ⟨(y 2).val, b2, by show (y 2).val = 0 + 1 * (y 2).val; omega⟩

/-- A block of one class, flattened and given a leading axis: its entries. -/
theorem cast_sixteen (v : Vec Ideal S1x1x32x128 .f32) (x : S1x32x128.Idx) :
    shapeCast S1x32x128 (shapeCast S32x128 v shapeCasts_S1x1x32x128_S32x128) shapeCasts_S32x128_S1x32x128 x
      = v (ix4 (0 : Fin 1) (0 : Fin 1) (x 1) (x 2)) := by
  pointwise

/-- One store: class `j`, lane tile `k` of an operand, at the rows of the scratch that belong to it. -/
theorem row_sixteen (arg : Memref sig .tc .vmem S1x16x32x512 .f32) (harg : arg.IsWhole) (v : Vec Ideal S1x16x32x512 .f32)
    (s j k l : ℕ) (hs : s % 4 = k) (hl : l = 128 * k)
    (inbR : ∀ a : Fin S16x512x128.rank, S1x32x128.size a = 0 ∨ (![s, j, 0] : Fin 3 → ℕ) a + (![1, 16, 1] : Fin 3 → ℕ) a * (S1x32x128.size a - 1) < S16x512x128.size a)
    (spos : ∀ a, 0 < (![1, 16, 1] : Fin 3 → ℕ) a)
    (inbL : ∀ a : Fin S1x16x32x512.rank, (![0, j, 0, l] : Fin 4 → ℕ) a + S1x1x32x128.size a ≤ S1x16x32x512.size a)
    (y : S16x512x128.Idx) (w : EReal) (hw : (y 0).val = s → w = sixteen v (y 1) (laneOf y)) :
    View.RectAt (Val := Elt Ideal) (e := .f32) y (⟨⟨![s, j, 0], S1x32x128.size, ![1, 16, 1], inbR⟩, spos⟩ : Rect S16x512x128)
      (shapeCast S1x32x128 (shapeCast S32x128 (show Vec Ideal S1x1x32x128 .f32 from View.readAt (Elt Ideal) arg.view
        (Rect.unit (s := S1x16x32x512) ![0, j, 0, l] S1x1x32x128.size inbL).toLoadRect (harg.unread v))
        shapeCasts_S1x1x32x128_S32x128) shapeCasts_S32x128_S1x32x128) w := by
  intro x hx
  have h0 : s + 1 * (x 0).val = (y 0).val := congrArg (fun q : S16x512x128.Idx => (q 0).val) hx
  have h1 : j + 16 * (x 1).val = (y 1).val := congrArg (fun q : S16x512x128.Idx => (q 1).val) hx
  have h2 : 0 + 1 * (x 2).val = (y 2).val := congrArg (fun q : S16x512x128.Idx => (q 2).val) hx
  have b0 : (x 0).val < 1 := (x 0).isLt
  have hj : j + 1 ≤ 16 := inbL 1
  rw [hw (by omega)]
  refine (cast_sixteen _ x).trans ?_
  rw [View.readAt_eq_ld, harg.read_unread]
  unfold sixteen
  refine congrArg v (funext fun a => Fin.ext ?_)
  match a with
  | ⟨0, _⟩ => rfl
  | ⟨1, _⟩ => show j + 1 * 0 = (y 1).val % 16; omega
  | ⟨2, _⟩ => show 0 + 1 * (x 1).val = (y 1).val / 16; omega
  | ⟨3, _⟩ => show l + 1 * (x 2).val = 128 * ((y 0).val % 4) + (y 2).val; omega

/-- The scratch elements one store writes. -/
theorem mem_sixteen (s j : ℕ)
    (inbR : ∀ a : Fin S16x512x128.rank, S1x32x128.size a = 0 ∨ (![s, j, 0] : Fin 3 → ℕ) a + (![1, 16, 1] : Fin 3 → ℕ) a * (S1x32x128.size a - 1) < S16x512x128.size a)
    (spos : ∀ a, 0 < (![1, 16, 1] : Fin 3 → ℕ) a) (y : S16x512x128.Idx) (hs : (y 0).val = s) (hj : (y 1).val % 16 = j) :
    y ∈ (⟨⟨![s, j, 0], S1x32x128.size, ![1, 16, 1], inbR⟩, spos⟩ : Rect S16x512x128).set := by
  have b1 : (y 1).val < 512 := (y 1).isLt
  have b2 : (y 2).val < 128 := (y 2).isLt
  refine LoadRect.mem_set _ |>.mpr fun a => ?_
  match a with
  | ⟨0, _⟩ => exact ⟨0, by show 0 < 1; omega, by show (y 0).val = s + 1 * 0; omega⟩
  | ⟨1, _⟩ => exact ⟨(y 1).val / 16, by show _ < 32; omega, by show (y 1).val = j + 16 * ((y 1).val / 16); omega⟩
  | ⟨2, _⟩ => exact ⟨(y 2).val, b2, by show (y 2).val = 0 + 1 * (y 2).val; omega⟩

theorem stage_0 (x5 x6 : Vec Ideal S1x4x128x512 .f32) (x7 x8 : Vec Ideal S1x16x32x512 .f32) (y : S16x512x128.Idx) (s : ℕ) (h : s < 4) : (y 0).val = s → stage x5 x6 x7 x8 y = four x5 (y 1) (laneOf y) := by
  intro e; unfold stage; rw [if_pos (by omega)]
theorem stage_1 (x5 x6 : Vec Ideal S1x4x128x512 .f32) (x7 x8 : Vec Ideal S1x16x32x512 .f32) (y : S16x512x128.Idx) (s : ℕ) (h : 4 ≤ s ∧ s < 8) : (y 0).val = s → stage x5 x6 x7 x8 y = four x6 (y 1) (laneOf y) := by
  intro e; unfold stage; rw [if_neg (by omega), if_pos (by omega)]
theorem stage_2 (x5 x6 : Vec Ideal S1x4x128x512 .f32) (x7 x8 : Vec Ideal S1x16x32x512 .f32) (y : S16x512x128.Idx) (s : ℕ) (h : 8 ≤ s ∧ s < 12) : (y 0).val = s → stage x5 x6 x7 x8 y = sixteen x7 (y 1) (laneOf y) := by
  intro e; unfold stage; rw [if_neg (by omega), if_neg (by omega), if_pos (by omega)]
theorem stage_3 (x5 x6 : Vec Ideal S1x4x128x512 .f32) (x7 x8 : Vec Ideal S1x16x32x512 .f32) (y : S16x512x128.Idx) (s : ℕ) (h : 12 ≤ s) : (y 0).val = s → stage x5 x6 x7 x8 y = sixteen x8 (y 1) (laneOf y) := by
  intro e; unfold stage; rw [if_neg (by omega), if_neg (by omega), if_neg (by omega)]

/-- Every store of the run writes what `stage` says. -/
theorem pieces_allAt (c : Dev nD) (arg7 : Memref sig .tc .vmem S1x4x128x512 .f32) (harg7 : arg7.IsWhole) (arg8 : Memref sig .tc .vmem S1x4x128x512 .f32) (harg8 : arg8.IsWhole) (arg9 : Memref sig .tc .vmem S1x16x32x512 .f32) (harg9 : arg9.IsWhole) (arg10 : Memref sig .tc .vmem S1x16x32x512 .f32) (harg10 : arg10.IsWhole)  (x5 x6 : Vec Ideal S1x4x128x512 .f32) (x7 x8 : Vec Ideal S1x16x32x512 .f32) (y : S16x512x128.Idx) :
    View.AllAt (kernelRun0_A.sl.HS0_160 (F := Ideal) c arg7 harg7 arg8 harg8 arg9 harg9 arg10 harg10 x5 x6 x7 x8) y (stage x5 x6 x7 x8 y) := by
  sl_unfold_words
  refine View.allAt_cons _ _ _ (row_sixteen arg10 harg10 x8 15 15 3 384 rfl rfl _ _ _ y _ (stage_3 x5 x6 x7 x8 y 15 (by decide))) ?_
  refine View.allAt_cons _ _ _ (row_sixteen arg10 harg10 x8 14 15 2 256 rfl rfl _ _ _ y _ (stage_3 x5 x6 x7 x8 y 14 (by decide))) ?_
  refine View.allAt_cons _ _ _ (row_sixteen arg10 harg10 x8 13 15 1 128 rfl rfl _ _ _ y _ (stage_3 x5 x6 x7 x8 y 13 (by decide))) ?_
  refine View.allAt_cons _ _ _ (row_sixteen arg10 harg10 x8 12 15 0 0 rfl rfl _ _ _ y _ (stage_3 x5 x6 x7 x8 y 12 (by decide))) ?_
  refine View.allAt_cons _ _ _ (row_sixteen arg10 harg10 x8 15 14 3 384 rfl rfl _ _ _ y _ (stage_3 x5 x6 x7 x8 y 15 (by decide))) ?_
  refine View.allAt_cons _ _ _ (row_sixteen arg10 harg10 x8 14 14 2 256 rfl rfl _ _ _ y _ (stage_3 x5 x6 x7 x8 y 14 (by decide))) ?_
  refine View.allAt_cons _ _ _ (row_sixteen arg10 harg10 x8 13 14 1 128 rfl rfl _ _ _ y _ (stage_3 x5 x6 x7 x8 y 13 (by decide))) ?_
  refine View.allAt_cons _ _ _ (row_sixteen arg10 harg10 x8 12 14 0 0 rfl rfl _ _ _ y _ (stage_3 x5 x6 x7 x8 y 12 (by decide))) ?_
  refine View.allAt_cons _ _ _ (row_sixteen arg10 harg10 x8 15 13 3 384 rfl rfl _ _ _ y _ (stage_3 x5 x6 x7 x8 y 15 (by decide))) ?_
  refine View.allAt_cons _ _ _ (row_sixteen arg10 harg10 x8 14 13 2 256 rfl rfl _ _ _ y _ (stage_3 x5 x6 x7 x8 y 14 (by decide))) ?_
  refine View.allAt_cons _ _ _ (row_sixteen arg10 harg10 x8 13 13 1 128 rfl rfl _ _ _ y _ (stage_3 x5 x6 x7 x8 y 13 (by decide))) ?_
  refine View.allAt_cons _ _ _ (row_sixteen arg10 harg10 x8 12 13 0 0 rfl rfl _ _ _ y _ (stage_3 x5 x6 x7 x8 y 12 (by decide))) ?_
  refine View.allAt_cons _ _ _ (row_sixteen arg10 harg10 x8 15 12 3 384 rfl rfl _ _ _ y _ (stage_3 x5 x6 x7 x8 y 15 (by decide))) ?_
  refine View.allAt_cons _ _ _ (row_sixteen arg10 harg10 x8 14 12 2 256 rfl rfl _ _ _ y _ (stage_3 x5 x6 x7 x8 y 14 (by decide))) ?_
  refine View.allAt_cons _ _ _ (row_sixteen arg10 harg10 x8 13 12 1 128 rfl rfl _ _ _ y _ (stage_3 x5 x6 x7 x8 y 13 (by decide))) ?_
  refine View.allAt_cons _ _ _ (row_sixteen arg10 harg10 x8 12 12 0 0 rfl rfl _ _ _ y _ (stage_3 x5 x6 x7 x8 y 12 (by decide))) ?_
  refine View.allAt_cons _ _ _ (row_sixteen arg10 harg10 x8 15 11 3 384 rfl rfl _ _ _ y _ (stage_3 x5 x6 x7 x8 y 15 (by decide))) ?_
  refine View.allAt_cons _ _ _ (row_sixteen arg10 harg10 x8 14 11 2 256 rfl rfl _ _ _ y _ (stage_3 x5 x6 x7 x8 y 14 (by decide))) ?_
  refine View.allAt_cons _ _ _ (row_sixteen arg10 harg10 x8 13 11 1 128 rfl rfl _ _ _ y _ (stage_3 x5 x6 x7 x8 y 13 (by decide))) ?_
  refine View.allAt_cons _ _ _ (row_sixteen arg10 harg10 x8 12 11 0 0 rfl rfl _ _ _ y _ (stage_3 x5 x6 x7 x8 y 12 (by decide))) ?_
  refine View.allAt_cons _ _ _ (row_sixteen arg10 harg10 x8 15 10 3 384 rfl rfl _ _ _ y _ (stage_3 x5 x6 x7 x8 y 15 (by decide))) ?_
  refine View.allAt_cons _ _ _ (row_sixteen arg10 harg10 x8 14 10 2 256 rfl rfl _ _ _ y _ (stage_3 x5 x6 x7 x8 y 14 (by decide))) ?_
  refine View.allAt_cons _ _ _ (row_sixteen arg10 harg10 x8 13 10 1 128 rfl rfl _ _ _ y _ (stage_3 x5 x6 x7 x8 y 13 (by decide))) ?_
  refine View.allAt_cons _ _ _ (row_sixteen arg10 harg10 x8 12 10 0 0 rfl rfl _ _ _ y _ (stage_3 x5 x6 x7 x8 y 12 (by decide))) ?_
  refine View.allAt_cons _ _ _ (row_sixteen arg10 harg10 x8 15 9 3 384 rfl rfl _ _ _ y _ (stage_3 x5 x6 x7 x8 y 15 (by decide))) ?_
  refine View.allAt_cons _ _ _ (row_sixteen arg10 harg10 x8 14 9 2 256 rfl rfl _ _ _ y _ (stage_3 x5 x6 x7 x8 y 14 (by decide))) ?_
  refine View.allAt_cons _ _ _ (row_sixteen arg10 harg10 x8 13 9 1 128 rfl rfl _ _ _ y _ (stage_3 x5 x6 x7 x8 y 13 (by decide))) ?_
  refine View.allAt_cons _ _ _ (row_sixteen arg10 harg10 x8 12 9 0 0 rfl rfl _ _ _ y _ (stage_3 x5 x6 x7 x8 y 12 (by decide))) ?_
  refine View.allAt_cons _ _ _ (row_sixteen arg10 harg10 x8 15 8 3 384 rfl rfl _ _ _ y _ (stage_3 x5 x6 x7 x8 y 15 (by decide))) ?_
  refine View.allAt_cons _ _ _ (row_sixteen arg10 harg10 x8 14 8 2 256 rfl rfl _ _ _ y _ (stage_3 x5 x6 x7 x8 y 14 (by decide))) ?_
  refine View.allAt_cons _ _ _ (row_sixteen arg10 harg10 x8 13 8 1 128 rfl rfl _ _ _ y _ (stage_3 x5 x6 x7 x8 y 13 (by decide))) ?_
  refine View.allAt_cons _ _ _ (row_sixteen arg10 harg10 x8 12 8 0 0 rfl rfl _ _ _ y _ (stage_3 x5 x6 x7 x8 y 12 (by decide))) ?_
  refine View.allAt_cons _ _ _ (row_sixteen arg10 harg10 x8 15 7 3 384 rfl rfl _ _ _ y _ (stage_3 x5 x6 x7 x8 y 15 (by decide))) ?_
  refine View.allAt_cons _ _ _ (row_sixteen arg10 harg10 x8 14 7 2 256 rfl rfl _ _ _ y _ (stage_3 x5 x6 x7 x8 y 14 (by decide))) ?_
  refine View.allAt_cons _ _ _ (row_sixteen arg10 harg10 x8 13 7 1 128 rfl rfl _ _ _ y _ (stage_3 x5 x6 x7 x8 y 13 (by decide))) ?_
  refine View.allAt_cons _ _ _ (row_sixteen arg10 harg10 x8 12 7 0 0 rfl rfl _ _ _ y _ (stage_3 x5 x6 x7 x8 y 12 (by decide))) ?_
  refine View.allAt_cons _ _ _ (row_sixteen arg10 harg10 x8 15 6 3 384 rfl rfl _ _ _ y _ (stage_3 x5 x6 x7 x8 y 15 (by decide))) ?_
  refine View.allAt_cons _ _ _ (row_sixteen arg10 harg10 x8 14 6 2 256 rfl rfl _ _ _ y _ (stage_3 x5 x6 x7 x8 y 14 (by decide))) ?_
  refine View.allAt_cons _ _ _ (row_sixteen arg10 harg10 x8 13 6 1 128 rfl rfl _ _ _ y _ (stage_3 x5 x6 x7 x8 y 13 (by decide))) ?_
  refine View.allAt_cons _ _ _ (row_sixteen arg10 harg10 x8 12 6 0 0 rfl rfl _ _ _ y _ (stage_3 x5 x6 x7 x8 y 12 (by decide))) ?_
  refine View.allAt_cons _ _ _ (row_sixteen arg10 harg10 x8 15 5 3 384 rfl rfl _ _ _ y _ (stage_3 x5 x6 x7 x8 y 15 (by decide))) ?_
  refine View.allAt_cons _ _ _ (row_sixteen arg10 harg10 x8 14 5 2 256 rfl rfl _ _ _ y _ (stage_3 x5 x6 x7 x8 y 14 (by decide))) ?_
  refine View.allAt_cons _ _ _ (row_sixteen arg10 harg10 x8 13 5 1 128 rfl rfl _ _ _ y _ (stage_3 x5 x6 x7 x8 y 13 (by decide))) ?_
  refine View.allAt_cons _ _ _ (row_sixteen arg10 harg10 x8 12 5 0 0 rfl rfl _ _ _ y _ (stage_3 x5 x6 x7 x8 y 12 (by decide))) ?_
  refine View.allAt_cons _ _ _ (row_sixteen arg10 harg10 x8 15 4 3 384 rfl rfl _ _ _ y _ (stage_3 x5 x6 x7 x8 y 15 (by decide))) ?_
  refine View.allAt_cons _ _ _ (row_sixteen arg10 harg10 x8 14 4 2 256 rfl rfl _ _ _ y _ (stage_3 x5 x6 x7 x8 y 14 (by decide))) ?_
  refine View.allAt_cons _ _ _ (row_sixteen arg10 harg10 x8 13 4 1 128 rfl rfl _ _ _ y _ (stage_3 x5 x6 x7 x8 y 13 (by decide))) ?_
  refine View.allAt_cons _ _ _ (row_sixteen arg10 harg10 x8 12 4 0 0 rfl rfl _ _ _ y _ (stage_3 x5 x6 x7 x8 y 12 (by decide))) ?_
  refine View.allAt_cons _ _ _ (row_sixteen arg10 harg10 x8 15 3 3 384 rfl rfl _ _ _ y _ (stage_3 x5 x6 x7 x8 y 15 (by decide))) ?_
  refine View.allAt_cons _ _ _ (row_sixteen arg10 harg10 x8 14 3 2 256 rfl rfl _ _ _ y _ (stage_3 x5 x6 x7 x8 y 14 (by decide))) ?_
  refine View.allAt_cons _ _ _ (row_sixteen arg10 harg10 x8 13 3 1 128 rfl rfl _ _ _ y _ (stage_3 x5 x6 x7 x8 y 13 (by decide))) ?_
  refine View.allAt_cons _ _ _ (row_sixteen arg10 harg10 x8 12 3 0 0 rfl rfl _ _ _ y _ (stage_3 x5 x6 x7 x8 y 12 (by decide))) ?_
  refine View.allAt_cons _ _ _ (row_sixteen arg10 harg10 x8 15 2 3 384 rfl rfl _ _ _ y _ (stage_3 x5 x6 x7 x8 y 15 (by decide))) ?_
  refine View.allAt_cons _ _ _ (row_sixteen arg10 harg10 x8 14 2 2 256 rfl rfl _ _ _ y _ (stage_3 x5 x6 x7 x8 y 14 (by decide))) ?_
  refine View.allAt_cons _ _ _ (row_sixteen arg10 harg10 x8 13 2 1 128 rfl rfl _ _ _ y _ (stage_3 x5 x6 x7 x8 y 13 (by decide))) ?_
  refine View.allAt_cons _ _ _ (row_sixteen arg10 harg10 x8 12 2 0 0 rfl rfl _ _ _ y _ (stage_3 x5 x6 x7 x8 y 12 (by decide))) ?_
  refine View.allAt_cons _ _ _ (row_sixteen arg10 harg10 x8 15 1 3 384 rfl rfl _ _ _ y _ (stage_3 x5 x6 x7 x8 y 15 (by decide))) ?_
  refine View.allAt_cons _ _ _ (row_sixteen arg10 harg10 x8 14 1 2 256 rfl rfl _ _ _ y _ (stage_3 x5 x6 x7 x8 y 14 (by decide))) ?_
  refine View.allAt_cons _ _ _ (row_sixteen arg10 harg10 x8 13 1 1 128 rfl rfl _ _ _ y _ (stage_3 x5 x6 x7 x8 y 13 (by decide))) ?_
  refine View.allAt_cons _ _ _ (row_sixteen arg10 harg10 x8 12 1 0 0 rfl rfl _ _ _ y _ (stage_3 x5 x6 x7 x8 y 12 (by decide))) ?_
  refine View.allAt_cons _ _ _ (row_sixteen arg10 harg10 x8 15 0 3 384 rfl rfl _ _ _ y _ (stage_3 x5 x6 x7 x8 y 15 (by decide))) ?_
  refine View.allAt_cons _ _ _ (row_sixteen arg10 harg10 x8 14 0 2 256 rfl rfl _ _ _ y _ (stage_3 x5 x6 x7 x8 y 14 (by decide))) ?_
  refine View.allAt_cons _ _ _ (row_sixteen arg10 harg10 x8 13 0 1 128 rfl rfl _ _ _ y _ (stage_3 x5 x6 x7 x8 y 13 (by decide))) ?_
  refine View.allAt_cons _ _ _ (row_sixteen arg10 harg10 x8 12 0 0 0 rfl rfl _ _ _ y _ (stage_3 x5 x6 x7 x8 y 12 (by decide))) ?_
  refine View.allAt_cons _ _ _ (row_sixteen arg9 harg9 x7 11 15 3 384 rfl rfl _ _ _ y _ (stage_2 x5 x6 x7 x8 y 11 (by decide))) ?_
  refine View.allAt_cons _ _ _ (row_sixteen arg9 harg9 x7 10 15 2 256 rfl rfl _ _ _ y _ (stage_2 x5 x6 x7 x8 y 10 (by decide))) ?_
  refine View.allAt_cons _ _ _ (row_sixteen arg9 harg9 x7 9 15 1 128 rfl rfl _ _ _ y _ (stage_2 x5 x6 x7 x8 y 9 (by decide))) ?_
  refine View.allAt_cons _ _ _ (row_sixteen arg9 harg9 x7 8 15 0 0 rfl rfl _ _ _ y _ (stage_2 x5 x6 x7 x8 y 8 (by decide))) ?_
  refine View.allAt_cons _ _ _ (row_sixteen arg9 harg9 x7 11 14 3 384 rfl rfl _ _ _ y _ (stage_2 x5 x6 x7 x8 y 11 (by decide))) ?_
  refine View.allAt_cons _ _ _ (row_sixteen arg9 harg9 x7 10 14 2 256 rfl rfl _ _ _ y _ (stage_2 x5 x6 x7 x8 y 10 (by decide))) ?_
  refine View.allAt_cons _ _ _ (row_sixteen arg9 harg9 x7 9 14 1 128 rfl rfl _ _ _ y _ (stage_2 x5 x6 x7 x8 y 9 (by decide))) ?_
  refine View.allAt_cons _ _ _ (row_sixteen arg9 harg9 x7 8 14 0 0 rfl rfl _ _ _ y _ (stage_2 x5 x6 x7 x8 y 8 (by decide))) ?_
  refine View.allAt_cons _ _ _ (row_sixteen arg9 harg9 x7 11 13 3 384 rfl rfl _ _ _ y _ (stage_2 x5 x6 x7 x8 y 11 (by decide))) ?_
  refine View.allAt_cons _ _ _ (row_sixteen arg9 harg9 x7 10 13 2 256 rfl rfl _ _ _ y _ (stage_2 x5 x6 x7 x8 y 10 (by decide))) ?_
  refine View.allAt_cons _ _ _ (row_sixteen arg9 harg9 x7 9 13 1 128 rfl rfl _ _ _ y _ (stage_2 x5 x6 x7 x8 y 9 (by decide))) ?_
  refine View.allAt_cons _ _ _ (row_sixteen arg9 harg9 x7 8 13 0 0 rfl rfl _ _ _ y _ (stage_2 x5 x6 x7 x8 y 8 (by decide))) ?_
  refine View.allAt_cons _ _ _ (row_sixteen arg9 harg9 x7 11 12 3 384 rfl rfl _ _ _ y _ (stage_2 x5 x6 x7 x8 y 11 (by decide))) ?_
  refine View.allAt_cons _ _ _ (row_sixteen arg9 harg9 x7 10 12 2 256 rfl rfl _ _ _ y _ (stage_2 x5 x6 x7 x8 y 10 (by decide))) ?_
  refine View.allAt_cons _ _ _ (row_sixteen arg9 harg9 x7 9 12 1 128 rfl rfl _ _ _ y _ (stage_2 x5 x6 x7 x8 y 9 (by decide))) ?_
  refine View.allAt_cons _ _ _ (row_sixteen arg9 harg9 x7 8 12 0 0 rfl rfl _ _ _ y _ (stage_2 x5 x6 x7 x8 y 8 (by decide))) ?_
  refine View.allAt_cons _ _ _ (row_sixteen arg9 harg9 x7 11 11 3 384 rfl rfl _ _ _ y _ (stage_2 x5 x6 x7 x8 y 11 (by decide))) ?_
  refine View.allAt_cons _ _ _ (row_sixteen arg9 harg9 x7 10 11 2 256 rfl rfl _ _ _ y _ (stage_2 x5 x6 x7 x8 y 10 (by decide))) ?_
  refine View.allAt_cons _ _ _ (row_sixteen arg9 harg9 x7 9 11 1 128 rfl rfl _ _ _ y _ (stage_2 x5 x6 x7 x8 y 9 (by decide))) ?_
  refine View.allAt_cons _ _ _ (row_sixteen arg9 harg9 x7 8 11 0 0 rfl rfl _ _ _ y _ (stage_2 x5 x6 x7 x8 y 8 (by decide))) ?_
  refine View.allAt_cons _ _ _ (row_sixteen arg9 harg9 x7 11 10 3 384 rfl rfl _ _ _ y _ (stage_2 x5 x6 x7 x8 y 11 (by decide))) ?_
  refine View.allAt_cons _ _ _ (row_sixteen arg9 harg9 x7 10 10 2 256 rfl rfl _ _ _ y _ (stage_2 x5 x6 x7 x8 y 10 (by decide))) ?_
  refine View.allAt_cons _ _ _ (row_sixteen arg9 harg9 x7 9 10 1 128 rfl rfl _ _ _ y _ (stage_2 x5 x6 x7 x8 y 9 (by decide))) ?_
  refine View.allAt_cons _ _ _ (row_sixteen arg9 harg9 x7 8 10 0 0 rfl rfl _ _ _ y _ (stage_2 x5 x6 x7 x8 y 8 (by decide))) ?_
  refine View.allAt_cons _ _ _ (row_sixteen arg9 harg9 x7 11 9 3 384 rfl rfl _ _ _ y _ (stage_2 x5 x6 x7 x8 y 11 (by decide))) ?_
  refine View.allAt_cons _ _ _ (row_sixteen arg9 harg9 x7 10 9 2 256 rfl rfl _ _ _ y _ (stage_2 x5 x6 x7 x8 y 10 (by decide))) ?_
  refine View.allAt_cons _ _ _ (row_sixteen arg9 harg9 x7 9 9 1 128 rfl rfl _ _ _ y _ (stage_2 x5 x6 x7 x8 y 9 (by decide))) ?_
  refine View.allAt_cons _ _ _ (row_sixteen arg9 harg9 x7 8 9 0 0 rfl rfl _ _ _ y _ (stage_2 x5 x6 x7 x8 y 8 (by decide))) ?_
  refine View.allAt_cons _ _ _ (row_sixteen arg9 harg9 x7 11 8 3 384 rfl rfl _ _ _ y _ (stage_2 x5 x6 x7 x8 y 11 (by decide))) ?_
  refine View.allAt_cons _ _ _ (row_sixteen arg9 harg9 x7 10 8 2 256 rfl rfl _ _ _ y _ (stage_2 x5 x6 x7 x8 y 10 (by decide))) ?_
  refine View.allAt_cons _ _ _ (row_sixteen arg9 harg9 x7 9 8 1 128 rfl rfl _ _ _ y _ (stage_2 x5 x6 x7 x8 y 9 (by decide))) ?_
  refine View.allAt_cons _ _ _ (row_sixteen arg9 harg9 x7 8 8 0 0 rfl rfl _ _ _ y _ (stage_2 x5 x6 x7 x8 y 8 (by decide))) ?_
  refine View.allAt_cons _ _ _ (row_sixteen arg9 harg9 x7 11 7 3 384 rfl rfl _ _ _ y _ (stage_2 x5 x6 x7 x8 y 11 (by decide))) ?_
  refine View.allAt_cons _ _ _ (row_sixteen arg9 harg9 x7 10 7 2 256 rfl rfl _ _ _ y _ (stage_2 x5 x6 x7 x8 y 10 (by decide))) ?_
  refine View.allAt_cons _ _ _ (row_sixteen arg9 harg9 x7 9 7 1 128 rfl rfl _ _ _ y _ (stage_2 x5 x6 x7 x8 y 9 (by decide))) ?_
  refine View.allAt_cons _ _ _ (row_sixteen arg9 harg9 x7 8 7 0 0 rfl rfl _ _ _ y _ (stage_2 x5 x6 x7 x8 y 8 (by decide))) ?_
  refine View.allAt_cons _ _ _ (row_sixteen arg9 harg9 x7 11 6 3 384 rfl rfl _ _ _ y _ (stage_2 x5 x6 x7 x8 y 11 (by decide))) ?_
  refine View.allAt_cons _ _ _ (row_sixteen arg9 harg9 x7 10 6 2 256 rfl rfl _ _ _ y _ (stage_2 x5 x6 x7 x8 y 10 (by decide))) ?_
  refine View.allAt_cons _ _ _ (row_sixteen arg9 harg9 x7 9 6 1 128 rfl rfl _ _ _ y _ (stage_2 x5 x6 x7 x8 y 9 (by decide))) ?_
  refine View.allAt_cons _ _ _ (row_sixteen arg9 harg9 x7 8 6 0 0 rfl rfl _ _ _ y _ (stage_2 x5 x6 x7 x8 y 8 (by decide))) ?_
  refine View.allAt_cons _ _ _ (row_sixteen arg9 harg9 x7 11 5 3 384 rfl rfl _ _ _ y _ (stage_2 x5 x6 x7 x8 y 11 (by decide))) ?_
  refine View.allAt_cons _ _ _ (row_sixteen arg9 harg9 x7 10 5 2 256 rfl rfl _ _ _ y _ (stage_2 x5 x6 x7 x8 y 10 (by decide))) ?_
  refine View.allAt_cons _ _ _ (row_sixteen arg9 harg9 x7 9 5 1 128 rfl rfl _ _ _ y _ (stage_2 x5 x6 x7 x8 y 9 (by decide))) ?_
  refine View.allAt_cons _ _ _ (row_sixteen arg9 harg9 x7 8 5 0 0 rfl rfl _ _ _ y _ (stage_2 x5 x6 x7 x8 y 8 (by decide))) ?_
  refine View.allAt_cons _ _ _ (row_sixteen arg9 harg9 x7 11 4 3 384 rfl rfl _ _ _ y _ (stage_2 x5 x6 x7 x8 y 11 (by decide))) ?_
  refine View.allAt_cons _ _ _ (row_sixteen arg9 harg9 x7 10 4 2 256 rfl rfl _ _ _ y _ (stage_2 x5 x6 x7 x8 y 10 (by decide))) ?_
  refine View.allAt_cons _ _ _ (row_sixteen arg9 harg9 x7 9 4 1 128 rfl rfl _ _ _ y _ (stage_2 x5 x6 x7 x8 y 9 (by decide))) ?_
  refine View.allAt_cons _ _ _ (row_sixteen arg9 harg9 x7 8 4 0 0 rfl rfl _ _ _ y _ (stage_2 x5 x6 x7 x8 y 8 (by decide))) ?_
  refine View.allAt_cons _ _ _ (row_sixteen arg9 harg9 x7 11 3 3 384 rfl rfl _ _ _ y _ (stage_2 x5 x6 x7 x8 y 11 (by decide))) ?_
  refine View.allAt_cons _ _ _ (row_sixteen arg9 harg9 x7 10 3 2 256 rfl rfl _ _ _ y _ (stage_2 x5 x6 x7 x8 y 10 (by decide))) ?_
  refine View.allAt_cons _ _ _ (row_sixteen arg9 harg9 x7 9 3 1 128 rfl rfl _ _ _ y _ (stage_2 x5 x6 x7 x8 y 9 (by decide))) ?_
  refine View.allAt_cons _ _ _ (row_sixteen arg9 harg9 x7 8 3 0 0 rfl rfl _ _ _ y _ (stage_2 x5 x6 x7 x8 y 8 (by decide))) ?_
  refine View.allAt_cons _ _ _ (row_sixteen arg9 harg9 x7 11 2 3 384 rfl rfl _ _ _ y _ (stage_2 x5 x6 x7 x8 y 11 (by decide))) ?_
  refine View.allAt_cons _ _ _ (row_sixteen arg9 harg9 x7 10 2 2 256 rfl rfl _ _ _ y _ (stage_2 x5 x6 x7 x8 y 10 (by decide))) ?_
  refine View.allAt_cons _ _ _ (row_sixteen arg9 harg9 x7 9 2 1 128 rfl rfl _ _ _ y _ (stage_2 x5 x6 x7 x8 y 9 (by decide))) ?_
  refine View.allAt_cons _ _ _ (row_sixteen arg9 harg9 x7 8 2 0 0 rfl rfl _ _ _ y _ (stage_2 x5 x6 x7 x8 y 8 (by decide))) ?_
  refine View.allAt_cons _ _ _ (row_sixteen arg9 harg9 x7 11 1 3 384 rfl rfl _ _ _ y _ (stage_2 x5 x6 x7 x8 y 11 (by decide))) ?_
  refine View.allAt_cons _ _ _ (row_sixteen arg9 harg9 x7 10 1 2 256 rfl rfl _ _ _ y _ (stage_2 x5 x6 x7 x8 y 10 (by decide))) ?_
  refine View.allAt_cons _ _ _ (row_sixteen arg9 harg9 x7 9 1 1 128 rfl rfl _ _ _ y _ (stage_2 x5 x6 x7 x8 y 9 (by decide))) ?_
  refine View.allAt_cons _ _ _ (row_sixteen arg9 harg9 x7 8 1 0 0 rfl rfl _ _ _ y _ (stage_2 x5 x6 x7 x8 y 8 (by decide))) ?_
  refine View.allAt_cons _ _ _ (row_sixteen arg9 harg9 x7 11 0 3 384 rfl rfl _ _ _ y _ (stage_2 x5 x6 x7 x8 y 11 (by decide))) ?_
  refine View.allAt_cons _ _ _ (row_sixteen arg9 harg9 x7 10 0 2 256 rfl rfl _ _ _ y _ (stage_2 x5 x6 x7 x8 y 10 (by decide))) ?_
  refine View.allAt_cons _ _ _ (row_sixteen arg9 harg9 x7 9 0 1 128 rfl rfl _ _ _ y _ (stage_2 x5 x6 x7 x8 y 9 (by decide))) ?_
  refine View.allAt_cons _ _ _ (row_sixteen arg9 harg9 x7 8 0 0 0 rfl rfl _ _ _ y _ (stage_2 x5 x6 x7 x8 y 8 (by decide))) ?_
  refine View.allAt_cons _ _ _ (row_four arg8 harg8 x6 7 3 3 384 rfl rfl _ _ _ y _ (stage_1 x5 x6 x7 x8 y 7 (by decide))) ?_
  refine View.allAt_cons _ _ _ (row_four arg8 harg8 x6 6 3 2 256 rfl rfl _ _ _ y _ (stage_1 x5 x6 x7 x8 y 6 (by decide))) ?_
  refine View.allAt_cons _ _ _ (row_four arg8 harg8 x6 5 3 1 128 rfl rfl _ _ _ y _ (stage_1 x5 x6 x7 x8 y 5 (by decide))) ?_
  refine View.allAt_cons _ _ _ (row_four arg8 harg8 x6 4 3 0 0 rfl rfl _ _ _ y _ (stage_1 x5 x6 x7 x8 y 4 (by decide))) ?_
  refine View.allAt_cons _ _ _ (row_four arg8 harg8 x6 7 2 3 384 rfl rfl _ _ _ y _ (stage_1 x5 x6 x7 x8 y 7 (by decide))) ?_
  refine View.allAt_cons _ _ _ (row_four arg8 harg8 x6 6 2 2 256 rfl rfl _ _ _ y _ (stage_1 x5 x6 x7 x8 y 6 (by decide))) ?_
  refine View.allAt_cons _ _ _ (row_four arg8 harg8 x6 5 2 1 128 rfl rfl _ _ _ y _ (stage_1 x5 x6 x7 x8 y 5 (by decide))) ?_
  refine View.allAt_cons _ _ _ (row_four arg8 harg8 x6 4 2 0 0 rfl rfl _ _ _ y _ (stage_1 x5 x6 x7 x8 y 4 (by decide))) ?_
  refine View.allAt_cons _ _ _ (row_four arg8 harg8 x6 7 1 3 384 rfl rfl _ _ _ y _ (stage_1 x5 x6 x7 x8 y 7 (by decide))) ?_
  refine View.allAt_cons _ _ _ (row_four arg8 harg8 x6 6 1 2 256 rfl rfl _ _ _ y _ (stage_1 x5 x6 x7 x8 y 6 (by decide))) ?_
  refine View.allAt_cons _ _ _ (row_four arg8 harg8 x6 5 1 1 128 rfl rfl _ _ _ y _ (stage_1 x5 x6 x7 x8 y 5 (by decide))) ?_
  refine View.allAt_cons _ _ _ (row_four arg8 harg8 x6 4 1 0 0 rfl rfl _ _ _ y _ (stage_1 x5 x6 x7 x8 y 4 (by decide))) ?_
  refine View.allAt_cons _ _ _ (row_four arg8 harg8 x6 7 0 3 384 rfl rfl _ _ _ y _ (stage_1 x5 x6 x7 x8 y 7 (by decide))) ?_
  refine View.allAt_cons _ _ _ (row_four arg8 harg8 x6 6 0 2 256 rfl rfl _ _ _ y _ (stage_1 x5 x6 x7 x8 y 6 (by decide))) ?_
  refine View.allAt_cons _ _ _ (row_four arg8 harg8 x6 5 0 1 128 rfl rfl _ _ _ y _ (stage_1 x5 x6 x7 x8 y 5 (by decide))) ?_
  refine View.allAt_cons _ _ _ (row_four arg8 harg8 x6 4 0 0 0 rfl rfl _ _ _ y _ (stage_1 x5 x6 x7 x8 y 4 (by decide))) ?_
  refine View.allAt_cons _ _ _ (row_four arg7 harg7 x5 3 3 3 384 rfl rfl _ _ _ y _ (stage_0 x5 x6 x7 x8 y 3 (by decide))) ?_
  refine View.allAt_cons _ _ _ (row_four arg7 harg7 x5 2 3 2 256 rfl rfl _ _ _ y _ (stage_0 x5 x6 x7 x8 y 2 (by decide))) ?_
  refine View.allAt_cons _ _ _ (row_four arg7 harg7 x5 1 3 1 128 rfl rfl _ _ _ y _ (stage_0 x5 x6 x7 x8 y 1 (by decide))) ?_
  refine View.allAt_cons _ _ _ (row_four arg7 harg7 x5 0 3 0 0 rfl rfl _ _ _ y _ (stage_0 x5 x6 x7 x8 y 0 (by decide))) ?_
  refine View.allAt_cons _ _ _ (row_four arg7 harg7 x5 3 2 3 384 rfl rfl _ _ _ y _ (stage_0 x5 x6 x7 x8 y 3 (by decide))) ?_
  refine View.allAt_cons _ _ _ (row_four arg7 harg7 x5 2 2 2 256 rfl rfl _ _ _ y _ (stage_0 x5 x6 x7 x8 y 2 (by decide))) ?_
  refine View.allAt_cons _ _ _ (row_four arg7 harg7 x5 1 2 1 128 rfl rfl _ _ _ y _ (stage_0 x5 x6 x7 x8 y 1 (by decide))) ?_
  refine View.allAt_cons _ _ _ (row_four arg7 harg7 x5 0 2 0 0 rfl rfl _ _ _ y _ (stage_0 x5 x6 x7 x8 y 0 (by decide))) ?_
  refine View.allAt_cons _ _ _ (row_four arg7 harg7 x5 3 1 3 384 rfl rfl _ _ _ y _ (stage_0 x5 x6 x7 x8 y 3 (by decide))) ?_
  refine View.allAt_cons _ _ _ (row_four arg7 harg7 x5 2 1 2 256 rfl rfl _ _ _ y _ (stage_0 x5 x6 x7 x8 y 2 (by decide))) ?_
  refine View.allAt_cons _ _ _ (row_four arg7 harg7 x5 1 1 1 128 rfl rfl _ _ _ y _ (stage_0 x5 x6 x7 x8 y 1 (by decide))) ?_
  refine View.allAt_cons _ _ _ (row_four arg7 harg7 x5 0 1 0 0 rfl rfl _ _ _ y _ (stage_0 x5 x6 x7 x8 y 0 (by decide))) ?_
  refine View.allAt_cons _ _ _ (row_four arg7 harg7 x5 3 0 3 384 rfl rfl _ _ _ y _ (stage_0 x5 x6 x7 x8 y 3 (by decide))) ?_
  refine View.allAt_cons _ _ _ (row_four arg7 harg7 x5 2 0 2 256 rfl rfl _ _ _ y _ (stage_0 x5 x6 x7 x8 y 2 (by decide))) ?_
  refine View.allAt_cons _ _ _ (row_four arg7 harg7 x5 1 0 1 128 rfl rfl _ _ _ y _ (stage_0 x5 x6 x7 x8 y 1 (by decide))) ?_
  refine View.allAt_cons _ _ _ (row_four arg7 harg7 x5 0 0 0 0 rfl rfl _ _ _ y _ (stage_0 x5 x6 x7 x8 y 0 (by decide))) ?_
  exact View.allAt_nil _ _

/-- The stores reach every scratch element. -/
theorem pieces_cover (c : Dev nD) (arg7 : Memref sig .tc .vmem S1x4x128x512 .f32) (harg7 : arg7.IsWhole) (arg8 : Memref sig .tc .vmem S1x4x128x512 .f32) (harg8 : arg8.IsWhole) (arg9 : Memref sig .tc .vmem S1x16x32x512 .f32) (harg9 : arg9.IsWhole) (arg10 : Memref sig .tc .vmem S1x16x32x512 .f32) (harg10 : arg10.IsWhole)  (x5 x6 : Vec Ideal S1x4x128x512 .f32) (x7 x8 : Vec Ideal S1x16x32x512 .f32) (y : S16x512x128.Idx) :
    ∃ p ∈ kernelRun0_A.sl.HS0_160 (F := Ideal) c arg7 harg7 arg8 harg8 arg9 harg9 arg10 harg10 x5 x6 x7 x8, y ∈ p.1.set := by
  have b0 : (y 0).val < 16 := (y 0).isLt
  rcases Nat.lt_or_ge (y 0).val 8 with h | h
  · have key : ∀ s j : ℕ, s < 8 → j < 4 → (y 0).val = s → (y 1).val % 4 = j →
        ∃ p ∈ kernelRun0_A.sl.HS0_160 (F := Ideal) c arg7 harg7 arg8 harg8 arg9 harg9 arg10 harg10 x5 x6 x7 x8, y ∈ p.1.set := by
      intro s j hs hj e0 e1
      interval_cases s <;> interval_cases j
      · exact ⟨_, List.mem_of_getElem? (i := 159) rfl, mem_four 0 0 _ _ y e0 e1⟩
      · exact ⟨_, List.mem_of_getElem? (i := 155) rfl, mem_four 0 1 _ _ y e0 e1⟩
      · exact ⟨_, List.mem_of_getElem? (i := 151) rfl, mem_four 0 2 _ _ y e0 e1⟩
      · exact ⟨_, List.mem_of_getElem? (i := 147) rfl, mem_four 0 3 _ _ y e0 e1⟩
      · exact ⟨_, List.mem_of_getElem? (i := 158) rfl, mem_four 1 0 _ _ y e0 e1⟩
      · exact ⟨_, List.mem_of_getElem? (i := 154) rfl, mem_four 1 1 _ _ y e0 e1⟩
      · exact ⟨_, List.mem_of_getElem? (i := 150) rfl, mem_four 1 2 _ _ y e0 e1⟩
      · exact ⟨_, List.mem_of_getElem? (i := 146) rfl, mem_four 1 3 _ _ y e0 e1⟩
      · exact ⟨_, List.mem_of_getElem? (i := 157) rfl, mem_four 2 0 _ _ y e0 e1⟩
      · exact ⟨_, List.mem_of_getElem? (i := 153) rfl, mem_four 2 1 _ _ y e0 e1⟩
      · exact ⟨_, List.mem_of_getElem? (i := 149) rfl, mem_four 2 2 _ _ y e0 e1⟩
      · exact ⟨_, List.mem_of_getElem? (i := 145) rfl, mem_four 2 3 _ _ y e0 e1⟩
      · exact ⟨_, List.mem_of_getElem? (i := 156) rfl, mem_four 3 0 _ _ y e0 e1⟩
      · exact ⟨_, List.mem_of_getElem? (i := 152) rfl, mem_four 3 1 _ _ y e0 e1⟩
      · exact ⟨_, List.mem_of_getElem? (i := 148) rfl, mem_four 3 2 _ _ y e0 e1⟩
      · exact ⟨_, List.mem_of_getElem? (i := 144) rfl, mem_four 3 3 _ _ y e0 e1⟩
      · exact ⟨_, List.mem_of_getElem? (i := 143) rfl, mem_four 4 0 _ _ y e0 e1⟩
      · exact ⟨_, List.mem_of_getElem? (i := 139) rfl, mem_four 4 1 _ _ y e0 e1⟩
      · exact ⟨_, List.mem_of_getElem? (i := 135) rfl, mem_four 4 2 _ _ y e0 e1⟩
      · exact ⟨_, List.mem_of_getElem? (i := 131) rfl, mem_four 4 3 _ _ y e0 e1⟩
      · exact ⟨_, List.mem_of_getElem? (i := 142) rfl, mem_four 5 0 _ _ y e0 e1⟩
      · exact ⟨_, List.mem_of_getElem? (i := 138) rfl, mem_four 5 1 _ _ y e0 e1⟩
      · exact ⟨_, List.mem_of_getElem? (i := 134) rfl, mem_four 5 2 _ _ y e0 e1⟩
      · exact ⟨_, List.mem_of_getElem? (i := 130) rfl, mem_four 5 3 _ _ y e0 e1⟩
      · exact ⟨_, List.mem_of_getElem? (i := 141) rfl, mem_four 6 0 _ _ y e0 e1⟩
      · exact ⟨_, List.mem_of_getElem? (i := 137) rfl, mem_four 6 1 _ _ y e0 e1⟩
      · exact ⟨_, List.mem_of_getElem? (i := 133) rfl, mem_four 6 2 _ _ y e0 e1⟩
      · exact ⟨_, List.mem_of_getElem? (i := 129) rfl, mem_four 6 3 _ _ y e0 e1⟩
      · exact ⟨_, List.mem_of_getElem? (i := 140) rfl, mem_four 7 0 _ _ y e0 e1⟩
      · exact ⟨_, List.mem_of_getElem? (i := 136) rfl, mem_four 7 1 _ _ y e0 e1⟩
      · exact ⟨_, List.mem_of_getElem? (i := 132) rfl, mem_four 7 2 _ _ y e0 e1⟩
      · exact ⟨_, List.mem_of_getElem? (i := 128) rfl, mem_four 7 3 _ _ y e0 e1⟩
    exact key _ _ h (by omega) rfl rfl
  · have key : ∀ s j : ℕ, 8 ≤ s → s < 16 → j < 16 → (y 0).val = s → (y 1).val % 16 = j →
        ∃ p ∈ kernelRun0_A.sl.HS0_160 (F := Ideal) c arg7 harg7 arg8 harg8 arg9 harg9 arg10 harg10 x5 x6 x7 x8, y ∈ p.1.set := by
      intro s j hs8 hs hj e0 e1
      interval_cases s <;> interval_cases j
      · exact ⟨_, List.mem_of_getElem? (i := 127) rfl, mem_sixteen 8 0 _ _ y e0 e1⟩
      · exact ⟨_, List.mem_of_getElem? (i := 123) rfl, mem_sixteen 8 1 _ _ y e0 e1⟩
      · exact ⟨_, List.mem_of_getElem? (i := 119) rfl, mem_sixteen 8 2 _ _ y e0 e1⟩
      · exact ⟨_, List.mem_of_getElem? (i := 115) rfl, mem_sixteen 8 3 _ _ y e0 e1⟩
      · exact ⟨_, List.mem_of_getElem? (i := 111) rfl, mem_sixteen 8 4 _ _ y e0 e1⟩
      · exact ⟨_, List.mem_of_getElem? (i := 107) rfl, mem_sixteen 8 5 _ _ y e0 e1⟩
      · exact ⟨_, List.mem_of_getElem? (i := 103) rfl, mem_sixteen 8 6 _ _ y e0 e1⟩
      · exact ⟨_, List.mem_of_getElem? (i := 99) rfl, mem_sixteen 8 7 _ _ y e0 e1⟩
      · exact ⟨_, List.mem_of_getElem? (i := 95) rfl, mem_sixteen 8 8 _ _ y e0 e1⟩
      · exact ⟨_, List.mem_of_getElem? (i := 91) rfl, mem_sixteen 8 9 _ _ y e0 e1⟩
      · exact ⟨_, List.mem_of_getElem? (i := 87) rfl, mem_sixteen 8 10 _ _ y e0 e1⟩
      · exact ⟨_, List.mem_of_getElem? (i := 83) rfl, mem_sixteen 8 11 _ _ y e0 e1⟩
      · exact ⟨_, List.mem_of_getElem? (i := 79) rfl, mem_sixteen 8 12 _ _ y e0 e1⟩
      · exact ⟨_, List.mem_of_getElem? (i := 75) rfl, mem_sixteen 8 13 _ _ y e0 e1⟩
      · exact ⟨_, List.mem_of_getElem? (i := 71) rfl, mem_sixteen 8 14 _ _ y e0 e1⟩
      · exact ⟨_, List.mem_of_getElem? (i := 67) rfl, mem_sixteen 8 15 _ _ y e0 e1⟩
      · exact ⟨_, List.mem_of_getElem? (i := 126) rfl, mem_sixteen 9 0 _ _ y e0 e1⟩
      · exact ⟨_, List.mem_of_getElem? (i := 122) rfl, mem_sixteen 9 1 _ _ y e0 e1⟩
      · exact ⟨_, List.mem_of_getElem? (i := 118) rfl, mem_sixteen 9 2 _ _ y e0 e1⟩
      · exact ⟨_, List.mem_of_getElem? (i := 114) rfl, mem_sixteen 9 3 _ _ y e0 e1⟩
      · exact ⟨_, List.mem_of_getElem? (i := 110) rfl, mem_sixteen 9 4 _ _ y e0 e1⟩
      · exact ⟨_, List.mem_of_getElem? (i := 106) rfl, mem_sixteen 9 5 _ _ y e0 e1⟩
      · exact ⟨_, List.mem_of_getElem? (i := 102) rfl, mem_sixteen 9 6 _ _ y e0 e1⟩
      · exact ⟨_, List.mem_of_getElem? (i := 98) rfl, mem_sixteen 9 7 _ _ y e0 e1⟩
      · exact ⟨_, List.mem_of_getElem? (i := 94) rfl, mem_sixteen 9 8 _ _ y e0 e1⟩
      · exact ⟨_, List.mem_of_getElem? (i := 90) rfl, mem_sixteen 9 9 _ _ y e0 e1⟩
      · exact ⟨_, List.mem_of_getElem? (i := 86) rfl, mem_sixteen 9 10 _ _ y e0 e1⟩
      · exact ⟨_, List.mem_of_getElem? (i := 82) rfl, mem_sixteen 9 11 _ _ y e0 e1⟩
      · exact ⟨_, List.mem_of_getElem? (i := 78) rfl, mem_sixteen 9 12 _ _ y e0 e1⟩
      · exact ⟨_, List.mem_of_getElem? (i := 74) rfl, mem_sixteen 9 13 _ _ y e0 e1⟩
      · exact ⟨_, List.mem_of_getElem? (i := 70) rfl, mem_sixteen 9 14 _ _ y e0 e1⟩
      · exact ⟨_, List.mem_of_getElem? (i := 66) rfl, mem_sixteen 9 15 _ _ y e0 e1⟩
      · exact ⟨_, List.mem_of_getElem? (i := 125) rfl, mem_sixteen 10 0 _ _ y e0 e1⟩
      · exact ⟨_, List.mem_of_getElem? (i := 121) rfl, mem_sixteen 10 1 _ _ y e0 e1⟩
      · exact ⟨_, List.mem_of_getElem? (i := 117) rfl, mem_sixteen 10 2 _ _ y e0 e1⟩
      · exact ⟨_, List.mem_of_getElem? (i := 113) rfl, mem_sixteen 10 3 _ _ y e0 e1⟩
      · exact ⟨_, List.mem_of_getElem? (i := 109) rfl, mem_sixteen 10 4 _ _ y e0 e1⟩
      · exact ⟨_, List.mem_of_getElem? (i := 105) rfl, mem_sixteen 10 5 _ _ y e0 e1⟩
      · exact ⟨_, List.mem_of_getElem? (i := 101) rfl, mem_sixteen 10 6 _ _ y e0 e1⟩
      · exact ⟨_, List.mem_of_getElem? (i := 97) rfl, mem_sixteen 10 7 _ _ y e0 e1⟩
      · exact ⟨_, List.mem_of_getElem? (i := 93) rfl, mem_sixteen 10 8 _ _ y e0 e1⟩
      · exact ⟨_, List.mem_of_getElem? (i := 89) rfl, mem_sixteen 10 9 _ _ y e0 e1⟩
      · exact ⟨_, List.mem_of_getElem? (i := 85) rfl, mem_sixteen 10 10 _ _ y e0 e1⟩
      · exact ⟨_, List.mem_of_getElem? (i := 81) rfl, mem_sixteen 10 11 _ _ y e0 e1⟩
      · exact ⟨_, List.mem_of_getElem? (i := 77) rfl, mem_sixteen 10 12 _ _ y e0 e1⟩
      · exact ⟨_, List.mem_of_getElem? (i := 73) rfl, mem_sixteen 10 13 _ _ y e0 e1⟩
      · exact ⟨_, List.mem_of_getElem? (i := 69) rfl, mem_sixteen 10 14 _ _ y e0 e1⟩
      · exact ⟨_, List.mem_of_getElem? (i := 65) rfl, mem_sixteen 10 15 _ _ y e0 e1⟩
      · exact ⟨_, List.mem_of_getElem? (i := 124) rfl, mem_sixteen 11 0 _ _ y e0 e1⟩
      · exact ⟨_, List.mem_of_getElem? (i := 120) rfl, mem_sixteen 11 1 _ _ y e0 e1⟩
      · exact ⟨_, List.mem_of_getElem? (i := 116) rfl, mem_sixteen 11 2 _ _ y e0 e1⟩
      · exact ⟨_, List.mem_of_getElem? (i := 112) rfl, mem_sixteen 11 3 _ _ y e0 e1⟩
      · exact ⟨_, List.mem_of_getElem? (i := 108) rfl, mem_sixteen 11 4 _ _ y e0 e1⟩
      · exact ⟨_, List.mem_of_getElem? (i := 104) rfl, mem_sixteen 11 5 _ _ y e0 e1⟩
      · exact ⟨_, List.mem_of_getElem? (i := 100) rfl, mem_sixteen 11 6 _ _ y e0 e1⟩
      · exact ⟨_, List.mem_of_getElem? (i := 96) rfl, mem_sixteen 11 7 _ _ y e0 e1⟩
      · exact ⟨_, List.mem_of_getElem? (i := 92) rfl, mem_sixteen 11 8 _ _ y e0 e1⟩
      · exact ⟨_, List.mem_of_getElem? (i := 88) rfl, mem_sixteen 11 9 _ _ y e0 e1⟩
      · exact ⟨_, List.mem_of_getElem? (i := 84) rfl, mem_sixteen 11 10 _ _ y e0 e1⟩
      · exact ⟨_, List.mem_of_getElem? (i := 80) rfl, mem_sixteen 11 11 _ _ y e0 e1⟩
      · exact ⟨_, List.mem_of_getElem? (i := 76) rfl, mem_sixteen 11 12 _ _ y e0 e1⟩
      · exact ⟨_, List.mem_of_getElem? (i := 72) rfl, mem_sixteen 11 13 _ _ y e0 e1⟩
      · exact ⟨_, List.mem_of_getElem? (i := 68) rfl, mem_sixteen 11 14 _ _ y e0 e1⟩
      · exact ⟨_, List.mem_of_getElem? (i := 64) rfl, mem_sixteen 11 15 _ _ y e0 e1⟩
      · exact ⟨_, List.mem_of_getElem? (i := 63) rfl, mem_sixteen 12 0 _ _ y e0 e1⟩
      · exact ⟨_, List.mem_of_getElem? (i := 59) rfl, mem_sixteen 12 1 _ _ y e0 e1⟩
      · exact ⟨_, List.mem_of_getElem? (i := 55) rfl, mem_sixteen 12 2 _ _ y e0 e1⟩
      · exact ⟨_, List.mem_of_getElem? (i := 51) rfl, mem_sixteen 12 3 _ _ y e0 e1⟩
      · exact ⟨_, List.mem_of_getElem? (i := 47) rfl, mem_sixteen 12 4 _ _ y e0 e1⟩
      · exact ⟨_, List.mem_of_getElem? (i := 43) rfl, mem_sixteen 12 5 _ _ y e0 e1⟩
      · exact ⟨_, List.mem_of_getElem? (i := 39) rfl, mem_sixteen 12 6 _ _ y e0 e1⟩
      · exact ⟨_, List.mem_of_getElem? (i := 35) rfl, mem_sixteen 12 7 _ _ y e0 e1⟩
      · exact ⟨_, List.mem_of_getElem? (i := 31) rfl, mem_sixteen 12 8 _ _ y e0 e1⟩
      · exact ⟨_, List.mem_of_getElem? (i := 27) rfl, mem_sixteen 12 9 _ _ y e0 e1⟩
      · exact ⟨_, List.mem_of_getElem? (i := 23) rfl, mem_sixteen 12 10 _ _ y e0 e1⟩
      · exact ⟨_, List.mem_of_getElem? (i := 19) rfl, mem_sixteen 12 11 _ _ y e0 e1⟩
      · exact ⟨_, List.mem_of_getElem? (i := 15) rfl, mem_sixteen 12 12 _ _ y e0 e1⟩
      · exact ⟨_, List.mem_of_getElem? (i := 11) rfl, mem_sixteen 12 13 _ _ y e0 e1⟩
      · exact ⟨_, List.mem_of_getElem? (i := 7) rfl, mem_sixteen 12 14 _ _ y e0 e1⟩
      · exact ⟨_, List.mem_of_getElem? (i := 3) rfl, mem_sixteen 12 15 _ _ y e0 e1⟩
      · exact ⟨_, List.mem_of_getElem? (i := 62) rfl, mem_sixteen 13 0 _ _ y e0 e1⟩
      · exact ⟨_, List.mem_of_getElem? (i := 58) rfl, mem_sixteen 13 1 _ _ y e0 e1⟩
      · exact ⟨_, List.mem_of_getElem? (i := 54) rfl, mem_sixteen 13 2 _ _ y e0 e1⟩
      · exact ⟨_, List.mem_of_getElem? (i := 50) rfl, mem_sixteen 13 3 _ _ y e0 e1⟩
      · exact ⟨_, List.mem_of_getElem? (i := 46) rfl, mem_sixteen 13 4 _ _ y e0 e1⟩
      · exact ⟨_, List.mem_of_getElem? (i := 42) rfl, mem_sixteen 13 5 _ _ y e0 e1⟩
      · exact ⟨_, List.mem_of_getElem? (i := 38) rfl, mem_sixteen 13 6 _ _ y e0 e1⟩
      · exact ⟨_, List.mem_of_getElem? (i := 34) rfl, mem_sixteen 13 7 _ _ y e0 e1⟩
      · exact ⟨_, List.mem_of_getElem? (i := 30) rfl, mem_sixteen 13 8 _ _ y e0 e1⟩
      · exact ⟨_, List.mem_of_getElem? (i := 26) rfl, mem_sixteen 13 9 _ _ y e0 e1⟩
      · exact ⟨_, List.mem_of_getElem? (i := 22) rfl, mem_sixteen 13 10 _ _ y e0 e1⟩
      · exact ⟨_, List.mem_of_getElem? (i := 18) rfl, mem_sixteen 13 11 _ _ y e0 e1⟩
      · exact ⟨_, List.mem_of_getElem? (i := 14) rfl, mem_sixteen 13 12 _ _ y e0 e1⟩
      · exact ⟨_, List.mem_of_getElem? (i := 10) rfl, mem_sixteen 13 13 _ _ y e0 e1⟩
      · exact ⟨_, List.mem_of_getElem? (i := 6) rfl, mem_sixteen 13 14 _ _ y e0 e1⟩
      · exact ⟨_, List.mem_of_getElem? (i := 2) rfl, mem_sixteen 13 15 _ _ y e0 e1⟩
      · exact ⟨_, List.mem_of_getElem? (i := 61) rfl, mem_sixteen 14 0 _ _ y e0 e1⟩
      · exact ⟨_, List.mem_of_getElem? (i := 57) rfl, mem_sixteen 14 1 _ _ y e0 e1⟩
      · exact ⟨_, List.mem_of_getElem? (i := 53) rfl, mem_sixteen 14 2 _ _ y e0 e1⟩
      · exact ⟨_, List.mem_of_getElem? (i := 49) rfl, mem_sixteen 14 3 _ _ y e0 e1⟩
      · exact ⟨_, List.mem_of_getElem? (i := 45) rfl, mem_sixteen 14 4 _ _ y e0 e1⟩
      · exact ⟨_, List.mem_of_getElem? (i := 41) rfl, mem_sixteen 14 5 _ _ y e0 e1⟩
      · exact ⟨_, List.mem_of_getElem? (i := 37) rfl, mem_sixteen 14 6 _ _ y e0 e1⟩
      · exact ⟨_, List.mem_of_getElem? (i := 33) rfl, mem_sixteen 14 7 _ _ y e0 e1⟩
      · exact ⟨_, List.mem_of_getElem? (i := 29) rfl, mem_sixteen 14 8 _ _ y e0 e1⟩
      · exact ⟨_, List.mem_of_getElem? (i := 25) rfl, mem_sixteen 14 9 _ _ y e0 e1⟩
      · exact ⟨_, List.mem_of_getElem? (i := 21) rfl, mem_sixteen 14 10 _ _ y e0 e1⟩
      · exact ⟨_, List.mem_of_getElem? (i := 17) rfl, mem_sixteen 14 11 _ _ y e0 e1⟩
      · exact ⟨_, List.mem_of_getElem? (i := 13) rfl, mem_sixteen 14 12 _ _ y e0 e1⟩
      · exact ⟨_, List.mem_of_getElem? (i := 9) rfl, mem_sixteen 14 13 _ _ y e0 e1⟩
      · exact ⟨_, List.mem_of_getElem? (i := 5) rfl, mem_sixteen 14 14 _ _ y e0 e1⟩
      · exact ⟨_, List.mem_of_getElem? (i := 1) rfl, mem_sixteen 14 15 _ _ y e0 e1⟩
      · exact ⟨_, List.mem_of_getElem? (i := 60) rfl, mem_sixteen 15 0 _ _ y e0 e1⟩
      · exact ⟨_, List.mem_of_getElem? (i := 56) rfl, mem_sixteen 15 1 _ _ y e0 e1⟩
      · exact ⟨_, List.mem_of_getElem? (i := 52) rfl, mem_sixteen 15 2 _ _ y e0 e1⟩
      · exact ⟨_, List.mem_of_getElem? (i := 48) rfl, mem_sixteen 15 3 _ _ y e0 e1⟩
      · exact ⟨_, List.mem_of_getElem? (i := 44) rfl, mem_sixteen 15 4 _ _ y e0 e1⟩
      · exact ⟨_, List.mem_of_getElem? (i := 40) rfl, mem_sixteen 15 5 _ _ y e0 e1⟩
      · exact ⟨_, List.mem_of_getElem? (i := 36) rfl, mem_sixteen 15 6 _ _ y e0 e1⟩
      · exact ⟨_, List.mem_of_getElem? (i := 32) rfl, mem_sixteen 15 7 _ _ y e0 e1⟩
      · exact ⟨_, List.mem_of_getElem? (i := 28) rfl, mem_sixteen 15 8 _ _ y e0 e1⟩
      · exact ⟨_, List.mem_of_getElem? (i := 24) rfl, mem_sixteen 15 9 _ _ y e0 e1⟩
      · exact ⟨_, List.mem_of_getElem? (i := 20) rfl, mem_sixteen 15 10 _ _ y e0 e1⟩
      · exact ⟨_, List.mem_of_getElem? (i := 16) rfl, mem_sixteen 15 11 _ _ y e0 e1⟩
      · exact ⟨_, List.mem_of_getElem? (i := 12) rfl, mem_sixteen 15 12 _ _ y e0 e1⟩
      · exact ⟨_, List.mem_of_getElem? (i := 8) rfl, mem_sixteen 15 13 _ _ y e0 e1⟩
      · exact ⟨_, List.mem_of_getElem? (i := 4) rfl, mem_sixteen 15 14 _ _ y e0 e1⟩
      · exact ⟨_, List.mem_of_getElem? (i := 0) rfl, mem_sixteen 15 15 _ _ y e0 e1⟩
    exact key _ _ h b0 (by omega) rfl rfl

/-- The scratch array after the stores. -/
theorem pieces_canon (c : Dev nD) (arg7 : Memref sig .tc .vmem S1x4x128x512 .f32) (harg7 : arg7.IsWhole) (arg8 : Memref sig .tc .vmem S1x4x128x512 .f32) (harg8 : arg8.IsWhole) (arg9 : Memref sig .tc .vmem S1x16x32x512 .f32) (harg9 : arg9.IsWhole) (arg10 : Memref sig .tc .vmem S1x16x32x512 .f32) (harg10 : arg10.IsWhole)  (x5 x6 : Vec Ideal S1x4x128x512 .f32) (x7 x8 : Vec Ideal S1x16x32x512 .f32) :
    View.canon (kernelRun0_A.sl.HS0_160 (F := Ideal) c arg7 harg7 arg8 harg8 arg9 harg9 arg10 harg10 x5 x6 x7 x8) = stage x5 x6 x7 x8 :=
  funext fun y => View.canon_eq_of_allAt _ y _ (pieces_cover c arg7 harg7 arg8 harg8 arg9 harg9 arg10 harg10 x5 x6 x7 x8 y) (pieces_allAt c arg7 harg7 arg8 harg8 arg9 harg9 arg10 harg10 x5 x6 x7 x8 y)

end Cert.Outproj

end
-- ==== Proof.Outproj.Block.lean ====
module

public import proofs.«01_k».proof.Proof.Outproj.Stage
public import Idealize.ShloMosaic.Lib.Pointwise
public import Idealize.ShloMosaic.Lib.ValueIdx
public import Idealize.ShloMosaic.Lib.IdealHost
public import Idealize.ShloMosaic.Lib.Pipeline.ValueKit.Tiles

@[expose] public section

set_option maxRecDepth 16384

noncomputable section

namespace Cert.Outproj

open Idealize.ShloMosaic Idealize.ShloMosaic.TcCoe Idealize.SL.Sem Cert.Kernel3Ideal Cert.Kernel3Ideal.Gen
open Idealize.ShloMosaic.Pipeline (Dat)

/-! What one point of the output projection stores. -/

/-- Three groups' outputs, weighed by two to the power of their logarithms (less the largest), times the gated input. -/
def weigh (o0 l0 o1 l1 o2 l2 g : EReal) : EReal :=
  Ideal.div
    (Ideal.exp2 (l0 - max (max l0 l1) l2) * o0 + Ideal.exp2 (l1 - max (max l0 l1) l2) * o1 + Ideal.exp2 (l2 - max (max l0 l1) l2) * o2)
    (Ideal.exp2 (l0 - max (max l0 l1) l2) + Ideal.exp2 (l1 - max (max l0 l1) l2) + Ideal.exp2 (l2 - max (max l0 l1) l2))
  * (g * Ideal.logistic g)

/-- The merged output of the three groups, at a token of the block and a lane. -/
def merged (x3 x4 : Vec Ideal S1x512x512 .f32)
    (x5 x6 : Vec Ideal S1x4x128x512 .f32) (x7 x8 : Vec Ideal S1x16x32x512 .f32) (x9 : Vec Ideal S1x512x512 .bf16) (r : Fin 512) (d : Fin 512) : EReal :=
  weigh (x3 (ix3 0 r d)) (x4 (ix3 0 r d)) (four x5 r d) (four x6 r d) (sixteen x7 r d) (sixteen x8 r d) (x9 (ix3 0 r d))

/-- A point's result at a token of the block and a feature. -/
def blockOut (x0 : Vec Ideal S1x512x2048 .f32) (x1 x2 : Vec Ideal S1x512x768 .bf16) (x3 x4 : Vec Ideal S1x512x512 .f32)
    (x5 x6 : Vec Ideal S1x4x128x512 .f32) (x7 x8 : Vec Ideal S1x16x32x512 .f32) (x9 : Vec Ideal S1x512x512 .bf16)
    (x10 x11 : Vec Ideal S768x2048 .bf16) (x12 : Vec Ideal S512x2048 .bf16) (r : Fin 512) (e : Fin 2048) : EReal :=
  x0 (ix3 0 r e) + (∑ d : Fin 768, x1 (ix3 0 r d) * x10 (ix2 d e) + ∑ d : Fin 768, x2 (ix3 0 r d) * x11 (ix2 d e)
    + ∑ d : Fin 512, merged x3 x4 x5 x6 x7 x8 x9 r d * x12 (ix2 d e))

/-- The merge of one lane tile of 256 tokens. -/
def tile (o l s0 s1 s2 s3 : Vec Ideal S1x256x128 .f32) (g : Vec Ideal S1x256x128 .bf16) : FVec Ideal S256x128 .bf16 :=
  k0_pay181 o l s0 s1 s2 s3 g

/-- Half a point: the three products of 256 tokens, added to the residual rows. -/
def half (a b : Vec Ideal S1x256x768 .bf16) (wa wb : Vec Ideal S768x2048 .bf16) (t0 t1 t2 t3 : FVec Ideal S256x128 .bf16)
    (wc : Vec Ideal S512x2048 .bf16) (x : Vec Ideal S1x256x2048 .f32) : FVec Ideal S1x256x2048 .f32 :=
  k0_pay1 (k0_pay188 a wa b wb)
    (concatenate S256x512 1 [⟨S256x128, t0⟩, ⟨S256x128, t1⟩, ⟨S256x128, t2⟩, ⟨S256x128, t3⟩]
      concatenates_S256x128_S256x128_S256x128_S256x128_S256x512_d1) wc (constant S256x2048 .f32 0x00000000#32) x

theorem tile_apply (o l s0 s1 s2 s3 : Vec Ideal S1x256x128 .f32) (g : Vec Ideal S1x256x128 .bf16) (r : Fin 256) (e : Fin 128) :
    tile o l s0 s1 s2 s3 g (ix2 r e) = weigh (o (ix3 0 r e)) (l (ix3 0 r e)) (s0 (ix3 0 r e)) (s1 (ix3 0 r e))
      (s2 (ix3 0 r e)) (s3 (ix3 0 r e)) (g (ix3 0 r e)) := by
  unfold tile weigh
  unfold_payloads
  pointwise
  rfl

/-- Four lane tiles side by side, when each holds its part of the rows `f`. -/
theorem cat_apply (t0 t1 t2 t3 : FVec Ideal S256x128 .bf16) (f : Fin 512 → EReal) (r : Fin 256)
    (h0 : ∀ e : Fin 128, t0 (ix2 r e) = f ⟨e.val, by omega⟩) (h1 : ∀ e : Fin 128, t1 (ix2 r e) = f ⟨128 + e.val, by omega⟩)
    (h2 : ∀ e : Fin 128, t2 (ix2 r e) = f ⟨256 + e.val, by omega⟩) (h3 : ∀ e : Fin 128, t3 (ix2 r e) = f ⟨384 + e.val, by omega⟩)
    (d : Fin 512) :
    concatenate S256x512 1 [⟨S256x128, t0⟩, ⟨S256x128, t1⟩, ⟨S256x128, t2⟩, ⟨S256x128, t3⟩]
      concatenates_S256x128_S256x128_S256x128_S256x128_S256x512_d1 (ix2 r d) = f d := by
  pointwise
  split_ifs
  all_goals first
    | (refine (h0 _).trans (congrArg f (Fin.ext ?_)); first | rfl | (simp; omega); done)
    | (refine (h1 _).trans (congrArg f (Fin.ext ?_)); first | rfl | (simp; omega); done)
    | (refine (h2 _).trans (congrArg f (Fin.ext ?_)); first | rfl | (simp; omega); done)
    | (refine (h3 _).trans (congrArg f (Fin.ext ?_)); first | rfl | (simp; omega); done)

theorem half_apply (a b : Vec Ideal S1x256x768 .bf16) (wa wb : Vec Ideal S768x2048 .bf16) (t0 t1 t2 t3 : FVec Ideal S256x128 .bf16)
    (wc : Vec Ideal S512x2048 .bf16) (x : Vec Ideal S1x256x2048 .f32) (f : Fin 512 → EReal) (r : Fin 256) (e : Fin 2048)
    (h0 : ∀ e : Fin 128, t0 (ix2 r e) = f ⟨e.val, by omega⟩) (h1 : ∀ e : Fin 128, t1 (ix2 r e) = f ⟨128 + e.val, by omega⟩)
    (h2 : ∀ e : Fin 128, t2 (ix2 r e) = f ⟨256 + e.val, by omega⟩) (h3 : ∀ e : Fin 128, t3 (ix2 r e) = f ⟨384 + e.val, by omega⟩) :
    half a b wa wb t0 t1 t2 t3 wc x (ix3 0 r e)
      = x (ix3 0 r e) + (∑ d : Fin 768, a (ix3 0 r d) * wa (ix2 d e) + ∑ d : Fin 768, b (ix3 0 r d) * wb (ix2 d e)
        + ∑ d : Fin 512, f d * wc (ix2 d e)) := by
  unfold half
  rw [show (∑ d : Fin 512, f d * wc (ix2 d e)) = ∑ d : Fin 512, concatenate S256x512 1 [⟨S256x128, t0⟩, ⟨S256x128, t1⟩, ⟨S256x128, t2⟩, ⟨S256x128, t3⟩]
      concatenates_S256x128_S256x128_S256x128_S256x128_S256x512_d1 (ix2 r d) * wc (ix2 d e) from
    Finset.sum_congr rfl fun d _ => by rw [cat_apply t0 t1 t2 t3 f r h0 h1 h2 h3 d]]
  generalize concatenate S256x512 1 [⟨S256x128, t0⟩, ⟨S256x128, t1⟩, ⟨S256x128, t2⟩, ⟨S256x128, t3⟩]
      concatenates_S256x128_S256x128_S256x128_S256x128_S256x512_d1 = y
  unfold_payloads
  pointwise

/-- A tile of the merge, from the blocks. -/
theorem tile_at (x3 x4 : Vec Ideal S1x512x512 .f32)
    (x5 x6 : Vec Ideal S1x4x128x512 .f32) (x7 x8 : Vec Ideal S1x16x32x512 .f32) (x9 : Vec Ideal S1x512x512 .bf16) (R k l s0 s1 s2 s3 : ℕ) (hl : l = 128 * k) (hk : k < 4) (h0 : s0 = k) (h1 : s1 = 4 + k) (h2 : s2 = 8 + k) (h3 : s3 = 12 + k)
    (hR : R + 256 ≤ 512)
    (iL : ∀ a : Fin S1x512x512.rank, (![0, R, l] : Fin 3 → ℕ) a + S1x256x128.size a ≤ S1x512x512.size a)
    (i0 : ∀ a : Fin S16x512x128.rank, (![s0, R, 0] : Fin 3 → ℕ) a + S1x256x128.size a ≤ S16x512x128.size a)
    (i1 : ∀ a : Fin S16x512x128.rank, (![s1, R, 0] : Fin 3 → ℕ) a + S1x256x128.size a ≤ S16x512x128.size a)
    (i2 : ∀ a : Fin S16x512x128.rank, (![s2, R, 0] : Fin 3 → ℕ) a + S1x256x128.size a ≤ S16x512x128.size a)
    (i3 : ∀ a : Fin S16x512x128.rank, (![s3, R, 0] : Fin 3 → ℕ) a + S1x256x128.size a ≤ S16x512x128.size a)
    (r : Fin 256) (e : Fin 128) :
    tile (View.ld x3 (Rect.unit (s := S1x512x512) ![0, R, l] S1x256x128.size iL)) (View.ld x4 (Rect.unit (s := S1x512x512) ![0, R, l] S1x256x128.size iL))
      (fun j => stage x5 x6 x7 x8 ((Rect.unit (s := S16x512x128) ![s0, R, 0] S1x256x128.size i0).toLoadRect.idx j))
      (fun j => stage x5 x6 x7 x8 ((Rect.unit (s := S16x512x128) ![s1, R, 0] S1x256x128.size i1).toLoadRect.idx j))
      (fun j => stage x5 x6 x7 x8 ((Rect.unit (s := S16x512x128) ![s2, R, 0] S1x256x128.size i2).toLoadRect.idx j))
      (fun j => stage x5 x6 x7 x8 ((Rect.unit (s := S16x512x128) ![s3, R, 0] S1x256x128.size i3).toLoadRect.idx j))
      (View.ld x9 (Rect.unit (s := S1x512x512) ![0, R, l] S1x256x128.size iL)) (ix2 r e)
      = merged x3 x4 x5 x6 x7 x8 x9 ⟨R + r.val, by omega⟩ ⟨l + e.val, by omega⟩ := by
  refine (tile_apply _ _ _ _ _ _ _ r e).trans ?_
  have hi : (Rect.unit (s := S1x512x512) ![0, R, l] S1x256x128.size iL).idx (ix3 (0 : Fin 1) r e)
      = (ix3 (0 : Fin 1) (⟨R + r.val, by omega⟩ : Fin 512) (⟨l + e.val, by omega⟩ : Fin 512) : S1x512x512.Idx) := by
    funext a
    apply Fin.ext
    match a with
    | ⟨0, _⟩ => rfl
    | ⟨1, _⟩ => show R + 1 * r.val = R + r.val; omega
    | ⟨2, _⟩ => show l + 1 * e.val = l + e.val; omega
  have e0 : stage x5 x6 x7 x8 ((Rect.unit (s := S16x512x128) ![s0, R, 0] S1x256x128.size i0).toLoadRect.idx (ix3 (0 : Fin 1) r e))
      = four x5 ⟨R + r.val, by omega⟩ ⟨l + e.val, by omega⟩ := by
    refine (stage_0 x5 x6 x7 x8 _ s0 (by omega) (by show s0 + 1 * 0 = s0; omega)).trans ?_
    refine congrArg₂ (four x5) (Fin.ext ?_) (Fin.ext ?_)
    · show R + 1 * r.val = R + r.val; omega
    · show 128 * ((s0 + 1 * 0) % 4) + (0 + 1 * e.val) = l + e.val; omega
  have e1 : stage x5 x6 x7 x8 ((Rect.unit (s := S16x512x128) ![s1, R, 0] S1x256x128.size i1).toLoadRect.idx (ix3 (0 : Fin 1) r e))
      = four x6 ⟨R + r.val, by omega⟩ ⟨l + e.val, by omega⟩ := by
    refine (stage_1 x5 x6 x7 x8 _ s1 (by omega) (by show s1 + 1 * 0 = s1; omega)).trans ?_
    refine congrArg₂ (four x6) (Fin.ext ?_) (Fin.ext ?_)
    · show R + 1 * r.val = R + r.val; omega
    · show 128 * ((s1 + 1 * 0) % 4) + (0 + 1 * e.val) = l + e.val; omega
  have e2 : stage x5 x6 x7 x8 ((Rect.unit (s := S16x512x128) ![s2, R, 0] S1x256x128.size i2).toLoadRect.idx (ix3 (0 : Fin 1) r e))
      = sixteen x7 ⟨R + r.val, by omega⟩ ⟨l + e.val, by omega⟩ := by
    refine (stage_2 x5 x6 x7 x8 _ s2 (by omega) (by show s2 + 1 * 0 = s2; omega)).trans ?_
    refine congrArg₂ (sixteen x7) (Fin.ext ?_) (Fin.ext ?_)
    · show R + 1 * r.val = R + r.val; omega
    · show 128 * ((s2 + 1 * 0) % 4) + (0 + 1 * e.val) = l + e.val; omega
  have e3 : stage x5 x6 x7 x8 ((Rect.unit (s := S16x512x128) ![s3, R, 0] S1x256x128.size i3).toLoadRect.idx (ix3 (0 : Fin 1) r e))
      = sixteen x8 ⟨R + r.val, by omega⟩ ⟨l + e.val, by omega⟩ := by
    refine (stage_3 x5 x6 x7 x8 _ s3 (by omega) (by show s3 + 1 * 0 = s3; omega)).trans ?_
    refine congrArg₂ (sixteen x8) (Fin.ext ?_) (Fin.ext ?_)
    · show R + 1 * r.val = R + r.val; omega
    · show 128 * ((s3 + 1 * 0) % 4) + (0 + 1 * e.val) = l + e.val; omega
  unfold merged
  rw [e0, e1, e2, e3]
  show weigh (x3 _) (x4 _) _ _ _ _ (x9 _) = _
  rw [hi]

/-- Half a point, from the blocks. -/
theorem half_at (x0 : Vec Ideal S1x512x2048 .f32) (x1 x2 : Vec Ideal S1x512x768 .bf16) (x3 x4 : Vec Ideal S1x512x512 .f32)
    (x5 x6 : Vec Ideal S1x4x128x512 .f32) (x7 x8 : Vec Ideal S1x16x32x512 .f32) (x9 : Vec Ideal S1x512x512 .bf16)
    (x10 x11 : Vec Ideal S768x2048 .bf16) (x12 : Vec Ideal S512x2048 .bf16) (R : ℕ) (hR : R + 256 ≤ 512)
    (iA : ∀ a : Fin S1x512x768.rank, (![0, R, 0] : Fin 3 → ℕ) a + S1x256x768.size a ≤ S1x512x768.size a)
    (iX : ∀ a : Fin S1x512x2048.rank, (![0, R, 0] : Fin 3 → ℕ) a + S1x256x2048.size a ≤ S1x512x2048.size a)
    (t0 t1 t2 t3 : FVec Ideal S256x128 .bf16) (r : Fin 256) (e : Fin 2048)
    (h0 : ∀ e : Fin 128, t0 (ix2 r e) = merged x3 x4 x5 x6 x7 x8 x9 ⟨R + r.val, by omega⟩ ⟨e.val, by omega⟩)
    (h1 : ∀ e : Fin 128, t1 (ix2 r e) = merged x3 x4 x5 x6 x7 x8 x9 ⟨R + r.val, by omega⟩ ⟨128 + e.val, by omega⟩)
    (h2 : ∀ e : Fin 128, t2 (ix2 r e) = merged x3 x4 x5 x6 x7 x8 x9 ⟨R + r.val, by omega⟩ ⟨256 + e.val, by omega⟩)
    (h3 : ∀ e : Fin 128, t3 (ix2 r e) = merged x3 x4 x5 x6 x7 x8 x9 ⟨R + r.val, by omega⟩ ⟨384 + e.val, by omega⟩) :
    half (View.ld x1 (Rect.unit (s := S1x512x768) ![0, R, 0] S1x256x768.size iA)) (View.ld x2 (Rect.unit (s := S1x512x768) ![0, R, 0] S1x256x768.size iA)) x10 x11 t0 t1 t2 t3 x12
      (View.ld x0 (Rect.unit (s := S1x512x2048) ![0, R, 0] S1x256x2048.size iX)) (ix3 0 r e)
      = blockOut x0 x1 x2 x3 x4 x5 x6 x7 x8 x9 x10 x11 x12 ⟨R + r.val, by omega⟩ e := by
  refine (half_apply _ _ _ _ _ _ _ _ _ _ (merged x3 x4 x5 x6 x7 x8 x9 ⟨R + r.val, by omega⟩) r e h0 h1 h2 h3).trans ?_
  have hA (d : Fin 768) : (Rect.unit (s := S1x512x768) ![0, R, 0] S1x256x768.size iA).idx (ix3 (0 : Fin 1) r d)
      = (ix3 (0 : Fin 1) (⟨R + r.val, by omega⟩ : Fin 512) d : S1x512x768.Idx) := by
    funext a
    apply Fin.ext
    match a with
    | ⟨0, _⟩ => rfl
    | ⟨1, _⟩ => show R + 1 * r.val = R + r.val; omega
    | ⟨2, _⟩ => show 0 + 1 * d.val = d.val; omega
  have hX : (Rect.unit (s := S1x512x2048) ![0, R, 0] S1x256x2048.size iX).idx (ix3 (0 : Fin 1) r e)
      = (ix3 (0 : Fin 1) (⟨R + r.val, by omega⟩ : Fin 512) e : S1x512x2048.Idx) := by
    funext a
    apply Fin.ext
    match a with
    | ⟨0, _⟩ => rfl
    | ⟨1, _⟩ => show R + 1 * r.val = R + r.val; omega
    | ⟨2, _⟩ => show 0 + 1 * e.val = e.val; omega
  unfold blockOut
  refine congrArg₂ (· + ·) (congrArg x0 hX) (congrArg₂ (· + ·) (congrArg₂ (· + ·) ?_ ?_) rfl)
  · exact Finset.sum_congr rfl fun d _ => congrArg (· * x10 (ix2 d e)) (congrArg x1 (hA d))
  · exact Finset.sum_congr rfl fun d _ => congrArg (· * x11 (ix2 d e)) (congrArg x2 (hA d))

theorem hz3 : (![0, 0, 0] : Fin 3 → Nat) = fun _ => 0 := funext fun a => by fin_cases a <;> rfl
theorem hz2 : (![0, 0] : Fin 2 → Nat) = fun _ => 0 := funext fun a => by fin_cases a <;> rfl

section Payloads
variable (a b : Vec Ideal S1x256x768 .bf16) (wa wb : Vec Ideal S768x2048 .bf16) (wc : Vec Ideal S512x2048 .bf16)
  (x : Vec Ideal S1x256x2048 .f32) (o l s0 s1 s2 s3 : Vec Ideal S1x256x128 .f32) (g : Vec Ideal S1x256x128 .bf16)
  (t0 t1 t2 t3 : FVec Ideal S256x128 .bf16)

/-- The printed pieces of the body are tiles and halves, cut differently. -/
theorem tile_1 : k0_pay181 o l s0 s1 s2 s3 g = tile o l s0 s1 s2 s3 g := rfl
theorem tile_2 : k0_pay182 o l s0 s1 s2 s3 g = tile o l s0 s1 s2 s3 g := rfl
theorem tile_3 : k0_pay184 (k0_pay183 o) l s0 s1 s2 s3 g = tile o l s0 s1 s2 s3 g := rfl
theorem tile_5 : k0_pay196 (k0_pay189 o) (k0_pay190 l) (k0_pay191 s0) (k0_pay192 s1) (k0_pay193 s2) (k0_pay194 s3)
    (k0_pay195 l s1 s3) g = tile o l s0 s1 s2 s3 g := rfl
theorem tile_6 : k0_pay206 (k0_pay197 o) (k0_pay199 s0) (k0_pay201 s2) (k0_pay202 s3) (k0_pay203 l s1 s3) (k0_pay204 l s1 s3)
    (k0_pay205 l s1 s3) g = tile o l s0 s1 s2 s3 g := rfl
theorem tile_7 : k0_pay217 (k0_pay209 s2) (k0_pay212 l s1 s3) (k0_pay213 l s1 s3) (k0_pay214 l s1 s3) (k0_pay215 o l s1 s3)
    (k0_pay216 l s0 s1 s3) g = tile o l s0 s1 s2 s3 g := rfl
theorem half_1 : k0_pay187 (k0_pay186 (k0_pay180 (k0_pay178 a wa) (k0_pay179 b) wb) t0 t1 t2 (k0_pay185 o) l s0 s1 s2 s3 g wc x)
    = half a b wa wb t0 t1 t2 (tile o l s0 s1 s2 s3 g) wc x := rfl
theorem half_2 : k0_pay1 (k0_pay188 a wa b wb) (k0_pay227 t0 t1 t2 (k0_pay224 l s1 s3) (k0_pay225 o l s0 s1 s2 s3) (k0_pay226 l s1 s3) g)
    wc (constant S256x2048 .f32 0x00000000#32) x = half a b wa wb t0 t1 t2 (tile o l s0 s1 s2 s3 g) wc x := rfl
end Payloads

set_option maxHeartbeats 1000000 in
theorem out_A (c : Dev nD) (i : grid0.Coords) (arg2 : Memref sig .tc .vmem S1x512x2048 .f32) (harg2 : arg2.IsWhole) (arg3 : Memref sig .tc .vmem S1x512x768 .bf16) (harg3 : arg3.IsWhole) (arg4 : Memref sig .tc .vmem S1x512x768 .bf16) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x4x128x512 .f32) (harg7 : arg7.IsWhole) (arg8 : Memref sig .tc .vmem S1x4x128x512 .f32) (harg8 : arg8.IsWhole) (arg9 : Memref sig .tc .vmem S1x16x32x512 .f32) (harg9 : arg9.IsWhole) (arg10 : Memref sig .tc .vmem S1x16x32x512 .f32) (harg10 : arg10.IsWhole) (arg11 : Memref sig .tc .vmem S1x512x512 .bf16) (harg11 : arg11.IsWhole) (arg12 : Memref sig .tc .vmem S768x2048 .bf16) (harg12 : arg12.IsWhole) (arg13 : Memref sig .tc .vmem S768x2048 .bf16) (harg13 : arg13.IsWhole) (arg14 : Memref sig .tc .vmem S512x2048 .bf16) (harg14 : arg14.IsWhole) (arg15 : Memref sig .tc .vmem S1x512x2048 .f32) (harg15 : arg15.IsWhole) (arg16 : Memref sig .tc .vmem S16x512x128 .f32) (harg16 : arg16.IsWhole)
    (x0 : Vec Ideal S1x512x2048 .f32) (x1 : Vec Ideal S1x512x768 .bf16) (x2 : Vec Ideal S1x512x768 .bf16) (x3 : Vec Ideal S1x512x512 .f32) (x4 : Vec Ideal S1x512x512 .f32) (x5 : Vec Ideal S1x4x128x512 .f32) (x6 : Vec Ideal S1x4x128x512 .f32) (x7 : Vec Ideal S1x16x32x512 .f32) (x8 : Vec Ideal S1x16x32x512 .f32) (x9 : Vec Ideal S1x512x512 .bf16) (x10 : Vec Ideal S768x2048 .bf16) (x11 : Vec Ideal S768x2048 .bf16) (x12 : Vec Ideal S512x2048 .bf16)  :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12
      = fun y => blockOut x0 x1 x2 x3 x4 x5 x6 x7 x8 x9 x10 x11 x12 (y 1) (y 2) := by
  have hcover := cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12
  unfold out0_A_13
  rw [View.read_writes_eq_canon _ _ _ hcover]
  funext y
  refine View.canon_eq_of_allAt _ y _ (hcover y) ?_
  unfold kernelRun0_A
  dsimp only
  refine View.allAt_cons_unit _ _ _ _ _ ?_ (View.allAt_cons_unit _ _ _ _ _ ?_ (View.allAt_nil _ _))
  · unfold kernelRun0_A.sl.r_41 kernelRun0_A.sl.r_40 kernelRun0_A.sl.r_39 kernelRun0_A.sl.r_38 kernelRun0_A.sl.r_37 kernelRun0_A.sl.r_36 kernelRun0_A.sl.r_35 kernelRun0_A.sl.r_34 kernelRun0_A.sl.r_33 kernelRun0_A.sl.r_32 kernelRun0_A.sl.r_31 kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.cst_1303 kernelRun0_A.sl.v1083 kernelRun0_A.sl.v1081 kernelRun0_A.sl.v1079 kernelRun0_A.sl.v1077 kernelRun0_A.sl.v1048 kernelRun0_A.sl.v1046 kernelRun0_A.sl.v1044 kernelRun0_A.sl.v1042 kernelRun0_A.sl.v1013 kernelRun0_A.sl.v1011 kernelRun0_A.sl.v1009 kernelRun0_A.sl.v1007 kernelRun0_A.sl.v978 kernelRun0_A.sl.v976 kernelRun0_A.sl.v974 kernelRun0_A.sl.v972
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.readCov_eq_canon', pieces_canon c arg7 harg7 arg8 harg8 arg9 harg9 arg10 harg10 x5 x6 x7 x8, View.ld_unit_zero (S := S768x2048) hz2, View.ld_unit_zero (S := S512x2048) hz2]
    rw [tile_5, tile_6, tile_7, half_2]
    intro x hx
    obtain ⟨r, e, rfl⟩ : ∃ (r : Fin 256) (e : Fin 2048), x = (ix3 (0 : Fin 1) r e : S1x256x2048.Idx) :=
      ⟨x 1, x 2, funext fun a => match a with
        | ⟨0, _⟩ => Subsingleton.elim (α := Fin 1) _ _
        | ⟨1, _⟩ => rfl
        | ⟨2, _⟩ => rfl⟩
    have y1 : (y 1).val = 256 + r.val := hx 1
    have y2 : (y 2).val = 0 + e.val := hx 2
    have z1 : (⟨256 + r.val, by omega⟩ : Fin 512) = y 1 := Fin.ext y1.symm
    have z2 : e = y 2 := Fin.ext (by omega)
    refine Eq.trans (b := blockOut x0 x1 x2 x3 x4 x5 x6 x7 x8 x9 x10 x11 x12 ⟨256 + r.val, by omega⟩ e) ?_
      (congrArg₂ (blockOut x0 x1 x2 x3 x4 x5 x6 x7 x8 x9 x10 x11 x12) z1 z2)
    exact half_at x0 x1 x2 x3 x4 x5 x6 x7 x8 x9 x10 x11 x12 256 (by decide) inb_S1x512x768_S1x256x768_0_256_0 inb_S1x512x2048_S1x256x2048_0_256_0
        (tile (View.ld x3 (Rect.unit (s := S1x512x512) ![0, 256, 0] S1x256x128.size inb_S1x512x512_S1x256x128_0_256_0)) (View.ld x4 (Rect.unit (s := S1x512x512) ![0, 256, 0] S1x256x128.size inb_S1x512x512_S1x256x128_0_256_0))
          (fun j => stage x5 x6 x7 x8 ((Rect.unit (s := S16x512x128) ![0, 256, 0] S1x256x128.size inb_S16x512x128_S1x256x128_0_256_0).toLoadRect.idx j))
          (fun j => stage x5 x6 x7 x8 ((Rect.unit (s := S16x512x128) ![4, 256, 0] S1x256x128.size inb_S16x512x128_S1x256x128_4_256_0).toLoadRect.idx j))
          (fun j => stage x5 x6 x7 x8 ((Rect.unit (s := S16x512x128) ![8, 256, 0] S1x256x128.size inb_S16x512x128_S1x256x128_8_256_0).toLoadRect.idx j))
          (fun j => stage x5 x6 x7 x8 ((Rect.unit (s := S16x512x128) ![12, 256, 0] S1x256x128.size inb_S16x512x128_S1x256x128_12_256_0).toLoadRect.idx j))
          (View.ld x9 (Rect.unit (s := S1x512x512) ![0, 256, 0] S1x256x128.size inb_S1x512x512_S1x256x128_0_256_0)))
        (tile (View.ld x3 (Rect.unit (s := S1x512x512) ![0, 256, 128] S1x256x128.size inb_S1x512x512_S1x256x128_0_256_128)) (View.ld x4 (Rect.unit (s := S1x512x512) ![0, 256, 128] S1x256x128.size inb_S1x512x512_S1x256x128_0_256_128))
          (fun j => stage x5 x6 x7 x8 ((Rect.unit (s := S16x512x128) ![1, 256, 0] S1x256x128.size inb_S16x512x128_S1x256x128_1_256_0).toLoadRect.idx j))
          (fun j => stage x5 x6 x7 x8 ((Rect.unit (s := S16x512x128) ![5, 256, 0] S1x256x128.size inb_S16x512x128_S1x256x128_5_256_0).toLoadRect.idx j))
          (fun j => stage x5 x6 x7 x8 ((Rect.unit (s := S16x512x128) ![9, 256, 0] S1x256x128.size inb_S16x512x128_S1x256x128_9_256_0).toLoadRect.idx j))
          (fun j => stage x5 x6 x7 x8 ((Rect.unit (s := S16x512x128) ![13, 256, 0] S1x256x128.size inb_S16x512x128_S1x256x128_13_256_0).toLoadRect.idx j))
          (View.ld x9 (Rect.unit (s := S1x512x512) ![0, 256, 128] S1x256x128.size inb_S1x512x512_S1x256x128_0_256_128)))
        (tile (View.ld x3 (Rect.unit (s := S1x512x512) ![0, 256, 256] S1x256x128.size inb_S1x512x512_S1x256x128_0_256_256)) (View.ld x4 (Rect.unit (s := S1x512x512) ![0, 256, 256] S1x256x128.size inb_S1x512x512_S1x256x128_0_256_256))
          (fun j => stage x5 x6 x7 x8 ((Rect.unit (s := S16x512x128) ![2, 256, 0] S1x256x128.size inb_S16x512x128_S1x256x128_2_256_0).toLoadRect.idx j))
          (fun j => stage x5 x6 x7 x8 ((Rect.unit (s := S16x512x128) ![6, 256, 0] S1x256x128.size inb_S16x512x128_S1x256x128_6_256_0).toLoadRect.idx j))
          (fun j => stage x5 x6 x7 x8 ((Rect.unit (s := S16x512x128) ![10, 256, 0] S1x256x128.size inb_S16x512x128_S1x256x128_10_256_0).toLoadRect.idx j))
          (fun j => stage x5 x6 x7 x8 ((Rect.unit (s := S16x512x128) ![14, 256, 0] S1x256x128.size inb_S16x512x128_S1x256x128_14_256_0).toLoadRect.idx j))
          (View.ld x9 (Rect.unit (s := S1x512x512) ![0, 256, 256] S1x256x128.size inb_S1x512x512_S1x256x128_0_256_256)))
        (tile (View.ld x3 (Rect.unit (s := S1x512x512) ![0, 256, 384] S1x256x128.size inb_S1x512x512_S1x256x128_0_256_384)) (View.ld x4 (Rect.unit (s := S1x512x512) ![0, 256, 384] S1x256x128.size inb_S1x512x512_S1x256x128_0_256_384))
          (fun j => stage x5 x6 x7 x8 ((Rect.unit (s := S16x512x128) ![3, 256, 0] S1x256x128.size inb_S16x512x128_S1x256x128_3_256_0).toLoadRect.idx j))
          (fun j => stage x5 x6 x7 x8 ((Rect.unit (s := S16x512x128) ![7, 256, 0] S1x256x128.size inb_S16x512x128_S1x256x128_7_256_0).toLoadRect.idx j))
          (fun j => stage x5 x6 x7 x8 ((Rect.unit (s := S16x512x128) ![11, 256, 0] S1x256x128.size inb_S16x512x128_S1x256x128_11_256_0).toLoadRect.idx j))
          (fun j => stage x5 x6 x7 x8 ((Rect.unit (s := S16x512x128) ![15, 256, 0] S1x256x128.size inb_S16x512x128_S1x256x128_15_256_0).toLoadRect.idx j))
          (View.ld x9 (Rect.unit (s := S1x512x512) ![0, 256, 384] S1x256x128.size inb_S1x512x512_S1x256x128_0_256_384)))
        r e
        (fun e => (tile_at x3 x4 x5 x6 x7 x8 x9 256 0 0 0 4 8 12 rfl (by decide) rfl rfl rfl rfl (by decide) _ _ _ _ _ r e).trans (congrArg _ (Fin.ext (Nat.zero_add _))))
        (fun e => tile_at x3 x4 x5 x6 x7 x8 x9 256 1 128 1 5 9 13 rfl (by decide) rfl rfl rfl rfl (by decide) _ _ _ _ _ r e)
        (fun e => tile_at x3 x4 x5 x6 x7 x8 x9 256 2 256 2 6 10 14 rfl (by decide) rfl rfl rfl rfl (by decide) _ _ _ _ _ r e)
        (fun e => tile_at x3 x4 x5 x6 x7 x8 x9 256 3 384 3 7 11 15 rfl (by decide) rfl rfl rfl rfl (by decide) _ _ _ _ _ r e)
  · unfold kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.v924 kernelRun0_A.sl.v922 kernelRun0_A.sl.v920 kernelRun0_A.sl.v918 kernelRun0_A.sl.v889 kernelRun0_A.sl.v887 kernelRun0_A.sl.v885 kernelRun0_A.sl.v883 kernelRun0_A.sl.v854 kernelRun0_A.sl.v852 kernelRun0_A.sl.v850 kernelRun0_A.sl.v848 kernelRun0_A.sl.v819 kernelRun0_A.sl.v817 kernelRun0_A.sl.v815 kernelRun0_A.sl.v813
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.readCov_eq_canon', pieces_canon c arg7 harg7 arg8 harg8 arg9 harg9 arg10 harg10 x5 x6 x7 x8, View.ld_unit_zero (S := S768x2048) hz2, View.ld_unit_zero (S := S512x2048) hz2]
    rw [tile_1, tile_2, tile_3, half_1]
    intro x hx
    obtain ⟨r, e, rfl⟩ : ∃ (r : Fin 256) (e : Fin 2048), x = (ix3 (0 : Fin 1) r e : S1x256x2048.Idx) :=
      ⟨x 1, x 2, funext fun a => match a with
        | ⟨0, _⟩ => Subsingleton.elim (α := Fin 1) _ _
        | ⟨1, _⟩ => rfl
        | ⟨2, _⟩ => rfl⟩
    have y1 : (y 1).val = 0 + r.val := hx 1
    have y2 : (y 2).val = 0 + e.val := hx 2
    have z1 : (⟨0 + r.val, by omega⟩ : Fin 512) = y 1 := Fin.ext y1.symm
    have z2 : e = y 2 := Fin.ext (by omega)
    refine Eq.trans (b := blockOut x0 x1 x2 x3 x4 x5 x6 x7 x8 x9 x10 x11 x12 ⟨0 + r.val, by omega⟩ e) ?_
      (congrArg₂ (blockOut x0 x1 x2 x3 x4 x5 x6 x7 x8 x9 x10 x11 x12) z1 z2)
    exact half_at x0 x1 x2 x3 x4 x5 x6 x7 x8 x9 x10 x11 x12 0 (by decide) inb_S1x512x768_S1x256x768_0_0_0 inb_S1x512x2048_S1x256x2048_0_0_0
        (tile (View.ld x3 (Rect.unit (s := S1x512x512) ![0, 0, 0] S1x256x128.size inb_S1x512x512_S1x256x128_0_0_0)) (View.ld x4 (Rect.unit (s := S1x512x512) ![0, 0, 0] S1x256x128.size inb_S1x512x512_S1x256x128_0_0_0))
          (fun j => stage x5 x6 x7 x8 ((Rect.unit (s := S16x512x128) ![0, 0, 0] S1x256x128.size inb_S16x512x128_S1x256x128_0_0_0).toLoadRect.idx j))
          (fun j => stage x5 x6 x7 x8 ((Rect.unit (s := S16x512x128) ![4, 0, 0] S1x256x128.size inb_S16x512x128_S1x256x128_4_0_0).toLoadRect.idx j))
          (fun j => stage x5 x6 x7 x8 ((Rect.unit (s := S16x512x128) ![8, 0, 0] S1x256x128.size inb_S16x512x128_S1x256x128_8_0_0).toLoadRect.idx j))
          (fun j => stage x5 x6 x7 x8 ((Rect.unit (s := S16x512x128) ![12, 0, 0] S1x256x128.size inb_S16x512x128_S1x256x128_12_0_0).toLoadRect.idx j))
          (View.ld x9 (Rect.unit (s := S1x512x512) ![0, 0, 0] S1x256x128.size inb_S1x512x512_S1x256x128_0_0_0)))
        (tile (View.ld x3 (Rect.unit (s := S1x512x512) ![0, 0, 128] S1x256x128.size inb_S1x512x512_S1x256x128_0_0_128)) (View.ld x4 (Rect.unit (s := S1x512x512) ![0, 0, 128] S1x256x128.size inb_S1x512x512_S1x256x128_0_0_128))
          (fun j => stage x5 x6 x7 x8 ((Rect.unit (s := S16x512x128) ![1, 0, 0] S1x256x128.size inb_S16x512x128_S1x256x128_1_0_0).toLoadRect.idx j))
          (fun j => stage x5 x6 x7 x8 ((Rect.unit (s := S16x512x128) ![5, 0, 0] S1x256x128.size inb_S16x512x128_S1x256x128_5_0_0).toLoadRect.idx j))
          (fun j => stage x5 x6 x7 x8 ((Rect.unit (s := S16x512x128) ![9, 0, 0] S1x256x128.size inb_S16x512x128_S1x256x128_9_0_0).toLoadRect.idx j))
          (fun j => stage x5 x6 x7 x8 ((Rect.unit (s := S16x512x128) ![13, 0, 0] S1x256x128.size inb_S16x512x128_S1x256x128_13_0_0).toLoadRect.idx j))
          (View.ld x9 (Rect.unit (s := S1x512x512) ![0, 0, 128] S1x256x128.size inb_S1x512x512_S1x256x128_0_0_128)))
        (tile (View.ld x3 (Rect.unit (s := S1x512x512) ![0, 0, 256] S1x256x128.size inb_S1x512x512_S1x256x128_0_0_256)) (View.ld x4 (Rect.unit (s := S1x512x512) ![0, 0, 256] S1x256x128.size inb_S1x512x512_S1x256x128_0_0_256))
          (fun j => stage x5 x6 x7 x8 ((Rect.unit (s := S16x512x128) ![2, 0, 0] S1x256x128.size inb_S16x512x128_S1x256x128_2_0_0).toLoadRect.idx j))
          (fun j => stage x5 x6 x7 x8 ((Rect.unit (s := S16x512x128) ![6, 0, 0] S1x256x128.size inb_S16x512x128_S1x256x128_6_0_0).toLoadRect.idx j))
          (fun j => stage x5 x6 x7 x8 ((Rect.unit (s := S16x512x128) ![10, 0, 0] S1x256x128.size inb_S16x512x128_S1x256x128_10_0_0).toLoadRect.idx j))
          (fun j => stage x5 x6 x7 x8 ((Rect.unit (s := S16x512x128) ![14, 0, 0] S1x256x128.size inb_S16x512x128_S1x256x128_14_0_0).toLoadRect.idx j))
          (View.ld x9 (Rect.unit (s := S1x512x512) ![0, 0, 256] S1x256x128.size inb_S1x512x512_S1x256x128_0_0_256)))
        (tile (View.ld x3 (Rect.unit (s := S1x512x512) ![0, 0, 384] S1x256x128.size inb_S1x512x512_S1x256x128_0_0_384)) (View.ld x4 (Rect.unit (s := S1x512x512) ![0, 0, 384] S1x256x128.size inb_S1x512x512_S1x256x128_0_0_384))
          (fun j => stage x5 x6 x7 x8 ((Rect.unit (s := S16x512x128) ![3, 0, 0] S1x256x128.size inb_S16x512x128_S1x256x128_3_0_0).toLoadRect.idx j))
          (fun j => stage x5 x6 x7 x8 ((Rect.unit (s := S16x512x128) ![7, 0, 0] S1x256x128.size inb_S16x512x128_S1x256x128_7_0_0).toLoadRect.idx j))
          (fun j => stage x5 x6 x7 x8 ((Rect.unit (s := S16x512x128) ![11, 0, 0] S1x256x128.size inb_S16x512x128_S1x256x128_11_0_0).toLoadRect.idx j))
          (fun j => stage x5 x6 x7 x8 ((Rect.unit (s := S16x512x128) ![15, 0, 0] S1x256x128.size inb_S16x512x128_S1x256x128_15_0_0).toLoadRect.idx j))
          (View.ld x9 (Rect.unit (s := S1x512x512) ![0, 0, 384] S1x256x128.size inb_S1x512x512_S1x256x128_0_0_384)))
        r e
        (fun e => (tile_at x3 x4 x5 x6 x7 x8 x9 0 0 0 0 4 8 12 rfl (by decide) rfl rfl rfl rfl (by decide) _ _ _ _ _ r e).trans (congrArg _ (Fin.ext (Nat.zero_add _))))
        (fun e => tile_at x3 x4 x5 x6 x7 x8 x9 0 1 128 1 5 9 13 rfl (by decide) rfl rfl rfl rfl (by decide) _ _ _ _ _ r e)
        (fun e => tile_at x3 x4 x5 x6 x7 x8 x9 0 2 256 2 6 10 14 rfl (by decide) rfl rfl rfl rfl (by decide) _ _ _ _ _ r e)
        (fun e => tile_at x3 x4 x5 x6 x7 x8 x9 0 3 384 3 7 11 15 rfl (by decide) rfl rfl rfl rfl (by decide) _ _ _ _ _ r e)

end Cert.Outproj

end
-- ==== Proof.Outproj.Math.lean ====
/- The arithmetic of the weighted average of three partial results: weights that are powers of two of real numbers,
   divided by their sum, are the softmax of those numbers times the logarithm of two. -/
module

public import proofs.«01_k».proof.Proof.Attn.Math
public import proofs.«01_k».proof.Proof.Outproj.Block

@[expose] public section

noncomputable section

namespace Cert.Outproj

open Idealize.ShloMosaic

/-- One term: the weight over its sum does not depend on the number subtracted in the exponents. -/
theorem term_eq (w t D : ℝ) (hD : D ≠ 0) (ht : t ≠ 0) (o : EReal) :
    ((D⁻¹ : ℝ) : EReal) * ((w : EReal) * o) = o * Ideal.div ((w * t : ℝ) : EReal) ((D * t : ℝ) : EReal) := by
  rw [Attn.div_coe _ _ (mul_ne_zero hD ht), ← EReal.coe_mul, ← mul_assoc, ← EReal.coe_mul, mul_comm]
  refine congrArg (fun x : ℝ => o * (x : EReal)) ?_
  field_simp

/-- The quotient of the weighted sum by the sum of the weights is the sum weighted by the softmax. -/
theorem quotient_eq (a b c M' : ℝ) (o p q : EReal) :
    Ideal.div (Ideal.exp2 ((a : EReal) - max (max (a : EReal) b) c) * o + Ideal.exp2 ((b : EReal) - max (max (a : EReal) b) c) * p
        + Ideal.exp2 ((c : EReal) - max (max (a : EReal) b) c) * q)
      (Ideal.exp2 ((a : EReal) - max (max (a : EReal) b) c) + Ideal.exp2 ((b : EReal) - max (max (a : EReal) b) c)
        + Ideal.exp2 ((c : EReal) - max (max (a : EReal) b) c))
    = o * Ideal.div (Ideal.exp (((a * Real.log 2 : ℝ) : EReal) - (M' : EReal)))
          (Ideal.exp (((a * Real.log 2 : ℝ) : EReal) - (M' : EReal)) + Ideal.exp (((b * Real.log 2 : ℝ) : EReal) - (M' : EReal))
            + Ideal.exp (((c * Real.log 2 : ℝ) : EReal) - (M' : EReal)))
      + p * Ideal.div (Ideal.exp (((b * Real.log 2 : ℝ) : EReal) - (M' : EReal)))
          (Ideal.exp (((a * Real.log 2 : ℝ) : EReal) - (M' : EReal)) + Ideal.exp (((b * Real.log 2 : ℝ) : EReal) - (M' : EReal))
            + Ideal.exp (((c * Real.log 2 : ℝ) : EReal) - (M' : EReal)))
      + q * Ideal.div (Ideal.exp (((c * Real.log 2 : ℝ) : EReal) - (M' : EReal)))
          (Ideal.exp (((a * Real.log 2 : ℝ) : EReal) - (M' : EReal)) + Ideal.exp (((b * Real.log 2 : ℝ) : EReal) - (M' : EReal))
            + Ideal.exp (((c * Real.log 2 : ℝ) : EReal) - (M' : EReal))) := by
  obtain ⟨M, hM⟩ : ∃ M : ℝ, max (max (a : EReal) b) c = (M : EReal) :=
    ⟨max (max a b) c, by rw [EReal.coe_strictMono.monotone.map_max, EReal.coe_strictMono.monotone.map_max]⟩
  rw [hM]
  simp only [Attn.exp2_sub, Attn.exp_sub]
  have key : ∀ r : ℝ, Real.exp (r * Real.log 2 - M') = (2 : ℝ) ^ (r - M) * Real.exp (M * Real.log 2 - M') := fun r => by
    rw [Real.rpow_def_of_pos (by norm_num), ← Real.exp_add]
    exact congrArg _ (by ring)
  have ht : Real.exp (M * Real.log 2 - M') ≠ 0 := (Real.exp_pos _).ne'
  rw [key a, key b, key c]
  generalize Real.exp (M * Real.log 2 - M') = t at ht
  have ha : 0 < (2 : ℝ) ^ (a - M) := Real.rpow_pos_of_pos (by norm_num) _
  have hb : 0 < (2 : ℝ) ^ (b - M) := Real.rpow_pos_of_pos (by norm_num) _
  have hc : 0 < (2 : ℝ) ^ (c - M) := Real.rpow_pos_of_pos (by norm_num) _
  generalize (2 : ℝ) ^ (a - M) = u at ha
  generalize (2 : ℝ) ^ (b - M) = v at hb
  generalize (2 : ℝ) ^ (c - M) = w at hc
  have hD : u + v + w ≠ 0 := by positivity
  have hi : (0 : EReal) ≤ (((u + v + w)⁻¹ : ℝ) : EReal) := EReal.coe_nonneg.mpr (by positivity)
  simp only [← EReal.coe_add, ← add_mul]
  rw [Attn.div_coe _ _ hD, mul_comm, EReal.left_distrib_of_nonneg_of_ne_top hi (EReal.coe_ne_top _),
    EReal.left_distrib_of_nonneg_of_ne_top hi (EReal.coe_ne_top _), term_eq u t _ hD ht, term_eq v t _ hD ht, term_eq w t _ hD ht]

/-- A sum over the 2048 rows of the weight, as sums over its three parts. -/
theorem sum_parts (f : Fin 2048 → EReal) :
    ∑ k : Fin 2048, f k = ∑ d : Fin 768, f ⟨d.val, by omega⟩ + ∑ d : Fin 768, f ⟨768 + d.val, by omega⟩
      + ∑ d : Fin 512, f ⟨1536 + d.val, by omega⟩ :=
  (Fin.sum_univ_add (a := 1536) (b := 512) f).trans
    (congrArg₂ (· + ·) (Fin.sum_univ_add (a := 768) (b := 768) fun i => f ⟨i.val, by omega⟩) rfl)

end Cert.Outproj

end
-- ==== Proof.Outproj.Value.lean ====
module

public import proofs.«01_k».proof.Proof.Outproj.Block
public import Idealize.ShloMosaic.Lib.Pointwise
public import Idealize.ShloMosaic.Lib.ValueIdx
public import Idealize.ShloMosaic.Lib.IdealHost
public import Idealize.ShloMosaic.Lib.Pipeline.ValueKit.Tiles

@[expose] public section

set_option maxRecDepth 16384

noncomputable section

namespace Cert.Outproj

open Idealize.ShloMosaic Idealize.ShloMosaic.TcCoe Idealize.SL.Sem Cert.Kernel3Ideal Cert.Kernel3Ideal.Gen
open Idealize.ShloMosaic.Pipeline (Dat)

/-! The output projection's result array, as one function of its arguments. -/

/-- The merged, gated output of mixer C at a token and a lane. -/
def mergedAt (o0 l0 : Vec Ideal S8x4096x512 .f32)
    (o1 l1 : Vec Ideal S8x4x1024x512 .f32) (o2 l2 : Vec Ideal S8x16x256x512 .f32) (p : Vec Ideal S8x4096x6656 .bf16) (n : Fin 8) (t : Fin 4096) (d : Fin 512) : EReal :=
  weigh (o0 (ix3 n t d)) (l0 (ix3 n t d))
    (o1 (ix4 n (⟨t.val % 4, by omega⟩ : Fin 4) (⟨t.val / 4, by omega⟩ : Fin 1024) d))
    (l1 (ix4 n (⟨t.val % 4, by omega⟩ : Fin 4) (⟨t.val / 4, by omega⟩ : Fin 1024) d))
    (o2 (ix4 n (⟨t.val % 16, by omega⟩ : Fin 16) (⟨t.val / 16, by omega⟩ : Fin 256) d))
    (l2 (ix4 n (⟨t.val % 16, by omega⟩ : Fin 16) (⟨t.val / 16, by omega⟩ : Fin 256) d))
    (p (ix3 n t (⟨6144 + d.val, by omega⟩ : Fin 6656)))

/-- One entry of the result. -/
def entry (x : Vec Ideal S8x4096x2048 .f32) (a b : Vec Ideal S8x4096x768 .bf16) (o0 l0 : Vec Ideal S8x4096x512 .f32)
    (o1 l1 : Vec Ideal S8x4x1024x512 .f32) (o2 l2 : Vec Ideal S8x16x256x512 .f32) (p : Vec Ideal S8x4096x6656 .bf16) (w : Vec Ideal S2048x2048 .bf16) (n : Fin 8) (t : Fin 4096) (e : Fin 2048) : EReal :=
  x (ix3 n t e)
    + (∑ d : Fin 768, a (ix3 n t d) * w (ix2 (⟨d.val, by omega⟩ : Fin 2048) e)
      + ∑ d : Fin 768, b (ix3 n t d) * w (ix2 (⟨768 + d.val, by omega⟩ : Fin 2048) e)
      + ∑ d : Fin 512, mergedAt o0 l0 o1 l1 o2 l2 p n t d * w (ix2 (⟨1536 + d.val, by omega⟩ : Fin 2048) e))

/-- The whole result. -/
def result (x : Vec Ideal S8x4096x2048 .f32) (a b : Vec Ideal S8x4096x768 .bf16) (o0 l0 : Vec Ideal S8x4096x512 .f32)
    (o1 l1 : Vec Ideal S8x4x1024x512 .f32) (o2 l2 : Vec Ideal S8x16x256x512 .f32) (p : Vec Ideal S8x4096x6656 .bf16) (w : Vec Ideal S2048x2048 .bf16) : Vec Ideal S8x4096x2048 .f32 :=
  fun i => entry x a b o0 l0 o1 l1 o2 l2 p w (i 0) (i 1) (i 2)

/-! ## The blocks -/

theorem index0 : ∀ t : Fin grid0.N, win0_0.index t = ![t.val / 8, t.val % 8, 0] := by decide +kernel
theorem index1 : ∀ t : Fin grid0.N, win0_1.index t = ![t.val / 8, t.val % 8, 0] := by decide +kernel
theorem index2 : ∀ t : Fin grid0.N, win0_2.index t = ![t.val / 8, t.val % 8, 0] := by decide +kernel
theorem index3 : ∀ t : Fin grid0.N, win0_3.index t = ![t.val / 8, t.val % 8, 0] := by decide +kernel
theorem index4 : ∀ t : Fin grid0.N, win0_4.index t = ![t.val / 8, t.val % 8, 0] := by decide +kernel
theorem index13 : ∀ t : Fin grid0.N, win0_13.index t = ![t.val / 8, t.val % 8, 0] := by decide +kernel
theorem index5 : ∀ t : Fin grid0.N, win0_5.index t = ![t.val / 8, 0, t.val % 8, 0] := by decide +kernel
theorem index6 : ∀ t : Fin grid0.N, win0_6.index t = ![t.val / 8, 0, t.val % 8, 0] := by decide +kernel
theorem index7 : ∀ t : Fin grid0.N, win0_7.index t = ![t.val / 8, 0, t.val % 8, 0] := by decide +kernel
theorem index8 : ∀ t : Fin grid0.N, win0_8.index t = ![t.val / 8, 0, t.val % 8, 0] := by decide +kernel
theorem index9 : ∀ t : Fin grid0.N, win0_9.index t = ![t.val / 8, t.val % 8, 12] := by decide +kernel
theorem index10 : ∀ t : Fin grid0.N, win0_10.index t = ![0, 0] := by decide +kernel
theorem index11 : ∀ t : Fin grid0.N, win0_11.index t = ![1, 0] := by decide +kernel
theorem index12 : ∀ t : Fin grid0.N, win0_12.index t = ![3, 0] := by decide +kernel

theorem lt_points (t : Fin cfg0.N) : t.val < 64 := lt_of_lt_of_eq t.isLt N_0

variable (m : (ℓ : Loc nD τ sig) → Buf (Elt Ideal) ℓ) (c : Dev nD)

/-- The arguments, at entry. -/
abbrev xArr : Vec Ideal S8x4096x2048 .f32 := m ((c.tc : Thread nD τ).loc main_arg0)
abbrev aArr : Vec Ideal S8x4096x768 .bf16 := m ((c.tc : Thread nD τ).loc main_arg1)
abbrev bArr : Vec Ideal S8x4096x768 .bf16 := m ((c.tc : Thread nD τ).loc main_arg2)
abbrev o0Arr : Vec Ideal S8x4096x512 .f32 := m ((c.tc : Thread nD τ).loc main_arg3)
abbrev l0Arr : Vec Ideal S8x4096x512 .f32 := m ((c.tc : Thread nD τ).loc main_arg4)
abbrev o1Arr : Vec Ideal S8x4x1024x512 .f32 := m ((c.tc : Thread nD τ).loc main_arg5)
abbrev l1Arr : Vec Ideal S8x4x1024x512 .f32 := m ((c.tc : Thread nD τ).loc main_arg6)
abbrev o2Arr : Vec Ideal S8x16x256x512 .f32 := m ((c.tc : Thread nD τ).loc main_arg7)
abbrev l2Arr : Vec Ideal S8x16x256x512 .f32 := m ((c.tc : Thread nD τ).loc main_arg8)
abbrev pArr : Vec Ideal S8x4096x6656 .bf16 := m ((c.tc : Thread nD τ).loc main_arg9)
abbrev wArr : Vec Ideal S2048x2048 .bf16 := m ((c.tc : Thread nD τ).loc main_arg10)

/-- The blocks that point `t` reads. -/
abbrev blk0 (t : Fin cfg0.N) : Vec Ideal S1x512x2048 .f32 := iblk m c 0 t
abbrev blk1 (t : Fin cfg0.N) : Vec Ideal S1x512x768 .bf16 := iblk m c 1 t
abbrev blk2 (t : Fin cfg0.N) : Vec Ideal S1x512x768 .bf16 := iblk m c 2 t
abbrev blk3 (t : Fin cfg0.N) : Vec Ideal S1x512x512 .f32 := iblk m c 3 t
abbrev blk4 (t : Fin cfg0.N) : Vec Ideal S1x512x512 .f32 := iblk m c 4 t
abbrev blk5 (t : Fin cfg0.N) : Vec Ideal S1x4x128x512 .f32 := iblk m c 5 t
abbrev blk6 (t : Fin cfg0.N) : Vec Ideal S1x4x128x512 .f32 := iblk m c 6 t
abbrev blk7 (t : Fin cfg0.N) : Vec Ideal S1x16x32x512 .f32 := iblk m c 7 t
abbrev blk8 (t : Fin cfg0.N) : Vec Ideal S1x16x32x512 .f32 := iblk m c 8 t
abbrev blk9 (t : Fin cfg0.N) : Vec Ideal S1x512x512 .bf16 := iblk m c 9 t
abbrev blk10 (t : Fin cfg0.N) : Vec Ideal S768x2048 .bf16 := X0_10 m c t
abbrev blk11 (t : Fin cfg0.N) : Vec Ideal S768x2048 .bf16 := X0_11 m c t
abbrev blk12 (t : Fin cfg0.N) : Vec Ideal S512x2048 .bf16 := iblk m c 12 t

/-- The batch of a point, and the token of the array that is token `r` at the point. -/
def batchAt (t : Fin cfg0.N) : Fin 8 := ⟨t.val / 8, by have := lt_points t; omega⟩
def tokenAt (t : Fin cfg0.N) (r : Fin 512) : Fin 4096 := ⟨512 * (t.val % 8) + r.val, by omega⟩

theorem block0 (t : Fin cfg0.N) (r : Fin 512) (d : Fin 2048) :
    blk0 m c t (ix3 0 r d) = xArr m c (ix3 (batchAt t) (tokenAt t r) d) := by
  have h := index0 t
  unfold blk0 iblk
  rw [View.read_apply]
  show V m c main_arg0 _ = _
  rw [V_main_arg0]
  refine congrArg (xArr m c) (funext fun a => Fin.ext ?_)
  match a with
  | ⟨0, _⟩ => show win0_0.index t 0 * 1 + 1 * 0 = t.val / 8; rw [h]; show t.val / 8 * 1 + 1 * 0 = _; omega
  | ⟨1, _⟩ => show win0_0.index t 1 * 512 + 1 * r.val = 512 * (t.val % 8) + r.val; rw [h]; show t.val % 8 * 512 + 1 * r.val = _; omega
  | ⟨2, _⟩ => show win0_0.index t 2 * 2048 + 1 * d.val = d.val; rw [h]; show 0 * 2048 + 1 * d.val = _; omega

theorem block1 (t : Fin cfg0.N) (r : Fin 512) (d : Fin 768) :
    blk1 m c t (ix3 0 r d) = aArr m c (ix3 (batchAt t) (tokenAt t r) d) := by
  have h := index1 t
  unfold blk1 iblk
  rw [View.read_apply]
  show V m c main_arg1 _ = _
  rw [V_main_arg1]
  refine congrArg (aArr m c) (funext fun a => Fin.ext ?_)
  match a with
  | ⟨0, _⟩ => show win0_1.index t 0 * 1 + 1 * 0 = t.val / 8; rw [h]; show t.val / 8 * 1 + 1 * 0 = _; omega
  | ⟨1, _⟩ => show win0_1.index t 1 * 512 + 1 * r.val = 512 * (t.val % 8) + r.val; rw [h]; show t.val % 8 * 512 + 1 * r.val = _; omega
  | ⟨2, _⟩ => show win0_1.index t 2 * 768 + 1 * d.val = d.val; rw [h]; show 0 * 768 + 1 * d.val = _; omega

theorem block2 (t : Fin cfg0.N) (r : Fin 512) (d : Fin 768) :
    blk2 m c t (ix3 0 r d) = bArr m c (ix3 (batchAt t) (tokenAt t r) d) := by
  have h := index2 t
  unfold blk2 iblk
  rw [View.read_apply]
  show V m c main_arg2 _ = _
  rw [V_main_arg2]
  refine congrArg (bArr m c) (funext fun a => Fin.ext ?_)
  match a with
  | ⟨0, _⟩ => show win0_2.index t 0 * 1 + 1 * 0 = t.val / 8; rw [h]; show t.val / 8 * 1 + 1 * 0 = _; omega
  | ⟨1, _⟩ => show win0_2.index t 1 * 512 + 1 * r.val = 512 * (t.val % 8) + r.val; rw [h]; show t.val % 8 * 512 + 1 * r.val = _; omega
  | ⟨2, _⟩ => show win0_2.index t 2 * 768 + 1 * d.val = d.val; rw [h]; show 0 * 768 + 1 * d.val = _; omega

theorem block3 (t : Fin cfg0.N) (r : Fin 512) (d : Fin 512) :
    blk3 m c t (ix3 0 r d) = o0Arr m c (ix3 (batchAt t) (tokenAt t r) d) := by
  have h := index3 t
  unfold blk3 iblk
  rw [View.read_apply]
  show V m c main_arg3 _ = _
  rw [V_main_arg3]
  refine congrArg (o0Arr m c) (funext fun a => Fin.ext ?_)
  match a with
  | ⟨0, _⟩ => show win0_3.index t 0 * 1 + 1 * 0 = t.val / 8; rw [h]; show t.val / 8 * 1 + 1 * 0 = _; omega
  | ⟨1, _⟩ => show win0_3.index t 1 * 512 + 1 * r.val = 512 * (t.val % 8) + r.val; rw [h]; show t.val % 8 * 512 + 1 * r.val = _; omega
  | ⟨2, _⟩ => show win0_3.index t 2 * 512 + 1 * d.val = d.val; rw [h]; show 0 * 512 + 1 * d.val = _; omega

theorem block4 (t : Fin cfg0.N) (r : Fin 512) (d : Fin 512) :
    blk4 m c t (ix3 0 r d) = l0Arr m c (ix3 (batchAt t) (tokenAt t r) d) := by
  have h := index4 t
  unfold blk4 iblk
  rw [View.read_apply]
  show V m c main_arg4 _ = _
  rw [V_main_arg4]
  refine congrArg (l0Arr m c) (funext fun a => Fin.ext ?_)
  match a with
  | ⟨0, _⟩ => show win0_4.index t 0 * 1 + 1 * 0 = t.val / 8; rw [h]; show t.val / 8 * 1 + 1 * 0 = _; omega
  | ⟨1, _⟩ => show win0_4.index t 1 * 512 + 1 * r.val = 512 * (t.val % 8) + r.val; rw [h]; show t.val % 8 * 512 + 1 * r.val = _; omega
  | ⟨2, _⟩ => show win0_4.index t 2 * 512 + 1 * d.val = d.val; rw [h]; show 0 * 512 + 1 * d.val = _; omega

theorem block9 (t : Fin cfg0.N) (r : Fin 512) (d : Fin 512) :
    blk9 m c t (ix3 0 r d) = pArr m c (ix3 (batchAt t) (tokenAt t r) (⟨6144 + d.val, by omega⟩ : Fin 6656)) := by
  have h := index9 t
  unfold blk9 iblk
  rw [View.read_apply]
  show V m c main_arg9 _ = _
  rw [V_main_arg9]
  refine congrArg (pArr m c) (funext fun a => Fin.ext ?_)
  match a with
  | ⟨0, _⟩ => show win0_9.index t 0 * 1 + 1 * 0 = t.val / 8; rw [h]; show t.val / 8 * 1 + 1 * 0 = _; omega
  | ⟨1, _⟩ => show win0_9.index t 1 * 512 + 1 * r.val = 512 * (t.val % 8) + r.val; rw [h]; show t.val % 8 * 512 + 1 * r.val = _; omega
  | ⟨2, _⟩ => show win0_9.index t 2 * 512 + 1 * d.val = 6144 + d.val; rw [h]; show 12 * 512 + 1 * d.val = _; omega

theorem block5 (t : Fin cfg0.N) (r d : Fin 512) :
    four (blk5 m c t) r d = o1Arr m c (ix4 (batchAt t) (⟨(tokenAt t r).val % 4, by omega⟩ : Fin 4) (⟨(tokenAt t r).val / 4, by omega⟩ : Fin 1024) d) := by
  have h := index5 t
  have hr : (tokenAt t r).val = 512 * (t.val % 8) + r.val := rfl
  unfold four blk5 iblk
  rw [View.read_apply]
  show V m c main_arg5 _ = _
  rw [V_main_arg5]
  refine congrArg (o1Arr m c) (funext fun a => Fin.ext ?_)
  match a with
  | ⟨0, _⟩ => show win0_5.index t 0 * 1 + 1 * 0 = t.val / 8; rw [h]; show t.val / 8 * 1 + 1 * 0 = _; omega
  | ⟨1, _⟩ => show win0_5.index t 1 * 4 + 1 * (r.val % 4) = (tokenAt t r).val % 4; rw [h]; show 0 * 4 + 1 * (r.val % 4) = _; omega
  | ⟨2, _⟩ => show win0_5.index t 2 * 128 + 1 * (r.val / 4) = (tokenAt t r).val / 4; rw [h]; show t.val % 8 * 128 + 1 * (r.val / 4) = _; omega
  | ⟨3, _⟩ => show win0_5.index t 3 * 512 + 1 * d.val = d.val; rw [h]; show 0 * 512 + 1 * d.val = _; omega

theorem block6 (t : Fin cfg0.N) (r d : Fin 512) :
    four (blk6 m c t) r d = l1Arr m c (ix4 (batchAt t) (⟨(tokenAt t r).val % 4, by omega⟩ : Fin 4) (⟨(tokenAt t r).val / 4, by omega⟩ : Fin 1024) d) := by
  have h := index6 t
  have hr : (tokenAt t r).val = 512 * (t.val % 8) + r.val := rfl
  unfold four blk6 iblk
  rw [View.read_apply]
  show V m c main_arg6 _ = _
  rw [V_main_arg6]
  refine congrArg (l1Arr m c) (funext fun a => Fin.ext ?_)
  match a with
  | ⟨0, _⟩ => show win0_6.index t 0 * 1 + 1 * 0 = t.val / 8; rw [h]; show t.val / 8 * 1 + 1 * 0 = _; omega
  | ⟨1, _⟩ => show win0_6.index t 1 * 4 + 1 * (r.val % 4) = (tokenAt t r).val % 4; rw [h]; show 0 * 4 + 1 * (r.val % 4) = _; omega
  | ⟨2, _⟩ => show win0_6.index t 2 * 128 + 1 * (r.val / 4) = (tokenAt t r).val / 4; rw [h]; show t.val % 8 * 128 + 1 * (r.val / 4) = _; omega
  | ⟨3, _⟩ => show win0_6.index t 3 * 512 + 1 * d.val = d.val; rw [h]; show 0 * 512 + 1 * d.val = _; omega

theorem block7 (t : Fin cfg0.N) (r d : Fin 512) :
    sixteen (blk7 m c t) r d = o2Arr m c (ix4 (batchAt t) (⟨(tokenAt t r).val % 16, by omega⟩ : Fin 16) (⟨(tokenAt t r).val / 16, by omega⟩ : Fin 256) d) := by
  have h := index7 t
  have hr : (tokenAt t r).val = 512 * (t.val % 8) + r.val := rfl
  unfold sixteen blk7 iblk
  rw [View.read_apply]
  show V m c main_arg7 _ = _
  rw [V_main_arg7]
  refine congrArg (o2Arr m c) (funext fun a => Fin.ext ?_)
  match a with
  | ⟨0, _⟩ => show win0_7.index t 0 * 1 + 1 * 0 = t.val / 8; rw [h]; show t.val / 8 * 1 + 1 * 0 = _; omega
  | ⟨1, _⟩ => show win0_7.index t 1 * 16 + 1 * (r.val % 16) = (tokenAt t r).val % 16; rw [h]; show 0 * 16 + 1 * (r.val % 16) = _; omega
  | ⟨2, _⟩ => show win0_7.index t 2 * 32 + 1 * (r.val / 16) = (tokenAt t r).val / 16; rw [h]; show t.val % 8 * 32 + 1 * (r.val / 16) = _; omega
  | ⟨3, _⟩ => show win0_7.index t 3 * 512 + 1 * d.val = d.val; rw [h]; show 0 * 512 + 1 * d.val = _; omega

theorem block8 (t : Fin cfg0.N) (r d : Fin 512) :
    sixteen (blk8 m c t) r d = l2Arr m c (ix4 (batchAt t) (⟨(tokenAt t r).val % 16, by omega⟩ : Fin 16) (⟨(tokenAt t r).val / 16, by omega⟩ : Fin 256) d) := by
  have h := index8 t
  have hr : (tokenAt t r).val = 512 * (t.val % 8) + r.val := rfl
  unfold sixteen blk8 iblk
  rw [View.read_apply]
  show V m c main_arg8 _ = _
  rw [V_main_arg8]
  refine congrArg (l2Arr m c) (funext fun a => Fin.ext ?_)
  match a with
  | ⟨0, _⟩ => show win0_8.index t 0 * 1 + 1 * 0 = t.val / 8; rw [h]; show t.val / 8 * 1 + 1 * 0 = _; omega
  | ⟨1, _⟩ => show win0_8.index t 1 * 16 + 1 * (r.val % 16) = (tokenAt t r).val % 16; rw [h]; show 0 * 16 + 1 * (r.val % 16) = _; omega
  | ⟨2, _⟩ => show win0_8.index t 2 * 32 + 1 * (r.val / 16) = (tokenAt t r).val / 16; rw [h]; show t.val % 8 * 32 + 1 * (r.val / 16) = _; omega
  | ⟨3, _⟩ => show win0_8.index t 3 * 512 + 1 * d.val = d.val; rw [h]; show 0 * 512 + 1 * d.val = _; omega

theorem block10 (t : Fin cfg0.N) (d : Fin 768) (e : Fin 2048) :
    blk10 m c t (ix2 d e) = wArr m c (ix2 (⟨d.val, by omega⟩ : Fin 2048) e) := by
  have h := index10 t
  unfold blk10 X0_10 Pipeline.Window.fill
  rw [dif_pos (moved0_10 t _)]
  unfold iblk
  rw [View.read_apply]
  show V m c main_arg10 _ = _
  rw [V_main_arg10]
  refine congrArg (wArr m c) (funext fun a => Fin.ext ?_)
  match a with
  | ⟨0, _⟩ => show win0_10.index t 0 * 768 + 1 * d.val = d.val; rw [h]; show 0 * 768 + 1 * d.val = _; omega
  | ⟨1, _⟩ => show win0_10.index t 1 * 2048 + 1 * e.val = e.val; rw [h]; show 0 * 2048 + 1 * e.val = _; omega

theorem block11 (t : Fin cfg0.N) (d : Fin 768) (e : Fin 2048) :
    blk11 m c t (ix2 d e) = wArr m c (ix2 (⟨768 + d.val, by omega⟩ : Fin 2048) e) := by
  have h := index11 t
  unfold blk11 X0_11 Pipeline.Window.fill
  rw [dif_pos (moved0_11 t _)]
  unfold iblk
  rw [View.read_apply]
  show V m c main_arg10 _ = _
  rw [V_main_arg10]
  refine congrArg (wArr m c) (funext fun a => Fin.ext ?_)
  match a with
  | ⟨0, _⟩ => show win0_11.index t 0 * 768 + 1 * d.val = 768 + d.val; rw [h]; show 1 * 768 + 1 * d.val = _; omega
  | ⟨1, _⟩ => show win0_11.index t 1 * 2048 + 1 * e.val = e.val; rw [h]; show 0 * 2048 + 1 * e.val = _; omega

theorem block12 (t : Fin cfg0.N) (d : Fin 512) (e : Fin 2048) :
    blk12 m c t (ix2 d e) = wArr m c (ix2 (⟨1536 + d.val, by omega⟩ : Fin 2048) e) := by
  have h := index12 t
  unfold blk12 iblk
  rw [View.read_apply]
  show V m c main_arg10 _ = _
  rw [V_main_arg10]
  refine congrArg (wArr m c) (funext fun a => Fin.ext ?_)
  match a with
  | ⟨0, _⟩ => show win0_12.index t 0 * 512 + 1 * d.val = 1536 + d.val; rw [h]; show 3 * 512 + 1 * d.val = _; omega
  | ⟨1, _⟩ => show win0_12.index t 1 * 2048 + 1 * e.val = e.val; rw [h]; show 0 * 2048 + 1 * e.val = _; omega

/-- What point `t` stores, at token `r` and feature `e`. -/
theorem block_out (t : Fin cfg0.N) (r : Fin 512) (e : Fin 2048) :
    blockOut (blk0 m c t) (blk1 m c t) (blk2 m c t) (blk3 m c t) (blk4 m c t) (blk5 m c t) (blk6 m c t) (blk7 m c t) (blk8 m c t) (blk9 m c t) (blk10 m c t) (blk11 m c t) (blk12 m c t) r e
      = entry (xArr m c) (aArr m c) (bArr m c) (o0Arr m c) (l0Arr m c) (o1Arr m c) (l1Arr m c) (o2Arr m c) (l2Arr m c) (pArr m c) (wArr m c) (batchAt t) (tokenAt t r) e := by
  unfold blockOut merged entry mergedAt
  simp only [block0, block1, block2, block3, block4, block5, block6, block7, block8, block9, block10, block11, block12]

theorem flushed_eq (t : Fin cfg0.N) :
    (dats m 0 c).flushed 13 t = ((cfg0.win 13).blk t).view.read (Elt Ideal) (result (xArr m c) (aArr m c) (bArr m c) (o0Arr m c) (l0Arr m c) (o1Arr m c) (l1Arr m c) (o2Arr m c) (l2Arr m c) (pArr m c) (wArr m c)) := by
  rw [Cert.Kernel3Ideal.Value.flushed13_A]
  have h := index13 t
  funext y
  obtain ⟨r, e, rfl⟩ : ∃ (r : Fin 512) (e : Fin 2048), y = (ix3 (0 : Fin 1) r e : S1x512x2048.Idx) :=
    ⟨y 1, y 2, funext fun a => match a with
      | ⟨0, _⟩ => Subsingleton.elim (α := Fin 1) _ _
      | ⟨1, _⟩ => rfl
      | ⟨2, _⟩ => rfl⟩
  have hout := congrFun (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (blk0 m c t) (blk1 m c t) (blk2 m c t) (blk3 m c t) (blk4 m c t) (blk5 m c t) (blk6 m c t) (blk7 m c t) (blk8 m c t) (blk9 m c t) (blk10 m c t) (blk11 m c t) (blk12 m c t)) (ix3 (0 : Fin 1) r e)
  refine (hout.trans (block_out m c t r e)).trans ?_
  rw [View.read_apply]
  show result (xArr m c) (aArr m c) (bArr m c) (o0Arr m c) (l0Arr m c) (o1Arr m c) (l1Arr m c) (o2Arr m c) (l2Arr m c) (pArr m c) (wArr m c) (ix3 (batchAt t) (tokenAt t r) e) = result (xArr m c) (aArr m c) (bArr m c) (o0Arr m c) (l0Arr m c) (o1Arr m c) (l1Arr m c) (o2Arr m c) (l2Arr m c) (pArr m c) (wArr m c) _
  refine congrArg (result (xArr m c) (aArr m c) (bArr m c) (o0Arr m c) (l0Arr m c) (o1Arr m c) (l1Arr m c) (o2Arr m c) (l2Arr m c) (pArr m c) (wArr m c)) (funext fun a => Fin.ext ?_)
  match a with
  | ⟨0, _⟩ => show t.val / 8 = win0_13.index t 0 * 1 + 1 * 0; rw [h]; show _ = t.val / 8 * 1 + 1 * 0; omega
  | ⟨1, _⟩ => show 512 * (t.val % 8) + r.val = win0_13.index t 1 * 512 + 1 * r.val; rw [h]; show _ = t.val % 8 * 512 + 1 * r.val; omega
  | ⟨2, _⟩ => show e.val = win0_13.index t 2 * 2048 + 1 * e.val; rw [h]; show _ = 0 * 2048 + 1 * e.val; omega

/-- The point whose block holds an index. -/
def pointOf (i : S8x4096x2048.Idx) : Fin cfg0.N :=
  ⟨8 * (i 0).val + (i 1).val / 512, by
    have h0 : (i 0).val < 8 := (i 0).isLt
    have h1 : (i 1).val < 4096 := (i 1).isLt
    rw [show cfg0.N = 64 from N_0]; omega⟩

theorem covered (i : S8x4096x2048.Idx) : ∃ t : Fin cfg0.N, (cfg0.win 13).flush t = true ∧ i ∈ ((cfg0.win 13).blk t).view.set := by
  refine ⟨pointOf i, flush0_13 _, ?_⟩
  have h := index13 (pointOf i)
  have h0 : (i 0).val < 8 := (i 0).isLt
  have h1 : (i 1).val < 4096 := (i 1).isLt
  have h2 : (i 2).val < 2048 := (i 2).isLt
  have e : (pointOf i).val = 8 * (i 0).val + (i 1).val / 512 := rfl
  show i ∈ ((View.whole main_v0).slice (win0_13.rect (pointOf i))).set
  rw [View.set_slice_whole, Rect.mem_set_unit]
  intro a
  match a with
  | ⟨0, _⟩ =>
    show win0_13.index (pointOf i) 0 * 1 ≤ (i 0).val ∧ (i 0).val < win0_13.index (pointOf i) 0 * 1 + 1
    rw [h]
    show (pointOf i).val / 8 * 1 ≤ (i 0).val ∧ (i 0).val < (pointOf i).val / 8 * 1 + 1
    omega
  | ⟨1, _⟩ =>
    show win0_13.index (pointOf i) 1 * 512 ≤ (i 1).val ∧ (i 1).val < win0_13.index (pointOf i) 1 * 512 + 512
    rw [h]
    show (pointOf i).val % 8 * 512 ≤ (i 1).val ∧ (i 1).val < (pointOf i).val % 8 * 512 + 512
    omega
  | ⟨2, _⟩ =>
    show win0_13.index (pointOf i) 2 * 2048 ≤ (i 2).val ∧ (i 2).val < win0_13.index (pointOf i) 2 * 2048 + 2048
    rw [h]
    show 0 * 2048 ≤ (i 2).val ∧ (i 2).val < 0 * 2048 + 2048
    omega

/-- The result array after the run. -/
theorem array_eq : (dats m 0 c).arrAt 13 cfg0.N = result (xArr m c) (aArr m c) (bArr m c) (o0Arr m c) (l0Arr m c) (o1Arr m c) (l1Arr m c) (o2Arr m c) (l2Arr m c) (pArr m c) (wArr m c) :=
  (dats m 0 c).arrAt_eq_of_cover 13 _ (fun t _ => flushed_eq m c t) covered

end Cert.Outproj

end
-- ==== Proof.Outproj.RefValue.lean ====
/- The result of the output projection's reference, entry by entry. -/
module

public import proofs.«01_k».proof.Proof.Gen.Reference3Ideal.Read
public import proofs.«01_k».proof.Proof.Attn.RefValue
public import proofs.«01_k».proof.Proof.Outproj.Math
public import proofs.«01_k».proof.Proof.Outproj.Value
public import Idealize.ShloMosaic.Lib.Pointwise
public import Idealize.ShloMosaic.Lib.IdealHost

@[expose] public section

set_option maxRecDepth 16384

noncomputable section

namespace Cert.Outproj

open Idealize.ShloMosaic Cert.Reference3Ideal Cert.Reference3Ideal.Read

variable (o0 l0 : Vec Ideal S8x4096x512 .f32) (o1 l1 : Vec Ideal S8x4x1024x512 .f32) (o2 l2 : Vec Ideal S8x16x256x512 .f32)
  (p : Vec Ideal S8x4096x6656 .bf16)

/-! ## The stacked partial results -/

/-- The second group's array, laid out by token. -/
theorem spread_four (y : Vec Ideal S8x4x1024x512 .f32) (n : Fin 8) (t : Fin 4096) (d : Fin 512) :
    y (idx_main_v0 (idx_main_v1 (ix3 n t d)))
      = y (ix4 n (⟨t.val % 4, by omega⟩ : Fin 4) (⟨t.val / 4, by omega⟩ : Fin 1024) d) := by
  refine congrArg y (funext fun a => Fin.ext ?_)
  match a with
  | ⟨0, _⟩ => show ((n.val * 4096 + t.val) * 512 + d.val) / 2097152 = n.val; omega
  | ⟨1, _⟩ => show ((n.val * 4096 + t.val) * 512 + d.val) / 512 % 4 = t.val % 4; omega
  | ⟨2, _⟩ => show ((n.val * 4096 + t.val) * 512 + d.val) / 2048 % 1024 = t.val / 4; omega
  | ⟨3, _⟩ => show ((n.val * 4096 + t.val) * 512 + d.val) % 512 = d.val; omega

/-- The third group's array, laid out by token. -/
theorem spread_sixteen (y : Vec Ideal S8x16x256x512 .f32) (n : Fin 8) (t : Fin 4096) (d : Fin 512) :
    y (idx_main_v2 (idx_main_v3 (ix3 n t d)))
      = y (ix4 n (⟨t.val % 16, by omega⟩ : Fin 16) (⟨t.val / 16, by omega⟩ : Fin 256) d) := by
  refine congrArg y (funext fun a => Fin.ext ?_)
  match a with
  | ⟨0, _⟩ => show ((n.val * 4096 + t.val) * 512 + d.val) / 2097152 = n.val; omega
  | ⟨1, _⟩ => show ((n.val * 4096 + t.val) * 512 + d.val) / 512 % 16 = t.val % 16; omega
  | ⟨2, _⟩ => show ((n.val * 4096 + t.val) * 512 + d.val) / 8192 % 256 = t.val / 16; omega
  | ⟨3, _⟩ => show ((n.val * 4096 + t.val) * 512 + d.val) % 512 = d.val; omega

/-- The index of an array with a leading axis of one. -/
theorem lead (n : Fin 8) (t : Fin 4096) (d : Fin 512) : idx_main_v4 (ix4 (0 : Fin 1) n t d) = ix3 n t d := by
  funext a
  match a with
  | ⟨0, _⟩ => rfl
  | ⟨1, _⟩ => rfl
  | ⟨2, _⟩ => rfl

theorem outputs0 (n : Fin 8) (t : Fin 4096) (d : Fin 512) :
    val_main_v7 (F := Ideal) o0 o1 o2 (ix4 (0 : Fin 3) n t d) = o0 (ix3 n t d) := by
  refine Eq.trans (b := val_main_v4 (F := Ideal) o0 (ix4 (0 : Fin 1) n t d)) ?_ ?_
  · unfold val_main_v7
    generalize val_main_v4 (F := Ideal) o0 = y0
    generalize val_main_v5 (F := Ideal) o1 = y1
    generalize val_main_v6 (F := Ideal) o2 = y2
    pointwise
  · rw [val_main_v4_apply, lead]

theorem outputs1 (n : Fin 8) (t : Fin 4096) (d : Fin 512) :
    val_main_v7 (F := Ideal) o0 o1 o2 (ix4 (1 : Fin 3) n t d)
      = o1 (ix4 n (⟨t.val % 4, by omega⟩ : Fin 4) (⟨t.val / 4, by omega⟩ : Fin 1024) d) := by
  refine Eq.trans (b := val_main_v5 (F := Ideal) o1 (ix4 (0 : Fin 1) n t d)) ?_ ?_
  · unfold val_main_v7
    generalize val_main_v4 (F := Ideal) o0 = y0
    generalize val_main_v5 (F := Ideal) o1 = y1
    generalize val_main_v6 (F := Ideal) o2 = y2
    pointwise
  · rw [val_main_v5_apply, val_main_v1_apply, val_main_v0_apply]
    exact (congrArg (fun i => o1 (idx_main_v0 (idx_main_v1 i))) (lead n t d)).trans (spread_four o1 n t d)

theorem outputs2 (n : Fin 8) (t : Fin 4096) (d : Fin 512) :
    val_main_v7 (F := Ideal) o0 o1 o2 (ix4 (2 : Fin 3) n t d)
      = o2 (ix4 n (⟨t.val % 16, by omega⟩ : Fin 16) (⟨t.val / 16, by omega⟩ : Fin 256) d) := by
  refine Eq.trans (b := val_main_v6 (F := Ideal) o2 (ix4 (0 : Fin 1) n t d)) ?_ ?_
  · unfold val_main_v7
    generalize val_main_v4 (F := Ideal) o0 = y0
    generalize val_main_v5 (F := Ideal) o1 = y1
    generalize val_main_v6 (F := Ideal) o2 = y2
    pointwise
  · rw [val_main_v6_apply, val_main_v3_apply, val_main_v2_apply]
    exact (congrArg (fun i => o2 (idx_main_v2 (idx_main_v3 i))) (lead n t d)).trans (spread_sixteen o2 n t d)

/-- The stacked logarithms are stacked as the outputs are. -/
theorem logs_eq : val_main_v15 (F := Ideal) l0 l1 l2 = val_main_v7 (F := Ideal) l0 l1 l2 := rfl

/-! ## The softmax over the three groups -/

/-- The three logarithms at a token and a lane, times the logarithm of two. -/
def scaled (n : Fin 8) (t : Fin 4096) (d : Fin 512) (k : Fin 3) : EReal :=
  val_main_v7 (F := Ideal) l0 l1 l2 (ix4 k n t d) * ((Real.log 2 : ℝ) : EReal)

theorem ref_scaled (n : Fin 8) (t : Fin 4096) (d : Fin 512) (k : Fin 3) :
    val_main_v18 (F := Ideal) l0 l1 l2 (ix4 k n t d) = scaled l0 l1 l2 n t d k := by
  rw [val_main_v18_apply, logs_eq, val_main_v17_apply, val_main_v16_apply, val_main_cst_apply, Attn.log_two]
  rfl

theorem ref_max (n : Fin 8) (t : Fin 4096) (d : Fin 512) :
    val_main_v19 (F := Ideal) l0 l1 l2 (ix3 n t d)
      = Finset.univ.fold max ⊥ fun k : Fin 3 => val_main_v18 (F := Ideal) l0 l1 l2 (ix4 k n t d) := by
  unfold val_main_v19
  generalize val_main_v18 (F := Ideal) l0 l1 l2 = y
  unfold val_main_cst_0
  pointwise
  have hb : Ideal.ofBits .f32 4286578688#32 = (⊥ : EReal) := by simp [Ideal.ofBits, Ideal.ieee]
  rw [hb]

/-- The maximum the reference's softmax subtracts. -/
def refMax (n : Fin 8) (t : Fin 4096) (d : Fin 512) : EReal :=
  max ⊥ (Finset.univ.fold max ⊥ fun k : Fin 3 => scaled l0 l1 l2 n t d k)

theorem ref_exp (n : Fin 8) (t : Fin 4096) (d : Fin 512) (k : Fin 3) :
    val_main_v25 (F := Ideal) l0 l1 l2 (ix4 k n t d) = Ideal.exp (scaled l0 l1 l2 n t d k - refMax l0 l1 l2 n t d) := by
  rw [val_main_v25_apply, val_main_v24_apply, val_main_v23_apply, val_main_v22_apply, val_main_v21_apply, val_main_v20_apply,
    val_main_cst_1_apply, ref_scaled]
  have hi : idx_main_v22 (idx_main_v23 (ix4 k n t d)) = ix3 n t d := by
    funext a
    match a with
    | ⟨0, _⟩ => rfl
    | ⟨1, _⟩ => rfl
    | ⟨2, _⟩ => rfl
  have hb : (FloatOps.ofBits .f32 0xFF800000#32 : Ideal .f32) = (⊥ : EReal) := by
    show Ideal.ofBits .f32 0xFF800000#32 = _
    simp [Ideal.ofBits, Ideal.ieee]
  rw [hi, ref_max, hb]
  simp only [ref_scaled]
  rfl

theorem ref_weight (n : Fin 8) (t : Fin 4096) (d : Fin 512) (k : Fin 3) :
    val_main_v29 (F := Ideal) l0 l1 l2 (ix4 k n t d)
      = Ideal.div (Ideal.exp (scaled l0 l1 l2 n t d k - refMax l0 l1 l2 n t d))
          (∑ k' : Fin 3, Ideal.exp (scaled l0 l1 l2 n t d k' - refMax l0 l1 l2 n t d)) := by
  rw [val_main_v29_apply, val_main_v28_apply, val_main_v27_apply, val_main_v26_apply, val_main_cst_2_apply, ref_exp]
  have hz : (FloatOps.ofBits .f32 0x00000000#32 : Ideal .f32) = (0 : EReal) := Ideal.ofBits_zero_f32
  rw [hz, zero_add]
  refine congrArg (Ideal.div _) (Finset.sum_congr rfl fun k' _ => ?_)
  refine (congrArg (val_main_v25 (F := Ideal) l0 l1 l2) ?_).trans (ref_exp l0 l1 l2 n t d k')
  funext a
  match a with
  | ⟨0, _⟩ => rfl
  | ⟨1, _⟩ => rfl
  | ⟨2, _⟩ => rfl
  | ⟨3, _⟩ => rfl

theorem ref_average (n : Fin 8) (t : Fin 4096) (d : Fin 512) :
    val_main_v31 (F := Ideal) o0 l0 o1 l1 o2 l2 (ix3 n t d)
      = ∑ k : Fin 3, val_main_v7 (F := Ideal) o0 o1 o2 (ix4 k n t d)
          * Ideal.div (Ideal.exp (scaled l0 l1 l2 n t d k - refMax l0 l1 l2 n t d))
            (∑ k' : Fin 3, Ideal.exp (scaled l0 l1 l2 n t d k' - refMax l0 l1 l2 n t d)) := by
  rw [val_main_v31_apply, val_main_cst_3_apply]
  have hz : (FloatOps.ofBits .f32 0x00000000#32 : Ideal .f32) = (0 : EReal) := Ideal.ofBits_zero_f32
  rw [hz, zero_add]
  refine Finset.sum_congr rfl fun k _ => ?_
  have hi : idx_main_v31 (ix3 n t d) k = ix4 k n t d := by
    funext a
    match a with
    | ⟨0, _⟩ => rfl
    | ⟨1, _⟩ => rfl
    | ⟨2, _⟩ => rfl
    | ⟨3, _⟩ => rfl
  rw [hi, val_main_v30_apply, ref_weight]
  rfl

theorem ref_gate (n : Fin 8) (t : Fin 4096) (d : Fin 512) :
    val_main_v34 (F := Ideal) p (ix3 n t d)
      = p (ix3 n t (⟨6144 + d.val, by omega⟩ : Fin 6656)) * Ideal.logistic (p (ix3 n t (⟨6144 + d.val, by omega⟩ : Fin 6656))) := by
  rw [val_main_v34_apply, val_main_call0_v5_apply, val_main_call0_v4_apply, val_main_call0_cst_0_apply,
    val_main_call0_v3_apply, val_main_call0_v2_apply, val_main_call0_cst_apply, val_main_call0_v1_apply,
    val_main_call0_v0_apply, val_main_v33_apply, val_main_v32_apply]
  have ho : (FloatOps.ofBits .f32 0x3F800000#32 : Ideal .f32) = (1 : EReal) := Ideal.ofBits_one_f32
  have hi : idx_main_v32 (ix3 n t d) = ix3 n t (⟨6144 + d.val, by omega⟩ : Fin 6656) := by
    funext a
    match a with
    | ⟨0, _⟩ => rfl
    | ⟨1, _⟩ => rfl
    | ⟨2, _⟩ => rfl
  rw [ho, hi]
  rfl

/-- With finite logarithms the reference's gated average is the kernel's. -/
theorem ref_merged (n : Fin 8) (t : Fin 4096) (d : Fin 512) (h0 : ∀ i, ∃ r : ℝ, l0 i = (r : EReal))
    (h1 : ∀ i, ∃ r : ℝ, l1 i = (r : EReal)) (h2 : ∀ i, ∃ r : ℝ, l2 i = (r : EReal)) :
    val_main_v35 (F := Ideal) o0 l0 o1 l1 o2 l2 p (ix3 n t d) = mergedAt o0 l0 o1 l1 o2 l2 p n t d := by
  rw [val_main_v35_apply, ref_average, ref_gate]
  obtain ⟨a, ha⟩ := h0 (ix3 n t d)
  obtain ⟨b, hb⟩ := h1 (ix4 n (⟨t.val % 4, by omega⟩ : Fin 4) (⟨t.val / 4, by omega⟩ : Fin 1024) d)
  obtain ⟨c, hc⟩ := h2 (ix4 n (⟨t.val % 16, by omega⟩ : Fin 16) (⟨t.val / 16, by omega⟩ : Fin 256) d)
  have s0 : scaled l0 l1 l2 n t d 0 = ((a * Real.log 2 : ℝ) : EReal) := by
    unfold scaled; rw [outputs0, ha, ← EReal.coe_mul]
  have s1 : scaled l0 l1 l2 n t d 1 = ((b * Real.log 2 : ℝ) : EReal) := by
    unfold scaled; rw [outputs1, hb, ← EReal.coe_mul]
  have s2 : scaled l0 l1 l2 n t d 2 = ((c * Real.log 2 : ℝ) : EReal) := by
    unfold scaled; rw [outputs2, hc, ← EReal.coe_mul]
  obtain ⟨M, hM⟩ : ∃ M : ℝ, refMax l0 l1 l2 n t d = (M : EReal) := by
    have hs : ∀ k, ∃ r : ℝ, scaled l0 l1 l2 n t d k = (r : EReal) := fun k =>
      match k with
      | ⟨0, _⟩ => ⟨_, s0⟩
      | ⟨1, _⟩ => ⟨_, s1⟩
      | ⟨2, _⟩ => ⟨_, s2⟩
    choose r hr using hs
    obtain ⟨M, h⟩ := Attn.fold_max_real Finset.univ ⟨(0 : Fin 3), Finset.mem_univ _⟩ r
    refine ⟨M, ?_⟩
    unfold refMax
    simp only [hr]
    rw [h]
    exact max_eq_right bot_le
  simp only [Fin.sum_univ_three, hM]
  rw [outputs0, outputs1, outputs2, s0, s1, s2]
  unfold mergedAt weigh
  rw [ha, hb, hc, quotient_eq a b c M]
  rfl

/-! ## The projection -/

section
variable (a b : Vec Ideal S8x4096x768 .bf16)

theorem mix_first (n : Fin 8) (t : Fin 4096) (d : Fin 768) :
    val_main_v38 (F := Ideal) a b o0 l0 o1 l1 o2 l2 p (ix3 n t (⟨d.val, by omega⟩ : Fin 2048)) = a (ix3 n t d) := by
  refine Eq.trans (b := val_main_v36 (F := Ideal) a (ix3 n t d)) ?_ rfl
  unfold val_main_v38
  generalize val_main_v36 (F := Ideal) a = y0
  generalize val_main_v37 (F := Ideal) b = y1
  generalize val_main_v35 (F := Ideal) o0 l0 o1 l1 o2 l2 p = y2
  pointwise

theorem mix_second (n : Fin 8) (t : Fin 4096) (d : Fin 768) :
    val_main_v38 (F := Ideal) a b o0 l0 o1 l1 o2 l2 p (ix3 n t (⟨768 + d.val, by omega⟩ : Fin 2048)) = b (ix3 n t d) := by
  refine Eq.trans (b := val_main_v37 (F := Ideal) b (ix3 n t d)) ?_ rfl
  unfold val_main_v38
  generalize val_main_v36 (F := Ideal) a = y0
  generalize val_main_v37 (F := Ideal) b = y1
  generalize val_main_v35 (F := Ideal) o0 l0 o1 l1 o2 l2 p = y2
  pointwise

theorem mix_third (n : Fin 8) (t : Fin 4096) (d : Fin 512) :
    val_main_v38 (F := Ideal) a b o0 l0 o1 l1 o2 l2 p (ix3 n t (⟨1536 + d.val, by omega⟩ : Fin 2048))
      = val_main_v35 (F := Ideal) o0 l0 o1 l1 o2 l2 p (ix3 n t d) := by
  unfold val_main_v38
  generalize val_main_v36 (F := Ideal) a = y0
  generalize val_main_v37 (F := Ideal) b = y1
  generalize val_main_v35 (F := Ideal) o0 l0 o1 l1 o2 l2 p = y2
  pointwise
  have := d.isLt
  split_ifs
  all_goals first | (exfalso; omega) | exact congrArg (fun x => y2 (ix3 n t x)) (Fin.ext (by show 1536 + d.val - 768 - 768 = d.val; omega))

end

/-- With finite logarithms the reference's result is the kernel's. -/
theorem reference_eq (x : Vec Ideal S8x4096x2048 .f32) (a b : Vec Ideal S8x4096x768 .bf16) (w : Vec Ideal S2048x2048 .bf16)
    (h0 : ∀ i, ∃ r : ℝ, l0 i = (r : EReal)) (h1 : ∀ i, ∃ r : ℝ, l1 i = (r : EReal)) (h2 : ∀ i, ∃ r : ℝ, l2 i = (r : EReal)) :
    val_main_v41 (F := Ideal) x a b o0 l0 o1 l1 o2 l2 p w = result x a b o0 l0 o1 l1 o2 l2 p w := by
  funext i
  obtain ⟨n, t, e, rfl⟩ : ∃ (n : Fin 8) (t : Fin 4096) (e : Fin 2048), i = ix3 n t e :=
    ⟨i 0, i 1, i 2, by funext a; match a with | ⟨0, _⟩ => rfl | ⟨1, _⟩ => rfl | ⟨2, _⟩ => rfl⟩
  rw [val_main_v41_apply, val_main_v40_apply]
  show x (ix3 n t e) + _ = entry x a b o0 l0 o1 l1 o2 l2 p w n t e
  have hl : ∀ k : Fin 2048, lidx_main_v40 (ix3 n t e) k = ix3 n t k := fun k => by
    funext a
    match a with
    | ⟨0, _⟩ => rfl
    | ⟨1, _⟩ => rfl
    | ⟨2, _⟩ => rfl
  have hr : ∀ k : Fin 2048, ridx_main_v40 (ix3 n t e) k = ix2 k e := fun k => by
    funext a
    match a with
    | ⟨0, _⟩ => rfl
    | ⟨1, _⟩ => rfl
  have hw : ∀ j, val_main_v39 (F := Ideal) w j = w j := fun j => rfl
  unfold entry
  refine congrArg (x (ix3 n t e) + ·) ?_
  simp only [hl, hr, hw]
  rw [sum_parts]
  simp only [mix_first, mix_second, mix_third, ref_merged o0 l0 o1 l1 o2 l2 p _ _ _ h0 h1 h2]

end Cert.Outproj

end
-- ==== Proof.Outproj.Claims.lean ====
/- The claims about the output projection: the frames of its three programs, and the equality of the kernel's result and
   the reference's for finite logarithms. -/
module

public import proofs.«01_k».proof.Defs
public import proofs.«01_k».proof.Proof.Gen.Kernel3.Frame
public import proofs.«01_k».proof.Proof.Gen.Reference3Ideal.Run
public import proofs.«01_k».proof.Proof.Gen.Pre_finite_l
public import proofs.«01_k».proof.Proof.Attn.Claims
public import proofs.«01_k».proof.Proof.Outproj.RefValue
public import Idealize.ShloMosaic.Lib.ReduceAll
public import Idealize.ShloMosaic.Lib.Quiescent

@[expose] public section

set_option maxRecDepth 16384

noncomputable section

namespace Cert.Outproj

open Idealize.ShloMosaic Idealize.ShloMosaic.TcCoe Idealize.SL.Sem

/-! ## The precondition -/

instance : Subsingleton Cert.Pre_finite_l.S_.Idx := ⟨fun a b => funext fun i => i.elim0⟩

theorem finite_of_pre (x : Vec Ideal Cert.Kernel3Ideal.S8x4096x2048 .f32) (a b : Vec Ideal Cert.Kernel3Ideal.S8x4096x768 .bf16)
    (o0 l0 : Vec Ideal Cert.Kernel3Ideal.S8x4096x512 .f32) (o1 l1 : Vec Ideal Cert.Kernel3Ideal.S8x4x1024x512 .f32)
    (o2 l2 : Vec Ideal Cert.Kernel3Ideal.S8x16x256x512 .f32) (p : Vec Ideal Cert.Kernel3Ideal.S8x4096x6656 .bf16)
    (w : Vec Ideal Cert.Kernel3Ideal.S2048x2048 .bf16)
    (h : Cert.Pre_finite_l.fn (F := Ideal) x a b o0 l0 o1 l1 o2 l2 p w = fun _ => 1#1) :
    (∀ i, ∃ r : ℝ, l0 i = (r : EReal)) ∧ (∀ i, ∃ r : ℝ, l1 i = (r : EReal)) ∧ ∀ i, ∃ r : ℝ, l2 i = (r : EReal) := by
  have h' := congrFun h (fun a => a.elim0)
  unfold Cert.Pre_finite_l.fn at h'
  dsimp only at h'
  obtain ⟨h01, h2⟩ := IntOp.andi_eq_one.mp h'
  obtain ⟨h0, h1⟩ := IntOp.andi_eq_one.mp h01
  exact ⟨fun i => Attn.real_of_abs_lt _ (Attn.lt_top_of_cmp _ (Host.reduce_andi_all _ _ _ _ _ h0 i)),
    fun i => Attn.real_of_abs_lt _ (Attn.lt_top_of_cmp _ (Host.reduce_andi_all _ _ _ _ _ h1 i)),
    fun i => Attn.real_of_abs_lt _ (Attn.lt_top_of_cmp _ (Host.reduce_andi_all _ _ _ _ _ h2 i))⟩

/-! ## The claims -/

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ideal_pre : Cert.quiescent_Kernel3Ideal_pre_finite_l := fun m ρ _ => Cert.Kernel3Ideal.Gen.frame m ρ

theorem frame_reference : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

theorem frame_reference_pre : Cert.quiescent_Reference3Ideal_pre_finite_l := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

/-- The kernel and the reference compute the same array, when the logarithms are finite. -/
theorem value_claim : Cert.algebraic_Kernel3Ideal_Reference3Ideal_pre_finite_l := by
  intro m ρ m' ρ' hpre hargs
  refine ⟨fun c => result (xArr m c) (aArr m c) (bArr m c) (o0Arr m c) (l0Arr m c) (o1Arr m c) (l1Arr m c) (o2Arr m c) (l2Arr m c) (pArr m c) (wArr m c), ?_, ?_⟩
  · exact (θ_run Cert.Kernel3Ideal.defs _ _).mono (fun _ h c => ⟨(h c).1.trans (array_eq m c), (h c).2⟩)
      (Cert.Kernel3Ideal.Value.run_blocks m ρ)
  refine (θ_run Cert.Reference3Ideal.defs _ _).mono (fun r h c => ⟨(h c).1.trans ?_, (h c).2⟩)
    (Cert.Reference3Ideal.Value.run (F := Ideal) m' ρ')
  rw [Cert.Reference3Ideal.Read.val_main_v41_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2]
  obtain ⟨h0, h1, h2⟩ := finite_of_pre (xArr m c) (aArr m c) (bArr m c) (o0Arr m c) (l0Arr m c) (o1Arr m c) (l1Arr m c) (o2Arr m c) (l2Arr m c) (pArr m c) (wArr m c) (hpre c)
  exact reference_eq (o0Arr m c) (l0Arr m c) (o1Arr m c) (l1Arr m c) (o2Arr m c) (l2Arr m c) (pArr m c) (xArr m c) (aArr m c)
    (bArr m c) (wArr m c) h0 h1 h2

end Cert.Outproj

end
-- ==== Proof.Band.Step.lean ====
/- One block of 128 tokens of mixer A: the scores of its stacked query heads against a window of 384 keys, the softmax with
   a sink, the four heads laid side by side, the gate; and the entries of what it stores. -/
module

public import proofs.«01_k».proof.Proof.Gen.Kernel4Ideal.Skeleton
public import Idealize.ShloMosaic.Lib.Pointwise
public import Idealize.ShloMosaic.Lib.ValueIdx
public import Idealize.ShloMosaic.Lib.IdealHost

@[expose] public section

set_option maxRecDepth 16384

noncomputable section

namespace Cert.Band

open Idealize.ShloMosaic Cert.Kernel4Ideal Cert.Kernel4Ideal.Gen

/-- The scores of the four stacked heads against the window, with the bias, before masking. -/
def raw (q : Vec Ideal S1x128x256 .bf16) (w : FVec Ideal S384x128 .bf16) (bias : FVec Ideal S512x384 .f32) : FVec Ideal S512x384 .f32 :=
  addf (matmul dot_S512x64_S384x64_S512x384_1_1_0_0_n_n none (k0_pay9 q)
    (extractStridedSlice S384x64 ![0, 0] w slices_S384x128_o0_0_S384x64) (constant S512x384 .f32 0x00000000#32)) bias

/-- The mask of the sequence's first block: no key before the start. -/
def maskFirst (n : BitVec 32) (s : FVec Ideal S512x384 .f32) : FVec Ideal S512x384 .f32 :=
  select (andi (cmpi .slt (iota .tc S512x384 32 [1] iota_S512x384_d1_w32) (broadcast S512x384 128#32))
    (broadcast S512x384 (Scalar.cmpi .eq n 0#32))) (broadcast S512x384 (Named.named κ "mask" 0xF149F2CA#32 : Ideal .f32)) s

/-- The mask of the sequence's last block: no key past the end. -/
def maskLast (n : BitVec 32) (s : FVec Ideal S512x384 .f32) : FVec Ideal S512x384 .f32 :=
  select (andi (cmpi .sge (iota .tc S512x384 32 [1] iota_S512x384_d1_w32) (broadcast S512x384 256#32))
    (broadcast S512x384 (Scalar.cmpi .eq n 1#32))) (broadcast S512x384 (Named.named κ "mask" 0xF149F2CA#32 : Ideal .f32)) s

/-- Each row's largest score, on every lane. -/
def rowMax (s : FVec Ideal S512x384 .f32) : FVec Ideal S512x128 .f32 :=
  broadcastTo S512x128 (shapeCast S512x1 (shapeCast S512x1
    (multiReduction .maximumf [1] S512 s 0xFF800000#32 reduces_S512x384_S512 (.inl rfl) rfl) shapeCasts_S512_S512x1)
    shapeCasts_S512x1_S512x1) broadcasts_S512x1_S512x128

/-- The sinks' logits, without the block's leading axis. -/
def sinks (x : Vec Ideal S1x512x128 .f32) : FVec Ideal S512x128 .f32 := shapeCast S512x128 x shapeCasts_S1x512x128_S512x128

/-- The maximum over the window and the sink. -/
def top (s : FVec Ideal S512x384 .f32) (x : Vec Ideal S1x512x128 .f32) : FVec Ideal S512x128 .f32 := maximumf (rowMax s) (sinks x)

/-- Two to the power of a score less a maximum. -/
def weights (s : FVec Ideal S512x384 .f32) (m : FVec Ideal S512x128 .f32) : FVec Ideal S512x384 .bf16 :=
  truncf .bf16 (exp2 (subf s (concatenate S512x384 1 [⟨S512x128, m⟩, ⟨S512x128, m⟩, ⟨S512x128, m⟩]
    concatenates_S512x128_S512x128_S512x128_S512x384_d1))) bitsLt_bf16_f32

/-- The weighted sums of the window's lanes, and beside them the sum of the weights. -/
def sums (e : FVec Ideal S512x384 .bf16) (w : FVec Ideal S384x128 .bf16) : FVec Ideal S512x256 .f32 :=
  matmul (φ₂ := .bf16) dot_S512x384_S384x256_S512x256_1_0_0_1_n_n none e
    (concatenate S384x256 1 [⟨S384x128, w⟩, ⟨S384x128, broadcast S384x128 (Scalar.ofBits .bf16 0x3F80#16 : Ideal .bf16)⟩]
      concatenates_S384x128_S384x128_S384x256_d1) (constant S512x256 .f32 0x00000000#32)

/-- The weighted sums over the sum of the weights and the sink's. -/
def quot (a : FVec Ideal S512x256 .f32) (x m : FVec Ideal S512x128 .f32) : FVec Ideal S512x128 .f32 :=
  divf (extractStridedSlice S512x128 ![0, 0] a slices_S512x256_o0_0_S512x128)
    (addf (extractStridedSlice S512x128 ![0, 128] a slices_S512x256_o0_128_S512x128) (exp2 (subf x m)))

/-- Two heads' value lanes side by side: the first head's turned into the low lanes. -/
def pair (a b : FVec Ideal S128x128 .f32) : FVec Ideal S128x128 .f32 := select k0_pay4 (dynamicRotate 1 64#32 none a rotates_S128x128_d1) b

/-- The four heads' value lanes side by side. -/
def unstack (o : FVec Ideal S512x128 .f32) : FVec Ideal S128x256 .f32 :=
  concatenate S128x256 1 [⟨S128x128, pair (extractStridedSlice S128x128 ![0, 0] o slices_S512x128_o0_0_S128x128)
      (extractStridedSlice S128x128 ![128, 0] o slices_S512x128_o128_0_S128x128)⟩,
    ⟨S128x128, pair (extractStridedSlice S128x128 ![256, 0] o slices_S512x128_o256_0_S128x128)
      (extractStridedSlice S128x128 ![384, 0] o slices_S512x128_o384_0_S128x128)⟩] concatenates_S128x128_S128x128_S128x256_d1

/-- What a block stores, from its masked scores. -/
def finish (s : FVec Ideal S512x384 .f32) (w : FVec Ideal S384x128 .bf16) (x : Vec Ideal S1x512x128 .f32) (g : Vec Ideal S1x128x256 .bf16) :
    FVec Ideal S1x128x256 .bf16 :=
  k0_pay1 (unstack (quot (sums (weights s (top s x)) w) (sinks x) (top s x))) g

/-- The window of keys and values of block `t` among the staged tokens. -/
def win (o : ℕ) (kv : FVec Ideal S2304x128 .bf16) (h : S2304x128.Slices ![o, 0] S384x128) : FVec Ideal S384x128 .bf16 :=
  extractStridedSlice S384x128 ![o, 0] kv h

section Payloads
variable (i : grid0.Coords) (v0 : Vec Ideal S1x128x128 .bf16) (v2 : Vec Ideal S1x2048x128 .bf16) (v4 : Vec Ideal S1x128x128 .bf16)
  (v7 : Vec Ideal S1x512x384 .f32) (q : Vec Ideal S1x128x256 .bf16) (x : Vec Ideal S1x512x128 .f32) (g : Vec Ideal S1x128x256 .bf16)
  (kv : FVec Ideal S2304x128 .bf16) (b : FVec Ideal S512x384 .f32)

/-! The sixteen printed compositions are `finish`. -/
theorem piece_0 : k0_pay8 k0_pay4 (k0_pay5 v0 v2 v4) (k0_pay6 i v0 v2 v4 v7 q) (k0_pay7 i v0 v2 v4 v7 q) x g
    = finish (maskFirst (BitVec.ofNat 32 (i 2).val) (raw q (win 0 (k0_pay2 v0 v2 v4) slices_S2304x128_o0_0_S384x128) (k0_pay3 v7)))
      (win 0 (k0_pay2 v0 v2 v4) slices_S2304x128_o0_0_S384x128) x g := rfl
theorem piece_1 : k0_pay12 b k0_pay4 (k0_pay9 q) (k0_pay10 kv) (k0_pay11 kv) x g
    = finish (raw q (win 128 kv slices_S2304x128_o128_0_S384x128) b) (win 128 kv slices_S2304x128_o128_0_S384x128) x g := rfl
theorem piece_2 : k0_pay14 (k0_pay13 kv b k0_pay4 q x g)
    = finish (raw q (win 256 kv slices_S2304x128_o256_0_S384x128) b) (win 256 kv slices_S2304x128_o256_0_S384x128) x g := rfl
theorem piece_3 : k0_pay16 (k0_pay15 kv b k0_pay4 q x) g
    = finish (raw q (win 384 kv slices_S2304x128_o384_0_S384x128) b) (win 384 kv slices_S2304x128_o384_0_S384x128) x g := rfl
theorem piece_4 : k0_pay20 k0_pay4 (k0_pay17 kv b q x) (k0_pay18 kv b q x) (k0_pay19 kv b q x) g
    = finish (raw q (win 512 kv slices_S2304x128_o512_0_S384x128) b) (win 512 kv slices_S2304x128_o512_0_S384x128) x g := rfl
theorem piece_5 : k0_pay27 k0_pay4 (k0_pay23 x) (k0_pay24 kv b q x) (k0_pay25 kv b q x) (k0_pay26 kv b q x) g
    = finish (raw q (win 640 kv slices_S2304x128_o640_0_S384x128) b) (win 640 kv slices_S2304x128_o640_0_S384x128) x g := rfl
theorem piece_6 : k0_pay33 k0_pay4 (k0_pay28 kv) (k0_pay29 kv b q) (k0_pay30 x) (k0_pay31 kv b q x) (k0_pay32 kv b q x) g
    = finish (raw q (win 768 kv slices_S2304x128_o768_0_S384x128) b) (win 768 kv slices_S2304x128_o768_0_S384x128) x g := rfl
theorem piece_7 : k0_pay37 k0_pay4 (k0_pay34 kv) (k0_pay35 kv b q) (k0_pay36 kv b q) x g
    = finish (raw q (win 896 kv slices_S2304x128_o896_0_S384x128) b) (win 896 kv slices_S2304x128_o896_0_S384x128) x g := rfl
theorem piece_8 : k0_pay43 kv b k0_pay4 (k0_pay39 q) (k0_pay40 q) (k0_pay41 q) (k0_pay42 q) x g
    = finish (raw q (win 1024 kv slices_S2304x128_o1024_0_S384x128) b) (win 1024 kv slices_S2304x128_o1024_0_S384x128) x g := rfl
theorem piece_9 : k0_pay46 (k0_pay44 kv b k0_pay4 q x) (k0_pay45 g)
    = finish (raw q (win 1152 kv slices_S2304x128_o1152_0_S384x128) b) (win 1152 kv slices_S2304x128_o1152_0_S384x128) x g := rfl
theorem piece_10 : k0_pay50 (k0_pay48 kv b k0_pay4 q x) (k0_pay49 kv b k0_pay4 q x) g
    = finish (raw q (win 1280 kv slices_S2304x128_o1280_0_S384x128) b) (win 1280 kv slices_S2304x128_o1280_0_S384x128) x g := rfl
theorem piece_11 : k0_pay53 k0_pay4 (k0_pay51 kv b q x) (k0_pay52 kv b q x) g
    = finish (raw q (win 1408 kv slices_S2304x128_o1408_0_S384x128) b) (win 1408 kv slices_S2304x128_o1408_0_S384x128) x g := rfl
theorem piece_12 : k0_pay60 k0_pay4 (k0_pay56 x) (k0_pay57 kv b q x) (k0_pay58 kv b q x) (k0_pay59 kv) g
    = finish (raw q (win 1536 kv slices_S2304x128_o1536_0_S384x128) b) (win 1536 kv slices_S2304x128_o1536_0_S384x128) x g := rfl
theorem piece_13 : k0_pay64 k0_pay4 (k0_pay61 kv) (k0_pay62 kv b q) (k0_pay63 kv b q) x g
    = finish (raw q (win 1664 kv slices_S2304x128_o1664_0_S384x128) b) (win 1664 kv slices_S2304x128_o1664_0_S384x128) x g := rfl
theorem piece_14 : k0_pay67 k0_pay4 (k0_pay65 kv) (k0_pay66 kv b q) x g
    = finish (raw q (win 1792 kv slices_S2304x128_o1792_0_S384x128) b) (win 1792 kv slices_S2304x128_o1792_0_S384x128) x g := rfl
theorem piece_15 (n : BitVec 32) : k0_pay1 (k0_pay70 n kv b (iota .tc S512x384 32 [1] iota_S512x384_d1_w32) k0_pay4 (k0_pay68 q) (k0_pay69 q) x) g
    = finish (maskLast n (raw q (win 1920 kv slices_S2304x128_o1920_0_S384x128) b)) (win 1920 kv slices_S2304x128_o1920_0_S384x128) x g := rfl
end Payloads

/-- The stacked row of head `e / 64`, token `r`. -/
def stackRow (r : Fin 128) (e : Fin 256) : Fin 512 := ⟨128 * (e.val / 64) + r.val, by omega⟩

set_option maxHeartbeats 1000000 in
theorem stack_apply (q : Vec Ideal S1x128x256 .bf16) (r : Fin 128) (e : Fin 256) (d : Fin 64) :
    k0_pay9 q (ix2 (stackRow r e) d) = q (ix3 0 r ⟨64 * (e.val / 64) + d.val, by omega⟩) := by
  unfold_payloads
  unfold stackRow
  pointwise
  split_ifs with h1 h2 h3
  all_goals
    congr 1
    funext a
    apply Fin.ext
    match a with
    | ⟨0, _⟩ => rfl
    | ⟨1, _⟩ => simp [ix3]; try omega
    | ⟨2, _⟩ => simp [ix3]; try omega

set_option maxHeartbeats 1000000 in
theorem scores_apply (y : FVec Ideal S512x64 .bf16) (w : FVec Ideal S384x128 .bf16) (bias : FVec Ideal S512x384 .f32)
    (i : Fin 512) (k : Fin 384) :
    addf (matmul dot_S512x64_S384x64_S512x384_1_1_0_0_n_n none y
      (extractStridedSlice S384x64 ![0, 0] w slices_S384x128_o0_0_S384x64) (constant S512x384 .f32 0x00000000#32)) bias (ix2 i k)
      = (∑ d : Fin 64, y (ix2 i d) * w (ix2 k ⟨d.val, by omega⟩)) + bias (ix2 i k) := by
  pointwise

theorem raw_apply (q : Vec Ideal S1x128x256 .bf16) (w : FVec Ideal S384x128 .bf16) (bias : FVec Ideal S512x384 .f32)
    (r : Fin 128) (e : Fin 256) (k : Fin 384) :
    raw q w bias (ix2 (stackRow r e) k)
      = (∑ d : Fin 64, q (ix3 0 r ⟨64 * (e.val / 64) + d.val, by omega⟩) * w (ix2 k ⟨d.val, by omega⟩)) + bias (ix2 (stackRow r e) k) := by
  simp only [← stack_apply]
  exact scores_apply (k0_pay9 q) w bias (stackRow r e) k

theorem rowMax_apply (s : FVec Ideal S512x384 .f32) (i : Fin 512) (c : Fin 128) :
    rowMax s (ix2 i c) = Finset.univ.fold max ⊥ fun k : Fin 384 => s (ix2 i k) := by
  have hcast : rowMax s (ix2 i c)
        = multiReduction .maximumf [1] S512 s 0xFF800000#32 reduces_S512x384_S512 (.inl rfl) rfl (ix1 i) := by
    unfold rowMax
    pointwise
  refine hcast.trans ((Ideal.multiReduction_maximumf_single s _ _ _ _ _).trans ?_)
  have hb : (FloatOps.ofBits .f32 0xFF800000#32 : Ideal .f32) = (⊥ : EReal) := by
    simp [Ideal.ofBits, Ideal.ieee]
  rw [hb]
  refine Finset.fold_congr fun l _ => ?_
  refine congrArg s (funext fun a => ?_)
  match a with
  | ⟨0, _⟩ => rfl
  | ⟨1, _⟩ => rfl

theorem sinks_apply (x : Vec Ideal S1x512x128 .f32) (i : Fin 512) (c : Fin 128) : sinks x (ix2 i c) = x (ix3 0 i c) := by
  unfold sinks
  pointwise

theorem top_apply (s : FVec Ideal S512x384 .f32) (x : Vec Ideal S1x512x128 .f32) (i : Fin 512) (c : Fin 128) :
    top s x (ix2 i c) = max (Finset.univ.fold max ⊥ fun k : Fin 384 => s (ix2 i k)) (x (ix3 0 i c)) := by
  unfold top
  rw [ValueIdx.maximumf_apply, rowMax_apply, sinks_apply]

theorem weights_apply (s : FVec Ideal S512x384 .f32) (m : FVec Ideal S512x128 .f32) (i : Fin 512) (k : Fin 384) :
    weights s m (ix2 i k) = Ideal.exp2 (s (ix2 i k) - m (ix2 i ⟨k.val % 128, by omega⟩)) := by
  have hm : concatenate S512x384 1 [⟨S512x128, m⟩, ⟨S512x128, m⟩, ⟨S512x128, m⟩]
      concatenates_S512x128_S512x128_S512x128_S512x384_d1 (ix2 i k) = m (ix2 i ⟨k.val % 128, by omega⟩) := by
    pointwise
    split_ifs
    all_goals exact congrArg (fun l => m (ix2 i l)) (Fin.ext (by simp; omega))
  rw [← hm]
  rfl

theorem sums_value (e : FVec Ideal S512x384 .bf16) (w : FVec Ideal S384x128 .bf16) (i : Fin 512) (c : Fin 128) :
    sums e w (ix2 i ⟨c.val, by omega⟩) = ∑ k : Fin 384, e (ix2 i k) * w (ix2 k c) := by
  unfold sums
  pointwise

theorem sums_one (e : FVec Ideal S512x384 .bf16) (w : FVec Ideal S384x128 .bf16) (i : Fin 512) (c : Fin 128) :
    sums e w (ix2 i ⟨128 + c.val, by omega⟩) = ∑ k : Fin 384, e (ix2 i k) := by
  unfold sums
  pointwise

theorem quot_apply (a : FVec Ideal S512x256 .f32) (x m : FVec Ideal S512x128 .f32) (i : Fin 512) (c : Fin 128) :
    quot a x m (ix2 i c) = Ideal.div (a (ix2 i ⟨c.val, by omega⟩))
      (a (ix2 i ⟨128 + c.val, by omega⟩) + Ideal.exp2 (x (ix2 i c) - m (ix2 i c))) := by
  unfold quot
  pointwise
  rfl

theorem lane_low : ∀ l : Fin 128, IntOp.cmpi CmpIPredicate.slt (BitVec.ofNat 32 l.val) 64#32 = if l.val < 64 then 1#1 else 0#1 := by
  decide +kernel

theorem pair_apply (a b : FVec Ideal S128x128 .f32) (r : Fin 128) (l : Fin 128) :
    pair a b (ix2 r l) = if l.val < 64 then a (ix2 r ⟨64 + l.val % 64, by omega⟩) else b (ix2 r l) := by
  unfold pair
  unfold_payloads
  pointwise
  rw [lane_low]
  split_ifs with h
  · exact congrArg (fun c => a (ix2 r c)) (Fin.ext (by simp; omega))
  · rfl

theorem unstack_apply (o : FVec Ideal S512x128 .f32) (r : Fin 128) (e : Fin 256) :
    unstack o (ix2 r e) = o (ix2 (stackRow r e) ⟨64 + e.val % 64, by omega⟩) := by
  have h0 : ∀ l : Fin 128, extractStridedSlice S128x128 ![0, 0] o slices_S512x128_o0_0_S128x128 (ix2 r l) = o (ix2 ⟨r.val, by omega⟩ l) := by
    intro l
    pointwise
  have h1 : ∀ l : Fin 128, extractStridedSlice S128x128 ![128, 0] o slices_S512x128_o128_0_S128x128 (ix2 r l) = o (ix2 ⟨128 + r.val, by omega⟩ l) := by
    intro l
    pointwise
  have h2 : ∀ l : Fin 128, extractStridedSlice S128x128 ![256, 0] o slices_S512x128_o256_0_S128x128 (ix2 r l) = o (ix2 ⟨256 + r.val, by omega⟩ l) := by
    intro l
    pointwise
  have h3 : ∀ l : Fin 128, extractStridedSlice S128x128 ![384, 0] o slices_S512x128_o384_0_S128x128 (ix2 r l) = o (ix2 ⟨384 + r.val, by omega⟩ l) := by
    intro l
    pointwise
  unfold unstack stackRow
  pointwise
  simp only [pair_apply, h0, h1, h2, h3]
  split_ifs
  all_goals exact congrArg₂ (fun a b => o (ix2 a b)) (Fin.ext (by simp; try omega)) (Fin.ext (by simp; try omega))

theorem pay1_apply (a : FVec Ideal S128x256 .f32) (g : Vec Ideal S1x128x256 .bf16) (r : Fin 128) (c : Fin 256) :
    k0_pay1 a g (ix3 0 r c) = a (ix2 r c) * (g (ix3 0 r c) * Ideal.logistic (g (ix3 0 r c))) := by
  unfold_payloads
  pointwise

/-- The staged tokens: the last of the block before, the block, the first of the block after. -/
theorem pay2_apply (v0 : Vec Ideal S1x128x128 .bf16) (v2 : Vec Ideal S1x2048x128 .bf16) (v4 : Vec Ideal S1x128x128 .bf16)
    (j : Fin 2304) (d : Fin 128) :
    k0_pay2 v0 v2 v4 (ix2 j d) = if h : j.val < 128 then v0 (ix3 0 ⟨j.val, h⟩ d)
      else if h' : j.val < 2176 then v2 (ix3 0 ⟨j.val - 128, by omega⟩ d) else v4 (ix3 0 ⟨j.val - 2176, by omega⟩ d) := by
  unfold_payloads
  pointwise
  by_cases h : j.val < 128
  · simp only [dif_pos h]
  · by_cases h' : j.val < 2176
    · simp only [dif_neg h, dif_pos h', dif_pos (show j.val - 128 < 2048 by omega)]
    · simp only [dif_neg h, dif_neg h', dif_neg (show ¬j.val - 128 < 2048 by omega)]
      rfl

theorem pay3_apply (v : Vec Ideal S1x512x384 .f32) (i : Fin 512) (k : Fin 384) : k0_pay3 v (ix2 i k) = v (ix3 0 i k) := by
  unfold_payloads
  pointwise

theorem win_apply (o : ℕ) (ho : o + 384 ≤ 2304) (kv : FVec Ideal S2304x128 .bf16) (h : S2304x128.Slices ![o, 0] S384x128)
    (k : Fin 384) (d : Fin 128) : win o kv h (ix2 k d) = kv (ix2 ⟨o + k.val, by omega⟩ d) := by
  unfold win
  refine congrArg kv (funext fun a => Fin.ext ?_)
  match a with
  | ⟨0, _⟩ => rfl
  | ⟨1, _⟩ => exact Nat.zero_add _

theorem mask_value : (Named.named κ "mask" 0xF149F2CA#32 : Ideal .f32) = (⊥ : EReal) :=
  IdealRules.named_const.ideal_named_scalar _ _ _ _ rfl

theorem col_low : ∀ k : Fin 384, IntOp.cmpi CmpIPredicate.slt (BitVec.ofNat 32 k.val) 128#32 = if k.val < 128 then 1#1 else 0#1 := by
  decide +kernel
theorem col_high : ∀ k : Fin 384, IntOp.cmpi CmpIPredicate.sge (BitVec.ofNat 32 k.val) 256#32 = if 256 ≤ k.val then 1#1 else 0#1 := by
  decide +kernel
theorem block_first : ∀ n : Fin 2, Scalar.cmpi CmpIPredicate.eq (BitVec.ofNat 32 n.val) 0#32 = if n.val = 0 then 1#1 else 0#1 := by
  decide +kernel
theorem block_last : ∀ n : Fin 2, Scalar.cmpi CmpIPredicate.eq (BitVec.ofNat 32 n.val) 1#32 = if n.val = 1 then 1#1 else 0#1 := by
  decide +kernel

theorem maskFirst_apply (n : Fin 2) (s : FVec Ideal S512x384 .f32) (i : Fin 512) (k : Fin 384) :
    maskFirst (BitVec.ofNat 32 n.val) s (ix2 i k) = if k.val < 128 ∧ n.val = 0 then ⊥ else s (ix2 i k) := by
  unfold maskFirst
  rw [mask_value]
  pointwise
  rw [col_low, block_first]
  split_ifs
  all_goals first | rfl | (exfalso; omega)

theorem maskLast_apply (n : Fin 2) (s : FVec Ideal S512x384 .f32) (i : Fin 512) (k : Fin 384) :
    maskLast (BitVec.ofNat 32 n.val) s (ix2 i k) = if 256 ≤ k.val ∧ n.val = 1 then ⊥ else s (ix2 i k) := by
  unfold maskLast
  rw [mask_value]
  pointwise
  rw [col_high, block_last]
  split_ifs
  all_goals first | rfl | (exfalso; omega)

/-- Softmax with a sink over 384 scores, the weights against `v`: `z k` is the sink as the lane of key `k` holds it, `z'` as
    the value's lane does. -/
def soft (s : Fin 384 → EReal) (z : Fin 384 → EReal) (z' : EReal) (v : Fin 384 → EReal) : EReal :=
  Ideal.div (∑ k, Ideal.exp2 (s k - max (Finset.univ.fold max ⊥ s) (z k)) * v k)
    ((∑ k, Ideal.exp2 (s k - max (Finset.univ.fold max ⊥ s) (z k))) + Ideal.exp2 (z' - max (Finset.univ.fold max ⊥ s) z'))

theorem finish_apply (s : FVec Ideal S512x384 .f32) (w : FVec Ideal S384x128 .bf16) (x : Vec Ideal S1x512x128 .f32)
    (g : Vec Ideal S1x128x256 .bf16) (r : Fin 128) (e : Fin 256) :
    finish s w x g (ix3 0 r e)
      = soft (fun k => s (ix2 (stackRow r e) k)) (fun k => x (ix3 0 (stackRow r e) ⟨k.val % 128, by omega⟩))
          (x (ix3 0 (stackRow r e) ⟨64 + e.val % 64, by omega⟩)) (fun k => w (ix2 k ⟨64 + e.val % 64, by omega⟩))
        * (g (ix3 0 r e) * Ideal.logistic (g (ix3 0 r e))) := by
  unfold finish soft
  rw [pay1_apply, unstack_apply, quot_apply, sums_value (c := ⟨64 + e.val % 64, by omega⟩), sums_one (c := ⟨64 + e.val % 64, by omega⟩),
    sinks_apply, top_apply]
  simp only [weights_apply, top_apply]

end Cert.Band

end
-- ==== Proof.Band.Math.lean ====
/- The arithmetic of one masked softmax row with a sink: powers of two over their sum are the softmax of the scores times the
   logarithm of two, a masked key taking no part. -/
module

public import proofs.«01_k».proof.Proof.Outproj.Math
public import proofs.«01_k».proof.Proof.Band.Step

@[expose] public section

noncomputable section

namespace Cert.Band

open Idealize.ShloMosaic

/-- A number that is not positive infinity is negative infinity or real. -/
theorem bot_or_real (x : EReal) (h : x ≠ ⊤) : x = ⊥ ∨ ∃ r : ℝ, x = (r : EReal) := by
  induction x using EReal.rec with
  | bot => exact Or.inl rfl
  | top => exact absurd rfl h
  | coe r => exact Or.inr ⟨r, rfl⟩

/-- The greatest of a real number and numbers that are real or negative infinity is real. -/
theorem max_fold {ι : Type} (s : Finset ι) (f : ι → EReal) (hf : ∀ i, f i ≠ ⊤) (z : ℝ) :
    ∃ M : ℝ, max (s.fold max ⊥ f) (z : EReal) = (M : EReal) := by
  classical
  induction s using Finset.induction_on with
  | empty => exact ⟨z, by simp⟩
  | insert a s ha ih =>
    obtain ⟨M, h⟩ := ih
    rw [Finset.fold_insert ha, max_assoc, h]
    rcases bot_or_real _ (hf a) with h' | ⟨r, h'⟩
    · exact ⟨M, by rw [h']; exact max_eq_right bot_le⟩
    · exact ⟨max r M, by rw [h', EReal.coe_strictMono.monotone.map_max]⟩

theorem exp2_bot (M : ℝ) : Ideal.exp2 ((⊥ : EReal) - (M : EReal)) = 0 := by
  rw [EReal.bot_sub]; rfl

theorem exp_bot (M : ℝ) : Ideal.exp ((⊥ : EReal) - (M : EReal)) = 0 := by
  rw [EReal.bot_sub]; rfl

theorem log_two_pos : 0 < Real.log 2 := Real.log_pos (by norm_num)

/-- A masked row: the kernel's quotient is the sum of the values weighted by the softmax. -/
theorem soft_eq (σ : Fin 384 → EReal) (hσ : ∀ k, σ k ≠ ⊤) (z : ℝ) (V W : Fin 384 → EReal) (hV : ∀ k, σ k = ⊥ ∨ V k = W k) :
    soft σ (fun _ => (z : EReal)) (z : EReal) V
      = ∑ k, W k * Ideal.div (Ideal.exp (σ k * ((Real.log 2 : ℝ) : EReal)
            - max (Finset.univ.fold max ⊥ fun k => σ k * ((Real.log 2 : ℝ) : EReal)) ((z : EReal) * ((Real.log 2 : ℝ) : EReal))))
          ((∑ k, Ideal.exp (σ k * ((Real.log 2 : ℝ) : EReal)
              - max (Finset.univ.fold max ⊥ fun k => σ k * ((Real.log 2 : ℝ) : EReal)) ((z : EReal) * ((Real.log 2 : ℝ) : EReal))))
            + Ideal.exp ((z : EReal) * ((Real.log 2 : ℝ) : EReal)
              - max (Finset.univ.fold max ⊥ fun k => σ k * ((Real.log 2 : ℝ) : EReal)) ((z : EReal) * ((Real.log 2 : ℝ) : EReal)))) := by
  have hbot : (⊥ : EReal) * ((Real.log 2 : ℝ) : EReal) = ⊥ := EReal.bot_mul_coe_of_pos log_two_pos
  have hτ : ∀ k, σ k * ((Real.log 2 : ℝ) : EReal) ≠ ⊤ := fun k => by
    rcases bot_or_real _ (hσ k) with h | ⟨r, h⟩
    · rw [h, hbot]; exact bot_ne_top
    · rw [h, ← EReal.coe_mul]; exact EReal.coe_ne_top _
  obtain ⟨M, hM⟩ := max_fold Finset.univ σ hσ z
  obtain ⟨M', hM'⟩ := max_fold Finset.univ (fun k => σ k * ((Real.log 2 : ℝ) : EReal)) hτ (z * Real.log 2)
  rw [EReal.coe_mul] at hM'
  unfold soft
  dsimp only
  rw [hM, hM', ← EReal.coe_mul, Attn.exp2_sub, Attn.exp_sub]
  have key : ∀ r : ℝ, Real.exp (r * Real.log 2 - M') = (2 : ℝ) ^ (r - M) * Real.exp (M * Real.log 2 - M') := fun r => by
    rw [Real.rpow_def_of_pos (by norm_num), ← Real.exp_add]
    exact congrArg _ (by ring)
  have ht : Real.exp (M * Real.log 2 - M') ≠ 0 := (Real.exp_pos _).ne'
  have hw : ∀ k, ∃ w : ℝ, 0 ≤ w ∧ (σ k = ⊥ → w = 0) ∧ Ideal.exp2 (σ k - (M : EReal)) = (w : EReal)
      ∧ Ideal.exp (σ k * ((Real.log 2 : ℝ) : EReal) - (M' : EReal)) = ((w * Real.exp (M * Real.log 2 - M') : ℝ) : EReal) := fun k => by
    rcases bot_or_real _ (hσ k) with h | ⟨r, h⟩
    · exact ⟨0, le_refl _, fun _ => rfl, by rw [h, exp2_bot]; rfl, by rw [h, hbot, exp_bot, zero_mul]; rfl⟩
    · exact ⟨(2 : ℝ) ^ (r - M), (Real.rpow_pos_of_pos (by norm_num) _).le, fun h' => absurd (h.symm.trans h') (EReal.coe_ne_bot r),
        by rw [h, Attn.exp2_sub], by rw [h, ← EReal.coe_mul, Attn.exp_sub, key]⟩
  choose w h0 hb h2 he using hw
  simp only [h2, he]
  rw [key z]
  generalize Real.exp (M * Real.log 2 - M') = t at ht
  have hz : 0 < (2 : ℝ) ^ (z - M) := Real.rpow_pos_of_pos (by norm_num) _
  generalize (2 : ℝ) ^ (z - M) = u at hz
  have hs : 0 ≤ ∑ k, w k := Finset.sum_nonneg fun k _ => h0 k
  have hD : ∑ k, w k + u ≠ 0 := by positivity
  rw [← Attn.coe_sum, ← Attn.coe_sum, ← EReal.coe_add, ← EReal.coe_add, ← Finset.sum_mul, ← add_mul, Attn.div_coe _ _ hD, mul_comm,
    Attn.coe_mul_sum _ _ (by positivity)]
  refine Finset.sum_congr rfl fun k _ => ?_
  rw [← Outproj.term_eq (w k) t _ hD ht (W k)]
  rcases hV k with h | h
  · rw [hb k h, EReal.coe_zero, zero_mul, zero_mul]
  · rw [h]

/-- The reference's score is the kernel's times the logarithm of two. -/
theorem scale_score (q k : Fin 64 → ℝ) (b : EReal) (hb : b ≠ ⊤) :
    ∑ d, (k d : EReal) * ((q d : EReal) * ((Real.log 2 : ℝ) : EReal)) + b * ((Real.log 2 : ℝ) : EReal)
      = (∑ d, (q d : EReal) * (k d : EReal) + b) * ((Real.log 2 : ℝ) : EReal) := by
  simp only [← EReal.coe_mul, ← Attn.coe_sum]
  have hs : ∑ d, k d * (q d * Real.log 2) = (∑ d, q d * k d) * Real.log 2 := by
    rw [Finset.sum_mul]
    exact Finset.sum_congr rfl fun d _ => by ring
  rw [hs]
  rcases bot_or_real b hb with h | ⟨r, h⟩
  · rw [h, EReal.bot_mul_coe_of_pos log_two_pos, EReal.add_bot, EReal.add_bot, EReal.bot_mul_coe_of_pos log_two_pos]
  · rw [h, ← EReal.coe_mul, ← EReal.coe_add, ← EReal.coe_add, ← EReal.coe_mul, add_mul]

theorem score_ne_top (q k : Fin 64 → ℝ) (b : EReal) (hb : b ≠ ⊤) : ∑ d, (q d : EReal) * (k d : EReal) + b ≠ ⊤ := by
  simp only [← EReal.coe_mul, ← Attn.coe_sum]
  exact EReal.add_ne_top (EReal.coe_ne_top _) hb

end Cert.Band

end
-- ==== Proof.Band.Block.lean ====
/- What one grid point of mixer A stores: sixteen blocks of 128 tokens. -/
module

public import proofs.«01_k».proof.Proof.Gen.Kernel4Ideal.Value
public import proofs.«01_k».proof.Proof.Band.Step
public import Idealize.ShloMosaic.Lib.Pipeline.ValueKit.Tiles

@[expose] public section

set_option maxRecDepth 16384

noncomputable section

namespace Cert.Band

open Idealize.ShloMosaic Idealize.ShloMosaic.TcCoe Idealize.SL.Sem Cert.Kernel4Ideal Cert.Kernel4Ideal.Gen

theorem hz3 : (![0, 0, 0] : Fin 3 → ℕ) = fun _ => 0 := by decide

/-- The keys of a window that lie outside the sequence: in block `t` of point `n`, of sixteen blocks and two points. -/
def Outside (t n k : ℕ) : Prop := (t = 0 ∧ k < 128 ∧ n = 0) ∨ (t = 15 ∧ 256 ≤ k ∧ n = 1)

instance (t n k : ℕ) : Decidable (Outside t n k) := by unfold Outside; infer_instance

/-- A masked score: token `j` of the point, lane `e` of the result, key `k` of the window. -/
def blockScore (n : ℕ) (x0 : Vec Ideal S1x2048x256 .bf16) (kv : FVec Ideal S2304x128 .bf16) (b : FVec Ideal S512x384 .f32)
    (j : Fin 2048) (e : Fin 256) (k : Fin 384) : EReal :=
  if Outside (j.val / 128) n k.val then ⊥
  else (∑ d : Fin 64, x0 (ix3 0 j ⟨64 * (e.val / 64) + d.val, by omega⟩) * kv (ix2 ⟨128 * (j.val / 128) + k.val, by omega⟩ ⟨d.val, by omega⟩))
    + b (ix2 (stackRow ⟨j.val % 128, by omega⟩ e) k)

/-- What the point stores at token `j`, lane `e`. -/
def blockOut (n : ℕ) (x0 : Vec Ideal S1x2048x256 .bf16) (kv : FVec Ideal S2304x128 .bf16) (b : FVec Ideal S512x384 .f32)
    (x5 : Vec Ideal S1x512x128 .f32) (x6 : Vec Ideal S1x2048x256 .bf16) (j : Fin 2048) (e : Fin 256) : EReal :=
  soft (blockScore n x0 kv b j e) (fun k => x5 (ix3 0 (stackRow ⟨j.val % 128, by omega⟩ e) ⟨k.val % 128, by omega⟩))
      (x5 (ix3 0 (stackRow ⟨j.val % 128, by omega⟩ e) ⟨64 + e.val % 64, by omega⟩))
      (fun k => kv (ix2 ⟨128 * (j.val / 128) + k.val, by omega⟩ ⟨64 + e.val % 64, by omega⟩))
    * (x6 (ix3 0 j e) * Ideal.logistic (x6 (ix3 0 j e)))

/-- One of the sixteen stores. -/
theorem tile_at (n : ℕ) (x0 : Vec Ideal S1x2048x256 .bf16) (kv : FVec Ideal S2304x128 .bf16) (b : FVec Ideal S512x384 .f32)
    (x5 : Vec Ideal S1x512x128 .f32) (x6 : Vec Ideal S1x2048x256 .bf16) (t o : ℕ) (ho : o = 128 * t) (ht : t < 16)
    (inb : ∀ a : Fin S1x2048x256.rank, (![0, o, 0] : Fin 3 → ℕ) a + S1x128x256.size a ≤ S1x2048x256.size a)
    (h : S2304x128.Slices ![o, 0] S384x128) (mask : FVec Ideal S512x384 .f32 → FVec Ideal S512x384 .f32)
    (hm : ∀ (s : FVec Ideal S512x384 .f32) (i : Fin 512) (k : Fin 384), mask s (ix2 i k) = if Outside t n k.val then ⊥ else s (ix2 i k))
    (y : S1x2048x256.Idx) :
    View.TileAt (Val := Elt Ideal) (e := .bf16) y (![0, o, 0] : Fin 3 → ℕ) S1x128x256.size
      (finish (mask (raw (View.ld x0 (Rect.unit (s := S1x2048x256) ![0, o, 0] S1x128x256.size inb)) (win o kv h) b)) (win o kv h) x5
        (View.ld x6 (Rect.unit (s := S1x2048x256) ![0, o, 0] S1x128x256.size inb)))
      (blockOut n x0 kv b x5 x6 (y 1) (y 2)) := by
  intro x hx
  obtain ⟨r, e, rfl⟩ : ∃ (r : Fin 128) (e : Fin 256), x = (ix3 (0 : Fin 1) r e : S1x128x256.Idx) :=
    ⟨x 1, x 2, funext fun a => match a with
      | ⟨0, _⟩ => Subsingleton.elim (α := Fin 1) _ _
      | ⟨1, _⟩ => rfl
      | ⟨2, _⟩ => rfl⟩
  have y1 : (y 1).val = o + r.val := hx 1
  have y2 : (y 2).val = 0 + e.val := hx 2
  have z2 : y 2 = e := Fin.ext (by omega)
  obtain ⟨j, hj⟩ : ∃ j : Fin 2048, j = y 1 := ⟨_, rfl⟩
  have y1' : j.val = o + r.val := (congrArg Fin.val hj).trans y1
  have ht' : j.val / 128 = t := by omega
  have hi (c : Fin 256) : (Rect.unit (s := S1x2048x256) ![0, o, 0] S1x128x256.size inb).idx (ix3 (0 : Fin 1) r c)
      = (ix3 (0 : Fin 1) j c : S1x2048x256.Idx) := by
    funext a
    apply Fin.ext
    match a with
    | ⟨0, _⟩ => rfl
    | ⟨1, _⟩ => show o + 1 * r.val = j.val; omega
    | ⟨2, _⟩ => show 0 + 1 * c.val = c.val; omega
  have hl (v : Vec Ideal S1x2048x256 .bf16) (c : Fin 256) :
      View.ld v (Rect.unit (s := S1x2048x256) ![0, o, 0] S1x128x256.size inb) (ix3 (0 : Fin 1) r c) = v (ix3 0 j c) :=
    congrArg v (hi c)
  have hr : (⟨j.val % 128, by omega⟩ : Fin 128) = r := Fin.ext (by show j.val % 128 = r.val; omega)
  have hw (k : Fin 384) (c : Fin 128) : win o kv h (ix2 k c) = kv (ix2 ⟨128 * (j.val / 128) + k.val, by omega⟩ c) :=
    (win_apply o (by omega) kv h k c).trans (congrArg (fun q => kv (ix2 q c)) (Fin.ext (by show o + k.val = 128 * (j.val / 128) + k.val; omega)))
  have hs (k : Fin 384) : mask (raw (View.ld x0 (Rect.unit (s := S1x2048x256) ![0, o, 0] S1x128x256.size inb)) (win o kv h) b) (ix2 (stackRow r e) k)
      = blockScore n x0 kv b j e k := by
    rw [hm, raw_apply]
    unfold blockScore
    refine if_congr (by rw [ht']) rfl ?_
    rw [hr]
    refine congrArg (· + _) (Finset.sum_congr rfl fun d _ => ?_)
    rw [hl, hw]
  refine (finish_apply _ _ _ _ r e).trans ?_
  rw [z2, ← hj]
  unfold blockOut
  simp only [hr]
  refine congrArg₂ (· * ·) ?_ (congrArg (fun g => g * Ideal.logistic g) (hl x6 e))
  simp only [hs, hw]

/-- What a point leaves in its output block. -/
theorem out_eq (i : grid0.Coords) (x0 : Vec Ideal S1x2048x256 .bf16) (x1 : Vec Ideal S1x128x128 .bf16) (x2 : Vec Ideal S1x2048x128 .bf16)
    (x3 : Vec Ideal S1x128x128 .bf16) (x4 : Vec Ideal S1x512x384 .f32) (x5 : Vec Ideal S1x512x128 .f32) (x6 : Vec Ideal S1x2048x256 .bf16) :
    out0_7 i x0 x1 x2 x3 x4 x5 x6
      = fun y => blockOut (i 2).val x0 (k0_pay2 x1 x2 x3) (k0_pay3 x4) x5 x6 (y 1) (y 2) := by
  have hn : (i 2).val < 2 := (i 2).isLt
  funext y
  unfold out0_7 k0_pay71 k0_pay72 k0_pay73
  rw [piece_0, piece_1, piece_2, piece_3, piece_4, piece_5, piece_6, piece_7, piece_8, piece_9, piece_10, piece_11, piece_12, piece_13,
    piece_14, piece_15]
  have e1 : View.ld x1 r0_0 = x1 := View.ld_unit_zero (S := S1x128x128) hz3 _ _
  have e2 : View.ld x2 r0_1 = x2 := View.ld_unit_zero (S := S1x2048x128) hz3 _ _
  have e3 : View.ld x3 r0_0 = x3 := View.ld_unit_zero (S := S1x128x128) hz3 _ _
  have e4 : View.ld x4 r0_2 = x4 := View.ld_unit_zero (S := S1x512x384) hz3 _ _
  have e5 : View.ld x5 r0_4 = x5 := View.ld_unit_zero (S := S1x512x128) hz3 _ _
  rw [e1, e2, e3, e4, e5]
  generalize k0_pay2 x1 x2 x3 = kv
  generalize k0_pay3 x4 = b
  have mid (t : ℕ) (h0 : 0 < t) (h15 : t < 15) (s : FVec Ideal S512x384 .f32) (p : Fin 512) (k : Fin 384) :
      id s (ix2 p k) = if Outside t (i 2).val k.val then ⊥ else s (ix2 p k) :=
    (if_neg (by unfold Outside; omega)).symm
  have hf (s : FVec Ideal S512x384 .f32) (p : Fin 512) (k : Fin 384) :
      maskFirst (BitVec.ofNat 32 (i 2).val) s (ix2 p k) = if Outside 0 (i 2).val k.val then ⊥ else s (ix2 p k) := by
    refine (maskFirst_apply ⟨(i 2).val, hn⟩ s p k).trans (if_congr ?_ rfl rfl)
    unfold Outside
    simp
  have hl (s : FVec Ideal S512x384 .f32) (p : Fin 512) (k : Fin 384) :
      maskLast (BitVec.ofNat 32 (i 2).val) s (ix2 p k) = if Outside 15 (i 2).val k.val then ⊥ else s (ix2 p k) := by
    refine (maskLast_apply ⟨(i 2).val, hn⟩ s p k).trans (if_congr ?_ rfl rfl)
    unfold Outside
    simp
  refine View.canon_eq_of_allAt _ y _ (cover0_7 _ _ _ _ _ _ _ _ _ _ _ _ _ _ _ _ y) ?_
  refine View.allAt_cons_unit _ _ _ _ _ (tile_at _ x0 kv b x5 x6 15 1920 rfl (by decide) _ _ _ hl y) ?_
  refine View.allAt_cons_unit _ _ _ _ _ (tile_at _ x0 kv b x5 x6 14 1792 rfl (by decide) _ _ id (mid 14 (by decide) (by decide)) y) ?_
  refine View.allAt_cons_unit _ _ _ _ _ (tile_at _ x0 kv b x5 x6 13 1664 rfl (by decide) _ _ id (mid 13 (by decide) (by decide)) y) ?_
  refine View.allAt_cons_unit _ _ _ _ _ (tile_at _ x0 kv b x5 x6 12 1536 rfl (by decide) _ _ id (mid 12 (by decide) (by decide)) y) ?_
  refine View.allAt_cons_unit _ _ _ _ _ (tile_at _ x0 kv b x5 x6 11 1408 rfl (by decide) _ _ id (mid 11 (by decide) (by decide)) y) ?_
  refine View.allAt_cons_unit _ _ _ _ _ (tile_at _ x0 kv b x5 x6 10 1280 rfl (by decide) _ _ id (mid 10 (by decide) (by decide)) y) ?_
  refine View.allAt_cons_unit _ _ _ _ _ (tile_at _ x0 kv b x5 x6 9 1152 rfl (by decide) _ _ id (mid 9 (by decide) (by decide)) y) ?_
  refine View.allAt_cons_unit _ _ _ _ _ (tile_at _ x0 kv b x5 x6 8 1024 rfl (by decide) _ _ id (mid 8 (by decide) (by decide)) y) ?_
  refine View.allAt_cons_unit _ _ _ _ _ (tile_at _ x0 kv b x5 x6 7 896 rfl (by decide) _ _ id (mid 7 (by decide) (by decide)) y) ?_
  refine View.allAt_cons_unit _ _ _ _ _ (tile_at _ x0 kv b x5 x6 6 768 rfl (by decide) _ _ id (mid 6 (by decide) (by decide)) y) ?_
  refine View.allAt_cons_unit _ _ _ _ _ (tile_at _ x0 kv b x5 x6 5 640 rfl (by decide) _ _ id (mid 5 (by decide) (by decide)) y) ?_
  refine View.allAt_cons_unit _ _ _ _ _ (tile_at _ x0 kv b x5 x6 4 512 rfl (by decide) _ _ id (mid 4 (by decide) (by decide)) y) ?_
  refine View.allAt_cons_unit _ _ _ _ _ (tile_at _ x0 kv b x5 x6 3 384 rfl (by decide) _ _ id (mid 3 (by decide) (by decide)) y) ?_
  refine View.allAt_cons_unit _ _ _ _ _ (tile_at _ x0 kv b x5 x6 2 256 rfl (by decide) _ _ id (mid 2 (by decide) (by decide)) y) ?_
  refine View.allAt_cons_unit _ _ _ _ _ (tile_at _ x0 kv b x5 x6 1 128 rfl (by decide) _ _ id (mid 1 (by decide) (by decide)) y) ?_
  exact View.allAt_cons_unit _ _ _ _ _ (tile_at _ x0 kv b x5 x6 0 0 rfl (by decide) _ _ _ hf y) (View.allAt_nil _ _)

end Cert.Band

end
-- ==== Proof.Band.Value.lean ====
/- Mixer A's result array, as one function of its arguments. -/
module

public import proofs.«01_k».proof.Proof.Band.Block
public import Idealize.ShloMosaic.Lib.Pointwise
public import Idealize.ShloMosaic.Lib.ValueIdx
public import Idealize.ShloMosaic.Lib.IdealHost
public import Idealize.ShloMosaic.Lib.StableHlo.Run
public import Idealize.ShloMosaic.Lib.Pipeline.ValueKit.Tiles

@[expose] public section

set_option maxRecDepth 16384

noncomputable section

namespace Cert.Band

open Idealize.ShloMosaic Idealize.ShloMosaic.TcCoe Idealize.SL.Sem Cert.Kernel4Ideal Cert.Kernel4Ideal.Gen
open Idealize.ShloMosaic.Pipeline (Dat)

/-- The place of a key among 34 blocks of 128: the sequence's 32, one before them and one after. -/
def place (s : Fin 4096) (k : Fin 384) : Fin 4352 := ⟨128 * (s.val / 128) + k.val, by omega⟩

/-- The token at a place; before the sequence its first block again, after it its last. -/
def tokenOf (p : Fin 4352) : Fin 4096 :=
  ⟨if p.val < 128 then p.val else if p.val < 4224 then p.val - 128 else p.val - 256, by split_ifs <;> omega⟩

/-- The plain score: query token `s` and lane `e` of the result against key `k` of the token's window. -/
def plain (A : Vec Ideal S8x4096x3072 .bf16) (B : Vec Ideal S3x512x384 .f32) (b : Fin 8) (s : Fin 4096) (e : Fin 768) (k : Fin 384) : EReal :=
  (∑ d : Fin 64, A (ix3 b s (⟨64 * (e.val / 64) + d.val, by omega⟩ : Fin 3072))
      * A (ix3 b (tokenOf (place s k)) (⟨2048 + 128 * (e.val / 256) + d.val, by omega⟩ : Fin 3072)))
    + B (ix3 (⟨e.val / 256, by omega⟩ : Fin 3) (⟨128 * (e.val / 64 % 4) + s.val % 128, by omega⟩ : Fin 512) k)

/-- The masked score. -/
def score (A : Vec Ideal S8x4096x3072 .bf16) (B : Vec Ideal S3x512x384 .f32) (b : Fin 8) (s : Fin 4096) (e : Fin 768) (k : Fin 384) : EReal :=
  if (place s k).val < 128 ∨ 4224 ≤ (place s k).val then ⊥ else plain A B b s e k

/-- The value at key `k` of the window. -/
def valueAt (A : Vec Ideal S8x4096x3072 .bf16) (b : Fin 8) (s : Fin 4096) (e : Fin 768) (k : Fin 384) : EReal :=
  A (ix3 b (tokenOf (place s k)) (⟨2112 + 128 * (e.val / 256) + e.val % 64, by omega⟩ : Fin 3072))

/-- The gate. -/
def gateAt (P : Vec Ideal S8x4096x6656 .bf16) (b : Fin 8) (s : Fin 4096) (e : Fin 768) : EReal :=
  P (ix3 b s (⟨4608 + e.val, by omega⟩ : Fin 6656)) * Ideal.logistic (P (ix3 b s (⟨4608 + e.val, by omega⟩ : Fin 6656)))

/-- One entry of the result. -/
def entry (A : Vec Ideal S8x4096x3072 .bf16) (P : Vec Ideal S8x4096x6656 .bf16) (B : Vec Ideal S3x512x384 .f32) (S : Vec Ideal S12 .f32)
    (b : Fin 8) (s : Fin 4096) (e : Fin 768) : EReal :=
  soft (score A B b s e) (fun _ => S (ix1 (⟨e.val / 64, by omega⟩ : Fin 12))) (S (ix1 (⟨e.val / 64, by omega⟩ : Fin 12)))
    (valueAt A b s e) * gateAt P b s e

/-- The whole result. -/
def result (A : Vec Ideal S8x4096x3072 .bf16) (P : Vec Ideal S8x4096x6656 .bf16) (B : Vec Ideal S3x512x384 .f32) (S : Vec Ideal S12 .f32) :
    Vec Ideal S8x4096x768 .bf16 :=
  fun i => entry A P B S (i 0) (i 1) (i 2)

/-! ## The blocks -/

theorem index0 : ∀ t : Fin grid0.N, win0_0.index t = ![t.val / 6, t.val % 2, t.val / 2 % 3] := by decide +kernel
theorem index1 : ∀ t : Fin grid0.N, win0_1.index t = ![t.val / 6, 16 * (t.val % 2) - 1, 16 + t.val / 2 % 3] := by decide +kernel
theorem index2 : ∀ t : Fin grid0.N, win0_2.index t = ![t.val / 6, t.val % 2, 16 + t.val / 2 % 3] := by decide +kernel
theorem index3 : ∀ t : Fin grid0.N, win0_3.index t = ![t.val / 6, 16 + 15 * (t.val % 2), 16 + t.val / 2 % 3] := by decide +kernel
theorem index4 : ∀ t : Fin grid0.N, win0_4.index t = ![t.val / 2 % 3, 0, 0] := by decide +kernel
theorem index5 : ∀ t : Fin grid0.N, win0_5.index t = ![t.val / 2 % 3, 0, 0] := by decide +kernel
theorem index6 : ∀ t : Fin grid0.N, win0_6.index t = ![t.val / 6, t.val % 2, 18 + t.val / 2 % 3] := by decide +kernel
theorem index7 : ∀ t : Fin grid0.N, win0_7.index t = ![t.val / 6, t.val % 2, t.val / 2 % 3] := by decide +kernel
theorem coord2 : ∀ t : Fin grid0.N, (grid0.coords t 2).val = t.val % 2 := by decide +kernel

theorem lt_points (t : Fin cfg0.N) : t.val < 48 := lt_of_lt_of_eq t.isLt N_0

variable (m : (ℓ : Loc nD τ sig) → Buf (Elt Ideal) ℓ) (c : Dev nD)

/-- The arguments, at entry. -/
abbrev mainArr : Vec Ideal S8x4096x3072 .bf16 := m ((c.tc : Thread nD τ).loc main_arg0)
abbrev projArr : Vec Ideal S8x4096x6656 .bf16 := m ((c.tc : Thread nD τ).loc main_arg1)
abbrev biasArr : Vec Ideal S3x512x384 .f32 := m ((c.tc : Thread nD τ).loc main_arg2)
abbrev sinkArr : Vec Ideal S12 .f32 := m ((c.tc : Thread nD τ).loc main_arg3)

/-- The sink logits as the program lays them out before the grid: one row of 128 equal numbers per row of a stack. -/
theorem layout (h : Fin 3) (i : Fin 512) (l : Fin 128) :
    (V m c main_v4 : Vec Ideal S3x512x128 .f32) (ix3 h i l) = sinkArr m c (ix1 (⟨4 * h.val + i.val / 128, by omega⟩ : Fin 12)) := by
  have e : (V m c main_v4 : Vec Ideal S3x512x128 .f32)
      = shapeCast S3x512x128 (broadcastInDim S1536x128 ![0, 1] bcast_S1536x1_S1536x128_0_1
          (broadcastInDim S1536x1 ![0] bcast_S1536_S1536x1_0
            (shapeCast S1536 (broadcastInDim S12x128 ![0] bcast_S12_S12x128_0 (sinkArr m c)) shapeCasts_S12x128_S1536)))
          shapeCasts_S1536x128_S3x512x128 := by
    show StableHlo.after hostOps0 (fun b => m (c, b)) (Proc.devRef .tc main_v4) = _
    after_results
    rfl
  rw [e]
  pointwise
  refine congrArg (fun x => sinkArr m c (ix1 x)) (Fin.ext ?_)
  show (h.val * 512 + i.val) / 128 = 4 * h.val + i.val / 128
  omega

/-- The blocks that point `t` reads. -/
abbrev blk0 (t : Fin cfg0.N) : Vec Ideal S1x2048x256 .bf16 := iblk m c 0 t
abbrev blk1 (t : Fin cfg0.N) : Vec Ideal S1x128x128 .bf16 := iblk m c 1 t
abbrev blk2 (t : Fin cfg0.N) : Vec Ideal S1x2048x128 .bf16 := iblk m c 2 t
abbrev blk3 (t : Fin cfg0.N) : Vec Ideal S1x128x128 .bf16 := iblk m c 3 t
abbrev blk4 (t : Fin cfg0.N) : Vec Ideal S1x512x384 .f32 := iblk m c 4 t
abbrev blk5 (t : Fin cfg0.N) : Vec Ideal S1x512x128 .f32 := iblk m c 5 t
abbrev blk6 (t : Fin cfg0.N) : Vec Ideal S1x2048x256 .bf16 := iblk m c 6 t

/-- The batch and the key head of a point, and the token and the lane that are token `j`, lane `e` at the point. -/
def batchAt (t : Fin cfg0.N) : Fin 8 := ⟨t.val / 6, by have := lt_points t; omega⟩
def headAt (t : Fin cfg0.N) : Fin 3 := ⟨t.val / 2 % 3, by omega⟩
def tokenAt (t : Fin cfg0.N) (j : Fin 2048) : Fin 4096 := ⟨2048 * (t.val % 2) + j.val, by omega⟩
def laneAt (t : Fin cfg0.N) (e : Fin 256) : Fin 768 := ⟨256 * (t.val / 2 % 3) + e.val, by omega⟩

theorem block0 (t : Fin cfg0.N) (j : Fin 2048) (e : Fin 256) :
    blk0 m c t (ix3 0 j e) = mainArr m c (ix3 (batchAt t) (tokenAt t j) (⟨256 * (t.val / 2 % 3) + e.val, by omega⟩ : Fin 3072)) := by
  have h := index0 t
  unfold blk0 iblk
  rw [View.read_apply]
  show V m c main_arg0 _ = _
  rw [V_main_arg0]
  refine congrArg (mainArr m c) (funext fun a => Fin.ext ?_)
  match a with
  | ⟨0, _⟩ => show win0_0.index t 0 * 1 + 1 * 0 = t.val / 6; rw [h]; show t.val / 6 * 1 + 1 * 0 = _; omega
  | ⟨1, _⟩ => show win0_0.index t 1 * 2048 + 1 * j.val = 2048 * (t.val % 2) + j.val; rw [h]; show t.val % 2 * 2048 + 1 * j.val = _; omega
  | ⟨2, _⟩ =>
    show win0_0.index t 2 * 256 + 1 * e.val = 256 * (t.val / 2 % 3) + e.val
    rw [h]; show t.val / 2 % 3 * 256 + 1 * e.val = _; omega

theorem block1 (t : Fin cfg0.N) (j : Fin 128) (e : Fin 128) :
    blk1 m c t (ix3 0 j e) = mainArr m c (ix3 (batchAt t) (⟨128 * (16 * (t.val % 2) - 1) + j.val, by omega⟩ : Fin 4096)
      (⟨2048 + 128 * (t.val / 2 % 3) + e.val, by omega⟩ : Fin 3072)) := by
  have h := index1 t
  unfold blk1 iblk
  rw [View.read_apply]
  show V m c main_arg0 _ = _
  rw [V_main_arg0]
  refine congrArg (mainArr m c) (funext fun a => Fin.ext ?_)
  match a with
  | ⟨0, _⟩ => show win0_1.index t 0 * 1 + 1 * 0 = t.val / 6; rw [h]; show t.val / 6 * 1 + 1 * 0 = _; omega
  | ⟨1, _⟩ =>
    show win0_1.index t 1 * 128 + 1 * j.val = 128 * (16 * (t.val % 2) - 1) + j.val
    rw [h]; show (16 * (t.val % 2) - 1) * 128 + 1 * j.val = _; omega
  | ⟨2, _⟩ =>
    show win0_1.index t 2 * 128 + 1 * e.val = 2048 + 128 * (t.val / 2 % 3) + e.val
    rw [h]; show (16 + t.val / 2 % 3) * 128 + 1 * e.val = _; omega

theorem block2 (t : Fin cfg0.N) (j : Fin 2048) (e : Fin 128) :
    blk2 m c t (ix3 0 j e) = mainArr m c (ix3 (batchAt t) (tokenAt t j) (⟨2048 + 128 * (t.val / 2 % 3) + e.val, by omega⟩ : Fin 3072)) := by
  have h := index2 t
  unfold blk2 iblk
  rw [View.read_apply]
  show V m c main_arg0 _ = _
  rw [V_main_arg0]
  refine congrArg (mainArr m c) (funext fun a => Fin.ext ?_)
  match a with
  | ⟨0, _⟩ => show win0_2.index t 0 * 1 + 1 * 0 = t.val / 6; rw [h]; show t.val / 6 * 1 + 1 * 0 = _; omega
  | ⟨1, _⟩ => show win0_2.index t 1 * 2048 + 1 * j.val = 2048 * (t.val % 2) + j.val; rw [h]; show t.val % 2 * 2048 + 1 * j.val = _; omega
  | ⟨2, _⟩ =>
    show win0_2.index t 2 * 128 + 1 * e.val = 2048 + 128 * (t.val / 2 % 3) + e.val
    rw [h]; show (16 + t.val / 2 % 3) * 128 + 1 * e.val = _; omega

theorem block3 (t : Fin cfg0.N) (j : Fin 128) (e : Fin 128) :
    blk3 m c t (ix3 0 j e) = mainArr m c (ix3 (batchAt t) (⟨128 * (16 + 15 * (t.val % 2)) + j.val, by omega⟩ : Fin 4096)
      (⟨2048 + 128 * (t.val / 2 % 3) + e.val, by omega⟩ : Fin 3072)) := by
  have h := index3 t
  unfold blk3 iblk
  rw [View.read_apply]
  show V m c main_arg0 _ = _
  rw [V_main_arg0]
  refine congrArg (mainArr m c) (funext fun a => Fin.ext ?_)
  match a with
  | ⟨0, _⟩ => show win0_3.index t 0 * 1 + 1 * 0 = t.val / 6; rw [h]; show t.val / 6 * 1 + 1 * 0 = _; omega
  | ⟨1, _⟩ =>
    show win0_3.index t 1 * 128 + 1 * j.val = 128 * (16 + 15 * (t.val % 2)) + j.val
    rw [h]; show (16 + 15 * (t.val % 2)) * 128 + 1 * j.val = _; omega
  | ⟨2, _⟩ =>
    show win0_3.index t 2 * 128 + 1 * e.val = 2048 + 128 * (t.val / 2 % 3) + e.val
    rw [h]; show (16 + t.val / 2 % 3) * 128 + 1 * e.val = _; omega

theorem block4 (t : Fin cfg0.N) (i : Fin 512) (k : Fin 384) : blk4 m c t (ix3 0 i k) = biasArr m c (ix3 (headAt t) i k) := by
  have h := index4 t
  unfold blk4 iblk
  rw [View.read_apply]
  show V m c main_arg2 _ = _
  rw [V_main_arg2]
  refine congrArg (biasArr m c) (funext fun a => Fin.ext ?_)
  match a with
  | ⟨0, _⟩ => show win0_4.index t 0 * 1 + 1 * 0 = t.val / 2 % 3; rw [h]; show t.val / 2 % 3 * 1 + 1 * 0 = _; omega
  | ⟨1, _⟩ => show win0_4.index t 1 * 512 + 1 * i.val = i.val; rw [h]; show 0 * 512 + 1 * i.val = _; omega
  | ⟨2, _⟩ => show win0_4.index t 2 * 384 + 1 * k.val = k.val; rw [h]; show 0 * 384 + 1 * k.val = _; omega

theorem block5 (t : Fin cfg0.N) (i : Fin 512) (l : Fin 128) :
    blk5 m c t (ix3 0 i l) = sinkArr m c (ix1 (⟨4 * (t.val / 2 % 3) + i.val / 128, by omega⟩ : Fin 12)) := by
  have h := index5 t
  refine Eq.trans ?_ (layout m c (headAt t) i l)
  unfold blk5 iblk
  rw [View.read_apply]
  show V m c main_v4 _ = _
  refine congrArg (V m c main_v4) (funext fun a => Fin.ext ?_)
  match a with
  | ⟨0, _⟩ => show win0_5.index t 0 * 1 + 1 * 0 = t.val / 2 % 3; rw [h]; show t.val / 2 % 3 * 1 + 1 * 0 = _; omega
  | ⟨1, _⟩ => show win0_5.index t 1 * 512 + 1 * i.val = i.val; rw [h]; show 0 * 512 + 1 * i.val = _; omega
  | ⟨2, _⟩ => show win0_5.index t 2 * 128 + 1 * l.val = l.val; rw [h]; show 0 * 128 + 1 * l.val = _; omega

theorem block6 (t : Fin cfg0.N) (j : Fin 2048) (e : Fin 256) :
    blk6 m c t (ix3 0 j e) = projArr m c (ix3 (batchAt t) (tokenAt t j) (⟨4608 + (256 * (t.val / 2 % 3) + e.val), by omega⟩ : Fin 6656)) := by
  have h := index6 t
  unfold blk6 iblk
  rw [View.read_apply]
  show V m c main_arg1 _ = _
  rw [V_main_arg1]
  refine congrArg (projArr m c) (funext fun a => Fin.ext ?_)
  match a with
  | ⟨0, _⟩ => show win0_6.index t 0 * 1 + 1 * 0 = t.val / 6; rw [h]; show t.val / 6 * 1 + 1 * 0 = _; omega
  | ⟨1, _⟩ => show win0_6.index t 1 * 2048 + 1 * j.val = 2048 * (t.val % 2) + j.val; rw [h]; show t.val % 2 * 2048 + 1 * j.val = _; omega
  | ⟨2, _⟩ =>
    show win0_6.index t 2 * 256 + 1 * e.val = 4608 + (256 * (t.val / 2 % 3) + e.val)
    rw [h]; show (18 + t.val / 2 % 3) * 256 + 1 * e.val = _; omega

/-- The point's 2304 rows of keys and values are the tokens at the places of its blocks. -/
theorem keys_eq (t : Fin cfg0.N) (l : Fin 2304) (e : Fin 128) :
    k0_pay2 (blk1 m c t) (blk2 m c t) (blk3 m c t) (ix2 l e)
      = mainArr m c (ix3 (batchAt t) (tokenOf ⟨2048 * (t.val % 2) + l.val, by omega⟩)
          (⟨2048 + 128 * (t.val / 2 % 3) + e.val, by omega⟩ : Fin 3072)) := by
  rw [pay2_apply]
  by_cases h : l.val < 128
  · simp only [dif_pos h]
    rw [block1]
    refine congrArg (fun x => mainArr m c (ix3 _ x _)) (Fin.ext ?_)
    show 128 * (16 * (t.val % 2) - 1) + l.val = if 2048 * (t.val % 2) + l.val < 128 then 2048 * (t.val % 2) + l.val else if 2048 * (t.val % 2) + l.val < 4224 then 2048 * (t.val % 2) + l.val - 128 else 2048 * (t.val % 2) + l.val - 256
    split_ifs <;> omega
  · simp only [dif_neg h]
    by_cases h' : l.val < 2176
    · simp only [dif_pos h']
      rw [block2]
      refine congrArg (fun x => mainArr m c (ix3 _ x _)) (Fin.ext ?_)
      show 2048 * (t.val % 2) + (l.val - 128) = if 2048 * (t.val % 2) + l.val < 128 then 2048 * (t.val % 2) + l.val else if 2048 * (t.val % 2) + l.val < 4224 then 2048 * (t.val % 2) + l.val - 128 else 2048 * (t.val % 2) + l.val - 256
      split_ifs <;> omega
    · simp only [dif_neg h']
      rw [block3]
      refine congrArg (fun x => mainArr m c (ix3 _ x _)) (Fin.ext ?_)
      show 128 * (16 + 15 * (t.val % 2)) + (l.val - 2176) = if 2048 * (t.val % 2) + l.val < 128 then 2048 * (t.val % 2) + l.val else if 2048 * (t.val % 2) + l.val < 4224 then 2048 * (t.val % 2) + l.val - 128 else 2048 * (t.val % 2) + l.val - 256
      split_ifs <;> omega

/-! ## The result -/

/-- What a point stores is the result at its place. -/
theorem blockOut_eq (t : Fin cfg0.N) (j : Fin 2048) (e : Fin 256) :
    blockOut (t.val % 2) (blk0 m c t) (k0_pay2 (blk1 m c t) (blk2 m c t) (blk3 m c t)) (k0_pay3 (blk4 m c t)) (blk5 m c t) (blk6 m c t) j e
      = entry (mainArr m c) (projArr m c) (biasArr m c) (sinkArr m c) (batchAt t) (tokenAt t j) (laneAt t e) := by
  unfold blockOut entry
  have hp (k : Fin 384) : (⟨2048 * (t.val % 2) + (128 * (j.val / 128) + k.val), by omega⟩ : Fin 4352) = place (tokenAt t j) k :=
    Fin.ext (by show 2048 * (t.val % 2) + (128 * (j.val / 128) + k.val) = 128 * ((2048 * (t.val % 2) + j.val) / 128) + k.val; omega)
  have hs : blockScore (t.val % 2) (blk0 m c t) (k0_pay2 (blk1 m c t) (blk2 m c t) (blk3 m c t)) (k0_pay3 (blk4 m c t)) j e
      = score (mainArr m c) (biasArr m c) (batchAt t) (tokenAt t j) (laneAt t e) := by
    funext k
    unfold blockScore score
    have hO : Outside (j.val / 128) (t.val % 2) k.val ↔ (place (tokenAt t j) k).val < 128 ∨ 4224 ≤ (place (tokenAt t j) k).val := by
      rw [← hp k]
      unfold Outside
      dsimp only
      omega
    rw [if_congr hO rfl rfl]
    congr 1
    unfold plain
    refine congrArg₂ (· + ·) (Finset.sum_congr rfl fun d _ => ?_) ?_
    · rw [block0, keys_eq]
      refine congrArg₂ (· * ·) (congrArg (fun x => mainArr m c (ix3 _ _ x)) (Fin.ext ?_)) ?_
      · show 256 * (t.val / 2 % 3) + (64 * (e.val / 64) + d.val) = 64 * ((256 * (t.val / 2 % 3) + e.val) / 64) + d.val
        omega
      · refine congrArg₂ (fun x y => mainArr m c (ix3 _ x y)) (congrArg tokenOf (hp k)) (Fin.ext ?_)
        show 2048 + 128 * (t.val / 2 % 3) + d.val = 2048 + 128 * ((256 * (t.val / 2 % 3) + e.val) / 256) + d.val
        omega
    · rw [pay3_apply, block4]
      refine congrArg₂ (fun x y => biasArr m c (ix3 x y k)) (Fin.ext ?_) (Fin.ext ?_)
      · show t.val / 2 % 3 = (256 * (t.val / 2 % 3) + e.val) / 256
        omega
      · show 128 * (e.val / 64) + j.val % 128 = 128 * ((256 * (t.val / 2 % 3) + e.val) / 64 % 4) + (2048 * (t.val % 2) + j.val) % 128
        omega
  have hz (l : Fin 128) : blk5 m c t (ix3 0 (stackRow ⟨j.val % 128, by omega⟩ e) l)
      = sinkArr m c (ix1 (⟨(laneAt t e).val / 64, by omega⟩ : Fin 12)) := by
    rw [block5]
    refine congrArg (fun x => sinkArr m c (ix1 x)) (Fin.ext ?_)
    show 4 * (t.val / 2 % 3) + (128 * (e.val / 64) + j.val % 128) / 128 = (256 * (t.val / 2 % 3) + e.val) / 64
    omega
  have hv : (fun k : Fin 384 => k0_pay2 (blk1 m c t) (blk2 m c t) (blk3 m c t)
        (ix2 ⟨128 * (j.val / 128) + k.val, by omega⟩ ⟨64 + e.val % 64, by omega⟩))
      = valueAt (mainArr m c) (batchAt t) (tokenAt t j) (laneAt t e) := by
    funext k
    unfold valueAt
    rw [keys_eq]
    refine congrArg₂ (fun x y => mainArr m c (ix3 _ x y)) (congrArg tokenOf (hp k)) (Fin.ext ?_)
    show 2048 + 128 * (t.val / 2 % 3) + (64 + e.val % 64)
      = 2112 + 128 * ((256 * (t.val / 2 % 3) + e.val) / 256) + (256 * (t.val / 2 % 3) + e.val) % 64
    omega
  have hg : blk6 m c t (ix3 0 j e) * Ideal.logistic (blk6 m c t (ix3 0 j e)) = gateAt (projArr m c) (batchAt t) (tokenAt t j) (laneAt t e) := by
    rw [block6]
    rfl
  rw [hs, hv, hg, hz]
  simp only [hz]

/-- The point whose block holds an index. -/
def pointOf (i : S8x4096x768.Idx) : Fin cfg0.N :=
  ⟨6 * (i 0).val + 2 * ((i 2).val / 256) + (i 1).val / 2048, by
    have h0 : (i 0).val < 8 := (i 0).isLt
    have h1 : (i 1).val < 4096 := (i 1).isLt
    have h2 : (i 2).val < 768 := (i 2).isLt
    rw [show cfg0.N = 48 from N_0]; omega⟩

theorem flushed_eq (t : Fin cfg0.N) :
    (dats m 0 c).flushed 7 t
      = ((cfg0.win 7).blk t).view.read (Elt Ideal) (result (mainArr m c) (projArr m c) (biasArr m c) (sinkArr m c)) := by
  rw [Cert.Kernel4Ideal.Value.flushed7]
  have h := index7 t
  funext y
  obtain ⟨z, j, e, rfl⟩ : ∃ (z : Fin 1) (j : Fin 2048) (e : Fin 256), y = (ix3 z j e : S1x2048x256.Idx) :=
    ⟨y 0, y 1, y 2, by funext a; match a with | ⟨0, _⟩ => rfl | ⟨1, _⟩ => rfl | ⟨2, _⟩ => rfl⟩
  obtain rfl : z = 0 := Subsingleton.elim _ _
  have e1 := congrFun (out_eq (grid0.coords t) (blk0 m c t) (blk1 m c t) (blk2 m c t) (blk3 m c t) (blk4 m c t) (blk5 m c t) (blk6 m c t))
    (ix3 0 j e : S1x2048x256.Idx)
  rw [coord2 t] at e1
  refine (e1.trans (blockOut_eq m c t j e)).trans ?_
  rw [View.read_apply]
  show result _ _ _ _ (ix3 (batchAt t) (tokenAt t j) (laneAt t e)) = result _ _ _ _ _
  refine congrArg (result _ _ _ _) (funext fun a => Fin.ext ?_)
  match a with
  | ⟨0, _⟩ => show t.val / 6 = win0_7.index t 0 * 1 + 1 * 0; rw [h]; show _ = t.val / 6 * 1 + 1 * 0; omega
  | ⟨1, _⟩ =>
    show 2048 * (t.val % 2) + j.val = win0_7.index t 1 * 2048 + 1 * j.val
    rw [h]; show _ = t.val % 2 * 2048 + 1 * j.val; omega
  | ⟨2, _⟩ =>
    show 256 * (t.val / 2 % 3) + e.val = win0_7.index t 2 * 256 + 1 * e.val
    rw [h]; show _ = t.val / 2 % 3 * 256 + 1 * e.val; omega

theorem covered (i : S8x4096x768.Idx) : ∃ t : Fin cfg0.N, (cfg0.win 7).flush t = true ∧ i ∈ ((cfg0.win 7).blk t).view.set := by
  refine ⟨pointOf i, flush0_7 _, ?_⟩
  have h := index7 (pointOf i)
  have h0 : (i 0).val < 8 := (i 0).isLt
  have h1 : (i 1).val < 4096 := (i 1).isLt
  have h2 : (i 2).val < 768 := (i 2).isLt
  have e : (pointOf i).val = 6 * (i 0).val + 2 * ((i 2).val / 256) + (i 1).val / 2048 := rfl
  show i ∈ ((View.whole main_v5).slice (win0_7.rect (pointOf i))).set
  rw [View.set_slice_whole, Rect.mem_set_unit]
  intro a
  match a with
  | ⟨0, _⟩ =>
    show win0_7.index (pointOf i) 0 * 1 ≤ (i 0).val ∧ (i 0).val < win0_7.index (pointOf i) 0 * 1 + 1
    rw [h]
    show (pointOf i).val / 6 * 1 ≤ (i 0).val ∧ (i 0).val < (pointOf i).val / 6 * 1 + 1
    omega
  | ⟨1, _⟩ =>
    show win0_7.index (pointOf i) 1 * 2048 ≤ (i 1).val ∧ (i 1).val < win0_7.index (pointOf i) 1 * 2048 + 2048
    rw [h]
    show (pointOf i).val % 2 * 2048 ≤ (i 1).val ∧ (i 1).val < (pointOf i).val % 2 * 2048 + 2048
    omega
  | ⟨2, _⟩ =>
    show win0_7.index (pointOf i) 2 * 256 ≤ (i 2).val ∧ (i 2).val < win0_7.index (pointOf i) 2 * 256 + 256
    rw [h]
    show (pointOf i).val / 2 % 3 * 256 ≤ (i 2).val ∧ (i 2).val < (pointOf i).val / 2 % 3 * 256 + 256
    omega

/-- The result array after the run. -/
theorem array_eq : (dats m 0 c).arrAt 7 cfg0.N = result (mainArr m c) (projArr m c) (biasArr m c) (sinkArr m c) :=
  (dats m 0 c).arrAt_eq_of_cover 7 _ (fun t _ => flushed_eq m c t) covered

end Cert.Band

end
-- ==== Proof.Band.RefValue.lean ====
/- The result of mixer A's reference, entry by entry. -/
module

public import proofs.«01_k».proof.Proof.Gen.Reference4Ideal.Read
public import proofs.«01_k».proof.Proof.Attn.RefValue
public import proofs.«01_k».proof.Proof.Band.Math
public import proofs.«01_k».proof.Proof.Band.Value
public import Idealize.ShloMosaic.Lib.Pointwise
public import Idealize.ShloMosaic.Lib.IdealHost

@[expose] public section

set_option maxRecDepth 16384

noncomputable section

namespace Cert.Band

open Idealize.ShloMosaic Cert.Reference4Ideal Cert.Reference4Ideal.Gen Cert.Reference4Ideal.Read

/-! ## The windows of 384 keys -/

/-- The reference's padded sequence, its blocks of 128 and the windows of three blocks. -/
def padded (y : FVec Ideal S8x4096x3x64 .f32) : FVec Ideal S8x4352x3x64 .f32 :=
  concatenate S8x4352x3x64 1 [⟨S8x128x3x64, (val_main_v9 (F := Ideal))⟩, ⟨S8x4096x3x64, y⟩, ⟨S8x128x3x64, (val_main_v9 (F := Ideal))⟩]
    concatenates_S8x128x3x64_S8x4096x3x64_S8x128x3x64_S8x4352x3x64_d1

def blocks (y : FVec Ideal S8x4096x3x64 .f32) : FVec Ideal S8x34x128x3x64 .f32 :=
  shapeCast _ (padded y) shapeCasts_S8x4352x3x64_S8x34x128x3x64

def joined (u : FVec Ideal S8x34x128x3x64 .f32) : FVec Ideal S8x32x384x3x64 .f32 :=
  concatenate S8x32x384x3x64 2
    [⟨S8x32x128x3x64, extractStridedSlice S8x32x128x3x64 ![0, 0, 0, 0, 0] u slices_S8x34x128x3x64_S8x32x128x3x64_0_0_0_0_0⟩,
      ⟨S8x32x128x3x64, extractStridedSlice S8x32x128x3x64 ![0, 1, 0, 0, 0] u slices_S8x34x128x3x64_S8x32x128x3x64_0_1_0_0_0⟩,
      ⟨S8x32x128x3x64, extractStridedSlice S8x32x128x3x64 ![0, 2, 0, 0, 0] u slices_S8x34x128x3x64_S8x32x128x3x64_0_2_0_0_0⟩]
    concatenates_S8x32x128x3x64_S8x32x128x3x64_S8x32x128x3x64_S8x32x384x3x64_d2

def windows (y : FVec Ideal S8x4096x3x64 .f32) : FVec Ideal S256x384x3x64 .f32 :=
  shapeCast _ (joined (blocks y)) shapeCasts_S8x32x384x3x64_S256x384x3x64

theorem keys_windows (A : Vec Ideal S8x4096x3072 .bf16) : val_main_v18 (F := Ideal) A = windows (val_main_v11 (F := Ideal) A) := rfl

theorem values_windows (A : Vec Ideal S8x4096x3072 .bf16) : val_main_v27 (F := Ideal) A = windows (val_main_v20 (F := Ideal) A) := rfl

set_option maxHeartbeats 1000000 in
theorem padded_apply (y : FVec Ideal S8x4096x3x64 .f32) (b : Fin 8) (p : Fin 4352) (h : Fin 3) (d : Fin 64) (h1 : ¬p.val < 128) (h2 : p.val < 4224) :
    padded y (ix4 b p h d) = y (ix4 b (⟨p.val - 128, by omega⟩ : Fin 4096) h d) := by
  unfold padded
  generalize val_main_v9 (F := Ideal) = z
  pointwise
  simp only [dif_neg h1, dif_pos (show p.val - 128 < 4096 by omega)]

theorem blocks_apply (y : FVec Ideal S8x4096x3x64 .f32) (b : Fin 8) (x : Fin 34) (r : Fin 128) (h : Fin 3) (d : Fin 64) :
    blocks y (ix5 b x r h d) = padded y (ix4 b (⟨128 * x.val + r.val, by omega⟩ : Fin 4352) h d) := by
  unfold blocks
  generalize padded y = u
  pointwise
  exact congrArg (fun x => u (ix4 b x h d)) (Fin.ext (by show x.val * 128 + r.val = 128 * x.val + r.val; omega))

set_option maxHeartbeats 1000000 in
theorem joined_apply (u : FVec Ideal S8x34x128x3x64 .f32) (b : Fin 8) (w : Fin 32) (k : Fin 384) (h : Fin 3) (d : Fin 64) :
    joined u (ix5 b w k h d) = u (ix5 b (⟨w.val + k.val / 128, by omega⟩ : Fin 34) (⟨k.val % 128, by omega⟩ : Fin 128) h d) := by
  unfold joined
  pointwise
  by_cases h1 : k.val < 128
  · simp only [dif_pos h1]
    exact congrArg₂ (fun x y => u (ix5 b x y h d)) (Fin.ext (by show w.val = w.val + k.val / 128; omega))
      (Fin.ext (by show k.val = k.val % 128; omega))
  · by_cases h2 : k.val - 128 < 128
    · simp only [dif_neg h1, dif_pos h2]
      exact congrArg₂ (fun x y => u (ix5 b x y h d)) (Fin.ext (by show 1 + w.val = w.val + k.val / 128; omega))
        (Fin.ext (by show k.val - 128 = k.val % 128; omega))
    · simp only [dif_neg h1, dif_neg h2]
      exact congrArg₂ (fun x y => u (ix5 b x y h d)) (Fin.ext (by show 2 + w.val = w.val + k.val / 128; omega))
        (Fin.ext (by show k.val - 128 - 128 = k.val % 128; omega))

theorem windows_apply (y : FVec Ideal S8x4096x3x64 .f32) (n : Fin 256) (k : Fin 384) (h : Fin 3) (d : Fin 64) :
    windows y (ix4 n k h d) = joined (blocks y) (ix5 (⟨n.val / 32, by omega⟩ : Fin 8) (⟨n.val % 32, by omega⟩ : Fin 32) k h d) := by
  unfold windows
  generalize joined (blocks y) = u
  pointwise

/-- The row of the reference's arrays that holds a token's block. -/
def rowAt (b : Fin 8) (s : Fin 4096) : Fin 256 := ⟨32 * b.val + s.val / 128, by omega⟩

/-- A window's key inside the sequence is the token at its place. -/
theorem windows_at (y : FVec Ideal S8x4096x3x64 .f32) (b : Fin 8) (s : Fin 4096) (k : Fin 384) (h : Fin 3) (d : Fin 64)
    (hp : ¬((place s k).val < 128 ∨ 4224 ≤ (place s k).val)) :
    windows y (ix4 (rowAt b s) k h d) = y (ix4 b (tokenOf (place s k)) h d) := by
  have hp' : ¬(128 * (s.val / 128) + k.val < 128 ∨ 4224 ≤ 128 * (s.val / 128) + k.val) := hp
  rw [windows_apply, joined_apply, blocks_apply, padded_apply]
  · refine congrArg₂ (fun x z => y (ix4 x z h d)) (Fin.ext ?_) (Fin.ext ?_)
    · show (32 * b.val + s.val / 128) / 32 = b.val
      omega
    · show 128 * ((32 * b.val + s.val / 128) % 32 + k.val / 128) + k.val % 128 - 128
        = if 128 * (s.val / 128) + k.val < 128 then 128 * (s.val / 128) + k.val
          else if 128 * (s.val / 128) + k.val < 4224 then 128 * (s.val / 128) + k.val - 128 else 128 * (s.val / 128) + k.val - 256
      split_ifs <;> omega
  · show ¬128 * ((32 * b.val + s.val / 128) % 32 + k.val / 128) + k.val % 128 < 128
    omega
  · show 128 * ((32 * b.val + s.val / 128) % 32 + k.val / 128) + k.val % 128 < 4224
    omega

variable (A : Vec Ideal S8x4096x3072 .bf16)

/-- Keys and values alternate in the key heads' columns. -/
theorem pairs_apply (b : Fin 8) (s : Fin 4096) (h : Fin 3) (x : Fin 2) (d : Fin 64) :
    val_main_v8 (F := Ideal) A (ix5 b s h x d) = A (ix3 b s (⟨2048 + 128 * h.val + 64 * x.val + d.val, by omega⟩ : Fin 3072)) := by
  rw [val_main_v8_apply, val_main_v7_apply, val_main_v6_apply]
  show A _ = A _
  refine congrArg A (funext fun a => Fin.ext ?_)
  match a with
  | ⟨0, _⟩ => show ((((b.val * 4096 + s.val) * 3 + h.val) * 2 + x.val) * 64 + d.val) / 1572864 = b.val; omega
  | ⟨1, _⟩ => show ((((b.val * 4096 + s.val) * 3 + h.val) * 2 + x.val) * 64 + d.val) / 384 % 4096 = s.val; omega
  | ⟨2, _⟩ =>
    show 2048 + ((((b.val * 4096 + s.val) * 3 + h.val) * 2 + x.val) * 64 + d.val) % 384 = 2048 + 128 * h.val + 64 * x.val + d.val
    omega

theorem ref_key (b : Fin 8) (s : Fin 4096) (k : Fin 384) (h : Fin 3) (d : Fin 64)
    (hp : ¬((place s k).val < 128 ∨ 4224 ≤ (place s k).val)) :
    val_main_v18 (F := Ideal) A (ix4 (rowAt b s) k h d)
      = A (ix3 b (tokenOf (place s k)) (⟨2048 + 128 * h.val + d.val, by omega⟩ : Fin 3072)) := by
  rw [keys_windows, windows_at _ b s k h d hp, val_main_v11_apply, val_main_v10_apply]
  generalize tokenOf (place s k) = t
  have hi : idx_main_v10 (idx_main_v11 (ix4 b t h d)) = ix5 b t h (0 : Fin 2) d := by
    funext a
    apply Fin.ext
    match a with
    | ⟨0, _⟩ => show (((b.val * 4096 + t.val) * 3 + h.val) * 64 + d.val) / 786432 = b.val; omega
    | ⟨1, _⟩ => show (((b.val * 4096 + t.val) * 3 + h.val) * 64 + d.val) / 192 % 4096 = t.val; omega
    | ⟨2, _⟩ => show (((b.val * 4096 + t.val) * 3 + h.val) * 64 + d.val) / 64 % 3 = h.val; omega
    | ⟨3, _⟩ => rfl
    | ⟨4, _⟩ => show (((b.val * 4096 + t.val) * 3 + h.val) * 64 + d.val) % 64 = d.val; omega
  rw [hi, pairs_apply]
  rfl

theorem ref_value (b : Fin 8) (s : Fin 4096) (e : Fin 768) (k : Fin 384)
    (hp : ¬((place s k).val < 128 ∨ 4224 ≤ (place s k).val)) :
    val_main_v27 (F := Ideal) A (ix4 (rowAt b s) k (⟨e.val / 256, by omega⟩ : Fin 3) (⟨e.val % 64, by omega⟩ : Fin 64)) = valueAt A b s e k := by
  rw [values_windows, windows_at _ b s k _ _ hp, val_main_v20_apply, val_main_v19_apply]
  unfold valueAt
  generalize tokenOf (place s k) = t
  have hi (h : Fin 3) (d : Fin 64) : idx_main_v19 (idx_main_v20 (ix4 b t h d)) = ix5 b t h (1 : Fin 2) d := by
    funext a
    apply Fin.ext
    match a with
    | ⟨0, _⟩ => show (((b.val * 4096 + t.val) * 3 + h.val) * 64 + d.val) / 786432 = b.val; omega
    | ⟨1, _⟩ => show (((b.val * 4096 + t.val) * 3 + h.val) * 64 + d.val) / 192 % 4096 = t.val; omega
    | ⟨2, _⟩ => show (((b.val * 4096 + t.val) * 3 + h.val) * 64 + d.val) / 64 % 3 = h.val; omega
    | ⟨3, _⟩ => rfl
    | ⟨4, _⟩ => show (((b.val * 4096 + t.val) * 3 + h.val) * 64 + d.val) % 64 = d.val; omega
  rw [hi, pairs_apply]
  refine congrArg (fun x => A (ix3 b t x)) (Fin.ext ?_)
  show 2048 + 128 * (e.val / 256) + 64 * 1 + e.val % 64 = 2112 + 128 * (e.val / 256) + e.val % 64
  omega

/-! ## The mask -/

set_option maxHeartbeats 4000000 in
theorem mask_table : ∀ (w : Fin 32) (k : Fin 384),
    IntOp.andi (IntOp.cmpi .sge (IntOp.addi (IntOp.muli 128#32 (BitVec.ofNat 32 w.val)) (BitVec.ofNat 32 k.val)) 128#32)
      (IntOp.cmpi .slt (IntOp.addi (IntOp.muli 128#32 (BitVec.ofNat 32 w.val)) (BitVec.ofNat 32 k.val)) 4224#32)
      = if 128 * w.val + k.val < 128 ∨ 4224 ≤ 128 * w.val + k.val then 0#1 else 1#1 := by decide +kernel

theorem mask_apply (n : Fin 256) (k : Fin 384) :
    val_main_v43 (F := Ideal) (ix2 n k)
      = if 128 * (n.val % 32) + k.val < 128 ∨ 4224 ≤ 128 * (n.val % 32) + k.val then 0#1 else 1#1 := by
  rw [val_main_v43_apply, val_main_v42_apply]
  have hi : idx_main_v42 (idx_main_v43 (ix2 n k)) = ix2 (⟨n.val % 32, by omega⟩ : Fin 32) k := by
    funext a
    apply Fin.ext
    match a with
    | ⟨0, _⟩ => show (n.val * 384 + k.val) / 384 % 32 = n.val % 32; omega
    | ⟨1, _⟩ => show (n.val * 384 + k.val) % 384 = k.val; omega
  rw [hi]
  exact mask_table ⟨n.val % 32, by omega⟩ k

/-! ## The scores -/

theorem ref_query (b : Fin 8) (s : Fin 4096) (h : Fin 3) (r : Fin 4) (d : Fin 64) :
    val_main_v5 (F := Ideal) A (ix5 (rowAt b s) (⟨s.val % 128, by omega⟩ : Fin 128) h r d)
      = A (ix3 b s (⟨256 * h.val + 64 * r.val + d.val, by omega⟩ : Fin 3072)) * ((Real.log 2 : ℝ) : EReal) := by
  rw [val_main_v5_apply, val_main_v3_apply, val_main_v2_apply, val_main_v1_apply, val_main_v4_apply, val_main_v0_apply, val_main_cst_apply,
    Attn.log_two]
  show A _ * _ = A _ * _
  refine congrArg (fun x => A x * _) (funext fun a => Fin.ext ?_)
  match a with
  | ⟨0, _⟩ =>
    show (((((32 * b.val + s.val / 128) * 128 + s.val % 128) * 3 + h.val) * 4 + r.val) * 64 + d.val) / 3145728 = b.val
    omega
  | ⟨1, _⟩ =>
    show (((((32 * b.val + s.val / 128) * 128 + s.val % 128) * 3 + h.val) * 4 + r.val) * 64 + d.val) / 768 % 4096 = s.val
    omega
  | ⟨2, _⟩ =>
    show (((((32 * b.val + s.val / 128) * 128 + s.val % 128) * 3 + h.val) * 4 + r.val) * 64 + d.val) % 768 = 256 * h.val + 64 * r.val + d.val
    omega

variable (B : Vec Ideal S3x512x384 .f32)

theorem ref_bias (n : Fin 256) (h : Fin 3) (r : Fin 4) (q : Fin 128) (k : Fin 384) :
    val_main_v50 (F := Ideal) B (ix5 n h r q k)
      = B (ix3 h (⟨128 * r.val + q.val, by omega⟩ : Fin 512) k) * ((Real.log 2 : ℝ) : EReal) := by
  rw [val_main_v50_apply, val_main_v49_apply, val_main_v48_apply, val_main_v46_apply, val_main_v47_apply, val_main_v0_apply,
    val_main_cst_apply, Attn.log_two]
  show B _ * _ = B _ * _
  refine congrArg (fun x => B x * _) (funext fun a => Fin.ext ?_)
  match a with
  | ⟨0, _⟩ => show (((h.val * 4 + r.val) * 128 + q.val) * 384 + k.val) / 196608 = h.val; omega
  | ⟨1, _⟩ => show (((h.val * 4 + r.val) * 128 + q.val) * 384 + k.val) / 384 % 512 = 128 * r.val + q.val; omega
  | ⟨2, _⟩ => show (((h.val * 4 + r.val) * 128 + q.val) * 384 + k.val) % 384 = k.val; omega

/-- The place of a lane of the result in the reference's arrays of scores. -/
abbrev at5 (b : Fin 8) (s : Fin 4096) (e : Fin 768) (k : Fin 384) : S256x3x4x128x384.Idx :=
  ix5 (rowAt b s) (⟨e.val / 256, by omega⟩ : Fin 3) (⟨e.val / 64 % 4, by omega⟩ : Fin 4) (⟨s.val % 128, by omega⟩ : Fin 128) k

/-- The reference's plain score, for a key inside the sequence. -/
theorem ref_plain (b : Fin 8) (s : Fin 4096) (e : Fin 768) (k : Fin 384) (hp : ¬((place s k).val < 128 ∨ 4224 ≤ (place s k).val)) :
    val_main_v51 (F := Ideal) A B (at5 b s e k)
      = (∑ d : Fin 64, A (ix3 b (tokenOf (place s k)) (⟨2048 + 128 * (e.val / 256) + d.val, by omega⟩ : Fin 3072))
            * (A (ix3 b s (⟨64 * (e.val / 64) + d.val, by omega⟩ : Fin 3072)) * ((Real.log 2 : ℝ) : EReal)))
          + B (ix3 (⟨e.val / 256, by omega⟩ : Fin 3) (⟨128 * (e.val / 64 % 4) + s.val % 128, by omega⟩ : Fin 512) k)
            * ((Real.log 2 : ℝ) : EReal) := by
  rw [val_main_v51_apply, ref_bias, val_main_v45_apply, val_main_v44_apply]
  refine congrArg (· + _) (Finset.sum_congr rfl fun d _ => ?_)
  have hl : lidx_main_v44 (idx_main_v45 (at5 b s e k)) d = ix4 (rowAt b s) k (⟨e.val / 256, by omega⟩ : Fin 3) d := by
    funext a
    match a with
    | ⟨0, _⟩ => rfl
    | ⟨1, _⟩ => rfl
    | ⟨2, _⟩ => rfl
    | ⟨3, _⟩ => rfl
  have hr : ridx_main_v44 (idx_main_v45 (at5 b s e k)) d
      = ix5 (rowAt b s) (⟨s.val % 128, by omega⟩ : Fin 128) (⟨e.val / 256, by omega⟩ : Fin 3) (⟨e.val / 64 % 4, by omega⟩ : Fin 4) d := by
    funext a
    match a with
    | ⟨0, _⟩ => rfl
    | ⟨1, _⟩ => rfl
    | ⟨2, _⟩ => rfl
    | ⟨3, _⟩ => rfl
    | ⟨4, _⟩ => rfl
  rw [hl, hr, ref_key A b s k _ d hp, ref_query]
  refine congrArg (fun x => _ * (A (ix3 b s x) * _)) (Fin.ext ?_)
  show 256 * (e.val / 256) + 64 * (e.val / 64 % 4) + d.val = 64 * (e.val / 64) + d.val
  omega

/-- The scores are not positive infinity, and the reference's are the kernel's times the logarithm of two. -/
theorem ref_score (hq : ∀ b s (c : Fin 768), ∃ r : ℝ, A (ix3 b s (⟨c.val, by omega⟩ : Fin 3072)) = (r : EReal))
    (hk : ∀ b s (h : Fin 3) (d : Fin 64), ∃ r : ℝ, A (ix3 b s (⟨2048 + 128 * h.val + d.val, by omega⟩ : Fin 3072)) = (r : EReal))
    (hB : ∀ i, B i ≠ ⊤) (b : Fin 8) (s : Fin 4096) (e : Fin 768) (k : Fin 384) :
    score A B b s e k ≠ ⊤ ∧ val_main_v53 (F := Ideal) A B (at5 b s e k) = score A B b s e k * ((Real.log 2 : ℝ) : EReal) := by
  have hi : idx_main_v52 (idx_main_call0_v1 (at5 b s e k)) = ix2 (rowAt b s) k := by
    funext a
    match a with
    | ⟨0, _⟩ => rfl
    | ⟨1, _⟩ => rfl
  have hv : (128 * ((rowAt b s).val % 32) + k.val < 128 ∨ 4224 ≤ 128 * ((rowAt b s).val % 32) + k.val)
      ↔ ((place s k).val < 128 ∨ 4224 ≤ (place s k).val) := by
    show (128 * ((32 * b.val + s.val / 128) % 32) + k.val < 128 ∨ 4224 ≤ 128 * ((32 * b.val + s.val / 128) % 32) + k.val)
      ↔ (128 * (s.val / 128) + k.val < 128 ∨ 4224 ≤ 128 * (s.val / 128) + k.val)
    omega
  rw [val_main_v53_apply, val_main_call0_v1_apply, val_main_v52_apply, hi, mask_apply, if_congr hv rfl rfl]
  unfold score
  by_cases hp : (place s k).val < 128 ∨ 4224 ≤ (place s k).val
  · rw [if_pos hp, if_pos hp, EReal.bot_mul_coe_of_pos log_two_pos, val_main_call0_v2_apply]
    refine ⟨bot_ne_top, ?_⟩
    show Ideal.ofBits .f32 0xFF800000#32 = _
    simp [Ideal.ofBits, Ideal.ieee]
  · rw [if_neg hp, if_neg hp]
    choose q hq' using fun d : Fin 64 => hq b s (⟨64 * (e.val / 64) + d.val, by omega⟩ : Fin 768)
    choose y hy using fun d : Fin 64 => hk b (tokenOf (place s k)) (⟨e.val / 256, by omega⟩ : Fin 3) d
    have hs : plain A B b s e k = ∑ d, (q d : EReal) * (y d : EReal)
        + B (ix3 (⟨e.val / 256, by omega⟩ : Fin 3) (⟨128 * (e.val / 64 % 4) + s.val % 128, by omega⟩ : Fin 512) k) := by
      unfold plain
      exact congrArg (· + _) (Finset.sum_congr rfl fun d _ => congrArg₂ (· * ·) (hq' d) (hy d))
    refine ⟨by rw [hs]; exact score_ne_top q y _ (hB _), ?_⟩
    show val_main_v51 (F := Ideal) A B (at5 b s e k) = _
    rw [ref_plain A B b s e k hp, hs, ← scale_score q y _ (hB _)]
    exact congrArg (· + _) (Finset.sum_congr rfl fun d _ => congrArg₂ (fun x z => x * (z * _)) (hy d) (hq' d))

/-! ## The softmax with a sink -/

variable (S : Vec Ideal S12 .f32)

/-- The place of a row of scores. -/
abbrev at4 (b : Fin 8) (s : Fin 4096) (e : Fin 768) : S256x3x4x128.Idx :=
  ix4 (rowAt b s) (⟨e.val / 256, by omega⟩ : Fin 3) (⟨e.val / 64 % 4, by omega⟩ : Fin 4) (⟨s.val % 128, by omega⟩ : Fin 128)

/-- The sink logit of a row, times the logarithm of two. -/
def sinkOf (e : Fin 768) : EReal := S (ix1 (⟨e.val / 64, by omega⟩ : Fin 12)) * ((Real.log 2 : ℝ) : EReal)

theorem sink_apply (e : Fin 768) :
    val_main_v56 (F := Ideal) S (ix3 (⟨e.val / 256, by omega⟩ : Fin 3) (⟨e.val / 64 % 4, by omega⟩ : Fin 4) (0 : Fin 1)) = sinkOf S e := by
  rw [val_main_v56_apply, val_main_v55_apply, val_main_v54_apply, val_main_v0_apply, val_main_cst_apply, Attn.log_two]
  show S _ * _ = S _ * _
  refine congrArg (fun x => S x * _) (funext fun a => Fin.ext ?_)
  match a with
  | ⟨0, _⟩ => show (e.val / 256 * 4 + e.val / 64 % 4) * 1 + 0 = e.val / 64; omega

theorem sink_first (b : Fin 8) (s : Fin 4096) (e : Fin 768) : val_main_v59 (F := Ideal) S (at4 b s e) = sinkOf S e := by
  rw [val_main_v59_apply, val_main_v58_apply, ← sink_apply]
  refine congrArg (val_main_v56 (F := Ideal) S) (funext fun a => ?_)
  match a with
  | ⟨0, _⟩ => rfl
  | ⟨1, _⟩ => rfl
  | ⟨2, _⟩ => rfl

/-- The maximum that the reference subtracts. -/
def refMax (b : Fin 8) (s : Fin 4096) (e : Fin 768) : EReal :=
  max (Finset.univ.fold max ⊥ fun k => val_main_v53 (F := Ideal) A B (at5 b s e k)) (sinkOf S e)

theorem ref_max (b : Fin 8) (s : Fin 4096) (e : Fin 768) : val_main_v60 (F := Ideal) A B S (at4 b s e) = refMax A B S b s e := by
  rw [val_main_v60_apply, sink_first]
  show max (val_main_v57 (F := Ideal) A B (at4 b s e)) (sinkOf S e) = max _ (sinkOf S e)
  refine congrArg (max · (sinkOf S e)) ?_
  unfold val_main_v57
  generalize val_main_v53 (F := Ideal) A B = y
  unfold val_main_cst_4
  pointwise
  have hb : Ideal.ofBits .f32 4286578688#32 = (⊥ : EReal) := by simp [Ideal.ofBits, Ideal.ieee]
  rw [hb]

theorem ref_exp (b : Fin 8) (s : Fin 4096) (e : Fin 768) (k : Fin 384) :
    val_main_v64 (F := Ideal) A B S (at5 b s e k) = Ideal.exp (val_main_v53 (F := Ideal) A B (at5 b s e k) - refMax A B S b s e) := by
  rw [val_main_v64_apply, val_main_v63_apply, val_main_v62_apply, val_main_v61_apply]
  have hi : idx_main_v61 (idx_main_v62 (at5 b s e k)) = at4 b s e := by
    funext a
    match a with
    | ⟨0, _⟩ => rfl
    | ⟨1, _⟩ => rfl
    | ⟨2, _⟩ => rfl
    | ⟨3, _⟩ => rfl
  rw [hi, ref_max]
  rfl

theorem ref_sum (b : Fin 8) (s : Fin 4096) (e : Fin 768) :
    val_main_v70 (F := Ideal) A B S (at4 b s e)
      = (∑ k, Ideal.exp (val_main_v53 (F := Ideal) A B (at5 b s e k) - refMax A B S b s e)) + Ideal.exp (sinkOf S e - refMax A B S b s e) := by
  rw [val_main_v70_apply, val_main_v69_apply, val_main_v68_apply, ref_max, val_main_v65_apply, val_main_cst_5_apply]
  have hz : (FloatOps.ofBits .f32 0x00000000#32 : Ideal .f32) = (0 : EReal) := Ideal.ofBits_zero_f32
  have hs : val_main_v67 (F := Ideal) S (at4 b s e) = sinkOf S e := sink_first S b s e
  rw [hz, zero_add, hs]
  refine congrArg (· + Ideal.exp (sinkOf S e - refMax A B S b s e)) (Finset.sum_congr rfl fun k _ => ?_)
  refine (congrArg (val_main_v64 (F := Ideal) A B S) ?_).trans (ref_exp A B S b s e k)
  funext a
  match a with
  | ⟨0, _⟩ => rfl
  | ⟨1, _⟩ => rfl
  | ⟨2, _⟩ => rfl
  | ⟨3, _⟩ => rfl
  | ⟨4, _⟩ => rfl

theorem ref_weight (b : Fin 8) (s : Fin 4096) (e : Fin 768) (k : Fin 384) :
    val_main_v73 (F := Ideal) A B S (at5 b s e k)
      = Ideal.div (Ideal.exp (val_main_v53 (F := Ideal) A B (at5 b s e k) - refMax A B S b s e))
          ((∑ k', Ideal.exp (val_main_v53 (F := Ideal) A B (at5 b s e k') - refMax A B S b s e))
            + Ideal.exp (sinkOf S e - refMax A B S b s e)) := by
  rw [val_main_v73_apply, val_main_v72_apply, val_main_v71_apply, ref_exp]
  have hi : idx_main_v71 (idx_main_v72 (at5 b s e k)) = at4 b s e := by
    funext a
    match a with
    | ⟨0, _⟩ => rfl
    | ⟨1, _⟩ => rfl
    | ⟨2, _⟩ => rfl
    | ⟨3, _⟩ => rfl
  rw [hi, ref_sum]
  rfl

theorem ref_average (b : Fin 8) (s : Fin 4096) (e : Fin 768) :
    val_main_v76 (F := Ideal) A B S (ix3 b s e)
      = ∑ k, val_main_v27 (F := Ideal) A (ix4 (rowAt b s) k (⟨e.val / 256, by omega⟩ : Fin 3) (⟨e.val % 64, by omega⟩ : Fin 64))
          * val_main_v73 (F := Ideal) A B S (at5 b s e k) := by
  have hi : idx_main_v76 (ix3 b s e) = ix5 (rowAt b s) (⟨s.val % 128, by omega⟩ : Fin 128) (⟨e.val / 256, by omega⟩ : Fin 3)
      (⟨e.val / 64 % 4, by omega⟩ : Fin 4) (⟨e.val % 64, by omega⟩ : Fin 64) := by
    funext a
    apply Fin.ext
    match a with
    | ⟨0, _⟩ => show ((b.val * 4096 + s.val) * 768 + e.val) / 98304 = 32 * b.val + s.val / 128; omega
    | ⟨1, _⟩ => show ((b.val * 4096 + s.val) * 768 + e.val) / 768 % 128 = s.val % 128; omega
    | ⟨2, _⟩ => show ((b.val * 4096 + s.val) * 768 + e.val) / 256 % 3 = e.val / 256; omega
    | ⟨3, _⟩ => show ((b.val * 4096 + s.val) * 768 + e.val) / 64 % 4 = e.val / 64 % 4; omega
    | ⟨4, _⟩ => show ((b.val * 4096 + s.val) * 768 + e.val) % 64 = e.val % 64; omega
  rw [val_main_v76_apply, hi, val_main_v75_apply, val_main_v74_apply]
  refine Finset.sum_congr rfl fun k _ => congrArg₂ (· * ·) (congrArg (val_main_v27 (F := Ideal) A) (funext fun a => ?_))
    (congrArg (val_main_v73 (F := Ideal) A B S) (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl
    | ⟨4, _⟩ => rfl

theorem ref_gate (P : Vec Ideal S8x4096x6656 .bf16) (b : Fin 8) (s : Fin 4096) (e : Fin 768) :
    val_main_v79 (F := Ideal) P (ix3 b s e) = gateAt P b s e := by
  rw [val_main_v79_apply, val_main_call1_v5_apply, val_main_call1_v4_apply, val_main_call1_cst_0_apply,
    val_main_call1_v3_apply, val_main_call1_v2_apply, val_main_call1_cst_apply, val_main_call1_v1_apply,
    val_main_call1_v0_apply, val_main_v78_apply, val_main_v77_apply]
  have ho : (FloatOps.ofBits .f32 0x3F800000#32 : Ideal .f32) = (1 : EReal) := Ideal.ofBits_one_f32
  have hi : idx_main_v77 (ix3 b s e) = ix3 b s (⟨4608 + e.val, by omega⟩ : Fin 6656) := by
    funext a
    match a with
    | ⟨0, _⟩ => rfl
    | ⟨1, _⟩ => rfl
    | ⟨2, _⟩ => rfl
  rw [ho, hi]
  rfl

/-- With finite queries, keys and sink logits, and no bias of positive infinity, the reference's result is the kernel's. -/
theorem reference_eq (P : Vec Ideal S8x4096x6656 .bf16)
    (hq : ∀ b s (c : Fin 768), ∃ r : ℝ, A (ix3 b s (⟨c.val, by omega⟩ : Fin 3072)) = (r : EReal))
    (hk : ∀ b s (h : Fin 3) (d : Fin 64), ∃ r : ℝ, A (ix3 b s (⟨2048 + 128 * h.val + d.val, by omega⟩ : Fin 3072)) = (r : EReal))
    (hB : ∀ i, B i ≠ ⊤) (hS : ∀ i, ∃ r : ℝ, S i = (r : EReal)) :
    val_main_v81 (F := Ideal) A P B S = result A P B S := by
  funext i
  obtain ⟨b, s, e, rfl⟩ : ∃ (b : Fin 8) (s : Fin 4096) (e : Fin 768), i = ix3 b s e :=
    ⟨i 0, i 1, i 2, by funext a; match a with | ⟨0, _⟩ => rfl | ⟨1, _⟩ => rfl | ⟨2, _⟩ => rfl⟩
  rw [val_main_v81_apply, val_main_v80_apply, ref_gate, ref_average]
  show _ * gateAt P b s e = entry A P B S b s e
  unfold entry
  refine congrArg (· * gateAt P b s e) ?_
  obtain ⟨z, hz⟩ := hS (ix1 (⟨e.val / 64, by omega⟩ : Fin 12))
  have hW : ∀ k, score A B b s e k = ⊥ ∨ valueAt A b s e k
      = val_main_v27 (F := Ideal) A (ix4 (rowAt b s) k (⟨e.val / 256, by omega⟩ : Fin 3) (⟨e.val % 64, by omega⟩ : Fin 64)) := fun k => by
    by_cases hp : (place s k).val < 128 ∨ 4224 ≤ (place s k).val
    · exact Or.inl (if_pos hp)
    · exact Or.inr (ref_value A b s e k hp).symm
  rw [hz, soft_eq (score A B b s e) (fun k => (ref_score A B hq hk hB b s e k).1) z _ _ hW]
  refine Finset.sum_congr rfl fun k _ => ?_
  rw [ref_weight]
  unfold refMax sinkOf
  simp only [(ref_score A B hq hk hB b s e _).2, hz]

end Cert.Band

end
-- ==== Proof.Band.Claims.lean ====
/- The claims about mixer A's window attention: the frames of its three programs, the named constant, and the equality of
   the kernel's result and the reference's for finite queries, keys and sink logits. -/
module

public import proofs.«01_k».proof.Defs
public import proofs.«01_k».proof.Proof.Gen.Kernel4.Frame
public import proofs.«01_k».proof.Proof.Gen.Reference4Ideal.Run
public import proofs.«01_k».proof.Proof.Gen.Pre_finite_a
public import proofs.«01_k».proof.Proof.Attn.Claims
public import proofs.«01_k».proof.Proof.Band.RefValue
public import Idealize.ShloMosaic.Lib.ReduceAll
public import Idealize.ShloMosaic.Lib.Quiescent

@[expose] public section

set_option maxRecDepth 16384

noncomputable section

namespace Cert.Band

open Idealize.ShloMosaic Idealize.ShloMosaic.TcCoe Idealize.SL.Sem

/-! ## The precondition -/

instance : Subsingleton Cert.Pre_finite_a.S_.Idx := ⟨fun a b => funext fun i => i.elim0⟩

theorem finite_of_pre (A : Vec Ideal Cert.Kernel4Ideal.S8x4096x3072 .bf16) (P : Vec Ideal Cert.Kernel4Ideal.S8x4096x6656 .bf16)
    (B : Vec Ideal Cert.Kernel4Ideal.S3x512x384 .f32) (S : Vec Ideal Cert.Kernel4Ideal.S12 .f32)
    (h : Cert.Pre_finite_a.fn (F := Ideal) A P B S = fun _ => 1#1) :
    (∀ (b : Fin 8) (s : Fin 4096) (c : Fin 768), ∃ r : ℝ, A (ix3 b s (⟨c.val, by omega⟩ : Fin 3072)) = (r : EReal))
    ∧ (∀ (b : Fin 8) (s : Fin 4096) (g : Fin 3) (d : Fin 64),
        ∃ r : ℝ, A (ix3 b s (⟨2048 + 128 * g.val + d.val, by omega⟩ : Fin 3072)) = (r : EReal))
    ∧ (∀ i, B i ≠ ⊤) ∧ ∀ i, ∃ r : ℝ, S i = (r : EReal) := by
  have h' := congrFun h (fun a => a.elim0)
  unfold Cert.Pre_finite_a.fn Cert.Pre_finite_a.fn_part1 at h'
  dsimp only at h'
  obtain ⟨h012, hs⟩ := IntOp.andi_eq_one.mp h'
  obtain ⟨h01, hb⟩ := IntOp.andi_eq_one.mp h012
  obtain ⟨hq, hk⟩ := IntOp.andi_eq_one.mp h01
  refine ⟨fun b s c => ?_, fun b s g d => ?_, fun i => ?_, fun i => ?_⟩
  · have h1 := Attn.lt_top_of_cmp _ (Host.reduce_andi_all _ _ _ _ _ hq (ix3 b s c))
    refine Attn.real_of_abs_lt _ (lt_of_eq_of_lt ?_ h1)
    pointwise
    rfl
  · have h1 := Attn.lt_top_of_cmp _ (Host.reduce_andi_all _ _ _ _ _ hk (ix4 b s g d))
    refine Attn.real_of_abs_lt _ (lt_of_eq_of_lt ?_ h1)
    pointwise
    exact congrArg (fun x => max (A (ix3 b s x)) (-A (ix3 b s x)))
      (Fin.ext (show 2048 + 128 * g.val + d.val = 2048 + (g.val * 128 + d.val) by omega))
  · exact (Attn.lt_top_of_cmp _ (Host.reduce_andi_all _ _ _ _ _ hb i)).ne
  · exact Attn.real_of_abs_lt _ (Attn.lt_top_of_cmp _ (Host.reduce_andi_all _ _ _ _ _ hs i))

/-! ## The claims -/

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_ideal_pre : Cert.quiescent_Kernel4Ideal_pre_finite_a := fun m ρ _ => Cert.Kernel4Ideal.Gen.frame m ρ

theorem frame_reference : Cert.quiescent_Reference4Ideal := fun m ρ _ =>
  (θ_run Cert.Reference4Ideal.defs _ _).mono (fun r h => ⟨fun c => (h c).2,
    Idealize.ShloMosaic.sem_eq_zero_of_no_sems (by decide) r.2⟩) (Cert.Reference4Ideal.Value.run (F := Ideal) m ρ)

theorem frame_reference_pre : Cert.quiescent_Reference4Ideal_pre_finite_a := fun m ρ _ =>
  (θ_run Cert.Reference4Ideal.defs _ _).mono (fun r h => ⟨fun c => (h c).2,
    Idealize.ShloMosaic.sem_eq_zero_of_no_sems (by decide) r.2⟩) (Cert.Reference4Ideal.Value.run (F := Ideal) m ρ)

/-- The mask's literal stands for negative infinity. -/
theorem mask_named : Cert.preserves_Kernel4_Kernel4Ideal :=
  IdealRules.named_const.statement Cert.Kernel4Ideal.κ "mask" .f32 0xF149F2CA#32 ⊥ rfl

/-- The kernel and the reference compute the same array, when the queries, the keys and the sink logits are finite and no
    bias is positive infinity. -/
theorem value_claim : Cert.algebraic_Kernel4Ideal_Reference4Ideal_pre_finite_a := by
  intro m ρ m' ρ' hpre hargs
  refine ⟨fun c => result (mainArr m c) (projArr m c) (biasArr m c) (sinkArr m c), ?_, ?_⟩
  · exact (θ_run Cert.Kernel4Ideal.defs _ _).mono (fun _ h c => ⟨(h c).1.trans (array_eq m c), (h c).2⟩)
      (Cert.Kernel4Ideal.Value.run_blocks m ρ)
  refine (θ_run Cert.Reference4Ideal.defs _ _).mono (fun r h c => ⟨(h c).1.trans ?_, (h c).2⟩)
    (Cert.Reference4Ideal.Value.run (F := Ideal) m' ρ')
  rw [Cert.Reference4Ideal.Read.val_main_v81_eq, (hargs c).1, (hargs c).2.1, (hargs c).2.2.1, (hargs c).2.2.2]
  obtain ⟨hq, hk, hb, hs⟩ := finite_of_pre (mainArr m c) (projArr m c) (biasArr m c) (sinkArr m c) (hpre c)
  exact reference_eq (mainArr m c) (biasArr m c) (sinkArr m c) (projArr m c) hq hk hb hs

end Cert.Band

end
-- ==== Proof.Dil.Step.lean ====
/- One block of 128 tokens of mixer C's first group: the scores of its stacked query heads against a window of 256 keys, the
   softmax, the logarithm of its denominator, and the four heads laid side by side. -/
module

public import proofs.«01_k».proof.Proof.Gen.Kernel5Ideal.Skeleton
public import proofs.«01_k».proof.Proof.Band.Step

@[expose] public section

set_option maxRecDepth 16384

noncomputable section

namespace Cert.Dil

open Idealize.ShloMosaic Cert.Kernel5Ideal Cert.Kernel5Ideal.Gen

open Cert.Band (stackRow unstack unstack_apply lane_low block_first block_last)

/-- The scores of the four stacked heads against the window, with the bias, before masking. -/
def raw (q : Vec Ideal S1x128x256 .bf16) (w : FVec Ideal S256x128 .bf16) (bias : FVec Ideal S512x256 .f32) : FVec Ideal S512x256 .f32 :=
  addf (matmul dot_S512x64_S256x64_S512x256_1_1_0_0_n_n none (k0_pay12 q)
    (extractStridedSlice S256x64 ![0, 0] w slices_S256x128_o0_0_S256x64) (constant S512x256 .f32 0x00000000#32)) bias

/-- The mask of the sequence's first block: no key before the start. -/
def maskFirst (n : BitVec 32) (s : FVec Ideal S512x256 .f32) : FVec Ideal S512x256 .f32 :=
  select (andi (cmpi .slt (iota .tc S512x256 32 [1] iota_S512x256_d1_w32) (broadcast S512x256 64#32))
    (broadcast S512x256 (Scalar.cmpi .eq n 0#32))) (broadcast S512x256 (Named.named κ "mask" 0xF149F2CA#32 : Ideal .f32)) s

/-- The mask of the sequence's last block: no key past the end. -/
def maskLast (n : BitVec 32) (s : FVec Ideal S512x256 .f32) : FVec Ideal S512x256 .f32 :=
  select (andi (cmpi .sge (iota .tc S512x256 32 [1] iota_S512x256_d1_w32) (broadcast S512x256 192#32))
    (broadcast S512x256 (Scalar.cmpi .eq n 1#32))) (broadcast S512x256 (Named.named κ "mask" 0xF149F2CA#32 : Ideal .f32)) s

/-- Each row's largest score, on every lane. -/
def rowMax (s : FVec Ideal S512x256 .f32) : FVec Ideal S512x128 .f32 :=
  broadcastTo S512x128 (shapeCast S512x1 (shapeCast S512x1
    (multiReduction .maximumf [1] S512 s 0xFF800000#32 reduces_S512x256_S512 (.inl rfl) rfl) shapeCasts_S512_S512x1)
    shapeCasts_S512x1_S512x1) broadcasts_S512x1_S512x128

/-- Two to the power of a score less the row's maximum. -/
def weights (s : FVec Ideal S512x256 .f32) : FVec Ideal S512x256 .bf16 :=
  truncf .bf16 (exp2 (subf s (concatenate S512x256 1 [⟨S512x128, rowMax s⟩, ⟨S512x128, rowMax s⟩]
    concatenates_S512x128_S512x128_S512x256_d1))) bitsLt_bf16_f32

/-- The weighted sums of the window's lanes, and beside them the sum of the weights. -/
def sums (s : FVec Ideal S512x256 .f32) (w : FVec Ideal S256x128 .bf16) : FVec Ideal S512x256 .f32 :=
  matmul (φ₂ := .bf16) dot_S512x256_S256x256_S512x256_1_0_0_1_n_n none (weights s)
    (concatenate S256x256 1 [⟨S256x128, w⟩, ⟨S256x128, broadcast S256x128 (Scalar.ofBits .bf16 0x3F80#16 : Ideal .bf16)⟩]
      concatenates_S256x128_S256x128_S256x256_d1) (constant S512x256 .f32 0x00000000#32)

/-- The sum of the weights. -/
def total (s : FVec Ideal S512x256 .f32) (w : FVec Ideal S256x128 .bf16) : FVec Ideal S512x128 .f32 :=
  extractStridedSlice S512x128 ![0, 128] (sums s w) slices_S512x256_o0_128_S512x128

/-- The weighted sums over the sum of the weights. -/
def quot (s : FVec Ideal S512x256 .f32) (w : FVec Ideal S256x128 .bf16) : FVec Ideal S512x128 .f32 :=
  divf (extractStridedSlice S512x128 ![0, 0] (sums s w) slices_S512x256_o0_0_S512x128) (total s w)

/-- The logarithm to base two of the softmax's denominator. -/
def level (s : FVec Ideal S512x256 .f32) (w : FVec Ideal S256x128 .bf16) : FVec Ideal S512x128 .f32 :=
  addf (rowMax s) (mulf (log (total s w)) (broadcast S512x128 (Named.named κ "log2e" 0x3FB8AA3B#32 : Ideal .f32)))

/-- What a block stores of the values. -/
def finishO (s : FVec Ideal S512x256 .f32) (w : FVec Ideal S256x128 .bf16) : FVec Ideal S1x128x256 .f32 :=
  shapeCast S1x128x256 (unstack (quot s w)) shapeCasts_S128x256_S1x128x256

/-- What a block stores of the logarithms. -/
def finishL (s : FVec Ideal S512x256 .f32) (w : FVec Ideal S256x128 .bf16) : FVec Ideal S1x128x256 .f32 := k0_pay1 k0_pay4 (level s w)

/-- A block's window of keys and values, from row `o` of the staged tokens. -/
def win (o : ℕ) (kv : FVec Ideal S2304x128 .bf16) (h : S2304x128.Slices ![o, 0] S256x128) : FVec Ideal S256x128 .bf16 :=
  extractStridedSlice S256x128 ![o, 0] kv h

set_option maxHeartbeats 1000000 in
theorem stack_apply (q : Vec Ideal S1x128x256 .bf16) (r : Fin 128) (e : Fin 256) (d : Fin 64) :
    k0_pay12 q (ix2 (stackRow r e) d) = q (ix3 0 r ⟨64 * (e.val / 64) + d.val, by omega⟩) :=
  Cert.Band.stack_apply q r e d

set_option maxHeartbeats 1000000 in
theorem scores_apply (y : FVec Ideal S512x64 .bf16) (w : FVec Ideal S256x128 .bf16) (bias : FVec Ideal S512x256 .f32)
    (i : Fin 512) (k : Fin 256) :
    addf (matmul dot_S512x64_S256x64_S512x256_1_1_0_0_n_n none y
      (extractStridedSlice S256x64 ![0, 0] w slices_S256x128_o0_0_S256x64) (constant S512x256 .f32 0x00000000#32)) bias (ix2 i k)
      = (∑ d : Fin 64, y (ix2 i d) * w (ix2 k ⟨d.val, by omega⟩)) + bias (ix2 i k) := by
  pointwise

theorem raw_apply (q : Vec Ideal S1x128x256 .bf16) (w : FVec Ideal S256x128 .bf16) (bias : FVec Ideal S512x256 .f32)
    (r : Fin 128) (e : Fin 256) (k : Fin 256) :
    raw q w bias (ix2 (stackRow r e) k)
      = (∑ d : Fin 64, q (ix3 0 r ⟨64 * (e.val / 64) + d.val, by omega⟩) * w (ix2 k ⟨d.val, by omega⟩)) + bias (ix2 (stackRow r e) k) := by
  simp only [← stack_apply]
  exact scores_apply (k0_pay12 q) w bias (stackRow r e) k

theorem rowMax_apply (s : FVec Ideal S512x256 .f32) (i : Fin 512) (c : Fin 128) :
    rowMax s (ix2 i c) = Finset.univ.fold max ⊥ fun k : Fin 256 => s (ix2 i k) := by
  have hcast : rowMax s (ix2 i c)
        = multiReduction .maximumf [1] S512 s 0xFF800000#32 reduces_S512x256_S512 (.inl rfl) rfl (ix1 i) := by
    unfold rowMax
    pointwise
  refine hcast.trans ((Ideal.multiReduction_maximumf_single s _ _ _ _ _).trans ?_)
  have hb : (FloatOps.ofBits .f32 0xFF800000#32 : Ideal .f32) = (⊥ : EReal) := by
    simp [Ideal.ofBits, Ideal.ieee]
  rw [hb]
  refine Finset.fold_congr fun l _ => ?_
  refine congrArg s (funext fun a => ?_)
  match a with
  | ⟨0, _⟩ => rfl
  | ⟨1, _⟩ => rfl

theorem weights_apply (s : FVec Ideal S512x256 .f32) (i : Fin 512) (k : Fin 256) :
    weights s (ix2 i k) = Ideal.exp2 (s (ix2 i k) - Finset.univ.fold max ⊥ fun k : Fin 256 => s (ix2 i k)) := by
  have hm : concatenate S512x256 1 [⟨S512x128, rowMax s⟩, ⟨S512x128, rowMax s⟩]
      concatenates_S512x128_S512x128_S512x256_d1 (ix2 i k) = Finset.univ.fold max ⊥ fun k : Fin 256 => s (ix2 i k) := by
    rw [← rowMax_apply s i ⟨k.val % 128, by omega⟩]
    generalize rowMax s = m
    pointwise
    split_ifs
    all_goals exact congrArg (fun l => m (ix2 i l)) (Fin.ext (by simp; omega))
  rw [← hm]
  rfl

theorem sums_value (s : FVec Ideal S512x256 .f32) (w : FVec Ideal S256x128 .bf16) (i : Fin 512) (c : Fin 128) :
    sums s w (ix2 i ⟨c.val, by omega⟩) = ∑ k : Fin 256, weights s (ix2 i k) * w (ix2 k c) := by
  unfold sums
  generalize weights s = e
  pointwise

theorem sums_one (s : FVec Ideal S512x256 .f32) (w : FVec Ideal S256x128 .bf16) (i : Fin 512) (c : Fin 128) :
    sums s w (ix2 i ⟨128 + c.val, by omega⟩) = ∑ k : Fin 256, weights s (ix2 i k) := by
  unfold sums
  generalize weights s = e
  pointwise

theorem total_apply (s : FVec Ideal S512x256 .f32) (w : FVec Ideal S256x128 .bf16) (i : Fin 512) (c : Fin 128) :
    total s w (ix2 i c) = ∑ k : Fin 256, weights s (ix2 i k) := by
  rw [← sums_one s w i c]
  unfold total
  generalize sums s w = a
  pointwise

theorem quot_apply (s : FVec Ideal S512x256 .f32) (w : FVec Ideal S256x128 .bf16) (i : Fin 512) (c : Fin 128) :
    quot s w (ix2 i c) = Ideal.div (∑ k : Fin 256, weights s (ix2 i k) * w (ix2 k c)) (∑ k : Fin 256, weights s (ix2 i k)) := by
  rw [← sums_value, ← total_apply s w i c]
  unfold quot
  generalize sums s w = a
  generalize total s w = b
  pointwise

theorem mask_value : (Named.named κ "mask" 0xF149F2CA#32 : Ideal .f32) = (⊥ : EReal) :=
  IdealRules.named_const.ideal_named_scalar _ _ _ _ rfl

theorem log2e_value : (Named.named κ "log2e" 0x3FB8AA3B#32 : Ideal .f32) = (((Real.log 2)⁻¹ : ℝ) : EReal) :=
  IdealRules.named_const.ideal_named_scalar _ _ _ _ rfl

theorem level_apply (s : FVec Ideal S512x256 .f32) (w : FVec Ideal S256x128 .bf16) (i : Fin 512) (c : Fin 128) :
    level s w (ix2 i c) = (Finset.univ.fold max ⊥ fun k : Fin 256 => s (ix2 i k))
      + Ideal.log (∑ k : Fin 256, weights s (ix2 i k)) * (((Real.log 2)⁻¹ : ℝ) : EReal) := by
  rw [← rowMax_apply s i c, ← total_apply s w i c, ← log2e_value]
  rfl

/-- Two heads' lanes side by side, each where it is. -/
def pick (a b : FVec Ideal S128x128 .f32) : FVec Ideal S128x128 .f32 := select k0_pay4 a b

theorem pick_apply (a b : FVec Ideal S128x128 .f32) (r l : Fin 128) :
    pick a b (ix2 r l) = if l.val < 64 then a (ix2 r l) else b (ix2 r l) := by
  unfold pick
  unfold_payloads
  pointwise
  rw [lane_low]
  split_ifs with h
  · rfl
  · rfl

theorem pay1_apply (o : FVec Ideal S512x128 .f32) (r : Fin 128) (e : Fin 256) :
    k0_pay1 k0_pay4 o (ix3 0 r e) = o (ix2 (stackRow r e) ⟨e.val % 128, by omega⟩) := by
  have h0 : ∀ l : Fin 128, extractStridedSlice S128x128 ![0, 0] o slices_S512x128_o0_0_S128x128 (ix2 r l) = o (ix2 ⟨r.val, by omega⟩ l) := by
    intro l
    pointwise
  have h1 : ∀ l : Fin 128, extractStridedSlice S128x128 ![128, 0] o slices_S512x128_o128_0_S128x128 (ix2 r l) = o (ix2 ⟨128 + r.val, by omega⟩ l) := by
    intro l
    pointwise
  have h2 : ∀ l : Fin 128, extractStridedSlice S128x128 ![256, 0] o slices_S512x128_o256_0_S128x128 (ix2 r l) = o (ix2 ⟨256 + r.val, by omega⟩ l) := by
    intro l
    pointwise
  have h3 : ∀ l : Fin 128, extractStridedSlice S128x128 ![384, 0] o slices_S512x128_o384_0_S128x128 (ix2 r l) = o (ix2 ⟨384 + r.val, by omega⟩ l) := by
    intro l
    pointwise
  show shapeCast S1x128x256 (concatenate S128x256 1
    [⟨S128x128, pick (extractStridedSlice S128x128 ![0, 0] o slices_S512x128_o0_0_S128x128)
      (extractStridedSlice S128x128 ![128, 0] o slices_S512x128_o128_0_S128x128)⟩,
    ⟨S128x128, pick (extractStridedSlice S128x128 ![256, 0] o slices_S512x128_o256_0_S128x128)
      (extractStridedSlice S128x128 ![384, 0] o slices_S512x128_o384_0_S128x128)⟩] concatenates_S128x128_S128x128_S128x256_d1)
    shapeCasts_S128x256_S1x128x256 (ix3 0 r e) = _
  unfold stackRow
  pointwise
  simp only [pick_apply, h0, h1, h2, h3]
  split_ifs
  all_goals exact congrArg₂ (fun a b => o (ix2 a b)) (Fin.ext (by simp; try omega)) (Fin.ext (by simp; try omega))

theorem pay3_apply (v : Vec Ideal S1x512x256 .f32) (i : Fin 512) (k : Fin 256) : k0_pay3 v (ix2 i k) = v (ix3 0 i k) := by
  unfold_payloads
  pointwise

theorem win_apply (o : ℕ) (ho : o + 256 ≤ 2304) (kv : FVec Ideal S2304x128 .bf16) (h : S2304x128.Slices ![o, 0] S256x128)
    (k : Fin 256) (d : Fin 128) : win o kv h (ix2 k d) = kv (ix2 ⟨o + k.val, by omega⟩ d) := by
  unfold win
  refine congrArg kv (funext fun a => Fin.ext ?_)
  match a with
  | ⟨0, _⟩ => rfl
  | ⟨1, _⟩ => exact Nat.zero_add _

theorem col_low : ∀ k : Fin 256, IntOp.cmpi CmpIPredicate.slt (BitVec.ofNat 32 k.val) 64#32 = if k.val < 64 then 1#1 else 0#1 := by
  decide +kernel
theorem col_high : ∀ k : Fin 256, IntOp.cmpi CmpIPredicate.sge (BitVec.ofNat 32 k.val) 192#32 = if 192 ≤ k.val then 1#1 else 0#1 := by
  decide +kernel

theorem maskFirst_apply (n : Fin 2) (s : FVec Ideal S512x256 .f32) (i : Fin 512) (k : Fin 256) :
    maskFirst (BitVec.ofNat 32 n.val) s (ix2 i k) = if k.val < 64 ∧ n.val = 0 then ⊥ else s (ix2 i k) := by
  unfold maskFirst
  rw [mask_value]
  pointwise
  rw [col_low, block_first]
  split_ifs
  all_goals first | rfl | (exfalso; omega)

theorem maskLast_apply (n : Fin 2) (s : FVec Ideal S512x256 .f32) (i : Fin 512) (k : Fin 256) :
    maskLast (BitVec.ofNat 32 n.val) s (ix2 i k) = if 192 ≤ k.val ∧ n.val = 1 then ⊥ else s (ix2 i k) := by
  unfold maskLast
  rw [mask_value]
  pointwise
  rw [col_high, block_last]
  split_ifs
  all_goals first | rfl | (exfalso; omega)

/-- Softmax to base two over 256 scores, the weights against `v`. -/
def soft (s v : Fin 256 → EReal) : EReal :=
  Ideal.div (∑ k, Ideal.exp2 (s k - Finset.univ.fold max ⊥ s) * v k) (∑ k, Ideal.exp2 (s k - Finset.univ.fold max ⊥ s))

/-- The logarithm to base two of the softmax's denominator over 256 scores. -/
def lse (s : Fin 256 → EReal) : EReal :=
  Finset.univ.fold max ⊥ s + Ideal.log (∑ k, Ideal.exp2 (s k - Finset.univ.fold max ⊥ s)) * (((Real.log 2)⁻¹ : ℝ) : EReal)

theorem finishO_apply (s : FVec Ideal S512x256 .f32) (w : FVec Ideal S256x128 .bf16) (r : Fin 128) (e : Fin 256) :
    finishO s w (ix3 0 r e) = soft (fun k => s (ix2 (stackRow r e) k)) (fun k => w (ix2 k ⟨64 + e.val % 64, by omega⟩)) := by
  have hc : finishO s w (ix3 0 r e) = unstack (quot s w) (ix2 r e) := by
    unfold finishO
    generalize unstack (quot s w) = a
    pointwise
  rw [hc, unstack_apply, quot_apply]
  simp only [weights_apply]
  rfl

theorem finishL_apply (s : FVec Ideal S512x256 .f32) (w : FVec Ideal S256x128 .bf16) (r : Fin 128) (e : Fin 256) :
    finishL s w (ix3 0 r e) = lse (fun k => s (ix2 (stackRow r e) k)) := by
  unfold finishL
  rw [pay1_apply, level_apply]
  simp only [weights_apply]
  rfl

end Cert.Dil

end
-- ==== Proof.Dil.Math.lean ====
/- The arithmetic of one masked softmax row whose denominator's logarithm is a result: to base two in the kernel, to base e in
   the reference. -/
module

public import proofs.«01_k».proof.Proof.Band.Math
public import proofs.«01_k».proof.Proof.Dil.Step

@[expose] public section

noncomputable section

namespace Cert.Dil

open Idealize.ShloMosaic
open Cert.Band (bot_or_real max_fold exp2_bot exp_bot log_two_pos)

/-- The logarithm to base e of the softmax's denominator. -/
def refLse (τ : Fin 256 → EReal) : EReal :=
  Finset.univ.fold max ⊥ τ + Ideal.log (∑ k, Ideal.exp (τ k - Finset.univ.fold max ⊥ τ))

/-- The greatest of some numbers, real or negative infinity, of which one is real, is real. -/
theorem fold_real (f : Fin 256 → EReal) (hf : ∀ k, f k ≠ ⊤) (k₀ : Fin 256) (r : ℝ) (h : f k₀ = (r : EReal)) :
    ∃ M : ℝ, Finset.univ.fold max ⊥ f = (M : EReal) := by
  obtain ⟨M, hM⟩ := max_fold (Finset.univ.erase k₀) f hf r
  refine ⟨M, ?_⟩
  rw [← hM, max_comm, ← h]
  conv_lhs => rw [← Finset.insert_erase (Finset.mem_univ k₀)]
  exact Finset.fold_insert (Finset.notMem_erase k₀ _)

theorem log_coe (x : ℝ) (h : 0 < x) : Ideal.log (x : EReal) = ((Real.log x : ℝ) : EReal) := if_neg (not_le.mpr h)

/-- A row in real numbers: the maximum `M`, the weights `w` and their sum `D`. -/
theorem row (σ : Fin 256 → EReal) (hσ : ∀ k, σ k ≠ ⊤) (k₀ : Fin 256) (r₀ : ℝ) (h₀ : σ k₀ = (r₀ : EReal)) :
    ∃ (M D : ℝ) (w : Fin 256 → ℝ), 0 < D ∧ Finset.univ.fold max ⊥ σ = (M : EReal) ∧ ∑ k, w k = D
      ∧ refLse (fun k => σ k * ((Real.log 2 : ℝ) : EReal)) = ((Real.log D + M * Real.log 2 : ℝ) : EReal)
      ∧ ∀ k, (σ k = ⊥ → w k = 0) ∧ Ideal.exp2 (σ k - (M : EReal)) = (w k : EReal)
        ∧ Ideal.exp (σ k * ((Real.log 2 : ℝ) : EReal) - ((Real.log D + M * Real.log 2 : ℝ) : EReal)) = ((w k * D⁻¹ : ℝ) : EReal) := by
  have hbot : (⊥ : EReal) * ((Real.log 2 : ℝ) : EReal) = ⊥ := EReal.bot_mul_coe_of_pos log_two_pos
  have hτ : ∀ k, σ k * ((Real.log 2 : ℝ) : EReal) ≠ ⊤ := fun k => by
    rcases bot_or_real _ (hσ k) with h | ⟨r, h⟩
    · rw [h, hbot]; exact bot_ne_top
    · rw [h, ← EReal.coe_mul]; exact EReal.coe_ne_top _
  obtain ⟨M, hM⟩ := fold_real σ hσ k₀ r₀ h₀
  obtain ⟨M', hM'⟩ := fold_real (fun k => σ k * ((Real.log 2 : ℝ) : EReal)) hτ k₀ (r₀ * Real.log 2) (by rw [h₀, ← EReal.coe_mul])
  have key : ∀ r a : ℝ, Real.exp (r * Real.log 2 - a) = (2 : ℝ) ^ (r - M) * Real.exp (M * Real.log 2 - a) := fun r a => by
    rw [Real.rpow_def_of_pos (by norm_num), ← Real.exp_add]
    exact congrArg _ (by ring)
  have hw : ∀ k, ∃ w : ℝ, 0 ≤ w ∧ (σ k = ⊥ → w = 0) ∧ (σ k ≠ ⊥ → 0 < w) ∧ Ideal.exp2 (σ k - (M : EReal)) = (w : EReal)
      ∧ ∀ a : ℝ, Ideal.exp (σ k * ((Real.log 2 : ℝ) : EReal) - (a : EReal)) = ((w * Real.exp (M * Real.log 2 - a) : ℝ) : EReal) := fun k => by
    rcases bot_or_real _ (hσ k) with h | ⟨r, h⟩
    · exact ⟨0, le_refl _, fun _ => rfl, fun h' => absurd h h', by rw [h, exp2_bot]; rfl, fun a => by rw [h, hbot, exp_bot, zero_mul]; rfl⟩
    · exact ⟨(2 : ℝ) ^ (r - M), (Real.rpow_pos_of_pos (by norm_num) _).le, fun h' => absurd (h.symm.trans h') (EReal.coe_ne_bot r),
        fun _ => Real.rpow_pos_of_pos (by norm_num) _, by rw [h, Attn.exp2_sub], fun a => by rw [h, ← EReal.coe_mul, Attn.exp_sub, key]⟩
  choose w h0 hb hp h2 he using hw
  have hD : 0 < ∑ k, w k :=
    Finset.sum_pos' (fun k _ => h0 k) ⟨k₀, Finset.mem_univ _, hp k₀ (by rw [h₀]; exact EReal.coe_ne_bot r₀)⟩
  refine ⟨M, ∑ k, w k, w, hD, hM, rfl, ?_, fun k => ⟨hb k, h2 k, ?_⟩⟩
  · unfold refLse
    dsimp only
    rw [hM']
    simp only [he]
    rw [← Attn.coe_sum, ← Finset.sum_mul, log_coe _ (mul_pos hD (Real.exp_pos _)), Real.log_mul hD.ne' (Real.exp_pos _).ne', Real.log_exp,
      ← EReal.coe_add]
    exact congrArg _ (by ring)
  · rw [he]
    refine congrArg (fun x : ℝ => ((w k * x : ℝ) : EReal)) ?_
    rw [show M * Real.log 2 - (Real.log (∑ k, w k) + M * Real.log 2) = -Real.log (∑ k, w k) by ring, Real.exp_neg, Real.exp_log hD]

/-- The logarithm to base two is the one to base e over the logarithm of two. -/
theorem lse_eq (σ : Fin 256 → EReal) (hσ : ∀ k, σ k ≠ ⊤) (k₀ : Fin 256) (r₀ : ℝ) (h₀ : σ k₀ = (r₀ : EReal)) :
    lse σ = Ideal.div (refLse fun k => σ k * ((Real.log 2 : ℝ) : EReal)) ((Real.log 2 : ℝ) : EReal) := by
  obtain ⟨M, D, w, hD, hM, hs, hL, hk⟩ := row σ hσ k₀ r₀ h₀
  unfold lse
  rw [hL, hM]
  simp only [fun k => (hk k).2.1]
  rw [← Attn.coe_sum, hs, log_coe _ hD, Attn.div_coe _ _ log_two_pos.ne', ← EReal.coe_mul, ← EReal.coe_mul, ← EReal.coe_add]
  refine congrArg _ ?_
  have := log_two_pos.ne'
  field_simp
  ring

/-- The kernel's quotient is the sum of the values weighted by the exponentials of the scores less the logarithm. -/
theorem soft_eq (σ : Fin 256 → EReal) (hσ : ∀ k, σ k ≠ ⊤) (k₀ : Fin 256) (r₀ : ℝ) (h₀ : σ k₀ = (r₀ : EReal))
    (V W : Fin 256 → EReal) (hV : ∀ k, σ k = ⊥ ∨ V k = W k) :
    soft σ V = ∑ k, W k * Ideal.exp (σ k * ((Real.log 2 : ℝ) : EReal) - refLse fun k => σ k * ((Real.log 2 : ℝ) : EReal)) := by
  obtain ⟨M, D, w, hD, hM, hs, hL, hk⟩ := row σ hσ k₀ r₀ h₀
  unfold soft
  rw [hL, hM]
  simp only [fun k => (hk k).2.1, fun k => (hk k).2.2]
  rw [← Attn.coe_sum, hs, Attn.div_coe _ _ hD.ne', mul_comm, Attn.coe_mul_sum _ _ (inv_pos.mpr hD).le]
  refine Finset.sum_congr rfl fun k _ => ?_
  rcases hV k with h | h
  · rw [(hk k).1 h, zero_mul, EReal.coe_zero, zero_mul, mul_zero, mul_zero]
  · rw [h, ← mul_assoc, ← EReal.coe_mul, mul_comm, mul_comm (D⁻¹)]

end Cert.Dil

end
-- ==== Proof.Dil.Block.lean ====
/- What one grid point of mixer C's first group stores: sixteen blocks of 128 tokens, the values and the logarithms alike. -/
module

public import proofs.«01_k».proof.Proof.Gen.Kernel5Ideal.Frame
public import proofs.«01_k».proof.Proof.Dil.Step
public import Idealize.ShloMosaic.Lib.Pipeline.ValueKit.Tiles

@[expose] public section

set_option maxRecDepth 16384

noncomputable section

namespace Cert.Dil

open Idealize.ShloMosaic Idealize.ShloMosaic.TcCoe Idealize.SL.Sem Cert.Kernel5Ideal Cert.Kernel5Ideal.Gen
open Cert.Band (stackRow)

theorem hz3 : (![0, 0, 0] : Fin 3 → ℕ) = fun _ => 0 := by decide

/-- The keys of a window that lie outside the sequence: in block `t` of point `n`, of sixteen blocks and two points. -/
def Outside (t n k : ℕ) : Prop := (t = 0 ∧ k < 64 ∧ n = 0) ∨ (t = 15 ∧ 192 ≤ k ∧ n = 1)

instance (t n k : ℕ) : Decidable (Outside t n k) := by unfold Outside; infer_instance

/-- A masked score: token `j` of the point, lane `e` of the result, key `k` of the window. -/
def blockScore (n : ℕ) (x0 : Vec Ideal S1x2048x256 .bf16) (kv : FVec Ideal S2304x128 .bf16) (b : FVec Ideal S512x256 .f32)
    (j : Fin 2048) (e : Fin 256) (k : Fin 256) : EReal :=
  if Outside (j.val / 128) n k.val then ⊥
  else (∑ d : Fin 64, x0 (ix3 0 j ⟨64 * (e.val / 64) + d.val, by omega⟩) * kv (ix2 ⟨64 + 128 * (j.val / 128) + k.val, by omega⟩ ⟨d.val, by omega⟩))
    + b (ix2 (stackRow ⟨j.val % 128, by omega⟩ e) k)

/-- The value of key `k` of the window. -/
def blockValue (kv : FVec Ideal S2304x128 .bf16) (j : Fin 2048) (e : Fin 256) (k : Fin 256) : EReal :=
  kv (ix2 ⟨64 + 128 * (j.val / 128) + k.val, by omega⟩ ⟨64 + e.val % 64, by omega⟩)

/-- `F` stores of a block what `G` says of each row's scores and values. -/
def Stores (F : FVec Ideal S512x256 .f32 → FVec Ideal S256x128 .bf16 → FVec Ideal S1x128x256 .f32)
    (G : (Fin 256 → EReal) → (Fin 256 → EReal) → EReal) : Prop :=
  ∀ (s : FVec Ideal S512x256 .f32) (w : FVec Ideal S256x128 .bf16) (r : Fin 128) (e : Fin 256),
    F s w (ix3 0 r e) = G (fun k => s (ix2 (stackRow r e) k)) (fun k => w (ix2 k ⟨64 + e.val % 64, by omega⟩))

/-- One of the sixteen stores. -/
theorem tile_at {F : FVec Ideal S512x256 .f32 → FVec Ideal S256x128 .bf16 → FVec Ideal S1x128x256 .f32}
    {G : (Fin 256 → EReal) → (Fin 256 → EReal) → EReal} (hF : Stores F G)
    (n : ℕ) (x0 : Vec Ideal S1x2048x256 .bf16) (kv : FVec Ideal S2304x128 .bf16) (b : FVec Ideal S512x256 .f32)
    (t o : ℕ) (ho : o = 128 * t) (ht : t < 16)
    (inb : ∀ a : Fin S1x2048x256.rank, (![0, o, 0] : Fin 3 → ℕ) a + S1x128x256.size a ≤ S1x2048x256.size a)
    (p : ℕ) (hp : p = 64 + o) (h : S2304x128.Slices ![p, 0] S256x128) (mask : FVec Ideal S512x256 .f32 → FVec Ideal S512x256 .f32)
    (hm : ∀ (s : FVec Ideal S512x256 .f32) (i : Fin 512) (k : Fin 256), mask s (ix2 i k) = if Outside t n k.val then ⊥ else s (ix2 i k))
    (y : S1x2048x256.Idx) :
    View.TileAt (Val := Elt Ideal) (e := .f32) y (![0, o, 0] : Fin 3 → ℕ) S1x128x256.size
      (F (mask (raw (View.ld x0 (Rect.unit (s := S1x2048x256) ![0, o, 0] S1x128x256.size inb)) (win p kv h) b)) (win p kv h))
      (G (blockScore n x0 kv b (y 1) (y 2)) (blockValue kv (y 1) (y 2))) := by
  intro x hx
  obtain ⟨r, e, rfl⟩ : ∃ (r : Fin 128) (e : Fin 256), x = (ix3 (0 : Fin 1) r e : S1x128x256.Idx) :=
    ⟨x 1, x 2, funext fun a => match a with
      | ⟨0, _⟩ => Subsingleton.elim (α := Fin 1) _ _
      | ⟨1, _⟩ => rfl
      | ⟨2, _⟩ => rfl⟩
  have y1 : (y 1).val = o + r.val := hx 1
  have y2 : (y 2).val = 0 + e.val := hx 2
  have z2 : y 2 = e := Fin.ext (by omega)
  obtain ⟨j, hj⟩ : ∃ j : Fin 2048, j = y 1 := ⟨_, rfl⟩
  have y1' : j.val = o + r.val := (congrArg Fin.val hj).trans y1
  have ht' : j.val / 128 = t := by omega
  have hi (c : Fin 256) : (Rect.unit (s := S1x2048x256) ![0, o, 0] S1x128x256.size inb).idx (ix3 (0 : Fin 1) r c)
      = (ix3 (0 : Fin 1) j c : S1x2048x256.Idx) := by
    funext a
    apply Fin.ext
    match a with
    | ⟨0, _⟩ => rfl
    | ⟨1, _⟩ => show o + 1 * r.val = j.val; omega
    | ⟨2, _⟩ => show 0 + 1 * c.val = c.val; omega
  have hl (c : Fin 256) :
      View.ld x0 (Rect.unit (s := S1x2048x256) ![0, o, 0] S1x128x256.size inb) (ix3 (0 : Fin 1) r c) = x0 (ix3 0 j c) :=
    congrArg x0 (hi c)
  have hr : (⟨j.val % 128, by omega⟩ : Fin 128) = r := Fin.ext (by show j.val % 128 = r.val; omega)
  have hw (k : Fin 256) (c : Fin 128) : win p kv h (ix2 k c) = kv (ix2 ⟨64 + 128 * (j.val / 128) + k.val, by omega⟩ c) :=
    (win_apply p (by omega) kv h k c).trans
      (congrArg (fun q => kv (ix2 q c)) (Fin.ext (by show p + k.val = 64 + 128 * (j.val / 128) + k.val; omega)))
  have hs (k : Fin 256) : mask (raw (View.ld x0 (Rect.unit (s := S1x2048x256) ![0, o, 0] S1x128x256.size inb)) (win p kv h) b) (ix2 (stackRow r e) k)
      = blockScore n x0 kv b j e k := by
    rw [hm, raw_apply]
    unfold blockScore
    refine if_congr (by rw [ht']) rfl ?_
    rw [hr]
    refine congrArg (· + _) (Finset.sum_congr rfl fun d _ => ?_)
    rw [hl, hw]
  refine (hF _ _ r e).trans ?_
  rw [z2, ← hj]
  exact congrArg₂ G (funext hs) (funext fun k => hw k _)

/-- The sixteen stores of a point, `F` being what a block stores. -/
def stores (F : FVec Ideal S512x256 .f32 → FVec Ideal S256x128 .bf16 → FVec Ideal S1x128x256 .f32) (i : grid0.Coords)
    (x0 : Vec Ideal S1x2048x256 .bf16) (kv : FVec Ideal S2304x128 .bf16) (b : FVec Ideal S512x256 .f32) : Vec Ideal S1x2048x256 .f32 :=
  View.canon [⟨r0_18, F (maskLast (BitVec.ofNat 32 (i 3).val) (raw (View.ld x0 r0_18) (win 1984 kv slices_S2304x128_o1984_0_S256x128) b)) (win 1984 kv slices_S2304x128_o1984_0_S256x128)⟩,
    ⟨r0_17, F ((raw (View.ld x0 r0_17) (win 1856 kv slices_S2304x128_o1856_0_S256x128) b)) (win 1856 kv slices_S2304x128_o1856_0_S256x128)⟩,
    ⟨r0_16, F ((raw (View.ld x0 r0_16) (win 1728 kv slices_S2304x128_o1728_0_S256x128) b)) (win 1728 kv slices_S2304x128_o1728_0_S256x128)⟩,
    ⟨r0_15, F ((raw (View.ld x0 r0_15) (win 1600 kv slices_S2304x128_o1600_0_S256x128) b)) (win 1600 kv slices_S2304x128_o1600_0_S256x128)⟩,
    ⟨r0_14, F ((raw (View.ld x0 r0_14) (win 1472 kv slices_S2304x128_o1472_0_S256x128) b)) (win 1472 kv slices_S2304x128_o1472_0_S256x128)⟩,
    ⟨r0_13, F ((raw (View.ld x0 r0_13) (win 1344 kv slices_S2304x128_o1344_0_S256x128) b)) (win 1344 kv slices_S2304x128_o1344_0_S256x128)⟩,
    ⟨r0_12, F ((raw (View.ld x0 r0_12) (win 1216 kv slices_S2304x128_o1216_0_S256x128) b)) (win 1216 kv slices_S2304x128_o1216_0_S256x128)⟩,
    ⟨r0_11, F ((raw (View.ld x0 r0_11) (win 1088 kv slices_S2304x128_o1088_0_S256x128) b)) (win 1088 kv slices_S2304x128_o1088_0_S256x128)⟩,
    ⟨r0_10, F ((raw (View.ld x0 r0_10) (win 960 kv slices_S2304x128_o960_0_S256x128) b)) (win 960 kv slices_S2304x128_o960_0_S256x128)⟩,
    ⟨r0_9, F ((raw (View.ld x0 r0_9) (win 832 kv slices_S2304x128_o832_0_S256x128) b)) (win 832 kv slices_S2304x128_o832_0_S256x128)⟩,
    ⟨r0_8, F ((raw (View.ld x0 r0_8) (win 704 kv slices_S2304x128_o704_0_S256x128) b)) (win 704 kv slices_S2304x128_o704_0_S256x128)⟩,
    ⟨r0_7, F ((raw (View.ld x0 r0_7) (win 576 kv slices_S2304x128_o576_0_S256x128) b)) (win 576 kv slices_S2304x128_o576_0_S256x128)⟩,
    ⟨r0_6, F ((raw (View.ld x0 r0_6) (win 448 kv slices_S2304x128_o448_0_S256x128) b)) (win 448 kv slices_S2304x128_o448_0_S256x128)⟩,
    ⟨r0_5, F ((raw (View.ld x0 r0_5) (win 320 kv slices_S2304x128_o320_0_S256x128) b)) (win 320 kv slices_S2304x128_o320_0_S256x128)⟩,
    ⟨r0_4, F ((raw (View.ld x0 r0_4) (win 192 kv slices_S2304x128_o192_0_S256x128) b)) (win 192 kv slices_S2304x128_o192_0_S256x128)⟩,
    ⟨r0_3, F (maskFirst (BitVec.ofNat 32 (i 3).val) (raw (View.ld x0 r0_3) (win 64 kv slices_S2304x128_o64_0_S256x128) b)) (win 64 kv slices_S2304x128_o64_0_S256x128)⟩]

theorem stores_eq {F : FVec Ideal S512x256 .f32 → FVec Ideal S256x128 .bf16 → FVec Ideal S1x128x256 .f32}
    {G : (Fin 256 → EReal) → (Fin 256 → EReal) → EReal} (hF : Stores F G) (i : grid0.Coords)
    (x0 : Vec Ideal S1x2048x256 .bf16) (kv : FVec Ideal S2304x128 .bf16) (b : FVec Ideal S512x256 .f32) :
    stores F i x0 kv b = fun y => G (blockScore (i 3).val x0 kv b (y 1) (y 2)) (blockValue kv (y 1) (y 2)) := by
  have hn : (i 3).val < 2 := (i 3).isLt
  funext y
  unfold stores
  have mid (t : ℕ) (h0 : 0 < t) (h15 : t < 15) (s : FVec Ideal S512x256 .f32) (p : Fin 512) (k : Fin 256) :
      id s (ix2 p k) = if Outside t (i 3).val k.val then ⊥ else s (ix2 p k) :=
    (if_neg (by unfold Outside; omega)).symm
  have hf (s : FVec Ideal S512x256 .f32) (p : Fin 512) (k : Fin 256) :
      maskFirst (BitVec.ofNat 32 (i 3).val) s (ix2 p k) = if Outside 0 (i 3).val k.val then ⊥ else s (ix2 p k) := by
    refine (maskFirst_apply ⟨(i 3).val, hn⟩ s p k).trans (if_congr ?_ rfl rfl)
    unfold Outside
    simp
  have hl (s : FVec Ideal S512x256 .f32) (p : Fin 512) (k : Fin 256) :
      maskLast (BitVec.ofNat 32 (i 3).val) s (ix2 p k) = if Outside 15 (i 3).val k.val then ⊥ else s (ix2 p k) := by
    refine (maskLast_apply ⟨(i 3).val, hn⟩ s p k).trans (if_congr ?_ rfl rfl)
    unfold Outside
    simp
  refine View.canon_eq_of_allAt _ y _ (cover0_5 _ _ _ _ _ _ _ _ _ _ _ _ _ _ _ _ y) ?_
  refine View.allAt_cons_unit _ _ _ _ _ (tile_at hF _ x0 kv b 15 1920 rfl (by decide) _ 1984 rfl _ _ hl y) ?_
  refine View.allAt_cons_unit _ _ _ _ _ (tile_at hF _ x0 kv b 14 1792 rfl (by decide) _ 1856 rfl _ id (mid 14 (by decide) (by decide)) y) ?_
  refine View.allAt_cons_unit _ _ _ _ _ (tile_at hF _ x0 kv b 13 1664 rfl (by decide) _ 1728 rfl _ id (mid 13 (by decide) (by decide)) y) ?_
  refine View.allAt_cons_unit _ _ _ _ _ (tile_at hF _ x0 kv b 12 1536 rfl (by decide) _ 1600 rfl _ id (mid 12 (by decide) (by decide)) y) ?_
  refine View.allAt_cons_unit _ _ _ _ _ (tile_at hF _ x0 kv b 11 1408 rfl (by decide) _ 1472 rfl _ id (mid 11 (by decide) (by decide)) y) ?_
  refine View.allAt_cons_unit _ _ _ _ _ (tile_at hF _ x0 kv b 10 1280 rfl (by decide) _ 1344 rfl _ id (mid 10 (by decide) (by decide)) y) ?_
  refine View.allAt_cons_unit _ _ _ _ _ (tile_at hF _ x0 kv b 9 1152 rfl (by decide) _ 1216 rfl _ id (mid 9 (by decide) (by decide)) y) ?_
  refine View.allAt_cons_unit _ _ _ _ _ (tile_at hF _ x0 kv b 8 1024 rfl (by decide) _ 1088 rfl _ id (mid 8 (by decide) (by decide)) y) ?_
  refine View.allAt_cons_unit _ _ _ _ _ (tile_at hF _ x0 kv b 7 896 rfl (by decide) _ 960 rfl _ id (mid 7 (by decide) (by decide)) y) ?_
  refine View.allAt_cons_unit _ _ _ _ _ (tile_at hF _ x0 kv b 6 768 rfl (by decide) _ 832 rfl _ id (mid 6 (by decide) (by decide)) y) ?_
  refine View.allAt_cons_unit _ _ _ _ _ (tile_at hF _ x0 kv b 5 640 rfl (by decide) _ 704 rfl _ id (mid 5 (by decide) (by decide)) y) ?_
  refine View.allAt_cons_unit _ _ _ _ _ (tile_at hF _ x0 kv b 4 512 rfl (by decide) _ 576 rfl _ id (mid 4 (by decide) (by decide)) y) ?_
  refine View.allAt_cons_unit _ _ _ _ _ (tile_at hF _ x0 kv b 3 384 rfl (by decide) _ 448 rfl _ id (mid 3 (by decide) (by decide)) y) ?_
  refine View.allAt_cons_unit _ _ _ _ _ (tile_at hF _ x0 kv b 2 256 rfl (by decide) _ 320 rfl _ id (mid 2 (by decide) (by decide)) y) ?_
  refine View.allAt_cons_unit _ _ _ _ _ (tile_at hF _ x0 kv b 1 128 rfl (by decide) _ 192 rfl _ id (mid 1 (by decide) (by decide)) y) ?_
  exact View.allAt_cons_unit _ _ _ _ _ (tile_at hF _ x0 kv b 0 0 rfl (by decide) _ 64 rfl _ _ hf y) (View.allAt_nil _ _)

/-- What a point leaves in its blocks of values and of logarithms. -/
theorem out_o (i : grid0.Coords) (x0 : Vec Ideal S1x2048x256 .bf16) (x1 : Vec Ideal S1x128x128 .bf16) (x2 : Vec Ideal S1x2048x128 .bf16)
    (x3 : Vec Ideal S1x128x128 .bf16) (x4 : Vec Ideal S1x512x256 .f32) :
    out0_5 i x0 x1 x2 x3 x4 = stores finishO i x0 (k0_pay2 (View.ld x1 r0_0) (View.ld x2 r0_1) (View.ld x3 r0_0)) (k0_pay3 (View.ld x4 r0_2)) := rfl

theorem out_l (i : grid0.Coords) (x0 : Vec Ideal S1x2048x256 .bf16) (x1 : Vec Ideal S1x128x128 .bf16) (x2 : Vec Ideal S1x2048x128 .bf16)
    (x3 : Vec Ideal S1x128x128 .bf16) (x4 : Vec Ideal S1x512x256 .f32) :
    out0_6 i x0 x1 x2 x3 x4 = stores finishL i x0 (k0_pay2 (View.ld x1 r0_0) (View.ld x2 r0_1) (View.ld x3 r0_0)) (k0_pay3 (View.ld x4 r0_2)) := rfl

theorem loads (x1 : Vec Ideal S1x128x128 .bf16) (x2 : Vec Ideal S1x2048x128 .bf16) (x3 : Vec Ideal S1x128x128 .bf16)
    (x4 : Vec Ideal S1x512x256 .f32) :
    k0_pay2 (View.ld x1 r0_0) (View.ld x2 r0_1) (View.ld x3 r0_0) = k0_pay2 x1 x2 x3 ∧ k0_pay3 (View.ld x4 r0_2) = k0_pay3 x4 := by
  have e1 : View.ld x1 r0_0 = x1 := View.ld_unit_zero (S := S1x128x128) hz3 _ _
  have e2 : View.ld x2 r0_1 = x2 := View.ld_unit_zero (S := S1x2048x128) hz3 _ _
  have e3 : View.ld x3 r0_0 = x3 := View.ld_unit_zero (S := S1x128x128) hz3 _ _
  have e4 : View.ld x4 r0_2 = x4 := View.ld_unit_zero (S := S1x512x256) hz3 _ _
  rw [e1, e2, e3, e4]
  exact ⟨rfl, rfl⟩

theorem values_eq (i : grid0.Coords) (x0 : Vec Ideal S1x2048x256 .bf16) (x1 : Vec Ideal S1x128x128 .bf16) (x2 : Vec Ideal S1x2048x128 .bf16)
    (x3 : Vec Ideal S1x128x128 .bf16) (x4 : Vec Ideal S1x512x256 .f32) :
    out0_5 i x0 x1 x2 x3 x4
      = fun y => soft (blockScore (i 3).val x0 (k0_pay2 x1 x2 x3) (k0_pay3 x4) (y 1) (y 2)) (blockValue (k0_pay2 x1 x2 x3) (y 1) (y 2)) := by
  obtain ⟨h1, h2⟩ := loads x1 x2 x3 x4
  rw [out_o, h1, h2]
  exact stores_eq (G := soft) finishO_apply i x0 _ _

theorem levels_eq (i : grid0.Coords) (x0 : Vec Ideal S1x2048x256 .bf16) (x1 : Vec Ideal S1x128x128 .bf16) (x2 : Vec Ideal S1x2048x128 .bf16)
    (x3 : Vec Ideal S1x128x128 .bf16) (x4 : Vec Ideal S1x512x256 .f32) :
    out0_6 i x0 x1 x2 x3 x4
      = fun y => lse (blockScore (i 3).val x0 (k0_pay2 x1 x2 x3) (k0_pay3 x4) (y 1) (y 2)) := by
  obtain ⟨h1, h2⟩ := loads x1 x2 x3 x4
  rw [out_l, h1, h2]
  exact stores_eq (G := fun s _ => lse s) finishL_apply i x0 _ _

end Cert.Dil

end
-- ==== Proof.Dil.Value.lean ====
/- The result arrays of mixer C's first group, each as one function of the arguments. -/
module

public import proofs.«01_k».proof.Proof.Gen.Kernel5Ideal.Value
public import proofs.«01_k».proof.Proof.Band.Value
public import proofs.«01_k».proof.Proof.Dil.Block
public import Idealize.ShloMosaic.Lib.Pointwise
public import Idealize.ShloMosaic.Lib.ValueIdx
public import Idealize.ShloMosaic.Lib.IdealHost
public import Idealize.ShloMosaic.Lib.StableHlo.Run
public import Idealize.ShloMosaic.Lib.Pipeline.ValueKit.Tiles

@[expose] public section

set_option maxRecDepth 16384

noncomputable section

namespace Cert.Dil

open Idealize.ShloMosaic Idealize.ShloMosaic.TcCoe Idealize.SL.Sem Cert.Kernel5Ideal Cert.Kernel5Ideal.Gen
open Idealize.ShloMosaic.Pipeline (Dat)
open Cert.Band (stackRow tokenOf)

/-- The place of a key among 34 blocks of 128: the sequence's 32, one before them and one after. -/
def place (s : Fin 4096) (k : Fin 256) : Fin 4352 := ⟨64 + 128 * (s.val / 128) + k.val, by omega⟩

/-- The plain score: query token `s` and lane `e` of the result against key `k` of the token's window. -/
def plain (A : Vec Ideal S8x4096x3072 .bf16) (B : Vec Ideal S2x512x256 .f32) (b : Fin 8) (s : Fin 4096) (e : Fin 512) (k : Fin 256) : EReal :=
  (∑ d : Fin 64, A (ix3 b s (⟨1536 + 64 * (e.val / 64) + d.val, by omega⟩ : Fin 3072))
      * A (ix3 b (tokenOf (place s k)) (⟨2816 + 128 * (e.val / 256) + d.val, by omega⟩ : Fin 3072)))
    + B (ix3 (⟨e.val / 256, by omega⟩ : Fin 2) (⟨128 * (e.val / 64 % 4) + s.val % 128, by omega⟩ : Fin 512) k)

/-- The masked score. -/
def score (A : Vec Ideal S8x4096x3072 .bf16) (B : Vec Ideal S2x512x256 .f32) (b : Fin 8) (s : Fin 4096) (e : Fin 512) (k : Fin 256) : EReal :=
  if (place s k).val < 128 ∨ 4224 ≤ (place s k).val then ⊥ else plain A B b s e k

/-- The value at key `k` of the window. -/
def valueAt (A : Vec Ideal S8x4096x3072 .bf16) (b : Fin 8) (s : Fin 4096) (e : Fin 512) (k : Fin 256) : EReal :=
  A (ix3 b (tokenOf (place s k)) (⟨2880 + 128 * (e.val / 256) + e.val % 64, by omega⟩ : Fin 3072))

/-- The partial output. -/
def values (A : Vec Ideal S8x4096x3072 .bf16) (B : Vec Ideal S2x512x256 .f32) : Vec Ideal S8x4096x512 .f32 :=
  fun i => soft (score A B (i 0) (i 1) (i 2)) (valueAt A (i 0) (i 1) (i 2))

/-- The logarithms of the softmax's denominators. -/
def levels (A : Vec Ideal S8x4096x3072 .bf16) (B : Vec Ideal S2x512x256 .f32) : Vec Ideal S8x4096x512 .f32 :=
  fun i => lse (score A B (i 0) (i 1) (i 2))

/-! ## The blocks -/

theorem index0 : ∀ t : Fin grid0.N, win0_0.index t = ![t.val / 4, t.val % 2, 6 + t.val / 2 % 2] := by decide +kernel
theorem index1 : ∀ t : Fin grid0.N, win0_1.index t = ![t.val / 4, 16 * (t.val % 2) - 1, 22 + t.val / 2 % 2] := by decide +kernel
theorem index2 : ∀ t : Fin grid0.N, win0_2.index t = ![t.val / 4, t.val % 2, 22 + t.val / 2 % 2] := by decide +kernel
theorem index3 : ∀ t : Fin grid0.N, win0_3.index t = ![t.val / 4, 16 + 15 * (t.val % 2), 22 + t.val / 2 % 2] := by decide +kernel
theorem index4 : ∀ t : Fin grid0.N, win0_4.index t = ![t.val / 2 % 2, 0, 0] := by decide +kernel
theorem index5 : ∀ t : Fin grid0.N, win0_5.index t = ![t.val / 4, t.val % 2, t.val / 2 % 2] := by decide +kernel
theorem index6 : ∀ t : Fin grid0.N, win0_6.index t = ![t.val / 4, t.val % 2, t.val / 2 % 2] := by decide +kernel
theorem coord3 : ∀ t : Fin grid0.N, (grid0.coords t 3).val = t.val % 2 := by decide +kernel

theorem lt_points (t : Fin cfg0.N) : t.val < 32 := lt_of_lt_of_eq t.isLt N_0

variable (m : (ℓ : Loc nD τ sig) → Buf (Elt Ideal) ℓ) (c : Dev nD)

/-- The arguments, at entry. -/
abbrev mainArr : Vec Ideal S8x4096x3072 .bf16 := m ((c.tc : Thread nD τ).loc main_arg0)
abbrev biasArr : Vec Ideal S2x512x256 .f32 := m ((c.tc : Thread nD τ).loc main_arg1)

/-- The blocks that point `t` reads. -/
abbrev blk0 (t : Fin cfg0.N) : Vec Ideal S1x2048x256 .bf16 := iblk m c 0 t
abbrev blk1 (t : Fin cfg0.N) : Vec Ideal S1x128x128 .bf16 := iblk m c 1 t
abbrev blk2 (t : Fin cfg0.N) : Vec Ideal S1x2048x128 .bf16 := iblk m c 2 t
abbrev blk3 (t : Fin cfg0.N) : Vec Ideal S1x128x128 .bf16 := iblk m c 3 t
abbrev blk4 (t : Fin cfg0.N) : Vec Ideal S1x512x256 .f32 := iblk m c 4 t

/-- The batch and the key head of a point, and the token and the lane that are token `j`, lane `e` at the point. -/
def batchAt (t : Fin cfg0.N) : Fin 8 := ⟨t.val / 4, by have := lt_points t; omega⟩
def headAt (t : Fin cfg0.N) : Fin 2 := ⟨t.val / 2 % 2, by omega⟩
def tokenAt (t : Fin cfg0.N) (j : Fin 2048) : Fin 4096 := ⟨2048 * (t.val % 2) + j.val, by omega⟩
def laneAt (t : Fin cfg0.N) (e : Fin 256) : Fin 512 := ⟨256 * (t.val / 2 % 2) + e.val, by omega⟩

theorem block0 (t : Fin cfg0.N) (j : Fin 2048) (e : Fin 256) :
    blk0 m c t (ix3 0 j e) = mainArr m c (ix3 (batchAt t) (tokenAt t j) (⟨1536 + (256 * (t.val / 2 % 2) + e.val), by omega⟩ : Fin 3072)) := by
  have h := index0 t
  unfold blk0 iblk
  rw [View.read_apply]
  show V m c main_arg0 _ = _
  rw [V_main_arg0]
  refine congrArg (mainArr m c) (funext fun a => Fin.ext ?_)
  match a with
  | ⟨0, _⟩ => show win0_0.index t 0 * 1 + 1 * 0 = t.val / 4; rw [h]; show t.val / 4 * 1 + 1 * 0 = _; omega
  | ⟨1, _⟩ => show win0_0.index t 1 * 2048 + 1 * j.val = 2048 * (t.val % 2) + j.val; rw [h]; show t.val % 2 * 2048 + 1 * j.val = _; omega
  | ⟨2, _⟩ =>
    show win0_0.index t 2 * 256 + 1 * e.val = 1536 + (256 * (t.val / 2 % 2) + e.val)
    rw [h]; show (6 + t.val / 2 % 2) * 256 + 1 * e.val = _; omega

theorem block1 (t : Fin cfg0.N) (j : Fin 128) (e : Fin 128) :
    blk1 m c t (ix3 0 j e) = mainArr m c (ix3 (batchAt t) (⟨128 * (16 * (t.val % 2) - 1) + j.val, by omega⟩ : Fin 4096)
      (⟨2816 + 128 * (t.val / 2 % 2) + e.val, by omega⟩ : Fin 3072)) := by
  have h := index1 t
  unfold blk1 iblk
  rw [View.read_apply]
  show V m c main_arg0 _ = _
  rw [V_main_arg0]
  refine congrArg (mainArr m c) (funext fun a => Fin.ext ?_)
  match a with
  | ⟨0, _⟩ => show win0_1.index t 0 * 1 + 1 * 0 = t.val / 4; rw [h]; show t.val / 4 * 1 + 1 * 0 = _; omega
  | ⟨1, _⟩ =>
    show win0_1.index t 1 * 128 + 1 * j.val = 128 * (16 * (t.val % 2) - 1) + j.val
    rw [h]; show (16 * (t.val % 2) - 1) * 128 + 1 * j.val = _; omega
  | ⟨2, _⟩ =>
    show win0_1.index t 2 * 128 + 1 * e.val = 2816 + 128 * (t.val / 2 % 2) + e.val
    rw [h]; show (22 + t.val / 2 % 2) * 128 + 1 * e.val = _; omega

theorem block2 (t : Fin cfg0.N) (j : Fin 2048) (e : Fin 128) :
    blk2 m c t (ix3 0 j e) = mainArr m c (ix3 (batchAt t) (tokenAt t j) (⟨2816 + 128 * (t.val / 2 % 2) + e.val, by omega⟩ : Fin 3072)) := by
  have h := index2 t
  unfold blk2 iblk
  rw [View.read_apply]
  show V m c main_arg0 _ = _
  rw [V_main_arg0]
  refine congrArg (mainArr m c) (funext fun a => Fin.ext ?_)
  match a with
  | ⟨0, _⟩ => show win0_2.index t 0 * 1 + 1 * 0 = t.val / 4; rw [h]; show t.val / 4 * 1 + 1 * 0 = _; omega
  | ⟨1, _⟩ => show win0_2.index t 1 * 2048 + 1 * j.val = 2048 * (t.val % 2) + j.val; rw [h]; show t.val % 2 * 2048 + 1 * j.val = _; omega
  | ⟨2, _⟩ =>
    show win0_2.index t 2 * 128 + 1 * e.val = 2816 + 128 * (t.val / 2 % 2) + e.val
    rw [h]; show (22 + t.val / 2 % 2) * 128 + 1 * e.val = _; omega

theorem block3 (t : Fin cfg0.N) (j : Fin 128) (e : Fin 128) :
    blk3 m c t (ix3 0 j e) = mainArr m c (ix3 (batchAt t) (⟨128 * (16 + 15 * (t.val % 2)) + j.val, by omega⟩ : Fin 4096)
      (⟨2816 + 128 * (t.val / 2 % 2) + e.val, by omega⟩ : Fin 3072)) := by
  have h := index3 t
  unfold blk3 iblk
  rw [View.read_apply]
  show V m c main_arg0 _ = _
  rw [V_main_arg0]
  refine congrArg (mainArr m c) (funext fun a => Fin.ext ?_)
  match a with
  | ⟨0, _⟩ => show win0_3.index t 0 * 1 + 1 * 0 = t.val / 4; rw [h]; show t.val / 4 * 1 + 1 * 0 = _; omega
  | ⟨1, _⟩ =>
    show win0_3.index t 1 * 128 + 1 * j.val = 128 * (16 + 15 * (t.val % 2)) + j.val
    rw [h]; show (16 + 15 * (t.val % 2)) * 128 + 1 * j.val = _; omega
  | ⟨2, _⟩ =>
    show win0_3.index t 2 * 128 + 1 * e.val = 2816 + 128 * (t.val / 2 % 2) + e.val
    rw [h]; show (22 + t.val / 2 % 2) * 128 + 1 * e.val = _; omega

theorem block4 (t : Fin cfg0.N) (i : Fin 512) (k : Fin 256) : blk4 m c t (ix3 0 i k) = biasArr m c (ix3 (headAt t) i k) := by
  have h := index4 t
  unfold blk4 iblk
  rw [View.read_apply]
  show V m c main_arg1 _ = _
  rw [V_main_arg1]
  refine congrArg (biasArr m c) (funext fun a => Fin.ext ?_)
  match a with
  | ⟨0, _⟩ => show win0_4.index t 0 * 1 + 1 * 0 = t.val / 2 % 2; rw [h]; show t.val / 2 % 2 * 1 + 1 * 0 = _; omega
  | ⟨1, _⟩ => show win0_4.index t 1 * 512 + 1 * i.val = i.val; rw [h]; show 0 * 512 + 1 * i.val = _; omega
  | ⟨2, _⟩ => show win0_4.index t 2 * 256 + 1 * k.val = k.val; rw [h]; show 0 * 256 + 1 * k.val = _; omega

/-- The point's 2304 rows of keys and values are the tokens at the places of its blocks. -/
theorem keys_eq (t : Fin cfg0.N) (l : Fin 2304) (e : Fin 128) :
    k0_pay2 (blk1 m c t) (blk2 m c t) (blk3 m c t) (ix2 l e)
      = mainArr m c (ix3 (batchAt t) (tokenOf ⟨2048 * (t.val % 2) + l.val, by omega⟩)
          (⟨2816 + 128 * (t.val / 2 % 2) + e.val, by omega⟩ : Fin 3072)) := by
  refine (Cert.Band.pay2_apply _ _ _ l e).trans ?_
  by_cases h : l.val < 128
  · simp only [dif_pos h]
    rw [block1]
    refine congrArg (fun x => mainArr m c (ix3 _ x _)) (Fin.ext ?_)
    show 128 * (16 * (t.val % 2) - 1) + l.val = if 2048 * (t.val % 2) + l.val < 128 then 2048 * (t.val % 2) + l.val else if 2048 * (t.val % 2) + l.val < 4224 then 2048 * (t.val % 2) + l.val - 128 else 2048 * (t.val % 2) + l.val - 256
    split_ifs <;> omega
  · simp only [dif_neg h]
    by_cases h' : l.val < 2176
    · simp only [dif_pos h']
      rw [block2]
      refine congrArg (fun x => mainArr m c (ix3 _ x _)) (Fin.ext ?_)
      show 2048 * (t.val % 2) + (l.val - 128) = if 2048 * (t.val % 2) + l.val < 128 then 2048 * (t.val % 2) + l.val else if 2048 * (t.val % 2) + l.val < 4224 then 2048 * (t.val % 2) + l.val - 128 else 2048 * (t.val % 2) + l.val - 256
      split_ifs <;> omega
    · simp only [dif_neg h']
      rw [block3]
      refine congrArg (fun x => mainArr m c (ix3 _ x _)) (Fin.ext ?_)
      show 128 * (16 + 15 * (t.val % 2)) + (l.val - 2176) = if 2048 * (t.val % 2) + l.val < 128 then 2048 * (t.val % 2) + l.val else if 2048 * (t.val % 2) + l.val < 4224 then 2048 * (t.val % 2) + l.val - 128 else 2048 * (t.val % 2) + l.val - 256
      split_ifs <;> omega

/-! ## The results -/

/-- A point's masked scores are the result's at its place. -/
theorem score_eq (t : Fin cfg0.N) (j : Fin 2048) (e : Fin 256) :
    blockScore (t.val % 2) (blk0 m c t) (k0_pay2 (blk1 m c t) (blk2 m c t) (blk3 m c t)) (k0_pay3 (blk4 m c t)) j e
      = score (mainArr m c) (biasArr m c) (batchAt t) (tokenAt t j) (laneAt t e) := by
  have hp (k : Fin 256) : (⟨2048 * (t.val % 2) + (64 + 128 * (j.val / 128) + k.val), by omega⟩ : Fin 4352) = place (tokenAt t j) k :=
    Fin.ext (by show 2048 * (t.val % 2) + (64 + 128 * (j.val / 128) + k.val) = 64 + 128 * ((2048 * (t.val % 2) + j.val) / 128) + k.val; omega)
  funext k
  unfold blockScore score
  have hO : Outside (j.val / 128) (t.val % 2) k.val ↔ (place (tokenAt t j) k).val < 128 ∨ 4224 ≤ (place (tokenAt t j) k).val := by
    rw [← hp k]
    unfold Outside
    dsimp only
    omega
  rw [if_congr hO rfl rfl]
  congr 1
  unfold plain
  refine congrArg₂ (· + ·) (Finset.sum_congr rfl fun d _ => ?_) ?_
  · rw [block0, keys_eq]
    refine congrArg₂ (· * ·) (congrArg (fun x => mainArr m c (ix3 _ _ x)) (Fin.ext ?_)) ?_
    · show 1536 + (256 * (t.val / 2 % 2) + (64 * (e.val / 64) + d.val)) = 1536 + 64 * ((256 * (t.val / 2 % 2) + e.val) / 64) + d.val
      omega
    · refine congrArg₂ (fun x y => mainArr m c (ix3 _ x y)) (congrArg tokenOf (hp k)) (Fin.ext ?_)
      show 2816 + 128 * (t.val / 2 % 2) + d.val = 2816 + 128 * ((256 * (t.val / 2 % 2) + e.val) / 256) + d.val
      omega
  · rw [pay3_apply, block4]
    refine congrArg₂ (fun x y => biasArr m c (ix3 x y k)) (Fin.ext ?_) (Fin.ext ?_)
    · show t.val / 2 % 2 = (256 * (t.val / 2 % 2) + e.val) / 256
      omega
    · show 128 * (e.val / 64) + j.val % 128 = 128 * ((256 * (t.val / 2 % 2) + e.val) / 64 % 4) + (2048 * (t.val % 2) + j.val) % 128
      omega

/-- A point's values are the result's at its place. -/
theorem value_eq (t : Fin cfg0.N) (j : Fin 2048) (e : Fin 256) :
    blockValue (k0_pay2 (blk1 m c t) (blk2 m c t) (blk3 m c t)) j e = valueAt (mainArr m c) (batchAt t) (tokenAt t j) (laneAt t e) := by
  funext k
  unfold blockValue valueAt
  rw [keys_eq]
  refine congrArg₂ (fun x y => mainArr m c (ix3 _ x y)) (congrArg tokenOf (Fin.ext ?_)) (Fin.ext ?_)
  · show 2048 * (t.val % 2) + (64 + 128 * (j.val / 128) + k.val) = 64 + 128 * ((2048 * (t.val % 2) + j.val) / 128) + k.val
    omega
  · show 2816 + 128 * (t.val / 2 % 2) + (64 + e.val % 64)
      = 2880 + 128 * ((256 * (t.val / 2 % 2) + e.val) / 256) + (256 * (t.val / 2 % 2) + e.val) % 64
    omega

/-- The point whose block holds an index. -/
def pointOf (i : S8x4096x512.Idx) : Fin cfg0.N :=
  ⟨4 * (i 0).val + 2 * ((i 2).val / 256) + (i 1).val / 2048, by
    have h0 : (i 0).val < 8 := (i 0).isLt
    have h1 : (i 1).val < 4096 := (i 1).isLt
    have h2 : (i 2).val < 512 := (i 2).isLt
    rw [show cfg0.N = 32 from N_0]; omega⟩

/-- An index lies in its point's block. -/
theorem holds (i : S8x4096x512.Idx) (u : Fin 3 → ℕ)
    (h : u = ![(pointOf i).val / 4, (pointOf i).val % 2, (pointOf i).val / 2 % 2]) (a : Fin 3) :
    u a * S1x2048x256.size a ≤ (i a).val ∧ (i a).val < u a * S1x2048x256.size a + S1x2048x256.size a := by
  have h0 : (i 0).val < 8 := (i 0).isLt
  have h1 : (i 1).val < 4096 := (i 1).isLt
  have h2 : (i 2).val < 512 := (i 2).isLt
  have e : (pointOf i).val = 4 * (i 0).val + 2 * ((i 2).val / 256) + (i 1).val / 2048 := rfl
  subst h
  match a with
  | ⟨0, _⟩ =>
    show (pointOf i).val / 4 * 1 ≤ (i 0).val ∧ (i 0).val < (pointOf i).val / 4 * 1 + 1
    omega
  | ⟨1, _⟩ =>
    show (pointOf i).val % 2 * 2048 ≤ (i 1).val ∧ (i 1).val < (pointOf i).val % 2 * 2048 + 2048
    omega
  | ⟨2, _⟩ =>
    show (pointOf i).val / 2 % 2 * 256 ≤ (i 2).val ∧ (i 2).val < (pointOf i).val / 2 % 2 * 256 + 256
    omega

theorem flushed_values (t : Fin cfg0.N) :
    (dats m 0 c).flushed 5 t = ((cfg0.win 5).blk t).view.read (Elt Ideal) (values (mainArr m c) (biasArr m c)) := by
  rw [Cert.Kernel5Ideal.Value.flushed5]
  have h := index5 t
  funext y
  obtain ⟨z, j, e, rfl⟩ : ∃ (z : Fin 1) (j : Fin 2048) (e : Fin 256), y = (ix3 z j e : S1x2048x256.Idx) :=
    ⟨y 0, y 1, y 2, by funext a; match a with | ⟨0, _⟩ => rfl | ⟨1, _⟩ => rfl | ⟨2, _⟩ => rfl⟩
  obtain rfl : z = 0 := Subsingleton.elim _ _
  have e1 := congrFun (values_eq (grid0.coords t) (blk0 m c t) (blk1 m c t) (blk2 m c t) (blk3 m c t) (blk4 m c t))
    (ix3 0 j e : S1x2048x256.Idx)
  rw [coord3 t] at e1
  refine (e1.trans (congrArg₂ soft (score_eq m c t j e) (value_eq m c t j e))).trans ?_
  rw [View.read_apply]
  show values _ _ (ix3 (batchAt t) (tokenAt t j) (laneAt t e)) = values _ _ _
  refine congrArg (values _ _) (funext fun a => Fin.ext ?_)
  match a with
  | ⟨0, _⟩ => show t.val / 4 = win0_5.index t 0 * 1 + 1 * 0; rw [h]; show _ = t.val / 4 * 1 + 1 * 0; omega
  | ⟨1, _⟩ =>
    show 2048 * (t.val % 2) + j.val = win0_5.index t 1 * 2048 + 1 * j.val
    rw [h]; show _ = t.val % 2 * 2048 + 1 * j.val; omega
  | ⟨2, _⟩ =>
    show 256 * (t.val / 2 % 2) + e.val = win0_5.index t 2 * 256 + 1 * e.val
    rw [h]; show _ = t.val / 2 % 2 * 256 + 1 * e.val; omega

theorem covered_values (i : S8x4096x512.Idx) : ∃ t : Fin cfg0.N, (cfg0.win 5).flush t = true ∧ i ∈ ((cfg0.win 5).blk t).view.set := by
  refine ⟨pointOf i, flush0_5 _, ?_⟩
  show i ∈ ((View.whole main_v0_0).slice (win0_5.rect (pointOf i))).set
  rw [View.set_slice_whole, Rect.mem_set_unit]
  exact holds i _ (index5 (pointOf i))

/-- The array after the run. -/
theorem array_values : (dats m 0 c).arrAt 5 cfg0.N = values (mainArr m c) (biasArr m c) :=
  (dats m 0 c).arrAt_eq_of_cover 5 _ (fun t _ => flushed_values m c t) covered_values

theorem flushed_levels (t : Fin cfg0.N) :
    (dats m 0 c).flushed 6 t = ((cfg0.win 6).blk t).view.read (Elt Ideal) (levels (mainArr m c) (biasArr m c)) := by
  rw [Cert.Kernel5Ideal.Value.flushed6]
  have h := index6 t
  funext y
  obtain ⟨z, j, e, rfl⟩ : ∃ (z : Fin 1) (j : Fin 2048) (e : Fin 256), y = (ix3 z j e : S1x2048x256.Idx) :=
    ⟨y 0, y 1, y 2, by funext a; match a with | ⟨0, _⟩ => rfl | ⟨1, _⟩ => rfl | ⟨2, _⟩ => rfl⟩
  obtain rfl : z = 0 := Subsingleton.elim _ _
  have e1 := congrFun (levels_eq (grid0.coords t) (blk0 m c t) (blk1 m c t) (blk2 m c t) (blk3 m c t) (blk4 m c t))
    (ix3 0 j e : S1x2048x256.Idx)
  rw [coord3 t] at e1
  refine (e1.trans (congrArg lse (score_eq m c t j e))).trans ?_
  rw [View.read_apply]
  show levels _ _ (ix3 (batchAt t) (tokenAt t j) (laneAt t e)) = levels _ _ _
  refine congrArg (levels _ _) (funext fun a => Fin.ext ?_)
  match a with
  | ⟨0, _⟩ => show t.val / 4 = win0_6.index t 0 * 1 + 1 * 0; rw [h]; show _ = t.val / 4 * 1 + 1 * 0; omega
  | ⟨1, _⟩ =>
    show 2048 * (t.val % 2) + j.val = win0_6.index t 1 * 2048 + 1 * j.val
    rw [h]; show _ = t.val % 2 * 2048 + 1 * j.val; omega
  | ⟨2, _⟩ =>
    show 256 * (t.val / 2 % 2) + e.val = win0_6.index t 2 * 256 + 1 * e.val
    rw [h]; show _ = t.val / 2 % 2 * 256 + 1 * e.val; omega

theorem covered_levels (i : S8x4096x512.Idx) : ∃ t : Fin cfg0.N, (cfg0.win 6).flush t = true ∧ i ∈ ((cfg0.win 6).blk t).view.set := by
  refine ⟨pointOf i, flush0_6 _, ?_⟩
  show i ∈ ((View.whole main_v0_1).slice (win0_6.rect (pointOf i))).set
  rw [View.set_slice_whole, Rect.mem_set_unit]
  exact holds i _ (index6 (pointOf i))

/-- The array after the run. -/
theorem array_levels : (dats m 0 c).arrAt 6 cfg0.N = levels (mainArr m c) (biasArr m c) :=
  (dats m 0 c).arrAt_eq_of_cover 6 _ (fun t _ => flushed_levels m c t) covered_levels

end Cert.Dil

end
-- ==== Proof.Dil.RefValue.lean ====
/- The results of the reference of mixer C's first group, entry by entry. -/
module

public import proofs.«01_k».proof.Proof.Gen.Reference5Ideal.Read
public import proofs.«01_k».proof.Proof.Attn.RefValue
public import proofs.«01_k».proof.Proof.Dil.Math
public import proofs.«01_k».proof.Proof.Dil.Value
public import Idealize.ShloMosaic.Lib.Pointwise
public import Idealize.ShloMosaic.Lib.IdealHost

@[expose] public section

set_option maxRecDepth 16384

noncomputable section

namespace Cert.Dil

open Idealize.ShloMosaic Cert.Reference5Ideal Cert.Reference5Ideal.Gen Cert.Reference5Ideal.Read
open Cert.Band (tokenOf log_two_pos scale_score score_ne_top)

/-! ## The windows of 256 keys -/

/-- The reference's padded sequence, its blocks of 128 and the windows of two blocks. -/
def padded (y : FVec Ideal S8x4096x2x64 .f32) : FVec Ideal S8x4224x2x64 .f32 :=
  concatenate S8x4224x2x64 1 [⟨S8x64x2x64, (val_main_v9 (F := Ideal))⟩, ⟨S8x4096x2x64, y⟩, ⟨S8x64x2x64, (val_main_v9 (F := Ideal))⟩]
    concatenates_S8x64x2x64_S8x4096x2x64_S8x64x2x64_S8x4224x2x64_d1

def blocks (y : FVec Ideal S8x4096x2x64 .f32) : FVec Ideal S8x33x128x2x64 .f32 :=
  shapeCast _ (padded y) shapeCasts_S8x4224x2x64_S8x33x128x2x64

def joined (u : FVec Ideal S8x33x128x2x64 .f32) : FVec Ideal S8x32x256x2x64 .f32 :=
  concatenate S8x32x256x2x64 2
    [⟨S8x32x128x2x64, extractStridedSlice S8x32x128x2x64 ![0, 0, 0, 0, 0] u slices_S8x33x128x2x64_S8x32x128x2x64_0_0_0_0_0⟩,
      ⟨S8x32x128x2x64, extractStridedSlice S8x32x128x2x64 ![0, 1, 0, 0, 0] u slices_S8x33x128x2x64_S8x32x128x2x64_0_1_0_0_0⟩]
    concatenates_S8x32x128x2x64_S8x32x128x2x64_S8x32x256x2x64_d2

def windows (y : FVec Ideal S8x4096x2x64 .f32) : FVec Ideal S256x256x2x64 .f32 :=
  shapeCast _ (joined (blocks y)) shapeCasts_S8x32x256x2x64_S256x256x2x64

theorem keys_windows (A : Vec Ideal S8x4096x3072 .bf16) : val_main_v17 (F := Ideal) A = windows (val_main_v11 (F := Ideal) A) := rfl

theorem values_windows (A : Vec Ideal S8x4096x3072 .bf16) : val_main_v25 (F := Ideal) A = windows (val_main_v19 (F := Ideal) A) := rfl

set_option maxHeartbeats 1000000 in
theorem padded_apply (y : FVec Ideal S8x4096x2x64 .f32) (b : Fin 8) (p : Fin 4224) (h : Fin 2) (d : Fin 64) (h1 : ¬p.val < 64) (h2 : p.val < 4160) :
    padded y (ix4 b p h d) = y (ix4 b (⟨p.val - 64, by omega⟩ : Fin 4096) h d) := by
  unfold padded
  generalize val_main_v9 (F := Ideal) = z
  pointwise
  simp only [dif_neg h1, dif_pos (show p.val - 64 < 4096 by omega)]

theorem blocks_apply (y : FVec Ideal S8x4096x2x64 .f32) (b : Fin 8) (x : Fin 33) (r : Fin 128) (h : Fin 2) (d : Fin 64) :
    blocks y (ix5 b x r h d) = padded y (ix4 b (⟨128 * x.val + r.val, by omega⟩ : Fin 4224) h d) := by
  unfold blocks
  generalize padded y = u
  pointwise
  exact congrArg (fun x => u (ix4 b x h d)) (Fin.ext (by show x.val * 128 + r.val = 128 * x.val + r.val; omega))

set_option maxHeartbeats 1000000 in
theorem joined_apply (u : FVec Ideal S8x33x128x2x64 .f32) (b : Fin 8) (w : Fin 32) (k : Fin 256) (h : Fin 2) (d : Fin 64) :
    joined u (ix5 b w k h d) = u (ix5 b (⟨w.val + k.val / 128, by omega⟩ : Fin 33) (⟨k.val % 128, by omega⟩ : Fin 128) h d) := by
  unfold joined
  pointwise
  by_cases h1 : k.val < 128
  · simp only [dif_pos h1]
    exact congrArg₂ (fun x y => u (ix5 b x y h d)) (Fin.ext (by show w.val = w.val + k.val / 128; omega))
      (Fin.ext (by show k.val = k.val % 128; omega))
  · simp only [dif_neg h1]
    exact congrArg₂ (fun x y => u (ix5 b x y h d)) (Fin.ext (by show 1 + w.val = w.val + k.val / 128; omega))
      (Fin.ext (by show k.val - 128 = k.val % 128; omega))

theorem windows_apply (y : FVec Ideal S8x4096x2x64 .f32) (n : Fin 256) (k : Fin 256) (h : Fin 2) (d : Fin 64) :
    windows y (ix4 n k h d) = joined (blocks y) (ix5 (⟨n.val / 32, by omega⟩ : Fin 8) (⟨n.val % 32, by omega⟩ : Fin 32) k h d) := by
  unfold windows
  generalize joined (blocks y) = u
  pointwise

/-- The row of the reference's arrays that holds a token's block. -/
def rowAt (b : Fin 8) (s : Fin 4096) : Fin 256 := ⟨32 * b.val + s.val / 128, by omega⟩

/-- A window's key inside the sequence is the token at its place. -/
theorem windows_at (y : FVec Ideal S8x4096x2x64 .f32) (b : Fin 8) (s : Fin 4096) (k : Fin 256) (h : Fin 2) (d : Fin 64)
    (hp : ¬((place s k).val < 128 ∨ 4224 ≤ (place s k).val)) :
    windows y (ix4 (rowAt b s) k h d) = y (ix4 b (tokenOf (place s k)) h d) := by
  have hp' : ¬(64 + 128 * (s.val / 128) + k.val < 128 ∨ 4224 ≤ 64 + 128 * (s.val / 128) + k.val) := hp
  rw [windows_apply, joined_apply, blocks_apply, padded_apply]
  · refine congrArg₂ (fun x z => y (ix4 x z h d)) (Fin.ext ?_) (Fin.ext ?_)
    · show (32 * b.val + s.val / 128) / 32 = b.val
      omega
    · show 128 * ((32 * b.val + s.val / 128) % 32 + k.val / 128) + k.val % 128 - 64
        = if 64 + 128 * (s.val / 128) + k.val < 128 then 64 + 128 * (s.val / 128) + k.val
          else if 64 + 128 * (s.val / 128) + k.val < 4224 then 64 + 128 * (s.val / 128) + k.val - 128
            else 64 + 128 * (s.val / 128) + k.val - 256
      split_ifs <;> omega
  · show ¬128 * ((32 * b.val + s.val / 128) % 32 + k.val / 128) + k.val % 128 < 64
    omega
  · show 128 * ((32 * b.val + s.val / 128) % 32 + k.val / 128) + k.val % 128 < 4160
    omega

variable (A : Vec Ideal S8x4096x3072 .bf16)

/-- Keys and values alternate in the key heads' columns. -/
theorem pairs_apply (b : Fin 8) (s : Fin 4096) (h : Fin 2) (x : Fin 2) (d : Fin 64) :
    val_main_v8 (F := Ideal) A (ix5 b s h x d) = A (ix3 b s (⟨2816 + 128 * h.val + 64 * x.val + d.val, by omega⟩ : Fin 3072)) := by
  rw [val_main_v8_apply, val_main_v7_apply, val_main_v6_apply]
  show A _ = A _
  refine congrArg A (funext fun a => Fin.ext ?_)
  match a with
  | ⟨0, _⟩ => show ((((b.val * 4096 + s.val) * 2 + h.val) * 2 + x.val) * 64 + d.val) / 1048576 = b.val; omega
  | ⟨1, _⟩ => show ((((b.val * 4096 + s.val) * 2 + h.val) * 2 + x.val) * 64 + d.val) / 256 % 4096 = s.val; omega
  | ⟨2, _⟩ =>
    show 2816 + ((((b.val * 4096 + s.val) * 2 + h.val) * 2 + x.val) * 64 + d.val) % 256 = 2816 + 128 * h.val + 64 * x.val + d.val
    omega

theorem ref_key (b : Fin 8) (s : Fin 4096) (k : Fin 256) (h : Fin 2) (d : Fin 64)
    (hp : ¬((place s k).val < 128 ∨ 4224 ≤ (place s k).val)) :
    val_main_v17 (F := Ideal) A (ix4 (rowAt b s) k h d)
      = A (ix3 b (tokenOf (place s k)) (⟨2816 + 128 * h.val + d.val, by omega⟩ : Fin 3072)) := by
  rw [keys_windows, windows_at _ b s k h d hp, val_main_v11_apply, val_main_v10_apply]
  generalize tokenOf (place s k) = t
  have hi : idx_main_v10 (idx_main_v11 (ix4 b t h d)) = ix5 b t h (0 : Fin 2) d := by
    funext a
    apply Fin.ext
    match a with
    | ⟨0, _⟩ => show (((b.val * 4096 + t.val) * 2 + h.val) * 64 + d.val) / 524288 = b.val; omega
    | ⟨1, _⟩ => show (((b.val * 4096 + t.val) * 2 + h.val) * 64 + d.val) / 128 % 4096 = t.val; omega
    | ⟨2, _⟩ => show (((b.val * 4096 + t.val) * 2 + h.val) * 64 + d.val) / 64 % 2 = h.val; omega
    | ⟨3, _⟩ => rfl
    | ⟨4, _⟩ => show (((b.val * 4096 + t.val) * 2 + h.val) * 64 + d.val) % 64 = d.val; omega
  rw [hi, pairs_apply]
  rfl

theorem ref_value (b : Fin 8) (s : Fin 4096) (e : Fin 512) (k : Fin 256)
    (hp : ¬((place s k).val < 128 ∨ 4224 ≤ (place s k).val)) :
    val_main_v25 (F := Ideal) A (ix4 (rowAt b s) k (⟨e.val / 256, by omega⟩ : Fin 2) (⟨e.val % 64, by omega⟩ : Fin 64)) = valueAt A b s e k := by
  rw [values_windows, windows_at _ b s k _ _ hp, val_main_v19_apply, val_main_v18_apply]
  unfold valueAt
  generalize tokenOf (place s k) = t
  have hi (h : Fin 2) (d : Fin 64) : idx_main_v18 (idx_main_v19 (ix4 b t h d)) = ix5 b t h (1 : Fin 2) d := by
    funext a
    apply Fin.ext
    match a with
    | ⟨0, _⟩ => show (((b.val * 4096 + t.val) * 2 + h.val) * 64 + d.val) / 524288 = b.val; omega
    | ⟨1, _⟩ => show (((b.val * 4096 + t.val) * 2 + h.val) * 64 + d.val) / 128 % 4096 = t.val; omega
    | ⟨2, _⟩ => show (((b.val * 4096 + t.val) * 2 + h.val) * 64 + d.val) / 64 % 2 = h.val; omega
    | ⟨3, _⟩ => rfl
    | ⟨4, _⟩ => show (((b.val * 4096 + t.val) * 2 + h.val) * 64 + d.val) % 64 = d.val; omega
  rw [hi, pairs_apply]
  refine congrArg (fun x => A (ix3 b t x)) (Fin.ext ?_)
  show 2816 + 128 * (e.val / 256) + 64 * 1 + e.val % 64 = 2880 + 128 * (e.val / 256) + e.val % 64
  omega

/-! ## The mask -/

set_option maxHeartbeats 4000000 in
theorem mask_table : ∀ (w : Fin 32) (k : Fin 256),
    IntOp.andi (IntOp.cmpi .sge (IntOp.addi (IntOp.muli 128#32 (BitVec.ofNat 32 w.val)) (BitVec.ofNat 32 k.val)) 64#32)
      (IntOp.cmpi .slt (IntOp.addi (IntOp.muli 128#32 (BitVec.ofNat 32 w.val)) (BitVec.ofNat 32 k.val)) 4160#32)
      = if 128 * w.val + k.val < 64 ∨ 4160 ≤ 128 * w.val + k.val then 0#1 else 1#1 := by decide +kernel

theorem mask_apply (n : Fin 256) (k : Fin 256) :
    val_main_v41 (F := Ideal) (ix2 n k)
      = if 128 * (n.val % 32) + k.val < 64 ∨ 4160 ≤ 128 * (n.val % 32) + k.val then 0#1 else 1#1 := by
  rw [val_main_v41_apply, val_main_v40_apply]
  have hi : idx_main_v40 (idx_main_v41 (ix2 n k)) = ix2 (⟨n.val % 32, by omega⟩ : Fin 32) k := by
    funext a
    apply Fin.ext
    match a with
    | ⟨0, _⟩ => show (n.val * 256 + k.val) / 256 % 32 = n.val % 32; omega
    | ⟨1, _⟩ => show (n.val * 256 + k.val) % 256 = k.val; omega
  rw [hi]
  exact mask_table ⟨n.val % 32, by omega⟩ k

/-! ## The scores -/

theorem ref_query (b : Fin 8) (s : Fin 4096) (h : Fin 2) (r : Fin 4) (d : Fin 64) :
    val_main_v5 (F := Ideal) A (ix5 (rowAt b s) (⟨s.val % 128, by omega⟩ : Fin 128) h r d)
      = A (ix3 b s (⟨1536 + 256 * h.val + 64 * r.val + d.val, by omega⟩ : Fin 3072)) * ((Real.log 2 : ℝ) : EReal) := by
  rw [val_main_v5_apply, val_main_v3_apply, val_main_v2_apply, val_main_v1_apply, val_main_v4_apply, val_main_v0_apply, val_main_cst_apply,
    Attn.log_two]
  show A _ * _ = A _ * _
  refine congrArg (fun x => A x * _) (funext fun a => Fin.ext ?_)
  match a with
  | ⟨0, _⟩ =>
    show (((((32 * b.val + s.val / 128) * 128 + s.val % 128) * 2 + h.val) * 4 + r.val) * 64 + d.val) / 2097152 = b.val
    omega
  | ⟨1, _⟩ =>
    show (((((32 * b.val + s.val / 128) * 128 + s.val % 128) * 2 + h.val) * 4 + r.val) * 64 + d.val) / 512 % 4096 = s.val
    omega
  | ⟨2, _⟩ =>
    show 1536 + (((((32 * b.val + s.val / 128) * 128 + s.val % 128) * 2 + h.val) * 4 + r.val) * 64 + d.val) % 512 = 1536 + 256 * h.val + 64 * r.val + d.val
    omega

variable (B : Vec Ideal S2x512x256 .f32)

theorem ref_bias (n : Fin 256) (h : Fin 2) (r : Fin 4) (q : Fin 128) (k : Fin 256) :
    val_main_v48 (F := Ideal) B (ix5 n h r q k)
      = B (ix3 h (⟨128 * r.val + q.val, by omega⟩ : Fin 512) k) * ((Real.log 2 : ℝ) : EReal) := by
  rw [val_main_v48_apply, val_main_v47_apply, val_main_v46_apply, val_main_v44_apply, val_main_v45_apply, val_main_v0_apply,
    val_main_cst_apply, Attn.log_two]
  show B _ * _ = B _ * _
  refine congrArg (fun x => B x * _) (funext fun a => Fin.ext ?_)
  match a with
  | ⟨0, _⟩ => show (((h.val * 4 + r.val) * 128 + q.val) * 256 + k.val) / 131072 = h.val; omega
  | ⟨1, _⟩ => show (((h.val * 4 + r.val) * 128 + q.val) * 256 + k.val) / 256 % 512 = 128 * r.val + q.val; omega
  | ⟨2, _⟩ => show (((h.val * 4 + r.val) * 128 + q.val) * 256 + k.val) % 256 = k.val; omega

/-- The place of a lane of the result in the reference's arrays of scores. -/
abbrev at5 (b : Fin 8) (s : Fin 4096) (e : Fin 512) (k : Fin 256) : S256x2x4x128x256.Idx :=
  ix5 (rowAt b s) (⟨e.val / 256, by omega⟩ : Fin 2) (⟨e.val / 64 % 4, by omega⟩ : Fin 4) (⟨s.val % 128, by omega⟩ : Fin 128) k

/-- The reference's plain score, for a key inside the sequence. -/
theorem ref_plain (b : Fin 8) (s : Fin 4096) (e : Fin 512) (k : Fin 256) (hp : ¬((place s k).val < 128 ∨ 4224 ≤ (place s k).val)) :
    val_main_v49 (F := Ideal) A B (at5 b s e k)
      = (∑ d : Fin 64, A (ix3 b (tokenOf (place s k)) (⟨2816 + 128 * (e.val / 256) + d.val, by omega⟩ : Fin 3072))
            * (A (ix3 b s (⟨1536 + 64 * (e.val / 64) + d.val, by omega⟩ : Fin 3072)) * ((Real.log 2 : ℝ) : EReal)))
          + B (ix3 (⟨e.val / 256, by omega⟩ : Fin 2) (⟨128 * (e.val / 64 % 4) + s.val % 128, by omega⟩ : Fin 512) k)
            * ((Real.log 2 : ℝ) : EReal) := by
  rw [val_main_v49_apply, ref_bias, val_main_v43_apply, val_main_v42_apply]
  refine congrArg (· + _) (Finset.sum_congr rfl fun d _ => ?_)
  have hl : lidx_main_v42 (idx_main_v43 (at5 b s e k)) d = ix4 (rowAt b s) k (⟨e.val / 256, by omega⟩ : Fin 2) d := by
    funext a
    match a with
    | ⟨0, _⟩ => rfl
    | ⟨1, _⟩ => rfl
    | ⟨2, _⟩ => rfl
    | ⟨3, _⟩ => rfl
  have hr : ridx_main_v42 (idx_main_v43 (at5 b s e k)) d
      = ix5 (rowAt b s) (⟨s.val % 128, by omega⟩ : Fin 128) (⟨e.val / 256, by omega⟩ : Fin 2) (⟨e.val / 64 % 4, by omega⟩ : Fin 4) d := by
    funext a
    match a with
    | ⟨0, _⟩ => rfl
    | ⟨1, _⟩ => rfl
    | ⟨2, _⟩ => rfl
    | ⟨3, _⟩ => rfl
    | ⟨4, _⟩ => rfl
  rw [hl, hr, ref_key A b s k _ d hp, ref_query]
  refine congrArg (fun x => _ * (A (ix3 b s x) * _)) (Fin.ext ?_)
  show 1536 + 256 * (e.val / 256) + 64 * (e.val / 64 % 4) + d.val = 1536 + 64 * (e.val / 64) + d.val
  omega

/-- The scores are not positive infinity, and the reference's are the kernel's times the logarithm of two. -/
theorem ref_score (hq : ∀ b s (c : Fin 512), ∃ r : ℝ, A (ix3 b s (⟨1536 + c.val, by omega⟩ : Fin 3072)) = (r : EReal))
    (hk : ∀ b s (h : Fin 2) (d : Fin 64), ∃ r : ℝ, A (ix3 b s (⟨2816 + 128 * h.val + d.val, by omega⟩ : Fin 3072)) = (r : EReal))
    (hB : ∀ i, B i ≠ ⊤) (b : Fin 8) (s : Fin 4096) (e : Fin 512) (k : Fin 256) :
    score A B b s e k ≠ ⊤ ∧ val_main_v51 (F := Ideal) A B (at5 b s e k) = score A B b s e k * ((Real.log 2 : ℝ) : EReal) := by
  have hi : idx_main_v50 (idx_main_call0_v1 (at5 b s e k)) = ix2 (rowAt b s) k := by
    funext a
    match a with
    | ⟨0, _⟩ => rfl
    | ⟨1, _⟩ => rfl
  have hv : (128 * ((rowAt b s).val % 32) + k.val < 64 ∨ 4160 ≤ 128 * ((rowAt b s).val % 32) + k.val)
      ↔ ((place s k).val < 128 ∨ 4224 ≤ (place s k).val) := by
    show (128 * ((32 * b.val + s.val / 128) % 32) + k.val < 64 ∨ 4160 ≤ 128 * ((32 * b.val + s.val / 128) % 32) + k.val)
      ↔ (64 + 128 * (s.val / 128) + k.val < 128 ∨ 4224 ≤ 64 + 128 * (s.val / 128) + k.val)
    omega
  rw [val_main_v51_apply, val_main_call0_v1_apply, val_main_v50_apply, hi, mask_apply, if_congr hv rfl rfl]
  unfold score
  by_cases hp : (place s k).val < 128 ∨ 4224 ≤ (place s k).val
  · rw [if_pos hp, if_pos hp, EReal.bot_mul_coe_of_pos log_two_pos, val_main_call0_v2_apply]
    refine ⟨bot_ne_top, ?_⟩
    show Ideal.ofBits .f32 0xFF800000#32 = _
    simp [Ideal.ofBits, Ideal.ieee]
  · rw [if_neg hp, if_neg hp]
    choose q hq' using fun d : Fin 64 => hq b s (⟨64 * (e.val / 64) + d.val, by omega⟩ : Fin 512)
    choose y hy using fun d : Fin 64 => hk b (tokenOf (place s k)) (⟨e.val / 256, by omega⟩ : Fin 2) d
    have hs : plain A B b s e k = ∑ d, (q d : EReal) * (y d : EReal)
        + B (ix3 (⟨e.val / 256, by omega⟩ : Fin 2) (⟨128 * (e.val / 64 % 4) + s.val % 128, by omega⟩ : Fin 512) k) := by
      unfold plain
      exact congrArg (· + _) (Finset.sum_congr rfl fun d _ => congrArg₂ (· * ·) ((congrArg (fun x => A (ix3 b s x)) (Fin.ext (Nat.add_assoc _ _ _))).trans (hq' d)) (hy d))
    refine ⟨by rw [hs]; exact score_ne_top q y _ (hB _), ?_⟩
    show val_main_v49 (F := Ideal) A B (at5 b s e k) = _
    rw [ref_plain A B b s e k hp, hs, ← scale_score q y _ (hB _)]
    exact congrArg (· + _) (Finset.sum_congr rfl fun d _ => congrArg₂ (fun x z => x * (z * _)) (hy d) ((congrArg (fun x => A (ix3 b s x)) (Fin.ext (Nat.add_assoc _ _ _))).trans (hq' d)))

/-! ## The softmax and its logarithm -/

/-- The place of a row of scores. -/
abbrev at4 (b : Fin 8) (s : Fin 4096) (e : Fin 512) : S256x2x4x128.Idx :=
  ix4 (rowAt b s) (⟨e.val / 256, by omega⟩ : Fin 2) (⟨e.val / 64 % 4, by omega⟩ : Fin 4) (⟨s.val % 128, by omega⟩ : Fin 128)

/-- The row's scores in the reference. -/
def refRow (b : Fin 8) (s : Fin 4096) (e : Fin 512) (k : Fin 256) : EReal := val_main_v51 (F := Ideal) A B (at5 b s e k)

theorem ref_max (b : Fin 8) (s : Fin 4096) (e : Fin 512) :
    val_main_v52 (F := Ideal) A B (at4 b s e) = Finset.univ.fold max ⊥ (refRow A B b s e) := by
  unfold val_main_v52 refRow
  generalize val_main_v51 (F := Ideal) A B = y
  unfold val_main_cst_4
  pointwise
  have hb : Ideal.ofBits .f32 4286578688#32 = (⊥ : EReal) := by simp [Ideal.ofBits, Ideal.ieee]
  rw [hb]

theorem ref_lse (b : Fin 8) (s : Fin 4096) (e : Fin 512) :
    val_main_v59 (F := Ideal) A B (at4 b s e) = refLse (refRow A B b s e) := by
  rw [val_main_v59_apply, val_main_v58_apply, val_main_v57_apply, ref_max, val_main_cst_5_apply]
  have hz : (FloatOps.ofBits .f32 0x00000000#32 : Ideal .f32) = (0 : EReal) := Ideal.ofBits_zero_f32
  have hs : ∑ k, val_main_v56 (F := Ideal) A B (idx_main_v57 (at4 b s e) k)
      = ∑ k, Ideal.exp (refRow A B b s e k - Finset.univ.fold max ⊥ (refRow A B b s e)) := by
    refine Finset.sum_congr rfl fun k _ => ?_
    have h5 : idx_main_v57 (at4 b s e) k = at5 b s e k := by
      funext a
      match a with
      | ⟨0, _⟩ => rfl
      | ⟨1, _⟩ => rfl
      | ⟨2, _⟩ => rfl
      | ⟨3, _⟩ => rfl
      | ⟨4, _⟩ => rfl
    have h4 : idx_main_v53 (idx_main_v54 (at5 b s e k)) = at4 b s e := by
      funext a
      match a with
      | ⟨0, _⟩ => rfl
      | ⟨1, _⟩ => rfl
      | ⟨2, _⟩ => rfl
      | ⟨3, _⟩ => rfl
    rw [h5, val_main_v56_apply, val_main_v55_apply, val_main_v54_apply, val_main_v53_apply, h4, ref_max]
    rfl
  rw [hz, zero_add, hs]
  rfl

theorem ref_weight (b : Fin 8) (s : Fin 4096) (e : Fin 512) (k : Fin 256) :
    val_main_v63 (F := Ideal) A B (at5 b s e k) = Ideal.exp (refRow A B b s e k - refLse (refRow A B b s e)) := by
  have h4 : idx_main_v60 (idx_main_v61 (at5 b s e k)) = at4 b s e := by
    funext a
    match a with
    | ⟨0, _⟩ => rfl
    | ⟨1, _⟩ => rfl
    | ⟨2, _⟩ => rfl
    | ⟨3, _⟩ => rfl
  rw [val_main_v63_apply, val_main_v62_apply, val_main_v61_apply, val_main_v60_apply, h4, ref_lse]
  rfl

/-- The place of a lane of a result among the reference's blocks and heads. -/
theorem lane_at (b : Fin 8) (s : Fin 4096) (e : Fin 512) :
    idx_main_v66 (ix3 b s e) = ix5 (rowAt b s) (⟨s.val % 128, by omega⟩ : Fin 128) (⟨e.val / 256, by omega⟩ : Fin 2)
      (⟨e.val / 64 % 4, by omega⟩ : Fin 4) (⟨e.val % 64, by omega⟩ : Fin 64) := by
  funext a
  apply Fin.ext
  match a with
  | ⟨0, _⟩ => show ((b.val * 4096 + s.val) * 512 + e.val) / 65536 = 32 * b.val + s.val / 128; omega
  | ⟨1, _⟩ => show ((b.val * 4096 + s.val) * 512 + e.val) / 512 % 128 = s.val % 128; omega
  | ⟨2, _⟩ => show ((b.val * 4096 + s.val) * 512 + e.val) / 256 % 2 = e.val / 256; omega
  | ⟨3, _⟩ => show ((b.val * 4096 + s.val) * 512 + e.val) / 64 % 4 = e.val / 64 % 4; omega
  | ⟨4, _⟩ => show ((b.val * 4096 + s.val) * 512 + e.val) % 64 = e.val % 64; omega

theorem ref_output (b : Fin 8) (s : Fin 4096) (e : Fin 512) :
    val_main_v66 (F := Ideal) A B (ix3 b s e)
      = ∑ k, val_main_v25 (F := Ideal) A (ix4 (rowAt b s) k (⟨e.val / 256, by omega⟩ : Fin 2) (⟨e.val % 64, by omega⟩ : Fin 64))
          * Ideal.exp (refRow A B b s e k - refLse (refRow A B b s e)) := by
  rw [val_main_v66_apply, lane_at, val_main_v65_apply, val_main_v64_apply]
  refine Finset.sum_congr rfl fun k _ => congrArg₂ (· * ·) (congrArg (val_main_v25 (F := Ideal) A) (funext fun a => ?_))
    ((congrArg (val_main_v63 (F := Ideal) A B) (funext fun a => ?_)).trans (ref_weight A B b s e k))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl
    | ⟨4, _⟩ => rfl

theorem ref_level (b : Fin 8) (s : Fin 4096) (e : Fin 512) :
    val_main_v72 (F := Ideal) A B (ix3 b s e) = Ideal.div (refLse (refRow A B b s e)) ((Real.log 2 : ℝ) : EReal) := by
  have h4 : idx_main_v69 (idx_main_v70 (idx_main_v71 (idx_main_v72 (ix3 b s e)))) = at4 b s e := by
    have h5 : idx_main_v72 (ix3 b s e) = _ := lane_at b s e
    rw [h5]
    funext a
    match a with
    | ⟨0, _⟩ => rfl
    | ⟨1, _⟩ => rfl
    | ⟨2, _⟩ => rfl
    | ⟨3, _⟩ => rfl
  rw [val_main_v72_apply, val_main_v71_apply, val_main_v70_apply, val_main_v69_apply, h4, val_main_v68_apply, ref_lse, val_main_v67_apply,
    val_main_v0_apply, val_main_cst_apply, Attn.log_two]
  rfl

/-! ## The results -/

/-- A query's own key is at its window's key `64 + s % 128`. -/
theorem own_score (hq : ∀ b s (c : Fin 512), ∃ r : ℝ, A (ix3 b s (⟨1536 + c.val, by omega⟩ : Fin 3072)) = (r : EReal))
    (hk : ∀ b s (h : Fin 2) (d : Fin 64), ∃ r : ℝ, A (ix3 b s (⟨2816 + 128 * h.val + d.val, by omega⟩ : Fin 3072)) = (r : EReal))
    (hB : ∀ i, ∃ r : ℝ, B i = (r : EReal)) (b : Fin 8) (s : Fin 4096) (e : Fin 512) :
    ∃ r : ℝ, score A B b s e (⟨64 + s.val % 128, by omega⟩ : Fin 256) = (r : EReal) := by
  generalize hk0 : (⟨64 + s.val % 128, by omega⟩ : Fin 256) = k
  have hv : k.val = 64 + s.val % 128 := (congrArg Fin.val hk0).symm
  have hp : ¬((place s k).val < 128 ∨ 4224 ≤ (place s k).val) := by
    show ¬(64 + 128 * (s.val / 128) + k.val < 128 ∨ 4224 ≤ 64 + 128 * (s.val / 128) + k.val)
    omega
  obtain ⟨r, hr⟩ := hB (ix3 (⟨e.val / 256, by omega⟩ : Fin 2) (⟨128 * (e.val / 64 % 4) + s.val % 128, by omega⟩ : Fin 512) k)
  choose q hq' using fun d : Fin 64 => hq b s (⟨64 * (e.val / 64) + d.val, by omega⟩ : Fin 512)
  choose y hy using fun d : Fin 64 => hk b (tokenOf (place s k)) (⟨e.val / 256, by omega⟩ : Fin 2) d
  refine ⟨(∑ d, q d * y d) + r, ?_⟩
  unfold score
  rw [if_neg hp, EReal.coe_add, Attn.coe_sum]
  simp only [EReal.coe_mul]
  unfold plain
  exact congrArg₂ (· + ·) (Finset.sum_congr rfl fun d _ =>
    congrArg₂ (· * ·) ((congrArg (fun x => A (ix3 b s x)) (Fin.ext (Nat.add_assoc _ _ _))).trans (hq' d)) (hy d)) hr

/-- With finite queries, keys and biases, the reference's results are the kernel's. -/
theorem reference_eq (hq : ∀ b s (c : Fin 512), ∃ r : ℝ, A (ix3 b s (⟨1536 + c.val, by omega⟩ : Fin 3072)) = (r : EReal))
    (hk : ∀ b s (h : Fin 2) (d : Fin 64), ∃ r : ℝ, A (ix3 b s (⟨2816 + 128 * h.val + d.val, by omega⟩ : Fin 3072)) = (r : EReal))
    (hB : ∀ i, ∃ r : ℝ, B i = (r : EReal)) :
    val_main_v66 (F := Ideal) A B = values A B ∧ val_main_v72 (F := Ideal) A B = levels A B := by
  have hB' : ∀ i, B i ≠ ⊤ := fun i => by
    obtain ⟨r, h⟩ := hB i
    rw [h]
    exact EReal.coe_ne_top r
  have hrow (b s e) : refRow A B b s e = fun k => score A B b s e k * ((Real.log 2 : ℝ) : EReal) :=
    funext fun k => (ref_score A B hq hk hB' b s e k).2
  have hW (b s e) : ∀ k, score A B b s e k = ⊥ ∨ valueAt A b s e k
      = val_main_v25 (F := Ideal) A (ix4 (rowAt b s) k (⟨e.val / 256, by omega⟩ : Fin 2) (⟨e.val % 64, by omega⟩ : Fin 64)) := fun k => by
    by_cases hp : (place s k).val < 128 ∨ 4224 ≤ (place s k).val
    · exact Or.inl (if_pos hp)
    · exact Or.inr (ref_value A b s e k hp).symm
  have hi (i : S8x4096x512.Idx) : ∃ (b : Fin 8) (s : Fin 4096) (e : Fin 512), i = ix3 b s e :=
    ⟨i 0, i 1, i 2, by funext a; match a with | ⟨0, _⟩ => rfl | ⟨1, _⟩ => rfl | ⟨2, _⟩ => rfl⟩
  constructor
  · funext i
    obtain ⟨b, s, e, rfl⟩ := hi i
    obtain ⟨r, hr⟩ := own_score A B hq hk hB b s e
    rw [ref_output, hrow]
    exact (soft_eq (score A B b s e) (fun k => (ref_score A B hq hk hB' b s e k).1) _ r hr _ _ (hW b s e)).symm
  · funext i
    obtain ⟨b, s, e, rfl⟩ := hi i
    obtain ⟨r, hr⟩ := own_score A B hq hk hB b s e
    rw [ref_level, hrow]
    exact (lse_eq (score A B b s e) (fun k => (ref_score A B hq hk hB' b s e k).1) _ r hr).symm

end Cert.Dil

end
-- ==== Proof.Dil.Claims.lean ====
/- The claims about mixer C's first group: the frames of its three programs, the named constants, and the equality of the
   kernel's two results and the reference's for finite queries, keys and biases. -/
module

public import proofs.«01_k».proof.Defs
public import proofs.«01_k».proof.Proof.Gen.Kernel5.Frame
public import proofs.«01_k».proof.Proof.Gen.Reference5Ideal.Run
public import proofs.«01_k».proof.Proof.Gen.Pre_finite_c
public import proofs.«01_k».proof.Proof.Attn.Claims
public import proofs.«01_k».proof.Proof.Dil.RefValue
public import Idealize.ShloMosaic.Lib.ReduceAll
public import Idealize.ShloMosaic.Lib.Quiescent

@[expose] public section

set_option maxRecDepth 16384

noncomputable section

namespace Cert.Dil

open Idealize.ShloMosaic Idealize.ShloMosaic.TcCoe Idealize.SL.Sem

/-! ## The precondition -/

instance : Subsingleton Cert.Pre_finite_c.S_.Idx := ⟨fun a b => funext fun i => i.elim0⟩

theorem finite_of_pre (A : Vec Ideal Cert.Kernel5Ideal.S8x4096x3072 .bf16) (B : Vec Ideal Cert.Kernel5Ideal.S2x512x256 .f32)
    (h : Cert.Pre_finite_c.fn (F := Ideal) A B = fun _ => 1#1) :
    (∀ (b : Fin 8) (s : Fin 4096) (c : Fin 512), ∃ r : ℝ, A (ix3 b s (⟨1536 + c.val, by omega⟩ : Fin 3072)) = (r : EReal))
    ∧ (∀ (b : Fin 8) (s : Fin 4096) (g : Fin 2) (d : Fin 64),
        ∃ r : ℝ, A (ix3 b s (⟨2816 + 128 * g.val + d.val, by omega⟩ : Fin 3072)) = (r : EReal))
    ∧ ∀ i, ∃ r : ℝ, B i = (r : EReal) := by
  have h' := congrFun h (fun a => a.elim0)
  unfold Cert.Pre_finite_c.fn Cert.Pre_finite_c.fn_part1 at h'
  dsimp only at h'
  obtain ⟨h01, hb⟩ := IntOp.andi_eq_one.mp h'
  obtain ⟨hq, hk⟩ := IntOp.andi_eq_one.mp h01
  refine ⟨fun b s c => ?_, fun b s g d => ?_, fun i => ?_⟩
  · have h1 := Attn.lt_top_of_cmp _ (Host.reduce_andi_all _ _ _ _ _ hq (ix3 b s c))
    refine Attn.real_of_abs_lt _ (lt_of_eq_of_lt ?_ h1)
    pointwise
    rfl
  · have h1 := Attn.lt_top_of_cmp _ (Host.reduce_andi_all _ _ _ _ _ hk (ix4 b s g d))
    refine Attn.real_of_abs_lt _ (lt_of_eq_of_lt ?_ h1)
    pointwise
    exact congrArg (fun x => max (A (ix3 b s x)) (-A (ix3 b s x)))
      (Fin.ext (show 2816 + 128 * g.val + d.val = 2816 + (g.val * 128 + d.val) by omega))
  · exact Attn.real_of_abs_lt _ (Attn.lt_top_of_cmp _ (Host.reduce_andi_all _ _ _ _ _ hb i))

/-! ## The claims -/

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_ideal_pre : Cert.quiescent_Kernel5Ideal_pre_finite_c := fun m ρ _ => Cert.Kernel5Ideal.Gen.frame m ρ

theorem frame_reference : Cert.quiescent_Reference5Ideal := fun m ρ _ =>
  (θ_run Cert.Reference5Ideal.defs _ _).mono (fun r h => ⟨fun c => (h c).2.2,
    Idealize.ShloMosaic.sem_eq_zero_of_no_sems (by decide) r.2⟩) (Cert.Reference5Ideal.Value.run (F := Ideal) m ρ)

theorem frame_reference_pre : Cert.quiescent_Reference5Ideal_pre_finite_c := fun m ρ _ =>
  (θ_run Cert.Reference5Ideal.defs _ _).mono (fun r h => ⟨fun c => (h c).2.2,
    Idealize.ShloMosaic.sem_eq_zero_of_no_sems (by decide) r.2⟩) (Cert.Reference5Ideal.Value.run (F := Ideal) m ρ)

/-- The mask's literal stands for negative infinity, and the factor of the logarithm for log2(e). -/
theorem consts_named : Cert.preserves_Kernel5_Kernel5Ideal :=
  ⟨IdealRules.named_const.statement Cert.Kernel5Ideal.κ "mask" .f32 0xF149F2CA#32 ⊥ rfl,
    IdealRules.named_const.statement Cert.Kernel5Ideal.κ "log2e" .f32 0x3FB8AA3B#32 (((Real.log 2)⁻¹ : ℝ) : EReal) rfl⟩

/-- The kernel and the reference compute the same two arrays, when the queries, the keys and the biases are finite. -/
theorem value_claim : Cert.algebraic_Kernel5Ideal_Reference5Ideal_pre_finite_c := by
  intro m ρ m' ρ' hpre hargs
  refine ⟨fun c => values (mainArr m c) (biasArr m c), fun c => levels (mainArr m c) (biasArr m c), ?_, ?_⟩
  · exact (θ_run Cert.Kernel5Ideal.defs _ _).mono (fun _ h c => ⟨(h c).1.trans (array_values m c),
      (h c).2.1.trans (array_levels m c), (h c).2.2⟩) (Cert.Kernel5Ideal.Value.run_blocks m ρ)
  have heq (c : Dev Cert.Kernel5Ideal.nD) := (fun h => reference_eq (mainArr m c) (biasArr m c) h.1 h.2.1 h.2.2)
    (finite_of_pre (mainArr m c) (biasArr m c) (hpre c))
  refine (θ_run Cert.Reference5Ideal.defs _ _).mono (fun r h c => ⟨(h c).1.trans ?_, (h c).2.1.trans ?_, (h c).2.2⟩)
    (Cert.Reference5Ideal.Value.run (F := Ideal) m' ρ')
  · rw [Cert.Reference5Ideal.Read.val_main_v66_eq, (hargs c).1, (hargs c).2]
    exact (heq c).1
  · rw [Cert.Reference5Ideal.Read.val_main_v72_eq, (hargs c).1, (hargs c).2]
    exact (heq c).2

end Cert.Dil

end
-- ==== Proof.Dil1.Frame.lean ====
/- The frame of mixer C's second group, with the extents of its stores written out. -/
module

public import proofs.«01_k».proof.Proof.Gen.Kernel6.Frame.RunA
public import Idealize.ShloMosaic.Lib.Claim

@[expose] public section

-- membership in a rectangle of production extents (`View.cover_of_tiled`): the elaborator's structural look
-- recurses once per coordinate of the long axes
set_option maxRecDepth 16384

noncomputable section

namespace Cert.Kernel6.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces that the run stores of output 5 cover its block. -/
theorem cover0_A_5 (c : Dev nD) (i : grid0.Coords) (arg4 : Memref sig .tc .vmem S1x2x1024x256 .bf16) (harg4 : arg4.IsWhole) (arg5 : Memref sig .tc .vmem S1x2x128x128 .bf16) (harg5 : arg5.IsWhole) (arg6 : Memref sig .tc .vmem S1x2x1024x128 .bf16) (harg6 : arg6.IsWhole) (arg7 : Memref sig .tc .vmem S1x2x128x128 .bf16) (harg7 : arg7.IsWhole) (arg8 : Memref sig .tc .vmem S1x512x256 .f32) (harg8 : arg8.IsWhole) (arg9 : Memref sig .tc .vmem S1x2x1024x256 .f32) (harg9 : arg9.IsWhole) (arg10 : Memref sig .tc .vmem S1x2x1024x256 .f32) (harg10 : arg10.IsWhole)
    (x0 : Vec F S1x2x1024x256 .bf16) (x1 : Vec F S1x2x128x128 .bf16) (x2 : Vec F S1x2x1024x128 .bf16) (x3 : Vec F S1x2x128x128 .bf16) (x4 : Vec F S1x512x256 .f32) (y : S1x2x1024x256.Idx) :
    ∃ pc ∈ (kernelRun0_A c i arg4 harg4 arg5 harg5 arg6 harg6 arg7 harg7 arg8 harg8 arg9 harg9 arg10 harg10 x0 x1 x2 x3 x4).1, y ∈ pc.1.set :=
  View.cover_of_tiledL (kernelRun0_A c i arg4 harg4 arg5 harg5 arg6 harg6 arg7 harg7 arg8 harg8 arg9 harg9 arg10 harg10 x0 x1 x2 x3 x4).1 (![1, 1, 128, 256] : Fin 4 → ℕ) (by sl_kernel_rfl) y

/-- What the run leaves in output 5's staging buffer: its pieces read back over junk. -/
def out0_A_5 (c : Dev nD) (i : grid0.Coords) (arg4 : Memref sig .tc .vmem S1x2x1024x256 .bf16) (harg4 : arg4.IsWhole) (arg5 : Memref sig .tc .vmem S1x2x128x128 .bf16) (harg5 : arg5.IsWhole) (arg6 : Memref sig .tc .vmem S1x2x1024x128 .bf16) (harg6 : arg6.IsWhole) (arg7 : Memref sig .tc .vmem S1x2x128x128 .bf16) (harg7 : arg7.IsWhole) (arg8 : Memref sig .tc .vmem S1x512x256 .f32) (harg8 : arg8.IsWhole) (arg9 : Memref sig .tc .vmem S1x2x1024x256 .f32) (harg9 : arg9.IsWhole) (arg10 : Memref sig .tc .vmem S1x2x1024x256 .f32) (harg10 : arg10.IsWhole)
    (x0 : Vec F S1x2x1024x256 .bf16) (x1 : Vec F S1x2x128x128 .bf16) (x2 : Vec F S1x2x1024x128 .bf16) (x3 : Vec F S1x2x128x128 .bf16) (x4 : Vec F S1x512x256 .f32) : Vec F S1x2x1024x256 .f32 :=
  VO0_5.read (Elt F) (VO0_5.writes (Elt F) VO0_5.junk (kernelRun0_A c i arg4 harg4 arg5 harg5 arg6 harg6 arg7 harg7 arg8 harg8 arg9 harg9 arg10 harg10 x0 x1 x2 x3 x4).1)

/-- The pieces that the run stores of output 6 cover its block. -/
theorem cover0_A_6 (c : Dev nD) (i : grid0.Coords) (arg4 : Memref sig .tc .vmem S1x2x1024x256 .bf16) (harg4 : arg4.IsWhole) (arg5 : Memref sig .tc .vmem S1x2x128x128 .bf16) (harg5 : arg5.IsWhole) (arg6 : Memref sig .tc .vmem S1x2x1024x128 .bf16) (harg6 : arg6.IsWhole) (arg7 : Memref sig .tc .vmem S1x2x128x128 .bf16) (harg7 : arg7.IsWhole) (arg8 : Memref sig .tc .vmem S1x512x256 .f32) (harg8 : arg8.IsWhole) (arg9 : Memref sig .tc .vmem S1x2x1024x256 .f32) (harg9 : arg9.IsWhole) (arg10 : Memref sig .tc .vmem S1x2x1024x256 .f32) (harg10 : arg10.IsWhole)
    (x0 : Vec F S1x2x1024x256 .bf16) (x1 : Vec F S1x2x128x128 .bf16) (x2 : Vec F S1x2x1024x128 .bf16) (x3 : Vec F S1x2x128x128 .bf16) (x4 : Vec F S1x512x256 .f32) (y : S1x2x1024x256.Idx) :
    ∃ pc ∈ (kernelRun0_A c i arg4 harg4 arg5 harg5 arg6 harg6 arg7 harg7 arg8 harg8 arg9 harg9 arg10 harg10 x0 x1 x2 x3 x4).2.1, y ∈ pc.1.set :=
  View.cover_of_tiledL (kernelRun0_A c i arg4 harg4 arg5 harg5 arg6 harg6 arg7 harg7 arg8 harg8 arg9 harg9 arg10 harg10 x0 x1 x2 x3 x4).2.1 (![1, 1, 128, 256] : Fin 4 → ℕ) (by sl_kernel_rfl) y

/-- What the run leaves in output 6's staging buffer: its pieces read back over junk. -/
def out0_A_6 (c : Dev nD) (i : grid0.Coords) (arg4 : Memref sig .tc .vmem S1x2x1024x256 .bf16) (harg4 : arg4.IsWhole) (arg5 : Memref sig .tc .vmem S1x2x128x128 .bf16) (harg5 : arg5.IsWhole) (arg6 : Memref sig .tc .vmem S1x2x1024x128 .bf16) (harg6 : arg6.IsWhole) (arg7 : Memref sig .tc .vmem S1x2x128x128 .bf16) (harg7 : arg7.IsWhole) (arg8 : Memref sig .tc .vmem S1x512x256 .f32) (harg8 : arg8.IsWhole) (arg9 : Memref sig .tc .vmem S1x2x1024x256 .f32) (harg9 : arg9.IsWhole) (arg10 : Memref sig .tc .vmem S1x2x1024x256 .f32) (harg10 : arg10.IsWhole)
    (x0 : Vec F S1x2x1024x256 .bf16) (x1 : Vec F S1x2x128x128 .bf16) (x2 : Vec F S1x2x1024x128 .bf16) (x3 : Vec F S1x2x128x128 .bf16) (x4 : Vec F S1x512x256 .f32) : Vec F S1x2x1024x256 .f32 :=
  VO0_6.read (Elt F) (VO0_6.writes (Elt F) VO0_6.junk (kernelRun0_A c i arg4 harg4 arg5 harg5 arg6 harg6 arg7 harg7 arg8 harg8 arg9 harg9 arg10 harg10 x0 x1 x2 x3 x4).2.1)

/-! ## What the outputs hold after each point -/

/-- What the outputs' staging buffers hold after the body at point `t` (as a tuple, in window order): the run's contents at
    the point's memrefs and input blocks. -/
def outsAt0 (c : Dev nD) (t : Fin cfg0.N) : Vec F S1x2x1024x256 .f32 × Vec F S1x2x1024x256 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the run ends, the arguments and the semaphores as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel6.Gen

end
-- ==== Proof.Dil.Rows.lean ====
/- One row of scores of the dilated groups' references: 256 rows of blocks of 128 queries, each block with a window of 256 keys,
   whatever the arrays the windows were cut from. -/
module

public import proofs.«01_k».proof.Proof.Gen.Reference5Ideal.Read
public import proofs.«01_k».proof.Proof.Attn.RefValue
public import proofs.«01_k».proof.Proof.Dil.RefValue
public import Idealize.ShloMosaic.Lib.Pointwise
public import Idealize.ShloMosaic.Lib.IdealHost

@[expose] public section

set_option maxRecDepth 16384

noncomputable section

namespace Cert.Dil.Rows

open Idealize.ShloMosaic Cert.Reference5Ideal Cert.Reference5Ideal.Gen Cert.Reference5Ideal.Read
open Cert.Band (log_two_pos scale_score score_ne_top)

variable (q : FVec Ideal S256x128x2x4x64 .f32) (kk vv : FVec Ideal S256x256x2x64 .f32) (mask : IVec S256x256 1)
  (B : Vec Ideal S2x512x256 .f32)

def products : FVec Ideal S256x2x4x128x256 .f32 :=
  transpose S256x2x4x128x256 [0, 1, 4, 3, 2] (Host.dotGeneral dot_S256x256x2x64_S256x128x2x4x64_S256x2x256x128x4_3_4_1_13_02_02 none kk q)
    transposes_S256x2x256x128x4_S256x2x4x128x256_0_1_4_3_2

/-- The masked scores. -/
def scores : FVec Ideal S256x2x4x128x256 .f32 :=
  select (broadcastInDim S256x2x4x128x256 ![0, 1, 2, 3, 4] bcast_S256x1x1x1x256_S256x2x4x128x256_0_1_2_3_4
      (broadcastInDim S256x1x1x1x256 ![0, 4] bcast_S256x256_S256x1x1x1x256_0_4 mask))
    (addf (products q kk) (val_main_v48 (F := Ideal) B)) (val_main_call0_v2 (F := Ideal))

/-- A row's numbers on each of its 256 keys. -/
def spread (m : FVec Ideal S256x2x4x128 .f32) : FVec Ideal S256x2x4x128x256 .f32 :=
  broadcastInDim S256x2x4x128x256 ![0, 1, 2, 3, 4] bcast_S256x2x4x128x1_S256x2x4x128x256_0_1_2_3_4
    (broadcastInDim S256x2x4x128x1 ![0, 1, 2, 3] bcast_S256x2x4x128_S256x2x4x128x1_0_1_2_3 m)

def maxima (s : FVec Ideal S256x2x4x128x256 .f32) : FVec Ideal S256x2x4x128 .f32 :=
  Host.reduce FloatOps.maximumf s (val_main_cst_4 (F := Ideal)) reducesTo_S256x2x4x128x256_S256x2x4x128_d4 h_S_

/-- The logarithms of the softmax's denominators. -/
def lses (s : FVec Ideal S256x2x4x128x256 .f32) : FVec Ideal S256x2x4x128 .f32 :=
  addf (maxima s) (Host.log (Host.reduceAdd (Host.exp (subf s (spread (maxima s)))) (val_main_cst_5 (F := Ideal))
    reducesTo_S256x2x4x128x256_S256x2x4x128_d4 h_S_))

/-- The values weighted. -/
def outs (s : FVec Ideal S256x2x4x128x256 .f32) : FVec Ideal S256x128x2x4x64 .f32 :=
  transpose S256x128x2x4x64 [0, 4, 1, 3, 2]
    (Host.dotGeneral dot_S256x256x2x64_S256x2x4x128x256_S256x2x64x4x128_1_4_3_23_02_01 none vv (Host.exp (subf s (spread (lses s)))))
    transposes_S256x2x64x4x128_S256x128x2x4x64_0_4_1_3_2

/-- The logarithms to base two, on each of a head's lanes. -/
def lvls (s : FVec Ideal S256x2x4x128x256 .f32) : FVec Ideal S256x128x2x4x64 .f32 :=
  broadcastInDim S256x128x2x4x64 ![0, 1, 2, 3, 4] bcast_S256x128x2x4x1_S256x128x2x4x64_0_1_2_3_4
    (broadcastInDim S256x128x2x4x1 ![0, 1, 2, 3] bcast_S256x128x2x4_S256x128x2x4x1_0_1_2_3
      (transpose S256x128x2x4 [0, 3, 1, 2] (Host.divf (lses s) (val_main_v67 (F := Ideal))) transposes_S256x2x4x128_S256x128x2x4_0_3_1_2))

variable (n : Fin 256) (h : Fin 2) (r : Fin 4) (p : Fin 128)

theorem products_apply (k : Fin 256) : products q kk (ix5 n h r p k) = ∑ d : Fin 64, kk (ix4 n k h d) * q (ix5 n p h r d) := by
  unfold products
  pointwise

theorem scores_apply (k : Fin 256) :
    scores q kk mask B (ix5 n h r p k) = if mask (ix2 n k) = 1#1 then (∑ d : Fin 64, kk (ix4 n k h d) * q (ix5 n p h r d))
      + B (ix3 h (⟨128 * r.val + p.val, by omega⟩ : Fin 512) k) * ((Real.log 2 : ℝ) : EReal) else ⊥ := by
  have hb : val_main_call0_v2 (F := Ideal) (ix5 n h r p k) = (⊥ : EReal) := by
    rw [val_main_call0_v2_apply]
    show Ideal.ofBits .f32 0xFF800000#32 = _
    simp [Ideal.ofBits, Ideal.ieee]
  rw [← products_apply, ← ref_bias B n h r p k, ← hb]
  unfold scores
  generalize products q kk = x
  generalize val_main_v48 (F := Ideal) B = y
  generalize val_main_call0_v2 (F := Ideal) = z
  pointwise
  rfl

theorem spread_apply (m : FVec Ideal S256x2x4x128 .f32) (k : Fin 256) : spread m (ix5 n h r p k) = m (ix4 n h r p) := by
  unfold spread
  pointwise

variable (s : FVec Ideal S256x2x4x128x256 .f32)

theorem maxima_apply : maxima s (ix4 n h r p) = Finset.univ.fold max ⊥ fun k => s (ix5 n h r p k) := by
  unfold maxima val_main_cst_4
  pointwise
  have hb : Ideal.ofBits .f32 4286578688#32 = (⊥ : EReal) := by simp [Ideal.ofBits, Ideal.ieee]
  rw [hb]

theorem exp_at (x : FVec Ideal S256x2x4x128x256 .f32) (k : Fin 256) :
    Host.exp (subf s x) (ix5 n h r p k) = Ideal.exp (s (ix5 n h r p k) - x (ix5 n h r p k)) := rfl

theorem add_log_at (m t : FVec Ideal S256x2x4x128 .f32) :
    addf m (Host.log t) (ix4 n h r p) = m (ix4 n h r p) + Ideal.log (t (ix4 n h r p)) := rfl

/-- A row's sum. -/
theorem sum_at (z : FVec Ideal S_ .f32) (hz : z (Shape.Idx.first h_S_) = (0 : EReal)) :
    Host.reduceAdd s z reducesTo_S256x2x4x128x256_S256x2x4x128_d4 h_S_ (ix4 n h r p) = ∑ k : Fin 256, s (ix5 n h r p k) := by
  simp only [Host.reduceAdd, Ideal.hostReduceAdd_def]
  rw [Ideal.hostReduceAdd_single reducesTo_S256x2x4x128x256_S256x2x4x128_d4 (by decide), hz, zero_add]
  exact Finset.sum_congr rfl fun k _ => congrArg s (funext fun a => match a with
    | ⟨0, _⟩ => rfl
    | ⟨1, _⟩ => rfl
    | ⟨2, _⟩ => rfl
    | ⟨3, _⟩ => rfl
    | ⟨4, _⟩ => rfl)

theorem zero_at : val_main_cst_5 (F := Ideal) (Shape.Idx.first h_S_) = (0 : EReal) :=
  (val_main_cst_5_apply _).trans Ideal.ofBits_zero_f32

theorem max_at (k : Fin 256) : spread (maxima s) (ix5 n h r p k) = Finset.univ.fold max ⊥ fun k => s (ix5 n h r p k) :=
  (spread_apply n h r p _ k).trans (maxima_apply n h r p s)

theorem lses_apply : lses s (ix4 n h r p) = refLse fun k => s (ix5 n h r p k) := by
  unfold lses refLse
  rw [add_log_at, maxima_apply, sum_at _ _ _ _ _ _ zero_at]
  simp only [exp_at, max_at]

theorem lse_at (k : Fin 256) : spread (lses s) (ix5 n h r p k) = refLse fun k => s (ix5 n h r p k) :=
  (spread_apply n h r p _ k).trans (lses_apply n h r p s)

/-- Values weighted by a row's weights. -/
theorem dot_at (x : FVec Ideal S256x2x4x128x256 .f32) (d : Fin 64) :
    transpose S256x128x2x4x64 [0, 4, 1, 3, 2]
      (Host.dotGeneral dot_S256x256x2x64_S256x2x4x128x256_S256x2x64x4x128_1_4_3_23_02_01 none vv x)
      transposes_S256x2x64x4x128_S256x128x2x4x64_0_4_1_3_2 (ix5 n p h r d) = ∑ k : Fin 256, vv (ix4 n k h d) * x (ix5 n h r p k) := by
  pointwise

theorem outs_apply (d : Fin 64) :
    outs vv s (ix5 n p h r d) = ∑ k, vv (ix4 n k h d) * Ideal.exp (s (ix5 n h r p k) - refLse fun k => s (ix5 n h r p k)) := by
  unfold outs
  rw [dot_at]
  simp only [exp_at, lse_at]

theorem lvls_apply (d : Fin 64) :
    lvls s (ix5 n p h r d) = Ideal.div (refLse fun k => s (ix5 n h r p k)) ((Real.log 2 : ℝ) : EReal) := by
  have hl : val_main_v67 (F := Ideal) (ix4 n h r p) = ((Real.log 2 : ℝ) : EReal) := by
    rw [val_main_v67_apply, val_main_v0_apply, val_main_cst_apply, Attn.log_two]
  rw [← lses_apply, ← hl]
  unfold lvls
  generalize lses s = x
  generalize val_main_v67 (F := Ideal) = z
  pointwise

end Cert.Dil.Rows

end
-- ==== Proof.Dil1.Entries.lean ====
/- The entries of the results of mixer C's second group, as functions of the arguments. -/
module

public import proofs.«01_k».proof.Proof.Gen.Kernel6Ideal.Skeleton
public import proofs.«01_k».proof.Proof.Dil.Math

@[expose] public section

noncomputable section

namespace Cert.Dil1

open Idealize.ShloMosaic Cert.Kernel6Ideal
open Cert.Dil (soft lse)

/-- The place of a key among ten blocks of 128: the class's eight, one before them and one after. -/
def place (s : Fin 1024) (k : Fin 256) : Fin 1280 := ⟨64 + 128 * (s.val / 128) + k.val, by omega⟩

/-- The token that is staged at a place: the first and the last block are staged twice. -/
def tokenOf (p : Fin 1280) : Fin 1024 :=
  ⟨if p.val < 128 then p.val else if p.val < 1152 then p.val - 128 else p.val - 256, by split_ifs <;> omega⟩

/-- The plain score: query token `s` of class `c` and lane `e` of the result against key `k` of the token's window. -/
def plain (A : Vec Ideal S8x4x1024x768 .bf16) (B : Vec Ideal S2x512x256 .f32) (b : Fin 8) (c : Fin 4) (s : Fin 1024) (e : Fin 512) (k : Fin 256) : EReal :=
  (∑ d : Fin 64, A (ix4 b c s (⟨64 * (e.val / 64) + d.val, by omega⟩ : Fin 768))
      * A (ix4 b c (tokenOf (place s k)) (⟨512 + 128 * (e.val / 256) + d.val, by omega⟩ : Fin 768)))
    + B (ix3 (⟨e.val / 256, by omega⟩ : Fin 2) (⟨128 * (e.val / 64 % 4) + s.val % 128, by omega⟩ : Fin 512) k)

/-- The masked score. -/
def score (A : Vec Ideal S8x4x1024x768 .bf16) (B : Vec Ideal S2x512x256 .f32) (b : Fin 8) (c : Fin 4) (s : Fin 1024) (e : Fin 512) (k : Fin 256) : EReal :=
  if (place s k).val < 128 ∨ 1152 ≤ (place s k).val then ⊥ else plain A B b c s e k

/-- The value at key `k` of the window. -/
def valueAt (A : Vec Ideal S8x4x1024x768 .bf16) (b : Fin 8) (c : Fin 4) (s : Fin 1024) (e : Fin 512) (k : Fin 256) : EReal :=
  A (ix4 b c (tokenOf (place s k)) (⟨576 + 128 * (e.val / 256) + e.val % 64, by omega⟩ : Fin 768))

/-- The partial output. -/
def values (A : Vec Ideal S8x4x1024x768 .bf16) (B : Vec Ideal S2x512x256 .f32) : Vec Ideal S8x4x1024x512 .f32 :=
  fun i => soft (score A B (i 0) (i 1) (i 2) (i 3)) (valueAt A (i 0) (i 1) (i 2) (i 3))

/-- The logarithms of the softmax's denominators. -/
def levels (A : Vec Ideal S8x4x1024x768 .bf16) (B : Vec Ideal S2x512x256 .f32) : Vec Ideal S8x4x1024x512 .f32 :=
  fun i => lse (score A B (i 0) (i 1) (i 2) (i 3))

end Cert.Dil1

end
-- ==== Proof.Dil1.RefValue.lean ====
/- The results of the reference of mixer C's second group, entry by entry. -/
module

public import proofs.«01_k».proof.Proof.Gen.Reference6Ideal.Read
public import proofs.«01_k».proof.Proof.Attn.RefValue
public import proofs.«01_k».proof.Proof.Dil.Math
public import proofs.«01_k».proof.Proof.Dil.Rows
public import proofs.«01_k».proof.Proof.Dil1.Entries
public import Idealize.ShloMosaic.Lib.Pointwise
public import Idealize.ShloMosaic.Lib.IdealHost

@[expose] public section

set_option maxRecDepth 16384

noncomputable section

namespace Cert.Dil1

open Idealize.ShloMosaic Cert.Reference6Ideal Cert.Reference6Ideal.Gen Cert.Reference6Ideal.Read
open Cert.Band (log_two_pos scale_score score_ne_top)
open Cert.Dil (refLse soft_eq lse_eq)
open Cert.Dil.Rows (scores outs lvls scores_apply outs_apply lvls_apply)

/-! ## The windows of 256 keys -/

/-- The reference's padded classes, their blocks of 128 and the windows of two blocks. -/
def padded (y : FVec Ideal S32x1024x2x64 .f32) : FVec Ideal S32x1152x2x64 .f32 :=
  concatenate S32x1152x2x64 1 [⟨S32x64x2x64, (val_main_v9 (F := Ideal))⟩, ⟨S32x1024x2x64, y⟩, ⟨S32x64x2x64, (val_main_v9 (F := Ideal))⟩]
    concatenates_S32x64x2x64_S32x1024x2x64_S32x64x2x64_S32x1152x2x64_d1

def blocks (y : FVec Ideal S32x1024x2x64 .f32) : FVec Ideal S32x9x128x2x64 .f32 :=
  shapeCast _ (padded y) shapeCasts_S32x1152x2x64_S32x9x128x2x64

def joined (u : FVec Ideal S32x9x128x2x64 .f32) : FVec Ideal S32x8x256x2x64 .f32 :=
  concatenate S32x8x256x2x64 2
    [⟨S32x8x128x2x64, extractStridedSlice S32x8x128x2x64 ![0, 0, 0, 0, 0] u slices_S32x9x128x2x64_S32x8x128x2x64_0_0_0_0_0⟩,
      ⟨S32x8x128x2x64, extractStridedSlice S32x8x128x2x64 ![0, 1, 0, 0, 0] u slices_S32x9x128x2x64_S32x8x128x2x64_0_1_0_0_0⟩]
    concatenates_S32x8x128x2x64_S32x8x128x2x64_S32x8x256x2x64_d2

def windows (y : FVec Ideal S32x1024x2x64 .f32) : FVec Ideal S256x256x2x64 .f32 :=
  shapeCast _ (joined (blocks y)) shapeCasts_S32x8x256x2x64_S256x256x2x64

theorem keys_windows (A : Vec Ideal S8x4x1024x768 .bf16) : val_main_v17 (F := Ideal) A = windows (val_main_v11 (F := Ideal) A) := rfl

theorem values_windows (A : Vec Ideal S8x4x1024x768 .bf16) : val_main_v25 (F := Ideal) A = windows (val_main_v19 (F := Ideal) A) := rfl

set_option maxHeartbeats 1000000 in
theorem padded_apply (y : FVec Ideal S32x1024x2x64 .f32) (q : Fin 32) (p : Fin 1152) (h : Fin 2) (d : Fin 64) (h1 : ¬p.val < 64) (h2 : p.val < 1088) :
    padded y (ix4 q p h d) = y (ix4 q (⟨p.val - 64, by omega⟩ : Fin 1024) h d) := by
  unfold padded
  generalize val_main_v9 (F := Ideal) = z
  pointwise
  simp only [dif_neg h1, dif_pos (show p.val - 64 < 1024 by omega)]

theorem blocks_apply (y : FVec Ideal S32x1024x2x64 .f32) (q : Fin 32) (x : Fin 9) (r : Fin 128) (h : Fin 2) (d : Fin 64) :
    blocks y (ix5 q x r h d) = padded y (ix4 q (⟨128 * x.val + r.val, by omega⟩ : Fin 1152) h d) := by
  unfold blocks
  generalize padded y = u
  pointwise
  exact congrArg (fun x => u (ix4 q x h d)) (Fin.ext (by show x.val * 128 + r.val = 128 * x.val + r.val; omega))

set_option maxHeartbeats 1000000 in
theorem joined_apply (u : FVec Ideal S32x9x128x2x64 .f32) (q : Fin 32) (w : Fin 8) (k : Fin 256) (h : Fin 2) (d : Fin 64) :
    joined u (ix5 q w k h d) = u (ix5 q (⟨w.val + k.val / 128, by omega⟩ : Fin 9) (⟨k.val % 128, by omega⟩ : Fin 128) h d) := by
  unfold joined
  pointwise
  by_cases h1 : k.val < 128
  · simp only [dif_pos h1]
    exact congrArg₂ (fun x y => u (ix5 q x y h d)) (Fin.ext (by show w.val = w.val + k.val / 128; omega))
      (Fin.ext (by show k.val = k.val % 128; omega))
  · simp only [dif_neg h1]
    exact congrArg₂ (fun x y => u (ix5 q x y h d)) (Fin.ext (by show 1 + w.val = w.val + k.val / 128; omega))
      (Fin.ext (by show k.val - 128 = k.val % 128; omega))

theorem windows_apply (y : FVec Ideal S32x1024x2x64 .f32) (n : Fin 256) (k : Fin 256) (h : Fin 2) (d : Fin 64) :
    windows y (ix4 n k h d) = joined (blocks y) (ix5 (⟨n.val / 8, by omega⟩ : Fin 32) (⟨n.val % 8, by omega⟩ : Fin 8) k h d) := by
  unfold windows
  generalize joined (blocks y) = u
  pointwise

/-- The reference's number of a class, and its row that holds a token's block. -/
def classRow (b : Fin 8) (c : Fin 4) : Fin 32 := ⟨4 * b.val + c.val, by omega⟩

def rowAt (b : Fin 8) (c : Fin 4) (s : Fin 1024) : Fin 256 := ⟨8 * (4 * b.val + c.val) + s.val / 128, by omega⟩

/-- A window's key inside the class is the token at its place. -/
theorem windows_at (y : FVec Ideal S32x1024x2x64 .f32) (b : Fin 8) (c : Fin 4) (s : Fin 1024) (k : Fin 256) (h : Fin 2) (d : Fin 64)
    (hp : ¬((place s k).val < 128 ∨ 1152 ≤ (place s k).val)) :
    windows y (ix4 (rowAt b c s) k h d) = y (ix4 (classRow b c) (tokenOf (place s k)) h d) := by
  have hp' : ¬(64 + 128 * (s.val / 128) + k.val < 128 ∨ 1152 ≤ 64 + 128 * (s.val / 128) + k.val) := hp
  rw [windows_apply, joined_apply, blocks_apply, padded_apply]
  · refine congrArg₂ (fun x z => y (ix4 x z h d)) (Fin.ext ?_) (Fin.ext ?_)
    · show (8 * (4 * b.val + c.val) + s.val / 128) / 8 = 4 * b.val + c.val
      omega
    · show 128 * ((8 * (4 * b.val + c.val) + s.val / 128) % 8 + k.val / 128) + k.val % 128 - 64
        = if 64 + 128 * (s.val / 128) + k.val < 128 then 64 + 128 * (s.val / 128) + k.val
          else if 64 + 128 * (s.val / 128) + k.val < 1152 then 64 + 128 * (s.val / 128) + k.val - 128
            else 64 + 128 * (s.val / 128) + k.val - 256
      split_ifs <;> omega
  · show ¬128 * ((8 * (4 * b.val + c.val) + s.val / 128) % 8 + k.val / 128) + k.val % 128 < 64
    omega
  · show 128 * ((8 * (4 * b.val + c.val) + s.val / 128) % 8 + k.val / 128) + k.val % 128 < 1088
    omega

/-! ## Queries, keys and values -/

variable (A : Vec Ideal S8x4x1024x768 .bf16)

theorem tokens_apply (b : Fin 8) (c : Fin 4) (s : Fin 1024) (x : Fin 768) :
    val_main_v2 (F := Ideal) A (ix3 (classRow b c) s x) = A (ix4 b c s x) := by
  rw [val_main_v2_apply]
  show A _ = A _
  refine congrArg A (funext fun a => Fin.ext ?_)
  match a with
  | ⟨0, _⟩ => show (((4 * b.val + c.val) * 1024 + s.val) * 768 + x.val) / 3145728 = b.val; omega
  | ⟨1, _⟩ => show (((4 * b.val + c.val) * 1024 + s.val) * 768 + x.val) / 786432 % 4 = c.val; omega
  | ⟨2, _⟩ => show (((4 * b.val + c.val) * 1024 + s.val) * 768 + x.val) / 768 % 1024 = s.val; omega
  | ⟨3, _⟩ => show (((4 * b.val + c.val) * 1024 + s.val) * 768 + x.val) % 768 = x.val; omega

/-- Keys and values alternate in the key heads' columns. -/
theorem pairs_apply (b : Fin 8) (c : Fin 4) (s : Fin 1024) (h : Fin 2) (x : Fin 2) (d : Fin 64) :
    val_main_v8 (F := Ideal) A (ix5 (classRow b c) s h x d) = A (ix4 b c s (⟨512 + 128 * h.val + 64 * x.val + d.val, by omega⟩ : Fin 768)) := by
  rw [val_main_v8_apply, val_main_v7_apply]
  refine Eq.trans (congrArg (val_main_v2 (F := Ideal) A) (funext fun a => Fin.ext ?_)) (tokens_apply A b c s _)
  match a with
  | ⟨0, _⟩ => show (((((4 * b.val + c.val) * 1024 + s.val) * 2 + h.val) * 2 + x.val) * 64 + d.val) / 262144 = 4 * b.val + c.val; omega
  | ⟨1, _⟩ => show (((((4 * b.val + c.val) * 1024 + s.val) * 2 + h.val) * 2 + x.val) * 64 + d.val) / 256 % 1024 = s.val; omega
  | ⟨2, _⟩ =>
    show 512 + (((((4 * b.val + c.val) * 1024 + s.val) * 2 + h.val) * 2 + x.val) * 64 + d.val) % 256 = 512 + 128 * h.val + 64 * x.val + d.val
    omega

theorem ref_key (b : Fin 8) (c : Fin 4) (s : Fin 1024) (k : Fin 256) (h : Fin 2) (d : Fin 64)
    (hp : ¬((place s k).val < 128 ∨ 1152 ≤ (place s k).val)) :
    val_main_v17 (F := Ideal) A (ix4 (rowAt b c s) k h d)
      = A (ix4 b c (tokenOf (place s k)) (⟨512 + 128 * h.val + d.val, by omega⟩ : Fin 768)) := by
  rw [keys_windows, windows_at _ b c s k h d hp, val_main_v11_apply, val_main_v10_apply]
  generalize tokenOf (place s k) = t
  have hi : idx_main_v10 (idx_main_v11 (ix4 (classRow b c) t h d)) = ix5 (classRow b c) t h (0 : Fin 2) d := by
    generalize classRow b c = q
    funext a
    apply Fin.ext
    match a with
    | ⟨0, _⟩ => show (((q.val * 1024 + t.val) * 2 + h.val) * 64 + d.val) / 131072 = q.val; omega
    | ⟨1, _⟩ => show (((q.val * 1024 + t.val) * 2 + h.val) * 64 + d.val) / 128 % 1024 = t.val; omega
    | ⟨2, _⟩ => show (((q.val * 1024 + t.val) * 2 + h.val) * 64 + d.val) / 64 % 2 = h.val; omega
    | ⟨3, _⟩ => rfl
    | ⟨4, _⟩ => show (((q.val * 1024 + t.val) * 2 + h.val) * 64 + d.val) % 64 = d.val; omega
  rw [hi, pairs_apply]
  rfl

theorem ref_value (b : Fin 8) (c : Fin 4) (s : Fin 1024) (e : Fin 512) (k : Fin 256)
    (hp : ¬((place s k).val < 128 ∨ 1152 ≤ (place s k).val)) :
    val_main_v25 (F := Ideal) A (ix4 (rowAt b c s) k (⟨e.val / 256, by omega⟩ : Fin 2) (⟨e.val % 64, by omega⟩ : Fin 64)) = valueAt A b c s e k := by
  rw [values_windows, windows_at _ b c s k _ _ hp, val_main_v19_apply, val_main_v18_apply]
  unfold valueAt
  generalize tokenOf (place s k) = t
  have hi (h : Fin 2) (d : Fin 64) : idx_main_v18 (idx_main_v19 (ix4 (classRow b c) t h d)) = ix5 (classRow b c) t h (1 : Fin 2) d := by
    generalize classRow b c = q
    funext a
    apply Fin.ext
    match a with
    | ⟨0, _⟩ => show (((q.val * 1024 + t.val) * 2 + h.val) * 64 + d.val) / 131072 = q.val; omega
    | ⟨1, _⟩ => show (((q.val * 1024 + t.val) * 2 + h.val) * 64 + d.val) / 128 % 1024 = t.val; omega
    | ⟨2, _⟩ => show (((q.val * 1024 + t.val) * 2 + h.val) * 64 + d.val) / 64 % 2 = h.val; omega
    | ⟨3, _⟩ => rfl
    | ⟨4, _⟩ => show (((q.val * 1024 + t.val) * 2 + h.val) * 64 + d.val) % 64 = d.val; omega
  rw [hi, pairs_apply]
  refine congrArg (fun x => A (ix4 b c t x)) (Fin.ext ?_)
  show 512 + 128 * (e.val / 256) + 64 * 1 + e.val % 64 = 576 + 128 * (e.val / 256) + e.val % 64
  omega

theorem ref_query (b : Fin 8) (c : Fin 4) (s : Fin 1024) (h : Fin 2) (r : Fin 4) (d : Fin 64) :
    val_main_v6 (F := Ideal) A (ix5 (rowAt b c s) (⟨s.val % 128, by omega⟩ : Fin 128) h r d)
      = A (ix4 b c s (⟨256 * h.val + 64 * r.val + d.val, by omega⟩ : Fin 768)) * ((Real.log 2 : ℝ) : EReal) := by
  rw [val_main_v6_apply, val_main_v4_apply, val_main_v3_apply, val_main_v5_apply, val_main_v0_apply, val_main_cst_apply,
    Attn.log_two]
  refine congrArg (fun x : EReal => x * ((Real.log 2 : ℝ) : EReal))
    (Eq.trans (congrArg (val_main_v2 (F := Ideal) A) (funext fun a => Fin.ext ?_)) (tokens_apply A b c s _))
  match a with
  | ⟨0, _⟩ =>
    show (((((8 * (4 * b.val + c.val) + s.val / 128) * 128 + s.val % 128) * 2 + h.val) * 4 + r.val) * 64 + d.val) / 524288 = 4 * b.val + c.val
    omega
  | ⟨1, _⟩ =>
    show (((((8 * (4 * b.val + c.val) + s.val / 128) * 128 + s.val % 128) * 2 + h.val) * 4 + r.val) * 64 + d.val) / 512 % 1024 = s.val
    omega
  | ⟨2, _⟩ =>
    show (((((8 * (4 * b.val + c.val) + s.val / 128) * 128 + s.val % 128) * 2 + h.val) * 4 + r.val) * 64 + d.val) % 512 = 256 * h.val + 64 * r.val + d.val
    omega

/-! ## The mask -/

theorem mask_table : ∀ (w : Fin 8) (k : Fin 256),
    IntOp.andi (IntOp.cmpi .sge (IntOp.addi (IntOp.muli 128#32 (BitVec.ofNat 32 w.val)) (BitVec.ofNat 32 k.val)) 64#32)
      (IntOp.cmpi .slt (IntOp.addi (IntOp.muli 128#32 (BitVec.ofNat 32 w.val)) (BitVec.ofNat 32 k.val)) 1088#32)
      = if 128 * w.val + k.val < 64 ∨ 1088 ≤ 128 * w.val + k.val then 0#1 else 1#1 := by decide +kernel

theorem mask_apply (n : Fin 256) (k : Fin 256) :
    val_main_v41 (F := Ideal) (ix2 n k)
      = if 128 * (n.val % 8) + k.val < 64 ∨ 1088 ≤ 128 * (n.val % 8) + k.val then 0#1 else 1#1 := by
  rw [val_main_v41_apply, val_main_v40_apply]
  have hi : idx_main_v40 (idx_main_v41 (ix2 n k)) = ix2 (⟨n.val % 8, by omega⟩ : Fin 8) k := by
    funext a
    apply Fin.ext
    match a with
    | ⟨0, _⟩ => show (n.val * 256 + k.val) / 256 % 8 = n.val % 8; omega
    | ⟨1, _⟩ => show (n.val * 256 + k.val) % 256 = k.val; omega
  rw [hi]
  exact mask_table ⟨n.val % 8, by omega⟩ k

/-! ## The scores -/

variable (B : Vec Ideal S2x512x256 .f32)

/-- The reference's masked scores. -/
def refScores : FVec Ideal S256x2x4x128x256 .f32 :=
  scores (val_main_v6 (F := Ideal) A) (val_main_v17 (F := Ideal) A) (val_main_v41 (F := Ideal)) B

theorem outs_eq : val_main_v65 (F := Ideal) A B = outs (val_main_v25 (F := Ideal) A) (refScores A B) := rfl

theorem lvls_eq : val_main_v71 (F := Ideal) A B = lvls (refScores A B) := rfl

/-- The row's scores in the reference. -/
def refRow (b : Fin 8) (c : Fin 4) (s : Fin 1024) (e : Fin 512) (k : Fin 256) : EReal :=
  refScores A B (ix5 (rowAt b c s) (⟨e.val / 256, by omega⟩ : Fin 2) (⟨e.val / 64 % 4, by omega⟩ : Fin 4) (⟨s.val % 128, by omega⟩ : Fin 128) k)

/-- The scores are not positive infinity, and the reference's are the kernel's times the logarithm of two. -/
theorem ref_score (hq : ∀ b c s (x : Fin 512), ∃ r : ℝ, A (ix4 b c s (⟨x.val, by omega⟩ : Fin 768)) = (r : EReal))
    (hk : ∀ b c s (h : Fin 2) (d : Fin 64), ∃ r : ℝ, A (ix4 b c s (⟨512 + 128 * h.val + d.val, by omega⟩ : Fin 768)) = (r : EReal))
    (hB : ∀ i, B i ≠ ⊤) (b : Fin 8) (c : Fin 4) (s : Fin 1024) (e : Fin 512) (k : Fin 256) :
    score A B b c s e k ≠ ⊤ ∧ refRow A B b c s e k = score A B b c s e k * ((Real.log 2 : ℝ) : EReal) := by
  have hv : (128 * ((rowAt b c s).val % 8) + k.val < 64 ∨ 1088 ≤ 128 * ((rowAt b c s).val % 8) + k.val)
      ↔ ((place s k).val < 128 ∨ 1152 ≤ (place s k).val) := by
    show (128 * ((8 * (4 * b.val + c.val) + s.val / 128) % 8) + k.val < 64 ∨ 1088 ≤ 128 * ((8 * (4 * b.val + c.val) + s.val / 128) % 8) + k.val)
      ↔ (64 + 128 * (s.val / 128) + k.val < 128 ∨ 1152 ≤ 64 + 128 * (s.val / 128) + k.val)
    omega
  have hr := scores_apply (val_main_v6 (F := Ideal) A) (val_main_v17 (F := Ideal) A) (val_main_v41 (F := Ideal)) B (rowAt b c s)
    (⟨e.val / 256, by omega⟩ : Fin 2) (⟨e.val / 64 % 4, by omega⟩ : Fin 4) (⟨s.val % 128, by omega⟩ : Fin 128) k
  have hm := (mask_apply (rowAt b c s) k).trans (if_congr hv rfl rfl)
  unfold score
  by_cases hp : (place s k).val < 128 ∨ 1152 ≤ (place s k).val
  · rw [if_pos hp, EReal.bot_mul_coe_of_pos log_two_pos]
    rw [if_pos hp] at hm
    exact ⟨bot_ne_top, hr.trans (if_neg (by rw [show _ = _ from hm]; decide))⟩
  · rw [if_neg hp]
    rw [if_neg hp] at hm
    have hr' := hr.trans (if_pos hm)
    choose q hq' using fun d : Fin 64 => hq b c s (⟨64 * (e.val / 64) + d.val, by omega⟩ : Fin 512)
    choose y hy using fun d : Fin 64 => hk b c (tokenOf (place s k)) (⟨e.val / 256, by omega⟩ : Fin 2) d
    have hs : plain A B b c s e k = ∑ d, (q d : EReal) * (y d : EReal)
        + B (ix3 (⟨e.val / 256, by omega⟩ : Fin 2) (⟨128 * (e.val / 64 % 4) + s.val % 128, by omega⟩ : Fin 512) k) := by
      unfold plain
      exact congrArg (· + _) (Finset.sum_congr rfl fun d _ => congrArg₂ (· * ·) (hq' d) (hy d))
    refine ⟨by rw [hs]; exact score_ne_top q y _ (hB _), hr'.trans ?_⟩
    rw [hs, ← scale_score q y _ (hB _)]
    refine congrArg (· + _) (Finset.sum_congr rfl fun d _ => congrArg₂ (· * ·) ((ref_key A b c s k _ d hp).trans (hy d)) ?_)
    refine (ref_query A b c s _ _ d).trans (congrArg (· * _) (Eq.trans (congrArg (fun x => A (ix4 b c s x)) (Fin.ext ?_)) (hq' d)))
    show 256 * (e.val / 256) + 64 * (e.val / 64 % 4) + d.val = 64 * (e.val / 64) + d.val
    omega

/-! ## The results -/

/-- The place of a lane of a result among the reference's blocks and heads. -/
theorem lane_at (b : Fin 8) (c : Fin 4) (s : Fin 1024) (e : Fin 512) :
    idx_main_v66 (ix4 b c s e) = ix5 (rowAt b c s) (⟨s.val % 128, by omega⟩ : Fin 128) (⟨e.val / 256, by omega⟩ : Fin 2)
      (⟨e.val / 64 % 4, by omega⟩ : Fin 4) (⟨e.val % 64, by omega⟩ : Fin 64) := by
  funext a
  apply Fin.ext
  match a with
  | ⟨0, _⟩ => show (((b.val * 4 + c.val) * 1024 + s.val) * 512 + e.val) / 65536 = 8 * (4 * b.val + c.val) + s.val / 128; omega
  | ⟨1, _⟩ => show (((b.val * 4 + c.val) * 1024 + s.val) * 512 + e.val) / 512 % 128 = s.val % 128; omega
  | ⟨2, _⟩ => show (((b.val * 4 + c.val) * 1024 + s.val) * 512 + e.val) / 256 % 2 = e.val / 256; omega
  | ⟨3, _⟩ => show (((b.val * 4 + c.val) * 1024 + s.val) * 512 + e.val) / 64 % 4 = e.val / 64 % 4; omega
  | ⟨4, _⟩ => show (((b.val * 4 + c.val) * 1024 + s.val) * 512 + e.val) % 64 = e.val % 64; omega

theorem ref_output (b : Fin 8) (c : Fin 4) (s : Fin 1024) (e : Fin 512) :
    val_main_v66 (F := Ideal) A B (ix4 b c s e)
      = ∑ k, val_main_v25 (F := Ideal) A (ix4 (rowAt b c s) k (⟨e.val / 256, by omega⟩ : Fin 2) (⟨e.val % 64, by omega⟩ : Fin 64))
          * Ideal.exp (refRow A B b c s e k - refLse (refRow A B b c s e)) := by
  rw [val_main_v66_apply, lane_at, outs_eq]
  exact outs_apply (val_main_v25 (F := Ideal) A) (rowAt b c s) _ _ _ (refScores A B) _

theorem ref_level (b : Fin 8) (c : Fin 4) (s : Fin 1024) (e : Fin 512) :
    val_main_v72 (F := Ideal) A B (ix4 b c s e) = Ideal.div (refLse (refRow A B b c s e)) ((Real.log 2 : ℝ) : EReal) := by
  have h5 : idx_main_v72 (ix4 b c s e) = _ := lane_at b c s e
  rw [val_main_v72_apply, h5, lvls_eq]
  exact lvls_apply (rowAt b c s) _ _ _ (refScores A B) _

/-- A query's own key is at its window's key `64 + s % 128`. -/
theorem own_score (hq : ∀ b c s (x : Fin 512), ∃ r : ℝ, A (ix4 b c s (⟨x.val, by omega⟩ : Fin 768)) = (r : EReal))
    (hk : ∀ b c s (h : Fin 2) (d : Fin 64), ∃ r : ℝ, A (ix4 b c s (⟨512 + 128 * h.val + d.val, by omega⟩ : Fin 768)) = (r : EReal))
    (hB : ∀ i, ∃ r : ℝ, B i = (r : EReal)) (b : Fin 8) (c : Fin 4) (s : Fin 1024) (e : Fin 512) :
    ∃ r : ℝ, score A B b c s e (⟨64 + s.val % 128, by omega⟩ : Fin 256) = (r : EReal) := by
  generalize hk0 : (⟨64 + s.val % 128, by omega⟩ : Fin 256) = k
  have hv : k.val = 64 + s.val % 128 := (congrArg Fin.val hk0).symm
  have hp : ¬((place s k).val < 128 ∨ 1152 ≤ (place s k).val) := by
    show ¬(64 + 128 * (s.val / 128) + k.val < 128 ∨ 1152 ≤ 64 + 128 * (s.val / 128) + k.val)
    omega
  obtain ⟨r, hr⟩ := hB (ix3 (⟨e.val / 256, by omega⟩ : Fin 2) (⟨128 * (e.val / 64 % 4) + s.val % 128, by omega⟩ : Fin 512) k)
  choose q hq' using fun d : Fin 64 => hq b c s (⟨64 * (e.val / 64) + d.val, by omega⟩ : Fin 512)
  choose y hy using fun d : Fin 64 => hk b c (tokenOf (place s k)) (⟨e.val / 256, by omega⟩ : Fin 2) d
  refine ⟨(∑ d, q d * y d) + r, ?_⟩
  unfold score
  rw [if_neg hp, EReal.coe_add, Attn.coe_sum]
  simp only [EReal.coe_mul]
  unfold plain
  exact congrArg₂ (· + ·) (Finset.sum_congr rfl fun d _ => congrArg₂ (· * ·) (hq' d) (hy d)) hr

/-- With finite queries, keys and biases, the reference's results are the kernel's. -/
theorem reference_eq (hq : ∀ b c s (x : Fin 512), ∃ r : ℝ, A (ix4 b c s (⟨x.val, by omega⟩ : Fin 768)) = (r : EReal))
    (hk : ∀ b c s (h : Fin 2) (d : Fin 64), ∃ r : ℝ, A (ix4 b c s (⟨512 + 128 * h.val + d.val, by omega⟩ : Fin 768)) = (r : EReal))
    (hB : ∀ i, ∃ r : ℝ, B i = (r : EReal)) :
    val_main_v66 (F := Ideal) A B = values A B ∧ val_main_v72 (F := Ideal) A B = levels A B := by
  have hB' : ∀ i, B i ≠ ⊤ := fun i => by
    obtain ⟨r, h⟩ := hB i
    rw [h]
    exact EReal.coe_ne_top r
  have hrow (b c s e) : refRow A B b c s e = fun k => score A B b c s e k * ((Real.log 2 : ℝ) : EReal) :=
    funext fun k => (ref_score A B hq hk hB' b c s e k).2
  have hW (b c s e) : ∀ k, score A B b c s e k = ⊥ ∨ valueAt A b c s e k
      = val_main_v25 (F := Ideal) A (ix4 (rowAt b c s) k (⟨e.val / 256, by omega⟩ : Fin 2) (⟨e.val % 64, by omega⟩ : Fin 64)) := fun k => by
    by_cases hp : (place s k).val < 128 ∨ 1152 ≤ (place s k).val
    · exact Or.inl (if_pos hp)
    · exact Or.inr (ref_value A b c s e k hp).symm
  have hi (i : S8x4x1024x512.Idx) : ∃ (b : Fin 8) (c : Fin 4) (s : Fin 1024) (e : Fin 512), i = ix4 b c s e :=
    ⟨i 0, i 1, i 2, i 3, by funext a; match a with | ⟨0, _⟩ => rfl | ⟨1, _⟩ => rfl | ⟨2, _⟩ => rfl | ⟨3, _⟩ => rfl⟩
  constructor
  · funext i
    obtain ⟨b, c, s, e, rfl⟩ := hi i
    obtain ⟨r, hr⟩ := own_score A B hq hk hB b c s e
    rw [ref_output, hrow]
    exact (soft_eq (score A B b c s e) (fun k => (ref_score A B hq hk hB' b c s e k).1) _ r hr _ _ (hW b c s e)).symm
  · funext i
    obtain ⟨b, c, s, e, rfl⟩ := hi i
    obtain ⟨r, hr⟩ := own_score A B hq hk hB b c s e
    rw [ref_level, hrow]
    exact (lse_eq (score A B b c s e) (fun k => (ref_score A B hq hk hB' b c s e k).1) _ r hr).symm

end Cert.Dil1

end
-- ==== Proof.Dil1.FrameIdeal.lean ====
/- The frame of the ideal program of mixer C's second group, with the extents of its stores written out, and the arrays after the run. -/
module

public import proofs.«01_k».proof.Proof.Gen.Kernel6Ideal.Frame.RunA
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The pieces that the run stores of output 5 cover its block. -/
theorem cover0_A_5 (c : Dev nD) (i : grid0.Coords) (arg4 : Memref sig .tc .vmem S1x2x1024x256 .bf16) (harg4 : arg4.IsWhole) (arg5 : Memref sig .tc .vmem S1x2x128x128 .bf16) (harg5 : arg5.IsWhole) (arg6 : Memref sig .tc .vmem S1x2x1024x128 .bf16) (harg6 : arg6.IsWhole) (arg7 : Memref sig .tc .vmem S1x2x128x128 .bf16) (harg7 : arg7.IsWhole) (arg8 : Memref sig .tc .vmem S1x512x256 .f32) (harg8 : arg8.IsWhole) (arg9 : Memref sig .tc .vmem S1x2x1024x256 .f32) (harg9 : arg9.IsWhole) (arg10 : Memref sig .tc .vmem S1x2x1024x256 .f32) (harg10 : arg10.IsWhole)
    (x0 : Vec F S1x2x1024x256 .bf16) (x1 : Vec F S1x2x128x128 .bf16) (x2 : Vec F S1x2x1024x128 .bf16) (x3 : Vec F S1x2x128x128 .bf16) (x4 : Vec F S1x512x256 .f32) (y : S1x2x1024x256.Idx) :
    ∃ pc ∈ (kernelRun0_A c i arg4 harg4 arg5 harg5 arg6 harg6 arg7 harg7 arg8 harg8 arg9 harg9 arg10 harg10 x0 x1 x2 x3 x4).1, y ∈ pc.1.set :=
  View.cover_of_tiledL (kernelRun0_A c i arg4 harg4 arg5 harg5 arg6 harg6 arg7 harg7 arg8 harg8 arg9 harg9 arg10 harg10 x0 x1 x2 x3 x4).1 (![1, 1, 128, 256] : Fin 4 → ℕ) (by sl_kernel_rfl) y

/-- What the run leaves in output 5's staging buffer: its pieces read back over junk. -/
def out0_A_5 (c : Dev nD) (i : grid0.Coords) (arg4 : Memref sig .tc .vmem S1x2x1024x256 .bf16) (harg4 : arg4.IsWhole) (arg5 : Memref sig .tc .vmem S1x2x128x128 .bf16) (harg5 : arg5.IsWhole) (arg6 : Memref sig .tc .vmem S1x2x1024x128 .bf16) (harg6 : arg6.IsWhole) (arg7 : Memref sig .tc .vmem S1x2x128x128 .bf16) (harg7 : arg7.IsWhole) (arg8 : Memref sig .tc .vmem S1x512x256 .f32) (harg8 : arg8.IsWhole) (arg9 : Memref sig .tc .vmem S1x2x1024x256 .f32) (harg9 : arg9.IsWhole) (arg10 : Memref sig .tc .vmem S1x2x1024x256 .f32) (harg10 : arg10.IsWhole)
    (x0 : Vec F S1x2x1024x256 .bf16) (x1 : Vec F S1x2x128x128 .bf16) (x2 : Vec F S1x2x1024x128 .bf16) (x3 : Vec F S1x2x128x128 .bf16) (x4 : Vec F S1x512x256 .f32) : Vec F S1x2x1024x256 .f32 :=
  VO0_5.read (Elt F) (VO0_5.writes (Elt F) VO0_5.junk (kernelRun0_A c i arg4 harg4 arg5 harg5 arg6 harg6 arg7 harg7 arg8 harg8 arg9 harg9 arg10 harg10 x0 x1 x2 x3 x4).1)

/-- The pieces that the run stores of output 6 cover its block. -/
theorem cover0_A_6 (c : Dev nD) (i : grid0.Coords) (arg4 : Memref sig .tc .vmem S1x2x1024x256 .bf16) (harg4 : arg4.IsWhole) (arg5 : Memref sig .tc .vmem S1x2x128x128 .bf16) (harg5 : arg5.IsWhole) (arg6 : Memref sig .tc .vmem S1x2x1024x128 .bf16) (harg6 : arg6.IsWhole) (arg7 : Memref sig .tc .vmem S1x2x128x128 .bf16) (harg7 : arg7.IsWhole) (arg8 : Memref sig .tc .vmem S1x512x256 .f32) (harg8 : arg8.IsWhole) (arg9 : Memref sig .tc .vmem S1x2x1024x256 .f32) (harg9 : arg9.IsWhole) (arg10 : Memref sig .tc .vmem S1x2x1024x256 .f32) (harg10 : arg10.IsWhole)
    (x0 : Vec F S1x2x1024x256 .bf16) (x1 : Vec F S1x2x128x128 .bf16) (x2 : Vec F S1x2x1024x128 .bf16) (x3 : Vec F S1x2x128x128 .bf16) (x4 : Vec F S1x512x256 .f32) (y : S1x2x1024x256.Idx) :
    ∃ pc ∈ (kernelRun0_A c i arg4 harg4 arg5 harg5 arg6 harg6 arg7 harg7 arg8 harg8 arg9 harg9 arg10 harg10 x0 x1 x2 x3 x4).2.1, y ∈ pc.1.set :=
  View.cover_of_tiledL (kernelRun0_A c i arg4 harg4 arg5 harg5 arg6 harg6 arg7 harg7 arg8 harg8 arg9 harg9 arg10 harg10 x0 x1 x2 x3 x4).2.1 (![1, 1, 128, 256] : Fin 4 → ℕ) (by sl_kernel_rfl) y

/-- What the run leaves in output 6's staging buffer: its pieces read back over junk. -/
def out0_A_6 (c : Dev nD) (i : grid0.Coords) (arg4 : Memref sig .tc .vmem S1x2x1024x256 .bf16) (harg4 : arg4.IsWhole) (arg5 : Memref sig .tc .vmem S1x2x128x128 .bf16) (harg5 : arg5.IsWhole) (arg6 : Memref sig .tc .vmem S1x2x1024x128 .bf16) (harg6 : arg6.IsWhole) (arg7 : Memref sig .tc .vmem S1x2x128x128 .bf16) (harg7 : arg7.IsWhole) (arg8 : Memref sig .tc .vmem S1x512x256 .f32) (harg8 : arg8.IsWhole) (arg9 : Memref sig .tc .vmem S1x2x1024x256 .f32) (harg9 : arg9.IsWhole) (arg10 : Memref sig .tc .vmem S1x2x1024x256 .f32) (harg10 : arg10.IsWhole)
    (x0 : Vec F S1x2x1024x256 .bf16) (x1 : Vec F S1x2x128x128 .bf16) (x2 : Vec F S1x2x1024x128 .bf16) (x3 : Vec F S1x2x128x128 .bf16) (x4 : Vec F S1x512x256 .f32) : Vec F S1x2x1024x256 .f32 :=
  VO0_6.read (Elt F) (VO0_6.writes (Elt F) VO0_6.junk (kernelRun0_A c i arg4 harg4 arg5 harg5 arg6 harg6 arg7 harg7 arg8 harg8 arg9 harg9 arg10 harg10 x0 x1 x2 x3 x4).2.1)

/-! ## What the outputs hold after each point -/

/-- What the outputs' staging buffers hold after the body at point `t` (as a tuple, in window order): the run's contents at
    the point's memrefs and input blocks. -/
def outsAt0 (c : Dev nD) (t : Fin cfg0.N) : Vec F S1x2x1024x256 .f32 × Vec F S1x2x1024x256 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the run ends, the arguments and the semaphores as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-! ## The arrays after the run -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t).1) := by
  show (cfg0.win 5).cut (grid0.coords t) ((dats m 0 c).after 5 t) = _
  rw [after0_5]

/-- … which is the run's contents at the point's memrefs and blocks. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)) := by
  simp only [flushed5, outsAt0]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t).2) := by
  show (cfg0.win 6).cut (grid0.coords t) ((dats m 0 c).after 6 t) = _
  rw [after0_6]

/-- … which is the run's contents at the point's memrefs and blocks. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)) := by
  simp only [flushed6, outsAt0]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post5 m r h c,
      post6 m r h c,
      kept_main_arg0 m r h c,
      kept_main_arg1 m r h c⟩)
    (run_main m ρ)

end Cert.Kernel6Ideal.Gen

end
-- ==== Proof.Dil1.Step.lean ====
/- One block of 128 tokens of mixer C's second group, a class of tokens at a time: as in the first group, the queries and the
   results being whole rows of a class. -/
module

public import proofs.«01_k».proof.Proof.Gen.Kernel6Ideal.Skeleton
public import proofs.«01_k».proof.Proof.Dil.Step

@[expose] public section

set_option maxRecDepth 16384

noncomputable section

namespace Cert.Dil1

open Idealize.ShloMosaic Cert.Kernel6Ideal Cert.Kernel6Ideal.Gen
open Cert.Band (stackRow unstack unstack_apply)
open Cert.Dil (soft lse pick quot level quot_apply level_apply weights_apply mask_value col_low col_high finishL finishL_apply)

/-- The four heads' queries stacked. -/
def stack (q : FVec Ideal S128x256 .bf16) : FVec Ideal S512x64 .bf16 :=
  concatenate S512x64 0 [⟨S128x64, extractStridedSlice S128x64 ![0, 0] q slices_S128x256_o0_0_S128x64⟩,
    ⟨S128x64, extractStridedSlice S128x64 ![0, 64] q slices_S128x256_o0_64_S128x64⟩,
    ⟨S128x64, extractStridedSlice S128x64 ![0, 128] q slices_S128x256_o0_128_S128x64⟩,
    ⟨S128x64, extractStridedSlice S128x64 ![0, 192] q slices_S128x256_o0_192_S128x64⟩] concatenates_S128x64_S128x64_S128x64_S128x64_S512x64_d0

set_option maxHeartbeats 1000000 in
theorem stack_apply (q : FVec Ideal S128x256 .bf16) (r : Fin 128) (e : Fin 256) (d : Fin 64) :
    stack q (ix2 (stackRow r e) d) = q (ix2 r ⟨64 * (e.val / 64) + d.val, by omega⟩) := by
  unfold stack stackRow
  pointwise
  split_ifs with h1 h2 h3
  all_goals
    congr 1
    funext a
    apply Fin.ext
    match a with
    | ⟨0, _⟩ => simp [ix2]; try omega
    | ⟨1, _⟩ => simp [ix2]; try omega

/-- The scores of the four stacked heads against the window, with the bias, before masking. -/
def raw (q : FVec Ideal S128x256 .bf16) (w : FVec Ideal S256x128 .bf16) (bias : FVec Ideal S512x256 .f32) : FVec Ideal S512x256 .f32 :=
  addf (matmul dot_S512x64_S256x64_S512x256_1_1_0_0_n_n none (stack q)
    (extractStridedSlice S256x64 ![0, 0] w slices_S256x128_o0_0_S256x64) (constant S512x256 .f32 0x00000000#32)) bias

theorem raw_apply (q : FVec Ideal S128x256 .bf16) (w : FVec Ideal S256x128 .bf16) (bias : FVec Ideal S512x256 .f32)
    (r : Fin 128) (e : Fin 256) (k : Fin 256) :
    raw q w bias (ix2 (stackRow r e) k)
      = (∑ d : Fin 64, q (ix2 r ⟨64 * (e.val / 64) + d.val, by omega⟩) * w (ix2 k ⟨d.val, by omega⟩)) + bias (ix2 (stackRow r e) k) := by
  simp only [← stack_apply]
  exact Cert.Dil.scores_apply (stack q) w bias (stackRow r e) k

/-- The masks of a class's first and last block. -/
def maskLow (n : BitVec 32) (s : FVec Ideal S512x256 .f32) : FVec Ideal S512x256 .f32 :=
  select (andi (cmpi .slt (iota .tc S512x256 32 [1] iota_S512x256_d1_w32) (broadcast S512x256 64#32))
    (broadcast S512x256 (Scalar.cmpi .eq n 0#32))) (broadcast S512x256 (Named.named κ "mask" 0xF149F2CA#32 : Ideal .f32)) s

def maskHigh (n : BitVec 32) (s : FVec Ideal S512x256 .f32) : FVec Ideal S512x256 .f32 :=
  select (andi (cmpi .sge (iota .tc S512x256 32 [1] iota_S512x256_d1_w32) (broadcast S512x256 192#32))
    (broadcast S512x256 (Scalar.cmpi .eq n 0#32))) (broadcast S512x256 (Named.named κ "mask" 0xF149F2CA#32 : Ideal .f32)) s

theorem only_block : Scalar.cmpi .eq (0#32) 0#32 = 1#1 := by decide

theorem maskLow_apply (s : FVec Ideal S512x256 .f32) (i : Fin 512) (k : Fin 256) :
    maskLow (BitVec.ofNat 32 0) s (ix2 i k) = if k.val < 64 then ⊥ else s (ix2 i k) :=
  (Cert.Dil.maskFirst_apply 0 s i k).trans (if_congr (and_iff_left rfl) rfl rfl)

theorem mask_value' : (Named.named κ "mask" 0xF149F2CA#32 : Ideal .f32) = (⊥ : EReal) :=
  IdealRules.named_const.ideal_named_scalar _ _ _ _ rfl

theorem maskHigh_apply (s : FVec Ideal S512x256 .f32) (i : Fin 512) (k : Fin 256) :
    maskHigh (BitVec.ofNat 32 0) s (ix2 i k) = if 192 ≤ k.val then ⊥ else s (ix2 i k) := by
  unfold maskHigh
  rw [mask_value', only_block]
  pointwise
  rw [col_high]
  split_ifs
  all_goals rfl

/-- What a block stores of the values and of the logarithms. -/
def finishO (s : FVec Ideal S512x256 .f32) (w : FVec Ideal S256x128 .bf16) : FVec Ideal S128x256 .f32 := unstack (quot s w)

def side (o : FVec Ideal S512x128 .f32) : FVec Ideal S128x256 .f32 :=
  concatenate S128x256 1
    [⟨S128x128, pick (extractStridedSlice S128x128 ![0, 0] o slices_S512x128_o0_0_S128x128)
      (extractStridedSlice S128x128 ![128, 0] o slices_S512x128_o128_0_S128x128)⟩,
    ⟨S128x128, pick (extractStridedSlice S128x128 ![256, 0] o slices_S512x128_o256_0_S128x128)
      (extractStridedSlice S128x128 ![384, 0] o slices_S512x128_o384_0_S128x128)⟩] concatenates_S128x128_S128x128_S128x256_d1

def finishS (s : FVec Ideal S512x256 .f32) (w : FVec Ideal S256x128 .bf16) : FVec Ideal S128x256 .f32 := side (level s w)

theorem finishO_apply (s : FVec Ideal S512x256 .f32) (w : FVec Ideal S256x128 .bf16) (r : Fin 128) (e : Fin 256) :
    finishO s w (ix2 r e) = soft (fun k => s (ix2 (stackRow r e) k)) (fun k => w (ix2 k ⟨64 + e.val % 64, by omega⟩)) := by
  unfold finishO
  rw [unstack_apply, quot_apply]
  simp only [weights_apply]
  rfl

theorem finishS_apply (s : FVec Ideal S512x256 .f32) (w : FVec Ideal S256x128 .bf16) (r : Fin 128) (e : Fin 256) :
    finishS s w (ix2 r e) = lse (fun k => s (ix2 (stackRow r e) k)) := by
  refine Eq.trans ?_ (finishL_apply s w r e)
  show _ = shapeCast Cert.Kernel5Ideal.S1x128x256 (finishS s w) (by decide) (ix3 0 r e)
  generalize finishS s w = a
  pointwise

/-- A block's window of keys and values, from row `o` of the class's staged tokens. -/
def win (o : ℕ) (kv : FVec Ideal S1280x128 .bf16) (h : S1280x128.Slices ![o, 0] S256x128) : FVec Ideal S256x128 .bf16 :=
  extractStridedSlice S256x128 ![o, 0] kv h

theorem win_apply (o : ℕ) (ho : o + 256 ≤ 1280) (kv : FVec Ideal S1280x128 .bf16) (h : S1280x128.Slices ![o, 0] S256x128)
    (k : Fin 256) (d : Fin 128) : win o kv h (ix2 k d) = kv (ix2 ⟨o + k.val, by omega⟩ d) := by
  unfold win
  refine congrArg kv (funext fun a => Fin.ext ?_)
  match a with
  | ⟨0, _⟩ => rfl
  | ⟨1, _⟩ => exact Nat.zero_add _

/-- A class's staged tokens: the block before it, its own and the block after. -/
theorem staged_apply (v0 : Vec Ideal S1x1x128x128 .bf16) (v2 : Vec Ideal S1x1x1024x128 .bf16) (v4 : Vec Ideal S1x1x128x128 .bf16)
    (j : Fin 1280) (d : Fin 128) :
    k0_pay1 v0 v2 v4 (ix2 j d) = if h : j.val < 128 then v0 (ix4 0 0 ⟨j.val, h⟩ d)
      else if h' : j.val < 1152 then v2 (ix4 0 0 ⟨j.val - 128, by omega⟩ d) else v4 (ix4 0 0 ⟨j.val - 1152, by omega⟩ d) := by
  unfold_payloads
  pointwise
  by_cases h : j.val < 128
  · simp only [dif_pos h]
  · by_cases h' : j.val < 1152
    · simp only [dif_neg h, dif_pos h', dif_pos (show j.val - 128 < 1024 by omega)]
    · simp only [dif_neg h, dif_neg h', dif_neg (show ¬j.val - 128 < 1024 by omega)]
      rfl

theorem bias_apply (v : Vec Ideal S1x512x256 .f32) (i : Fin 512) (k : Fin 256) : k0_pay2 v (ix2 i k) = v (ix3 0 i k) :=
  Cert.Dil.pay3_apply v i k

end Cert.Dil1

end
-- ==== Proof.Dil1.Block.lean ====
/- What one grid point of mixer C's second group stores: eight blocks of 128 tokens of each of two classes, the values and the
   logarithms alike. -/
module

public import proofs.«01_k».proof.Proof.Dil1.FrameIdeal
public import proofs.«01_k».proof.Proof.Dil1.Step
public import Idealize.ShloMosaic.Lib.Pipeline.ValueKit.Tiles

@[expose] public section

set_option maxRecDepth 16384

noncomputable section

namespace Cert.Dil1

open Idealize.ShloMosaic Idealize.ShloMosaic.TcCoe Idealize.SL.Sem Cert.Kernel6Ideal Cert.Kernel6Ideal.Gen
open Cert.Band (stackRow)
open Cert.Dil (soft lse)

/-- The keys of a window that lie outside the class's tokens, in block `t` of eight. -/
def Outside (t k : ℕ) : Prop := (t = 0 ∧ k < 64) ∨ (t = 7 ∧ 192 ≤ k)

instance (t k : ℕ) : Decidable (Outside t k) := by unfold Outside; infer_instance

/-- A masked score: token `j` of class `c`, lane `e` of the result, key `k` of the window. -/
def blockScore (x0 : Vec Ideal S1x2x1024x256 .bf16) (kv : FVec Ideal S1280x128 .bf16) (b : FVec Ideal S512x256 .f32)
    (c : Fin 2) (j : Fin 1024) (e : Fin 256) (k : Fin 256) : EReal :=
  if Outside (j.val / 128) k.val then ⊥
  else (∑ d : Fin 64, x0 (ix4 0 c j ⟨64 * (e.val / 64) + d.val, by omega⟩) * kv (ix2 ⟨64 + 128 * (j.val / 128) + k.val, by omega⟩ ⟨d.val, by omega⟩))
    + b (ix2 (stackRow ⟨j.val % 128, by omega⟩ e) k)

/-- The value of key `k` of the window. -/
def blockValue (kv : FVec Ideal S1280x128 .bf16) (j : Fin 1024) (e : Fin 256) (k : Fin 256) : EReal :=
  kv (ix2 ⟨64 + 128 * (j.val / 128) + k.val, by omega⟩ ⟨64 + e.val % 64, by omega⟩)

/-- `F` stores of a block what `G` says of each row's scores and values. -/
def Stores (F : FVec Ideal S512x256 .f32 → FVec Ideal S256x128 .bf16 → FVec Ideal S128x256 .f32)
    (G : (Fin 256 → EReal) → (Fin 256 → EReal) → EReal) : Prop :=
  ∀ (s : FVec Ideal S512x256 .f32) (w : FVec Ideal S256x128 .bf16) (r : Fin 128) (e : Fin 256),
    F s w (ix2 r e) = G (fun k => s (ix2 (stackRow r e) k)) (fun k => w (ix2 k ⟨64 + e.val % 64, by omega⟩))

/-! ## Rows of a class -/

theorem count : S128x256.numel = (⟨4, ![1, 1, 128, 256]⟩ : Shape).numel := by decide

theorem flat_apply (P : FVec Ideal S128x256 .f32) (h : S128x256.ShapeCasts ⟨4, ![1, 1, 128, 256]⟩) (r : Fin 128) (e : Fin 256) :
    shapeCast ⟨4, ![1, 1, 128, 256]⟩ P h (ix4 (0 : Fin 1) (0 : Fin 1) r e) = P (ix2 r e) := by
  pointwise

theorem deep_apply (P : FVec Ideal ⟨4, ![1, 1, 128, 256]⟩ .bf16) (h : Shape.ShapeCasts ⟨4, ![1, 1, 128, 256]⟩ S128x256) (r : Fin 128) (e : Fin 256) :
    shapeCast S128x256 P h (ix2 r e) = P (ix4 (0 : Fin 1) (0 : Fin 1) r e) := by
  pointwise

variable (cls o : ℕ) (inb₁ : ∀ a : Fin S1x2x1024x256.rank, (![0, cls, 0, 0] : Fin 4 → ℕ) a + S1x1x1024x256.size a ≤ S1x2x1024x256.size a)
  (inb₂ : ∀ a : Fin S1024x256.rank, (![o, 0] : Fin 2 → ℕ) a + S128x256.size a ≤ S1024x256.size a)

/-- The rows of a block, among a class's. -/
abbrev rows : Rect S1x1x1024x256 :=
  (((Rect.unit (s := S1024x256) ![o, 0] S128x256.size inb₂).consLift ![1, 1024, 256] (by decide) (by decide)).consLift
    ![1, 1, 1024, 256] (by decide) (by decide))

/-- A store of a block's rows. -/
abbrev piece (P : FVec Ideal S128x256 .f32) : View.Piece (Elt Ideal) S1x2x1024x256 .f32 :=
  ⟨(Rect.unit (s := S1x2x1024x256) ![0, cls, 0, 0] S1x1x1024x256.size inb₁).within (rows o inb₂) (fun _ => rfl),
    Rect.payAlong (r := Rect.unit (s := S1024x256) ![o, 0] S128x256.size inb₂)
      (R := (Rect.unit (s := S1x2x1024x256) ![0, cls, 0, 0] S1x1x1024x256.size inb₁).within (rows o inb₂) (fun _ => rfl)) count.symm P⟩

/-- What a store of a block's rows leaves at an index. -/
theorem piece_at (P : FVec Ideal S128x256 .f32) (y : S1x2x1024x256.Idx) (v : EReal)
    (h : ∀ (r : Fin 128) (e : Fin 256), (y 1).val = cls → (y 2).val = o + r.val → y 3 = e → P (ix2 r e) = v) :
    View.RectAt (Val := Elt Ideal) (e := .f32) y (piece cls o inb₁ inb₂ P).1 (piece cls o inb₁ inb₂ P).2 v := by
  intro x hx
  obtain ⟨r, e, rfl⟩ : ∃ (r : Fin 128) (e : Fin 256), x = (ix4 (0 : Fin 1) (0 : Fin 1) r e : (⟨4, ![1, 1, 128, 256]⟩ : Shape).Idx) :=
    ⟨x 2, x 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  have y1 : cls + 0 + 1 * 0 = (y 1).val := congrArg Fin.val (congrFun hx 1)
  have y2 : 0 + o + 1 * r.val = (y 2).val := congrArg Fin.val (congrFun hx 2)
  have y3 : 0 + 0 + 1 * e.val = (y 3).val := congrArg Fin.val (congrFun hx 3)
  exact (flat_apply P _ r e).trans (h r e (by omega) (by omega) (Fin.ext (by omega)))

/-- Stores of the same blocks are the same when their payloads are. -/
theorem piece_congr {P Q : FVec Ideal S128x256 .f32} {L M : List (View.Piece (Elt Ideal) S1x2x1024x256 .f32)} (h : P = Q) (hL : L = M) :
    piece cls o inb₁ inb₂ P :: L = piece cls o inb₁ inb₂ Q :: M := by
  rw [h, hL]

theorem allAt_of_eq {L M : List (View.Piece (Elt Ideal) S1x2x1024x256 .f32)} {y : S1x2x1024x256.Idx} {v : EReal} (h : M = L)
    (hL : View.AllAt (Val := Elt Ideal) (e := .f32) L y v) : View.AllAt (Val := Elt Ideal) (e := .f32) M y v := h ▸ hL

variable (arg4 : Memref sig .tc .vmem S1x2x1024x256 .bf16) (harg4 : arg4.IsWhole) (x0 : Vec Ideal S1x2x1024x256 .bf16)

/-- The queries of a block. -/
abbrev query : FVec Ideal S128x256 .bf16 :=
  LoadRect.valAlong (lr := (Rect.unit (s := S1024x256) ![o, 0] S128x256.size inb₂).toLoadRect)
    (LR := (Rect.unit (s := S1x2x1024x256) ![0, cls, 0, 0] S1x1x1024x256.size inb₁).withinL (rows o inb₂).toLoadRect (fun _ => rfl)) count
    (View.readAt (Elt Ideal) arg4.view ((Rect.unit (s := S1x2x1024x256) ![0, cls, 0, 0] S1x1x1024x256.size inb₁).withinL (rows o inb₂).toLoadRect (fun _ => rfl))
      (harg4.unread x0))

theorem query_apply (c : Fin 2) (hc : c.val = cls) (ho : o + 128 ≤ 1024) (r : Fin 128) (e : Fin 256) :
    query cls o inb₁ inb₂ arg4 harg4 x0 (ix2 r e) = x0 (ix4 0 c (⟨o + r.val, by omega⟩ : Fin 1024) e) := by
  refine (deep_apply (View.readAt (Elt Ideal) arg4.view ((Rect.unit (s := S1x2x1024x256) ![0, cls, 0, 0] S1x1x1024x256.size inb₁).withinL
    (rows o inb₂).toLoadRect (fun _ => rfl)) (harg4.unread x0)) count.symm r e).trans ?_
  refine (congrFun (harg4.read_unread (Val := Elt Ideal) x0) _).trans (congrArg x0 (funext fun a => Fin.ext ?_))
  match a with
  | ⟨0, _⟩ => rfl
  | ⟨1, _⟩ => show cls + 0 + 1 * 0 = c.val; omega
  | ⟨2, _⟩ => show 0 + o + 1 * r.val = o + r.val; omega
  | ⟨3, _⟩ => show 0 + 0 + 1 * e.val = e.val; omega

/-! ## The stores -/

variable (F : FVec Ideal S512x256 .f32 → FVec Ideal S256x128 .bf16 → FVec Ideal S128x256 .f32)
  (mask : FVec Ideal S512x256 .f32 → FVec Ideal S512x256 .f32) (kv : Fin 2 → FVec Ideal S1280x128 .bf16) (b : FVec Ideal S512x256 .f32)

/-- One block's store, `F` being what it stores and `mask` its mask. -/
abbrev block (c : Fin 2) (o p : ℕ) (inb₁ : ∀ a : Fin S1x2x1024x256.rank, (![0, c.val, 0, 0] : Fin 4 → ℕ) a + S1x1x1024x256.size a ≤ S1x2x1024x256.size a)
    (inb₂ : ∀ a : Fin S1024x256.rank, (![o, 0] : Fin 2 → ℕ) a + S128x256.size a ≤ S1024x256.size a) (h : S1280x128.Slices ![p, 0] S256x128) :
    View.Piece (Elt Ideal) S1x2x1024x256 .f32 :=
  piece c.val o inb₁ inb₂ (F (mask (raw (query c.val o inb₁ inb₂ arg4 harg4 x0) (win p (kv c) h) b)) (win p (kv c) h))

theorem block_at {G : (Fin 256 → EReal) → (Fin 256 → EReal) → EReal} (hF : Stores F G) (c : Fin 2) (t o p : ℕ) (ho : o = 128 * t) (ht : t < 8)
    (hp : p = 64 + o) (inb₁ : ∀ a : Fin S1x2x1024x256.rank, (![0, c.val, 0, 0] : Fin 4 → ℕ) a + S1x1x1024x256.size a ≤ S1x2x1024x256.size a)
    (inb₂ : ∀ a : Fin S1024x256.rank, (![o, 0] : Fin 2 → ℕ) a + S128x256.size a ≤ S1024x256.size a) (h : S1280x128.Slices ![p, 0] S256x128)
    (hm : ∀ (s : FVec Ideal S512x256 .f32) (i : Fin 512) (k : Fin 256), mask s (ix2 i k) = if Outside t k.val then ⊥ else s (ix2 i k))
    (y : S1x2x1024x256.Idx) (L : List (View.Piece (Elt Ideal) S1x2x1024x256 .f32))
    (hL : View.AllAt L y (G (blockScore x0 (kv (y 1)) b (y 1) (y 2) (y 3)) (blockValue (kv (y 1)) (y 2) (y 3)))) :
    View.AllAt (block arg4 harg4 x0 F mask kv b c o p inb₁ inb₂ h :: L) y
      (G (blockScore x0 (kv (y 1)) b (y 1) (y 2) (y 3)) (blockValue (kv (y 1)) (y 2) (y 3))) := by
  refine View.allAt_cons _ _ _ (piece_at _ _ _ _ _ y _ fun r e y1 y2 y3 => ?_) hL
  have z1 : y 1 = c := Fin.ext y1
  obtain ⟨j, hj⟩ : ∃ j : Fin 1024, j = y 2 := ⟨_, rfl⟩
  have y2' : j.val = o + r.val := (congrArg Fin.val hj).trans y2
  rw [z1, y3, ← hj]
  have ht' : j.val / 128 = t := by omega
  have hr : (⟨j.val % 128, by omega⟩ : Fin 128) = r := Fin.ext (by show j.val % 128 = r.val; omega)
  have hw (k : Fin 256) (d : Fin 128) : win p (kv c) h (ix2 k d) = kv c (ix2 ⟨64 + 128 * (j.val / 128) + k.val, by omega⟩ d) :=
    (win_apply p (by omega) (kv c) h k d).trans
      (congrArg (fun q => kv c (ix2 q d)) (Fin.ext (by show p + k.val = 64 + 128 * (j.val / 128) + k.val; omega)))
  have hl (e : Fin 256) : query c.val o inb₁ inb₂ arg4 harg4 x0 (ix2 r e) = x0 (ix4 0 c j e) :=
    (query_apply c.val o inb₁ inb₂ arg4 harg4 x0 c rfl (by omega) r e).trans
      (congrArg (fun q => x0 (ix4 0 c q e)) (Fin.ext (by show o + r.val = j.val; omega)))
  refine (hF _ _ r e).trans (congrArg₂ G (funext fun k => ?_) (funext fun k => hw k _))
  rw [hm, raw_apply]
  unfold blockScore
  refine if_congr (by rw [ht']) rfl ?_
  rw [hr]
  refine congrArg (· + _) (Finset.sum_congr rfl fun d _ => ?_)
  rw [hl, hw]

/-- A class's eight stores, before those of the classes after it. -/
abbrev classStores (n : BitVec 32) (c : Fin 2)
    (inb₁ : ∀ a : Fin S1x2x1024x256.rank, (![0, c.val, 0, 0] : Fin 4 → ℕ) a + S1x1x1024x256.size a ≤ S1x2x1024x256.size a)
    (L : List (View.Piece (Elt Ideal) S1x2x1024x256 .f32)) : List (View.Piece (Elt Ideal) S1x2x1024x256 .f32) :=
  block arg4 harg4 x0 F (maskHigh n) kv b c 896 960 inb₁ inb_S1024x256_S128x256_896_0 slices_S1280x128_o960_0_S256x128 ::
  block arg4 harg4 x0 F id kv b c 768 832 inb₁ inb_S1024x256_S128x256_768_0 slices_S1280x128_o832_0_S256x128 ::
  block arg4 harg4 x0 F id kv b c 640 704 inb₁ inb_S1024x256_S128x256_640_0 slices_S1280x128_o704_0_S256x128 ::
  block arg4 harg4 x0 F id kv b c 512 576 inb₁ inb_S1024x256_S128x256_512_0 slices_S1280x128_o576_0_S256x128 ::
  block arg4 harg4 x0 F id kv b c 384 448 inb₁ inb_S1024x256_S128x256_384_0 slices_S1280x128_o448_0_S256x128 ::
  block arg4 harg4 x0 F id kv b c 256 320 inb₁ inb_S1024x256_S128x256_256_0 slices_S1280x128_o320_0_S256x128 ::
  block arg4 harg4 x0 F id kv b c 128 192 inb₁ inb_S1024x256_S128x256_128_0 slices_S1280x128_o192_0_S256x128 ::
  block arg4 harg4 x0 F (maskLow n) kv b c 0 64 inb₁ inb_S1024x256_S128x256_0_0 slices_S1280x128_o64_0_S256x128 ::
  L

theorem class_at {G : (Fin 256 → EReal) → (Fin 256 → EReal) → EReal} (hF : Stores F G) (n : BitVec 32) (hn : n = BitVec.ofNat 32 0) (c : Fin 2)
    (inb₁ : ∀ a : Fin S1x2x1024x256.rank, (![0, c.val, 0, 0] : Fin 4 → ℕ) a + S1x1x1024x256.size a ≤ S1x2x1024x256.size a)
    (y : S1x2x1024x256.Idx) (L : List (View.Piece (Elt Ideal) S1x2x1024x256 .f32))
    (hL : View.AllAt L y (G (blockScore x0 (kv (y 1)) b (y 1) (y 2) (y 3)) (blockValue (kv (y 1)) (y 2) (y 3)))) :
    View.AllAt (classStores arg4 harg4 x0 F kv b n c inb₁ L) y
      (G (blockScore x0 (kv (y 1)) b (y 1) (y 2) (y 3)) (blockValue (kv (y 1)) (y 2) (y 3))) := by
  subst hn
  have mid (t : ℕ) (h0 : 0 < t) (h7 : t < 7) (s : FVec Ideal S512x256 .f32) (p : Fin 512) (k : Fin 256) :
      id s (ix2 p k) = if Outside t k.val then ⊥ else s (ix2 p k) :=
    (if_neg (by unfold Outside; omega)).symm
  have low (s : FVec Ideal S512x256 .f32) (p : Fin 512) (k : Fin 256) :
      maskLow (BitVec.ofNat 32 0) s (ix2 p k) = if Outside 0 k.val then ⊥ else s (ix2 p k) :=
    (maskLow_apply s p k).trans (if_congr (by unfold Outside; omega) rfl rfl)
  have high (s : FVec Ideal S512x256 .f32) (p : Fin 512) (k : Fin 256) :
      maskHigh (BitVec.ofNat 32 0) s (ix2 p k) = if Outside 7 k.val then ⊥ else s (ix2 p k) :=
    (maskHigh_apply s p k).trans (if_congr (by unfold Outside; omega) rfl rfl)
  refine block_at arg4 harg4 x0 F _ kv b hF c 7 896 960 rfl (by decide) rfl _ _ _ high y _ ?_
  refine block_at arg4 harg4 x0 F id kv b hF c 6 768 832 rfl (by decide) rfl _ _ _ (mid 6 (by decide) (by decide)) y _ ?_
  refine block_at arg4 harg4 x0 F id kv b hF c 5 640 704 rfl (by decide) rfl _ _ _ (mid 5 (by decide) (by decide)) y _ ?_
  refine block_at arg4 harg4 x0 F id kv b hF c 4 512 576 rfl (by decide) rfl _ _ _ (mid 4 (by decide) (by decide)) y _ ?_
  refine block_at arg4 harg4 x0 F id kv b hF c 3 384 448 rfl (by decide) rfl _ _ _ (mid 3 (by decide) (by decide)) y _ ?_
  refine block_at arg4 harg4 x0 F id kv b hF c 2 256 320 rfl (by decide) rfl _ _ _ (mid 2 (by decide) (by decide)) y _ ?_
  refine block_at arg4 harg4 x0 F id kv b hF c 1 128 192 rfl (by decide) rfl _ _ _ (mid 1 (by decide) (by decide)) y _ ?_
  exact block_at arg4 harg4 x0 F _ kv b hF c 0 0 64 rfl (by decide) rfl _ _ _ low y _ hL

/-- The sixteen stores of a point. -/
abbrev stores (n : BitVec 32) : List (View.Piece (Elt Ideal) S1x2x1024x256 .f32) :=
  classStores arg4 harg4 x0 F kv b n 1 inb_S1x2x1024x256_S1x1x1024x256_0_1_0_0
    (classStores arg4 harg4 x0 F kv b n 0 inb_S1x2x1024x256_S1x1x1024x256_0_0_0_0 [])

theorem stores_at {G : (Fin 256 → EReal) → (Fin 256 → EReal) → EReal} (hF : Stores F G) (n : BitVec 32) (hn : n = BitVec.ofNat 32 0)
    (y : S1x2x1024x256.Idx) :
    View.AllAt (stores arg4 harg4 x0 F kv b n) y
      (G (blockScore x0 (kv (y 1)) b (y 1) (y 2) (y 3)) (blockValue (kv (y 1)) (y 2) (y 3))) :=
  class_at arg4 harg4 x0 F kv b hF n hn 1 _ y _ (class_at arg4 harg4 x0 F kv b hF n hn 0 _ y _ (View.allAt_nil _ _))

/-! ## The results of a point -/

/-- A class of a block. -/
def classOf {m : ℕ} (x : Vec Ideal ⟨4, ![1, 2, m, 128]⟩ .bf16) (c : Fin 2) : Vec Ideal ⟨4, ![1, 1, m, 128]⟩ .bf16 :=
  fun i => x (ix4 0 c (i 2) (i 3))

theorem class_load {m : ℕ} (arg : Memref sig .tc .vmem ⟨4, ![1, 2, m, 128]⟩ .bf16) (harg : arg.IsWhole) (x : Vec Ideal ⟨4, ![1, 2, m, 128]⟩ .bf16)
    (c : Fin 2) (inb : ∀ a : Fin 4, (![0, c.val, 0, 0] : Fin 4 → ℕ) a + (![1, 1, m, 128] : Fin 4 → ℕ) a ≤ (![1, 2, m, 128] : Fin 4 → ℕ) a) :
    View.readAt (Elt Ideal) arg.view (Rect.unit (s := ⟨4, ![1, 2, m, 128]⟩) ![0, c.val, 0, 0] ![1, 1, m, 128] inb).toLoadRect (harg.unread x)
      = classOf x c := by
  rw [View.readAt_eq_ld, harg.read_unread]
  refine funext fun i => congrArg x (funext fun a => Fin.ext ?_)
  match a with
  | ⟨0, _⟩ => show 0 + 1 * (i 0).val = 0; have h : (i 0).val < 1 := (i 0).isLt; omega
  | ⟨1, _⟩ => show c.val + 1 * (i 1).val = c.val; have h : (i 1).val < 1 := (i 1).isLt; omega
  | ⟨2, _⟩ => show 0 + 1 * (i 2).val = (i 2).val; omega
  | ⟨3, _⟩ => show 0 + 1 * (i 3).val = (i 3).val; omega

/-- A class's staged tokens. -/
def staged (x1 : Vec Ideal S1x2x128x128 .bf16) (x2 : Vec Ideal S1x2x1024x128 .bf16) (x3 : Vec Ideal S1x2x128x128 .bf16) (c : Fin 2) :
    FVec Ideal S1280x128 .bf16 :=
  k0_pay1 (classOf x1 c) (classOf x2 c) (classOf x3 c)

section Point
variable (c : Dev nD) (i : grid0.Coords) (arg5 : Memref sig .tc .vmem S1x2x128x128 .bf16) (harg5 : arg5.IsWhole) (arg6 : Memref sig .tc .vmem S1x2x1024x128 .bf16) (harg6 : arg6.IsWhole) (arg7 : Memref sig .tc .vmem S1x2x128x128 .bf16) (harg7 : arg7.IsWhole) (arg8 : Memref sig .tc .vmem S1x512x256 .f32) (harg8 : arg8.IsWhole) (arg9 : Memref sig .tc .vmem S1x2x1024x256 .f32) (harg9 : arg9.IsWhole) (arg10 : Memref sig .tc .vmem S1x2x1024x256 .f32) (harg10 : arg10.IsWhole)
  (x1 : Vec Ideal S1x2x128x128 .bf16) (x2 : Vec Ideal S1x2x1024x128 .bf16) (x3 : Vec Ideal S1x2x128x128 .bf16) (x4 : Vec Ideal S1x512x256 .f32)

/-- The staged tokens and the biases as the point's loads give them. -/
abbrev loaded (c : Fin 2) (inb₁ : ∀ a : Fin 4, (![0, c.val, 0, 0] : Fin 4 → ℕ) a + (![1, 1, 128, 128] : Fin 4 → ℕ) a ≤ (![1, 2, 128, 128] : Fin 4 → ℕ) a)
    (inb₂ : ∀ a : Fin 4, (![0, c.val, 0, 0] : Fin 4 → ℕ) a + (![1, 1, 1024, 128] : Fin 4 → ℕ) a ≤ (![1, 2, 1024, 128] : Fin 4 → ℕ) a) :
    FVec Ideal S1280x128 .bf16 :=
  k0_pay1 (View.readAt (Elt Ideal) arg5.view (Rect.unit (s := S1x2x128x128) ![0, c.val, 0, 0] ![1, 1, 128, 128] inb₁).toLoadRect (harg5.unread x1))
    (View.readAt (Elt Ideal) arg6.view (Rect.unit (s := S1x2x1024x128) ![0, c.val, 0, 0] ![1, 1, 1024, 128] inb₂).toLoadRect (harg6.unread x2))
    (View.readAt (Elt Ideal) arg7.view (Rect.unit (s := S1x2x128x128) ![0, c.val, 0, 0] ![1, 1, 128, 128] inb₁).toLoadRect (harg7.unread x3))

theorem loaded_eq (c : Fin 2) (inb₁ : ∀ a : Fin 4, (![0, c.val, 0, 0] : Fin 4 → ℕ) a + (![1, 1, 128, 128] : Fin 4 → ℕ) a ≤ (![1, 2, 128, 128] : Fin 4 → ℕ) a)
    (inb₂ : ∀ a : Fin 4, (![0, c.val, 0, 0] : Fin 4 → ℕ) a + (![1, 1, 1024, 128] : Fin 4 → ℕ) a ≤ (![1, 2, 1024, 128] : Fin 4 → ℕ) a) :
    loaded arg5 harg5 arg6 harg6 arg7 harg7 x1 x2 x3 c inb₁ inb₂ = staged x1 x2 x3 c := by
  unfold staged
  rw [← class_load arg5 harg5 x1 c inb₁, ← class_load arg6 harg6 x2 c inb₂, ← class_load arg7 harg7 x3 c inb₁]

theorem loaded_both :
    (![loaded arg5 harg5 arg6 harg6 arg7 harg7 x1 x2 x3 0 inb_S1x2x128x128_S1x1x128x128_0_0_0_0 inb_S1x2x1024x128_S1x1x1024x128_0_0_0_0,
      loaded arg5 harg5 arg6 harg6 arg7 harg7 x1 x2 x3 1 inb_S1x2x128x128_S1x1x128x128_0_1_0_0 inb_S1x2x1024x128_S1x1x1024x128_0_1_0_0] :
        Fin 2 → FVec Ideal S1280x128 .bf16) = staged x1 x2 x3 :=
  funext fun c => match c with
    | ⟨0, _⟩ => loaded_eq arg5 harg5 arg6 harg6 arg7 harg7 x1 x2 x3 0 _ _
    | ⟨1, _⟩ => loaded_eq arg5 harg5 arg6 harg6 arg7 harg7 x1 x2 x3 1 _ _

/-- The biases as the point loads them. -/
abbrev loadedBias : FVec Ideal S512x256 .f32 :=
  k0_pay2 (View.readAt (Elt Ideal) arg8.view (Rect.unit (s := S1x512x256) ![0, 0, 0] S1x512x256.size inb_S1x512x256_S1x512x256_0_0_0).toLoadRect (harg8.unread x4))

theorem hz3 : (![0, 0, 0] : Fin 3 → ℕ) = fun _ => 0 := by decide

theorem loadedBias_eq : loadedBias arg8 harg8 x4 = k0_pay2 x4 := by
  unfold loadedBias
  rw [View.readAt_eq_ld, harg8.read_unread, View.ld_unit_zero (S := S1x512x256) hz3 _ _]

theorem coord_zero : BitVec.ofNat 32 (i 3).val = BitVec.ofNat 32 0 := by
  have h : (i 3).val < 1 := (i 3).isLt
  rw [show (i 3).val = 0 by omega]

theorem values_eq :
    out0_A_5 c i arg4 harg4 arg5 harg5 arg6 harg6 arg7 harg7 arg8 harg8 arg9 harg9 arg10 harg10 x0 x1 x2 x3 x4
      = fun y => soft (blockScore x0 (staged x1 x2 x3 (y 1)) (k0_pay2 x4) (y 1) (y 2) (y 3)) (blockValue (staged x1 x2 x3 (y 1)) (y 2) (y 3)) := by
  have hcover := cover0_A_5 (F := Ideal) c i arg4 harg4 arg5 harg5 arg6 harg6 arg7 harg7 arg8 harg8 arg9 harg9 arg10 harg10 x0 x1 x2 x3 x4
  unfold out0_A_5
  rw [View.read_writes_eq_canon _ _ _ hcover]
  funext y
  refine View.canon_eq_of_allAt _ y _ (hcover y) ?_
  rw [← loaded_both arg5 harg5 arg6 harg6 arg7 harg7 x1 x2 x3, ← loadedBias_eq arg8 harg8 x4]
  unfold kernelRun0_A
  dsimp only
  refine allAt_of_eq ?_ (stores_at arg4 harg4 x0 finishO _ _ (G := soft) finishO_apply _ (coord_zero i) y)
  iterate 16 refine piece_congr _ _ _ _ rfl ?_
  rfl

theorem levels_eq :
    out0_A_6 c i arg4 harg4 arg5 harg5 arg6 harg6 arg7 harg7 arg8 harg8 arg9 harg9 arg10 harg10 x0 x1 x2 x3 x4
      = fun y => lse (blockScore x0 (staged x1 x2 x3 (y 1)) (k0_pay2 x4) (y 1) (y 2) (y 3)) := by
  have hcover := cover0_A_6 (F := Ideal) c i arg4 harg4 arg5 harg5 arg6 harg6 arg7 harg7 arg8 harg8 arg9 harg9 arg10 harg10 x0 x1 x2 x3 x4
  unfold out0_A_6
  rw [View.read_writes_eq_canon _ _ _ hcover]
  funext y
  refine View.canon_eq_of_allAt _ y _ (hcover y) ?_
  rw [← loaded_both arg5 harg5 arg6 harg6 arg7 harg7 x1 x2 x3, ← loadedBias_eq arg8 harg8 x4]
  unfold kernelRun0_A
  dsimp only
  refine allAt_of_eq ?_ (stores_at arg4 harg4 x0 finishS _ _ (G := fun s _ => lse s) finishS_apply _ (coord_zero i) y)
  iterate 16 refine piece_congr _ _ _ _ rfl ?_
  rfl

end Point

end Cert.Dil1

end
-- ==== Proof.Dil1.Value.lean ====
/- The result arrays of mixer C's second group, each as one function of the arguments. -/
module

public import proofs.«01_k».proof.Proof.Dil1.Block
public import proofs.«01_k».proof.Proof.Dil1.Entries
public import Idealize.ShloMosaic.Lib.Pointwise
public import Idealize.ShloMosaic.Lib.ValueIdx
public import Idealize.ShloMosaic.Lib.IdealHost
public import Idealize.ShloMosaic.Lib.StableHlo.Run
public import Idealize.ShloMosaic.Lib.Pipeline.ValueKit.Tiles

@[expose] public section

set_option maxRecDepth 16384

noncomputable section

namespace Cert.Dil1

open Idealize.ShloMosaic Idealize.ShloMosaic.TcCoe Idealize.SL.Sem Cert.Kernel6Ideal Cert.Kernel6Ideal.Gen
open Idealize.ShloMosaic.Pipeline (Dat)
open Cert.Band (stackRow)
open Cert.Dil (soft lse)

/-! ## The blocks -/

theorem index0 : ∀ t : Fin grid0.N, win0_0.index t = ![t.val / 4, t.val / 2 % 2, 0, t.val % 2] := by decide +kernel
theorem index1 : ∀ t : Fin grid0.N, win0_1.index t = ![t.val / 4, t.val / 2 % 2, 0, 4 + t.val % 2] := by decide +kernel
theorem index2 : ∀ t : Fin grid0.N, win0_2.index t = ![t.val / 4, t.val / 2 % 2, 0, 4 + t.val % 2] := by decide +kernel
theorem index3 : ∀ t : Fin grid0.N, win0_3.index t = ![t.val / 4, t.val / 2 % 2, 7, 4 + t.val % 2] := by decide +kernel
theorem index4 : ∀ t : Fin grid0.N, win0_4.index t = ![t.val % 2, 0, 0] := by decide +kernel
theorem index5 : ∀ t : Fin grid0.N, win0_5.index t = ![t.val / 4, t.val / 2 % 2, 0, t.val % 2] := by decide +kernel
theorem index6 : ∀ t : Fin grid0.N, win0_6.index t = ![t.val / 4, t.val / 2 % 2, 0, t.val % 2] := by decide +kernel

theorem lt_points (t : Fin cfg0.N) : t.val < 32 := lt_of_lt_of_eq t.isLt N_0

variable (m : (ℓ : Loc nD τ sig) → Buf (Elt Ideal) ℓ) (c : Dev nD)

/-- The arguments, at entry. -/
abbrev mainArr : Vec Ideal S8x4x1024x768 .bf16 := m ((c.tc : Thread nD τ).loc main_arg0)
abbrev biasArr : Vec Ideal S2x512x256 .f32 := m ((c.tc : Thread nD τ).loc main_arg1)

/-- The blocks that point `t` reads. -/
abbrev blk0 (t : Fin cfg0.N) : Vec Ideal S1x2x1024x256 .bf16 := iblk m c 0 t
abbrev blk1 (t : Fin cfg0.N) : Vec Ideal S1x2x128x128 .bf16 := iblk m c 1 t
abbrev blk2 (t : Fin cfg0.N) : Vec Ideal S1x2x1024x128 .bf16 := iblk m c 2 t
abbrev blk3 (t : Fin cfg0.N) : Vec Ideal S1x2x128x128 .bf16 := iblk m c 3 t
abbrev blk4 (t : Fin cfg0.N) : Vec Ideal S1x512x256 .f32 := iblk m c 4 t

/-- The batch and the key head of a point, and the class and the lane that are class `g`, lane `e` at the point. -/
def batchAt (t : Fin cfg0.N) : Fin 8 := ⟨t.val / 4, by have := lt_points t; omega⟩
def headAt (t : Fin cfg0.N) : Fin 2 := ⟨t.val % 2, by omega⟩
def classAt (t : Fin cfg0.N) (g : Fin 2) : Fin 4 := ⟨2 * (t.val / 2 % 2) + g.val, by omega⟩
def laneAt (t : Fin cfg0.N) (e : Fin 256) : Fin 512 := ⟨256 * (t.val % 2) + e.val, by omega⟩

theorem block0 (t : Fin cfg0.N) (g : Fin 2) (j : Fin 1024) (e : Fin 256) :
    blk0 m c t (ix4 0 g j e) = mainArr m c (ix4 (batchAt t) (classAt t g) j (⟨256 * (t.val % 2) + e.val, by omega⟩ : Fin 768)) := by
  have h := index0 t
  unfold blk0 iblk
  rw [View.read_apply]
  show V m c main_arg0 _ = _
  rw [V_main_arg0]
  refine congrArg (mainArr m c) (funext fun a => Fin.ext ?_)
  match a with
  | ⟨0, _⟩ => show win0_0.index t 0 * 1 + 1 * 0 = t.val / 4; rw [h]; show t.val / 4 * 1 + 1 * 0 = _; omega
  | ⟨1, _⟩ =>
    show win0_0.index t 1 * 2 + 1 * g.val = 2 * (t.val / 2 % 2) + g.val
    rw [h]; show t.val / 2 % 2 * 2 + 1 * g.val = _; omega
  | ⟨2, _⟩ => show win0_0.index t 2 * 1024 + 1 * j.val = j.val; rw [h]; show 0 * 1024 + 1 * j.val = _; omega
  | ⟨3, _⟩ =>
    show win0_0.index t 3 * 256 + 1 * e.val = 256 * (t.val % 2) + e.val
    rw [h]; show t.val % 2 * 256 + 1 * e.val = _; omega

theorem block1 (t : Fin cfg0.N) (g : Fin 2) (j : Fin 128) (e : Fin 128) :
    blk1 m c t (ix4 0 g j e) = mainArr m c (ix4 (batchAt t) (classAt t g) (⟨j.val, by omega⟩ : Fin 1024) (⟨512 + 128 * (t.val % 2) + e.val, by omega⟩ : Fin 768)) := by
  have h := index1 t
  unfold blk1 iblk
  rw [View.read_apply]
  show V m c main_arg0 _ = _
  rw [V_main_arg0]
  refine congrArg (mainArr m c) (funext fun a => Fin.ext ?_)
  match a with
  | ⟨0, _⟩ => show win0_1.index t 0 * 1 + 1 * 0 = t.val / 4; rw [h]; show t.val / 4 * 1 + 1 * 0 = _; omega
  | ⟨1, _⟩ =>
    show win0_1.index t 1 * 2 + 1 * g.val = 2 * (t.val / 2 % 2) + g.val
    rw [h]; show t.val / 2 % 2 * 2 + 1 * g.val = _; omega
  | ⟨2, _⟩ => show win0_1.index t 2 * 128 + 1 * j.val = j.val; rw [h]; show 0 * 128 + 1 * j.val = _; omega
  | ⟨3, _⟩ =>
    show win0_1.index t 3 * 128 + 1 * e.val = 512 + 128 * (t.val % 2) + e.val
    rw [h]; show (4 + t.val % 2) * 128 + 1 * e.val = _; omega

theorem block2 (t : Fin cfg0.N) (g : Fin 2) (j : Fin 1024) (e : Fin 128) :
    blk2 m c t (ix4 0 g j e) = mainArr m c (ix4 (batchAt t) (classAt t g) j (⟨512 + 128 * (t.val % 2) + e.val, by omega⟩ : Fin 768)) := by
  have h := index2 t
  unfold blk2 iblk
  rw [View.read_apply]
  show V m c main_arg0 _ = _
  rw [V_main_arg0]
  refine congrArg (mainArr m c) (funext fun a => Fin.ext ?_)
  match a with
  | ⟨0, _⟩ => show win0_2.index t 0 * 1 + 1 * 0 = t.val / 4; rw [h]; show t.val / 4 * 1 + 1 * 0 = _; omega
  | ⟨1, _⟩ =>
    show win0_2.index t 1 * 2 + 1 * g.val = 2 * (t.val / 2 % 2) + g.val
    rw [h]; show t.val / 2 % 2 * 2 + 1 * g.val = _; omega
  | ⟨2, _⟩ => show win0_2.index t 2 * 1024 + 1 * j.val = j.val; rw [h]; show 0 * 1024 + 1 * j.val = _; omega
  | ⟨3, _⟩ =>
    show win0_2.index t 3 * 128 + 1 * e.val = 512 + 128 * (t.val % 2) + e.val
    rw [h]; show (4 + t.val % 2) * 128 + 1 * e.val = _; omega

theorem block3 (t : Fin cfg0.N) (g : Fin 2) (j : Fin 128) (e : Fin 128) :
    blk3 m c t (ix4 0 g j e) = mainArr m c (ix4 (batchAt t) (classAt t g) (⟨896 + j.val, by omega⟩ : Fin 1024) (⟨512 + 128 * (t.val % 2) + e.val, by omega⟩ : Fin 768)) := by
  have h := index3 t
  unfold blk3 iblk
  rw [View.read_apply]
  show V m c main_arg0 _ = _
  rw [V_main_arg0]
  refine congrArg (mainArr m c) (funext fun a => Fin.ext ?_)
  match a with
  | ⟨0, _⟩ => show win0_3.index t 0 * 1 + 1 * 0 = t.val / 4; rw [h]; show t.val / 4 * 1 + 1 * 0 = _; omega
  | ⟨1, _⟩ =>
    show win0_3.index t 1 * 2 + 1 * g.val = 2 * (t.val / 2 % 2) + g.val
    rw [h]; show t.val / 2 % 2 * 2 + 1 * g.val = _; omega
  | ⟨2, _⟩ => show win0_3.index t 2 * 128 + 1 * j.val = 896 + j.val; rw [h]; show 7 * 128 + 1 * j.val = _; omega
  | ⟨3, _⟩ =>
    show win0_3.index t 3 * 128 + 1 * e.val = 512 + 128 * (t.val % 2) + e.val
    rw [h]; show (4 + t.val % 2) * 128 + 1 * e.val = _; omega

theorem block4 (t : Fin cfg0.N) (i : Fin 512) (k : Fin 256) : blk4 m c t (ix3 0 i k) = biasArr m c (ix3 (headAt t) i k) := by
  have h := index4 t
  unfold blk4 iblk
  rw [View.read_apply]
  show V m c main_arg1 _ = _
  rw [V_main_arg1]
  refine congrArg (biasArr m c) (funext fun a => Fin.ext ?_)
  match a with
  | ⟨0, _⟩ => show win0_4.index t 0 * 1 + 1 * 0 = t.val % 2; rw [h]; show t.val % 2 * 1 + 1 * 0 = _; omega
  | ⟨1, _⟩ => show win0_4.index t 1 * 512 + 1 * i.val = i.val; rw [h]; show 0 * 512 + 1 * i.val = _; omega
  | ⟨2, _⟩ => show win0_4.index t 2 * 256 + 1 * k.val = k.val; rw [h]; show 0 * 256 + 1 * k.val = _; omega

/-- A class's 1280 rows of keys and values are its tokens at the places of its blocks. -/
theorem keys_eq (t : Fin cfg0.N) (g : Fin 2) (l : Fin 1280) (e : Fin 128) :
    staged (blk1 m c t) (blk2 m c t) (blk3 m c t) g (ix2 l e)
      = mainArr m c (ix4 (batchAt t) (classAt t g) (tokenOf l) (⟨512 + 128 * (t.val % 2) + e.val, by omega⟩ : Fin 768)) := by
  refine (staged_apply _ _ _ l e).trans ?_
  by_cases h : l.val < 128
  · simp only [dif_pos h]
    refine (block1 m c t g ⟨l.val, h⟩ e).trans (congrArg (fun x => mainArr m c (ix4 _ _ x _)) (Fin.ext ?_))
    show l.val = if l.val < 128 then l.val else if l.val < 1152 then l.val - 128 else l.val - 256
    split_ifs <;> omega
  · simp only [dif_neg h]
    by_cases h' : l.val < 1152
    · simp only [dif_pos h']
      refine (block2 m c t g ⟨l.val - 128, by omega⟩ e).trans (congrArg (fun x => mainArr m c (ix4 _ _ x _)) (Fin.ext ?_))
      show l.val - 128 = if l.val < 128 then l.val else if l.val < 1152 then l.val - 128 else l.val - 256
      split_ifs <;> omega
    · simp only [dif_neg h']
      refine (block3 m c t g ⟨l.val - 1152, by omega⟩ e).trans (congrArg (fun x => mainArr m c (ix4 _ _ x _)) (Fin.ext ?_))
      show 896 + (l.val - 1152) = if l.val < 128 then l.val else if l.val < 1152 then l.val - 128 else l.val - 256
      split_ifs <;> omega

/-! ## The results -/

/-- A point's masked scores are the result's at its place. -/
theorem score_eq (t : Fin cfg0.N) (g : Fin 2) (j : Fin 1024) (e : Fin 256) :
    blockScore (blk0 m c t) (staged (blk1 m c t) (blk2 m c t) (blk3 m c t) g) (k0_pay2 (blk4 m c t)) g j e
      = score (mainArr m c) (biasArr m c) (batchAt t) (classAt t g) j (laneAt t e) := by
  funext k
  unfold blockScore score
  have hO : Outside (j.val / 128) k.val ↔ (place j k).val < 128 ∨ 1152 ≤ (place j k).val := by
    unfold Outside place
    dsimp only
    omega
  rw [if_congr hO rfl rfl]
  congr 1
  unfold plain
  refine congrArg₂ (· + ·) (Finset.sum_congr rfl fun d _ => ?_) ?_
  · rw [block0, keys_eq]
    refine congrArg₂ (· * ·) (congrArg (fun x => mainArr m c (ix4 _ _ _ x)) (Fin.ext ?_)) ?_
    · show 256 * (t.val % 2) + (64 * (e.val / 64) + d.val) = 64 * ((256 * (t.val % 2) + e.val) / 64) + d.val
      omega
    · refine congrArg (fun y => mainArr m c (ix4 _ _ (tokenOf (place j k)) y)) (Fin.ext ?_)
      show 512 + 128 * (t.val % 2) + d.val = 512 + 128 * ((256 * (t.val % 2) + e.val) / 256) + d.val
      omega
  · rw [bias_apply, block4]
    refine congrArg₂ (fun x y => biasArr m c (ix3 x y k)) (Fin.ext ?_) (Fin.ext ?_)
    · show t.val % 2 = (256 * (t.val % 2) + e.val) / 256
      omega
    · show 128 * (e.val / 64) + j.val % 128 = 128 * ((256 * (t.val % 2) + e.val) / 64 % 4) + j.val % 128
      omega

/-- A point's values are the result's at its place. -/
theorem value_eq (t : Fin cfg0.N) (g : Fin 2) (j : Fin 1024) (e : Fin 256) :
    blockValue (staged (blk1 m c t) (blk2 m c t) (blk3 m c t) g) j e = valueAt (mainArr m c) (batchAt t) (classAt t g) j (laneAt t e) := by
  funext k
  unfold blockValue valueAt
  rw [keys_eq]
  refine congrArg (fun y => mainArr m c (ix4 _ _ (tokenOf (place j k)) y)) (Fin.ext ?_)
  show 512 + 128 * (t.val % 2) + (64 + e.val % 64)
    = 576 + 128 * ((256 * (t.val % 2) + e.val) / 256) + (256 * (t.val % 2) + e.val) % 64
  omega

/-- The point whose block holds an index. -/
def pointOf (i : S8x4x1024x512.Idx) : Fin cfg0.N :=
  ⟨4 * (i 0).val + 2 * ((i 1).val / 2) + (i 3).val / 256, by
    have h0 : (i 0).val < 8 := (i 0).isLt
    have h1 : (i 1).val < 4 := (i 1).isLt
    have h3 : (i 3).val < 512 := (i 3).isLt
    rw [show cfg0.N = 32 from N_0]; omega⟩

/-- An index lies in its point's block. -/
theorem holds (i : S8x4x1024x512.Idx) (u : Fin 4 → ℕ)
    (h : u = ![(pointOf i).val / 4, (pointOf i).val / 2 % 2, 0, (pointOf i).val % 2]) (a : Fin 4) :
    u a * S1x2x1024x256.size a ≤ (i a).val ∧ (i a).val < u a * S1x2x1024x256.size a + S1x2x1024x256.size a := by
  have h0 : (i 0).val < 8 := (i 0).isLt
  have h1 : (i 1).val < 4 := (i 1).isLt
  have h2 : (i 2).val < 1024 := (i 2).isLt
  have h3 : (i 3).val < 512 := (i 3).isLt
  have e : (pointOf i).val = 4 * (i 0).val + 2 * ((i 1).val / 2) + (i 3).val / 256 := rfl
  subst h
  match a with
  | ⟨0, _⟩ =>
    show (pointOf i).val / 4 * 1 ≤ (i 0).val ∧ (i 0).val < (pointOf i).val / 4 * 1 + 1
    omega
  | ⟨1, _⟩ =>
    show (pointOf i).val / 2 % 2 * 2 ≤ (i 1).val ∧ (i 1).val < (pointOf i).val / 2 % 2 * 2 + 2
    omega
  | ⟨2, _⟩ =>
    show 0 * 1024 ≤ (i 2).val ∧ (i 2).val < 0 * 1024 + 1024
    omega
  | ⟨3, _⟩ =>
    show (pointOf i).val % 2 * 256 ≤ (i 3).val ∧ (i 3).val < (pointOf i).val % 2 * 256 + 256
    omega

/-- The place in the results of a point's index, in either of its windows of results. -/
theorem lands (t : Fin cfg0.N) (g : Fin 2) (j : Fin 1024) (e : Fin 256) (u : Fin 4 → ℕ)
    (h : u = ![t.val / 4, t.val / 2 % 2, 0, t.val % 2]) (a : Fin 4) :
    ((ix4 (batchAt t) (classAt t g) j (laneAt t e) : S8x4x1024x512.Idx) a).val
      = u a * S1x2x1024x256.size a + 1 * ((ix4 0 g j e : S1x2x1024x256.Idx) a).val := by
  subst h
  match a with
  | ⟨0, _⟩ => show t.val / 4 = t.val / 4 * 1 + 1 * 0; omega
  | ⟨1, _⟩ => show 2 * (t.val / 2 % 2) + g.val = t.val / 2 % 2 * 2 + 1 * g.val; omega
  | ⟨2, _⟩ => show j.val = 0 * 1024 + 1 * j.val; omega
  | ⟨3, _⟩ => show 256 * (t.val % 2) + e.val = t.val % 2 * 256 + 1 * e.val; omega

theorem index_four (y : S1x2x1024x256.Idx) : ∃ (g : Fin 2) (j : Fin 1024) (e : Fin 256), y = (ix4 0 g j e : S1x2x1024x256.Idx) :=
  ⟨y 1, y 2, y 3, funext fun a => match a with
    | ⟨0, _⟩ => Subsingleton.elim (α := Fin 1) _ _
    | ⟨1, _⟩ => rfl
    | ⟨2, _⟩ => rfl
    | ⟨3, _⟩ => rfl⟩

theorem flushed_values (t : Fin cfg0.N) :
    (dats m 0 c).flushed 5 t = ((cfg0.win 5).blk t).view.read (Elt Ideal) (values (mainArr m c) (biasArr m c)) := by
  rw [flushed5_A]
  funext y
  obtain ⟨g, j, e, rfl⟩ := index_four y
  have e1 := congrFun (values_eq (ms0_0 t) (hs0_0 t) (blk0 m c t) c (grid0.coords t) (ms0_1 t) (hs0_1 t) (ms0_2 t) (hs0_2 t) (ms0_3 t) (hs0_3 t)
    (ms0_4 t) (hs0_4 t) (ms0_5 t) (hs0_5 t) (ms0_6 t) (hs0_6 t) (blk1 m c t) (blk2 m c t) (blk3 m c t) (blk4 m c t)) (ix4 0 g j e : S1x2x1024x256.Idx)
  refine (e1.trans (congrArg₂ soft (score_eq m c t g j e) (value_eq m c t g j e))).trans ?_
  rw [View.read_apply]
  show values _ _ (ix4 (batchAt t) (classAt t g) j (laneAt t e)) = values _ _ _
  exact congrArg (values _ _) (funext fun a => Fin.ext (lands t g j e _ (index5 t) a))

theorem covered_values (i : S8x4x1024x512.Idx) : ∃ t : Fin cfg0.N, (cfg0.win 5).flush t = true ∧ i ∈ ((cfg0.win 5).blk t).view.set := by
  refine ⟨pointOf i, flush0_5 _, ?_⟩
  show i ∈ ((View.whole main_v0_0).slice (win0_5.rect (pointOf i))).set
  rw [View.set_slice_whole, Rect.mem_set_unit]
  exact holds i _ (index5 (pointOf i))

/-- The array after the run. -/
theorem array_values : (dats m 0 c).arrAt 5 cfg0.N = values (mainArr m c) (biasArr m c) :=
  (dats m 0 c).arrAt_eq_of_cover 5 _ (fun t _ => flushed_values m c t) covered_values

theorem flushed_levels (t : Fin cfg0.N) :
    (dats m 0 c).flushed 6 t = ((cfg0.win 6).blk t).view.read (Elt Ideal) (levels (mainArr m c) (biasArr m c)) := by
  rw [flushed6_A]
  funext y
  obtain ⟨g, j, e, rfl⟩ := index_four y
  have e1 := congrFun (levels_eq (ms0_0 t) (hs0_0 t) (blk0 m c t) c (grid0.coords t) (ms0_1 t) (hs0_1 t) (ms0_2 t) (hs0_2 t) (ms0_3 t) (hs0_3 t)
    (ms0_4 t) (hs0_4 t) (ms0_5 t) (hs0_5 t) (ms0_6 t) (hs0_6 t) (blk1 m c t) (blk2 m c t) (blk3 m c t) (blk4 m c t)) (ix4 0 g j e : S1x2x1024x256.Idx)
  refine (e1.trans (congrArg lse (score_eq m c t g j e))).trans ?_
  rw [View.read_apply]
  show levels _ _ (ix4 (batchAt t) (classAt t g) j (laneAt t e)) = levels _ _ _
  exact congrArg (levels _ _) (funext fun a => Fin.ext (lands t g j e _ (index6 t) a))

theorem covered_levels (i : S8x4x1024x512.Idx) : ∃ t : Fin cfg0.N, (cfg0.win 6).flush t = true ∧ i ∈ ((cfg0.win 6).blk t).view.set := by
  refine ⟨pointOf i, flush0_6 _, ?_⟩
  show i ∈ ((View.whole main_v0_1).slice (win0_6.rect (pointOf i))).set
  rw [View.set_slice_whole, Rect.mem_set_unit]
  exact holds i _ (index6 (pointOf i))

/-- The array after the run. -/
theorem array_levels : (dats m 0 c).arrAt 6 cfg0.N = levels (mainArr m c) (biasArr m c) :=
  (dats m 0 c).arrAt_eq_of_cover 6 _ (fun t _ => flushed_levels m c t) covered_levels

end Cert.Dil1

end
-- ==== Proof.Dil1.Claims.lean ====
/- The claims about mixer C's second group: the frames of its three programs, the named constants, and the equality of the
   kernel's two results and the reference's for finite queries, keys and biases. -/
module

public import proofs.«01_k».proof.Defs
public import proofs.«01_k».proof.Proof.Dil1.Frame
public import proofs.«01_k».proof.Proof.Gen.Reference6Ideal.Run
public import proofs.«01_k».proof.Proof.Gen.Pre_finite_c1
public import proofs.«01_k».proof.Proof.Attn.Claims
public import proofs.«01_k».proof.Proof.Dil1.RefValue
public import proofs.«01_k».proof.Proof.Dil1.Value
public import Idealize.ShloMosaic.Lib.ReduceAll
public import Idealize.ShloMosaic.Lib.Quiescent

@[expose] public section

set_option maxRecDepth 16384

noncomputable section

namespace Cert.Dil1

open Idealize.ShloMosaic Idealize.ShloMosaic.TcCoe Idealize.SL.Sem

/-! ## The precondition -/

instance : Subsingleton Cert.Pre_finite_c1.S_.Idx := ⟨fun a b => funext fun i => i.elim0⟩

theorem finite_of_pre (A : Vec Ideal Cert.Kernel6Ideal.S8x4x1024x768 .bf16) (B : Vec Ideal Cert.Kernel6Ideal.S2x512x256 .f32)
    (h : Cert.Pre_finite_c1.fn (F := Ideal) A B = fun _ => 1#1) :
    (∀ (b : Fin 8) (c : Fin 4) (s : Fin 1024) (x : Fin 512), ∃ r : ℝ, A (ix4 b c s (⟨x.val, by omega⟩ : Fin 768)) = (r : EReal))
    ∧ (∀ (b : Fin 8) (c : Fin 4) (s : Fin 1024) (g : Fin 2) (d : Fin 64),
        ∃ r : ℝ, A (ix4 b c s (⟨512 + 128 * g.val + d.val, by omega⟩ : Fin 768)) = (r : EReal))
    ∧ ∀ i, ∃ r : ℝ, B i = (r : EReal) := by
  have h' := congrFun h (fun a => a.elim0)
  unfold Cert.Pre_finite_c1.fn Cert.Pre_finite_c1.fn_part1 at h'
  dsimp only at h'
  obtain ⟨h01, hb⟩ := IntOp.andi_eq_one.mp h'
  obtain ⟨hq, hk⟩ := IntOp.andi_eq_one.mp h01
  refine ⟨fun b c s x => ?_, fun b c s g d => ?_, fun i => ?_⟩
  · have h1 := Attn.lt_top_of_cmp _ (Host.reduce_andi_all _ _ _ _ _ hq (ix4 b c s x))
    refine Attn.real_of_abs_lt _ (lt_of_eq_of_lt ?_ h1)
    pointwise
    rfl
  · have h1 := Attn.lt_top_of_cmp _ (Host.reduce_andi_all _ _ _ _ _ hk (ix5 b c s g d))
    refine Attn.real_of_abs_lt _ (lt_of_eq_of_lt ?_ h1)
    pointwise
    exact congrArg (fun x => max (A (ix4 b c s x)) (-A (ix4 b c s x)))
      (Fin.ext (show 512 + 128 * g.val + d.val = 512 + (g.val * 128 + d.val) by omega))
  · exact Attn.real_of_abs_lt _ (Attn.lt_top_of_cmp _ (Host.reduce_andi_all _ _ _ _ _ hb i))

/-! ## The claims -/

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_ideal_pre : Cert.quiescent_Kernel6Ideal_pre_finite_c1 := fun m ρ _ => Cert.Kernel6Ideal.Gen.frame m ρ

theorem frame_reference : Cert.quiescent_Reference6Ideal := fun m ρ _ =>
  (θ_run Cert.Reference6Ideal.defs _ _).mono (fun r h => ⟨fun c => (h c).2.2,
    Idealize.ShloMosaic.sem_eq_zero_of_no_sems (by decide) r.2⟩) (Cert.Reference6Ideal.Value.run (F := Ideal) m ρ)

theorem frame_reference_pre : Cert.quiescent_Reference6Ideal_pre_finite_c1 := fun m ρ _ =>
  (θ_run Cert.Reference6Ideal.defs _ _).mono (fun r h => ⟨fun c => (h c).2.2,
    Idealize.ShloMosaic.sem_eq_zero_of_no_sems (by decide) r.2⟩) (Cert.Reference6Ideal.Value.run (F := Ideal) m ρ)

/-- The mask's literal stands for negative infinity, and the factor of the logarithm for log2(e). -/
theorem consts_named : Cert.preserves_Kernel6_Kernel6Ideal :=
  ⟨IdealRules.named_const.statement Cert.Kernel6Ideal.κ "mask" .f32 0xF149F2CA#32 ⊥ rfl,
    IdealRules.named_const.statement Cert.Kernel6Ideal.κ "log2e" .f32 0x3FB8AA3B#32 (((Real.log 2)⁻¹ : ℝ) : EReal) rfl⟩

/-- The kernel and the reference compute the same two arrays, when the queries, the keys and the biases are finite. -/
theorem value_claim : Cert.algebraic_Kernel6Ideal_Reference6Ideal_pre_finite_c1 := by
  intro m ρ m' ρ' hpre hargs
  refine ⟨fun c => values (mainArr m c) (biasArr m c), fun c => levels (mainArr m c) (biasArr m c), ?_, ?_⟩
  · exact (θ_run Cert.Kernel6Ideal.defs _ _).mono (fun _ h c => ⟨(h c).1.trans (array_values m c),
      (h c).2.1.trans (array_levels m c), (h c).2.2⟩) (Cert.Kernel6Ideal.Gen.run_blocks m ρ)
  have heq (c : Dev Cert.Kernel6Ideal.nD) := (fun h => reference_eq (mainArr m c) (biasArr m c) h.1 h.2.1 h.2.2)
    (finite_of_pre (mainArr m c) (biasArr m c) (hpre c))
  refine (θ_run Cert.Reference6Ideal.defs _ _).mono (fun r h c => ⟨(h c).1.trans ?_, (h c).2.1.trans ?_, (h c).2.2⟩)
    (Cert.Reference6Ideal.Value.run (F := Ideal) m' ρ')
  · rw [Cert.Reference6Ideal.Read.val_main_v66_eq, (hargs c).1, (hargs c).2]
    exact (heq c).1
  · rw [Cert.Reference6Ideal.Read.val_main_v72_eq, (hargs c).1, (hargs c).2]
    exact (heq c).2

end Cert.Dil1

end
-- ==== Proof.Dil2.Frame.lean ====
/- The frame of mixer C's third group, with the extents of its stores written out. -/
module

public import proofs.«01_k».proof.Proof.Gen.Kernel7.Frame.RunA
public import Idealize.ShloMosaic.Lib.Claim

@[expose] public section

-- membership in a rectangle of production extents (`View.cover_of_tiled`): the elaborator's structural look
-- recurses once per coordinate of the long axes
set_option maxRecDepth 16384

noncomputable section

namespace Cert.Kernel7.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces that the run stores of output 5 cover its block. -/
theorem cover0_A_5 (c : Dev nD) (i : grid0.Coords) (arg4 : Memref sig .tc .vmem S1x8x256x256 .bf16) (harg4 : arg4.IsWhole) (arg5 : Memref sig .tc .vmem S1x8x128x128 .bf16) (harg5 : arg5.IsWhole) (arg6 : Memref sig .tc .vmem S1x8x256x128 .bf16) (harg6 : arg6.IsWhole) (arg7 : Memref sig .tc .vmem S1x8x128x128 .bf16) (harg7 : arg7.IsWhole) (arg8 : Memref sig .tc .vmem S1x512x256 .f32) (harg8 : arg8.IsWhole) (arg9 : Memref sig .tc .vmem S1x8x256x256 .f32) (harg9 : arg9.IsWhole) (arg10 : Memref sig .tc .vmem S1x8x256x256 .f32) (harg10 : arg10.IsWhole)
    (x0 : Vec F S1x8x256x256 .bf16) (x1 : Vec F S1x8x128x128 .bf16) (x2 : Vec F S1x8x256x128 .bf16) (x3 : Vec F S1x8x128x128 .bf16) (x4 : Vec F S1x512x256 .f32) (y : S1x8x256x256.Idx) :
    ∃ pc ∈ (kernelRun0_A c i arg4 harg4 arg5 harg5 arg6 harg6 arg7 harg7 arg8 harg8 arg9 harg9 arg10 harg10 x0 x1 x2 x3 x4).1, y ∈ pc.1.set :=
  View.cover_of_tiledL (kernelRun0_A c i arg4 harg4 arg5 harg5 arg6 harg6 arg7 harg7 arg8 harg8 arg9 harg9 arg10 harg10 x0 x1 x2 x3 x4).1 (![1, 1, 128, 256] : Fin 4 → ℕ) (by sl_kernel_rfl) y

/-- What the run leaves in output 5's staging buffer: its pieces read back over junk. -/
def out0_A_5 (c : Dev nD) (i : grid0.Coords) (arg4 : Memref sig .tc .vmem S1x8x256x256 .bf16) (harg4 : arg4.IsWhole) (arg5 : Memref sig .tc .vmem S1x8x128x128 .bf16) (harg5 : arg5.IsWhole) (arg6 : Memref sig .tc .vmem S1x8x256x128 .bf16) (harg6 : arg6.IsWhole) (arg7 : Memref sig .tc .vmem S1x8x128x128 .bf16) (harg7 : arg7.IsWhole) (arg8 : Memref sig .tc .vmem S1x512x256 .f32) (harg8 : arg8.IsWhole) (arg9 : Memref sig .tc .vmem S1x8x256x256 .f32) (harg9 : arg9.IsWhole) (arg10 : Memref sig .tc .vmem S1x8x256x256 .f32) (harg10 : arg10.IsWhole)
    (x0 : Vec F S1x8x256x256 .bf16) (x1 : Vec F S1x8x128x128 .bf16) (x2 : Vec F S1x8x256x128 .bf16) (x3 : Vec F S1x8x128x128 .bf16) (x4 : Vec F S1x512x256 .f32) : Vec F S1x8x256x256 .f32 :=
  VO0_5.read (Elt F) (VO0_5.writes (Elt F) VO0_5.junk (kernelRun0_A c i arg4 harg4 arg5 harg5 arg6 harg6 arg7 harg7 arg8 harg8 arg9 harg9 arg10 harg10 x0 x1 x2 x3 x4).1)

/-- The pieces that the run stores of output 6 cover its block. -/
theorem cover0_A_6 (c : Dev nD) (i : grid0.Coords) (arg4 : Memref sig .tc .vmem S1x8x256x256 .bf16) (harg4 : arg4.IsWhole) (arg5 : Memref sig .tc .vmem S1x8x128x128 .bf16) (harg5 : arg5.IsWhole) (arg6 : Memref sig .tc .vmem S1x8x256x128 .bf16) (harg6 : arg6.IsWhole) (arg7 : Memref sig .tc .vmem S1x8x128x128 .bf16) (harg7 : arg7.IsWhole) (arg8 : Memref sig .tc .vmem S1x512x256 .f32) (harg8 : arg8.IsWhole) (arg9 : Memref sig .tc .vmem S1x8x256x256 .f32) (harg9 : arg9.IsWhole) (arg10 : Memref sig .tc .vmem S1x8x256x256 .f32) (harg10 : arg10.IsWhole)
    (x0 : Vec F S1x8x256x256 .bf16) (x1 : Vec F S1x8x128x128 .bf16) (x2 : Vec F S1x8x256x128 .bf16) (x3 : Vec F S1x8x128x128 .bf16) (x4 : Vec F S1x512x256 .f32) (y : S1x8x256x256.Idx) :
    ∃ pc ∈ (kernelRun0_A c i arg4 harg4 arg5 harg5 arg6 harg6 arg7 harg7 arg8 harg8 arg9 harg9 arg10 harg10 x0 x1 x2 x3 x4).2.1, y ∈ pc.1.set :=
  View.cover_of_tiledL (kernelRun0_A c i arg4 harg4 arg5 harg5 arg6 harg6 arg7 harg7 arg8 harg8 arg9 harg9 arg10 harg10 x0 x1 x2 x3 x4).2.1 (![1, 1, 128, 256] : Fin 4 → ℕ) (by sl_kernel_rfl) y

/-- What the run leaves in output 6's staging buffer: its pieces read back over junk. -/
def out0_A_6 (c : Dev nD) (i : grid0.Coords) (arg4 : Memref sig .tc .vmem S1x8x256x256 .bf16) (harg4 : arg4.IsWhole) (arg5 : Memref sig .tc .vmem S1x8x128x128 .bf16) (harg5 : arg5.IsWhole) (arg6 : Memref sig .tc .vmem S1x8x256x128 .bf16) (harg6 : arg6.IsWhole) (arg7 : Memref sig .tc .vmem S1x8x128x128 .bf16) (harg7 : arg7.IsWhole) (arg8 : Memref sig .tc .vmem S1x512x256 .f32) (harg8 : arg8.IsWhole) (arg9 : Memref sig .tc .vmem S1x8x256x256 .f32) (harg9 : arg9.IsWhole) (arg10 : Memref sig .tc .vmem S1x8x256x256 .f32) (harg10 : arg10.IsWhole)
    (x0 : Vec F S1x8x256x256 .bf16) (x1 : Vec F S1x8x128x128 .bf16) (x2 : Vec F S1x8x256x128 .bf16) (x3 : Vec F S1x8x128x128 .bf16) (x4 : Vec F S1x512x256 .f32) : Vec F S1x8x256x256 .f32 :=
  VO0_6.read (Elt F) (VO0_6.writes (Elt F) VO0_6.junk (kernelRun0_A c i arg4 harg4 arg5 harg5 arg6 harg6 arg7 harg7 arg8 harg8 arg9 harg9 arg10 harg10 x0 x1 x2 x3 x4).2.1)

/-! ## What the outputs hold after each point -/

/-- What the outputs' staging buffers hold after the body at point `t` (as a tuple, in window order): the run's contents at
    the point's memrefs and input blocks. -/
def outsAt0 (c : Dev nD) (t : Fin cfg0.N) : Vec F S1x8x256x256 .f32 × Vec F S1x8x256x256 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the run ends, the arguments and the semaphores as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel7.Gen

end
-- ==== Proof.Dil2.Entries.lean ====
/- The entries of the results of mixer C's third group, as functions of the arguments. -/
module

public import proofs.«01_k».proof.Proof.Gen.Kernel7Ideal.Skeleton
public import proofs.«01_k».proof.Proof.Dil.Math

@[expose] public section

noncomputable section

namespace Cert.Dil2

open Idealize.ShloMosaic Cert.Kernel7Ideal
open Cert.Dil (soft lse)

/-- The place of a key among four blocks of 128: the class's two, one before them and one after. -/
def place (s : Fin 256) (k : Fin 256) : Fin 512 := ⟨64 + 128 * (s.val / 128) + k.val, by omega⟩

/-- The token that is staged at a place: the first and the last block are staged twice. -/
def tokenOf (p : Fin 512) : Fin 256 :=
  ⟨if p.val < 128 then p.val else if p.val < 384 then p.val - 128 else p.val - 256, by split_ifs <;> omega⟩

/-- The plain score: query token `s` of class `c` and lane `e` of the result against key `k` of the token's window. -/
def plain (A : Vec Ideal S8x16x256x768 .bf16) (B : Vec Ideal S2x512x256 .f32) (b : Fin 8) (c : Fin 16) (s : Fin 256) (e : Fin 512) (k : Fin 256) : EReal :=
  (∑ d : Fin 64, A (ix4 b c s (⟨64 * (e.val / 64) + d.val, by omega⟩ : Fin 768))
      * A (ix4 b c (tokenOf (place s k)) (⟨512 + 128 * (e.val / 256) + d.val, by omega⟩ : Fin 768)))
    + B (ix3 (⟨e.val / 256, by omega⟩ : Fin 2) (⟨128 * (e.val / 64 % 4) + s.val % 128, by omega⟩ : Fin 512) k)

/-- The masked score. -/
def score (A : Vec Ideal S8x16x256x768 .bf16) (B : Vec Ideal S2x512x256 .f32) (b : Fin 8) (c : Fin 16) (s : Fin 256) (e : Fin 512) (k : Fin 256) : EReal :=
  if (place s k).val < 128 ∨ 384 ≤ (place s k).val then ⊥ else plain A B b c s e k

/-- The value at key `k` of the window. -/
def valueAt (A : Vec Ideal S8x16x256x768 .bf16) (b : Fin 8) (c : Fin 16) (s : Fin 256) (e : Fin 512) (k : Fin 256) : EReal :=
  A (ix4 b c (tokenOf (place s k)) (⟨576 + 128 * (e.val / 256) + e.val % 64, by omega⟩ : Fin 768))

/-- The partial output. -/
def values (A : Vec Ideal S8x16x256x768 .bf16) (B : Vec Ideal S2x512x256 .f32) : Vec Ideal S8x16x256x512 .f32 :=
  fun i => soft (score A B (i 0) (i 1) (i 2) (i 3)) (valueAt A (i 0) (i 1) (i 2) (i 3))

/-- The logarithms of the softmax's denominators. -/
def levels (A : Vec Ideal S8x16x256x768 .bf16) (B : Vec Ideal S2x512x256 .f32) : Vec Ideal S8x16x256x512 .f32 :=
  fun i => lse (score A B (i 0) (i 1) (i 2) (i 3))

end Cert.Dil2

end
-- ==== Proof.Dil2.RefValue.lean ====
/- The results of the reference of mixer C's third group, entry by entry. -/
module

public import proofs.«01_k».proof.Proof.Gen.Reference7Ideal.Read
public import proofs.«01_k».proof.Proof.Attn.RefValue
public import proofs.«01_k».proof.Proof.Dil.Math
public import proofs.«01_k».proof.Proof.Dil.Rows
public import proofs.«01_k».proof.Proof.Dil2.Entries
public import Idealize.ShloMosaic.Lib.Pointwise
public import Idealize.ShloMosaic.Lib.IdealHost

@[expose] public section

set_option maxRecDepth 16384

noncomputable section

namespace Cert.Dil2

open Idealize.ShloMosaic Cert.Reference7Ideal Cert.Reference7Ideal.Gen Cert.Reference7Ideal.Read
open Cert.Band (log_two_pos scale_score score_ne_top)
open Cert.Dil (refLse soft_eq lse_eq)
open Cert.Dil.Rows (scores outs lvls scores_apply outs_apply lvls_apply)

/-! ## The windows of 256 keys -/

/-- The reference's padded classes, their blocks of 128 and the windows of two blocks. -/
def padded (y : FVec Ideal S128x256x2x64 .f32) : FVec Ideal S128x384x2x64 .f32 :=
  concatenate S128x384x2x64 1 [⟨S128x64x2x64, (val_main_v9 (F := Ideal))⟩, ⟨S128x256x2x64, y⟩, ⟨S128x64x2x64, (val_main_v9 (F := Ideal))⟩]
    concatenates_S128x64x2x64_S128x256x2x64_S128x64x2x64_S128x384x2x64_d1

def blocks (y : FVec Ideal S128x256x2x64 .f32) : FVec Ideal S128x3x128x2x64 .f32 :=
  shapeCast _ (padded y) shapeCasts_S128x384x2x64_S128x3x128x2x64

def joined (u : FVec Ideal S128x3x128x2x64 .f32) : FVec Ideal S128x2x256x2x64 .f32 :=
  concatenate S128x2x256x2x64 2
    [⟨S128x2x128x2x64, extractStridedSlice S128x2x128x2x64 ![0, 0, 0, 0, 0] u slices_S128x3x128x2x64_S128x2x128x2x64_0_0_0_0_0⟩,
      ⟨S128x2x128x2x64, extractStridedSlice S128x2x128x2x64 ![0, 1, 0, 0, 0] u slices_S128x3x128x2x64_S128x2x128x2x64_0_1_0_0_0⟩]
    concatenates_S128x2x128x2x64_S128x2x128x2x64_S128x2x256x2x64_d2

def windows (y : FVec Ideal S128x256x2x64 .f32) : FVec Ideal S256x256x2x64 .f32 :=
  shapeCast _ (joined (blocks y)) shapeCasts_S128x2x256x2x64_S256x256x2x64

theorem keys_windows (A : Vec Ideal S8x16x256x768 .bf16) : val_main_v17 (F := Ideal) A = windows (val_main_v11 (F := Ideal) A) := rfl

theorem values_windows (A : Vec Ideal S8x16x256x768 .bf16) : val_main_v25 (F := Ideal) A = windows (val_main_v19 (F := Ideal) A) := rfl

set_option maxHeartbeats 1000000 in
theorem padded_apply (y : FVec Ideal S128x256x2x64 .f32) (q : Fin 128) (p : Fin 384) (h : Fin 2) (d : Fin 64) (h1 : ¬p.val < 64) (h2 : p.val < 320) :
    padded y (ix4 q p h d) = y (ix4 q (⟨p.val - 64, by omega⟩ : Fin 256) h d) := by
  unfold padded
  generalize val_main_v9 (F := Ideal) = z
  pointwise
  simp only [dif_neg h1, dif_pos (show p.val - 64 < 256 by omega)]

theorem blocks_apply (y : FVec Ideal S128x256x2x64 .f32) (q : Fin 128) (x : Fin 3) (r : Fin 128) (h : Fin 2) (d : Fin 64) :
    blocks y (ix5 q x r h d) = padded y (ix4 q (⟨128 * x.val + r.val, by omega⟩ : Fin 384) h d) := by
  unfold blocks
  generalize padded y = u
  pointwise
  exact congrArg (fun x => u (ix4 q x h d)) (Fin.ext (by show x.val * 128 + r.val = 128 * x.val + r.val; omega))

set_option maxHeartbeats 1000000 in
theorem joined_apply (u : FVec Ideal S128x3x128x2x64 .f32) (q : Fin 128) (w : Fin 2) (k : Fin 256) (h : Fin 2) (d : Fin 64) :
    joined u (ix5 q w k h d) = u (ix5 q (⟨w.val + k.val / 128, by omega⟩ : Fin 3) (⟨k.val % 128, by omega⟩ : Fin 128) h d) := by
  unfold joined
  pointwise
  by_cases h1 : k.val < 128
  · simp only [dif_pos h1]
    exact congrArg₂ (fun x y => u (ix5 q x y h d)) (Fin.ext (by show w.val = w.val + k.val / 128; omega))
      (Fin.ext (by show k.val = k.val % 128; omega))
  · simp only [dif_neg h1]
    exact congrArg₂ (fun x y => u (ix5 q x y h d)) (Fin.ext (by show 1 + w.val = w.val + k.val / 128; omega))
      (Fin.ext (by show k.val - 128 = k.val % 128; omega))

theorem windows_apply (y : FVec Ideal S128x256x2x64 .f32) (n : Fin 256) (k : Fin 256) (h : Fin 2) (d : Fin 64) :
    windows y (ix4 n k h d) = joined (blocks y) (ix5 (⟨n.val / 2, by omega⟩ : Fin 128) (⟨n.val % 2, by omega⟩ : Fin 2) k h d) := by
  unfold windows
  generalize joined (blocks y) = u
  pointwise

/-- The reference's number of a class, and its row that holds a token's block. -/
def classRow (b : Fin 8) (c : Fin 16) : Fin 128 := ⟨16 * b.val + c.val, by omega⟩

def rowAt (b : Fin 8) (c : Fin 16) (s : Fin 256) : Fin 256 := ⟨2 * (16 * b.val + c.val) + s.val / 128, by omega⟩

/-- A window's key inside the class is the token at its place. -/
theorem windows_at (y : FVec Ideal S128x256x2x64 .f32) (b : Fin 8) (c : Fin 16) (s : Fin 256) (k : Fin 256) (h : Fin 2) (d : Fin 64)
    (hp : ¬((place s k).val < 128 ∨ 384 ≤ (place s k).val)) :
    windows y (ix4 (rowAt b c s) k h d) = y (ix4 (classRow b c) (tokenOf (place s k)) h d) := by
  have hp' : ¬(64 + 128 * (s.val / 128) + k.val < 128 ∨ 384 ≤ 64 + 128 * (s.val / 128) + k.val) := hp
  rw [windows_apply, joined_apply, blocks_apply, padded_apply]
  · refine congrArg₂ (fun x z => y (ix4 x z h d)) (Fin.ext ?_) (Fin.ext ?_)
    · show (2 * (16 * b.val + c.val) + s.val / 128) / 2 = 16 * b.val + c.val
      omega
    · show 128 * ((2 * (16 * b.val + c.val) + s.val / 128) % 2 + k.val / 128) + k.val % 128 - 64
        = if 64 + 128 * (s.val / 128) + k.val < 128 then 64 + 128 * (s.val / 128) + k.val
          else if 64 + 128 * (s.val / 128) + k.val < 384 then 64 + 128 * (s.val / 128) + k.val - 128
            else 64 + 128 * (s.val / 128) + k.val - 256
      split_ifs <;> omega
  · show ¬128 * ((2 * (16 * b.val + c.val) + s.val / 128) % 2 + k.val / 128) + k.val % 128 < 64
    omega
  · show 128 * ((2 * (16 * b.val + c.val) + s.val / 128) % 2 + k.val / 128) + k.val % 128 < 320
    omega

/-! ## Queries, keys and values -/

variable (A : Vec Ideal S8x16x256x768 .bf16)

theorem tokens_apply (b : Fin 8) (c : Fin 16) (s : Fin 256) (x : Fin 768) :
    val_main_v2 (F := Ideal) A (ix3 (classRow b c) s x) = A (ix4 b c s x) := by
  rw [val_main_v2_apply]
  show A _ = A _
  refine congrArg A (funext fun a => Fin.ext ?_)
  match a with
  | ⟨0, _⟩ => show (((16 * b.val + c.val) * 256 + s.val) * 768 + x.val) / 3145728 = b.val; omega
  | ⟨1, _⟩ => show (((16 * b.val + c.val) * 256 + s.val) * 768 + x.val) / 196608 % 16 = c.val; omega
  | ⟨2, _⟩ => show (((16 * b.val + c.val) * 256 + s.val) * 768 + x.val) / 768 % 256 = s.val; omega
  | ⟨3, _⟩ => show (((16 * b.val + c.val) * 256 + s.val) * 768 + x.val) % 768 = x.val; omega

/-- Keys and values alternate in the key heads' columns. -/
theorem pairs_apply (b : Fin 8) (c : Fin 16) (s : Fin 256) (h : Fin 2) (x : Fin 2) (d : Fin 64) :
    val_main_v8 (F := Ideal) A (ix5 (classRow b c) s h x d) = A (ix4 b c s (⟨512 + 128 * h.val + 64 * x.val + d.val, by omega⟩ : Fin 768)) := by
  rw [val_main_v8_apply, val_main_v7_apply]
  refine Eq.trans (congrArg (val_main_v2 (F := Ideal) A) (funext fun a => Fin.ext ?_)) (tokens_apply A b c s _)
  match a with
  | ⟨0, _⟩ => show (((((16 * b.val + c.val) * 256 + s.val) * 2 + h.val) * 2 + x.val) * 64 + d.val) / 65536 = 16 * b.val + c.val; omega
  | ⟨1, _⟩ => show (((((16 * b.val + c.val) * 256 + s.val) * 2 + h.val) * 2 + x.val) * 64 + d.val) / 256 % 256 = s.val; omega
  | ⟨2, _⟩ =>
    show 512 + (((((16 * b.val + c.val) * 256 + s.val) * 2 + h.val) * 2 + x.val) * 64 + d.val) % 256 = 512 + 128 * h.val + 64 * x.val + d.val
    omega

theorem ref_key (b : Fin 8) (c : Fin 16) (s : Fin 256) (k : Fin 256) (h : Fin 2) (d : Fin 64)
    (hp : ¬((place s k).val < 128 ∨ 384 ≤ (place s k).val)) :
    val_main_v17 (F := Ideal) A (ix4 (rowAt b c s) k h d)
      = A (ix4 b c (tokenOf (place s k)) (⟨512 + 128 * h.val + d.val, by omega⟩ : Fin 768)) := by
  rw [keys_windows, windows_at _ b c s k h d hp, val_main_v11_apply, val_main_v10_apply]
  generalize tokenOf (place s k) = t
  have hi : idx_main_v10 (idx_main_v11 (ix4 (classRow b c) t h d)) = ix5 (classRow b c) t h (0 : Fin 2) d := by
    generalize classRow b c = q
    funext a
    apply Fin.ext
    match a with
    | ⟨0, _⟩ => show (((q.val * 256 + t.val) * 2 + h.val) * 64 + d.val) / 32768 = q.val; omega
    | ⟨1, _⟩ => show (((q.val * 256 + t.val) * 2 + h.val) * 64 + d.val) / 128 % 256 = t.val; omega
    | ⟨2, _⟩ => show (((q.val * 256 + t.val) * 2 + h.val) * 64 + d.val) / 64 % 2 = h.val; omega
    | ⟨3, _⟩ => rfl
    | ⟨4, _⟩ => show (((q.val * 256 + t.val) * 2 + h.val) * 64 + d.val) % 64 = d.val; omega
  rw [hi, pairs_apply]
  rfl

theorem ref_value (b : Fin 8) (c : Fin 16) (s : Fin 256) (e : Fin 512) (k : Fin 256)
    (hp : ¬((place s k).val < 128 ∨ 384 ≤ (place s k).val)) :
    val_main_v25 (F := Ideal) A (ix4 (rowAt b c s) k (⟨e.val / 256, by omega⟩ : Fin 2) (⟨e.val % 64, by omega⟩ : Fin 64)) = valueAt A b c s e k := by
  rw [values_windows, windows_at _ b c s k _ _ hp, val_main_v19_apply, val_main_v18_apply]
  unfold valueAt
  generalize tokenOf (place s k) = t
  have hi (h : Fin 2) (d : Fin 64) : idx_main_v18 (idx_main_v19 (ix4 (classRow b c) t h d)) = ix5 (classRow b c) t h (1 : Fin 2) d := by
    generalize classRow b c = q
    funext a
    apply Fin.ext
    match a with
    | ⟨0, _⟩ => show (((q.val * 256 + t.val) * 2 + h.val) * 64 + d.val) / 32768 = q.val; omega
    | ⟨1, _⟩ => show (((q.val * 256 + t.val) * 2 + h.val) * 64 + d.val) / 128 % 256 = t.val; omega
    | ⟨2, _⟩ => show (((q.val * 256 + t.val) * 2 + h.val) * 64 + d.val) / 64 % 2 = h.val; omega
    | ⟨3, _⟩ => rfl
    | ⟨4, _⟩ => show (((q.val * 256 + t.val) * 2 + h.val) * 64 + d.val) % 64 = d.val; omega
  rw [hi, pairs_apply]
  refine congrArg (fun x => A (ix4 b c t x)) (Fin.ext ?_)
  show 512 + 128 * (e.val / 256) + 64 * 1 + e.val % 64 = 576 + 128 * (e.val / 256) + e.val % 64
  omega

theorem ref_query (b : Fin 8) (c : Fin 16) (s : Fin 256) (h : Fin 2) (r : Fin 4) (d : Fin 64) :
    val_main_v6 (F := Ideal) A (ix5 (rowAt b c s) (⟨s.val % 128, by omega⟩ : Fin 128) h r d)
      = A (ix4 b c s (⟨256 * h.val + 64 * r.val + d.val, by omega⟩ : Fin 768)) * ((Real.log 2 : ℝ) : EReal) := by
  rw [val_main_v6_apply, val_main_v4_apply, val_main_v3_apply, val_main_v5_apply, val_main_v0_apply, val_main_cst_apply,
    Attn.log_two]
  refine congrArg (fun x : EReal => x * ((Real.log 2 : ℝ) : EReal))
    (Eq.trans (congrArg (val_main_v2 (F := Ideal) A) (funext fun a => Fin.ext ?_)) (tokens_apply A b c s _))
  match a with
  | ⟨0, _⟩ =>
    show (((((2 * (16 * b.val + c.val) + s.val / 128) * 128 + s.val % 128) * 2 + h.val) * 4 + r.val) * 64 + d.val) / 131072 = 16 * b.val + c.val
    omega
  | ⟨1, _⟩ =>
    show (((((2 * (16 * b.val + c.val) + s.val / 128) * 128 + s.val % 128) * 2 + h.val) * 4 + r.val) * 64 + d.val) / 512 % 256 = s.val
    omega
  | ⟨2, _⟩ =>
    show (((((2 * (16 * b.val + c.val) + s.val / 128) * 128 + s.val % 128) * 2 + h.val) * 4 + r.val) * 64 + d.val) % 512 = 256 * h.val + 64 * r.val + d.val
    omega

/-! ## The mask -/

theorem mask_table : ∀ (w : Fin 2) (k : Fin 256),
    IntOp.andi (IntOp.cmpi .sge (IntOp.addi (IntOp.muli 128#32 (BitVec.ofNat 32 w.val)) (BitVec.ofNat 32 k.val)) 64#32)
      (IntOp.cmpi .slt (IntOp.addi (IntOp.muli 128#32 (BitVec.ofNat 32 w.val)) (BitVec.ofNat 32 k.val)) 320#32)
      = if 128 * w.val + k.val < 64 ∨ 320 ≤ 128 * w.val + k.val then 0#1 else 1#1 := by decide +kernel

theorem mask_apply (n : Fin 256) (k : Fin 256) :
    val_main_v41 (F := Ideal) (ix2 n k)
      = if 128 * (n.val % 2) + k.val < 64 ∨ 320 ≤ 128 * (n.val % 2) + k.val then 0#1 else 1#1 := by
  rw [val_main_v41_apply, val_main_v40_apply]
  have hi : idx_main_v40 (idx_main_v41 (ix2 n k)) = ix2 (⟨n.val % 2, by omega⟩ : Fin 2) k := by
    funext a
    apply Fin.ext
    match a with
    | ⟨0, _⟩ => show (n.val * 256 + k.val) / 256 % 2 = n.val % 2; omega
    | ⟨1, _⟩ => show (n.val * 256 + k.val) % 256 = k.val; omega
  rw [hi]
  exact mask_table ⟨n.val % 2, by omega⟩ k

/-! ## The scores -/

variable (B : Vec Ideal S2x512x256 .f32)

/-- The reference's masked scores. -/
def refScores : FVec Ideal S256x2x4x128x256 .f32 :=
  scores (val_main_v6 (F := Ideal) A) (val_main_v17 (F := Ideal) A) (val_main_v41 (F := Ideal)) B

theorem outs_eq : val_main_v65 (F := Ideal) A B = outs (val_main_v25 (F := Ideal) A) (refScores A B) := rfl

theorem lvls_eq : val_main_v71 (F := Ideal) A B = lvls (refScores A B) := rfl

/-- The row's scores in the reference. -/
def refRow (b : Fin 8) (c : Fin 16) (s : Fin 256) (e : Fin 512) (k : Fin 256) : EReal :=
  refScores A B (ix5 (rowAt b c s) (⟨e.val / 256, by omega⟩ : Fin 2) (⟨e.val / 64 % 4, by omega⟩ : Fin 4) (⟨s.val % 128, by omega⟩ : Fin 128) k)

/-- The scores are not positive infinity, and the reference's are the kernel's times the logarithm of two. -/
theorem ref_score (hq : ∀ b c s (x : Fin 512), ∃ r : ℝ, A (ix4 b c s (⟨x.val, by omega⟩ : Fin 768)) = (r : EReal))
    (hk : ∀ b c s (h : Fin 2) (d : Fin 64), ∃ r : ℝ, A (ix4 b c s (⟨512 + 128 * h.val + d.val, by omega⟩ : Fin 768)) = (r : EReal))
    (hB : ∀ i, B i ≠ ⊤) (b : Fin 8) (c : Fin 16) (s : Fin 256) (e : Fin 512) (k : Fin 256) :
    score A B b c s e k ≠ ⊤ ∧ refRow A B b c s e k = score A B b c s e k * ((Real.log 2 : ℝ) : EReal) := by
  have hv : (128 * ((rowAt b c s).val % 2) + k.val < 64 ∨ 320 ≤ 128 * ((rowAt b c s).val % 2) + k.val)
      ↔ ((place s k).val < 128 ∨ 384 ≤ (place s k).val) := by
    show (128 * ((2 * (16 * b.val + c.val) + s.val / 128) % 2) + k.val < 64 ∨ 320 ≤ 128 * ((2 * (16 * b.val + c.val) + s.val / 128) % 2) + k.val)
      ↔ (64 + 128 * (s.val / 128) + k.val < 128 ∨ 384 ≤ 64 + 128 * (s.val / 128) + k.val)
    omega
  have hr := scores_apply (val_main_v6 (F := Ideal) A) (val_main_v17 (F := Ideal) A) (val_main_v41 (F := Ideal)) B (rowAt b c s)
    (⟨e.val / 256, by omega⟩ : Fin 2) (⟨e.val / 64 % 4, by omega⟩ : Fin 4) (⟨s.val % 128, by omega⟩ : Fin 128) k
  have hm := (mask_apply (rowAt b c s) k).trans (if_congr hv rfl rfl)
  unfold score
  by_cases hp : (place s k).val < 128 ∨ 384 ≤ (place s k).val
  · rw [if_pos hp, EReal.bot_mul_coe_of_pos log_two_pos]
    rw [if_pos hp] at hm
    exact ⟨bot_ne_top, hr.trans (if_neg (by rw [show _ = _ from hm]; decide))⟩
  · rw [if_neg hp]
    rw [if_neg hp] at hm
    have hr' := hr.trans (if_pos hm)
    choose q hq' using fun d : Fin 64 => hq b c s (⟨64 * (e.val / 64) + d.val, by omega⟩ : Fin 512)
    choose y hy using fun d : Fin 64 => hk b c (tokenOf (place s k)) (⟨e.val / 256, by omega⟩ : Fin 2) d
    have hs : plain A B b c s e k = ∑ d, (q d : EReal) * (y d : EReal)
        + B (ix3 (⟨e.val / 256, by omega⟩ : Fin 2) (⟨128 * (e.val / 64 % 4) + s.val % 128, by omega⟩ : Fin 512) k) := by
      unfold plain
      exact congrArg (· + _) (Finset.sum_congr rfl fun d _ => congrArg₂ (· * ·) (hq' d) (hy d))
    refine ⟨by rw [hs]; exact score_ne_top q y _ (hB _), hr'.trans ?_⟩
    rw [hs, ← scale_score q y _ (hB _)]
    refine congrArg (· + _) (Finset.sum_congr rfl fun d _ => congrArg₂ (· * ·) ((ref_key A b c s k _ d hp).trans (hy d)) ?_)
    refine (ref_query A b c s _ _ d).trans (congrArg (· * _) (Eq.trans (congrArg (fun x => A (ix4 b c s x)) (Fin.ext ?_)) (hq' d)))
    show 256 * (e.val / 256) + 64 * (e.val / 64 % 4) + d.val = 64 * (e.val / 64) + d.val
    omega

/-! ## The results -/

/-- The place of a lane of a result among the reference's blocks and heads. -/
theorem lane_at (b : Fin 8) (c : Fin 16) (s : Fin 256) (e : Fin 512) :
    idx_main_v66 (ix4 b c s e) = ix5 (rowAt b c s) (⟨s.val % 128, by omega⟩ : Fin 128) (⟨e.val / 256, by omega⟩ : Fin 2)
      (⟨e.val / 64 % 4, by omega⟩ : Fin 4) (⟨e.val % 64, by omega⟩ : Fin 64) := by
  funext a
  apply Fin.ext
  match a with
  | ⟨0, _⟩ => show (((b.val * 16 + c.val) * 256 + s.val) * 512 + e.val) / 65536 = 2 * (16 * b.val + c.val) + s.val / 128; omega
  | ⟨1, _⟩ => show (((b.val * 16 + c.val) * 256 + s.val) * 512 + e.val) / 512 % 128 = s.val % 128; omega
  | ⟨2, _⟩ => show (((b.val * 16 + c.val) * 256 + s.val) * 512 + e.val) / 256 % 2 = e.val / 256; omega
  | ⟨3, _⟩ => show (((b.val * 16 + c.val) * 256 + s.val) * 512 + e.val) / 64 % 4 = e.val / 64 % 4; omega
  | ⟨4, _⟩ => show (((b.val * 16 + c.val) * 256 + s.val) * 512 + e.val) % 64 = e.val % 64; omega

theorem ref_output (b : Fin 8) (c : Fin 16) (s : Fin 256) (e : Fin 512) :
    val_main_v66 (F := Ideal) A B (ix4 b c s e)
      = ∑ k, val_main_v25 (F := Ideal) A (ix4 (rowAt b c s) k (⟨e.val / 256, by omega⟩ : Fin 2) (⟨e.val % 64, by omega⟩ : Fin 64))
          * Ideal.exp (refRow A B b c s e k - refLse (refRow A B b c s e)) := by
  rw [val_main_v66_apply, lane_at, outs_eq]
  exact outs_apply (val_main_v25 (F := Ideal) A) (rowAt b c s) _ _ _ (refScores A B) _

theorem ref_level (b : Fin 8) (c : Fin 16) (s : Fin 256) (e : Fin 512) :
    val_main_v72 (F := Ideal) A B (ix4 b c s e) = Ideal.div (refLse (refRow A B b c s e)) ((Real.log 2 : ℝ) : EReal) := by
  have h5 : idx_main_v72 (ix4 b c s e) = _ := lane_at b c s e
  rw [val_main_v72_apply, h5, lvls_eq]
  exact lvls_apply (rowAt b c s) _ _ _ (refScores A B) _

/-- A query's own key is at its window's key `64 + s % 128`. -/
theorem own_score (hq : ∀ b c s (x : Fin 512), ∃ r : ℝ, A (ix4 b c s (⟨x.val, by omega⟩ : Fin 768)) = (r : EReal))
    (hk : ∀ b c s (h : Fin 2) (d : Fin 64), ∃ r : ℝ, A (ix4 b c s (⟨512 + 128 * h.val + d.val, by omega⟩ : Fin 768)) = (r : EReal))
    (hB : ∀ i, ∃ r : ℝ, B i = (r : EReal)) (b : Fin 8) (c : Fin 16) (s : Fin 256) (e : Fin 512) :
    ∃ r : ℝ, score A B b c s e (⟨64 + s.val % 128, by omega⟩ : Fin 256) = (r : EReal) := by
  generalize hk0 : (⟨64 + s.val % 128, by omega⟩ : Fin 256) = k
  have hv : k.val = 64 + s.val % 128 := (congrArg Fin.val hk0).symm
  have hp : ¬((place s k).val < 128 ∨ 384 ≤ (place s k).val) := by
    show ¬(64 + 128 * (s.val / 128) + k.val < 128 ∨ 384 ≤ 64 + 128 * (s.val / 128) + k.val)
    omega
  obtain ⟨r, hr⟩ := hB (ix3 (⟨e.val / 256, by omega⟩ : Fin 2) (⟨128 * (e.val / 64 % 4) + s.val % 128, by omega⟩ : Fin 512) k)
  choose q hq' using fun d : Fin 64 => hq b c s (⟨64 * (e.val / 64) + d.val, by omega⟩ : Fin 512)
  choose y hy using fun d : Fin 64 => hk b c (tokenOf (place s k)) (⟨e.val / 256, by omega⟩ : Fin 2) d
  refine ⟨(∑ d, q d * y d) + r, ?_⟩
  unfold score
  rw [if_neg hp, EReal.coe_add, Attn.coe_sum]
  simp only [EReal.coe_mul]
  unfold plain
  exact congrArg₂ (· + ·) (Finset.sum_congr rfl fun d _ => congrArg₂ (· * ·) (hq' d) (hy d)) hr

/-- With finite queries, keys and biases, the reference's results are the kernel's. -/
theorem reference_eq (hq : ∀ b c s (x : Fin 512), ∃ r : ℝ, A (ix4 b c s (⟨x.val, by omega⟩ : Fin 768)) = (r : EReal))
    (hk : ∀ b c s (h : Fin 2) (d : Fin 64), ∃ r : ℝ, A (ix4 b c s (⟨512 + 128 * h.val + d.val, by omega⟩ : Fin 768)) = (r : EReal))
    (hB : ∀ i, ∃ r : ℝ, B i = (r : EReal)) :
    val_main_v66 (F := Ideal) A B = values A B ∧ val_main_v72 (F := Ideal) A B = levels A B := by
  have hB' : ∀ i, B i ≠ ⊤ := fun i => by
    obtain ⟨r, h⟩ := hB i
    rw [h]
    exact EReal.coe_ne_top r
  have hrow (b c s e) : refRow A B b c s e = fun k => score A B b c s e k * ((Real.log 2 : ℝ) : EReal) :=
    funext fun k => (ref_score A B hq hk hB' b c s e k).2
  have hW (b c s e) : ∀ k, score A B b c s e k = ⊥ ∨ valueAt A b c s e k
      = val_main_v25 (F := Ideal) A (ix4 (rowAt b c s) k (⟨e.val / 256, by omega⟩ : Fin 2) (⟨e.val % 64, by omega⟩ : Fin 64)) := fun k => by
    by_cases hp : (place s k).val < 128 ∨ 384 ≤ (place s k).val
    · exact Or.inl (if_pos hp)
    · exact Or.inr (ref_value A b c s e k hp).symm
  have hi (i : S8x16x256x512.Idx) : ∃ (b : Fin 8) (c : Fin 16) (s : Fin 256) (e : Fin 512), i = ix4 b c s e :=
    ⟨i 0, i 1, i 2, i 3, by funext a; match a with | ⟨0, _⟩ => rfl | ⟨1, _⟩ => rfl | ⟨2, _⟩ => rfl | ⟨3, _⟩ => rfl⟩
  constructor
  · funext i
    obtain ⟨b, c, s, e, rfl⟩ := hi i
    obtain ⟨r, hr⟩ := own_score A B hq hk hB b c s e
    rw [ref_output, hrow]
    exact (soft_eq (score A B b c s e) (fun k => (ref_score A B hq hk hB' b c s e k).1) _ r hr _ _ (hW b c s e)).symm
  · funext i
    obtain ⟨b, c, s, e, rfl⟩ := hi i
    obtain ⟨r, hr⟩ := own_score A B hq hk hB b c s e
    rw [ref_level, hrow]
    exact (lse_eq (score A B b c s e) (fun k => (ref_score A B hq hk hB' b c s e k).1) _ r hr).symm

end Cert.Dil2

end
-- ==== Proof.Dil2.FrameIdeal.lean ====
/- The frame of the ideal program of mixer C's third group, with the extents of its stores written out, and the arrays after the run. -/
module

public import proofs.«01_k».proof.Proof.Gen.Kernel7Ideal.Frame.RunA
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The pieces that the run stores of output 5 cover its block. -/
theorem cover0_A_5 (c : Dev nD) (i : grid0.Coords) (arg4 : Memref sig .tc .vmem S1x8x256x256 .bf16) (harg4 : arg4.IsWhole) (arg5 : Memref sig .tc .vmem S1x8x128x128 .bf16) (harg5 : arg5.IsWhole) (arg6 : Memref sig .tc .vmem S1x8x256x128 .bf16) (harg6 : arg6.IsWhole) (arg7 : Memref sig .tc .vmem S1x8x128x128 .bf16) (harg7 : arg7.IsWhole) (arg8 : Memref sig .tc .vmem S1x512x256 .f32) (harg8 : arg8.IsWhole) (arg9 : Memref sig .tc .vmem S1x8x256x256 .f32) (harg9 : arg9.IsWhole) (arg10 : Memref sig .tc .vmem S1x8x256x256 .f32) (harg10 : arg10.IsWhole)
    (x0 : Vec F S1x8x256x256 .bf16) (x1 : Vec F S1x8x128x128 .bf16) (x2 : Vec F S1x8x256x128 .bf16) (x3 : Vec F S1x8x128x128 .bf16) (x4 : Vec F S1x512x256 .f32) (y : S1x8x256x256.Idx) :
    ∃ pc ∈ (kernelRun0_A c i arg4 harg4 arg5 harg5 arg6 harg6 arg7 harg7 arg8 harg8 arg9 harg9 arg10 harg10 x0 x1 x2 x3 x4).1, y ∈ pc.1.set :=
  View.cover_of_tiledL (kernelRun0_A c i arg4 harg4 arg5 harg5 arg6 harg6 arg7 harg7 arg8 harg8 arg9 harg9 arg10 harg10 x0 x1 x2 x3 x4).1 (![1, 1, 128, 256] : Fin 4 → ℕ) (by sl_kernel_rfl) y

/-- What the run leaves in output 5's staging buffer: its pieces read back over junk. -/
def out0_A_5 (c : Dev nD) (i : grid0.Coords) (arg4 : Memref sig .tc .vmem S1x8x256x256 .bf16) (harg4 : arg4.IsWhole) (arg5 : Memref sig .tc .vmem S1x8x128x128 .bf16) (harg5 : arg5.IsWhole) (arg6 : Memref sig .tc .vmem S1x8x256x128 .bf16) (harg6 : arg6.IsWhole) (arg7 : Memref sig .tc .vmem S1x8x128x128 .bf16) (harg7 : arg7.IsWhole) (arg8 : Memref sig .tc .vmem S1x512x256 .f32) (harg8 : arg8.IsWhole) (arg9 : Memref sig .tc .vmem S1x8x256x256 .f32) (harg9 : arg9.IsWhole) (arg10 : Memref sig .tc .vmem S1x8x256x256 .f32) (harg10 : arg10.IsWhole)
    (x0 : Vec F S1x8x256x256 .bf16) (x1 : Vec F S1x8x128x128 .bf16) (x2 : Vec F S1x8x256x128 .bf16) (x3 : Vec F S1x8x128x128 .bf16) (x4 : Vec F S1x512x256 .f32) : Vec F S1x8x256x256 .f32 :=
  VO0_5.read (Elt F) (VO0_5.writes (Elt F) VO0_5.junk (kernelRun0_A c i arg4 harg4 arg5 harg5 arg6 harg6 arg7 harg7 arg8 harg8 arg9 harg9 arg10 harg10 x0 x1 x2 x3 x4).1)

/-- The pieces that the run stores of output 6 cover its block. -/
theorem cover0_A_6 (c : Dev nD) (i : grid0.Coords) (arg4 : Memref sig .tc .vmem S1x8x256x256 .bf16) (harg4 : arg4.IsWhole) (arg5 : Memref sig .tc .vmem S1x8x128x128 .bf16) (harg5 : arg5.IsWhole) (arg6 : Memref sig .tc .vmem S1x8x256x128 .bf16) (harg6 : arg6.IsWhole) (arg7 : Memref sig .tc .vmem S1x8x128x128 .bf16) (harg7 : arg7.IsWhole) (arg8 : Memref sig .tc .vmem S1x512x256 .f32) (harg8 : arg8.IsWhole) (arg9 : Memref sig .tc .vmem S1x8x256x256 .f32) (harg9 : arg9.IsWhole) (arg10 : Memref sig .tc .vmem S1x8x256x256 .f32) (harg10 : arg10.IsWhole)
    (x0 : Vec F S1x8x256x256 .bf16) (x1 : Vec F S1x8x128x128 .bf16) (x2 : Vec F S1x8x256x128 .bf16) (x3 : Vec F S1x8x128x128 .bf16) (x4 : Vec F S1x512x256 .f32) (y : S1x8x256x256.Idx) :
    ∃ pc ∈ (kernelRun0_A c i arg4 harg4 arg5 harg5 arg6 harg6 arg7 harg7 arg8 harg8 arg9 harg9 arg10 harg10 x0 x1 x2 x3 x4).2.1, y ∈ pc.1.set :=
  View.cover_of_tiledL (kernelRun0_A c i arg4 harg4 arg5 harg5 arg6 harg6 arg7 harg7 arg8 harg8 arg9 harg9 arg10 harg10 x0 x1 x2 x3 x4).2.1 (![1, 1, 128, 256] : Fin 4 → ℕ) (by sl_kernel_rfl) y

/-- What the run leaves in output 6's staging buffer: its pieces read back over junk. -/
def out0_A_6 (c : Dev nD) (i : grid0.Coords) (arg4 : Memref sig .tc .vmem S1x8x256x256 .bf16) (harg4 : arg4.IsWhole) (arg5 : Memref sig .tc .vmem S1x8x128x128 .bf16) (harg5 : arg5.IsWhole) (arg6 : Memref sig .tc .vmem S1x8x256x128 .bf16) (harg6 : arg6.IsWhole) (arg7 : Memref sig .tc .vmem S1x8x128x128 .bf16) (harg7 : arg7.IsWhole) (arg8 : Memref sig .tc .vmem S1x512x256 .f32) (harg8 : arg8.IsWhole) (arg9 : Memref sig .tc .vmem S1x8x256x256 .f32) (harg9 : arg9.IsWhole) (arg10 : Memref sig .tc .vmem S1x8x256x256 .f32) (harg10 : arg10.IsWhole)
    (x0 : Vec F S1x8x256x256 .bf16) (x1 : Vec F S1x8x128x128 .bf16) (x2 : Vec F S1x8x256x128 .bf16) (x3 : Vec F S1x8x128x128 .bf16) (x4 : Vec F S1x512x256 .f32) : Vec F S1x8x256x256 .f32 :=
  VO0_6.read (Elt F) (VO0_6.writes (Elt F) VO0_6.junk (kernelRun0_A c i arg4 harg4 arg5 harg5 arg6 harg6 arg7 harg7 arg8 harg8 arg9 harg9 arg10 harg10 x0 x1 x2 x3 x4).2.1)

/-! ## What the outputs hold after each point -/

/-- What the outputs' staging buffers hold after the body at point `t` (as a tuple, in window order): the run's contents at
    the point's memrefs and input blocks. -/
def outsAt0 (c : Dev nD) (t : Fin cfg0.N) : Vec F S1x8x256x256 .f32 × Vec F S1x8x256x256 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold outsAt0
  unfold out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the run ends, the arguments and the semaphores as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-! ## The arrays after the run -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t).1) := by
  show (cfg0.win 5).cut (grid0.coords t) ((dats m 0 c).after 5 t) = _
  rw [after0_5]

/-- … which is the run's contents at the point's memrefs and blocks. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)) := by
  simp only [flushed5, outsAt0]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t).2) := by
  show (cfg0.win 6).cut (grid0.coords t) ((dats m 0 c).after 6 t) = _
  rw [after0_6]

/-- … which is the run's contents at the point's memrefs and blocks. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)) := by
  simp only [flushed6, outsAt0]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post5 m r h c,
      post6 m r h c,
      kept_main_arg0 m r h c,
      kept_main_arg1 m r h c⟩)
    (run_main m ρ)

end Cert.Kernel7Ideal.Gen

end
-- ==== Proof.Dil2.Step.lean ====
/- A class's tokens in mixer C's third group. The blocks are the second group's. -/
module

public import proofs.«01_k».proof.Proof.Gen.Kernel7Ideal.Skeleton
public import proofs.«01_k».proof.Proof.Dil1.Step

@[expose] public section

set_option maxRecDepth 16384

noncomputable section

namespace Cert.Dil2

open Idealize.ShloMosaic Cert.Kernel7Ideal Cert.Kernel7Ideal.Gen

/-- A block's window of keys and values, from row `o` of the class's staged tokens. -/
def win (o : ℕ) (kv : FVec Ideal S512x128 .bf16) (h : S512x128.Slices ![o, 0] S256x128) : FVec Ideal S256x128 .bf16 :=
  extractStridedSlice S256x128 ![o, 0] kv h

theorem win_apply (o : ℕ) (ho : o + 256 ≤ 512) (kv : FVec Ideal S512x128 .bf16) (h : S512x128.Slices ![o, 0] S256x128)
    (k : Fin 256) (d : Fin 128) : win o kv h (ix2 k d) = kv (ix2 ⟨o + k.val, by omega⟩ d) := by
  unfold win
  refine congrArg kv (funext fun a => Fin.ext ?_)
  match a with
  | ⟨0, _⟩ => rfl
  | ⟨1, _⟩ => exact Nat.zero_add _

/-- A class's staged tokens: the block before it, its own and the block after. -/
theorem staged_apply (v0 : Vec Ideal S1x1x128x128 .bf16) (v2 : Vec Ideal S1x1x256x128 .bf16) (v4 : Vec Ideal S1x1x128x128 .bf16)
    (j : Fin 512) (d : Fin 128) :
    k0_pay1 v0 v2 v4 (ix2 j d) = if h : j.val < 128 then v0 (ix4 0 0 ⟨j.val, h⟩ d)
      else if h' : j.val < 384 then v2 (ix4 0 0 ⟨j.val - 128, by omega⟩ d) else v4 (ix4 0 0 ⟨j.val - 384, by omega⟩ d) := by
  unfold_payloads
  pointwise
  by_cases h : j.val < 128
  · simp only [dif_pos h]
  · by_cases h' : j.val < 384
    · simp only [dif_neg h, dif_pos h', dif_pos (show j.val - 128 < 256 by omega)]
    · simp only [dif_neg h, dif_neg h', dif_neg (show ¬j.val - 128 < 256 by omega)]
      rfl

theorem bias_apply (v : Vec Ideal S1x512x256 .f32) (i : Fin 512) (k : Fin 256) : k0_pay2 v (ix2 i k) = v (ix3 0 i k) :=
  Cert.Dil.pay3_apply v i k

end Cert.Dil2

end
-- ==== Proof.Dil2.Block.lean ====
/- What one grid point of mixer C's third group stores: two blocks of 128 tokens of each of eight classes, the values and the
   logarithms alike. -/
module

public import proofs.«01_k».proof.Proof.Dil2.FrameIdeal
public import proofs.«01_k».proof.Proof.Dil2.Step
public import Idealize.ShloMosaic.Lib.Pipeline.ValueKit.Tiles

@[expose] public section

set_option maxRecDepth 16384

noncomputable section

namespace Cert.Dil2

open Idealize.ShloMosaic Idealize.ShloMosaic.TcCoe Idealize.SL.Sem Cert.Kernel7Ideal Cert.Kernel7Ideal.Gen
open Cert.Band (stackRow)
open Cert.Dil (soft lse)
open Cert.Dil1 (raw raw_apply maskLow maskHigh maskLow_apply maskHigh_apply finishO finishO_apply finishS finishS_apply)

/-- The keys of a window that lie outside the class's tokens, in block `t` of two. -/
def Outside (t k : ℕ) : Prop := (t = 0 ∧ k < 64) ∨ (t = 1 ∧ 192 ≤ k)

instance (t k : ℕ) : Decidable (Outside t k) := by unfold Outside; infer_instance

/-- A masked score: token `j` of class `c`, lane `e` of the result, key `k` of the window. -/
def blockScore (x0 : Vec Ideal S1x8x256x256 .bf16) (kv : FVec Ideal S512x128 .bf16) (b : FVec Ideal S512x256 .f32)
    (c : Fin 8) (j : Fin 256) (e : Fin 256) (k : Fin 256) : EReal :=
  if Outside (j.val / 128) k.val then ⊥
  else (∑ d : Fin 64, x0 (ix4 0 c j ⟨64 * (e.val / 64) + d.val, by omega⟩) * kv (ix2 ⟨64 + 128 * (j.val / 128) + k.val, by omega⟩ ⟨d.val, by omega⟩))
    + b (ix2 (stackRow ⟨j.val % 128, by omega⟩ e) k)

/-- The value of key `k` of the window. -/
def blockValue (kv : FVec Ideal S512x128 .bf16) (j : Fin 256) (e : Fin 256) (k : Fin 256) : EReal :=
  kv (ix2 ⟨64 + 128 * (j.val / 128) + k.val, by omega⟩ ⟨64 + e.val % 64, by omega⟩)

/-- `F` stores of a block what `G` says of each row's scores and values. -/
def Stores (F : FVec Ideal S512x256 .f32 → FVec Ideal S256x128 .bf16 → FVec Ideal S128x256 .f32)
    (G : (Fin 256 → EReal) → (Fin 256 → EReal) → EReal) : Prop :=
  ∀ (s : FVec Ideal S512x256 .f32) (w : FVec Ideal S256x128 .bf16) (r : Fin 128) (e : Fin 256),
    F s w (ix2 r e) = G (fun k => s (ix2 (stackRow r e) k)) (fun k => w (ix2 k ⟨64 + e.val % 64, by omega⟩))

/-! ## Rows of a class -/

theorem count : S128x256.numel = (⟨4, ![1, 1, 128, 256]⟩ : Shape).numel := by decide

theorem flat_apply (P : FVec Ideal S128x256 .f32) (h : S128x256.ShapeCasts ⟨4, ![1, 1, 128, 256]⟩) (r : Fin 128) (e : Fin 256) :
    shapeCast ⟨4, ![1, 1, 128, 256]⟩ P h (ix4 (0 : Fin 1) (0 : Fin 1) r e) = P (ix2 r e) := by
  pointwise

theorem deep_apply (P : FVec Ideal ⟨4, ![1, 1, 128, 256]⟩ .bf16) (h : Shape.ShapeCasts ⟨4, ![1, 1, 128, 256]⟩ S128x256) (r : Fin 128) (e : Fin 256) :
    shapeCast S128x256 P h (ix2 r e) = P (ix4 (0 : Fin 1) (0 : Fin 1) r e) := by
  pointwise

variable (cls o : ℕ) (inb₁ : ∀ a : Fin S1x8x256x256.rank, (![0, cls, 0, 0] : Fin 4 → ℕ) a + S1x1x256x256.size a ≤ S1x8x256x256.size a)
  (inb₂ : ∀ a : Fin S256x256.rank, (![o, 0] : Fin 2 → ℕ) a + S128x256.size a ≤ S256x256.size a)

/-- The rows of a block, among a class's. -/
abbrev rows : Rect S1x1x256x256 :=
  (((Rect.unit (s := S256x256) ![o, 0] S128x256.size inb₂).consLift ![1, 256, 256] (by decide) (by decide)).consLift
    ![1, 1, 256, 256] (by decide) (by decide))

/-- A store of a block's rows. -/
abbrev piece (P : FVec Ideal S128x256 .f32) : View.Piece (Elt Ideal) S1x8x256x256 .f32 :=
  ⟨(Rect.unit (s := S1x8x256x256) ![0, cls, 0, 0] S1x1x256x256.size inb₁).within (rows o inb₂) (fun _ => rfl),
    Rect.payAlong (r := Rect.unit (s := S256x256) ![o, 0] S128x256.size inb₂)
      (R := (Rect.unit (s := S1x8x256x256) ![0, cls, 0, 0] S1x1x256x256.size inb₁).within (rows o inb₂) (fun _ => rfl)) count.symm P⟩

/-- What a store of a block's rows leaves at an index. -/
theorem piece_at (P : FVec Ideal S128x256 .f32) (y : S1x8x256x256.Idx) (v : EReal)
    (h : ∀ (r : Fin 128) (e : Fin 256), (y 1).val = cls → (y 2).val = o + r.val → y 3 = e → P (ix2 r e) = v) :
    View.RectAt (Val := Elt Ideal) (e := .f32) y (piece cls o inb₁ inb₂ P).1 (piece cls o inb₁ inb₂ P).2 v := by
  intro x hx
  obtain ⟨r, e, rfl⟩ : ∃ (r : Fin 128) (e : Fin 256), x = (ix4 (0 : Fin 1) (0 : Fin 1) r e : (⟨4, ![1, 1, 128, 256]⟩ : Shape).Idx) :=
    ⟨x 2, x 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  have y1 : cls + 0 + 1 * 0 = (y 1).val := congrArg Fin.val (congrFun hx 1)
  have y2 : 0 + o + 1 * r.val = (y 2).val := congrArg Fin.val (congrFun hx 2)
  have y3 : 0 + 0 + 1 * e.val = (y 3).val := congrArg Fin.val (congrFun hx 3)
  exact (flat_apply P _ r e).trans (h r e (by omega) (by omega) (Fin.ext (by omega)))

/-- Stores of the same blocks are the same when their payloads are. -/
theorem piece_congr {P Q : FVec Ideal S128x256 .f32} {L M : List (View.Piece (Elt Ideal) S1x8x256x256 .f32)} (h : P = Q) (hL : L = M) :
    piece cls o inb₁ inb₂ P :: L = piece cls o inb₁ inb₂ Q :: M := by
  rw [h, hL]

theorem allAt_of_eq {L M : List (View.Piece (Elt Ideal) S1x8x256x256 .f32)} {y : S1x8x256x256.Idx} {v : EReal} (h : M = L)
    (hL : View.AllAt (Val := Elt Ideal) (e := .f32) L y v) : View.AllAt (Val := Elt Ideal) (e := .f32) M y v := h ▸ hL

variable (arg4 : Memref sig .tc .vmem S1x8x256x256 .bf16) (harg4 : arg4.IsWhole) (x0 : Vec Ideal S1x8x256x256 .bf16)

/-- The queries of a block. -/
abbrev query : FVec Ideal S128x256 .bf16 :=
  LoadRect.valAlong (lr := (Rect.unit (s := S256x256) ![o, 0] S128x256.size inb₂).toLoadRect)
    (LR := (Rect.unit (s := S1x8x256x256) ![0, cls, 0, 0] S1x1x256x256.size inb₁).withinL (rows o inb₂).toLoadRect (fun _ => rfl)) count
    (View.readAt (Elt Ideal) arg4.view ((Rect.unit (s := S1x8x256x256) ![0, cls, 0, 0] S1x1x256x256.size inb₁).withinL (rows o inb₂).toLoadRect (fun _ => rfl))
      (harg4.unread x0))

theorem query_apply (c : Fin 8) (hc : c.val = cls) (ho : o + 128 ≤ 256) (r : Fin 128) (e : Fin 256) :
    query cls o inb₁ inb₂ arg4 harg4 x0 (ix2 r e) = x0 (ix4 0 c (⟨o + r.val, by omega⟩ : Fin 256) e) := by
  refine (deep_apply (View.readAt (Elt Ideal) arg4.view ((Rect.unit (s := S1x8x256x256) ![0, cls, 0, 0] S1x1x256x256.size inb₁).withinL
    (rows o inb₂).toLoadRect (fun _ => rfl)) (harg4.unread x0)) count.symm r e).trans ?_
  refine (congrFun (harg4.read_unread (Val := Elt Ideal) x0) _).trans (congrArg x0 (funext fun a => Fin.ext ?_))
  match a with
  | ⟨0, _⟩ => rfl
  | ⟨1, _⟩ => show cls + 0 + 1 * 0 = c.val; omega
  | ⟨2, _⟩ => show 0 + o + 1 * r.val = o + r.val; omega
  | ⟨3, _⟩ => show 0 + 0 + 1 * e.val = e.val; omega

/-! ## The stores -/

variable (F : FVec Ideal S512x256 .f32 → FVec Ideal S256x128 .bf16 → FVec Ideal S128x256 .f32)
  (mask : FVec Ideal S512x256 .f32 → FVec Ideal S512x256 .f32) (kv : Fin 8 → FVec Ideal S512x128 .bf16) (b : FVec Ideal S512x256 .f32)

/-- One block's store, `F` being what it stores and `mask` its mask. -/
abbrev block (c : Fin 8) (o p : ℕ) (inb₁ : ∀ a : Fin S1x8x256x256.rank, (![0, c.val, 0, 0] : Fin 4 → ℕ) a + S1x1x256x256.size a ≤ S1x8x256x256.size a)
    (inb₂ : ∀ a : Fin S256x256.rank, (![o, 0] : Fin 2 → ℕ) a + S128x256.size a ≤ S256x256.size a) (h : S512x128.Slices ![p, 0] S256x128) :
    View.Piece (Elt Ideal) S1x8x256x256 .f32 :=
  piece c.val o inb₁ inb₂ (F (mask (raw (query c.val o inb₁ inb₂ arg4 harg4 x0) (win p (kv c) h) b)) (win p (kv c) h))

theorem block_at {G : (Fin 256 → EReal) → (Fin 256 → EReal) → EReal} (hF : Stores F G) (c : Fin 8) (t o p : ℕ) (ho : o = 128 * t) (ht : t < 2)
    (hp : p = 64 + o) (inb₁ : ∀ a : Fin S1x8x256x256.rank, (![0, c.val, 0, 0] : Fin 4 → ℕ) a + S1x1x256x256.size a ≤ S1x8x256x256.size a)
    (inb₂ : ∀ a : Fin S256x256.rank, (![o, 0] : Fin 2 → ℕ) a + S128x256.size a ≤ S256x256.size a) (h : S512x128.Slices ![p, 0] S256x128)
    (hm : ∀ (s : FVec Ideal S512x256 .f32) (i : Fin 512) (k : Fin 256), mask s (ix2 i k) = if Outside t k.val then ⊥ else s (ix2 i k))
    (y : S1x8x256x256.Idx) (L : List (View.Piece (Elt Ideal) S1x8x256x256 .f32))
    (hL : View.AllAt L y (G (blockScore x0 (kv (y 1)) b (y 1) (y 2) (y 3)) (blockValue (kv (y 1)) (y 2) (y 3)))) :
    View.AllAt (block arg4 harg4 x0 F mask kv b c o p inb₁ inb₂ h :: L) y
      (G (blockScore x0 (kv (y 1)) b (y 1) (y 2) (y 3)) (blockValue (kv (y 1)) (y 2) (y 3))) := by
  refine View.allAt_cons _ _ _ (piece_at _ _ _ _ _ y _ fun r e y1 y2 y3 => ?_) hL
  have z1 : y 1 = c := Fin.ext y1
  obtain ⟨j, hj⟩ : ∃ j : Fin 256, j = y 2 := ⟨_, rfl⟩
  have y2' : j.val = o + r.val := (congrArg Fin.val hj).trans y2
  rw [z1, y3, ← hj]
  have ht' : j.val / 128 = t := by omega
  have hr : (⟨j.val % 128, by omega⟩ : Fin 128) = r := Fin.ext (by show j.val % 128 = r.val; omega)
  have hw (k : Fin 256) (d : Fin 128) : win p (kv c) h (ix2 k d) = kv c (ix2 ⟨64 + 128 * (j.val / 128) + k.val, by omega⟩ d) :=
    (win_apply p (by omega) (kv c) h k d).trans
      (congrArg (fun q => kv c (ix2 q d)) (Fin.ext (by show p + k.val = 64 + 128 * (j.val / 128) + k.val; omega)))
  have hl (e : Fin 256) : query c.val o inb₁ inb₂ arg4 harg4 x0 (ix2 r e) = x0 (ix4 0 c j e) :=
    (query_apply c.val o inb₁ inb₂ arg4 harg4 x0 c rfl (by omega) r e).trans
      (congrArg (fun q => x0 (ix4 0 c q e)) (Fin.ext (by show o + r.val = j.val; omega)))
  refine (hF _ _ r e).trans (congrArg₂ G (funext fun k => ?_) (funext fun k => hw k _))
  rw [hm, raw_apply]
  unfold blockScore
  refine if_congr (by rw [ht']) rfl ?_
  rw [hr]
  refine congrArg (· + _) (Finset.sum_congr rfl fun d _ => ?_)
  rw [hl, hw]

theorem class_inb (m n : ℕ) (c : Fin 8) (a : Fin 4) :
    (![0, c.val, 0, 0] : Fin 4 → ℕ) a + (![1, 1, m, n] : Fin 4 → ℕ) a ≤ (![1, 8, m, n] : Fin 4 → ℕ) a :=
  match a with
  | ⟨0, _⟩ => (by omega : 0 + 1 ≤ 1)
  | ⟨1, _⟩ => (by omega : c.val + 1 ≤ 8)
  | ⟨2, _⟩ => (by omega : 0 + m ≤ m)
  | ⟨3, _⟩ => (by omega : 0 + n ≤ n)

/-- A class's two stores, before those of the classes after it. -/
abbrev classStores (n : BitVec 32) (c : Fin 8) (L : List (View.Piece (Elt Ideal) S1x8x256x256 .f32)) : List (View.Piece (Elt Ideal) S1x8x256x256 .f32) :=
  block arg4 harg4 x0 F (maskHigh n) kv b c 128 192 (class_inb 256 256 c) inb_S256x256_S128x256_128_0 slices_S512x128_o192_0_S256x128 ::
  block arg4 harg4 x0 F (maskLow n) kv b c 0 64 (class_inb 256 256 c) inb_S256x256_S128x256_0_0 slices_S512x128_o64_0_S256x128 ::
  L

theorem class_at {G : (Fin 256 → EReal) → (Fin 256 → EReal) → EReal} (hF : Stores F G) (n : BitVec 32) (hn : n = BitVec.ofNat 32 0) (c : Fin 8)
    (y : S1x8x256x256.Idx) (L : List (View.Piece (Elt Ideal) S1x8x256x256 .f32))
    (hL : View.AllAt L y (G (blockScore x0 (kv (y 1)) b (y 1) (y 2) (y 3)) (blockValue (kv (y 1)) (y 2) (y 3)))) :
    View.AllAt (classStores arg4 harg4 x0 F kv b n c L) y
      (G (blockScore x0 (kv (y 1)) b (y 1) (y 2) (y 3)) (blockValue (kv (y 1)) (y 2) (y 3))) := by
  subst hn
  refine block_at arg4 harg4 x0 F _ kv b hF c 1 128 192 rfl (by decide) rfl _ _ _ (fun s p k =>
    (maskHigh_apply s p k).trans (if_congr (by unfold Outside; omega) rfl rfl)) y _ ?_
  exact block_at arg4 harg4 x0 F _ kv b hF c 0 0 64 rfl (by decide) rfl _ _ _ (fun s p k =>
    (maskLow_apply s p k).trans (if_congr (by unfold Outside; omega) rfl rfl)) y _ hL

/-- The stores of some of the classes. -/
abbrev stores (n : BitVec 32) (cs : List (Fin 8)) : List (View.Piece (Elt Ideal) S1x8x256x256 .f32) :=
  cs.foldr (fun c L => classStores arg4 harg4 x0 F kv b n c L) []

theorem stores_at {G : (Fin 256 → EReal) → (Fin 256 → EReal) → EReal} (hF : Stores F G) (n : BitVec 32) (hn : n = BitVec.ofNat 32 0)
    (y : S1x8x256x256.Idx) (cs : List (Fin 8)) :
    View.AllAt (stores arg4 harg4 x0 F kv b n cs) y
      (G (blockScore x0 (kv (y 1)) b (y 1) (y 2) (y 3)) (blockValue (kv (y 1)) (y 2) (y 3))) := by
  induction cs with
  | nil => exact View.allAt_nil _ _
  | cons c cs ih => exact class_at arg4 harg4 x0 F kv b hF n hn c y _ ih

/-! ## The results of a point -/

/-- A class of a block. -/
def classOf {m : ℕ} (x : Vec Ideal ⟨4, ![1, 8, m, 128]⟩ .bf16) (c : Fin 8) : Vec Ideal ⟨4, ![1, 1, m, 128]⟩ .bf16 :=
  fun i => x (ix4 0 c (i 2) (i 3))

theorem class_load {m : ℕ} (arg : Memref sig .tc .vmem ⟨4, ![1, 8, m, 128]⟩ .bf16) (harg : arg.IsWhole) (x : Vec Ideal ⟨4, ![1, 8, m, 128]⟩ .bf16)
    (c : Fin 8) (inb : ∀ a : Fin 4, (![0, c.val, 0, 0] : Fin 4 → ℕ) a + (![1, 1, m, 128] : Fin 4 → ℕ) a ≤ (![1, 8, m, 128] : Fin 4 → ℕ) a) :
    View.readAt (Elt Ideal) arg.view (Rect.unit (s := ⟨4, ![1, 8, m, 128]⟩) ![0, c.val, 0, 0] ![1, 1, m, 128] inb).toLoadRect (harg.unread x)
      = classOf x c := by
  rw [View.readAt_eq_ld, harg.read_unread]
  refine funext fun i => congrArg x (funext fun a => Fin.ext ?_)
  match a with
  | ⟨0, _⟩ => show 0 + 1 * (i 0).val = 0; have h : (i 0).val < 1 := (i 0).isLt; omega
  | ⟨1, _⟩ => show c.val + 1 * (i 1).val = c.val; have h : (i 1).val < 1 := (i 1).isLt; omega
  | ⟨2, _⟩ => show 0 + 1 * (i 2).val = (i 2).val; omega
  | ⟨3, _⟩ => show 0 + 1 * (i 3).val = (i 3).val; omega

/-- A class's staged tokens. -/
def staged (x1 : Vec Ideal S1x8x128x128 .bf16) (x2 : Vec Ideal S1x8x256x128 .bf16) (x3 : Vec Ideal S1x8x128x128 .bf16) (c : Fin 8) :
    FVec Ideal S512x128 .bf16 :=
  k0_pay1 (classOf x1 c) (classOf x2 c) (classOf x3 c)

section Point
variable (c : Dev nD) (i : grid0.Coords) (arg5 : Memref sig .tc .vmem S1x8x128x128 .bf16) (harg5 : arg5.IsWhole) (arg6 : Memref sig .tc .vmem S1x8x256x128 .bf16) (harg6 : arg6.IsWhole) (arg7 : Memref sig .tc .vmem S1x8x128x128 .bf16) (harg7 : arg7.IsWhole) (arg8 : Memref sig .tc .vmem S1x512x256 .f32) (harg8 : arg8.IsWhole) (arg9 : Memref sig .tc .vmem S1x8x256x256 .f32) (harg9 : arg9.IsWhole) (arg10 : Memref sig .tc .vmem S1x8x256x256 .f32) (harg10 : arg10.IsWhole)
  (x1 : Vec Ideal S1x8x128x128 .bf16) (x2 : Vec Ideal S1x8x256x128 .bf16) (x3 : Vec Ideal S1x8x128x128 .bf16) (x4 : Vec Ideal S1x512x256 .f32)

/-- The staged tokens and the biases as the point's loads give them. -/
abbrev loaded (c : Fin 8) (inb₁ : ∀ a : Fin 4, (![0, c.val, 0, 0] : Fin 4 → ℕ) a + (![1, 1, 128, 128] : Fin 4 → ℕ) a ≤ (![1, 8, 128, 128] : Fin 4 → ℕ) a)
    (inb₂ : ∀ a : Fin 4, (![0, c.val, 0, 0] : Fin 4 → ℕ) a + (![1, 1, 256, 128] : Fin 4 → ℕ) a ≤ (![1, 8, 256, 128] : Fin 4 → ℕ) a) :
    FVec Ideal S512x128 .bf16 :=
  k0_pay1 (View.readAt (Elt Ideal) arg5.view (Rect.unit (s := S1x8x128x128) ![0, c.val, 0, 0] ![1, 1, 128, 128] inb₁).toLoadRect (harg5.unread x1))
    (View.readAt (Elt Ideal) arg6.view (Rect.unit (s := S1x8x256x128) ![0, c.val, 0, 0] ![1, 1, 256, 128] inb₂).toLoadRect (harg6.unread x2))
    (View.readAt (Elt Ideal) arg7.view (Rect.unit (s := S1x8x128x128) ![0, c.val, 0, 0] ![1, 1, 128, 128] inb₁).toLoadRect (harg7.unread x3))

theorem loaded_eq (c : Fin 8) (inb₁ : ∀ a : Fin 4, (![0, c.val, 0, 0] : Fin 4 → ℕ) a + (![1, 1, 128, 128] : Fin 4 → ℕ) a ≤ (![1, 8, 128, 128] : Fin 4 → ℕ) a)
    (inb₂ : ∀ a : Fin 4, (![0, c.val, 0, 0] : Fin 4 → ℕ) a + (![1, 1, 256, 128] : Fin 4 → ℕ) a ≤ (![1, 8, 256, 128] : Fin 4 → ℕ) a) :
    loaded arg5 harg5 arg6 harg6 arg7 harg7 x1 x2 x3 c inb₁ inb₂ = staged x1 x2 x3 c := by
  unfold staged
  rw [← class_load arg5 harg5 x1 c inb₁, ← class_load arg6 harg6 x2 c inb₂, ← class_load arg7 harg7 x3 c inb₁]

theorem loaded_all :
    (fun c => loaded arg5 harg5 arg6 harg6 arg7 harg7 x1 x2 x3 c (class_inb 128 128 c) (class_inb 256 128 c)) = staged x1 x2 x3 :=
  funext fun c => loaded_eq arg5 harg5 arg6 harg6 arg7 harg7 x1 x2 x3 c _ _

/-- The biases as the point loads them. -/
abbrev loadedBias : FVec Ideal S512x256 .f32 :=
  k0_pay2 (View.readAt (Elt Ideal) arg8.view (Rect.unit (s := S1x512x256) ![0, 0, 0] S1x512x256.size inb_S1x512x256_S1x512x256_0_0_0).toLoadRect (harg8.unread x4))

theorem hz3 : (![0, 0, 0] : Fin 3 → ℕ) = fun _ => 0 := by decide

theorem loadedBias_eq : loadedBias arg8 harg8 x4 = k0_pay2 x4 := by
  unfold loadedBias
  rw [View.readAt_eq_ld, harg8.read_unread, View.ld_unit_zero (S := S1x512x256) hz3 _ _]

theorem coord_zero : BitVec.ofNat 32 (i 3).val = BitVec.ofNat 32 0 := by
  have h : (i 3).val < 1 := (i 3).isLt
  rw [show (i 3).val = 0 by omega]

theorem values_eq :
    out0_A_5 c i arg4 harg4 arg5 harg5 arg6 harg6 arg7 harg7 arg8 harg8 arg9 harg9 arg10 harg10 x0 x1 x2 x3 x4
      = fun y => soft (blockScore x0 (staged x1 x2 x3 (y 1)) (k0_pay2 x4) (y 1) (y 2) (y 3)) (blockValue (staged x1 x2 x3 (y 1)) (y 2) (y 3)) := by
  have hcover := cover0_A_5 (F := Ideal) c i arg4 harg4 arg5 harg5 arg6 harg6 arg7 harg7 arg8 harg8 arg9 harg9 arg10 harg10 x0 x1 x2 x3 x4
  unfold out0_A_5
  rw [View.read_writes_eq_canon _ _ _ hcover]
  funext y
  refine View.canon_eq_of_allAt _ y _ (hcover y) ?_
  rw [← loaded_all arg5 harg5 arg6 harg6 arg7 harg7 x1 x2 x3, ← loadedBias_eq arg8 harg8 x4]
  unfold kernelRun0_A
  dsimp only
  refine allAt_of_eq ?_ (stores_at arg4 harg4 x0 finishO (fun c => loaded arg5 harg5 arg6 harg6 arg7 harg7 x1 x2 x3 c (class_inb 128 128 c) (class_inb 256 128 c))
    (loadedBias arg8 harg8 x4) (G := soft) finishO_apply _ (coord_zero i) y [7, 6, 5, 4, 3, 2, 1, 0])
  iterate 16 refine piece_congr _ _ _ _ rfl ?_
  rfl

theorem levels_eq :
    out0_A_6 c i arg4 harg4 arg5 harg5 arg6 harg6 arg7 harg7 arg8 harg8 arg9 harg9 arg10 harg10 x0 x1 x2 x3 x4
      = fun y => lse (blockScore x0 (staged x1 x2 x3 (y 1)) (k0_pay2 x4) (y 1) (y 2) (y 3)) := by
  have hcover := cover0_A_6 (F := Ideal) c i arg4 harg4 arg5 harg5 arg6 harg6 arg7 harg7 arg8 harg8 arg9 harg9 arg10 harg10 x0 x1 x2 x3 x4
  unfold out0_A_6
  rw [View.read_writes_eq_canon _ _ _ hcover]
  funext y
  refine View.canon_eq_of_allAt _ y _ (hcover y) ?_
  rw [← loaded_all arg5 harg5 arg6 harg6 arg7 harg7 x1 x2 x3, ← loadedBias_eq arg8 harg8 x4]
  unfold kernelRun0_A
  dsimp only
  refine allAt_of_eq ?_ (stores_at arg4 harg4 x0 finishS (fun c => loaded arg5 harg5 arg6 harg6 arg7 harg7 x1 x2 x3 c (class_inb 128 128 c) (class_inb 256 128 c))
    (loadedBias arg8 harg8 x4) (G := fun s _ => lse s) finishS_apply _ (coord_zero i) y [7, 6, 5, 4, 3, 2, 1, 0])
  iterate 16 refine piece_congr _ _ _ _ rfl ?_
  rfl

end Point

end Cert.Dil2

end
-- ==== Proof.Dil2.Value.lean ====
/- The result arrays of mixer C's third group, each as one function of the arguments. -/
module

public import proofs.«01_k».proof.Proof.Dil2.Block
public import proofs.«01_k».proof.Proof.Dil2.Entries
public import Idealize.ShloMosaic.Lib.Pointwise
public import Idealize.ShloMosaic.Lib.ValueIdx
public import Idealize.ShloMosaic.Lib.IdealHost
public import Idealize.ShloMosaic.Lib.StableHlo.Run
public import Idealize.ShloMosaic.Lib.Pipeline.ValueKit.Tiles

@[expose] public section

set_option maxRecDepth 16384

noncomputable section

namespace Cert.Dil2

open Idealize.ShloMosaic Idealize.ShloMosaic.TcCoe Idealize.SL.Sem Cert.Kernel7Ideal Cert.Kernel7Ideal.Gen
open Idealize.ShloMosaic.Pipeline (Dat)
open Cert.Band (stackRow)
open Cert.Dil (soft lse)

/-! ## The blocks -/

theorem index0 : ∀ t : Fin grid0.N, win0_0.index t = ![t.val / 4, t.val / 2 % 2, 0, t.val % 2] := by decide +kernel
theorem index1 : ∀ t : Fin grid0.N, win0_1.index t = ![t.val / 4, t.val / 2 % 2, 0, 4 + t.val % 2] := by decide +kernel
theorem index2 : ∀ t : Fin grid0.N, win0_2.index t = ![t.val / 4, t.val / 2 % 2, 0, 4 + t.val % 2] := by decide +kernel
theorem index3 : ∀ t : Fin grid0.N, win0_3.index t = ![t.val / 4, t.val / 2 % 2, 1, 4 + t.val % 2] := by decide +kernel
theorem index4 : ∀ t : Fin grid0.N, win0_4.index t = ![t.val % 2, 0, 0] := by decide +kernel
theorem index5 : ∀ t : Fin grid0.N, win0_5.index t = ![t.val / 4, t.val / 2 % 2, 0, t.val % 2] := by decide +kernel
theorem index6 : ∀ t : Fin grid0.N, win0_6.index t = ![t.val / 4, t.val / 2 % 2, 0, t.val % 2] := by decide +kernel

theorem lt_points (t : Fin cfg0.N) : t.val < 32 := lt_of_lt_of_eq t.isLt N_0

variable (m : (ℓ : Loc nD τ sig) → Buf (Elt Ideal) ℓ) (c : Dev nD)

/-- The arguments, at entry. -/
abbrev mainArr : Vec Ideal S8x16x256x768 .bf16 := m ((c.tc : Thread nD τ).loc main_arg0)
abbrev biasArr : Vec Ideal S2x512x256 .f32 := m ((c.tc : Thread nD τ).loc main_arg1)

/-- The blocks that point `t` reads. -/
abbrev blk0 (t : Fin cfg0.N) : Vec Ideal S1x8x256x256 .bf16 := iblk m c 0 t
abbrev blk1 (t : Fin cfg0.N) : Vec Ideal S1x8x128x128 .bf16 := iblk m c 1 t
abbrev blk2 (t : Fin cfg0.N) : Vec Ideal S1x8x256x128 .bf16 := iblk m c 2 t
abbrev blk3 (t : Fin cfg0.N) : Vec Ideal S1x8x128x128 .bf16 := iblk m c 3 t
abbrev blk4 (t : Fin cfg0.N) : Vec Ideal S1x512x256 .f32 := iblk m c 4 t

/-- The batch and the key head of a point, and the class and the lane that are class `g`, lane `e` at the point. -/
def batchAt (t : Fin cfg0.N) : Fin 8 := ⟨t.val / 4, by have := lt_points t; omega⟩
def headAt (t : Fin cfg0.N) : Fin 2 := ⟨t.val % 2, by omega⟩
def classAt (t : Fin cfg0.N) (g : Fin 8) : Fin 16 := ⟨8 * (t.val / 2 % 2) + g.val, by omega⟩
def laneAt (t : Fin cfg0.N) (e : Fin 256) : Fin 512 := ⟨256 * (t.val % 2) + e.val, by omega⟩

theorem block0 (t : Fin cfg0.N) (g : Fin 8) (j : Fin 256) (e : Fin 256) :
    blk0 m c t (ix4 0 g j e) = mainArr m c (ix4 (batchAt t) (classAt t g) j (⟨256 * (t.val % 2) + e.val, by omega⟩ : Fin 768)) := by
  have h := index0 t
  unfold blk0 iblk
  rw [View.read_apply]
  show V m c main_arg0 _ = _
  rw [V_main_arg0]
  refine congrArg (mainArr m c) (funext fun a => Fin.ext ?_)
  match a with
  | ⟨0, _⟩ => show win0_0.index t 0 * 1 + 1 * 0 = t.val / 4; rw [h]; show t.val / 4 * 1 + 1 * 0 = _; omega
  | ⟨1, _⟩ =>
    show win0_0.index t 1 * 8 + 1 * g.val = 8 * (t.val / 2 % 2) + g.val
    rw [h]; show t.val / 2 % 2 * 8 + 1 * g.val = _; omega
  | ⟨2, _⟩ => show win0_0.index t 2 * 256 + 1 * j.val = j.val; rw [h]; show 0 * 256 + 1 * j.val = _; omega
  | ⟨3, _⟩ =>
    show win0_0.index t 3 * 256 + 1 * e.val = 256 * (t.val % 2) + e.val
    rw [h]; show t.val % 2 * 256 + 1 * e.val = _; omega

theorem block1 (t : Fin cfg0.N) (g : Fin 8) (j : Fin 128) (e : Fin 128) :
    blk1 m c t (ix4 0 g j e) = mainArr m c (ix4 (batchAt t) (classAt t g) (⟨j.val, by omega⟩ : Fin 256) (⟨512 + 128 * (t.val % 2) + e.val, by omega⟩ : Fin 768)) := by
  have h := index1 t
  unfold blk1 iblk
  rw [View.read_apply]
  show V m c main_arg0 _ = _
  rw [V_main_arg0]
  refine congrArg (mainArr m c) (funext fun a => Fin.ext ?_)
  match a with
  | ⟨0, _⟩ => show win0_1.index t 0 * 1 + 1 * 0 = t.val / 4; rw [h]; show t.val / 4 * 1 + 1 * 0 = _; omega
  | ⟨1, _⟩ =>
    show win0_1.index t 1 * 8 + 1 * g.val = 8 * (t.val / 2 % 2) + g.val
    rw [h]; show t.val / 2 % 2 * 8 + 1 * g.val = _; omega
  | ⟨2, _⟩ => show win0_1.index t 2 * 128 + 1 * j.val = j.val; rw [h]; show 0 * 128 + 1 * j.val = _; omega
  | ⟨3, _⟩ =>
    show win0_1.index t 3 * 128 + 1 * e.val = 512 + 128 * (t.val % 2) + e.val
    rw [h]; show (4 + t.val % 2) * 128 + 1 * e.val = _; omega

theorem block2 (t : Fin cfg0.N) (g : Fin 8) (j : Fin 256) (e : Fin 128) :
    blk2 m c t (ix4 0 g j e) = mainArr m c (ix4 (batchAt t) (classAt t g) j (⟨512 + 128 * (t.val % 2) + e.val, by omega⟩ : Fin 768)) := by
  have h := index2 t
  unfold blk2 iblk
  rw [View.read_apply]
  show V m c main_arg0 _ = _
  rw [V_main_arg0]
  refine congrArg (mainArr m c) (funext fun a => Fin.ext ?_)
  match a with
  | ⟨0, _⟩ => show win0_2.index t 0 * 1 + 1 * 0 = t.val / 4; rw [h]; show t.val / 4 * 1 + 1 * 0 = _; omega
  | ⟨1, _⟩ =>
    show win0_2.index t 1 * 8 + 1 * g.val = 8 * (t.val / 2 % 2) + g.val
    rw [h]; show t.val / 2 % 2 * 8 + 1 * g.val = _; omega
  | ⟨2, _⟩ => show win0_2.index t 2 * 256 + 1 * j.val = j.val; rw [h]; show 0 * 256 + 1 * j.val = _; omega
  | ⟨3, _⟩ =>
    show win0_2.index t 3 * 128 + 1 * e.val = 512 + 128 * (t.val % 2) + e.val
    rw [h]; show (4 + t.val % 2) * 128 + 1 * e.val = _; omega

theorem block3 (t : Fin cfg0.N) (g : Fin 8) (j : Fin 128) (e : Fin 128) :
    blk3 m c t (ix4 0 g j e) = mainArr m c (ix4 (batchAt t) (classAt t g) (⟨128 + j.val, by omega⟩ : Fin 256) (⟨512 + 128 * (t.val % 2) + e.val, by omega⟩ : Fin 768)) := by
  have h := index3 t
  unfold blk3 iblk
  rw [View.read_apply]
  show V m c main_arg0 _ = _
  rw [V_main_arg0]
  refine congrArg (mainArr m c) (funext fun a => Fin.ext ?_)
  match a with
  | ⟨0, _⟩ => show win0_3.index t 0 * 1 + 1 * 0 = t.val / 4; rw [h]; show t.val / 4 * 1 + 1 * 0 = _; omega
  | ⟨1, _⟩ =>
    show win0_3.index t 1 * 8 + 1 * g.val = 8 * (t.val / 2 % 2) + g.val
    rw [h]; show t.val / 2 % 2 * 8 + 1 * g.val = _; omega
  | ⟨2, _⟩ => show win0_3.index t 2 * 128 + 1 * j.val = 128 + j.val; rw [h]; show 1 * 128 + 1 * j.val = _; omega
  | ⟨3, _⟩ =>
    show win0_3.index t 3 * 128 + 1 * e.val = 512 + 128 * (t.val % 2) + e.val
    rw [h]; show (4 + t.val % 2) * 128 + 1 * e.val = _; omega

theorem block4 (t : Fin cfg0.N) (i : Fin 512) (k : Fin 256) : blk4 m c t (ix3 0 i k) = biasArr m c (ix3 (headAt t) i k) := by
  have h := index4 t
  unfold blk4 iblk
  rw [View.read_apply]
  show V m c main_arg1 _ = _
  rw [V_main_arg1]
  refine congrArg (biasArr m c) (funext fun a => Fin.ext ?_)
  match a with
  | ⟨0, _⟩ => show win0_4.index t 0 * 1 + 1 * 0 = t.val % 2; rw [h]; show t.val % 2 * 1 + 1 * 0 = _; omega
  | ⟨1, _⟩ => show win0_4.index t 1 * 512 + 1 * i.val = i.val; rw [h]; show 0 * 512 + 1 * i.val = _; omega
  | ⟨2, _⟩ => show win0_4.index t 2 * 256 + 1 * k.val = k.val; rw [h]; show 0 * 256 + 1 * k.val = _; omega

/-- A class's 512 rows of keys and values are its tokens at the places of its blocks. -/
theorem keys_eq (t : Fin cfg0.N) (g : Fin 8) (l : Fin 512) (e : Fin 128) :
    staged (blk1 m c t) (blk2 m c t) (blk3 m c t) g (ix2 l e)
      = mainArr m c (ix4 (batchAt t) (classAt t g) (tokenOf l) (⟨512 + 128 * (t.val % 2) + e.val, by omega⟩ : Fin 768)) := by
  refine (staged_apply _ _ _ l e).trans ?_
  by_cases h : l.val < 128
  · simp only [dif_pos h]
    refine (block1 m c t g ⟨l.val, h⟩ e).trans (congrArg (fun x => mainArr m c (ix4 _ _ x _)) (Fin.ext ?_))
    show l.val = if l.val < 128 then l.val else if l.val < 384 then l.val - 128 else l.val - 256
    split_ifs <;> omega
  · simp only [dif_neg h]
    by_cases h' : l.val < 384
    · simp only [dif_pos h']
      refine (block2 m c t g ⟨l.val - 128, by omega⟩ e).trans (congrArg (fun x => mainArr m c (ix4 _ _ x _)) (Fin.ext ?_))
      show l.val - 128 = if l.val < 128 then l.val else if l.val < 384 then l.val - 128 else l.val - 256
      split_ifs <;> omega
    · simp only [dif_neg h']
      refine (block3 m c t g ⟨l.val - 384, by omega⟩ e).trans (congrArg (fun x => mainArr m c (ix4 _ _ x _)) (Fin.ext ?_))
      show 128 + (l.val - 384) = if l.val < 128 then l.val else if l.val < 384 then l.val - 128 else l.val - 256
      split_ifs <;> omega

/-! ## The results -/

/-- A point's masked scores are the result's at its place. -/
theorem score_eq (t : Fin cfg0.N) (g : Fin 8) (j : Fin 256) (e : Fin 256) :
    blockScore (blk0 m c t) (staged (blk1 m c t) (blk2 m c t) (blk3 m c t) g) (k0_pay2 (blk4 m c t)) g j e
      = score (mainArr m c) (biasArr m c) (batchAt t) (classAt t g) j (laneAt t e) := by
  funext k
  unfold blockScore score
  have hO : Outside (j.val / 128) k.val ↔ (place j k).val < 128 ∨ 384 ≤ (place j k).val := by
    unfold Outside place
    dsimp only
    omega
  rw [if_congr hO rfl rfl]
  congr 1
  unfold plain
  refine congrArg₂ (· + ·) (Finset.sum_congr rfl fun d _ => ?_) ?_
  · rw [block0, keys_eq]
    refine congrArg₂ (· * ·) (congrArg (fun x => mainArr m c (ix4 _ _ _ x)) (Fin.ext ?_)) ?_
    · show 256 * (t.val % 2) + (64 * (e.val / 64) + d.val) = 64 * ((256 * (t.val % 2) + e.val) / 64) + d.val
      omega
    · refine congrArg (fun y => mainArr m c (ix4 _ _ (tokenOf (place j k)) y)) (Fin.ext ?_)
      show 512 + 128 * (t.val % 2) + d.val = 512 + 128 * ((256 * (t.val % 2) + e.val) / 256) + d.val
      omega
  · rw [bias_apply, block4]
    refine congrArg₂ (fun x y => biasArr m c (ix3 x y k)) (Fin.ext ?_) (Fin.ext ?_)
    · show t.val % 2 = (256 * (t.val % 2) + e.val) / 256
      omega
    · show 128 * (e.val / 64) + j.val % 128 = 128 * ((256 * (t.val % 2) + e.val) / 64 % 4) + j.val % 128
      omega

/-- A point's values are the result's at its place. -/
theorem value_eq (t : Fin cfg0.N) (g : Fin 8) (j : Fin 256) (e : Fin 256) :
    blockValue (staged (blk1 m c t) (blk2 m c t) (blk3 m c t) g) j e = valueAt (mainArr m c) (batchAt t) (classAt t g) j (laneAt t e) := by
  funext k
  unfold blockValue valueAt
  rw [keys_eq]
  refine congrArg (fun y => mainArr m c (ix4 _ _ (tokenOf (place j k)) y)) (Fin.ext ?_)
  show 512 + 128 * (t.val % 2) + (64 + e.val % 64)
    = 576 + 128 * ((256 * (t.val % 2) + e.val) / 256) + (256 * (t.val % 2) + e.val) % 64
  omega

/-- The point whose block holds an index. -/
def pointOf (i : S8x16x256x512.Idx) : Fin cfg0.N :=
  ⟨4 * (i 0).val + 2 * ((i 1).val / 8) + (i 3).val / 256, by
    have h0 : (i 0).val < 8 := (i 0).isLt
    have h1 : (i 1).val < 16 := (i 1).isLt
    have h3 : (i 3).val < 512 := (i 3).isLt
    rw [show cfg0.N = 32 from N_0]; omega⟩

/-- An index lies in its point's block. -/
theorem holds (i : S8x16x256x512.Idx) (u : Fin 4 → ℕ)
    (h : u = ![(pointOf i).val / 4, (pointOf i).val / 2 % 2, 0, (pointOf i).val % 2]) (a : Fin 4) :
    u a * S1x8x256x256.size a ≤ (i a).val ∧ (i a).val < u a * S1x8x256x256.size a + S1x8x256x256.size a := by
  have h0 : (i 0).val < 8 := (i 0).isLt
  have h1 : (i 1).val < 16 := (i 1).isLt
  have h2 : (i 2).val < 256 := (i 2).isLt
  have h3 : (i 3).val < 512 := (i 3).isLt
  have e : (pointOf i).val = 4 * (i 0).val + 2 * ((i 1).val / 8) + (i 3).val / 256 := rfl
  subst h
  match a with
  | ⟨0, _⟩ =>
    show (pointOf i).val / 4 * 1 ≤ (i 0).val ∧ (i 0).val < (pointOf i).val / 4 * 1 + 1
    omega
  | ⟨1, _⟩ =>
    show (pointOf i).val / 2 % 2 * 8 ≤ (i 1).val ∧ (i 1).val < (pointOf i).val / 2 % 2 * 8 + 8
    omega
  | ⟨2, _⟩ =>
    show 0 * 256 ≤ (i 2).val ∧ (i 2).val < 0 * 256 + 256
    omega
  | ⟨3, _⟩ =>
    show (pointOf i).val % 2 * 256 ≤ (i 3).val ∧ (i 3).val < (pointOf i).val % 2 * 256 + 256
    omega

/-- The place in the results of a point's index, in either of its windows of results. -/
theorem lands (t : Fin cfg0.N) (g : Fin 8) (j : Fin 256) (e : Fin 256) (u : Fin 4 → ℕ)
    (h : u = ![t.val / 4, t.val / 2 % 2, 0, t.val % 2]) (a : Fin 4) :
    ((ix4 (batchAt t) (classAt t g) j (laneAt t e) : S8x16x256x512.Idx) a).val
      = u a * S1x8x256x256.size a + 1 * ((ix4 0 g j e : S1x8x256x256.Idx) a).val := by
  subst h
  match a with
  | ⟨0, _⟩ => show t.val / 4 = t.val / 4 * 1 + 1 * 0; omega
  | ⟨1, _⟩ => show 8 * (t.val / 2 % 2) + g.val = t.val / 2 % 2 * 8 + 1 * g.val; omega
  | ⟨2, _⟩ => show j.val = 0 * 256 + 1 * j.val; omega
  | ⟨3, _⟩ => show 256 * (t.val % 2) + e.val = t.val % 2 * 256 + 1 * e.val; omega

theorem index_four (y : S1x8x256x256.Idx) : ∃ (g : Fin 8) (j : Fin 256) (e : Fin 256), y = (ix4 0 g j e : S1x8x256x256.Idx) :=
  ⟨y 1, y 2, y 3, funext fun a => match a with
    | ⟨0, _⟩ => Subsingleton.elim (α := Fin 1) _ _
    | ⟨1, _⟩ => rfl
    | ⟨2, _⟩ => rfl
    | ⟨3, _⟩ => rfl⟩

theorem flushed_values (t : Fin cfg0.N) :
    (dats m 0 c).flushed 5 t = ((cfg0.win 5).blk t).view.read (Elt Ideal) (values (mainArr m c) (biasArr m c)) := by
  rw [flushed5_A]
  funext y
  obtain ⟨g, j, e, rfl⟩ := index_four y
  have e1 := congrFun (values_eq (ms0_0 t) (hs0_0 t) (blk0 m c t) c (grid0.coords t) (ms0_1 t) (hs0_1 t) (ms0_2 t) (hs0_2 t) (ms0_3 t) (hs0_3 t)
    (ms0_4 t) (hs0_4 t) (ms0_5 t) (hs0_5 t) (ms0_6 t) (hs0_6 t) (blk1 m c t) (blk2 m c t) (blk3 m c t) (blk4 m c t)) (ix4 0 g j e : S1x8x256x256.Idx)
  refine (e1.trans (congrArg₂ soft (score_eq m c t g j e) (value_eq m c t g j e))).trans ?_
  rw [View.read_apply]
  show values _ _ (ix4 (batchAt t) (classAt t g) j (laneAt t e)) = values _ _ _
  exact congrArg (values _ _) (funext fun a => Fin.ext (lands t g j e _ (index5 t) a))

theorem covered_values (i : S8x16x256x512.Idx) : ∃ t : Fin cfg0.N, (cfg0.win 5).flush t = true ∧ i ∈ ((cfg0.win 5).blk t).view.set := by
  refine ⟨pointOf i, flush0_5 _, ?_⟩
  show i ∈ ((View.whole main_v0_0).slice (win0_5.rect (pointOf i))).set
  rw [View.set_slice_whole, Rect.mem_set_unit]
  exact holds i _ (index5 (pointOf i))

/-- The array after the run. -/
theorem array_values : (dats m 0 c).arrAt 5 cfg0.N = values (mainArr m c) (biasArr m c) :=
  (dats m 0 c).arrAt_eq_of_cover 5 _ (fun t _ => flushed_values m c t) covered_values

theorem flushed_levels (t : Fin cfg0.N) :
    (dats m 0 c).flushed 6 t = ((cfg0.win 6).blk t).view.read (Elt Ideal) (levels (mainArr m c) (biasArr m c)) := by
  rw [flushed6_A]
  funext y
  obtain ⟨g, j, e, rfl⟩ := index_four y
  have e1 := congrFun (levels_eq (ms0_0 t) (hs0_0 t) (blk0 m c t) c (grid0.coords t) (ms0_1 t) (hs0_1 t) (ms0_2 t) (hs0_2 t) (ms0_3 t) (hs0_3 t)
    (ms0_4 t) (hs0_4 t) (ms0_5 t) (hs0_5 t) (ms0_6 t) (hs0_6 t) (blk1 m c t) (blk2 m c t) (blk3 m c t) (blk4 m c t)) (ix4 0 g j e : S1x8x256x256.Idx)
  refine (e1.trans (congrArg lse (score_eq m c t g j e))).trans ?_
  rw [View.read_apply]
  show levels _ _ (ix4 (batchAt t) (classAt t g) j (laneAt t e)) = levels _ _ _
  exact congrArg (levels _ _) (funext fun a => Fin.ext (lands t g j e _ (index6 t) a))

theorem covered_levels (i : S8x16x256x512.Idx) : ∃ t : Fin cfg0.N, (cfg0.win 6).flush t = true ∧ i ∈ ((cfg0.win 6).blk t).view.set := by
  refine ⟨pointOf i, flush0_6 _, ?_⟩
  show i ∈ ((View.whole main_v0_1).slice (win0_6.rect (pointOf i))).set
  rw [View.set_slice_whole, Rect.mem_set_unit]
  exact holds i _ (index6 (pointOf i))

/-- The array after the run. -/
theorem array_levels : (dats m 0 c).arrAt 6 cfg0.N = levels (mainArr m c) (biasArr m c) :=
  (dats m 0 c).arrAt_eq_of_cover 6 _ (fun t _ => flushed_levels m c t) covered_levels

end Cert.Dil2

end
-- ==== Proof.Dil2.Claims.lean ====
/- The claims about mixer C's third group: the frames of its three programs, the named constants, and the equality of the
   kernel's two results and the reference's for finite queries, keys and biases. -/
module

public import proofs.«01_k».proof.Defs
public import proofs.«01_k».proof.Proof.Dil2.Frame
public import proofs.«01_k».proof.Proof.Gen.Reference7Ideal.Run
public import proofs.«01_k».proof.Proof.Gen.Pre_finite_c2
public import proofs.«01_k».proof.Proof.Attn.Claims
public import proofs.«01_k».proof.Proof.Dil2.RefValue
public import proofs.«01_k».proof.Proof.Dil2.Value
public import Idealize.ShloMosaic.Lib.ReduceAll
public import Idealize.ShloMosaic.Lib.Quiescent

@[expose] public section

set_option maxRecDepth 16384

noncomputable section

namespace Cert.Dil2

open Idealize.ShloMosaic Idealize.ShloMosaic.TcCoe Idealize.SL.Sem

/-! ## The precondition -/

instance : Subsingleton Cert.Pre_finite_c2.S_.Idx := ⟨fun a b => funext fun i => i.elim0⟩

theorem finite_of_pre (A : Vec Ideal Cert.Kernel7Ideal.S8x16x256x768 .bf16) (B : Vec Ideal Cert.Kernel7Ideal.S2x512x256 .f32)
    (h : Cert.Pre_finite_c2.fn (F := Ideal) A B = fun _ => 1#1) :
    (∀ (b : Fin 8) (c : Fin 16) (s : Fin 256) (x : Fin 512), ∃ r : ℝ, A (ix4 b c s (⟨x.val, by omega⟩ : Fin 768)) = (r : EReal))
    ∧ (∀ (b : Fin 8) (c : Fin 16) (s : Fin 256) (g : Fin 2) (d : Fin 64),
        ∃ r : ℝ, A (ix4 b c s (⟨512 + 128 * g.val + d.val, by omega⟩ : Fin 768)) = (r : EReal))
    ∧ ∀ i, ∃ r : ℝ, B i = (r : EReal) := by
  have h' := congrFun h (fun a => a.elim0)
  unfold Cert.Pre_finite_c2.fn Cert.Pre_finite_c2.fn_part1 at h'
  dsimp only at h'
  obtain ⟨h01, hb⟩ := IntOp.andi_eq_one.mp h'
  obtain ⟨hq, hk⟩ := IntOp.andi_eq_one.mp h01
  refine ⟨fun b c s x => ?_, fun b c s g d => ?_, fun i => ?_⟩
  · have h1 := Attn.lt_top_of_cmp _ (Host.reduce_andi_all _ _ _ _ _ hq (ix4 b c s x))
    refine Attn.real_of_abs_lt _ (lt_of_eq_of_lt ?_ h1)
    pointwise
    rfl
  · have h1 := Attn.lt_top_of_cmp _ (Host.reduce_andi_all _ _ _ _ _ hk (ix5 b c s g d))
    refine Attn.real_of_abs_lt _ (lt_of_eq_of_lt ?_ h1)
    pointwise
    exact congrArg (fun x => max (A (ix4 b c s x)) (-A (ix4 b c s x)))
      (Fin.ext (show 512 + 128 * g.val + d.val = 512 + (g.val * 128 + d.val) by omega))
  · exact Attn.real_of_abs_lt _ (Attn.lt_top_of_cmp _ (Host.reduce_andi_all _ _ _ _ _ hb i))

/-! ## The claims -/

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_ideal_pre : Cert.quiescent_Kernel7Ideal_pre_finite_c2 := fun m ρ _ => Cert.Kernel7Ideal.Gen.frame m ρ

theorem frame_reference : Cert.quiescent_Reference7Ideal := fun m ρ _ =>
  (θ_run Cert.Reference7Ideal.defs _ _).mono (fun r h => ⟨fun c => (h c).2.2,
    Idealize.ShloMosaic.sem_eq_zero_of_no_sems (by decide) r.2⟩) (Cert.Reference7Ideal.Value.run (F := Ideal) m ρ)

theorem frame_reference_pre : Cert.quiescent_Reference7Ideal_pre_finite_c2 := fun m ρ _ =>
  (θ_run Cert.Reference7Ideal.defs _ _).mono (fun r h => ⟨fun c => (h c).2.2,
    Idealize.ShloMosaic.sem_eq_zero_of_no_sems (by decide) r.2⟩) (Cert.Reference7Ideal.Value.run (F := Ideal) m ρ)

/-- The mask's literal stands for negative infinity, and the factor of the logarithm for log2(e). -/
theorem consts_named : Cert.preserves_Kernel7_Kernel7Ideal :=
  ⟨IdealRules.named_const.statement Cert.Kernel7Ideal.κ "mask" .f32 0xF149F2CA#32 ⊥ rfl,
    IdealRules.named_const.statement Cert.Kernel7Ideal.κ "log2e" .f32 0x3FB8AA3B#32 (((Real.log 2)⁻¹ : ℝ) : EReal) rfl⟩

/-- The kernel and the reference compute the same two arrays, when the queries, the keys and the biases are finite. -/
theorem value_claim : Cert.algebraic_Kernel7Ideal_Reference7Ideal_pre_finite_c2 := by
  intro m ρ m' ρ' hpre hargs
  refine ⟨fun c => values (mainArr m c) (biasArr m c), fun c => levels (mainArr m c) (biasArr m c), ?_, ?_⟩
  · exact (θ_run Cert.Kernel7Ideal.defs _ _).mono (fun _ h c => ⟨(h c).1.trans (array_values m c),
      (h c).2.1.trans (array_levels m c), (h c).2.2⟩) (Cert.Kernel7Ideal.Gen.run_blocks m ρ)
  have heq (c : Dev Cert.Kernel7Ideal.nD) := (fun h => reference_eq (mainArr m c) (biasArr m c) h.1 h.2.1 h.2.2)
    (finite_of_pre (mainArr m c) (biasArr m c) (hpre c))
  refine (θ_run Cert.Reference7Ideal.defs _ _).mono (fun r h c => ⟨(h c).1.trans ?_, (h c).2.1.trans ?_, (h c).2.2⟩)
    (Cert.Reference7Ideal.Value.run (F := Ideal) m' ρ')
  · rw [Cert.Reference7Ideal.Read.val_main_v66_eq, (hargs c).1, (hargs c).2]
    exact (heq c).1
  · rw [Cert.Reference7Ideal.Read.val_main_v72_eq, (hargs c).1, (hargs c).2]
    exact (heq c).2

end Cert.Dil2

end
-- ==== Proof.lean ====
/- The certificate: the claims of the calls, assembled. -/
module

public import proofs.«01_k».proof.Defs
public import proofs.«01_k».proof.Proof.Attn.Claims
public import proofs.«01_k».proof.Proof.Inproj.Claims
public import proofs.«01_k».proof.Proof.Outproj.Claims
public import proofs.«01_k».proof.Proof.Band.Claims
public import proofs.«01_k».proof.Proof.Dil.Claims
public import proofs.«01_k».proof.Proof.Dil1.Claims
public import proofs.«01_k».proof.Proof.Dil2.Claims
public import Idealize.ShloMosaic.Adequacy
public import Idealize.ShloMosaic.Init

@[expose] public section

noncomputable section

namespace Cert.Proof

open Idealize.ShloMosaic Idealize.SL.Sem

/-- Every claim: of mixer B's attention, of the input projection, of the output projection, of mixer A's attention and of
    mixer C's three groups. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite_qk.Gen.facts, Cert.Pre_finite_l.Gen.facts, Cert.Pre_finite_a.Gen.facts, Cert.Pre_finite_c.Gen.facts,
    Cert.Pre_finite_c1.Gen.facts, Cert.Pre_finite_c2.Gen.facts,
    Cert.Attn.frame_kernel, Cert.Attn.frame_ideal, Cert.Attn.frame_ideal_pre, Cert.Attn.frame_reference,
    Cert.Attn.frame_reference_pre,
    Cert.Inproj.frame_kernel, Cert.Inproj.frame_ideal, Cert.Inproj.frame_reference,
    Cert.Outproj.frame_kernel, Cert.Outproj.frame_ideal, Cert.Outproj.frame_ideal_pre, Cert.Outproj.frame_reference,
    Cert.Outproj.frame_reference_pre,
    Cert.Band.frame_kernel, Cert.Band.frame_ideal, Cert.Band.frame_ideal_pre, Cert.Band.frame_reference,
    Cert.Band.frame_reference_pre,
    Cert.Dil.frame_kernel, Cert.Dil.frame_ideal, Cert.Dil.frame_ideal_pre, Cert.Dil.frame_reference,
    Cert.Dil.frame_reference_pre,
    Cert.Dil1.frame_kernel, Cert.Dil1.frame_ideal, Cert.Dil1.frame_ideal_pre, Cert.Dil1.frame_reference,
    Cert.Dil1.frame_reference_pre,
    Cert.Dil2.frame_kernel, Cert.Dil2.frame_ideal, Cert.Dil2.frame_ideal_pre, Cert.Dil2.frame_reference,
    Cert.Dil2.frame_reference_pre,
    trivial, Cert.Attn.value_claim, trivial, Cert.Inproj.value_claim, trivial, Cert.Outproj.value_claim,
    Cert.Band.mask_named, Cert.Band.value_claim, Cert.Dil.consts_named, Cert.Dil.value_claim,
    Cert.Dil1.consts_named, Cert.Dil1.value_claim,
    Cert.Dil2.consts_named, Cert.Dil2.value_claim⟩

end Cert.Proof

end
